-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def Pre_GradGateUp (m : (ℓ : Loc Cert.GradGateUp.nD Cert.GradGateUp.τ Cert.GradGateUp.sig) → Buf (Elt Bits) ℓ) : Prop :=
  True

def Pre_GradGateUpIdeal (m : (ℓ : Loc Cert.GradGateUpIdeal.nD Cert.GradGateUpIdeal.τ Cert.GradGateUpIdeal.sig) → Buf (Elt Ideal) ℓ) : Prop :=
  True

def Pre_GradGateUpRefIdeal (m : (ℓ : Loc Cert.GradGateUpRefIdeal.nD Cert.GradGateUpRefIdeal.τ Cert.GradGateUpRefIdeal.sig) → Buf (Elt Ideal) ℓ) : Prop :=
  True

def Pre_GradDown (m : (ℓ : Loc Cert.GradDown.nD Cert.GradDown.τ Cert.GradDown.sig) → Buf (Elt Bits) ℓ) : Prop :=
  True

def Pre_GradDownIdeal (m : (ℓ : Loc Cert.GradDownIdeal.nD Cert.GradDownIdeal.τ Cert.GradDownIdeal.sig) → Buf (Elt Ideal) ℓ) : Prop :=
  True

def Pre_GradDownRefIdeal (m : (ℓ : Loc Cert.GradDownRefIdeal.nD Cert.GradDownRefIdeal.τ Cert.GradDownRefIdeal.sig) → Buf (Elt Ideal) ℓ) : Prop :=
  True

def Pre_GradIn (m : (ℓ : Loc Cert.GradIn.nD Cert.GradIn.τ Cert.GradIn.sig) → Buf (Elt Bits) ℓ) : Prop :=
  True

def Pre_GradInIdeal (m : (ℓ : Loc Cert.GradInIdeal.nD Cert.GradInIdeal.τ Cert.GradInIdeal.sig) → Buf (Elt Ideal) ℓ) : Prop :=
  True

def Pre_GradInRefIdeal (m : (ℓ : Loc Cert.GradInRefIdeal.nD Cert.GradInRefIdeal.τ Cert.GradInRefIdeal.sig) → Buf (Elt Ideal) ℓ) : Prop :=
  True

def Pre_GradOut (m : (ℓ : Loc Cert.GradOut.nD Cert.GradOut.τ Cert.GradOut.sig) → Buf (Elt Bits) ℓ) : Prop :=
  True

def Pre_GradOutIdeal (m : (ℓ : Loc Cert.GradOutIdeal.nD Cert.GradOutIdeal.τ Cert.GradOutIdeal.sig) → Buf (Elt Ideal) ℓ) : Prop :=
  True

def Pre_GradOutRefIdeal (m : (ℓ : Loc Cert.GradOutRefIdeal.nD Cert.GradOutRefIdeal.τ Cert.GradOutRefIdeal.sig) → Buf (Elt Ideal) ℓ) : Prop :=
  True

def Pre_FfnBwd (m : (ℓ : Loc Cert.FfnBwd.nD Cert.FfnBwd.τ Cert.FfnBwd.sig) → Buf (Elt Bits) ℓ) : Prop :=
  True

def Pre_FfnBwdIdeal (m : (ℓ : Loc Cert.FfnBwdIdeal.nD Cert.FfnBwdIdeal.τ Cert.FfnBwdIdeal.sig) → Buf (Elt Ideal) ℓ) : Prop :=
  True

def Pre_FfnBwdIdeal_finite_ffn [hPre_finite_ffn : Cert.Pre_finite_ffn.Facts] (m : (ℓ : Loc Cert.FfnBwdIdeal.nD Cert.FfnBwdIdeal.τ Cert.FfnBwdIdeal.sig) → Buf (Elt Ideal) ℓ) : Prop :=
  ∀ c : Dev Cert.FfnBwdIdeal.nD,
    (Cert.Pre_finite_ffn.fn (F := Ideal) (m ((c.tc : Thread Cert.FfnBwdIdeal.nD Cert.FfnBwdIdeal.τ).loc Cert.FfnBwdIdeal.main_arg0)) (m ((c.tc : Thread Cert.FfnBwdIdeal.nD Cert.FfnBwdIdeal.τ).loc Cert.FfnBwdIdeal.main_arg1)) (m ((c.tc : Thread Cert.FfnBwdIdeal.nD Cert.FfnBwdIdeal.τ).loc Cert.FfnBwdIdeal.main_arg2)) (m ((c.tc : Thread Cert.FfnBwdIdeal.nD Cert.FfnBwdIdeal.τ).loc Cert.FfnBwdIdeal.main_arg3)) (m ((c.tc : Thread Cert.FfnBwdIdeal.nD Cert.FfnBwdIdeal.τ).loc Cert.FfnBwdIdeal.main_arg4)) (m ((c.tc : Thread Cert.FfnBwdIdeal.nD Cert.FfnBwdIdeal.τ).loc Cert.FfnBwdIdeal.main_arg5)) (m ((c.tc : Thread Cert.FfnBwdIdeal.nD Cert.FfnBwdIdeal.τ).loc Cert.FfnBwdIdeal.main_arg6)) (m ((c.tc : Thread Cert.FfnBwdIdeal.nD Cert.FfnBwdIdeal.τ).loc Cert.FfnBwdIdeal.main_arg7))).1 = (fun _ => 1#1)
    ∧ (Cert.Pre_finite_ffn.fn (F := Ideal) (m ((c.tc : Thread Cert.FfnBwdIdeal.nD Cert.FfnBwdIdeal.τ).loc Cert.FfnBwdIdeal.main_arg0)) (m ((c.tc : Thread Cert.FfnBwdIdeal.nD Cert.FfnBwdIdeal.τ).loc Cert.FfnBwdIdeal.main_arg1)) (m ((c.tc : Thread Cert.FfnBwdIdeal.nD Cert.FfnBwdIdeal.τ).loc Cert.FfnBwdIdeal.main_arg2)) (m ((c.tc : Thread Cert.FfnBwdIdeal.nD Cert.FfnBwdIdeal.τ).loc Cert.FfnBwdIdeal.main_arg3)) (m ((c.tc : Thread Cert.FfnBwdIdeal.nD Cert.FfnBwdIdeal.τ).loc Cert.FfnBwdIdeal.main_arg4)) (m ((c.tc : Thread Cert.FfnBwdIdeal.nD Cert.FfnBwdIdeal.τ).loc Cert.FfnBwdIdeal.main_arg5)) (m ((c.tc : Thread Cert.FfnBwdIdeal.nD Cert.FfnBwdIdeal.τ).loc Cert.FfnBwdIdeal.main_arg6)) (m ((c.tc : Thread Cert.FfnBwdIdeal.nD Cert.FfnBwdIdeal.τ).loc Cert.FfnBwdIdeal.main_arg7))).2.1 = (fun _ => 1#1)
    ∧ (Cert.Pre_finite_ffn.fn (F := Ideal) (m ((c.tc : Thread Cert.FfnBwdIdeal.nD Cert.FfnBwdIdeal.τ).loc Cert.FfnBwdIdeal.main_arg0)) (m ((c.tc : Thread Cert.FfnBwdIdeal.nD Cert.FfnBwdIdeal.τ).loc Cert.FfnBwdIdeal.main_arg1)) (m ((c.tc : Thread Cert.FfnBwdIdeal.nD Cert.FfnBwdIdeal.τ).loc Cert.FfnBwdIdeal.main_arg2)) (m ((c.tc : Thread Cert.FfnBwdIdeal.nD Cert.FfnBwdIdeal.τ).loc Cert.FfnBwdIdeal.main_arg3)) (m ((c.tc : Thread Cert.FfnBwdIdeal.nD Cert.FfnBwdIdeal.τ).loc Cert.FfnBwdIdeal.main_arg4)) (m ((c.tc : Thread Cert.FfnBwdIdeal.nD Cert.FfnBwdIdeal.τ).loc Cert.FfnBwdIdeal.main_arg5)) (m ((c.tc : Thread Cert.FfnBwdIdeal.nD Cert.FfnBwdIdeal.τ).loc Cert.FfnBwdIdeal.main_arg6)) (m ((c.tc : Thread Cert.FfnBwdIdeal.nD Cert.FfnBwdIdeal.τ).loc Cert.FfnBwdIdeal.main_arg7))).2.2.1 = (fun _ => 1#1)
    ∧ (Cert.Pre_finite_ffn.fn (F := Ideal) (m ((c.tc : Thread Cert.FfnBwdIdeal.nD Cert.FfnBwdIdeal.τ).loc Cert.FfnBwdIdeal.main_arg0)) (m ((c.tc : Thread Cert.FfnBwdIdeal.nD Cert.FfnBwdIdeal.τ).loc Cert.FfnBwdIdeal.main_arg1)) (m ((c.tc : Thread Cert.FfnBwdIdeal.nD Cert.FfnBwdIdeal.τ).loc Cert.FfnBwdIdeal.main_arg2)) (m ((c.tc : Thread Cert.FfnBwdIdeal.nD Cert.FfnBwdIdeal.τ).loc Cert.FfnBwdIdeal.main_arg3)) (m ((c.tc : Thread Cert.FfnBwdIdeal.nD Cert.FfnBwdIdeal.τ).loc Cert.FfnBwdIdeal.main_arg4)) (m ((c.tc : Thread Cert.FfnBwdIdeal.nD Cert.FfnBwdIdeal.τ).loc Cert.FfnBwdIdeal.main_arg5)) (m ((c.tc : Thread Cert.FfnBwdIdeal.nD Cert.FfnBwdIdeal.τ).loc Cert.FfnBwdIdeal.main_arg6)) (m ((c.tc : Thread Cert.FfnBwdIdeal.nD Cert.FfnBwdIdeal.τ).loc Cert.FfnBwdIdeal.main_arg7))).2.2.2.1 = (fun _ => 1#1)
    ∧ (Cert.Pre_finite_ffn.fn (F := Ideal) (m ((c.tc : Thread Cert.FfnBwdIdeal.nD Cert.FfnBwdIdeal.τ).loc Cert.FfnBwdIdeal.main_arg0)) (m ((c.tc : Thread Cert.FfnBwdIdeal.nD Cert.FfnBwdIdeal.τ).loc Cert.FfnBwdIdeal.main_arg1)) (m ((c.tc : Thread Cert.FfnBwdIdeal.nD Cert.FfnBwdIdeal.τ).loc Cert.FfnBwdIdeal.main_arg2)) (m ((c.tc : Thread Cert.FfnBwdIdeal.nD Cert.FfnBwdIdeal.τ).loc Cert.FfnBwdIdeal.main_arg3)) (m ((c.tc : Thread Cert.FfnBwdIdeal.nD Cert.FfnBwdIdeal.τ).loc Cert.FfnBwdIdeal.main_arg4)) (m ((c.tc : Thread Cert.FfnBwdIdeal.nD Cert.FfnBwdIdeal.τ).loc Cert.FfnBwdIdeal.main_arg5)) (m ((c.tc : Thread Cert.FfnBwdIdeal.nD Cert.FfnBwdIdeal.τ).loc Cert.FfnBwdIdeal.main_arg6)) (m ((c.tc : Thread Cert.FfnBwdIdeal.nD Cert.FfnBwdIdeal.τ).loc Cert.FfnBwdIdeal.main_arg7))).2.2.2.2.1 = (fun _ => 1#1)
    ∧ (Cert.Pre_finite_ffn.fn (F := Ideal) (m ((c.tc : Thread Cert.FfnBwdIdeal.nD Cert.FfnBwdIdeal.τ).loc Cert.FfnBwdIdeal.main_arg0)) (m ((c.tc : Thread Cert.FfnBwdIdeal.nD Cert.FfnBwdIdeal.τ).loc Cert.FfnBwdIdeal.main_arg1)) (m ((c.tc : Thread Cert.FfnBwdIdeal.nD Cert.FfnBwdIdeal.τ).loc Cert.FfnBwdIdeal.main_arg2)) (m ((c.tc : Thread Cert.FfnBwdIdeal.nD Cert.FfnBwdIdeal.τ).loc Cert.FfnBwdIdeal.main_arg3)) (m ((c.tc : Thread Cert.FfnBwdIdeal.nD Cert.FfnBwdIdeal.τ).loc Cert.FfnBwdIdeal.main_arg4)) (m ((c.tc : Thread Cert.FfnBwdIdeal.nD Cert.FfnBwdIdeal.τ).loc Cert.FfnBwdIdeal.main_arg5)) (m ((c.tc : Thread Cert.FfnBwdIdeal.nD Cert.FfnBwdIdeal.τ).loc Cert.FfnBwdIdeal.main_arg6)) (m ((c.tc : Thread Cert.FfnBwdIdeal.nD Cert.FfnBwdIdeal.τ).loc Cert.FfnBwdIdeal.main_arg7))).2.2.2.2.2.1 = (fun _ => 1#1)
    ∧ (Cert.Pre_finite_ffn.fn (F := Ideal) (m ((c.tc : Thread Cert.FfnBwdIdeal.nD Cert.FfnBwdIdeal.τ).loc Cert.FfnBwdIdeal.main_arg0)) (m ((c.tc : Thread Cert.FfnBwdIdeal.nD Cert.FfnBwdIdeal.τ).loc Cert.FfnBwdIdeal.main_arg1)) (m ((c.tc : Thread Cert.FfnBwdIdeal.nD Cert.FfnBwdIdeal.τ).loc Cert.FfnBwdIdeal.main_arg2)) (m ((c.tc : Thread Cert.FfnBwdIdeal.nD Cert.FfnBwdIdeal.τ).loc Cert.FfnBwdIdeal.main_arg3)) (m ((c.tc : Thread Cert.FfnBwdIdeal.nD Cert.FfnBwdIdeal.τ).loc Cert.FfnBwdIdeal.main_arg4)) (m ((c.tc : Thread Cert.FfnBwdIdeal.nD Cert.FfnBwdIdeal.τ).loc Cert.FfnBwdIdeal.main_arg5)) (m ((c.tc : Thread Cert.FfnBwdIdeal.nD Cert.FfnBwdIdeal.τ).loc Cert.FfnBwdIdeal.main_arg6)) (m ((c.tc : Thread Cert.FfnBwdIdeal.nD Cert.FfnBwdIdeal.τ).loc Cert.FfnBwdIdeal.main_arg7))).2.2.2.2.2.2.1 = (fun _ => 1#1)
    ∧ (Cert.Pre_finite_ffn.fn (F := Ideal) (m ((c.tc : Thread Cert.FfnBwdIdeal.nD Cert.FfnBwdIdeal.τ).loc Cert.FfnBwdIdeal.main_arg0)) (m ((c.tc : Thread Cert.FfnBwdIdeal.nD Cert.FfnBwdIdeal.τ).loc Cert.FfnBwdIdeal.main_arg1)) (m ((c.tc : Thread Cert.FfnBwdIdeal.nD Cert.FfnBwdIdeal.τ).loc Cert.FfnBwdIdeal.main_arg2)) (m ((c.tc : Thread Cert.FfnBwdIdeal.nD Cert.FfnBwdIdeal.τ).loc Cert.FfnBwdIdeal.main_arg3)) (m ((c.tc : Thread Cert.FfnBwdIdeal.nD Cert.FfnBwdIdeal.τ).loc Cert.FfnBwdIdeal.main_arg4)) (m ((c.tc : Thread Cert.FfnBwdIdeal.nD Cert.FfnBwdIdeal.τ).loc Cert.FfnBwdIdeal.main_arg5)) (m ((c.tc : Thread Cert.FfnBwdIdeal.nD Cert.FfnBwdIdeal.τ).loc Cert.FfnBwdIdeal.main_arg6)) (m ((c.tc : Thread Cert.FfnBwdIdeal.nD Cert.FfnBwdIdeal.τ).loc Cert.FfnBwdIdeal.main_arg7))).2.2.2.2.2.2.2 = (fun _ => 1#1)

def Pre_FfnBwdRefIdeal (m : (ℓ : Loc Cert.FfnBwdRefIdeal.nD Cert.FfnBwdRefIdeal.τ Cert.FfnBwdRefIdeal.sig) → Buf (Elt Ideal) ℓ) : Prop :=
  True

def Pre_FfnBwdRefIdeal_finite_ffn [hPre_finite_ffn : Cert.Pre_finite_ffn.Facts] (m : (ℓ : Loc Cert.FfnBwdRefIdeal.nD Cert.FfnBwdRefIdeal.τ Cert.FfnBwdRefIdeal.sig) → Buf (Elt Ideal) ℓ) : Prop :=
  ∀ c : Dev Cert.FfnBwdRefIdeal.nD,
    (Cert.Pre_finite_ffn.fn (F := Ideal) (m ((c.tc : Thread Cert.FfnBwdRefIdeal.nD Cert.FfnBwdRefIdeal.τ).loc Cert.FfnBwdRefIdeal.main_arg0)) (m ((c.tc : Thread Cert.FfnBwdRefIdeal.nD Cert.FfnBwdRefIdeal.τ).loc Cert.FfnBwdRefIdeal.main_arg1)) (m ((c.tc : Thread Cert.FfnBwdRefIdeal.nD Cert.FfnBwdRefIdeal.τ).loc Cert.FfnBwdRefIdeal.main_arg2)) (m ((c.tc : Thread Cert.FfnBwdRefIdeal.nD Cert.FfnBwdRefIdeal.τ).loc Cert.FfnBwdRefIdeal.main_arg3)) (m ((c.tc : Thread Cert.FfnBwdRefIdeal.nD Cert.FfnBwdRefIdeal.τ).loc Cert.FfnBwdRefIdeal.main_arg4)) (m ((c.tc : Thread Cert.FfnBwdRefIdeal.nD Cert.FfnBwdRefIdeal.τ).loc Cert.FfnBwdRefIdeal.main_arg5)) (m ((c.tc : Thread Cert.FfnBwdRefIdeal.nD Cert.FfnBwdRefIdeal.τ).loc Cert.FfnBwdRefIdeal.main_arg6)) (m ((c.tc : Thread Cert.FfnBwdRefIdeal.nD Cert.FfnBwdRefIdeal.τ).loc Cert.FfnBwdRefIdeal.main_arg7))).1 = (fun _ => 1#1)
    ∧ (Cert.Pre_finite_ffn.fn (F := Ideal) (m ((c.tc : Thread Cert.FfnBwdRefIdeal.nD Cert.FfnBwdRefIdeal.τ).loc Cert.FfnBwdRefIdeal.main_arg0)) (m ((c.tc : Thread Cert.FfnBwdRefIdeal.nD Cert.FfnBwdRefIdeal.τ).loc Cert.FfnBwdRefIdeal.main_arg1)) (m ((c.tc : Thread Cert.FfnBwdRefIdeal.nD Cert.FfnBwdRefIdeal.τ).loc Cert.FfnBwdRefIdeal.main_arg2)) (m ((c.tc : Thread Cert.FfnBwdRefIdeal.nD Cert.FfnBwdRefIdeal.τ).loc Cert.FfnBwdRefIdeal.main_arg3)) (m ((c.tc : Thread Cert.FfnBwdRefIdeal.nD Cert.FfnBwdRefIdeal.τ).loc Cert.FfnBwdRefIdeal.main_arg4)) (m ((c.tc : Thread Cert.FfnBwdRefIdeal.nD Cert.FfnBwdRefIdeal.τ).loc Cert.FfnBwdRefIdeal.main_arg5)) (m ((c.tc : Thread Cert.FfnBwdRefIdeal.nD Cert.FfnBwdRefIdeal.τ).loc Cert.FfnBwdRefIdeal.main_arg6)) (m ((c.tc : Thread Cert.FfnBwdRefIdeal.nD Cert.FfnBwdRefIdeal.τ).loc Cert.FfnBwdRefIdeal.main_arg7))).2.1 = (fun _ => 1#1)
    ∧ (Cert.Pre_finite_ffn.fn (F := Ideal) (m ((c.tc : Thread Cert.FfnBwdRefIdeal.nD Cert.FfnBwdRefIdeal.τ).loc Cert.FfnBwdRefIdeal.main_arg0)) (m ((c.tc : Thread Cert.FfnBwdRefIdeal.nD Cert.FfnBwdRefIdeal.τ).loc Cert.FfnBwdRefIdeal.main_arg1)) (m ((c.tc : Thread Cert.FfnBwdRefIdeal.nD Cert.FfnBwdRefIdeal.τ).loc Cert.FfnBwdRefIdeal.main_arg2)) (m ((c.tc : Thread Cert.FfnBwdRefIdeal.nD Cert.FfnBwdRefIdeal.τ).loc Cert.FfnBwdRefIdeal.main_arg3)) (m ((c.tc : Thread Cert.FfnBwdRefIdeal.nD Cert.FfnBwdRefIdeal.τ).loc Cert.FfnBwdRefIdeal.main_arg4)) (m ((c.tc : Thread Cert.FfnBwdRefIdeal.nD Cert.FfnBwdRefIdeal.τ).loc Cert.FfnBwdRefIdeal.main_arg5)) (m ((c.tc : Thread Cert.FfnBwdRefIdeal.nD Cert.FfnBwdRefIdeal.τ).loc Cert.FfnBwdRefIdeal.main_arg6)) (m ((c.tc : Thread Cert.FfnBwdRefIdeal.nD Cert.FfnBwdRefIdeal.τ).loc Cert.FfnBwdRefIdeal.main_arg7))).2.2.1 = (fun _ => 1#1)
    ∧ (Cert.Pre_finite_ffn.fn (F := Ideal) (m ((c.tc : Thread Cert.FfnBwdRefIdeal.nD Cert.FfnBwdRefIdeal.τ).loc Cert.FfnBwdRefIdeal.main_arg0)) (m ((c.tc : Thread Cert.FfnBwdRefIdeal.nD Cert.FfnBwdRefIdeal.τ).loc Cert.FfnBwdRefIdeal.main_arg1)) (m ((c.tc : Thread Cert.FfnBwdRefIdeal.nD Cert.FfnBwdRefIdeal.τ).loc Cert.FfnBwdRefIdeal.main_arg2)) (m ((c.tc : Thread Cert.FfnBwdRefIdeal.nD Cert.FfnBwdRefIdeal.τ).loc Cert.FfnBwdRefIdeal.main_arg3)) (m ((c.tc : Thread Cert.FfnBwdRefIdeal.nD Cert.FfnBwdRefIdeal.τ).loc Cert.FfnBwdRefIdeal.main_arg4)) (m ((c.tc : Thread Cert.FfnBwdRefIdeal.nD Cert.FfnBwdRefIdeal.τ).loc Cert.FfnBwdRefIdeal.main_arg5)) (m ((c.tc : Thread Cert.FfnBwdRefIdeal.nD Cert.FfnBwdRefIdeal.τ).loc Cert.FfnBwdRefIdeal.main_arg6)) (m ((c.tc : Thread Cert.FfnBwdRefIdeal.nD Cert.FfnBwdRefIdeal.τ).loc Cert.FfnBwdRefIdeal.main_arg7))).2.2.2.1 = (fun _ => 1#1)
    ∧ (Cert.Pre_finite_ffn.fn (F := Ideal) (m ((c.tc : Thread Cert.FfnBwdRefIdeal.nD Cert.FfnBwdRefIdeal.τ).loc Cert.FfnBwdRefIdeal.main_arg0)) (m ((c.tc : Thread Cert.FfnBwdRefIdeal.nD Cert.FfnBwdRefIdeal.τ).loc Cert.FfnBwdRefIdeal.main_arg1)) (m ((c.tc : Thread Cert.FfnBwdRefIdeal.nD Cert.FfnBwdRefIdeal.τ).loc Cert.FfnBwdRefIdeal.main_arg2)) (m ((c.tc : Thread Cert.FfnBwdRefIdeal.nD Cert.FfnBwdRefIdeal.τ).loc Cert.FfnBwdRefIdeal.main_arg3)) (m ((c.tc : Thread Cert.FfnBwdRefIdeal.nD Cert.FfnBwdRefIdeal.τ).loc Cert.FfnBwdRefIdeal.main_arg4)) (m ((c.tc : Thread Cert.FfnBwdRefIdeal.nD Cert.FfnBwdRefIdeal.τ).loc Cert.FfnBwdRefIdeal.main_arg5)) (m ((c.tc : Thread Cert.FfnBwdRefIdeal.nD Cert.FfnBwdRefIdeal.τ).loc Cert.FfnBwdRefIdeal.main_arg6)) (m ((c.tc : Thread Cert.FfnBwdRefIdeal.nD Cert.FfnBwdRefIdeal.τ).loc Cert.FfnBwdRefIdeal.main_arg7))).2.2.2.2.1 = (fun _ => 1#1)
    ∧ (Cert.Pre_finite_ffn.fn (F := Ideal) (m ((c.tc : Thread Cert.FfnBwdRefIdeal.nD Cert.FfnBwdRefIdeal.τ).loc Cert.FfnBwdRefIdeal.main_arg0)) (m ((c.tc : Thread Cert.FfnBwdRefIdeal.nD Cert.FfnBwdRefIdeal.τ).loc Cert.FfnBwdRefIdeal.main_arg1)) (m ((c.tc : Thread Cert.FfnBwdRefIdeal.nD Cert.FfnBwdRefIdeal.τ).loc Cert.FfnBwdRefIdeal.main_arg2)) (m ((c.tc : Thread Cert.FfnBwdRefIdeal.nD Cert.FfnBwdRefIdeal.τ).loc Cert.FfnBwdRefIdeal.main_arg3)) (m ((c.tc : Thread Cert.FfnBwdRefIdeal.nD Cert.FfnBwdRefIdeal.τ).loc Cert.FfnBwdRefIdeal.main_arg4)) (m ((c.tc : Thread Cert.FfnBwdRefIdeal.nD Cert.FfnBwdRefIdeal.τ).loc Cert.FfnBwdRefIdeal.main_arg5)) (m ((c.tc : Thread Cert.FfnBwdRefIdeal.nD Cert.FfnBwdRefIdeal.τ).loc Cert.FfnBwdRefIdeal.main_arg6)) (m ((c.tc : Thread Cert.FfnBwdRefIdeal.nD Cert.FfnBwdRefIdeal.τ).loc Cert.FfnBwdRefIdeal.main_arg7))).2.2.2.2.2.1 = (fun _ => 1#1)
    ∧ (Cert.Pre_finite_ffn.fn (F := Ideal) (m ((c.tc : Thread Cert.FfnBwdRefIdeal.nD Cert.FfnBwdRefIdeal.τ).loc Cert.FfnBwdRefIdeal.main_arg0)) (m ((c.tc : Thread Cert.FfnBwdRefIdeal.nD Cert.FfnBwdRefIdeal.τ).loc Cert.FfnBwdRefIdeal.main_arg1)) (m ((c.tc : Thread Cert.FfnBwdRefIdeal.nD Cert.FfnBwdRefIdeal.τ).loc Cert.FfnBwdRefIdeal.main_arg2)) (m ((c.tc : Thread Cert.FfnBwdRefIdeal.nD Cert.FfnBwdRefIdeal.τ).loc Cert.FfnBwdRefIdeal.main_arg3)) (m ((c.tc : Thread Cert.FfnBwdRefIdeal.nD Cert.FfnBwdRefIdeal.τ).loc Cert.FfnBwdRefIdeal.main_arg4)) (m ((c.tc : Thread Cert.FfnBwdRefIdeal.nD Cert.FfnBwdRefIdeal.τ).loc Cert.FfnBwdRefIdeal.main_arg5)) (m ((c.tc : Thread Cert.FfnBwdRefIdeal.nD Cert.FfnBwdRefIdeal.τ).loc Cert.FfnBwdRefIdeal.main_arg6)) (m ((c.tc : Thread Cert.FfnBwdRefIdeal.nD Cert.FfnBwdRefIdeal.τ).loc Cert.FfnBwdRefIdeal.main_arg7))).2.2.2.2.2.2.1 = (fun _ => 1#1)
    ∧ (Cert.Pre_finite_ffn.fn (F := Ideal) (m ((c.tc : Thread Cert.FfnBwdRefIdeal.nD Cert.FfnBwdRefIdeal.τ).loc Cert.FfnBwdRefIdeal.main_arg0)) (m ((c.tc : Thread Cert.FfnBwdRefIdeal.nD Cert.FfnBwdRefIdeal.τ).loc Cert.FfnBwdRefIdeal.main_arg1)) (m ((c.tc : Thread Cert.FfnBwdRefIdeal.nD Cert.FfnBwdRefIdeal.τ).loc Cert.FfnBwdRefIdeal.main_arg2)) (m ((c.tc : Thread Cert.FfnBwdRefIdeal.nD Cert.FfnBwdRefIdeal.τ).loc Cert.FfnBwdRefIdeal.main_arg3)) (m ((c.tc : Thread Cert.FfnBwdRefIdeal.nD Cert.FfnBwdRefIdeal.τ).loc Cert.FfnBwdRefIdeal.main_arg4)) (m ((c.tc : Thread Cert.FfnBwdRefIdeal.nD Cert.FfnBwdRefIdeal.τ).loc Cert.FfnBwdRefIdeal.main_arg5)) (m ((c.tc : Thread Cert.FfnBwdRefIdeal.nD Cert.FfnBwdRefIdeal.τ).loc Cert.FfnBwdRefIdeal.main_arg6)) (m ((c.tc : Thread Cert.FfnBwdRefIdeal.nD Cert.FfnBwdRefIdeal.τ).loc Cert.FfnBwdRefIdeal.main_arg7))).2.2.2.2.2.2.2 = (fun _ => 1#1)

def Pre_FfnFwd (m : (ℓ : Loc Cert.FfnFwd.nD Cert.FfnFwd.τ Cert.FfnFwd.sig) → Buf (Elt Bits) ℓ) : Prop :=
  True

def Pre_FfnFwdIdeal (m : (ℓ : Loc Cert.FfnFwdIdeal.nD Cert.FfnFwdIdeal.τ Cert.FfnFwdIdeal.sig) → Buf (Elt Ideal) ℓ) : Prop :=
  True

def Pre_FfnFwdRefIdeal (m : (ℓ : Loc Cert.FfnFwdRefIdeal.nD Cert.FfnFwdRefIdeal.τ Cert.FfnFwdRefIdeal.sig) → Buf (Elt Ideal) ℓ) : Prop :=
  True

def Pre_InBwd (m : (ℓ : Loc Cert.InBwd.nD Cert.InBwd.τ Cert.InBwd.sig) → Buf (Elt Bits) ℓ) : Prop :=
  True

def Pre_InBwdIdeal (m : (ℓ : Loc Cert.InBwdIdeal.nD Cert.InBwdIdeal.τ Cert.InBwdIdeal.sig) → Buf (Elt Ideal) ℓ) : Prop :=
  True

def Pre_InBwdRefIdeal (m : (ℓ : Loc Cert.InBwdRefIdeal.nD Cert.InBwdRefIdeal.τ Cert.InBwdRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_GradGateUp [hGradGateUp : Cert.GradGateUp.Facts] : Prop :=
  ∀ (m : (ℓ : Loc Cert.GradGateUp.nD Cert.GradGateUp.τ Cert.GradGateUp.sig) → Buf (Elt Bits) ℓ) (g : Dev Cert.GradGateUp.nD → PrngReg), Pre_GradGateUp m →
    θ_run (Cert.GradGateUp.defs (F := Bits)) (onTc (τ := Cert.GradGateUp.τ) (Cert.GradGateUp.main (F := Bits))) ⟨m, fun _ => 0, g⟩ (fun r => (∀ c : Dev Cert.GradGateUp.nD,
      r.2.mem ((c.tc : Thread Cert.GradGateUp.nD Cert.GradGateUp.τ).loc Cert.GradGateUp.main_arg0) = m ((c.tc : Thread Cert.GradGateUp.nD Cert.GradGateUp.τ).loc Cert.GradGateUp.main_arg0)
      ∧ r.2.mem ((c.tc : Thread Cert.GradGateUp.nD Cert.GradGateUp.τ).loc Cert.GradGateUp.main_arg1) = m ((c.tc : Thread Cert.GradGateUp.nD Cert.GradGateUp.τ).loc Cert.GradGateUp.main_arg1))
      ∧ r.2.sem = fun _ => 0)

def quiescent_GradGateUpIdeal [hGradGateUpIdeal : Cert.GradGateUpIdeal.Facts] : Prop :=
  ∀ (m : (ℓ : Loc Cert.GradGateUpIdeal.nD Cert.GradGateUpIdeal.τ Cert.GradGateUpIdeal.sig) → Buf (Elt Ideal) ℓ) (g : Dev Cert.GradGateUpIdeal.nD → PrngReg), Pre_GradGateUpIdeal m →
    θ_run (Cert.GradGateUpIdeal.defs (F := Ideal)) (onTc (τ := Cert.GradGateUpIdeal.τ) (Cert.GradGateUpIdeal.main (F := Ideal))) ⟨m, fun _ => 0, g⟩ (fun r => (∀ c : Dev Cert.GradGateUpIdeal.nD,
      r.2.mem ((c.tc : Thread Cert.GradGateUpIdeal.nD Cert.GradGateUpIdeal.τ).loc Cert.GradGateUpIdeal.main_arg0) = m ((c.tc : Thread Cert.GradGateUpIdeal.nD Cert.GradGateUpIdeal.τ).loc Cert.GradGateUpIdeal.main_arg0)
      ∧ r.2.mem ((c.tc : Thread Cert.GradGateUpIdeal.nD Cert.GradGateUpIdeal.τ).loc Cert.GradGateUpIdeal.main_arg1) = m ((c.tc : Thread Cert.GradGateUpIdeal.nD Cert.GradGateUpIdeal.τ).loc Cert.GradGateUpIdeal.main_arg1))
      ∧ r.2.sem = fun _ => 0)

def quiescent_GradGateUpRefIdeal [hGradGateUpRefIdeal : Cert.GradGateUpRefIdeal.Facts] : Prop :=
  ∀ (m : (ℓ : Loc Cert.GradGateUpRefIdeal.nD Cert.GradGateUpRefIdeal.τ Cert.GradGateUpRefIdeal.sig) → Buf (Elt Ideal) ℓ) (g : Dev Cert.GradGateUpRefIdeal.nD → PrngReg), Pre_GradGateUpRefIdeal m →
    θ_run (Cert.GradGateUpRefIdeal.defs (F := Ideal)) (onTc (τ := Cert.GradGateUpRefIdeal.τ) (Cert.GradGateUpRefIdeal.main (F := Ideal))) ⟨m, fun _ => 0, g⟩ (fun r => (∀ c : Dev Cert.GradGateUpRefIdeal.nD,
      r.2.mem ((c.tc : Thread Cert.GradGateUpRefIdeal.nD Cert.GradGateUpRefIdeal.τ).loc Cert.GradGateUpRefIdeal.main_arg0) = m ((c.tc : Thread Cert.GradGateUpRefIdeal.nD Cert.GradGateUpRefIdeal.τ).loc Cert.GradGateUpRefIdeal.main_arg0)
      ∧ r.2.mem ((c.tc : Thread Cert.GradGateUpRefIdeal.nD Cert.GradGateUpRefIdeal.τ).loc Cert.GradGateUpRefIdeal.main_arg1) = m ((c.tc : Thread Cert.GradGateUpRefIdeal.nD Cert.GradGateUpRefIdeal.τ).loc Cert.GradGateUpRefIdeal.main_arg1))
      ∧ r.2.sem = fun _ => 0)

def quiescent_GradDown [hGradDown : Cert.GradDown.Facts] : Prop :=
  ∀ (m : (ℓ : Loc Cert.GradDown.nD Cert.GradDown.τ Cert.GradDown.sig) → Buf (Elt Bits) ℓ) (g : Dev Cert.GradDown.nD → PrngReg), Pre_GradDown m →
    θ_run (Cert.GradDown.defs (F := Bits)) (onTc (τ := Cert.GradDown.τ) (Cert.GradDown.main (F := Bits))) ⟨m, fun _ => 0, g⟩ (fun r => (∀ c : Dev Cert.GradDown.nD,
      r.2.mem ((c.tc : Thread Cert.GradDown.nD Cert.GradDown.τ).loc Cert.GradDown.main_arg0) = m ((c.tc : Thread Cert.GradDown.nD Cert.GradDown.τ).loc Cert.GradDown.main_arg0)
      ∧ r.2.mem ((c.tc : Thread Cert.GradDown.nD Cert.GradDown.τ).loc Cert.GradDown.main_arg1) = m ((c.tc : Thread Cert.GradDown.nD Cert.GradDown.τ).loc Cert.GradDown.main_arg1))
      ∧ r.2.sem = fun _ => 0)

def quiescent_GradDownIdeal [hGradDownIdeal : Cert.GradDownIdeal.Facts] : Prop :=
  ∀ (m : (ℓ : Loc Cert.GradDownIdeal.nD Cert.GradDownIdeal.τ Cert.GradDownIdeal.sig) → Buf (Elt Ideal) ℓ) (g : Dev Cert.GradDownIdeal.nD → PrngReg), Pre_GradDownIdeal m →
    θ_run (Cert.GradDownIdeal.defs (F := Ideal)) (onTc (τ := Cert.GradDownIdeal.τ) (Cert.GradDownIdeal.main (F := Ideal))) ⟨m, fun _ => 0, g⟩ (fun r => (∀ c : Dev Cert.GradDownIdeal.nD,
      r.2.mem ((c.tc : Thread Cert.GradDownIdeal.nD Cert.GradDownIdeal.τ).loc Cert.GradDownIdeal.main_arg0) = m ((c.tc : Thread Cert.GradDownIdeal.nD Cert.GradDownIdeal.τ).loc Cert.GradDownIdeal.main_arg0)
      ∧ r.2.mem ((c.tc : Thread Cert.GradDownIdeal.nD Cert.GradDownIdeal.τ).loc Cert.GradDownIdeal.main_arg1) = m ((c.tc : Thread Cert.GradDownIdeal.nD Cert.GradDownIdeal.τ).loc Cert.GradDownIdeal.main_arg1))
      ∧ r.2.sem = fun _ => 0)

def quiescent_GradDownRefIdeal [hGradDownRefIdeal : Cert.GradDownRefIdeal.Facts] : Prop :=
  ∀ (m : (ℓ : Loc Cert.GradDownRefIdeal.nD Cert.GradDownRefIdeal.τ Cert.GradDownRefIdeal.sig) → Buf (Elt Ideal) ℓ) (g : Dev Cert.GradDownRefIdeal.nD → PrngReg), Pre_GradDownRefIdeal m →
    θ_run (Cert.GradDownRefIdeal.defs (F := Ideal)) (onTc (τ := Cert.GradDownRefIdeal.τ) (Cert.GradDownRefIdeal.main (F := Ideal))) ⟨m, fun _ => 0, g⟩ (fun r => (∀ c : Dev Cert.GradDownRefIdeal.nD,
      r.2.mem ((c.tc : Thread Cert.GradDownRefIdeal.nD Cert.GradDownRefIdeal.τ).loc Cert.GradDownRefIdeal.main_arg0) = m ((c.tc : Thread Cert.GradDownRefIdeal.nD Cert.GradDownRefIdeal.τ).loc Cert.GradDownRefIdeal.main_arg0)
      ∧ r.2.mem ((c.tc : Thread Cert.GradDownRefIdeal.nD Cert.GradDownRefIdeal.τ).loc Cert.GradDownRefIdeal.main_arg1) = m ((c.tc : Thread Cert.GradDownRefIdeal.nD Cert.GradDownRefIdeal.τ).loc Cert.GradDownRefIdeal.main_arg1))
      ∧ r.2.sem = fun _ => 0)

def quiescent_GradIn [hGradIn : Cert.GradIn.Facts] : Prop :=
  ∀ (m : (ℓ : Loc Cert.GradIn.nD Cert.GradIn.τ Cert.GradIn.sig) → Buf (Elt Bits) ℓ) (g : Dev Cert.GradIn.nD → PrngReg), Pre_GradIn m →
    θ_run (Cert.GradIn.defs (F := Bits)) (onTc (τ := Cert.GradIn.τ) (Cert.GradIn.main (F := Bits))) ⟨m, fun _ => 0, g⟩ (fun r => (∀ c : Dev Cert.GradIn.nD,
      r.2.mem ((c.tc : Thread Cert.GradIn.nD Cert.GradIn.τ).loc Cert.GradIn.main_arg0) = m ((c.tc : Thread Cert.GradIn.nD Cert.GradIn.τ).loc Cert.GradIn.main_arg0)
      ∧ r.2.mem ((c.tc : Thread Cert.GradIn.nD Cert.GradIn.τ).loc Cert.GradIn.main_arg1) = m ((c.tc : Thread Cert.GradIn.nD Cert.GradIn.τ).loc Cert.GradIn.main_arg1))
      ∧ r.2.sem = fun _ => 0)

def quiescent_GradInIdeal [hGradInIdeal : Cert.GradInIdeal.Facts] : Prop :=
  ∀ (m : (ℓ : Loc Cert.GradInIdeal.nD Cert.GradInIdeal.τ Cert.GradInIdeal.sig) → Buf (Elt Ideal) ℓ) (g : Dev Cert.GradInIdeal.nD → PrngReg), Pre_GradInIdeal m →
    θ_run (Cert.GradInIdeal.defs (F := Ideal)) (onTc (τ := Cert.GradInIdeal.τ) (Cert.GradInIdeal.main (F := Ideal))) ⟨m, fun _ => 0, g⟩ (fun r => (∀ c : Dev Cert.GradInIdeal.nD,
      r.2.mem ((c.tc : Thread Cert.GradInIdeal.nD Cert.GradInIdeal.τ).loc Cert.GradInIdeal.main_arg0) = m ((c.tc : Thread Cert.GradInIdeal.nD Cert.GradInIdeal.τ).loc Cert.GradInIdeal.main_arg0)
      ∧ r.2.mem ((c.tc : Thread Cert.GradInIdeal.nD Cert.GradInIdeal.τ).loc Cert.GradInIdeal.main_arg1) = m ((c.tc : Thread Cert.GradInIdeal.nD Cert.GradInIdeal.τ).loc Cert.GradInIdeal.main_arg1))
      ∧ r.2.sem = fun _ => 0)

def quiescent_GradInRefIdeal [hGradInRefIdeal : Cert.GradInRefIdeal.Facts] : Prop :=
  ∀ (m : (ℓ : Loc Cert.GradInRefIdeal.nD Cert.GradInRefIdeal.τ Cert.GradInRefIdeal.sig) → Buf (Elt Ideal) ℓ) (g : Dev Cert.GradInRefIdeal.nD → PrngReg), Pre_GradInRefIdeal m →
    θ_run (Cert.GradInRefIdeal.defs (F := Ideal)) (onTc (τ := Cert.GradInRefIdeal.τ) (Cert.GradInRefIdeal.main (F := Ideal))) ⟨m, fun _ => 0, g⟩ (fun r => (∀ c : Dev Cert.GradInRefIdeal.nD,
      r.2.mem ((c.tc : Thread Cert.GradInRefIdeal.nD Cert.GradInRefIdeal.τ).loc Cert.GradInRefIdeal.main_arg0) = m ((c.tc : Thread Cert.GradInRefIdeal.nD Cert.GradInRefIdeal.τ).loc Cert.GradInRefIdeal.main_arg0)
      ∧ r.2.mem ((c.tc : Thread Cert.GradInRefIdeal.nD Cert.GradInRefIdeal.τ).loc Cert.GradInRefIdeal.main_arg1) = m ((c.tc : Thread Cert.GradInRefIdeal.nD Cert.GradInRefIdeal.τ).loc Cert.GradInRefIdeal.main_arg1))
      ∧ r.2.sem = fun _ => 0)

def quiescent_GradOut [hGradOut : Cert.GradOut.Facts] : Prop :=
  ∀ (m : (ℓ : Loc Cert.GradOut.nD Cert.GradOut.τ Cert.GradOut.sig) → Buf (Elt Bits) ℓ) (g : Dev Cert.GradOut.nD → PrngReg), Pre_GradOut m →
    θ_run (Cert.GradOut.defs (F := Bits)) (onTc (τ := Cert.GradOut.τ) (Cert.GradOut.main (F := Bits))) ⟨m, fun _ => 0, g⟩ (fun r => (∀ c : Dev Cert.GradOut.nD,
      r.2.mem ((c.tc : Thread Cert.GradOut.nD Cert.GradOut.τ).loc Cert.GradOut.main_arg0) = m ((c.tc : Thread Cert.GradOut.nD Cert.GradOut.τ).loc Cert.GradOut.main_arg0)
      ∧ r.2.mem ((c.tc : Thread Cert.GradOut.nD Cert.GradOut.τ).loc Cert.GradOut.main_arg1) = m ((c.tc : Thread Cert.GradOut.nD Cert.GradOut.τ).loc Cert.GradOut.main_arg1))
      ∧ r.2.sem = fun _ => 0)

def quiescent_GradOutIdeal [hGradOutIdeal : Cert.GradOutIdeal.Facts] : Prop :=
  ∀ (m : (ℓ : Loc Cert.GradOutIdeal.nD Cert.GradOutIdeal.τ Cert.GradOutIdeal.sig) → Buf (Elt Ideal) ℓ) (g : Dev Cert.GradOutIdeal.nD → PrngReg), Pre_GradOutIdeal m →
    θ_run (Cert.GradOutIdeal.defs (F := Ideal)) (onTc (τ := Cert.GradOutIdeal.τ) (Cert.GradOutIdeal.main (F := Ideal))) ⟨m, fun _ => 0, g⟩ (fun r => (∀ c : Dev Cert.GradOutIdeal.nD,
      r.2.mem ((c.tc : Thread Cert.GradOutIdeal.nD Cert.GradOutIdeal.τ).loc Cert.GradOutIdeal.main_arg0) = m ((c.tc : Thread Cert.GradOutIdeal.nD Cert.GradOutIdeal.τ).loc Cert.GradOutIdeal.main_arg0)
      ∧ r.2.mem ((c.tc : Thread Cert.GradOutIdeal.nD Cert.GradOutIdeal.τ).loc Cert.GradOutIdeal.main_arg1) = m ((c.tc : Thread Cert.GradOutIdeal.nD Cert.GradOutIdeal.τ).loc Cert.GradOutIdeal.main_arg1))
      ∧ r.2.sem = fun _ => 0)

def quiescent_GradOutRefIdeal [hGradOutRefIdeal : Cert.GradOutRefIdeal.Facts] : Prop :=
  ∀ (m : (ℓ : Loc Cert.GradOutRefIdeal.nD Cert.GradOutRefIdeal.τ Cert.GradOutRefIdeal.sig) → Buf (Elt Ideal) ℓ) (g : Dev Cert.GradOutRefIdeal.nD → PrngReg), Pre_GradOutRefIdeal m →
    θ_run (Cert.GradOutRefIdeal.defs (F := Ideal)) (onTc (τ := Cert.GradOutRefIdeal.τ) (Cert.GradOutRefIdeal.main (F := Ideal))) ⟨m, fun _ => 0, g⟩ (fun r => (∀ c : Dev Cert.GradOutRefIdeal.nD,
      r.2.mem ((c.tc : Thread Cert.GradOutRefIdeal.nD Cert.GradOutRefIdeal.τ).loc Cert.GradOutRefIdeal.main_arg0) = m ((c.tc : Thread Cert.GradOutRefIdeal.nD Cert.GradOutRefIdeal.τ).loc Cert.GradOutRefIdeal.main_arg0)
      ∧ r.2.mem ((c.tc : Thread Cert.GradOutRefIdeal.nD Cert.GradOutRefIdeal.τ).loc Cert.GradOutRefIdeal.main_arg1) = m ((c.tc : Thread Cert.GradOutRefIdeal.nD Cert.GradOutRefIdeal.τ).loc Cert.GradOutRefIdeal.main_arg1))
      ∧ r.2.sem = fun _ => 0)

def quiescent_FfnBwd [hFfnBwd : Cert.FfnBwd.Facts] : Prop :=
  ∀ (m : (ℓ : Loc Cert.FfnBwd.nD Cert.FfnBwd.τ Cert.FfnBwd.sig) → Buf (Elt Bits) ℓ) (g : Dev Cert.FfnBwd.nD → PrngReg), Pre_FfnBwd m →
    θ_run (Cert.FfnBwd.defs (F := Bits)) (onTc (τ := Cert.FfnBwd.τ) (Cert.FfnBwd.main (F := Bits))) ⟨m, fun _ => 0, g⟩ (fun r => (∀ c : Dev Cert.FfnBwd.nD,
      r.2.mem ((c.tc : Thread Cert.FfnBwd.nD Cert.FfnBwd.τ).loc Cert.FfnBwd.main_arg0) = m ((c.tc : Thread Cert.FfnBwd.nD Cert.FfnBwd.τ).loc Cert.FfnBwd.main_arg0)
      ∧ r.2.mem ((c.tc : Thread Cert.FfnBwd.nD Cert.FfnBwd.τ).loc Cert.FfnBwd.main_arg1) = m ((c.tc : Thread Cert.FfnBwd.nD Cert.FfnBwd.τ).loc Cert.FfnBwd.main_arg1)
      ∧ r.2.mem ((c.tc : Thread Cert.FfnBwd.nD Cert.FfnBwd.τ).loc Cert.FfnBwd.main_arg2) = m ((c.tc : Thread Cert.FfnBwd.nD Cert.FfnBwd.τ).loc Cert.FfnBwd.main_arg2)
      ∧ r.2.mem ((c.tc : Thread Cert.FfnBwd.nD Cert.FfnBwd.τ).loc Cert.FfnBwd.main_arg3) = m ((c.tc : Thread Cert.FfnBwd.nD Cert.FfnBwd.τ).loc Cert.FfnBwd.main_arg3)
      ∧ r.2.mem ((c.tc : Thread Cert.FfnBwd.nD Cert.FfnBwd.τ).loc Cert.FfnBwd.main_arg4) = m ((c.tc : Thread Cert.FfnBwd.nD Cert.FfnBwd.τ).loc Cert.FfnBwd.main_arg4)
      ∧ r.2.mem ((c.tc : Thread Cert.FfnBwd.nD Cert.FfnBwd.τ).loc Cert.FfnBwd.main_arg5) = m ((c.tc : Thread Cert.FfnBwd.nD Cert.FfnBwd.τ).loc Cert.FfnBwd.main_arg5)
      ∧ r.2.mem ((c.tc : Thread Cert.FfnBwd.nD Cert.FfnBwd.τ).loc Cert.FfnBwd.main_arg6) = m ((c.tc : Thread Cert.FfnBwd.nD Cert.FfnBwd.τ).loc Cert.FfnBwd.main_arg6)
      ∧ r.2.mem ((c.tc : Thread Cert.FfnBwd.nD Cert.FfnBwd.τ).loc Cert.FfnBwd.main_arg7) = m ((c.tc : Thread Cert.FfnBwd.nD Cert.FfnBwd.τ).loc Cert.FfnBwd.main_arg7))
      ∧ r.2.sem = fun _ => 0)

def quiescent_FfnBwdIdeal [hFfnBwdIdeal : Cert.FfnBwdIdeal.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg), Pre_FfnBwdIdeal m →
    θ_run (Cert.FfnBwdIdeal.defs (F := Ideal)) (onTc (τ := Cert.FfnBwdIdeal.τ) (Cert.FfnBwdIdeal.main (F := Ideal))) ⟨m, fun _ => 0, g⟩ (fun r => (∀ c : Dev Cert.FfnBwdIdeal.nD,
      r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
      ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
      ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
      ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3)
      ∧ r.2.mem ((c.tc : Thread Cert.FfnBwdIdeal.nD Cert.FfnBwdIdeal.τ).loc Cert.FfnBwdIdeal.main_arg4) = m ((c.tc : Thread Cert.FfnBwdIdeal.nD Cert.FfnBwdIdeal.τ).loc Cert.FfnBwdIdeal.main_arg4)
      ∧ r.2.mem ((c.tc : Thread Cert.FfnBwdIdeal.nD Cert.FfnBwdIdeal.τ).loc Cert.FfnBwdIdeal.main_arg5) = m ((c.tc : Thread Cert.FfnBwdIdeal.nD Cert.FfnBwdIdeal.τ).loc Cert.FfnBwdIdeal.main_arg5)
      ∧ r.2.mem ((c.tc : Thread Cert.FfnBwdIdeal.nD Cert.FfnBwdIdeal.τ).loc Cert.FfnBwdIdeal.main_arg6) = m ((c.tc : Thread Cert.FfnBwdIdeal.nD Cert.FfnBwdIdeal.τ).loc Cert.FfnBwdIdeal.main_arg6)
      ∧ r.2.mem ((c.tc : Thread Cert.FfnBwdIdeal.nD Cert.FfnBwdIdeal.τ).loc Cert.FfnBwdIdeal.main_arg7) = m ((c.tc : Thread Cert.FfnBwdIdeal.nD Cert.FfnBwdIdeal.τ).loc Cert.FfnBwdIdeal.main_arg7))
      ∧ r.2.sem = fun _ => 0)

def quiescent_FfnBwdIdeal_pre_finite_ffn [hFfnBwdIdeal : Cert.FfnBwdIdeal.Facts] [hPre_finite_ffn : Cert.Pre_finite_ffn.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg), Pre_FfnBwdIdeal_finite_ffn m →
    θ_run (Cert.FfnBwdIdeal.defs (F := Ideal)) (onTc (τ := Cert.FfnBwdIdeal.τ) (Cert.FfnBwdIdeal.main (F := Ideal))) ⟨m, fun _ => 0, g⟩ (fun r => (∀ c : Dev Cert.FfnBwdIdeal.nD,
      r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
      ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
      ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
      ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3)
      ∧ r.2.mem ((c.tc : Thread Cert.FfnBwdIdeal.nD Cert.FfnBwdIdeal.τ).loc Cert.FfnBwdIdeal.main_arg4) = m ((c.tc : Thread Cert.FfnBwdIdeal.nD Cert.FfnBwdIdeal.τ).loc Cert.FfnBwdIdeal.main_arg4)
      ∧ r.2.mem ((c.tc : Thread Cert.FfnBwdIdeal.nD Cert.FfnBwdIdeal.τ).loc Cert.FfnBwdIdeal.main_arg5) = m ((c.tc : Thread Cert.FfnBwdIdeal.nD Cert.FfnBwdIdeal.τ).loc Cert.FfnBwdIdeal.main_arg5)
      ∧ r.2.mem ((c.tc : Thread Cert.FfnBwdIdeal.nD Cert.FfnBwdIdeal.τ).loc Cert.FfnBwdIdeal.main_arg6) = m ((c.tc : Thread Cert.FfnBwdIdeal.nD Cert.FfnBwdIdeal.τ).loc Cert.FfnBwdIdeal.main_arg6)
      ∧ r.2.mem ((c.tc : Thread Cert.FfnBwdIdeal.nD Cert.FfnBwdIdeal.τ).loc Cert.FfnBwdIdeal.main_arg7) = m ((c.tc : Thread Cert.FfnBwdIdeal.nD Cert.FfnBwdIdeal.τ).loc Cert.FfnBwdIdeal.main_arg7))
      ∧ r.2.sem = fun _ => 0)

def quiescent_FfnBwdRefIdeal [hFfnBwdRefIdeal : Cert.FfnBwdRefIdeal.Facts] : Prop :=
  ∀ (m : (ℓ : Loc Cert.FfnBwdRefIdeal.nD Cert.FfnBwdRefIdeal.τ Cert.FfnBwdRefIdeal.sig) → Buf (Elt Ideal) ℓ) (g : Dev Cert.FfnBwdRefIdeal.nD → PrngReg), Pre_FfnBwdRefIdeal m →
    θ_run (Cert.FfnBwdRefIdeal.defs (F := Ideal)) (onTc (τ := Cert.FfnBwdRefIdeal.τ) (Cert.FfnBwdRefIdeal.main (F := Ideal))) ⟨m, fun _ => 0, g⟩ (fun r => (∀ c : Dev Cert.FfnBwdRefIdeal.nD,
      r.2.mem ((c.tc : Thread Cert.FfnBwdRefIdeal.nD Cert.FfnBwdRefIdeal.τ).loc Cert.FfnBwdRefIdeal.main_arg0) = m ((c.tc : Thread Cert.FfnBwdRefIdeal.nD Cert.FfnBwdRefIdeal.τ).loc Cert.FfnBwdRefIdeal.main_arg0)
      ∧ r.2.mem ((c.tc : Thread Cert.FfnBwdRefIdeal.nD Cert.FfnBwdRefIdeal.τ).loc Cert.FfnBwdRefIdeal.main_arg1) = m ((c.tc : Thread Cert.FfnBwdRefIdeal.nD Cert.FfnBwdRefIdeal.τ).loc Cert.FfnBwdRefIdeal.main_arg1)
      ∧ r.2.mem ((c.tc : Thread Cert.FfnBwdRefIdeal.nD Cert.FfnBwdRefIdeal.τ).loc Cert.FfnBwdRefIdeal.main_arg2) = m ((c.tc : Thread Cert.FfnBwdRefIdeal.nD Cert.FfnBwdRefIdeal.τ).loc Cert.FfnBwdRefIdeal.main_arg2)
      ∧ r.2.mem ((c.tc : Thread Cert.FfnBwdRefIdeal.nD Cert.FfnBwdRefIdeal.τ).loc Cert.FfnBwdRefIdeal.main_arg3) = m ((c.tc : Thread Cert.FfnBwdRefIdeal.nD Cert.FfnBwdRefIdeal.τ).loc Cert.FfnBwdRefIdeal.main_arg3)
      ∧ r.2.mem ((c.tc : Thread Cert.FfnBwdRefIdeal.nD Cert.FfnBwdRefIdeal.τ).loc Cert.FfnBwdRefIdeal.main_arg4) = m ((c.tc : Thread Cert.FfnBwdRefIdeal.nD Cert.FfnBwdRefIdeal.τ).loc Cert.FfnBwdRefIdeal.main_arg4)
      ∧ r.2.mem ((c.tc : Thread Cert.FfnBwdRefIdeal.nD Cert.FfnBwdRefIdeal.τ).loc Cert.FfnBwdRefIdeal.main_arg5) = m ((c.tc : Thread Cert.FfnBwdRefIdeal.nD Cert.FfnBwdRefIdeal.τ).loc Cert.FfnBwdRefIdeal.main_arg5)
      ∧ r.2.mem ((c.tc : Thread Cert.FfnBwdRefIdeal.nD Cert.FfnBwdRefIdeal.τ).loc Cert.FfnBwdRefIdeal.main_arg6) = m ((c.tc : Thread Cert.FfnBwdRefIdeal.nD Cert.FfnBwdRefIdeal.τ).loc Cert.FfnBwdRefIdeal.main_arg6)
      ∧ r.2.mem ((c.tc : Thread Cert.FfnBwdRefIdeal.nD Cert.FfnBwdRefIdeal.τ).loc Cert.FfnBwdRefIdeal.main_arg7) = m ((c.tc : Thread Cert.FfnBwdRefIdeal.nD Cert.FfnBwdRefIdeal.τ).loc Cert.FfnBwdRefIdeal.main_arg7))
      ∧ r.2.sem = fun _ => 0)

def quiescent_FfnBwdRefIdeal_pre_finite_ffn [hFfnBwdRefIdeal : Cert.FfnBwdRefIdeal.Facts] [hPre_finite_ffn : Cert.Pre_finite_ffn.Facts] : Prop :=
  ∀ (m : (ℓ : Loc Cert.FfnBwdRefIdeal.nD Cert.FfnBwdRefIdeal.τ Cert.FfnBwdRefIdeal.sig) → Buf (Elt Ideal) ℓ) (g : Dev Cert.FfnBwdRefIdeal.nD → PrngReg), Pre_FfnBwdRefIdeal_finite_ffn m →
    θ_run (Cert.FfnBwdRefIdeal.defs (F := Ideal)) (onTc (τ := Cert.FfnBwdRefIdeal.τ) (Cert.FfnBwdRefIdeal.main (F := Ideal))) ⟨m, fun _ => 0, g⟩ (fun r => (∀ c : Dev Cert.FfnBwdRefIdeal.nD,
      r.2.mem ((c.tc : Thread Cert.FfnBwdRefIdeal.nD Cert.FfnBwdRefIdeal.τ).loc Cert.FfnBwdRefIdeal.main_arg0) = m ((c.tc : Thread Cert.FfnBwdRefIdeal.nD Cert.FfnBwdRefIdeal.τ).loc Cert.FfnBwdRefIdeal.main_arg0)
      ∧ r.2.mem ((c.tc : Thread Cert.FfnBwdRefIdeal.nD Cert.FfnBwdRefIdeal.τ).loc Cert.FfnBwdRefIdeal.main_arg1) = m ((c.tc : Thread Cert.FfnBwdRefIdeal.nD Cert.FfnBwdRefIdeal.τ).loc Cert.FfnBwdRefIdeal.main_arg1)
      ∧ r.2.mem ((c.tc : Thread Cert.FfnBwdRefIdeal.nD Cert.FfnBwdRefIdeal.τ).loc Cert.FfnBwdRefIdeal.main_arg2) = m ((c.tc : Thread Cert.FfnBwdRefIdeal.nD Cert.FfnBwdRefIdeal.τ).loc Cert.FfnBwdRefIdeal.main_arg2)
      ∧ r.2.mem ((c.tc : Thread Cert.FfnBwdRefIdeal.nD Cert.FfnBwdRefIdeal.τ).loc Cert.FfnBwdRefIdeal.main_arg3) = m ((c.tc : Thread Cert.FfnBwdRefIdeal.nD Cert.FfnBwdRefIdeal.τ).loc Cert.FfnBwdRefIdeal.main_arg3)
      ∧ r.2.mem ((c.tc : Thread Cert.FfnBwdRefIdeal.nD Cert.FfnBwdRefIdeal.τ).loc Cert.FfnBwdRefIdeal.main_arg4) = m ((c.tc : Thread Cert.FfnBwdRefIdeal.nD Cert.FfnBwdRefIdeal.τ).loc Cert.FfnBwdRefIdeal.main_arg4)
      ∧ r.2.mem ((c.tc : Thread Cert.FfnBwdRefIdeal.nD Cert.FfnBwdRefIdeal.τ).loc Cert.FfnBwdRefIdeal.main_arg5) = m ((c.tc : Thread Cert.FfnBwdRefIdeal.nD Cert.FfnBwdRefIdeal.τ).loc Cert.FfnBwdRefIdeal.main_arg5)
      ∧ r.2.mem ((c.tc : Thread Cert.FfnBwdRefIdeal.nD Cert.FfnBwdRefIdeal.τ).loc Cert.FfnBwdRefIdeal.main_arg6) = m ((c.tc : Thread Cert.FfnBwdRefIdeal.nD Cert.FfnBwdRefIdeal.τ).loc Cert.FfnBwdRefIdeal.main_arg6)
      ∧ r.2.mem ((c.tc : Thread Cert.FfnBwdRefIdeal.nD Cert.FfnBwdRefIdeal.τ).loc Cert.FfnBwdRefIdeal.main_arg7) = m ((c.tc : Thread Cert.FfnBwdRefIdeal.nD Cert.FfnBwdRefIdeal.τ).loc Cert.FfnBwdRefIdeal.main_arg7))
      ∧ r.2.sem = fun _ => 0)

def quiescent_FfnFwd [hFfnFwd : Cert.FfnFwd.Facts] : Prop :=
  ∀ (m : (ℓ : Loc Cert.FfnFwd.nD Cert.FfnFwd.τ Cert.FfnFwd.sig) → Buf (Elt Bits) ℓ) (g : Dev Cert.FfnFwd.nD → PrngReg), Pre_FfnFwd m →
    θ_run (Cert.FfnFwd.defs (F := Bits)) (onTc (τ := Cert.FfnFwd.τ) (Cert.FfnFwd.main (F := Bits))) ⟨m, fun _ => 0, g⟩ (fun r => (∀ c : Dev Cert.FfnFwd.nD,
      r.2.mem ((c.tc : Thread Cert.FfnFwd.nD Cert.FfnFwd.τ).loc Cert.FfnFwd.main_arg0) = m ((c.tc : Thread Cert.FfnFwd.nD Cert.FfnFwd.τ).loc Cert.FfnFwd.main_arg0)
      ∧ r.2.mem ((c.tc : Thread Cert.FfnFwd.nD Cert.FfnFwd.τ).loc Cert.FfnFwd.main_arg1) = m ((c.tc : Thread Cert.FfnFwd.nD Cert.FfnFwd.τ).loc Cert.FfnFwd.main_arg1)
      ∧ r.2.mem ((c.tc : Thread Cert.FfnFwd.nD Cert.FfnFwd.τ).loc Cert.FfnFwd.main_arg2) = m ((c.tc : Thread Cert.FfnFwd.nD Cert.FfnFwd.τ).loc Cert.FfnFwd.main_arg2)
      ∧ r.2.mem ((c.tc : Thread Cert.FfnFwd.nD Cert.FfnFwd.τ).loc Cert.FfnFwd.main_arg3) = m ((c.tc : Thread Cert.FfnFwd.nD Cert.FfnFwd.τ).loc Cert.FfnFwd.main_arg3)
      ∧ r.2.mem ((c.tc : Thread Cert.FfnFwd.nD Cert.FfnFwd.τ).loc Cert.FfnFwd.main_arg4) = m ((c.tc : Thread Cert.FfnFwd.nD Cert.FfnFwd.τ).loc Cert.FfnFwd.main_arg4)
      ∧ r.2.mem ((c.tc : Thread Cert.FfnFwd.nD Cert.FfnFwd.τ).loc Cert.FfnFwd.main_arg5) = m ((c.tc : Thread Cert.FfnFwd.nD Cert.FfnFwd.τ).loc Cert.FfnFwd.main_arg5)
      ∧ r.2.mem ((c.tc : Thread Cert.FfnFwd.nD Cert.FfnFwd.τ).loc Cert.FfnFwd.main_arg6) = m ((c.tc : Thread Cert.FfnFwd.nD Cert.FfnFwd.τ).loc Cert.FfnFwd.main_arg6)
      ∧ r.2.mem ((c.tc : Thread Cert.FfnFwd.nD Cert.FfnFwd.τ).loc Cert.FfnFwd.main_arg7) = m ((c.tc : Thread Cert.FfnFwd.nD Cert.FfnFwd.τ).loc Cert.FfnFwd.main_arg7)
      ∧ r.2.mem ((c.tc : Thread Cert.FfnFwd.nD Cert.FfnFwd.τ).loc Cert.FfnFwd.main_arg8) = m ((c.tc : Thread Cert.FfnFwd.nD Cert.FfnFwd.τ).loc Cert.FfnFwd.main_arg8))
      ∧ r.2.sem = fun _ => 0)

def quiescent_FfnFwdIdeal [hFfnFwdIdeal : Cert.FfnFwdIdeal.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg), Pre_FfnFwdIdeal m →
    θ_run (Cert.FfnFwdIdeal.defs (F := Ideal)) (onTc (τ := Cert.FfnFwdIdeal.τ) (Cert.FfnFwdIdeal.main (F := Ideal))) ⟨m, fun _ => 0, g⟩ (fun r => (∀ c : Dev Cert.FfnFwdIdeal.nD,
      r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
      ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
      ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2)
      ∧ r.2.mem ((c.tc : Thread Cert.FfnFwdIdeal.nD Cert.FfnFwdIdeal.τ).loc Cert.FfnFwdIdeal.main_arg3) = m ((c.tc : Thread Cert.FfnFwdIdeal.nD Cert.FfnFwdIdeal.τ).loc Cert.FfnFwdIdeal.main_arg3)
      ∧ r.2.mem ((c.tc : Thread Cert.FfnFwdIdeal.nD Cert.FfnFwdIdeal.τ).loc Cert.FfnFwdIdeal.main_arg4) = m ((c.tc : Thread Cert.FfnFwdIdeal.nD Cert.FfnFwdIdeal.τ).loc Cert.FfnFwdIdeal.main_arg4)
      ∧ r.2.mem ((c.tc : Thread Cert.FfnFwdIdeal.nD Cert.FfnFwdIdeal.τ).loc Cert.FfnFwdIdeal.main_arg5) = m ((c.tc : Thread Cert.FfnFwdIdeal.nD Cert.FfnFwdIdeal.τ).loc Cert.FfnFwdIdeal.main_arg5)
      ∧ r.2.mem ((c.tc : Thread Cert.FfnFwdIdeal.nD Cert.FfnFwdIdeal.τ).loc Cert.FfnFwdIdeal.main_arg6) = m ((c.tc : Thread Cert.FfnFwdIdeal.nD Cert.FfnFwdIdeal.τ).loc Cert.FfnFwdIdeal.main_arg6)
      ∧ r.2.mem ((c.tc : Thread Cert.FfnFwdIdeal.nD Cert.FfnFwdIdeal.τ).loc Cert.FfnFwdIdeal.main_arg7) = m ((c.tc : Thread Cert.FfnFwdIdeal.nD Cert.FfnFwdIdeal.τ).loc Cert.FfnFwdIdeal.main_arg7)
      ∧ r.2.mem ((c.tc : Thread Cert.FfnFwdIdeal.nD Cert.FfnFwdIdeal.τ).loc Cert.FfnFwdIdeal.main_arg8) = m ((c.tc : Thread Cert.FfnFwdIdeal.nD Cert.FfnFwdIdeal.τ).loc Cert.FfnFwdIdeal.main_arg8))
      ∧ r.2.sem = fun _ => 0)

def quiescent_FfnFwdRefIdeal [hFfnFwdRefIdeal : Cert.FfnFwdRefIdeal.Facts] : Prop :=
  ∀ (m : (ℓ : Loc Cert.FfnFwdRefIdeal.nD Cert.FfnFwdRefIdeal.τ Cert.FfnFwdRefIdeal.sig) → Buf (Elt Ideal) ℓ) (g : Dev Cert.FfnFwdRefIdeal.nD → PrngReg), Pre_FfnFwdRefIdeal m →
    θ_run (Cert.FfnFwdRefIdeal.defs (F := Ideal)) (onTc (τ := Cert.FfnFwdRefIdeal.τ) (Cert.FfnFwdRefIdeal.main (F := Ideal))) ⟨m, fun _ => 0, g⟩ (fun r => (∀ c : Dev Cert.FfnFwdRefIdeal.nD,
      r.2.mem ((c.tc : Thread Cert.FfnFwdRefIdeal.nD Cert.FfnFwdRefIdeal.τ).loc Cert.FfnFwdRefIdeal.main_arg0) = m ((c.tc : Thread Cert.FfnFwdRefIdeal.nD Cert.FfnFwdRefIdeal.τ).loc Cert.FfnFwdRefIdeal.main_arg0)
      ∧ r.2.mem ((c.tc : Thread Cert.FfnFwdRefIdeal.nD Cert.FfnFwdRefIdeal.τ).loc Cert.FfnFwdRefIdeal.main_arg1) = m ((c.tc : Thread Cert.FfnFwdRefIdeal.nD Cert.FfnFwdRefIdeal.τ).loc Cert.FfnFwdRefIdeal.main_arg1)
      ∧ r.2.mem ((c.tc : Thread Cert.FfnFwdRefIdeal.nD Cert.FfnFwdRefIdeal.τ).loc Cert.FfnFwdRefIdeal.main_arg2) = m ((c.tc : Thread Cert.FfnFwdRefIdeal.nD Cert.FfnFwdRefIdeal.τ).loc Cert.FfnFwdRefIdeal.main_arg2)
      ∧ r.2.mem ((c.tc : Thread Cert.FfnFwdRefIdeal.nD Cert.FfnFwdRefIdeal.τ).loc Cert.FfnFwdRefIdeal.main_arg3) = m ((c.tc : Thread Cert.FfnFwdRefIdeal.nD Cert.FfnFwdRefIdeal.τ).loc Cert.FfnFwdRefIdeal.main_arg3)
      ∧ r.2.mem ((c.tc : Thread Cert.FfnFwdRefIdeal.nD Cert.FfnFwdRefIdeal.τ).loc Cert.FfnFwdRefIdeal.main_arg4) = m ((c.tc : Thread Cert.FfnFwdRefIdeal.nD Cert.FfnFwdRefIdeal.τ).loc Cert.FfnFwdRefIdeal.main_arg4)
      ∧ r.2.mem ((c.tc : Thread Cert.FfnFwdRefIdeal.nD Cert.FfnFwdRefIdeal.τ).loc Cert.FfnFwdRefIdeal.main_arg5) = m ((c.tc : Thread Cert.FfnFwdRefIdeal.nD Cert.FfnFwdRefIdeal.τ).loc Cert.FfnFwdRefIdeal.main_arg5)
      ∧ r.2.mem ((c.tc : Thread Cert.FfnFwdRefIdeal.nD Cert.FfnFwdRefIdeal.τ).loc Cert.FfnFwdRefIdeal.main_arg6) = m ((c.tc : Thread Cert.FfnFwdRefIdeal.nD Cert.FfnFwdRefIdeal.τ).loc Cert.FfnFwdRefIdeal.main_arg6)
      ∧ r.2.mem ((c.tc : Thread Cert.FfnFwdRefIdeal.nD Cert.FfnFwdRefIdeal.τ).loc Cert.FfnFwdRefIdeal.main_arg7) = m ((c.tc : Thread Cert.FfnFwdRefIdeal.nD Cert.FfnFwdRefIdeal.τ).loc Cert.FfnFwdRefIdeal.main_arg7)
      ∧ r.2.mem ((c.tc : Thread Cert.FfnFwdRefIdeal.nD Cert.FfnFwdRefIdeal.τ).loc Cert.FfnFwdRefIdeal.main_arg8) = m ((c.tc : Thread Cert.FfnFwdRefIdeal.nD Cert.FfnFwdRefIdeal.τ).loc Cert.FfnFwdRefIdeal.main_arg8))
      ∧ r.2.sem = fun _ => 0)

def quiescent_InBwd [hInBwd : Cert.InBwd.Facts] : Prop :=
  ∀ (m : (ℓ : Loc Cert.InBwd.nD Cert.InBwd.τ Cert.InBwd.sig) → Buf (Elt Bits) ℓ) (g : Dev Cert.InBwd.nD → PrngReg), Pre_InBwd m →
    θ_run (Cert.InBwd.defs (F := Bits)) (onTc (τ := Cert.InBwd.τ) (Cert.InBwd.main (F := Bits))) ⟨m, fun _ => 0, g⟩ (fun r => (∀ c : Dev Cert.InBwd.nD,
      r.2.mem ((c.tc : Thread Cert.InBwd.nD Cert.InBwd.τ).loc Cert.InBwd.main_arg0) = m ((c.tc : Thread Cert.InBwd.nD Cert.InBwd.τ).loc Cert.InBwd.main_arg0)
      ∧ r.2.mem ((c.tc : Thread Cert.InBwd.nD Cert.InBwd.τ).loc Cert.InBwd.main_arg1) = m ((c.tc : Thread Cert.InBwd.nD Cert.InBwd.τ).loc Cert.InBwd.main_arg1)
      ∧ r.2.mem ((c.tc : Thread Cert.InBwd.nD Cert.InBwd.τ).loc Cert.InBwd.main_arg2) = m ((c.tc : Thread Cert.InBwd.nD Cert.InBwd.τ).loc Cert.InBwd.main_arg2)
      ∧ r.2.mem ((c.tc : Thread Cert.InBwd.nD Cert.InBwd.τ).loc Cert.InBwd.main_arg3) = m ((c.tc : Thread Cert.InBwd.nD Cert.InBwd.τ).loc Cert.InBwd.main_arg3)
      ∧ r.2.mem ((c.tc : Thread Cert.InBwd.nD Cert.InBwd.τ).loc Cert.InBwd.main_arg4) = m ((c.tc : Thread Cert.InBwd.nD Cert.InBwd.τ).loc Cert.InBwd.main_arg4)
      ∧ r.2.mem ((c.tc : Thread Cert.InBwd.nD Cert.InBwd.τ).loc Cert.InBwd.main_arg5) = m ((c.tc : Thread Cert.InBwd.nD Cert.InBwd.τ).loc Cert.InBwd.main_arg5)
      ∧ r.2.mem ((c.tc : Thread Cert.InBwd.nD Cert.InBwd.τ).loc Cert.InBwd.main_arg6) = m ((c.tc : Thread Cert.InBwd.nD Cert.InBwd.τ).loc Cert.InBwd.main_arg6)
      ∧ r.2.mem ((c.tc : Thread Cert.InBwd.nD Cert.InBwd.τ).loc Cert.InBwd.main_arg7) = m ((c.tc : Thread Cert.InBwd.nD Cert.InBwd.τ).loc Cert.InBwd.main_arg7))
      ∧ r.2.sem = fun _ => 0)

def quiescent_InBwdIdeal [hInBwdIdeal : Cert.InBwdIdeal.Facts] : Prop :=
  ∀ (m : (ℓ : Loc Cert.InBwdIdeal.nD Cert.InBwdIdeal.τ Cert.InBwdIdeal.sig) → Buf (Elt Ideal) ℓ) (g : Dev Cert.InBwdIdeal.nD → PrngReg), Pre_InBwdIdeal m →
    θ_run (Cert.InBwdIdeal.defs (F := Ideal)) (onTc (τ := Cert.InBwdIdeal.τ) (Cert.InBwdIdeal.main (F := Ideal))) ⟨m, fun _ => 0, g⟩ (fun r => (∀ c : Dev Cert.InBwdIdeal.nD,
      r.2.mem ((c.tc : Thread Cert.InBwdIdeal.nD Cert.InBwdIdeal.τ).loc Cert.InBwdIdeal.main_arg0) = m ((c.tc : Thread Cert.InBwdIdeal.nD Cert.InBwdIdeal.τ).loc Cert.InBwdIdeal.main_arg0)
      ∧ r.2.mem ((c.tc : Thread Cert.InBwdIdeal.nD Cert.InBwdIdeal.τ).loc Cert.InBwdIdeal.main_arg1) = m ((c.tc : Thread Cert.InBwdIdeal.nD Cert.InBwdIdeal.τ).loc Cert.InBwdIdeal.main_arg1)
      ∧ r.2.mem ((c.tc : Thread Cert.InBwdIdeal.nD Cert.InBwdIdeal.τ).loc Cert.InBwdIdeal.main_arg2) = m ((c.tc : Thread Cert.InBwdIdeal.nD Cert.InBwdIdeal.τ).loc Cert.InBwdIdeal.main_arg2)
      ∧ r.2.mem ((c.tc : Thread Cert.InBwdIdeal.nD Cert.InBwdIdeal.τ).loc Cert.InBwdIdeal.main_arg3) = m ((c.tc : Thread Cert.InBwdIdeal.nD Cert.InBwdIdeal.τ).loc Cert.InBwdIdeal.main_arg3)
      ∧ r.2.mem ((c.tc : Thread Cert.InBwdIdeal.nD Cert.InBwdIdeal.τ).loc Cert.InBwdIdeal.main_arg4) = m ((c.tc : Thread Cert.InBwdIdeal.nD Cert.InBwdIdeal.τ).loc Cert.InBwdIdeal.main_arg4)
      ∧ r.2.mem ((c.tc : Thread Cert.InBwdIdeal.nD Cert.InBwdIdeal.τ).loc Cert.InBwdIdeal.main_arg5) = m ((c.tc : Thread Cert.InBwdIdeal.nD Cert.InBwdIdeal.τ).loc Cert.InBwdIdeal.main_arg5)
      ∧ r.2.mem ((c.tc : Thread Cert.InBwdIdeal.nD Cert.InBwdIdeal.τ).loc Cert.InBwdIdeal.main_arg6) = m ((c.tc : Thread Cert.InBwdIdeal.nD Cert.InBwdIdeal.τ).loc Cert.InBwdIdeal.main_arg6)
      ∧ r.2.mem ((c.tc : Thread Cert.InBwdIdeal.nD Cert.InBwdIdeal.τ).loc Cert.InBwdIdeal.main_arg7) = m ((c.tc : Thread Cert.InBwdIdeal.nD Cert.InBwdIdeal.τ).loc Cert.InBwdIdeal.main_arg7))
      ∧ r.2.sem = fun _ => 0)

def quiescent_InBwdRefIdeal [hInBwdRefIdeal : Cert.InBwdRefIdeal.Facts] : Prop :=
  ∀ (m : (ℓ : Loc Cert.InBwdRefIdeal.nD Cert.InBwdRefIdeal.τ Cert.InBwdRefIdeal.sig) → Buf (Elt Ideal) ℓ) (g : Dev Cert.InBwdRefIdeal.nD → PrngReg), Pre_InBwdRefIdeal m →
    θ_run (Cert.InBwdRefIdeal.defs (F := Ideal)) (onTc (τ := Cert.InBwdRefIdeal.τ) (Cert.InBwdRefIdeal.main (F := Ideal))) ⟨m, fun _ => 0, g⟩ (fun r => (∀ c : Dev Cert.InBwdRefIdeal.nD,
      r.2.mem ((c.tc : Thread Cert.InBwdRefIdeal.nD Cert.InBwdRefIdeal.τ).loc Cert.InBwdRefIdeal.main_arg0) = m ((c.tc : Thread Cert.InBwdRefIdeal.nD Cert.InBwdRefIdeal.τ).loc Cert.InBwdRefIdeal.main_arg0)
      ∧ r.2.mem ((c.tc : Thread Cert.InBwdRefIdeal.nD Cert.InBwdRefIdeal.τ).loc Cert.InBwdRefIdeal.main_arg1) = m ((c.tc : Thread Cert.InBwdRefIdeal.nD Cert.InBwdRefIdeal.τ).loc Cert.InBwdRefIdeal.main_arg1)
      ∧ r.2.mem ((c.tc : Thread Cert.InBwdRefIdeal.nD Cert.InBwdRefIdeal.τ).loc Cert.InBwdRefIdeal.main_arg2) = m ((c.tc : Thread Cert.InBwdRefIdeal.nD Cert.InBwdRefIdeal.τ).loc Cert.InBwdRefIdeal.main_arg2)
      ∧ r.2.mem ((c.tc : Thread Cert.InBwdRefIdeal.nD Cert.InBwdRefIdeal.τ).loc Cert.InBwdRefIdeal.main_arg3) = m ((c.tc : Thread Cert.InBwdRefIdeal.nD Cert.InBwdRefIdeal.τ).loc Cert.InBwdRefIdeal.main_arg3)
      ∧ r.2.mem ((c.tc : Thread Cert.InBwdRefIdeal.nD Cert.InBwdRefIdeal.τ).loc Cert.InBwdRefIdeal.main_arg4) = m ((c.tc : Thread Cert.InBwdRefIdeal.nD Cert.InBwdRefIdeal.τ).loc Cert.InBwdRefIdeal.main_arg4)
      ∧ r.2.mem ((c.tc : Thread Cert.InBwdRefIdeal.nD Cert.InBwdRefIdeal.τ).loc Cert.InBwdRefIdeal.main_arg5) = m ((c.tc : Thread Cert.InBwdRefIdeal.nD Cert.InBwdRefIdeal.τ).loc Cert.InBwdRefIdeal.main_arg5)
      ∧ r.2.mem ((c.tc : Thread Cert.InBwdRefIdeal.nD Cert.InBwdRefIdeal.τ).loc Cert.InBwdRefIdeal.main_arg6) = m ((c.tc : Thread Cert.InBwdRefIdeal.nD Cert.InBwdRefIdeal.τ).loc Cert.InBwdRefIdeal.main_arg6)
      ∧ r.2.mem ((c.tc : Thread Cert.InBwdRefIdeal.nD Cert.InBwdRefIdeal.τ).loc Cert.InBwdRefIdeal.main_arg7) = m ((c.tc : Thread Cert.InBwdRefIdeal.nD Cert.InBwdRefIdeal.τ).loc Cert.InBwdRefIdeal.main_arg7))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v89_0)) (v1 : (c : Dev Cert.KernelIdeal.nD) → Buf (Elt Ideal) ((c.tc : Thread Cert.KernelIdeal.nD Cert.KernelIdeal.τ).loc Cert.KernelIdeal.main_v89_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v89_0) = v0 c
          ∧ r.2.mem ((c.tc : Thread Cert.KernelIdeal.nD Cert.KernelIdeal.τ).loc Cert.KernelIdeal.main_v89_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v158) = v0 c
          ∧ r.2.mem ((c.tc : Thread Cert.ReferenceIdeal.nD Cert.ReferenceIdeal.τ).loc Cert.ReferenceIdeal.main_v162) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_GradGateUp_GradGateUpIdeal : Prop :=
  True

def algebraic_GradGateUpIdeal_GradGateUpRefIdeal [hGradGateUpIdeal : Cert.GradGateUpIdeal.Facts] [hGradGateUpRefIdeal : Cert.GradGateUpRefIdeal.Facts] : Prop :=
  ∀ (m : (ℓ : Loc Cert.GradGateUpIdeal.nD Cert.GradGateUpIdeal.τ Cert.GradGateUpIdeal.sig) → Buf (Elt Ideal) ℓ) (g : Dev Cert.GradGateUpIdeal.nD → PrngReg)
    (m' : (ℓ : Loc Cert.GradGateUpRefIdeal.nD Cert.GradGateUpRefIdeal.τ Cert.GradGateUpRefIdeal.sig) → Buf (Elt Ideal) ℓ) (g' : Dev Cert.GradGateUpRefIdeal.nD → PrngReg), Pre_GradGateUpIdeal m →
    (∀ c : Dev Cert.GradGateUpIdeal.nD,
      m' ((c.tc : Thread Cert.GradGateUpRefIdeal.nD Cert.GradGateUpRefIdeal.τ).loc Cert.GradGateUpRefIdeal.main_arg0) = m ((c.tc : Thread Cert.GradGateUpIdeal.nD Cert.GradGateUpIdeal.τ).loc Cert.GradGateUpIdeal.main_arg0)
      ∧ m' ((c.tc : Thread Cert.GradGateUpRefIdeal.nD Cert.GradGateUpRefIdeal.τ).loc Cert.GradGateUpRefIdeal.main_arg1) = m ((c.tc : Thread Cert.GradGateUpIdeal.nD Cert.GradGateUpIdeal.τ).loc Cert.GradGateUpIdeal.main_arg1)) →
    ∃ (v0 : (c : Dev Cert.GradGateUpIdeal.nD) → Buf (Elt Ideal) ((c.tc : Thread Cert.GradGateUpIdeal.nD Cert.GradGateUpIdeal.τ).loc Cert.GradGateUpIdeal.main_v0)),
      θ_run (Cert.GradGateUpIdeal.defs (F := Ideal)) (onTc (τ := Cert.GradGateUpIdeal.τ) (Cert.GradGateUpIdeal.main (F := Ideal))) ⟨m, fun _ => 0, g⟩ (fun r => ∀ c : Dev Cert.GradGateUpIdeal.nD,
          r.2.mem ((c.tc : Thread Cert.GradGateUpIdeal.nD Cert.GradGateUpIdeal.τ).loc Cert.GradGateUpIdeal.main_v0) = v0 c
          ∧ r.2.mem ((c.tc : Thread Cert.GradGateUpIdeal.nD Cert.GradGateUpIdeal.τ).loc Cert.GradGateUpIdeal.main_arg0) = m ((c.tc : Thread Cert.GradGateUpIdeal.nD Cert.GradGateUpIdeal.τ).loc Cert.GradGateUpIdeal.main_arg0)
          ∧ r.2.mem ((c.tc : Thread Cert.GradGateUpIdeal.nD Cert.GradGateUpIdeal.τ).loc Cert.GradGateUpIdeal.main_arg1) = m ((c.tc : Thread Cert.GradGateUpIdeal.nD Cert.GradGateUpIdeal.τ).loc Cert.GradGateUpIdeal.main_arg1))
      ∧ θ_run (Cert.GradGateUpRefIdeal.defs (F := Ideal)) (onTc (τ := Cert.GradGateUpRefIdeal.τ) (Cert.GradGateUpRefIdeal.main (F := Ideal))) ⟨m', fun _ => 0, g'⟩ (fun r => ∀ c : Dev Cert.GradGateUpRefIdeal.nD,
          r.2.mem ((c.tc : Thread Cert.GradGateUpRefIdeal.nD Cert.GradGateUpRefIdeal.τ).loc Cert.GradGateUpRefIdeal.main_v7) = v0 c
          ∧ r.2.mem ((c.tc : Thread Cert.GradGateUpRefIdeal.nD Cert.GradGateUpRefIdeal.τ).loc Cert.GradGateUpRefIdeal.main_arg0) = m' ((c.tc : Thread Cert.GradGateUpRefIdeal.nD Cert.GradGateUpRefIdeal.τ).loc Cert.GradGateUpRefIdeal.main_arg0)
          ∧ r.2.mem ((c.tc : Thread Cert.GradGateUpRefIdeal.nD Cert.GradGateUpRefIdeal.τ).loc Cert.GradGateUpRefIdeal.main_arg1) = m' ((c.tc : Thread Cert.GradGateUpRefIdeal.nD Cert.GradGateUpRefIdeal.τ).loc Cert.GradGateUpRefIdeal.main_arg1))

def preserves_GradDown_GradDownIdeal : Prop :=
  True

def algebraic_GradDownIdeal_GradDownRefIdeal [hGradDownIdeal : Cert.GradDownIdeal.Facts] [hGradDownRefIdeal : Cert.GradDownRefIdeal.Facts] : Prop :=
  ∀ (m : (ℓ : Loc Cert.GradDownIdeal.nD Cert.GradDownIdeal.τ Cert.GradDownIdeal.sig) → Buf (Elt Ideal) ℓ) (g : Dev Cert.GradDownIdeal.nD → PrngReg)
    (m' : (ℓ : Loc Cert.GradDownRefIdeal.nD Cert.GradDownRefIdeal.τ Cert.GradDownRefIdeal.sig) → Buf (Elt Ideal) ℓ) (g' : Dev Cert.GradDownRefIdeal.nD → PrngReg), Pre_GradDownIdeal m →
    (∀ c : Dev Cert.GradDownIdeal.nD,
      m' ((c.tc : Thread Cert.GradDownRefIdeal.nD Cert.GradDownRefIdeal.τ).loc Cert.GradDownRefIdeal.main_arg0) = m ((c.tc : Thread Cert.GradDownIdeal.nD Cert.GradDownIdeal.τ).loc Cert.GradDownIdeal.main_arg0)
      ∧ m' ((c.tc : Thread Cert.GradDownRefIdeal.nD Cert.GradDownRefIdeal.τ).loc Cert.GradDownRefIdeal.main_arg1) = m ((c.tc : Thread Cert.GradDownIdeal.nD Cert.GradDownIdeal.τ).loc Cert.GradDownIdeal.main_arg1)) →
    ∃ (v0 : (c : Dev Cert.GradDownIdeal.nD) → Buf (Elt Ideal) ((c.tc : Thread Cert.GradDownIdeal.nD Cert.GradDownIdeal.τ).loc Cert.GradDownIdeal.main_v0)),
      θ_run (Cert.GradDownIdeal.defs (F := Ideal)) (onTc (τ := Cert.GradDownIdeal.τ) (Cert.GradDownIdeal.main (F := Ideal))) ⟨m, fun _ => 0, g⟩ (fun r => ∀ c : Dev Cert.GradDownIdeal.nD,
          r.2.mem ((c.tc : Thread Cert.GradDownIdeal.nD Cert.GradDownIdeal.τ).loc Cert.GradDownIdeal.main_v0) = v0 c
          ∧ r.2.mem ((c.tc : Thread Cert.GradDownIdeal.nD Cert.GradDownIdeal.τ).loc Cert.GradDownIdeal.main_arg0) = m ((c.tc : Thread Cert.GradDownIdeal.nD Cert.GradDownIdeal.τ).loc Cert.GradDownIdeal.main_arg0)
          ∧ r.2.mem ((c.tc : Thread Cert.GradDownIdeal.nD Cert.GradDownIdeal.τ).loc Cert.GradDownIdeal.main_arg1) = m ((c.tc : Thread Cert.GradDownIdeal.nD Cert.GradDownIdeal.τ).loc Cert.GradDownIdeal.main_arg1))
      ∧ θ_run (Cert.GradDownRefIdeal.defs (F := Ideal)) (onTc (τ := Cert.GradDownRefIdeal.τ) (Cert.GradDownRefIdeal.main (F := Ideal))) ⟨m', fun _ => 0, g'⟩ (fun r => ∀ c : Dev Cert.GradDownRefIdeal.nD,
          r.2.mem ((c.tc : Thread Cert.GradDownRefIdeal.nD Cert.GradDownRefIdeal.τ).loc Cert.GradDownRefIdeal.main_v6) = v0 c
          ∧ r.2.mem ((c.tc : Thread Cert.GradDownRefIdeal.nD Cert.GradDownRefIdeal.τ).loc Cert.GradDownRefIdeal.main_arg0) = m' ((c.tc : Thread Cert.GradDownRefIdeal.nD Cert.GradDownRefIdeal.τ).loc Cert.GradDownRefIdeal.main_arg0)
          ∧ r.2.mem ((c.tc : Thread Cert.GradDownRefIdeal.nD Cert.GradDownRefIdeal.τ).loc Cert.GradDownRefIdeal.main_arg1) = m' ((c.tc : Thread Cert.GradDownRefIdeal.nD Cert.GradDownRefIdeal.τ).loc Cert.GradDownRefIdeal.main_arg1))

def preserves_GradIn_GradInIdeal : Prop :=
  True

def algebraic_GradInIdeal_GradInRefIdeal [hGradInIdeal : Cert.GradInIdeal.Facts] [hGradInRefIdeal : Cert.GradInRefIdeal.Facts] : Prop :=
  ∀ (m : (ℓ : Loc Cert.GradInIdeal.nD Cert.GradInIdeal.τ Cert.GradInIdeal.sig) → Buf (Elt Ideal) ℓ) (g : Dev Cert.GradInIdeal.nD → PrngReg)
    (m' : (ℓ : Loc Cert.GradInRefIdeal.nD Cert.GradInRefIdeal.τ Cert.GradInRefIdeal.sig) → Buf (Elt Ideal) ℓ) (g' : Dev Cert.GradInRefIdeal.nD → PrngReg), Pre_GradInIdeal m →
    (∀ c : Dev Cert.GradInIdeal.nD,
      m' ((c.tc : Thread Cert.GradInRefIdeal.nD Cert.GradInRefIdeal.τ).loc Cert.GradInRefIdeal.main_arg0) = m ((c.tc : Thread Cert.GradInIdeal.nD Cert.GradInIdeal.τ).loc Cert.GradInIdeal.main_arg0)
      ∧ m' ((c.tc : Thread Cert.GradInRefIdeal.nD Cert.GradInRefIdeal.τ).loc Cert.GradInRefIdeal.main_arg1) = m ((c.tc : Thread Cert.GradInIdeal.nD Cert.GradInIdeal.τ).loc Cert.GradInIdeal.main_arg1)) →
    ∃ (v0 : (c : Dev Cert.GradInIdeal.nD) → Buf (Elt Ideal) ((c.tc : Thread Cert.GradInIdeal.nD Cert.GradInIdeal.τ).loc Cert.GradInIdeal.main_v0)),
      θ_run (Cert.GradInIdeal.defs (F := Ideal)) (onTc (τ := Cert.GradInIdeal.τ) (Cert.GradInIdeal.main (F := Ideal))) ⟨m, fun _ => 0, g⟩ (fun r => ∀ c : Dev Cert.GradInIdeal.nD,
          r.2.mem ((c.tc : Thread Cert.GradInIdeal.nD Cert.GradInIdeal.τ).loc Cert.GradInIdeal.main_v0) = v0 c
          ∧ r.2.mem ((c.tc : Thread Cert.GradInIdeal.nD Cert.GradInIdeal.τ).loc Cert.GradInIdeal.main_arg0) = m ((c.tc : Thread Cert.GradInIdeal.nD Cert.GradInIdeal.τ).loc Cert.GradInIdeal.main_arg0)
          ∧ r.2.mem ((c.tc : Thread Cert.GradInIdeal.nD Cert.GradInIdeal.τ).loc Cert.GradInIdeal.main_arg1) = m ((c.tc : Thread Cert.GradInIdeal.nD Cert.GradInIdeal.τ).loc Cert.GradInIdeal.main_arg1))
      ∧ θ_run (Cert.GradInRefIdeal.defs (F := Ideal)) (onTc (τ := Cert.GradInRefIdeal.τ) (Cert.GradInRefIdeal.main (F := Ideal))) ⟨m', fun _ => 0, g'⟩ (fun r => ∀ c : Dev Cert.GradInRefIdeal.nD,
          r.2.mem ((c.tc : Thread Cert.GradInRefIdeal.nD Cert.GradInRefIdeal.τ).loc Cert.GradInRefIdeal.main_v7) = v0 c
          ∧ r.2.mem ((c.tc : Thread Cert.GradInRefIdeal.nD Cert.GradInRefIdeal.τ).loc Cert.GradInRefIdeal.main_arg0) = m' ((c.tc : Thread Cert.GradInRefIdeal.nD Cert.GradInRefIdeal.τ).loc Cert.GradInRefIdeal.main_arg0)
          ∧ r.2.mem ((c.tc : Thread Cert.GradInRefIdeal.nD Cert.GradInRefIdeal.τ).loc Cert.GradInRefIdeal.main_arg1) = m' ((c.tc : Thread Cert.GradInRefIdeal.nD Cert.GradInRefIdeal.τ).loc Cert.GradInRefIdeal.main_arg1))

def preserves_GradOut_GradOutIdeal : Prop :=
  True

def algebraic_GradOutIdeal_GradOutRefIdeal [hGradOutIdeal : Cert.GradOutIdeal.Facts] [hGradOutRefIdeal : Cert.GradOutRefIdeal.Facts] : Prop :=
  ∀ (m : (ℓ : Loc Cert.GradOutIdeal.nD Cert.GradOutIdeal.τ Cert.GradOutIdeal.sig) → Buf (Elt Ideal) ℓ) (g : Dev Cert.GradOutIdeal.nD → PrngReg)
    (m' : (ℓ : Loc Cert.GradOutRefIdeal.nD Cert.GradOutRefIdeal.τ Cert.GradOutRefIdeal.sig) → Buf (Elt Ideal) ℓ) (g' : Dev Cert.GradOutRefIdeal.nD → PrngReg), Pre_GradOutIdeal m →
    (∀ c : Dev Cert.GradOutIdeal.nD,
      m' ((c.tc : Thread Cert.GradOutRefIdeal.nD Cert.GradOutRefIdeal.τ).loc Cert.GradOutRefIdeal.main_arg0) = m ((c.tc : Thread Cert.GradOutIdeal.nD Cert.GradOutIdeal.τ).loc Cert.GradOutIdeal.main_arg0)
      ∧ m' ((c.tc : Thread Cert.GradOutRefIdeal.nD Cert.GradOutRefIdeal.τ).loc Cert.GradOutRefIdeal.main_arg1) = m ((c.tc : Thread Cert.GradOutIdeal.nD Cert.GradOutIdeal.τ).loc Cert.GradOutIdeal.main_arg1)) →
    ∃ (v0 : (c : Dev Cert.GradOutIdeal.nD) → Buf (Elt Ideal) ((c.tc : Thread Cert.GradOutIdeal.nD Cert.GradOutIdeal.τ).loc Cert.GradOutIdeal.main_v0)),
      θ_run (Cert.GradOutIdeal.defs (F := Ideal)) (onTc (τ := Cert.GradOutIdeal.τ) (Cert.GradOutIdeal.main (F := Ideal))) ⟨m, fun _ => 0, g⟩ (fun r => ∀ c : Dev Cert.GradOutIdeal.nD,
          r.2.mem ((c.tc : Thread Cert.GradOutIdeal.nD Cert.GradOutIdeal.τ).loc Cert.GradOutIdeal.main_v0) = v0 c
          ∧ r.2.mem ((c.tc : Thread Cert.GradOutIdeal.nD Cert.GradOutIdeal.τ).loc Cert.GradOutIdeal.main_arg0) = m ((c.tc : Thread Cert.GradOutIdeal.nD Cert.GradOutIdeal.τ).loc Cert.GradOutIdeal.main_arg0)
          ∧ r.2.mem ((c.tc : Thread Cert.GradOutIdeal.nD Cert.GradOutIdeal.τ).loc Cert.GradOutIdeal.main_arg1) = m ((c.tc : Thread Cert.GradOutIdeal.nD Cert.GradOutIdeal.τ).loc Cert.GradOutIdeal.main_arg1))
      ∧ θ_run (Cert.GradOutRefIdeal.defs (F := Ideal)) (onTc (τ := Cert.GradOutRefIdeal.τ) (Cert.GradOutRefIdeal.main (F := Ideal))) ⟨m', fun _ => 0, g'⟩ (fun r => ∀ c : Dev Cert.GradOutRefIdeal.nD,
          r.2.mem ((c.tc : Thread Cert.GradOutRefIdeal.nD Cert.GradOutRefIdeal.τ).loc Cert.GradOutRefIdeal.main_v6) = v0 c
          ∧ r.2.mem ((c.tc : Thread Cert.GradOutRefIdeal.nD Cert.GradOutRefIdeal.τ).loc Cert.GradOutRefIdeal.main_arg0) = m' ((c.tc : Thread Cert.GradOutRefIdeal.nD Cert.GradOutRefIdeal.τ).loc Cert.GradOutRefIdeal.main_arg0)
          ∧ r.2.mem ((c.tc : Thread Cert.GradOutRefIdeal.nD Cert.GradOutRefIdeal.τ).loc Cert.GradOutRefIdeal.main_arg1) = m' ((c.tc : Thread Cert.GradOutRefIdeal.nD Cert.GradOutRefIdeal.τ).loc Cert.GradOutRefIdeal.main_arg1))

def preserves_FfnBwd_FfnBwdIdeal : Prop :=
  True

def algebraic_FfnBwdIdeal_FfnBwdRefIdeal_pre_finite_ffn [hFfnBwdIdeal : Cert.FfnBwdIdeal.Facts] [hFfnBwdRefIdeal : Cert.FfnBwdRefIdeal.Facts] [hPre_finite_ffn : Cert.Pre_finite_ffn.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg)
    (m' : (ℓ : Loc Cert.FfnBwdRefIdeal.nD Cert.FfnBwdRefIdeal.τ Cert.FfnBwdRefIdeal.sig) → Buf (Elt Ideal) ℓ) (g' : Dev Cert.FfnBwdRefIdeal.nD → PrngReg), Pre_FfnBwdIdeal_finite_ffn m →
    (∀ c : Dev Cert.FfnBwdIdeal.nD,
      m' ((c.tc : Thread Cert.FfnBwdRefIdeal.nD Cert.FfnBwdRefIdeal.τ).loc Cert.FfnBwdRefIdeal.main_arg0) = m ((c.tc : Thread Cert.FfnBwdIdeal.nD Cert.FfnBwdIdeal.τ).loc Cert.FfnBwdIdeal.main_arg0)
      ∧ m' ((c.tc : Thread Cert.FfnBwdRefIdeal.nD Cert.FfnBwdRefIdeal.τ).loc Cert.FfnBwdRefIdeal.main_arg1) = m ((c.tc : Thread Cert.FfnBwdIdeal.nD Cert.FfnBwdIdeal.τ).loc Cert.FfnBwdIdeal.main_arg1)
      ∧ m' ((c.tc : Thread Cert.FfnBwdRefIdeal.nD Cert.FfnBwdRefIdeal.τ).loc Cert.FfnBwdRefIdeal.main_arg2) = m ((c.tc : Thread Cert.FfnBwdIdeal.nD Cert.FfnBwdIdeal.τ).loc Cert.FfnBwdIdeal.main_arg2)
      ∧ m' ((c.tc : Thread Cert.FfnBwdRefIdeal.nD Cert.FfnBwdRefIdeal.τ).loc Cert.FfnBwdRefIdeal.main_arg3) = m ((c.tc : Thread Cert.FfnBwdIdeal.nD Cert.FfnBwdIdeal.τ).loc Cert.FfnBwdIdeal.main_arg3)
      ∧ m' ((c.tc : Thread Cert.FfnBwdRefIdeal.nD Cert.FfnBwdRefIdeal.τ).loc Cert.FfnBwdRefIdeal.main_arg4) = m ((c.tc : Thread Cert.FfnBwdIdeal.nD Cert.FfnBwdIdeal.τ).loc Cert.FfnBwdIdeal.main_arg4)
      ∧ m' ((c.tc : Thread Cert.FfnBwdRefIdeal.nD Cert.FfnBwdRefIdeal.τ).loc Cert.FfnBwdRefIdeal.main_arg5) = m ((c.tc : Thread Cert.FfnBwdIdeal.nD Cert.FfnBwdIdeal.τ).loc Cert.FfnBwdIdeal.main_arg5)
      ∧ m' ((c.tc : Thread Cert.FfnBwdRefIdeal.nD Cert.FfnBwdRefIdeal.τ).loc Cert.FfnBwdRefIdeal.main_arg6) = m ((c.tc : Thread Cert.FfnBwdIdeal.nD Cert.FfnBwdIdeal.τ).loc Cert.FfnBwdIdeal.main_arg6)
      ∧ m' ((c.tc : Thread Cert.FfnBwdRefIdeal.nD Cert.FfnBwdRefIdeal.τ).loc Cert.FfnBwdRefIdeal.main_arg7) = m ((c.tc : Thread Cert.FfnBwdIdeal.nD Cert.FfnBwdIdeal.τ).loc Cert.FfnBwdIdeal.main_arg7)) →
    ∃ (v0 : (c : Dev Cert.FfnBwdIdeal.nD) → Buf (Elt Ideal) ((c.tc : Thread Cert.FfnBwdIdeal.nD Cert.FfnBwdIdeal.τ).loc Cert.FfnBwdIdeal.main_v34_0)) (v1 : (c : Dev Cert.FfnBwdIdeal.nD) → Buf (Elt Ideal) ((c.tc : Thread Cert.FfnBwdIdeal.nD Cert.FfnBwdIdeal.τ).loc Cert.FfnBwdIdeal.main_v34_1)) (v2 : (c : Dev Cert.FfnBwdIdeal.nD) → Buf (Elt Ideal) ((c.tc : Thread Cert.FfnBwdIdeal.nD Cert.FfnBwdIdeal.τ).loc Cert.FfnBwdIdeal.main_v34_2)) (v3 : (c : Dev Cert.FfnBwdIdeal.nD) → Buf (Elt Ideal) ((c.tc : Thread Cert.FfnBwdIdeal.nD Cert.FfnBwdIdeal.τ).loc Cert.FfnBwdIdeal.main_v34_3)) (v4 : (c : Dev Cert.FfnBwdIdeal.nD) → Buf (Elt Ideal) ((c.tc : Thread Cert.FfnBwdIdeal.nD Cert.FfnBwdIdeal.τ).loc Cert.FfnBwdIdeal.main_v34_4)) (v5 : (c : Dev Cert.FfnBwdIdeal.nD) → Buf (Elt Ideal) ((c.tc : Thread Cert.FfnBwdIdeal.nD Cert.FfnBwdIdeal.τ).loc Cert.FfnBwdIdeal.main_v34_5)),
      θ_run (Cert.FfnBwdIdeal.defs (F := Ideal)) (onTc (τ := Cert.FfnBwdIdeal.τ) (Cert.FfnBwdIdeal.main (F := Ideal))) ⟨m, fun _ => 0, g⟩ (fun r => ∀ c : Dev Cert.FfnBwdIdeal.nD,
          r.2.mem ((c.tc : Thread Cert.FfnBwdIdeal.nD Cert.FfnBwdIdeal.τ).loc Cert.FfnBwdIdeal.main_v34_0) = v0 c
          ∧ r.2.mem ((c.tc : Thread Cert.FfnBwdIdeal.nD Cert.FfnBwdIdeal.τ).loc Cert.FfnBwdIdeal.main_v34_1) = v1 c
          ∧ r.2.mem ((c.tc : Thread Cert.FfnBwdIdeal.nD Cert.FfnBwdIdeal.τ).loc Cert.FfnBwdIdeal.main_v34_2) = v2 c
          ∧ r.2.mem ((c.tc : Thread Cert.FfnBwdIdeal.nD Cert.FfnBwdIdeal.τ).loc Cert.FfnBwdIdeal.main_v34_3) = v3 c
          ∧ r.2.mem ((c.tc : Thread Cert.FfnBwdIdeal.nD Cert.FfnBwdIdeal.τ).loc Cert.FfnBwdIdeal.main_v34_4) = v4 c
          ∧ r.2.mem ((c.tc : Thread Cert.FfnBwdIdeal.nD Cert.FfnBwdIdeal.τ).loc Cert.FfnBwdIdeal.main_v34_5) = v5 c
          ∧ r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
          ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
          ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
          ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3)
          ∧ r.2.mem ((c.tc : Thread Cert.FfnBwdIdeal.nD Cert.FfnBwdIdeal.τ).loc Cert.FfnBwdIdeal.main_arg4) = m ((c.tc : Thread Cert.FfnBwdIdeal.nD Cert.FfnBwdIdeal.τ).loc Cert.FfnBwdIdeal.main_arg4)
          ∧ r.2.mem ((c.tc : Thread Cert.FfnBwdIdeal.nD Cert.FfnBwdIdeal.τ).loc Cert.FfnBwdIdeal.main_arg5) = m ((c.tc : Thread Cert.FfnBwdIdeal.nD Cert.FfnBwdIdeal.τ).loc Cert.FfnBwdIdeal.main_arg5)
          ∧ r.2.mem ((c.tc : Thread Cert.FfnBwdIdeal.nD Cert.FfnBwdIdeal.τ).loc Cert.FfnBwdIdeal.main_arg6) = m ((c.tc : Thread Cert.FfnBwdIdeal.nD Cert.FfnBwdIdeal.τ).loc Cert.FfnBwdIdeal.main_arg6)
          ∧ r.2.mem ((c.tc : Thread Cert.FfnBwdIdeal.nD Cert.FfnBwdIdeal.τ).loc Cert.FfnBwdIdeal.main_arg7) = m ((c.tc : Thread Cert.FfnBwdIdeal.nD Cert.FfnBwdIdeal.τ).loc Cert.FfnBwdIdeal.main_arg7))
      ∧ θ_run (Cert.FfnBwdRefIdeal.defs (F := Ideal)) (onTc (τ := Cert.FfnBwdRefIdeal.τ) (Cert.FfnBwdRefIdeal.main (F := Ideal))) ⟨m', fun _ => 0, g'⟩ (fun r => ∀ c : Dev Cert.FfnBwdRefIdeal.nD,
          r.2.mem ((c.tc : Thread Cert.FfnBwdRefIdeal.nD Cert.FfnBwdRefIdeal.τ).loc Cert.FfnBwdRefIdeal.main_v66) = v0 c
          ∧ r.2.mem ((c.tc : Thread Cert.FfnBwdRefIdeal.nD Cert.FfnBwdRefIdeal.τ).loc Cert.FfnBwdRefIdeal.main_v54) = v1 c
          ∧ r.2.mem ((c.tc : Thread Cert.FfnBwdRefIdeal.nD Cert.FfnBwdRefIdeal.τ).loc Cert.FfnBwdRefIdeal.main_v56) = v2 c
          ∧ r.2.mem ((c.tc : Thread Cert.FfnBwdRefIdeal.nD Cert.FfnBwdRefIdeal.τ).loc Cert.FfnBwdRefIdeal.main_v57) = v3 c
          ∧ r.2.mem ((c.tc : Thread Cert.FfnBwdRefIdeal.nD Cert.FfnBwdRefIdeal.τ).loc Cert.FfnBwdRefIdeal.main_v63) = v4 c
          ∧ r.2.mem ((c.tc : Thread Cert.FfnBwdRefIdeal.nD Cert.FfnBwdRefIdeal.τ).loc Cert.FfnBwdRefIdeal.main_v65) = v5 c
          ∧ r.2.mem ((c.tc : Thread Cert.FfnBwdRefIdeal.nD Cert.FfnBwdRefIdeal.τ).loc Cert.FfnBwdRefIdeal.main_arg0) = m' ((c.tc : Thread Cert.FfnBwdRefIdeal.nD Cert.FfnBwdRefIdeal.τ).loc Cert.FfnBwdRefIdeal.main_arg0)
          ∧ r.2.mem ((c.tc : Thread Cert.FfnBwdRefIdeal.nD Cert.FfnBwdRefIdeal.τ).loc Cert.FfnBwdRefIdeal.main_arg1) = m' ((c.tc : Thread Cert.FfnBwdRefIdeal.nD Cert.FfnBwdRefIdeal.τ).loc Cert.FfnBwdRefIdeal.main_arg1)
          ∧ r.2.mem ((c.tc : Thread Cert.FfnBwdRefIdeal.nD Cert.FfnBwdRefIdeal.τ).loc Cert.FfnBwdRefIdeal.main_arg2) = m' ((c.tc : Thread Cert.FfnBwdRefIdeal.nD Cert.FfnBwdRefIdeal.τ).loc Cert.FfnBwdRefIdeal.main_arg2)
          ∧ r.2.mem ((c.tc : Thread Cert.FfnBwdRefIdeal.nD Cert.FfnBwdRefIdeal.τ).loc Cert.FfnBwdRefIdeal.main_arg3) = m' ((c.tc : Thread Cert.FfnBwdRefIdeal.nD Cert.FfnBwdRefIdeal.τ).loc Cert.FfnBwdRefIdeal.main_arg3)
          ∧ r.2.mem ((c.tc : Thread Cert.FfnBwdRefIdeal.nD Cert.FfnBwdRefIdeal.τ).loc Cert.FfnBwdRefIdeal.main_arg4) = m' ((c.tc : Thread Cert.FfnBwdRefIdeal.nD Cert.FfnBwdRefIdeal.τ).loc Cert.FfnBwdRefIdeal.main_arg4)
          ∧ r.2.mem ((c.tc : Thread Cert.FfnBwdRefIdeal.nD Cert.FfnBwdRefIdeal.τ).loc Cert.FfnBwdRefIdeal.main_arg5) = m' ((c.tc : Thread Cert.FfnBwdRefIdeal.nD Cert.FfnBwdRefIdeal.τ).loc Cert.FfnBwdRefIdeal.main_arg5)
          ∧ r.2.mem ((c.tc : Thread Cert.FfnBwdRefIdeal.nD Cert.FfnBwdRefIdeal.τ).loc Cert.FfnBwdRefIdeal.main_arg6) = m' ((c.tc : Thread Cert.FfnBwdRefIdeal.nD Cert.FfnBwdRefIdeal.τ).loc Cert.FfnBwdRefIdeal.main_arg6)
          ∧ r.2.mem ((c.tc : Thread Cert.FfnBwdRefIdeal.nD Cert.FfnBwdRefIdeal.τ).loc Cert.FfnBwdRefIdeal.main_arg7) = m' ((c.tc : Thread Cert.FfnBwdRefIdeal.nD Cert.FfnBwdRefIdeal.τ).loc Cert.FfnBwdRefIdeal.main_arg7))

def preserves_FfnFwd_FfnFwdIdeal : Prop :=
  True

def algebraic_FfnFwdIdeal_FfnFwdRefIdeal [hFfnFwdIdeal : Cert.FfnFwdIdeal.Facts] [hFfnFwdRefIdeal : Cert.FfnFwdRefIdeal.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg)
    (m' : (ℓ : Loc Cert.FfnFwdRefIdeal.nD Cert.FfnFwdRefIdeal.τ Cert.FfnFwdRefIdeal.sig) → Buf (Elt Ideal) ℓ) (g' : Dev Cert.FfnFwdRefIdeal.nD → PrngReg), Pre_FfnFwdIdeal m →
    (∀ c : Dev Cert.FfnFwdIdeal.nD,
      m' ((c.tc : Thread Cert.FfnFwdRefIdeal.nD Cert.FfnFwdRefIdeal.τ).loc Cert.FfnFwdRefIdeal.main_arg0) = m ((c.tc : Thread Cert.FfnFwdIdeal.nD Cert.FfnFwdIdeal.τ).loc Cert.FfnFwdIdeal.main_arg0)
      ∧ m' ((c.tc : Thread Cert.FfnFwdRefIdeal.nD Cert.FfnFwdRefIdeal.τ).loc Cert.FfnFwdRefIdeal.main_arg1) = m ((c.tc : Thread Cert.FfnFwdIdeal.nD Cert.FfnFwdIdeal.τ).loc Cert.FfnFwdIdeal.main_arg1)
      ∧ m' ((c.tc : Thread Cert.FfnFwdRefIdeal.nD Cert.FfnFwdRefIdeal.τ).loc Cert.FfnFwdRefIdeal.main_arg2) = m ((c.tc : Thread Cert.FfnFwdIdeal.nD Cert.FfnFwdIdeal.τ).loc Cert.FfnFwdIdeal.main_arg2)
      ∧ m' ((c.tc : Thread Cert.FfnFwdRefIdeal.nD Cert.FfnFwdRefIdeal.τ).loc Cert.FfnFwdRefIdeal.main_arg3) = m ((c.tc : Thread Cert.FfnFwdIdeal.nD Cert.FfnFwdIdeal.τ).loc Cert.FfnFwdIdeal.main_arg3)
      ∧ m' ((c.tc : Thread Cert.FfnFwdRefIdeal.nD Cert.FfnFwdRefIdeal.τ).loc Cert.FfnFwdRefIdeal.main_arg4) = m ((c.tc : Thread Cert.FfnFwdIdeal.nD Cert.FfnFwdIdeal.τ).loc Cert.FfnFwdIdeal.main_arg4)
      ∧ m' ((c.tc : Thread Cert.FfnFwdRefIdeal.nD Cert.FfnFwdRefIdeal.τ).loc Cert.FfnFwdRefIdeal.main_arg5) = m ((c.tc : Thread Cert.FfnFwdIdeal.nD Cert.FfnFwdIdeal.τ).loc Cert.FfnFwdIdeal.main_arg5)
      ∧ m' ((c.tc : Thread Cert.FfnFwdRefIdeal.nD Cert.FfnFwdRefIdeal.τ).loc Cert.FfnFwdRefIdeal.main_arg6) = m ((c.tc : Thread Cert.FfnFwdIdeal.nD Cert.FfnFwdIdeal.τ).loc Cert.FfnFwdIdeal.main_arg6)
      ∧ m' ((c.tc : Thread Cert.FfnFwdRefIdeal.nD Cert.FfnFwdRefIdeal.τ).loc Cert.FfnFwdRefIdeal.main_arg7) = m ((c.tc : Thread Cert.FfnFwdIdeal.nD Cert.FfnFwdIdeal.τ).loc Cert.FfnFwdIdeal.main_arg7)
      ∧ m' ((c.tc : Thread Cert.FfnFwdRefIdeal.nD Cert.FfnFwdRefIdeal.τ).loc Cert.FfnFwdRefIdeal.main_arg8) = m ((c.tc : Thread Cert.FfnFwdIdeal.nD Cert.FfnFwdIdeal.τ).loc Cert.FfnFwdIdeal.main_arg8)) →
    ∃ (v0 : (c : Dev Cert.FfnFwdIdeal.nD) → Buf (Elt Ideal) ((c.tc : Thread Cert.FfnFwdIdeal.nD Cert.FfnFwdIdeal.τ).loc Cert.FfnFwdIdeal.main_v5_0)) (v1 : (c : Dev Cert.FfnFwdIdeal.nD) → Buf (Elt Ideal) ((c.tc : Thread Cert.FfnFwdIdeal.nD Cert.FfnFwdIdeal.τ).loc Cert.FfnFwdIdeal.main_v5_1)) (v2 : (c : Dev Cert.FfnFwdIdeal.nD) → Buf (Elt Ideal) ((c.tc : Thread Cert.FfnFwdIdeal.nD Cert.FfnFwdIdeal.τ).loc Cert.FfnFwdIdeal.main_v5_2)) (v3 : (c : Dev Cert.FfnFwdIdeal.nD) → Buf (Elt Ideal) ((c.tc : Thread Cert.FfnFwdIdeal.nD Cert.FfnFwdIdeal.τ).loc Cert.FfnFwdIdeal.main_v5_3)) (v4 : (c : Dev Cert.FfnFwdIdeal.nD) → Buf (Elt Ideal) ((c.tc : Thread Cert.FfnFwdIdeal.nD Cert.FfnFwdIdeal.τ).loc Cert.FfnFwdIdeal.main_v5_4)) (v5 : (c : Dev Cert.FfnFwdIdeal.nD) → Buf (Elt Ideal) ((c.tc : Thread Cert.FfnFwdIdeal.nD Cert.FfnFwdIdeal.τ).loc Cert.FfnFwdIdeal.main_v5_5)) (v6 : (c : Dev Cert.FfnFwdIdeal.nD) → Buf (Elt Ideal) ((c.tc : Thread Cert.FfnFwdIdeal.nD Cert.FfnFwdIdeal.τ).loc Cert.FfnFwdIdeal.main_v5_6)) (v7 : (c : Dev Cert.FfnFwdIdeal.nD) → Buf (Elt Ideal) ((c.tc : Thread Cert.FfnFwdIdeal.nD Cert.FfnFwdIdeal.τ).loc Cert.FfnFwdIdeal.main_v5_7)),
      θ_run (Cert.FfnFwdIdeal.defs (F := Ideal)) (onTc (τ := Cert.FfnFwdIdeal.τ) (Cert.FfnFwdIdeal.main (F := Ideal))) ⟨m, fun _ => 0, g⟩ (fun r => ∀ c : Dev Cert.FfnFwdIdeal.nD,
          r.2.mem ((c.tc : Thread Cert.FfnFwdIdeal.nD Cert.FfnFwdIdeal.τ).loc Cert.FfnFwdIdeal.main_v5_0) = v0 c
          ∧ r.2.mem ((c.tc : Thread Cert.FfnFwdIdeal.nD Cert.FfnFwdIdeal.τ).loc Cert.FfnFwdIdeal.main_v5_1) = v1 c
          ∧ r.2.mem ((c.tc : Thread Cert.FfnFwdIdeal.nD Cert.FfnFwdIdeal.τ).loc Cert.FfnFwdIdeal.main_v5_2) = v2 c
          ∧ r.2.mem ((c.tc : Thread Cert.FfnFwdIdeal.nD Cert.FfnFwdIdeal.τ).loc Cert.FfnFwdIdeal.main_v5_3) = v3 c
          ∧ r.2.mem ((c.tc : Thread Cert.FfnFwdIdeal.nD Cert.FfnFwdIdeal.τ).loc Cert.FfnFwdIdeal.main_v5_4) = v4 c
          ∧ r.2.mem ((c.tc : Thread Cert.FfnFwdIdeal.nD Cert.FfnFwdIdeal.τ).loc Cert.FfnFwdIdeal.main_v5_5) = v5 c
          ∧ r.2.mem ((c.tc : Thread Cert.FfnFwdIdeal.nD Cert.FfnFwdIdeal.τ).loc Cert.FfnFwdIdeal.main_v5_6) = v6 c
          ∧ r.2.mem ((c.tc : Thread Cert.FfnFwdIdeal.nD Cert.FfnFwdIdeal.τ).loc Cert.FfnFwdIdeal.main_v5_7) = v7 c
          ∧ r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
          ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
          ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2)
          ∧ r.2.mem ((c.tc : Thread Cert.FfnFwdIdeal.nD Cert.FfnFwdIdeal.τ).loc Cert.FfnFwdIdeal.main_arg3) = m ((c.tc : Thread Cert.FfnFwdIdeal.nD Cert.FfnFwdIdeal.τ).loc Cert.FfnFwdIdeal.main_arg3)
          ∧ r.2.mem ((c.tc : Thread Cert.FfnFwdIdeal.nD Cert.FfnFwdIdeal.τ).loc Cert.FfnFwdIdeal.main_arg4) = m ((c.tc : Thread Cert.FfnFwdIdeal.nD Cert.FfnFwdIdeal.τ).loc Cert.FfnFwdIdeal.main_arg4)
          ∧ r.2.mem ((c.tc : Thread Cert.FfnFwdIdeal.nD Cert.FfnFwdIdeal.τ).loc Cert.FfnFwdIdeal.main_arg5) = m ((c.tc : Thread Cert.FfnFwdIdeal.nD Cert.FfnFwdIdeal.τ).loc Cert.FfnFwdIdeal.main_arg5)
          ∧ r.2.mem ((c.tc : Thread Cert.FfnFwdIdeal.nD Cert.FfnFwdIdeal.τ).loc Cert.FfnFwdIdeal.main_arg6) = m ((c.tc : Thread Cert.FfnFwdIdeal.nD Cert.FfnFwdIdeal.τ).loc Cert.FfnFwdIdeal.main_arg6)
          ∧ r.2.mem ((c.tc : Thread Cert.FfnFwdIdeal.nD Cert.FfnFwdIdeal.τ).loc Cert.FfnFwdIdeal.main_arg7) = m ((c.tc : Thread Cert.FfnFwdIdeal.nD Cert.FfnFwdIdeal.τ).loc Cert.FfnFwdIdeal.main_arg7)
          ∧ r.2.mem ((c.tc : Thread Cert.FfnFwdIdeal.nD Cert.FfnFwdIdeal.τ).loc Cert.FfnFwdIdeal.main_arg8) = m ((c.tc : Thread Cert.FfnFwdIdeal.nD Cert.FfnFwdIdeal.τ).loc Cert.FfnFwdIdeal.main_arg8))
      ∧ θ_run (Cert.FfnFwdRefIdeal.defs (F := Ideal)) (onTc (τ := Cert.FfnFwdRefIdeal.τ) (Cert.FfnFwdRefIdeal.main (F := Ideal))) ⟨m', fun _ => 0, g'⟩ (fun r => ∀ c : Dev Cert.FfnFwdRefIdeal.nD,
          r.2.mem ((c.tc : Thread Cert.FfnFwdRefIdeal.nD Cert.FfnFwdRefIdeal.τ).loc Cert.FfnFwdRefIdeal.main_v93) = v0 c
          ∧ r.2.mem ((c.tc : Thread Cert.FfnFwdRefIdeal.nD Cert.FfnFwdRefIdeal.τ).loc Cert.FfnFwdRefIdeal.main_v2) = v1 c
          ∧ r.2.mem ((c.tc : Thread Cert.FfnFwdRefIdeal.nD Cert.FfnFwdRefIdeal.τ).loc Cert.FfnFwdRefIdeal.main_v94) = v2 c
          ∧ r.2.mem ((c.tc : Thread Cert.FfnFwdRefIdeal.nD Cert.FfnFwdRefIdeal.τ).loc Cert.FfnFwdRefIdeal.main_v95) = v3 c
          ∧ r.2.mem ((c.tc : Thread Cert.FfnFwdRefIdeal.nD Cert.FfnFwdRefIdeal.τ).loc Cert.FfnFwdRefIdeal.main_v96) = v4 c
          ∧ r.2.mem ((c.tc : Thread Cert.FfnFwdRefIdeal.nD Cert.FfnFwdRefIdeal.τ).loc Cert.FfnFwdRefIdeal.main_v97) = v5 c
          ∧ r.2.mem ((c.tc : Thread Cert.FfnFwdRefIdeal.nD Cert.FfnFwdRefIdeal.τ).loc Cert.FfnFwdRefIdeal.main_v70) = v6 c
          ∧ r.2.mem ((c.tc : Thread Cert.FfnFwdRefIdeal.nD Cert.FfnFwdRefIdeal.τ).loc Cert.FfnFwdRefIdeal.main_v92) = v7 c
          ∧ r.2.mem ((c.tc : Thread Cert.FfnFwdRefIdeal.nD Cert.FfnFwdRefIdeal.τ).loc Cert.FfnFwdRefIdeal.main_arg0) = m' ((c.tc : Thread Cert.FfnFwdRefIdeal.nD Cert.FfnFwdRefIdeal.τ).loc Cert.FfnFwdRefIdeal.main_arg0)
          ∧ r.2.mem ((c.tc : Thread Cert.FfnFwdRefIdeal.nD Cert.FfnFwdRefIdeal.τ).loc Cert.FfnFwdRefIdeal.main_arg1) = m' ((c.tc : Thread Cert.FfnFwdRefIdeal.nD Cert.FfnFwdRefIdeal.τ).loc Cert.FfnFwdRefIdeal.main_arg1)
          ∧ r.2.mem ((c.tc : Thread Cert.FfnFwdRefIdeal.nD Cert.FfnFwdRefIdeal.τ).loc Cert.FfnFwdRefIdeal.main_arg2) = m' ((c.tc : Thread Cert.FfnFwdRefIdeal.nD Cert.FfnFwdRefIdeal.τ).loc Cert.FfnFwdRefIdeal.main_arg2)
          ∧ r.2.mem ((c.tc : Thread Cert.FfnFwdRefIdeal.nD Cert.FfnFwdRefIdeal.τ).loc Cert.FfnFwdRefIdeal.main_arg3) = m' ((c.tc : Thread Cert.FfnFwdRefIdeal.nD Cert.FfnFwdRefIdeal.τ).loc Cert.FfnFwdRefIdeal.main_arg3)
          ∧ r.2.mem ((c.tc : Thread Cert.FfnFwdRefIdeal.nD Cert.FfnFwdRefIdeal.τ).loc Cert.FfnFwdRefIdeal.main_arg4) = m' ((c.tc : Thread Cert.FfnFwdRefIdeal.nD Cert.FfnFwdRefIdeal.τ).loc Cert.FfnFwdRefIdeal.main_arg4)
          ∧ r.2.mem ((c.tc : Thread Cert.FfnFwdRefIdeal.nD Cert.FfnFwdRefIdeal.τ).loc Cert.FfnFwdRefIdeal.main_arg5) = m' ((c.tc : Thread Cert.FfnFwdRefIdeal.nD Cert.FfnFwdRefIdeal.τ).loc Cert.FfnFwdRefIdeal.main_arg5)
          ∧ r.2.mem ((c.tc : Thread Cert.FfnFwdRefIdeal.nD Cert.FfnFwdRefIdeal.τ).loc Cert.FfnFwdRefIdeal.main_arg6) = m' ((c.tc : Thread Cert.FfnFwdRefIdeal.nD Cert.FfnFwdRefIdeal.τ).loc Cert.FfnFwdRefIdeal.main_arg6)
          ∧ r.2.mem ((c.tc : Thread Cert.FfnFwdRefIdeal.nD Cert.FfnFwdRefIdeal.τ).loc Cert.FfnFwdRefIdeal.main_arg7) = m' ((c.tc : Thread Cert.FfnFwdRefIdeal.nD Cert.FfnFwdRefIdeal.τ).loc Cert.FfnFwdRefIdeal.main_arg7)
          ∧ r.2.mem ((c.tc : Thread Cert.FfnFwdRefIdeal.nD Cert.FfnFwdRefIdeal.τ).loc Cert.FfnFwdRefIdeal.main_arg8) = m' ((c.tc : Thread Cert.FfnFwdRefIdeal.nD Cert.FfnFwdRefIdeal.τ).loc Cert.FfnFwdRefIdeal.main_arg8))

def preserves_InBwd_InBwdIdeal : Prop :=
  True

def algebraic_InBwdIdeal_InBwdRefIdeal [hInBwdIdeal : Cert.InBwdIdeal.Facts] [hInBwdRefIdeal : Cert.InBwdRefIdeal.Facts] : Prop :=
  ∀ (m : (ℓ : Loc Cert.InBwdIdeal.nD Cert.InBwdIdeal.τ Cert.InBwdIdeal.sig) → Buf (Elt Ideal) ℓ) (g : Dev Cert.InBwdIdeal.nD → PrngReg)
    (m' : (ℓ : Loc Cert.InBwdRefIdeal.nD Cert.InBwdRefIdeal.τ Cert.InBwdRefIdeal.sig) → Buf (Elt Ideal) ℓ) (g' : Dev Cert.InBwdRefIdeal.nD → PrngReg), Pre_InBwdIdeal m →
    (∀ c : Dev Cert.InBwdIdeal.nD,
      m' ((c.tc : Thread Cert.InBwdRefIdeal.nD Cert.InBwdRefIdeal.τ).loc Cert.InBwdRefIdeal.main_arg0) = m ((c.tc : Thread Cert.InBwdIdeal.nD Cert.InBwdIdeal.τ).loc Cert.InBwdIdeal.main_arg0)
      ∧ m' ((c.tc : Thread Cert.InBwdRefIdeal.nD Cert.InBwdRefIdeal.τ).loc Cert.InBwdRefIdeal.main_arg1) = m ((c.tc : Thread Cert.InBwdIdeal.nD Cert.InBwdIdeal.τ).loc Cert.InBwdIdeal.main_arg1)
      ∧ m' ((c.tc : Thread Cert.InBwdRefIdeal.nD Cert.InBwdRefIdeal.τ).loc Cert.InBwdRefIdeal.main_arg2) = m ((c.tc : Thread Cert.InBwdIdeal.nD Cert.InBwdIdeal.τ).loc Cert.InBwdIdeal.main_arg2)
      ∧ m' ((c.tc : Thread Cert.InBwdRefIdeal.nD Cert.InBwdRefIdeal.τ).loc Cert.InBwdRefIdeal.main_arg3) = m ((c.tc : Thread Cert.InBwdIdeal.nD Cert.InBwdIdeal.τ).loc Cert.InBwdIdeal.main_arg3)
      ∧ m' ((c.tc : Thread Cert.InBwdRefIdeal.nD Cert.InBwdRefIdeal.τ).loc Cert.InBwdRefIdeal.main_arg4) = m ((c.tc : Thread Cert.InBwdIdeal.nD Cert.InBwdIdeal.τ).loc Cert.InBwdIdeal.main_arg4)
      ∧ m' ((c.tc : Thread Cert.InBwdRefIdeal.nD Cert.InBwdRefIdeal.τ).loc Cert.InBwdRefIdeal.main_arg5) = m ((c.tc : Thread Cert.InBwdIdeal.nD Cert.InBwdIdeal.τ).loc Cert.InBwdIdeal.main_arg5)
      ∧ m' ((c.tc : Thread Cert.InBwdRefIdeal.nD Cert.InBwdRefIdeal.τ).loc Cert.InBwdRefIdeal.main_arg6) = m ((c.tc : Thread Cert.InBwdIdeal.nD Cert.InBwdIdeal.τ).loc Cert.InBwdIdeal.main_arg6)
      ∧ m' ((c.tc : Thread Cert.InBwdRefIdeal.nD Cert.InBwdRefIdeal.τ).loc Cert.InBwdRefIdeal.main_arg7) = m ((c.tc : Thread Cert.InBwdIdeal.nD Cert.InBwdIdeal.τ).loc Cert.InBwdIdeal.main_arg7)) →
    ∃ (v0 : (c : Dev Cert.InBwdIdeal.nD) → Buf (Elt Ideal) ((c.tc : Thread Cert.InBwdIdeal.nD Cert.InBwdIdeal.τ).loc Cert.InBwdIdeal.main_v25_0)) (v1 : (c : Dev Cert.InBwdIdeal.nD) → Buf (Elt Ideal) ((c.tc : Thread Cert.InBwdIdeal.nD Cert.InBwdIdeal.τ).loc Cert.InBwdIdeal.main_v25_1)) (v2 : (c : Dev Cert.InBwdIdeal.nD) → Buf (Elt Ideal) ((c.tc : Thread Cert.InBwdIdeal.nD Cert.InBwdIdeal.τ).loc Cert.InBwdIdeal.main_v25_2)),
      θ_run (Cert.InBwdIdeal.defs (F := Ideal)) (onTc (τ := Cert.InBwdIdeal.τ) (Cert.InBwdIdeal.main (F := Ideal))) ⟨m, fun _ => 0, g⟩ (fun r => ∀ c : Dev Cert.InBwdIdeal.nD,
          r.2.mem ((c.tc : Thread Cert.InBwdIdeal.nD Cert.InBwdIdeal.τ).loc Cert.InBwdIdeal.main_v25_0) = v0 c
          ∧ r.2.mem ((c.tc : Thread Cert.InBwdIdeal.nD Cert.InBwdIdeal.τ).loc Cert.InBwdIdeal.main_v25_1) = v1 c
          ∧ r.2.mem ((c.tc : Thread Cert.InBwdIdeal.nD Cert.InBwdIdeal.τ).loc Cert.InBwdIdeal.main_v25_2) = v2 c
          ∧ r.2.mem ((c.tc : Thread Cert.InBwdIdeal.nD Cert.InBwdIdeal.τ).loc Cert.InBwdIdeal.main_arg0) = m ((c.tc : Thread Cert.InBwdIdeal.nD Cert.InBwdIdeal.τ).loc Cert.InBwdIdeal.main_arg0)
          ∧ r.2.mem ((c.tc : Thread Cert.InBwdIdeal.nD Cert.InBwdIdeal.τ).loc Cert.InBwdIdeal.main_arg1) = m ((c.tc : Thread Cert.InBwdIdeal.nD Cert.InBwdIdeal.τ).loc Cert.InBwdIdeal.main_arg1)
          ∧ r.2.mem ((c.tc : Thread Cert.InBwdIdeal.nD Cert.InBwdIdeal.τ).loc Cert.InBwdIdeal.main_arg2) = m ((c.tc : Thread Cert.InBwdIdeal.nD Cert.InBwdIdeal.τ).loc Cert.InBwdIdeal.main_arg2)
          ∧ r.2.mem ((c.tc : Thread Cert.InBwdIdeal.nD Cert.InBwdIdeal.τ).loc Cert.InBwdIdeal.main_arg3) = m ((c.tc : Thread Cert.InBwdIdeal.nD Cert.InBwdIdeal.τ).loc Cert.InBwdIdeal.main_arg3)
          ∧ r.2.mem ((c.tc : Thread Cert.InBwdIdeal.nD Cert.InBwdIdeal.τ).loc Cert.InBwdIdeal.main_arg4) = m ((c.tc : Thread Cert.InBwdIdeal.nD Cert.InBwdIdeal.τ).loc Cert.InBwdIdeal.main_arg4)
          ∧ r.2.mem ((c.tc : Thread Cert.InBwdIdeal.nD Cert.InBwdIdeal.τ).loc Cert.InBwdIdeal.main_arg5) = m ((c.tc : Thread Cert.InBwdIdeal.nD Cert.InBwdIdeal.τ).loc Cert.InBwdIdeal.main_arg5)
          ∧ r.2.mem ((c.tc : Thread Cert.InBwdIdeal.nD Cert.InBwdIdeal.τ).loc Cert.InBwdIdeal.main_arg6) = m ((c.tc : Thread Cert.InBwdIdeal.nD Cert.InBwdIdeal.τ).loc Cert.InBwdIdeal.main_arg6)
          ∧ r.2.mem ((c.tc : Thread Cert.InBwdIdeal.nD Cert.InBwdIdeal.τ).loc Cert.InBwdIdeal.main_arg7) = m ((c.tc : Thread Cert.InBwdIdeal.nD Cert.InBwdIdeal.τ).loc Cert.InBwdIdeal.main_arg7))
      ∧ θ_run (Cert.InBwdRefIdeal.defs (F := Ideal)) (onTc (τ := Cert.InBwdRefIdeal.τ) (Cert.InBwdRefIdeal.main (F := Ideal))) ⟨m', fun _ => 0, g'⟩ (fun r => ∀ c : Dev Cert.InBwdRefIdeal.nD,
          r.2.mem ((c.tc : Thread Cert.InBwdRefIdeal.nD Cert.InBwdRefIdeal.τ).loc Cert.InBwdRefIdeal.main_v148) = v0 c
          ∧ r.2.mem ((c.tc : Thread Cert.InBwdRefIdeal.nD Cert.InBwdRefIdeal.τ).loc Cert.InBwdRefIdeal.main_v149) = v1 c
          ∧ r.2.mem ((c.tc : Thread Cert.InBwdRefIdeal.nD Cert.InBwdRefIdeal.τ).loc Cert.InBwdRefIdeal.main_v147) = v2 c
          ∧ r.2.mem ((c.tc : Thread Cert.InBwdRefIdeal.nD Cert.InBwdRefIdeal.τ).loc Cert.InBwdRefIdeal.main_arg0) = m' ((c.tc : Thread Cert.InBwdRefIdeal.nD Cert.InBwdRefIdeal.τ).loc Cert.InBwdRefIdeal.main_arg0)
          ∧ r.2.mem ((c.tc : Thread Cert.InBwdRefIdeal.nD Cert.InBwdRefIdeal.τ).loc Cert.InBwdRefIdeal.main_arg1) = m' ((c.tc : Thread Cert.InBwdRefIdeal.nD Cert.InBwdRefIdeal.τ).loc Cert.InBwdRefIdeal.main_arg1)
          ∧ r.2.mem ((c.tc : Thread Cert.InBwdRefIdeal.nD Cert.InBwdRefIdeal.τ).loc Cert.InBwdRefIdeal.main_arg2) = m' ((c.tc : Thread Cert.InBwdRefIdeal.nD Cert.InBwdRefIdeal.τ).loc Cert.InBwdRefIdeal.main_arg2)
          ∧ r.2.mem ((c.tc : Thread Cert.InBwdRefIdeal.nD Cert.InBwdRefIdeal.τ).loc Cert.InBwdRefIdeal.main_arg3) = m' ((c.tc : Thread Cert.InBwdRefIdeal.nD Cert.InBwdRefIdeal.τ).loc Cert.InBwdRefIdeal.main_arg3)
          ∧ r.2.mem ((c.tc : Thread Cert.InBwdRefIdeal.nD Cert.InBwdRefIdeal.τ).loc Cert.InBwdRefIdeal.main_arg4) = m' ((c.tc : Thread Cert.InBwdRefIdeal.nD Cert.InBwdRefIdeal.τ).loc Cert.InBwdRefIdeal.main_arg4)
          ∧ r.2.mem ((c.tc : Thread Cert.InBwdRefIdeal.nD Cert.InBwdRefIdeal.τ).loc Cert.InBwdRefIdeal.main_arg5) = m' ((c.tc : Thread Cert.InBwdRefIdeal.nD Cert.InBwdRefIdeal.τ).loc Cert.InBwdRefIdeal.main_arg5)
          ∧ r.2.mem ((c.tc : Thread Cert.InBwdRefIdeal.nD Cert.InBwdRefIdeal.τ).loc Cert.InBwdRefIdeal.main_arg6) = m' ((c.tc : Thread Cert.InBwdRefIdeal.nD Cert.InBwdRefIdeal.τ).loc Cert.InBwdRefIdeal.main_arg6)
          ∧ r.2.mem ((c.tc : Thread Cert.InBwdRefIdeal.nD Cert.InBwdRefIdeal.τ).loc Cert.InBwdRefIdeal.main_arg7) = m' ((c.tc : Thread Cert.InBwdRefIdeal.nD Cert.InBwdRefIdeal.τ).loc Cert.InBwdRefIdeal.main_arg7))

def Claim : Prop :=
  ∃ (hKernel : Cert.Kernel.Facts) (hKernelIdeal : Cert.KernelIdeal.Facts) (hReferenceIdeal : Cert.ReferenceIdeal.Facts) (hGradGateUp : Cert.GradGateUp.Facts) (hGradGateUpIdeal : Cert.GradGateUpIdeal.Facts) (hGradGateUpRefIdeal : Cert.GradGateUpRefIdeal.Facts) (hGradDown : Cert.GradDown.Facts) (hGradDownIdeal : Cert.GradDownIdeal.Facts) (hGradDownRefIdeal : Cert.GradDownRefIdeal.Facts) (hGradIn : Cert.GradIn.Facts) (hGradInIdeal : Cert.GradInIdeal.Facts) (hGradInRefIdeal : Cert.GradInRefIdeal.Facts) (hGradOut : Cert.GradOut.Facts) (hGradOutIdeal : Cert.GradOutIdeal.Facts) (hGradOutRefIdeal : Cert.GradOutRefIdeal.Facts) (hFfnBwd : Cert.FfnBwd.Facts) (hFfnBwdIdeal : Cert.FfnBwdIdeal.Facts) (hFfnBwdRefIdeal : Cert.FfnBwdRefIdeal.Facts) (hFfnFwd : Cert.FfnFwd.Facts) (hFfnFwdIdeal : Cert.FfnFwdIdeal.Facts) (hFfnFwdRefIdeal : Cert.FfnFwdRefIdeal.Facts) (hInBwd : Cert.InBwd.Facts) (hInBwdIdeal : Cert.InBwdIdeal.Facts) (hInBwdRefIdeal : Cert.InBwdRefIdeal.Facts) (hPre_finite : Cert.Pre_finite.Facts) (hPre_finite_ffn : Cert.Pre_finite_ffn.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_GradGateUp (hGradGateUp := hGradGateUp)
    ∧ quiescent_GradGateUpIdeal (hGradGateUpIdeal := hGradGateUpIdeal)
    ∧ quiescent_GradGateUpRefIdeal (hGradGateUpRefIdeal := hGradGateUpRefIdeal)
    ∧ quiescent_GradDown (hGradDown := hGradDown)
    ∧ quiescent_GradDownIdeal (hGradDownIdeal := hGradDownIdeal)
    ∧ quiescent_GradDownRefIdeal (hGradDownRefIdeal := hGradDownRefIdeal)
    ∧ quiescent_GradIn (hGradIn := hGradIn)
    ∧ quiescent_GradInIdeal (hGradInIdeal := hGradInIdeal)
    ∧ quiescent_GradInRefIdeal (hGradInRefIdeal := hGradInRefIdeal)
    ∧ quiescent_GradOut (hGradOut := hGradOut)
    ∧ quiescent_GradOutIdeal (hGradOutIdeal := hGradOutIdeal)
    ∧ quiescent_GradOutRefIdeal (hGradOutRefIdeal := hGradOutRefIdeal)
    ∧ quiescent_FfnBwd (hFfnBwd := hFfnBwd)
    ∧ quiescent_FfnBwdIdeal (hFfnBwdIdeal := hFfnBwdIdeal)
    ∧ quiescent_FfnBwdIdeal_pre_finite_ffn (hFfnBwdIdeal := hFfnBwdIdeal) (hPre_finite_ffn := hPre_finite_ffn)
    ∧ quiescent_FfnBwdRefIdeal (hFfnBwdRefIdeal := hFfnBwdRefIdeal)
    ∧ quiescent_FfnBwdRefIdeal_pre_finite_ffn (hFfnBwdRefIdeal := hFfnBwdRefIdeal) (hPre_finite_ffn := hPre_finite_ffn)
    ∧ quiescent_FfnFwd (hFfnFwd := hFfnFwd)
    ∧ quiescent_FfnFwdIdeal (hFfnFwdIdeal := hFfnFwdIdeal)
    ∧ quiescent_FfnFwdRefIdeal (hFfnFwdRefIdeal := hFfnFwdRefIdeal)
    ∧ quiescent_InBwd (hInBwd := hInBwd)
    ∧ quiescent_InBwdIdeal (hInBwdIdeal := hInBwdIdeal)
    ∧ quiescent_InBwdRefIdeal (hInBwdRefIdeal := hInBwdRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_GradGateUp_GradGateUpIdeal
    ∧ algebraic_GradGateUpIdeal_GradGateUpRefIdeal (hGradGateUpIdeal := hGradGateUpIdeal) (hGradGateUpRefIdeal := hGradGateUpRefIdeal)
    ∧ preserves_GradDown_GradDownIdeal
    ∧ algebraic_GradDownIdeal_GradDownRefIdeal (hGradDownIdeal := hGradDownIdeal) (hGradDownRefIdeal := hGradDownRefIdeal)
    ∧ preserves_GradIn_GradInIdeal
    ∧ algebraic_GradInIdeal_GradInRefIdeal (hGradInIdeal := hGradInIdeal) (hGradInRefIdeal := hGradInRefIdeal)
    ∧ preserves_GradOut_GradOutIdeal
    ∧ algebraic_GradOutIdeal_GradOutRefIdeal (hGradOutIdeal := hGradOutIdeal) (hGradOutRefIdeal := hGradOutRefIdeal)
    ∧ preserves_FfnBwd_FfnBwdIdeal
    ∧ algebraic_FfnBwdIdeal_FfnBwdRefIdeal_pre_finite_ffn (hFfnBwdIdeal := hFfnBwdIdeal) (hFfnBwdRefIdeal := hFfnBwdRefIdeal) (hPre_finite_ffn := hPre_finite_ffn)
    ∧ preserves_FfnFwd_FfnFwdIdeal
    ∧ algebraic_FfnFwdIdeal_FfnFwdRefIdeal (hFfnFwdIdeal := hFfnFwdIdeal) (hFfnFwdRefIdeal := hFfnFwdRefIdeal)
    ∧ preserves_InBwd_InBwdIdeal
    ∧ algebraic_InBwdIdeal_InBwdRefIdeal (hInBwdIdeal := hInBwdIdeal) (hInBwdRefIdeal := hInBwdRefIdeal)
-- ==== Pre_finite.lean ====
abbrev S8192x2048 : Shape := ⟨2, ![8192, 2048]⟩
abbrev S2x512 : Shape := ⟨2, ![2, 512]⟩
abbrev S1x512 : Shape := ⟨2, ![1, 512]⟩
abbrev S8192x512 : Shape := ⟨2, ![8192, 512]⟩
abbrev S_ : Shape := ⟨0, ![]⟩

class Facts : Prop where
  bcast_S_S8192x2048 : S_.BroadcastsInDim S8192x2048 (![] : Fin 0 → Fin S8192x2048.rank)
  bcast_S_S2x512 : S_.BroadcastsInDim S2x512 (![] : Fin 0 → Fin S2x512.rank)
  bcast_S_S1x512 : S_.BroadcastsInDim S1x512 (![] : Fin 0 → Fin S1x512.rank)
  bcast_S_S8192x512 : S_.BroadcastsInDim S8192x512 (![] : Fin 0 → Fin S8192x512.rank)

variable [Facts]

def fn {F : FTy → Type} [FloatOps F] (main_arg0 : FVec F S8192x2048 .f32) (main_arg1 : FVec F S2x512 .f32) (main_arg2 : FVec F S1x512 .f32) (main_arg3 : FVec F S8192x512 .f32) : IVec S8192x2048 1 × IVec S2x512 1 × IVec S1x512 1 × IVec S8192x512 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_v3 : FVec F S2x512 .f32 := Host.absf main_arg1
  let main_cst_0 : FVec F S_ .f32 := constant S_ .f32 0x7F800000#32
  let main_v4 : FVec F S2x512 .f32 := broadcastInDim S2x512 ![] bcast_S_S2x512 main_cst_0
  let main_v5 : IVec S2x512 1 := cmpf .olt main_v3 main_v4
  let main_v6 : FVec F S1x512 .f32 := Host.absf main_arg2
  let main_cst_1 : FVec F S_ .f32 := constant S_ .f32 0x7F800000#32
  let main_v7 : FVec F S1x512 .f32 := broadcastInDim S1x512 ![] bcast_S_S1x512 main_cst_1
  let main_v8 : IVec S1x512 1 := cmpf .olt main_v6 main_v7
  let main_v9 : FVec F S8192x512 .f32 := Host.absf main_arg3
  let main_cst_2 : FVec F S_ .f32 := constant S_ .f32 0x7F800000#32
  let main_v10 : FVec F S8192x512 .f32 := broadcastInDim S8192x512 ![] bcast_S_S8192x512 main_cst_2
  let main_v11 : IVec S8192x512 1 := cmpf .olt main_v9 main_v10
  (main_v2, main_v5, main_v8, main_v11)
-- ==== Pre_finite_ffn.lean ====
abbrev S8192x1024 : Shape := ⟨2, ![8192, 1024]⟩
abbrev S8192x512 : Shape := ⟨2, ![8192, 512]⟩
abbrev S1024x1024 : Shape := ⟨2, ![1024, 1024]⟩
abbrev S1x1024 : Shape := ⟨2, ![1, 1024]⟩
abbrev S1024x5632 : Shape := ⟨2, ![1024, 5632]⟩
abbrev S2816x1024 : Shape := ⟨2, ![2816, 1024]⟩
abbrev S_ : Shape := ⟨0, ![]⟩

class Facts : Prop where
  bcast_S_S8192x1024 : S_.BroadcastsInDim S8192x1024 (![] : Fin 0 → Fin S8192x1024.rank)
  bcast_S_S8192x512 : S_.BroadcastsInDim S8192x512 (![] : Fin 0 → Fin S8192x512.rank)
  bcast_S_S1024x1024 : S_.BroadcastsInDim S1024x1024 (![] : Fin 0 → Fin S1024x1024.rank)
  bcast_S_S1x1024 : S_.BroadcastsInDim S1x1024 (![] : Fin 0 → Fin S1x1024.rank)
  bcast_S_S1024x5632 : S_.BroadcastsInDim S1024x5632 (![] : Fin 0 → Fin S1024x5632.rank)
  bcast_S_S2816x1024 : S_.BroadcastsInDim S2816x1024 (![] : Fin 0 → Fin S2816x1024.rank)

variable [Facts]

def fn_part1 {F : FTy → Type} [FloatOps F] (main_arg6 : FVec F S1024x5632 .f32) (main_arg7 : FVec F S2816x1024 .f32) (main_v2 : IVec S8192x1024 1) (main_v5 : IVec S8192x512 1) (main_v8 : IVec S8192x512 1) (main_v11 : IVec S8192x1024 1) (main_v14 : IVec S1024x1024 1) (main_v17 : IVec S1x1024 1) : IVec S8192x1024 1 × IVec S8192x512 1 × IVec S8192x512 1 × IVec S8192x1024 1 × IVec S1024x1024 1 × IVec S1x1024 1 × IVec S1024x5632 1 × IVec S2816x1024 1 :=
  let main_v18 : FVec F S1024x5632 .f32 := Host.absf main_arg6
  let main_cst_5 : FVec F S_ .f32 := constant S_ .f32 0x7F800000#32
  let main_v19 : FVec F S1024x5632 .f32 := broadcastInDim S1024x5632 ![] bcast_S_S1024x5632 main_cst_5
  let main_v20 : IVec S1024x5632 1 := cmpf .olt main_v18 main_v19
  let main_v21 : FVec F S2816x1024 .f32 := Host.absf main_arg7
  let main_cst_6 : FVec F S_ .f32 := constant S_ .f32 0x7F800000#32
  let main_v22 : FVec F S2816x1024 .f32 := broadcastInDim S2816x1024 ![] bcast_S_S2816x1024 main_cst_6
  let main_v23 : IVec S2816x1024 1 := cmpf .olt main_v21 main_v22
  (main_v2, main_v5, main_v8, main_v11, main_v14, main_v17, main_v20, main_v23)

def fn {F : FTy → Type} [FloatOps F] (main_arg0 : FVec F S8192x1024 .f32) (main_arg1 : FVec F S8192x512 .f32) (main_arg2 : FVec F S8192x512 .f32) (main_arg3 : FVec F S8192x1024 .f32) (main_arg4 : FVec F S1024x1024 .f32) (main_arg5 : FVec F S1x1024 .f32) (main_arg6 : FVec F S1024x5632 .f32) (main_arg7 : FVec F S2816x1024 .f32) : IVec S8192x1024 1 × IVec S8192x512 1 × IVec S8192x512 1 × IVec S8192x1024 1 × IVec S1024x1024 1 × IVec S1x1024 1 × IVec S1024x5632 1 × IVec S2816x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S8192x512 .f32 := Host.absf main_arg1
  let main_cst_0 : FVec F S_ .f32 := constant S_ .f32 0x7F800000#32
  let main_v4 : FVec F S8192x512 .f32 := broadcastInDim S8192x512 ![] bcast_S_S8192x512 main_cst_0
  let main_v5 : IVec S8192x512 1 := cmpf .olt main_v3 main_v4
  let main_v6 : FVec F S8192x512 .f32 := Host.absf main_arg2
  let main_cst_1 : FVec F S_ .f32 := constant S_ .f32 0x7F800000#32
  let main_v7 : FVec F S8192x512 .f32 := broadcastInDim S8192x512 ![] bcast_S_S8192x512 main_cst_1
  let main_v8 : IVec S8192x512 1 := cmpf .olt main_v6 main_v7
  let main_v9 : FVec F S8192x1024 .f32 := Host.absf main_arg3
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_v12 : FVec F S1024x1024 .f32 := Host.absf main_arg4
  let main_cst_3 : FVec F S_ .f32 := constant S_ .f32 0x7F800000#32
  let main_v13 : FVec F S1024x1024 .f32 := broadcastInDim S1024x1024 ![] bcast_S_S1024x1024 main_cst_3
  let main_v14 : IVec S1024x1024 1 := cmpf .olt main_v12 main_v13
  let main_v15 : FVec F S1x1024 .f32 := Host.absf main_arg5
  let main_cst_4 : FVec F S_ .f32 := constant S_ .f32 0x7F800000#32
  let main_v16 : FVec F S1x1024 .f32 := broadcastInDim S1x1024 ![] bcast_S_S1x1024 main_cst_4
  let main_v17 : IVec S1x1024 1 := cmpf .olt main_v15 main_v16
  fn_part1 (F := F) main_arg6 main_arg7 main_v2 main_v5 main_v8 main_v11 main_v14 main_v17
-- ==== Kernel.lean ====
abbrev S8192x2048 : Shape := ⟨2, ![8192, 2048]⟩
abbrev S2x512 : Shape := ⟨2, ![2, 512]⟩
abbrev S1x512 : Shape := ⟨2, ![1, 512]⟩
abbrev S8192x512 : Shape := ⟨2, ![8192, 512]⟩
abbrev S_ : Shape := ⟨0, ![]⟩
abbrev S512 : Shape := ⟨1, ![512]⟩
abbrev S8192x4x128 : Shape := ⟨3, ![8192, 4, 128]⟩
abbrev S8192x8192 : Shape := ⟨2, ![8192, 8192]⟩
abbrev S8192x1x4x128 : Shape := ⟨4, ![8192, 1, 4, 128]⟩
abbrev S1x8192x4x128 : Shape := ⟨4, ![1, 8192, 4, 128]⟩
abbrev S8192x8192x4x128 : Shape := ⟨4, ![8192, 8192, 4, 128]⟩
abbrev S8192x8192x1x1 : Shape := ⟨4, ![8192, 8192, 1, 1]⟩
abbrev S8192x8192x4 : Shape := ⟨3, ![8192, 8192, 4]⟩
abbrev S4x128x8192 : Shape := ⟨3, ![4, 128, 8192]⟩
abbrev S64x128x4x128 : Shape := ⟨4, ![64, 128, 4, 128]⟩
abbrev S64x1x4x128 : Shape := ⟨4, ![64, 1, 4, 128]⟩
abbrev S64x4x128 : Shape := ⟨3, ![64, 4, 128]⟩
abbrev S64x8192 : Shape := ⟨2, ![64, 8192]⟩
abbrev S64x8192x1x1 : Shape := ⟨4, ![64, 8192, 1, 1]⟩
abbrev S64x8192x4x128 : Shape := ⟨4, ![64, 8192, 4, 128]⟩
abbrev S4x128x64x128 : Shape := ⟨4, ![4, 128, 64, 128]⟩
abbrev S64x4x128x128 : Shape := ⟨4, ![64, 4, 128, 128]⟩
abbrev S8x512 : Shape := ⟨2, ![8, 512]⟩
abbrev S256x2048 : Shape := ⟨2, ![256, 2048]⟩
abbrev S256x512 : Shape := ⟨2, ![256, 512]⟩
abbrev S2x4x128x128 : Shape := ⟨4, ![2, 4, 128, 128]⟩
abbrev S4x128x128 : Shape := ⟨3, ![4, 128, 128]⟩
abbrev S128x128 : Shape := ⟨2, ![128, 128]⟩
abbrev S128x1024 : Shape := ⟨2, ![128, 1024]⟩
abbrev S128x2048 : Shape := ⟨2, ![128, 2048]⟩
abbrev S128x512 : Shape := ⟨2, ![128, 512]⟩
abbrev S16x512 : Shape := ⟨2, ![16, 512]⟩
abbrev S128 : Shape := ⟨1, ![128]⟩
abbrev S128x1 : Shape := ⟨2, ![128, 1]⟩
abbrev S1x1x128x128 : Shape := ⟨4, ![1, 1, 128, 128]⟩
abbrev S1x128 : Shape := ⟨2, ![1, 128]⟩
abbrev S1x128x128 : Shape := ⟨3, ![1, 128, 128]⟩
abbrev S16x128 : Shape := ⟨2, ![16, 128]⟩

abbrev nBuf : Space → Nat
  | .hbm => 126
  | .vmem => 14
  | .smem => 0
  | _ => 0

abbrev bufTy : (tb : Table) → Fin (tcTables nBuf tb) → BufTy
  | .hbm, ⟨0, _⟩ => ⟨S8192x2048, .f32⟩
  | .hbm, ⟨1, _⟩ => ⟨S2x512, .f32⟩
  | .hbm, ⟨2, _⟩ => ⟨S1x512, .f32⟩
  | .hbm, ⟨3, _⟩ => ⟨S8192x512, .f32⟩
  | .hbm, ⟨4, _⟩ => ⟨S_, .f32⟩
  | .hbm, ⟨5, _⟩ => ⟨S512, .f32⟩
  | .hbm, ⟨6, _⟩ => ⟨S_, .f32⟩
  | .hbm, ⟨7, _⟩ => ⟨S512, .f32⟩
  | .hbm, ⟨8, _⟩ => ⟨S512, .f32⟩
  | .hbm, ⟨9, _⟩ => ⟨S1x512, .f32⟩
  | .hbm, ⟨10, _⟩ => ⟨S2x512, .f32⟩
  | .hbm, ⟨11, _⟩ => ⟨S2x512, .f32⟩
  | .hbm, ⟨12, _⟩ => ⟨S2x512, .f32⟩
  | .hbm, ⟨13, _⟩ => ⟨S_, .f32⟩
  | .hbm, ⟨14, _⟩ => ⟨S512, .f32⟩
  | .hbm, ⟨15, _⟩ => ⟨S1x512, .f32⟩
  | .hbm, ⟨16, _⟩ => ⟨S2x512, .f32⟩
  | .hbm, ⟨17, _⟩ => ⟨S2x512, .f32⟩
  | .hbm, ⟨18, _⟩ => ⟨S_, .f32⟩
  | .hbm, ⟨19, _⟩ => ⟨S_, .f32⟩
  | .hbm, ⟨20, _⟩ => ⟨S2x512, .f32⟩
  | .hbm, ⟨21, _⟩ => ⟨S1x512, .f32⟩
  | .hbm, ⟨22, _⟩ => ⟨S512, .f32⟩
  | .hbm, ⟨23, _⟩ => ⟨S_, .f32⟩
  | .hbm, ⟨24, _⟩ => ⟨S512, .f32⟩
  | .hbm, ⟨25, _⟩ => ⟨S512, .f32⟩
  | .hbm, ⟨26, _⟩ => ⟨S8192x512, .f32⟩
  | .hbm, ⟨27, _⟩ => ⟨S8192x512, .f32⟩
  | .hbm, ⟨28, _⟩ => ⟨S8192x512, .f32⟩
  | .hbm, ⟨29, _⟩ => ⟨S_, .f32⟩
  | .hbm, ⟨30, _⟩ => ⟨S8192x512, .f32⟩
  | .hbm, ⟨31, _⟩ => ⟨S8192x512, .f32⟩
  | .hbm, ⟨32, _⟩ => ⟨S_, .f32⟩
  | .hbm, ⟨33, _⟩ => ⟨S8192x512, .f32⟩
  | .hbm, ⟨34, _⟩ => ⟨S8192x512, .f32⟩
  | .hbm, ⟨35, _⟩ => ⟨S1x512, .f32⟩
  | .hbm, ⟨36, _⟩ => ⟨S8192x512, .f32⟩
  | .hbm, ⟨37, _⟩ => ⟨S8192x512, .f32⟩
  | .hbm, ⟨38, _⟩ => ⟨S1x512, .f32⟩
  | .hbm, ⟨39, _⟩ => ⟨S8192x512, .f32⟩
  | .hbm, ⟨40, _⟩ => ⟨S8192x512, .f32⟩
  | .hbm, ⟨41, _⟩ => ⟨S8192x512, .f32⟩
  | .hbm, ⟨42, _⟩ => ⟨S8192x512, .f32⟩
  | .hbm, ⟨43, _⟩ => ⟨S8192x512, .f32⟩
  | .hbm, ⟨44, _⟩ => ⟨S_, .f32⟩
  | .hbm, ⟨45, _⟩ => ⟨S8192x512, .f32⟩
  | .hbm, ⟨46, _⟩ => ⟨S8192x512, .f32⟩
  | .hbm, ⟨47, _⟩ => ⟨S_, .f32⟩
  | .hbm, ⟨48, _⟩ => ⟨S8192x512, .f32⟩
  | .hbm, ⟨49, _⟩ => ⟨S8192x512, .f32⟩
  | .hbm, ⟨50, _⟩ => ⟨S8192x512, .f32⟩
  | .hbm, ⟨51, _⟩ => ⟨S_, .f32⟩
  | .hbm, ⟨52, _⟩ => ⟨S8192x512, .f32⟩
  | .hbm, ⟨53, _⟩ => ⟨S8192x512, .f32⟩
  | .hbm, ⟨54, _⟩ => ⟨S8192x512, .f32⟩
  | .hbm, ⟨55, _⟩ => ⟨S8192x512, .f32⟩
  | .hbm, ⟨56, _⟩ => ⟨S8192x512, .f32⟩
  | .hbm, ⟨57, _⟩ => ⟨S_, .f32⟩
  | .hbm, ⟨58, _⟩ => ⟨S_, .f32⟩
  | .hbm, ⟨59, _⟩ => ⟨S8192x512, .f32⟩
  | .hbm, ⟨60, _⟩ => ⟨S8192x4x128, .f32⟩
  | .hbm, ⟨61, _⟩ => ⟨S8192x8192, .i32⟩
  | .hbm, ⟨62, _⟩ => ⟨S8192x8192, .i32⟩
  | .hbm, ⟨63, _⟩ => ⟨S8192x8192, .i1⟩
  | .hbm, ⟨64, _⟩ => ⟨S8192x1x4x128, .f32⟩
  | .hbm, ⟨65, _⟩ => ⟨S1x8192x4x128, .f32⟩
  | .hbm, ⟨66, _⟩ => ⟨S8192x8192x4x128, .f32⟩
  | .hbm, ⟨67, _⟩ => ⟨S8192x8192x4x128, .f32⟩
  | .hbm, ⟨68, _⟩ => ⟨S8192x8192x4x128, .f32⟩
  | .hbm, ⟨69, _⟩ => ⟨S8192x8192x1x1, .i1⟩
  | .hbm, ⟨70, _⟩ => ⟨S_, .f32⟩
  | .hbm, ⟨71, _⟩ => ⟨S_, .f32⟩
  | .hbm, ⟨72, _⟩ => ⟨S8192x8192x4x128, .i1⟩
  | .hbm, ⟨73, _⟩ => ⟨S8192x8192x4x128, .f32⟩
  | .hbm, ⟨74, _⟩ => ⟨S8192x8192x4x128, .f32⟩
  | .hbm, ⟨75, _⟩ => ⟨S8192x8192x4x128, .f32⟩
  | .hbm, ⟨76, _⟩ => ⟨S8192x4x128, .f32⟩
  | .hbm, ⟨77, _⟩ => ⟨S8192x1x4x128, .f32⟩
  | .hbm, ⟨78, _⟩ => ⟨S8192x4x128, .f32⟩
  | .hbm, ⟨79, _⟩ => ⟨S1x8192x4x128, .f32⟩
  | .hbm, ⟨80, _⟩ => ⟨S8192x8192x4x128, .f32⟩
  | .hbm, ⟨81, _⟩ => ⟨S8192x8192x4x128, .f32⟩
  | .hbm, ⟨82, _⟩ => ⟨S8192x8192x4x128, .f32⟩
  | .hbm, ⟨83, _⟩ => ⟨S8192x8192x4x128, .f32⟩
  | .hbm, ⟨84, _⟩ => ⟨S_, .f32⟩
  | .hbm, ⟨85, _⟩ => ⟨S8192x8192x4, .f32⟩
  | .hbm, ⟨86, _⟩ => ⟨S8192x4x128, .f32⟩
  | .hbm, ⟨87, _⟩ => ⟨S4x128x8192, .f32⟩
  | .hbm, ⟨88, _⟩ => ⟨S8192x4x128, .f32⟩
  | .hbm, ⟨89, _⟩ => ⟨S8192x512, .f32⟩
  | .hbm, ⟨90, _⟩ => ⟨S_, .f32⟩
  | .hbm, ⟨91, _⟩ => ⟨S_, .f32⟩
  | .hbm, ⟨92, _⟩ => ⟨S8192x512, .f32⟩
  | .hbm, ⟨93, _⟩ => ⟨S8192x4x128, .f32⟩
  | .hbm, ⟨94, _⟩ => ⟨S8192x4x128, .f32⟩
  | .hbm, ⟨95, _⟩ => ⟨S8192x4x128, .f32⟩
  | .hbm, ⟨96, _⟩ => ⟨S64x128x4x128, .f32⟩
  | .hbm, ⟨97, _⟩ => ⟨S64x1x4x128, .f32⟩
  | .hbm, ⟨98, _⟩ => ⟨S64x4x128, .f32⟩
  | .hbm, ⟨99, _⟩ => ⟨S64x8192, .i32⟩
  | .hbm, ⟨100, _⟩ => ⟨S64x8192, .i32⟩
  | .hbm, ⟨101, _⟩ => ⟨S_, .i32⟩
  | .hbm, ⟨102, _⟩ => ⟨S64x8192, .i32⟩
  | .hbm, ⟨103, _⟩ => ⟨S64x8192, .i32⟩
  | .hbm, ⟨104, _⟩ => ⟨S64x8192, .i1⟩
  | .hbm, ⟨105, _⟩ => ⟨S64x8192x1x1, .i1⟩
  | .hbm, ⟨106, _⟩ => ⟨S64x1x4x128, .f32⟩
  | .hbm, ⟨107, _⟩ => ⟨S1x8192x4x128, .f32⟩
  | .hbm, ⟨108, _⟩ => ⟨S64x8192x4x128, .f32⟩
  | .hbm, ⟨109, _⟩ => ⟨S64x8192x4x128, .f32⟩
  | .hbm, ⟨110, _⟩ => ⟨S64x8192x4x128, .f32⟩
  | .hbm, ⟨111, _⟩ => ⟨S_, .f32⟩
  | .hbm, ⟨112, _⟩ => ⟨S_, .f32⟩
  | .hbm, ⟨113, _⟩ => ⟨S64x8192x4x128, .i1⟩
  | .hbm, ⟨114, _⟩ => ⟨S64x8192x4x128, .f32⟩
  | .hbm, ⟨115, _⟩ => ⟨S64x8192x4x128, .f32⟩
  | .hbm, ⟨116, _⟩ => ⟨S64x8192x4x128, .f32⟩
  | .hbm, ⟨117, _⟩ => ⟨S8192x4x128, .f32⟩
  | .hbm, ⟨118, _⟩ => ⟨S1x8192x4x128, .f32⟩
  | .hbm, ⟨119, _⟩ => ⟨S64x8192x4x128, .f32⟩
  | .hbm, ⟨120, _⟩ => ⟨S64x8192x4x128, .f32⟩
  | .hbm, ⟨121, _⟩ => ⟨S8192x4x128, .f32⟩
  | .hbm, ⟨122, _⟩ => ⟨S4x128x64x128, .f32⟩
  | .hbm, ⟨123, _⟩ => ⟨S64x4x128x128, .f32⟩
  | .hbm, ⟨124, _⟩ => ⟨S8192x2048, .bf16⟩
  | .hbm, ⟨125, _⟩ => ⟨S8x512, .f32⟩
  | .local _ .vmem, ⟨0, _⟩ => ⟨S256x2048, .f32⟩
  | .local _ .vmem, ⟨1, _⟩ => ⟨S256x2048, .f32⟩
  | .local _ .vmem, ⟨2, _⟩ => ⟨S2x512, .f32⟩
  | .local _ .vmem, ⟨3, _⟩ => ⟨S1x512, .f32⟩
  | .local _ .vmem, ⟨4, _⟩ => ⟨S256x512, .f32⟩
  | .local _ .vmem, ⟨5, _⟩ => ⟨S256x512, .f32⟩
  | .local _ .vmem, ⟨6, _⟩ => ⟨S2x4x128x128, .f32⟩
  | .local _ .vmem, ⟨7, _⟩ => ⟨S2x4x128x128, .f32⟩
  | .local _ .vmem, ⟨8, _⟩ => ⟨S256x512, .f32⟩
  | .local _ .vmem, ⟨9, _⟩ => ⟨S256x512, .f32⟩
  | .local _ .vmem, ⟨10, _⟩ => ⟨S256x2048, .bf16⟩
  | .local _ .vmem, ⟨11, _⟩ => ⟨S256x2048, .bf16⟩
  | .local _ .vmem, ⟨12, _⟩ => ⟨S8x512, .f32⟩
  | .local _ .vmem, ⟨13, _⟩ => ⟨S4x128x128, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_call0_call0_cst : Ref sig .tc := ⟨.hbm, 18, rfl⟩
abbrev main_call0_call0_v0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_call1_v0 : Ref sig .tc := ⟨.hbm, 42, rfl⟩
abbrev main_call1_v1 : Ref sig .tc := ⟨.hbm, 43, rfl⟩
abbrev main_call1_cst : Ref sig .tc := ⟨.hbm, 44, rfl⟩
abbrev main_call1_v2 : Ref sig .tc := ⟨.hbm, 45, rfl⟩
abbrev main_call1_v3 : Ref sig .tc := ⟨.hbm, 46, rfl⟩
abbrev main_call1_cst_0 : Ref sig .tc := ⟨.hbm, 47, rfl⟩
abbrev main_call1_v4 : Ref sig .tc := ⟨.hbm, 48, rfl⟩
abbrev main_call1_v5 : Ref sig .tc := ⟨.hbm, 49, rfl⟩
abbrev main_v30 : Ref sig .tc := ⟨.hbm, 50, rfl⟩
abbrev main_cst_5 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_call2_call0_cst : Ref sig .tc := ⟨.hbm, 57, rfl⟩
abbrev main_call2_call0_v0 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_cst_6 : Ref sig .tc := ⟨.hbm, 70, rfl⟩
abbrev main_call3_v0 : Ref sig .tc := ⟨.hbm, 71, rfl⟩
abbrev main_call3_v1 : Ref sig .tc := ⟨.hbm, 72, rfl⟩
abbrev main_call3_v2 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_cst_7 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_call4_call0_cst : Ref sig .tc := ⟨.hbm, 90, rfl⟩
abbrev main_call4_call0_v0 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_c : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_cst_8 : Ref sig .tc := ⟨.hbm, 111, rfl⟩
abbrev main_call5_v0 : Ref sig .tc := ⟨.hbm, 112, rfl⟩
abbrev main_call5_v1 : Ref sig .tc := ⟨.hbm, 113, rfl⟩
abbrev main_call5_v2 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89_0 : Ref sig .tc := ⟨.hbm, 124, rfl⟩
abbrev main_v89_1 : Ref sig .tc := ⟨.hbm, 125, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_4 (i : grid0.Coords) : Fin 4 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_5 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x4x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ReferenceIdeal.lean ====
abbrev S8192x2048 : Shape := ⟨2, ![8192, 2048]⟩
abbrev S2x512 : Shape := ⟨2, ![2, 512]⟩
abbrev S1x512 : Shape := ⟨2, ![1, 512]⟩
abbrev S8192x512 : Shape := ⟨2, ![8192, 512]⟩
abbrev S_ : Shape := ⟨0, ![]⟩
abbrev S512 : Shape := ⟨1, ![512]⟩
abbrev S8192x4x128 : Shape := ⟨3, ![8192, 4, 128]⟩
abbrev S8192x8192 : Shape := ⟨2, ![8192, 8192]⟩
abbrev S8192x1x4x128 : Shape := ⟨4, ![8192, 1, 4, 128]⟩
abbrev S1x8192x4x128 : Shape := ⟨4, ![1, 8192, 4, 128]⟩
abbrev S8192x8192x4x128 : Shape := ⟨4, ![8192, 8192, 4, 128]⟩
abbrev S8192x8192x1x1 : Shape := ⟨4, ![8192, 8192, 1, 1]⟩
abbrev S8192x8192x4 : Shape := ⟨3, ![8192, 8192, 4]⟩
abbrev S4x128x8192 : Shape := ⟨3, ![4, 128, 8192]⟩
abbrev S8192x4 : Shape := ⟨2, ![8192, 4]⟩
abbrev S8192x4x1 : Shape := ⟨3, ![8192, 4, 1]⟩
abbrev S4x8192x8192 : Shape := ⟨3, ![4, 8192, 8192]⟩
abbrev S6x512 : Shape := ⟨2, ![6, 512]⟩
abbrev S8x512 : Shape := ⟨2, ![8, 512]⟩

abbrev nBuf : Space → Nat
  | .hbm => 242
  | .vmem => 0
  | .smem => 0
  | _ => 0

abbrev hbmTy0_0 (i : Nat) : BufTy := match i % 128 with
  | 0 => ⟨S8192x2048, .f32⟩
  | 1 => ⟨S2x512, .f32⟩
  | 2 => ⟨S1x512, .f32⟩
  | 3 => ⟨S8192x512, .f32⟩
  | 4 => ⟨S8192x512, .f32⟩
  | 5 => ⟨S8192x512, .f32⟩
  | 6 => ⟨S8192x512, .f32⟩
  | 7 => ⟨S8192x512, .f32⟩
  | 8 => ⟨S_, .f32⟩
  | 9 => ⟨S512, .f32⟩
  | 10 => ⟨S_, .f32⟩
  | 11 => ⟨S512, .f32⟩
  | 12 => ⟨S512, .f32⟩
  | 13 => ⟨S1x512, .f32⟩
  | 14 => ⟨S2x512, .f32⟩
  | 15 => ⟨S2x512, .f32⟩
  | 16 => ⟨S2x512, .f32⟩
  | 17 => ⟨S_, .f32⟩
  | 18 => ⟨S512, .f32⟩
  | 19 => ⟨S1x512, .f32⟩
  | 20 => ⟨S2x512, .f32⟩
  | 21 => ⟨S2x512, .f32⟩
  | 22 => ⟨S_, .f32⟩
  | 23 => ⟨S_, .f32⟩
  | 24 => ⟨S2x512, .f32⟩
  | 25 => ⟨S1x512, .f32⟩
  | 26 => ⟨S512, .f32⟩
  | 27 => ⟨S512, .f32⟩
  | 28 => ⟨S_, .f32⟩
  | 29 => ⟨S512, .f32⟩
  | 30 => ⟨S512, .f32⟩
  | 31 => ⟨S8192x512, .f32⟩
  | 32 => ⟨S8192x512, .f32⟩
  | 33 => ⟨S_, .f32⟩
  | 34 => ⟨S8192x512, .f32⟩
  | 35 => ⟨S8192x512, .f32⟩
  | 36 => ⟨S_, .f32⟩
  | 37 => ⟨S8192x512, .f32⟩
  | 38 => ⟨S8192x512, .f32⟩
  | 39 => ⟨S_, .f32⟩
  | 40 => ⟨S8192x512, .f32⟩
  | 41 => ⟨S8192x512, .f32⟩
  | 42 => ⟨S8192x512, .f32⟩
  | 43 => ⟨S1x512, .f32⟩
  | 44 => ⟨S8192x512, .f32⟩
  | 45 => ⟨S8192x512, .f32⟩
  | 46 => ⟨S1x512, .f32⟩
  | 47 => ⟨S8192x512, .f32⟩
  | 48 => ⟨S8192x512, .f32⟩
  | 49 => ⟨S8192x512, .f32⟩
  | 50 => ⟨S8192x512, .f32⟩
  | 51 => ⟨S_, .f32⟩
  | 52 => ⟨S8192x512, .f32⟩
  | 53 => ⟨S8192x512, .f32⟩
  | 54 => ⟨S_, .f32⟩
  | 55 => ⟨S8192x512, .f32⟩
  | 56 => ⟨S8192x512, .f32⟩
  | 57 => ⟨S_, .f32⟩
  | 58 => ⟨S8192x512, .f32⟩
  | 59 => ⟨S8192x512, .f32⟩
  | 60 => ⟨S8192x512, .f32⟩
  | 61 => ⟨S8192x512, .f32⟩
  | 62 => ⟨S_, .f32⟩
  | 63 => ⟨S8192x512, .f32⟩
  | 64 => ⟨S8192x512, .f32⟩
  | 65 => ⟨S8192x512, .f32⟩
  | 66 => ⟨S_, .f32⟩
  | 67 => ⟨S_, .f32⟩
  | 68 => ⟨S8192x512, .f32⟩
  | 69 => ⟨S8192x4x128, .f32⟩
  | 70 => ⟨S8192x8192, .i32⟩
  | 71 => ⟨S8192x8192, .i32⟩
  | 72 => ⟨S8192x8192, .i1⟩
  | 73 => ⟨S8192x1x4x128, .f32⟩
  | 74 => ⟨S1x8192x4x128, .f32⟩
  | 75 => ⟨S8192x8192x4x128, .f32⟩
  | 76 => ⟨S8192x8192x4x128, .f32⟩
  | 77 => ⟨S8192x8192x4x128, .f32⟩
  | 78 => ⟨S8192x8192x1x1, .i1⟩
  | 79 => ⟨S_, .f32⟩
  | 80 => ⟨S_, .f32⟩
  | 81 => ⟨S8192x8192x4x128, .i1⟩
  | 82 => ⟨S8192x8192x4x128, .f32⟩
  | 83 => ⟨S8192x8192x4x128, .f32⟩
  | 84 => ⟨S_, .f32⟩
  | 85 => ⟨S8192x8192x4x128, .f32⟩
  | 86 => ⟨S8192x8192x4x128, .f32⟩
  | 87 => ⟨S8192x4x128, .f32⟩
  | 88 => ⟨S8192x1x4x128, .f32⟩
  | 89 => ⟨S8192x4x128, .f32⟩
  | 90 => ⟨S1x8192x4x128, .f32⟩
  | 91 => ⟨S8192x8192x4x128, .f32⟩
  | 92 => ⟨S8192x8192x4x128, .f32⟩
  | 93 => ⟨S8192x8192x4x128, .f32⟩
  | 94 => ⟨S8192x8192x4x128, .f32⟩
  | 95 => ⟨S_, .f32⟩
  | 96 => ⟨S8192x8192x4, .f32⟩
  | 97 => ⟨S8192x4x128, .f32⟩
  | 98 => ⟨S4x128x8192, .f32⟩
  | 99 => ⟨S8192x4x128, .f32⟩
  | 100 => ⟨S8192x4x128, .f32⟩
  | 101 => ⟨S_, .f32⟩
  | 102 => ⟨S8192x4, .f32⟩
  | 103 => ⟨S8192x4x1, .f32⟩
  | 104 => ⟨S_, .f32⟩
  | 105 => ⟨S8192x4x1, .f32⟩
  | 106 => ⟨S8192x4x1, .f32⟩
  | 107 => ⟨S_, .f32⟩
  | 108 => ⟨S8192x4x1, .f32⟩
  | 109 => ⟨S8192x4x1, .f32⟩
  | 110 => ⟨S8192x4x1, .f32⟩
  | 111 => ⟨S8192x4x1, .f32⟩
  | 112 => ⟨S_, .f32⟩
  | 113 => ⟨S8192x4x1, .f32⟩
  | 114 => ⟨S8192x4x1, .f32⟩
  | 115 => ⟨S8192x4x128, .f32⟩
  | 116 => ⟨S8192x4x128, .f32⟩
  | 117 => ⟨S8192x512, .f32⟩
  | 118 => ⟨S1x512, .f32⟩
  | 119 => ⟨S8192x512, .f32⟩
  | 120 => ⟨S8192x512, .f32⟩
  | 121 => ⟨S8192x512, .f32⟩
  | 122 => ⟨S8192x512, .f32⟩
  | 123 => ⟨S_, .f32⟩
  | 124 => ⟨S8192x512, .f32⟩
  | 125 => ⟨S8192x512, .f32⟩
  | 126 => ⟨S_, .f32⟩
  | 127 => ⟨S8192x512, .f32⟩
  | _ => ⟨S8192x2048, .f32⟩

abbrev hbmTy0_1 (i : Nat) : BufTy := match i % 128 with
  | 0 => ⟨S8192x512, .f32⟩
  | 1 => ⟨S_, .f32⟩
  | 2 => ⟨S8192x512, .f32⟩
  | 3 => ⟨S8192x512, .f32⟩
  | 4 => ⟨S8192x512, .f32⟩
  | 5 => ⟨S8192x512, .f32⟩
  | 6 => ⟨S8192x512, .f32⟩
  | 7 => ⟨S8192x512, .f32⟩
  | 8 => ⟨S8192x512, .f32⟩
  | 9 => ⟨S8192x512, .f32⟩
  | 10 => ⟨S8192x512, .f32⟩
  | 11 => ⟨S8192x512, .f32⟩
  | 12 => ⟨S8192x512, .f32⟩
  | 13 => ⟨S8192x512, .f32⟩
  | 14 => ⟨S_, .f32⟩
  | 15 => ⟨S512, .f32⟩
  | 16 => ⟨S1x512, .f32⟩
  | 17 => ⟨S8192x512, .f32⟩
  | 18 => ⟨S8192x512, .f32⟩
  | 19 => ⟨S_, .f32⟩
  | 20 => ⟨S512, .f32⟩
  | 21 => ⟨S8192x4x128, .f32⟩
  | 22 => ⟨S8192x4x128, .f32⟩
  | 23 => ⟨S_, .f32⟩
  | 24 => ⟨S8192x4, .f32⟩
  | 25 => ⟨S8192x4x1, .f32⟩
  | 26 => ⟨S8192x4x128, .f32⟩
  | 27 => ⟨S8192x4x128, .f32⟩
  | 28 => ⟨S8192x4x1, .f32⟩
  | 29 => ⟨S_, .f32⟩
  | 30 => ⟨S8192x4x1, .f32⟩
  | 31 => ⟨S8192x4x1, .f32⟩
  | 32 => ⟨S_, .f32⟩
  | 33 => ⟨S8192x4, .f32⟩
  | 34 => ⟨S8192x4x128, .f32⟩
  | 35 => ⟨S8192x4x128, .f32⟩
  | 36 => ⟨S8192x4x128, .f32⟩
  | 37 => ⟨S8192x4x128, .f32⟩
  | 38 => ⟨S8192x4x128, .f32⟩
  | 39 => ⟨S4x128x8192, .f32⟩
  | 40 => ⟨S4x8192x8192, .f32⟩
  | 41 => ⟨S8192x8192x4, .f32⟩
  | 42 => ⟨S4x128x8192, .f32⟩
  | 43 => ⟨S8192x4x128, .f32⟩
  | 44 => ⟨S8192x512, .f32⟩
  | 45 => ⟨S8192x8192x4x128, .f32⟩
  | 46 => ⟨S8192x8192x4x128, .f32⟩
  | 47 => ⟨S8192x8192x4x128, .f32⟩
  | 48 => ⟨S8192x8192x4x128, .f32⟩
  | 49 => ⟨S8192x8192x4x128, .f32⟩
  | 50 => ⟨S_, .f32⟩
  | 51 => ⟨S8192x4x128, .f32⟩
  | 52 => ⟨S1x8192x4x128, .f32⟩
  | 53 => ⟨S8192x8192x4x128, .f32⟩
  | 54 => ⟨S8192x8192x4x128, .f32⟩
  | 55 => ⟨S_, .f32⟩
  | 56 => ⟨S8192x4x128, .f32⟩
  | 57 => ⟨S8192x1x4x128, .f32⟩
  | 58 => ⟨S_, .f32⟩
  | 59 => ⟨S8192x4x128, .f32⟩
  | 60 => ⟨S8192x512, .f32⟩
  | 61 => ⟨S_, .f32⟩
  | 62 => ⟨S8192x4x128, .f32⟩
  | 63 => ⟨S8192x512, .f32⟩
  | 64 => ⟨S8192x8192x4x128, .f32⟩
  | 65 => ⟨S_, .f32⟩
  | 66 => ⟨S8192x8192x4x128, .f32⟩
  | 67 => ⟨S8192x8192x4x128, .f32⟩
  | 68 => ⟨S_, .f32⟩
  | 69 => ⟨S8192x4x128, .f32⟩
  | 70 => ⟨S8192x1x4x128, .f32⟩
  | 71 => ⟨S8192x8192x4x128, .f32⟩
  | 72 => ⟨S_, .f32⟩
  | 73 => ⟨S8192x4x128, .f32⟩
  | 74 => ⟨S1x8192x4x128, .f32⟩
  | 75 => ⟨S_, .f32⟩
  | 76 => ⟨S8192x4x128, .f32⟩
  | 77 => ⟨S_, .f32⟩
  | 78 => ⟨S8192x4x128, .f32⟩
  | 79 => ⟨S8192x4x128, .f32⟩
  | 80 => ⟨S8192x512, .f32⟩
  | 81 => ⟨S_, .f32⟩
  | 82 => ⟨S_, .f32⟩
  | 83 => ⟨S8192x512, .f32⟩
  | 84 => ⟨S8192x512, .f32⟩
  | 85 => ⟨S8192x512, .f32⟩
  | 86 => ⟨S8192x512, .f32⟩
  | 87 => ⟨S8192x512, .f32⟩
  | 88 => ⟨S8192x512, .f32⟩
  | 89 => ⟨S8192x512, .f32⟩
  | 90 => ⟨S8192x512, .f32⟩
  | 91 => ⟨S_, .f32⟩
  | 92 => ⟨S512, .f32⟩
  | 93 => ⟨S1x512, .f32⟩
  | 94 => ⟨S_, .f32⟩
  | 95 => ⟨S512, .f32⟩
  | 96 => ⟨S8192x512, .f32⟩
  | 97 => ⟨S8192x512, .f32⟩
  | 98 => ⟨S8192x512, .f32⟩
  | 99 => ⟨S_, .f32⟩
  | 100 => ⟨S512, .f32⟩
  | 101 => ⟨S1x512, .f32⟩
  | 102 => ⟨S_, .f32⟩
  | 103 => ⟨S512, .f32⟩
  | 104 => ⟨S8192x512, .f32⟩
  | 105 => ⟨S512, .f32⟩
  | 106 => ⟨S512, .f32⟩
  | 107 => ⟨S8192x2048, .f32⟩
  | 108 => ⟨S8192x2048, .bf16⟩
  | 109 => ⟨S1x512, .f32⟩
  | 110 => ⟨S1x512, .f32⟩
  | 111 => ⟨S_, .f32⟩
  | 112 => ⟨S6x512, .f32⟩
  | 113 => ⟨S8x512, .f32⟩
  | _ => ⟨S8192x2048, .f32⟩

abbrev hbmTy (i : Nat) : BufTy := match i / 128 with
  | 0 => hbmTy0_0 i
  | 1 => hbmTy0_1 i
  | _ => ⟨S8192x2048, .f32⟩

abbrev bufTy : (tb : Table) → Fin (tcTables nBuf tb) → BufTy
  | .hbm, ⟨i, _⟩ => hbmTy i
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_call0_call0_cst : Ref sig .tc := ⟨.hbm, 22, rfl⟩
abbrev main_call0_call0_v0 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_v26 : Ref sig .tc := ⟨.hbm, 38, rfl⟩
abbrev main_cst_5 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_call1_v0 : Ref sig .tc := ⟨.hbm, 49, rfl⟩
abbrev main_call1_v1 : Ref sig .tc := ⟨.hbm, 50, rfl⟩
abbrev main_call1_cst : Ref sig .tc := ⟨.hbm, 51, rfl⟩
abbrev main_call1_v2 : Ref sig .tc := ⟨.hbm, 52, rfl⟩
abbrev main_call1_v3 : Ref sig .tc := ⟨.hbm, 53, rfl⟩
abbrev main_call1_cst_0 : Ref sig .tc := ⟨.hbm, 54, rfl⟩
abbrev main_call1_v4 : Ref sig .tc := ⟨.hbm, 55, rfl⟩
abbrev main_v36_2 : Ref sig .tc := ⟨.hbm, 56, rfl⟩
abbrev main_call1_cst_1 : Ref sig .tc := ⟨.hbm, 57, rfl⟩
abbrev main_call1_v6 : Ref sig .tc := ⟨.hbm, 58, rfl⟩
abbrev main_call1_v7 : Ref sig .tc := ⟨.hbm, 59, rfl⟩
abbrev main_v36_1 : Ref sig .tc := ⟨.hbm, 60, rfl⟩
abbrev main_v36_0 : Ref sig .tc := ⟨.hbm, 61, rfl⟩
abbrev main_cst_6 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_call2_call0_cst : Ref sig .tc := ⟨.hbm, 66, rfl⟩
abbrev main_call2_call0_v0 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_cst_7 : Ref sig .tc := ⟨.hbm, 79, rfl⟩
abbrev main_call3_v0 : Ref sig .tc := ⟨.hbm, 80, rfl⟩
abbrev main_v51_1 : Ref sig .tc := ⟨.hbm, 81, rfl⟩
abbrev main_call3_v2 : Ref sig .tc := ⟨.hbm, 82, rfl⟩
abbrev main_v51_0 : Ref sig .tc := ⟨.hbm, 83, rfl⟩
abbrev main_call3_cst : Ref sig .tc := ⟨.hbm, 84, rfl⟩
abbrev main_v51_2 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_cst_8 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_cst_9 : Ref sig .tc := ⟨.hbm, 101, rfl⟩
abbrev main_v66 : Ref sig .tc := ⟨.hbm, 102, rfl⟩
abbrev main_v67 : Ref sig .tc := ⟨.hbm, 103, rfl⟩
abbrev main_cst_10 : Ref sig .tc := ⟨.hbm, 104, rfl⟩
abbrev main_v68 : Ref sig .tc := ⟨.hbm, 105, rfl⟩
abbrev main_v69 : Ref sig .tc := ⟨.hbm, 106, rfl⟩
abbrev main_cst_11 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_cst_12 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_call4_v0 : Ref sig .tc := ⟨.hbm, 121, rfl⟩
abbrev main_call4_v1 : Ref sig .tc := ⟨.hbm, 122, rfl⟩
abbrev main_call4_cst : Ref sig .tc := ⟨.hbm, 123, rfl⟩
abbrev main_call4_v2 : Ref sig .tc := ⟨.hbm, 124, rfl⟩
abbrev main_call4_v3 : Ref sig .tc := ⟨.hbm, 125, rfl⟩
abbrev main_call4_cst_0 : Ref sig .tc := ⟨.hbm, 126, rfl⟩
abbrev main_call4_v4 : Ref sig .tc := ⟨.hbm, 127, rfl⟩
abbrev main_v82_2 : Ref sig .tc := ⟨.hbm, 128, rfl⟩
abbrev main_call4_cst_1 : Ref sig .tc := ⟨.hbm, 129, rfl⟩
abbrev main_call4_v6 : Ref sig .tc := ⟨.hbm, 130, rfl⟩
abbrev main_call4_v7 : Ref sig .tc := ⟨.hbm, 131, rfl⟩
abbrev main_v82_1 : Ref sig .tc := ⟨.hbm, 132, rfl⟩
abbrev main_v82_0 : Ref sig .tc := ⟨.hbm, 133, rfl⟩
abbrev main_v83 : Ref sig .tc := ⟨.hbm, 134, rfl⟩
abbrev main_v84 : Ref sig .tc := ⟨.hbm, 135, rfl⟩
abbrev main_v85 : Ref sig .tc := ⟨.hbm, 136, rfl⟩
abbrev main_call5_v0 : Ref sig .tc := ⟨.hbm, 137, rfl⟩
abbrev main_call5_v1 : Ref sig .tc := ⟨.hbm, 138, rfl⟩
abbrev main_call5_v2 : Ref sig .tc := ⟨.hbm, 139, rfl⟩
abbrev main_v86 : Ref sig .tc := ⟨.hbm, 140, rfl⟩
abbrev main_v87 : Ref sig .tc := ⟨.hbm, 141, rfl⟩
abbrev main_cst_13 : Ref sig .tc := ⟨.hbm, 142, rfl⟩
abbrev main_v88 : Ref sig .tc := ⟨.hbm, 143, rfl⟩
abbrev main_v89 : Ref sig .tc := ⟨.hbm, 144, rfl⟩
abbrev main_v90 : Ref sig .tc := ⟨.hbm, 145, rfl⟩
abbrev main_v91 : Ref sig .tc := ⟨.hbm, 146, rfl⟩
abbrev main_cst_14 : Ref sig .tc := ⟨.hbm, 147, rfl⟩
abbrev main_v92 : Ref sig .tc := ⟨.hbm, 148, rfl⟩
abbrev main_v93 : Ref sig .tc := ⟨.hbm, 149, rfl⟩
abbrev main_v94 : Ref sig .tc := ⟨.hbm, 150, rfl⟩
abbrev main_cst_15 : Ref sig .tc := ⟨.hbm, 151, rfl⟩
abbrev main_v95 : Ref sig .tc := ⟨.hbm, 152, rfl⟩
abbrev main_v96 : Ref sig .tc := ⟨.hbm, 153, rfl⟩
abbrev main_v97 : Ref sig .tc := ⟨.hbm, 154, rfl⟩
abbrev main_v98 : Ref sig .tc := ⟨.hbm, 155, rfl⟩
abbrev main_v99 : Ref sig .tc := ⟨.hbm, 156, rfl⟩
abbrev main_cst_16 : Ref sig .tc := ⟨.hbm, 157, rfl⟩
abbrev main_v100 : Ref sig .tc := ⟨.hbm, 158, rfl⟩
abbrev main_v101 : Ref sig .tc := ⟨.hbm, 159, rfl⟩
abbrev main_cst_17 : Ref sig .tc := ⟨.hbm, 160, rfl⟩
abbrev main_v102 : Ref sig .tc := ⟨.hbm, 161, rfl⟩
abbrev main_v103 : Ref sig .tc := ⟨.hbm, 162, rfl⟩
abbrev main_v104 : Ref sig .tc := ⟨.hbm, 163, rfl⟩
abbrev main_v105 : Ref sig .tc := ⟨.hbm, 164, rfl⟩
abbrev main_v106 : Ref sig .tc := ⟨.hbm, 165, rfl⟩
abbrev main_v107 : Ref sig .tc := ⟨.hbm, 166, rfl⟩
abbrev main_v108 : Ref sig .tc := ⟨.hbm, 167, rfl⟩
abbrev main_v109 : Ref sig .tc := ⟨.hbm, 168, rfl⟩
abbrev main_v110 : Ref sig .tc := ⟨.hbm, 169, rfl⟩
abbrev main_v111 : Ref sig .tc := ⟨.hbm, 170, rfl⟩
abbrev main_v112 : Ref sig .tc := ⟨.hbm, 171, rfl⟩
abbrev main_v113 : Ref sig .tc := ⟨.hbm, 172, rfl⟩
abbrev main_v114 : Ref sig .tc := ⟨.hbm, 173, rfl⟩
abbrev main_v115 : Ref sig .tc := ⟨.hbm, 174, rfl⟩
abbrev main_v116 : Ref sig .tc := ⟨.hbm, 175, rfl⟩
abbrev main_v117 : Ref sig .tc := ⟨.hbm, 176, rfl⟩
abbrev main_v118 : Ref sig .tc := ⟨.hbm, 177, rfl⟩
abbrev main_cst_18 : Ref sig .tc := ⟨.hbm, 178, rfl⟩
abbrev main_v119 : Ref sig .tc := ⟨.hbm, 179, rfl⟩
abbrev main_v120 : Ref sig .tc := ⟨.hbm, 180, rfl⟩
abbrev main_v121 : Ref sig .tc := ⟨.hbm, 181, rfl⟩
abbrev main_v122 : Ref sig .tc := ⟨.hbm, 182, rfl⟩
abbrev main_cst_19 : Ref sig .tc := ⟨.hbm, 183, rfl⟩
abbrev main_v123 : Ref sig .tc := ⟨.hbm, 184, rfl⟩
abbrev main_v124 : Ref sig .tc := ⟨.hbm, 185, rfl⟩
abbrev main_cst_20 : Ref sig .tc := ⟨.hbm, 186, rfl⟩
abbrev main_v125 : Ref sig .tc := ⟨.hbm, 187, rfl⟩
abbrev main_v126 : Ref sig .tc := ⟨.hbm, 188, rfl⟩
abbrev main_cst_21 : Ref sig .tc := ⟨.hbm, 189, rfl⟩
abbrev main_v127 : Ref sig .tc := ⟨.hbm, 190, rfl⟩
abbrev main_v128 : Ref sig .tc := ⟨.hbm, 191, rfl⟩
abbrev main_v129 : Ref sig .tc := ⟨.hbm, 192, rfl⟩
abbrev main_call6_cst : Ref sig .tc := ⟨.hbm, 193, rfl⟩
abbrev main_call6_v0 : Ref sig .tc := ⟨.hbm, 194, rfl⟩
abbrev main_v130 : Ref sig .tc := ⟨.hbm, 195, rfl⟩
abbrev main_cst_22 : Ref sig .tc := ⟨.hbm, 196, rfl⟩
abbrev main_v131 : Ref sig .tc := ⟨.hbm, 197, rfl⟩
abbrev main_v132 : Ref sig .tc := ⟨.hbm, 198, rfl⟩
abbrev main_v133 : Ref sig .tc := ⟨.hbm, 199, rfl⟩
abbrev main_cst_23 : Ref sig .tc := ⟨.hbm, 200, rfl⟩
abbrev main_v134 : Ref sig .tc := ⟨.hbm, 201, rfl⟩
abbrev main_v135 : Ref sig .tc := ⟨.hbm, 202, rfl⟩
abbrev main_cst_24 : Ref sig .tc := ⟨.hbm, 203, rfl⟩
abbrev main_v136 : Ref sig .tc := ⟨.hbm, 204, rfl⟩
abbrev main_cst_25 : Ref sig .tc := ⟨.hbm, 205, rfl⟩
abbrev main_v137 : Ref sig .tc := ⟨.hbm, 206, rfl⟩
abbrev main_v138 : Ref sig .tc := ⟨.hbm, 207, rfl⟩
abbrev main_v139 : Ref sig .tc := ⟨.hbm, 208, rfl⟩
abbrev main_call7_call0_cst : Ref sig .tc := ⟨.hbm, 209, rfl⟩
abbrev main_call7_call0_v0 : Ref sig .tc := ⟨.hbm, 210, rfl⟩
abbrev main_v140 : Ref sig .tc := ⟨.hbm, 211, rfl⟩
abbrev main_v141 : Ref sig .tc := ⟨.hbm, 212, rfl⟩
abbrev main_v142 : Ref sig .tc := ⟨.hbm, 213, rfl⟩
abbrev main_v143 : Ref sig .tc := ⟨.hbm, 214, rfl⟩
abbrev main_call8_v0 : Ref sig .tc := ⟨.hbm, 215, rfl⟩
abbrev main_call8_v1 : Ref sig .tc := ⟨.hbm, 216, rfl⟩
abbrev main_call8_v2 : Ref sig .tc := ⟨.hbm, 217, rfl⟩
abbrev main_v144 : Ref sig .tc := ⟨.hbm, 218, rfl⟩
abbrev main_cst_26 : Ref sig .tc := ⟨.hbm, 219, rfl⟩
abbrev main_v145 : Ref sig .tc := ⟨.hbm, 220, rfl⟩
abbrev main_v146 : Ref sig .tc := ⟨.hbm, 221, rfl⟩
abbrev main_cst_27 : Ref sig .tc := ⟨.hbm, 222, rfl⟩
abbrev main_v147 : Ref sig .tc := ⟨.hbm, 223, rfl⟩
abbrev main_v148 : Ref sig .tc := ⟨.hbm, 224, rfl⟩
abbrev main_v149 : Ref sig .tc := ⟨.hbm, 225, rfl⟩
abbrev main_v150 : Ref sig .tc := ⟨.hbm, 226, rfl⟩
abbrev main_cst_28 : Ref sig .tc := ⟨.hbm, 227, rfl⟩
abbrev main_v151 : Ref sig .tc := ⟨.hbm, 228, rfl⟩
abbrev main_v152 : Ref sig .tc := ⟨.hbm, 229, rfl⟩
abbrev main_cst_29 : Ref sig .tc := ⟨.hbm, 230, rfl⟩
abbrev main_v153 : Ref sig .tc := ⟨.hbm, 231, rfl⟩
abbrev main_v154 : Ref sig .tc := ⟨.hbm, 232, rfl⟩
abbrev main_v155 : Ref sig .tc := ⟨.hbm, 233, rfl⟩
abbrev main_v156 : Ref sig .tc := ⟨.hbm, 234, rfl⟩
abbrev main_v157 : Ref sig .tc := ⟨.hbm, 235, rfl⟩
abbrev main_v158 : Ref sig .tc := ⟨.hbm, 236, rfl⟩
abbrev main_v159 : Ref sig .tc := ⟨.hbm, 237, rfl⟩
abbrev main_v160 : Ref sig .tc := ⟨.hbm, 238, rfl⟩
abbrev main_cst_30 : Ref sig .tc := ⟨.hbm, 239, rfl⟩
abbrev main_v161 : Ref sig .tc := ⟨.hbm, 240, rfl⟩
abbrev main_v162 : Ref sig .tc := ⟨.hbm, 241, rfl⟩

abbrev nD : Nat := 1
abbrev τ : Topo := Topo.v7x

variable {F : FTy → Type} [FloatOps F]
-- ==== GradGateUp.lean ====
abbrev S8192x1024 : Shape := ⟨2, ![8192, 1024]⟩
abbrev S8192x5632 : Shape := ⟨2, ![8192, 5632]⟩
abbrev S4x1024x1408 : Shape := ⟨3, ![4, 1024, 1408]⟩
abbrev S1024x1024 : Shape := ⟨2, ![1024, 1024]⟩
abbrev S1024x2816 : Shape := ⟨2, ![1024, 2816]⟩
abbrev S2x1024x1408 : Shape := ⟨3, ![2, 1024, 1408]⟩
abbrev S1x1024x1408 : Shape := ⟨3, ![1, 1024, 1408]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x5632, .bf16⟩
  | .hbm, ⟨2, _⟩ => ⟨S4x1024x1408, .f32⟩
  | .local _ .vmem, ⟨0, _⟩ => ⟨S1024x1024, .bf16⟩
  | .local _ .vmem, ⟨1, _⟩ => ⟨S1024x1024, .bf16⟩
  | .local _ .vmem, ⟨2, _⟩ => ⟨S1024x2816, .bf16⟩
  | .local _ .vmem, ⟨3, _⟩ => ⟨S1024x2816, .bf16⟩
  | .local _ .vmem, ⟨4, _⟩ => ⟨S2x1024x1408, .f32⟩
  | .local _ .vmem, ⟨5, _⟩ => ⟨S2x1024x1408, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2x1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== GradGateUpRefIdeal.lean ====
abbrev S8192x1024 : Shape := ⟨2, ![8192, 1024]⟩
abbrev S8192x5632 : Shape := ⟨2, ![8192, 5632]⟩
abbrev S_ : Shape := ⟨0, ![]⟩
abbrev S1024x5632 : Shape := ⟨2, ![1024, 5632]⟩
abbrev S5632x1024 : Shape := ⟨2, ![5632, 1024]⟩
abbrev S1024x4x1408 : Shape := ⟨3, ![1024, 4, 1408]⟩
abbrev S4x1024x1408 : Shape := ⟨3, ![4, 1024, 1408]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x5632, .bf16⟩
  | .hbm, ⟨2, _⟩ => ⟨S8192x1024, .f32⟩
  | .hbm, ⟨3, _⟩ => ⟨S8192x5632, .f32⟩
  | .hbm, ⟨4, _⟩ => ⟨S_, .f32⟩
  | .hbm, ⟨5, _⟩ => ⟨S1024x5632, .f32⟩
  | .hbm, ⟨6, _⟩ => ⟨S8192x5632, .f32⟩
  | .hbm, ⟨7, _⟩ => ⟨S5632x1024, .f32⟩
  | .hbm, ⟨8, _⟩ => ⟨S1024x5632, .f32⟩
  | .hbm, ⟨9, _⟩ => ⟨S1024x4x1408, .f32⟩
  | .hbm, ⟨10, _⟩ => ⟨S4x1024x1408, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== GradDown.lean ====
abbrev S8192x2816 : Shape := ⟨2, ![8192, 2816]⟩
abbrev S8192x1024 : Shape := ⟨2, ![8192, 1024]⟩
abbrev S1x2816x1024 : Shape := ⟨3, ![1, 2816, 1024]⟩
abbrev S1024x2816 : Shape := ⟨2, ![1024, 2816]⟩
abbrev S1024x1024 : Shape := ⟨2, ![1024, 1024]⟩
abbrev S2816x1024 : Shape := ⟨2, ![2816, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .f32⟩
  | .hbm, ⟨2, _⟩ => ⟨S1x2816x1024, .f32⟩
  | .local _ .vmem, ⟨0, _⟩ => ⟨S1024x2816, .bf16⟩
  | .local _ .vmem, ⟨1, _⟩ => ⟨S1024x2816, .bf16⟩
  | .local _ .vmem, ⟨2, _⟩ => ⟨S1024x1024, .f32⟩
  | .local _ .vmem, ⟨3, _⟩ => ⟨S1024x1024, .f32⟩
  | .local _ .vmem, ⟨4, _⟩ => ⟨S1x2816x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x2816x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== GradDownRefIdeal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩
abbrev S2816x1x1024 : Shape := ⟨3, ![2816, 1, 1024]⟩
abbrev S1x2816x1024 : Shape := ⟨3, ![1, 2816, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .f32⟩
  | .hbm, ⟨2, _⟩ => ⟨S8192x2816, .f32⟩
  | .hbm, ⟨3, _⟩ => ⟨S_, .f32⟩
  | .hbm, ⟨4, _⟩ => ⟨S2816x1024, .f32⟩
  | .hbm, ⟨5, _⟩ => ⟨S8192x1024, .f32⟩
  | .hbm, ⟨6, _⟩ => ⟨S1024x2816, .f32⟩
  | .hbm, ⟨7, _⟩ => ⟨S2816x1024, .f32⟩
  | .hbm, ⟨8, _⟩ => ⟨S2816x1x1024, .f32⟩
  | .hbm, ⟨9, _⟩ => ⟨S1x2816x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== GradIn.lean ====
abbrev S8192x1024 : Shape := ⟨2, ![8192, 1024]⟩
abbrev S8192x3584 : Shape := ⟨2, ![8192, 3584]⟩
abbrev S4x1024x896 : Shape := ⟨3, ![4, 1024, 896]⟩
abbrev S2048x1024 : Shape := ⟨2, ![2048, 1024]⟩
abbrev S2048x1792 : Shape := ⟨2, ![2048, 1792]⟩
abbrev S2x1024x896 : Shape := ⟨3, ![2, 1024, 896]⟩
abbrev S1024x1792 : Shape := ⟨2, ![1024, 1792]⟩
abbrev S1x1024x896 : Shape := ⟨3, ![1, 1024, 896]⟩
abbrev S1024x896 : Shape := ⟨2, ![1024, 896]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x3584, .bf16⟩
  | .hbm, ⟨2, _⟩ => ⟨S4x1024x896, .f32⟩
  | .local _ .vmem, ⟨0, _⟩ => ⟨S2048x1024, .bf16⟩
  | .local _ .vmem, ⟨1, _⟩ => ⟨S2048x1024, .bf16⟩
  | .local _ .vmem, ⟨2, _⟩ => ⟨S2048x1792, .bf16⟩
  | .local _ .vmem, ⟨3, _⟩ => ⟨S2048x1792, .bf16⟩
  | .local _ .vmem, ⟨4, _⟩ => ⟨S2x1024x896, .f32⟩
  | .local _ .vmem, ⟨5, _⟩ => ⟨S2x1024x896, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2x1024x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== GradInRefIdeal.lean ====
abbrev S8192x1024 : Shape := ⟨2, ![8192, 1024]⟩
abbrev S8192x3584 : Shape := ⟨2, ![8192, 3584]⟩
abbrev S_ : Shape := ⟨0, ![]⟩
abbrev S1024x3584 : Shape := ⟨2, ![1024, 3584]⟩
abbrev S3584x1024 : Shape := ⟨2, ![3584, 1024]⟩
abbrev S1024x4x896 : Shape := ⟨3, ![1024, 4, 896]⟩
abbrev S4x1024x896 : Shape := ⟨3, ![4, 1024, 896]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x3584, .bf16⟩
  | .hbm, ⟨2, _⟩ => ⟨S8192x1024, .f32⟩
  | .hbm, ⟨3, _⟩ => ⟨S8192x3584, .f32⟩
  | .hbm, ⟨4, _⟩ => ⟨S_, .f32⟩
  | .hbm, ⟨5, _⟩ => ⟨S1024x3584, .f32⟩
  | .hbm, ⟨6, _⟩ => ⟨S8192x3584, .f32⟩
  | .hbm, ⟨7, _⟩ => ⟨S3584x1024, .f32⟩
  | .hbm, ⟨8, _⟩ => ⟨S1024x3584, .f32⟩
  | .hbm, ⟨9, _⟩ => ⟨S1024x4x896, .f32⟩
  | .hbm, ⟨10, _⟩ => ⟨S4x1024x896, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== GradOut.lean ====
abbrev S8192x1024 : Shape := ⟨2, ![8192, 1024]⟩
abbrev S1x1024x1024 : Shape := ⟨3, ![1, 1024, 1024]⟩
abbrev S2048x1024 : Shape := ⟨2, ![2048, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S1x1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S2048x1024, .f32⟩
  | .local _ .vmem, ⟨4, _⟩ => ⟨S1x1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== GradOutRefIdeal.lean ====
abbrev S8192x1024 : Shape := ⟨2, ![8192, 1024]⟩
abbrev S_ : Shape := ⟨0, ![]⟩
abbrev S1024x1024 : Shape := ⟨2, ![1024, 1024]⟩
abbrev S1024x1x1024 : Shape := ⟨3, ![1024, 1, 1024]⟩
abbrev S1x1024x1024 : Shape := ⟨3, ![1, 1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S8192x1024, .f32⟩
  | .hbm, ⟨3, _⟩ => ⟨S_, .f32⟩
  | .hbm, ⟨4, _⟩ => ⟨S1024x1024, .f32⟩
  | .hbm, ⟨5, _⟩ => ⟨S8192x1024, .f32⟩
  | .hbm, ⟨6, _⟩ => ⟨S1024x1024, .f32⟩
  | .hbm, ⟨7, _⟩ => ⟨S1024x1024, .f32⟩
  | .hbm, ⟨8, _⟩ => ⟨S1024x1x1024, .f32⟩
  | .hbm, ⟨9, _⟩ => ⟨S1x1024x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== FfnBwd.lean ====
abbrev S8192x1024 : Shape := ⟨2, ![8192, 1024]⟩
abbrev S8192x512 : Shape := ⟨2, ![8192, 512]⟩
abbrev S1024x1024 : Shape := ⟨2, ![1024, 1024]⟩
abbrev S1x1024 : Shape := ⟨2, ![1, 1024]⟩
abbrev S1024x5632 : Shape := ⟨2, ![1024, 5632]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S8192x5632 : Shape := ⟨2, ![8192, 5632]⟩
abbrev S8192x2816 : Shape := ⟨2, ![8192, 2816]⟩
abbrev S1024x4x1408 : Shape := ⟨3, ![1024, 4, 1408]⟩
abbrev S4x1024x1408 : Shape := ⟨3, ![4, 1024, 1408]⟩
abbrev S512 : Shape := ⟨1, ![512]⟩
abbrev S512x1 : Shape := ⟨2, ![512, 1]⟩
abbrev S1x512 : Shape := ⟨2, ![1, 512]⟩
abbrev S512x512 : Shape := ⟨2, ![512, 512]⟩
abbrev S8x1024 : Shape := ⟨2, ![8, 1024]⟩
abbrev S256x1024 : Shape := ⟨2, ![256, 1024]⟩
abbrev S256x2816 : Shape := ⟨2, ![256, 2816]⟩
abbrev S256x512 : Shape := ⟨2, ![256, 512]⟩
abbrev S256x5632 : Shape := ⟨2, ![256, 5632]⟩
abbrev S1408x1024 : Shape := ⟨2, ![1408, 1024]⟩
abbrev S256x1408 : Shape := ⟨2, ![256, 1408]⟩
abbrev S1x1024x1408 : Shape := ⟨3, ![1, 1024, 1408]⟩
abbrev S1024x1408 : Shape := ⟨2, ![1024, 1408]⟩
abbrev S256 : Shape := ⟨1, ![256]⟩
abbrev S256x1 : Shape := ⟨2, ![256, 1]⟩
abbrev S1024 : Shape := ⟨1, ![1024]⟩

abbrev nBuf : Space → Nat
  | .hbm => 85
  | .vmem => 26
  | .smem => 0
  | _ => 0

abbrev bufTy : (tb : Table) → Fin (tcTables nBuf tb) → BufTy
  | .hbm, ⟨0, _⟩ => ⟨S8192x1024, .f32⟩
  | .hbm, ⟨1, _⟩ => ⟨S8192x512, .f32⟩
  | .hbm, ⟨2, _⟩ => ⟨S8192x512, .f32⟩
  | .hbm, ⟨3, _⟩ => ⟨S8192x1024, .f32⟩
  | .hbm, ⟨4, _⟩ => ⟨S1024x1024, .f32⟩
  | .hbm, ⟨5, _⟩ => ⟨S1x1024, .f32⟩
  | .hbm, ⟨6, _⟩ => ⟨S1024x5632, .f32⟩
  | .hbm, ⟨7, _⟩ => ⟨S2816x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x5632, .f32⟩
  | .hbm, ⟨27, _⟩ => ⟨S8192x2816, .f32⟩
  | .hbm, ⟨28, _⟩ => ⟨S8192x2816, .bf16⟩
  | .hbm, ⟨29, _⟩ => ⟨S8192x2816, .f32⟩
  | .hbm, ⟨30, _⟩ => ⟨S8192x2816, .bf16⟩
  | .hbm, ⟨31, _⟩ => ⟨S2816x1024, .bf16⟩
  | .hbm, ⟨32, _⟩ => ⟨S1024x5632, .bf16⟩
  | .hbm, ⟨33, _⟩ => ⟨S1024x4x1408, .bf16⟩
  | .hbm, ⟨34, _⟩ => ⟨S4x1024x1408, .bf16⟩
  | .hbm, ⟨35, _⟩ => ⟨S1024x1024, .bf16⟩
  | .hbm, ⟨36, _⟩ => ⟨S512, .i32⟩
  | .hbm, ⟨37, _⟩ => ⟨S512x1, .i32⟩
  | .hbm, ⟨38, _⟩ => ⟨S_, .i32⟩
  | .hbm, ⟨39, _⟩ => ⟨S_, .i32⟩
  | .hbm, ⟨40, _⟩ => ⟨S512x1, .i32⟩
  | .hbm, ⟨41, _⟩ => ⟨S512x1, .i32⟩
  | .hbm, ⟨42, _⟩ => ⟨S512x1, .i32⟩
  | .hbm, ⟨43, _⟩ => ⟨S_, .i32⟩
  | .hbm, ⟨44, _⟩ => ⟨S512x1, .i32⟩
  | .hbm, ⟨45, _⟩ => ⟨S512x1, .i1⟩
  | .hbm, ⟨46, _⟩ => ⟨S512x1, .i32⟩
  | .hbm, ⟨47, _⟩ => ⟨S512x1, .i32⟩
  | .hbm, ⟨48, _⟩ => ⟨S_, .i32⟩
  | .hbm, ⟨49, _⟩ => ⟨S512x1, .i32⟩
  | .hbm, ⟨50, _⟩ => ⟨S512x1, .i1⟩
  | .hbm, ⟨51, _⟩ => ⟨S512x1, .i1⟩
  | .hbm, ⟨52, _⟩ => ⟨S_, .i32⟩
  | .hbm, ⟨53, _⟩ => ⟨S512x1, .i32⟩
  | .hbm, ⟨54, _⟩ => ⟨S512x1, .i32⟩
  | .hbm, ⟨55, _⟩ => ⟨S512x1, .i32⟩
  | .hbm, ⟨56, _⟩ => ⟨S1x512, .i32⟩
  | .hbm, ⟨57, _⟩ => ⟨S_, .i32⟩
  | .hbm, ⟨58, _⟩ => ⟨S_, .i32⟩
  | .hbm, ⟨59, _⟩ => ⟨S1x512, .i32⟩
  | .hbm, ⟨60, _⟩ => ⟨S1x512, .i32⟩
  | .hbm, ⟨61, _⟩ => ⟨S1x512, .i32⟩
  | .hbm, ⟨62, _⟩ => ⟨S_, .i32⟩
  | .hbm, ⟨63, _⟩ => ⟨S1x512, .i32⟩
  | .hbm, ⟨64, _⟩ => ⟨S1x512, .i1⟩
  | .hbm, ⟨65, _⟩ => ⟨S1x512, .i32⟩
  | .hbm, ⟨66, _⟩ => ⟨S1x512, .i32⟩
  | .hbm, ⟨67, _⟩ => ⟨S_, .i32⟩
  | .hbm, ⟨68, _⟩ => ⟨S1x512, .i32⟩
  | .hbm, ⟨69, _⟩ => ⟨S1x512, .i1⟩
  | .hbm, ⟨70, _⟩ => ⟨S1x512, .i1⟩
  | .hbm, ⟨71, _⟩ => ⟨S_, .i32⟩
  | .hbm, ⟨72, _⟩ => ⟨S1x512, .i32⟩
  | .hbm, ⟨73, _⟩ => ⟨S1x512, .i32⟩
  | .hbm, ⟨74, _⟩ => ⟨S1x512, .i32⟩
  | .hbm, ⟨75, _⟩ => ⟨S512x512, .i32⟩
  | .hbm, ⟨76, _⟩ => ⟨S512x512, .i32⟩
  | .hbm, ⟨77, _⟩ => ⟨S512x512, .i1⟩
  | .hbm, ⟨78, _⟩ => ⟨S512x512, .bf16⟩
  | .hbm, ⟨79, _⟩ => ⟨S8192x5632, .bf16⟩
  | .hbm, ⟨80, _⟩ => ⟨S8192x1024, .f32⟩
  | .hbm, ⟨81, _⟩ => ⟨S8192x512, .f32⟩
  | .hbm, ⟨82, _⟩ => ⟨S8192x512, .f32⟩
  | .hbm, ⟨83, _⟩ => ⟨S8192x512, .f32⟩
  | .hbm, ⟨84, _⟩ => ⟨S8x1024, .f32⟩
  | .local _ .vmem, ⟨0, _⟩ => ⟨S256x1024, .f32⟩
  | .local _ .vmem, ⟨1, _⟩ => ⟨S256x1024, .f32⟩
  | .local _ .vmem, ⟨2, _⟩ => ⟨S2816x1024, .bf16⟩
  | .local _ .vmem, ⟨3, _⟩ => ⟨S256x2816, .bf16⟩
  | .local _ .vmem, ⟨4, _⟩ => ⟨S256x2816, .bf16⟩
  | .local _ .vmem, ⟨5, _⟩ => ⟨S256x2816, .bf16⟩
  | .local _ .vmem, ⟨6, _⟩ => ⟨S256x2816, .bf16⟩
  | .local _ .vmem, ⟨7, _⟩ => ⟨S4x1024x1408, .bf16⟩
  | .local _ .vmem, ⟨8, _⟩ => ⟨S256x1024, .f32⟩
  | .local _ .vmem, ⟨9, _⟩ => ⟨S256x1024, .f32⟩
  | .local _ .vmem, ⟨10, _⟩ => ⟨S1x1024, .f32⟩
  | .local _ .vmem, ⟨11, _⟩ => ⟨S1024x1024, .bf16⟩
  | .local _ .vmem, ⟨12, _⟩ => ⟨S256x512, .f32⟩
  | .local _ .vmem, ⟨13, _⟩ => ⟨S256x512, .f32⟩
  | .local _ .vmem, ⟨14, _⟩ => ⟨S512x512, .bf16⟩
  | .local _ .vmem, ⟨15, _⟩ => ⟨S256x5632, .bf16⟩
  | .local _ .vmem, ⟨16, _⟩ => ⟨S256x5632, .bf16⟩
  | .local _ .vmem, ⟨17, _⟩ => ⟨S256x1024, .f32⟩
  | .local _ .vmem, ⟨18, _⟩ => ⟨S256x1024, .f32⟩
  | .local _ .vmem, ⟨19, _⟩ => ⟨S256x512, .f32⟩
  | .local _ .vmem, ⟨20, _⟩ => ⟨S256x512, .f32⟩
  | .local _ .vmem, ⟨21, _⟩ => ⟨S256x512, .f32⟩
  | .local _ .vmem, ⟨22, _⟩ => ⟨S256x512, .f32⟩
  | .local _ .vmem, ⟨23, _⟩ => ⟨S256x512, .f32⟩
  | .local _ .vmem, ⟨24, _⟩ => ⟨S256x512, .f32⟩
  | .local _ .vmem, ⟨25, _⟩ => ⟨S8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_c : Ref sig .tc := ⟨.hbm, 38, rfl⟩
abbrev main_call0_v0 : Ref sig .tc := ⟨.hbm, 39, rfl⟩
abbrev main_call0_v1 : Ref sig .tc := ⟨.hbm, 40, rfl⟩
abbrev main_call0_v2 : Ref sig .tc := ⟨.hbm, 41, rfl⟩
abbrev main_call0_v3 : Ref sig .tc := ⟨.hbm, 42, rfl⟩
abbrev main_call0_v4 : Ref sig .tc := ⟨.hbm, 43, rfl⟩
abbrev main_call0_v5 : Ref sig .tc := ⟨.hbm, 44, rfl⟩
abbrev main_call0_v6 : Ref sig .tc := ⟨.hbm, 45, rfl⟩
abbrev main_call0_v7 : Ref sig .tc := ⟨.hbm, 46, rfl⟩
abbrev main_call0_v8 : Ref sig .tc := ⟨.hbm, 47, rfl⟩
abbrev main_call0_c : Ref sig .tc := ⟨.hbm, 48, rfl⟩
abbrev main_call0_v9 : Ref sig .tc := ⟨.hbm, 49, rfl⟩
abbrev main_call0_v10 : Ref sig .tc := ⟨.hbm, 50, rfl⟩
abbrev main_call0_v11 : Ref sig .tc := ⟨.hbm, 51, rfl⟩
abbrev main_call0_c_0 : Ref sig .tc := ⟨.hbm, 52, rfl⟩
abbrev main_call0_v12 : Ref sig .tc := ⟨.hbm, 53, rfl⟩
abbrev main_call0_v13 : Ref sig .tc := ⟨.hbm, 54, rfl⟩
abbrev main_v27 : Ref sig .tc := ⟨.hbm, 55, rfl⟩
abbrev main_v28 : Ref sig .tc := ⟨.hbm, 56, rfl⟩
abbrev main_c_2 : Ref sig .tc := ⟨.hbm, 57, rfl⟩
abbrev main_call1_v0 : Ref sig .tc := ⟨.hbm, 58, rfl⟩
abbrev main_call1_v1 : Ref sig .tc := ⟨.hbm, 59, rfl⟩
abbrev main_call1_v2 : Ref sig .tc := ⟨.hbm, 60, rfl⟩
abbrev main_call1_v3 : Ref sig .tc := ⟨.hbm, 61, rfl⟩
abbrev main_call1_v4 : Ref sig .tc := ⟨.hbm, 62, rfl⟩
abbrev main_call1_v5 : Ref sig .tc := ⟨.hbm, 63, rfl⟩
abbrev main_call1_v6 : Ref sig .tc := ⟨.hbm, 64, rfl⟩
abbrev main_call1_v7 : Ref sig .tc := ⟨.hbm, 65, rfl⟩
abbrev main_call1_v8 : Ref sig .tc := ⟨.hbm, 66, rfl⟩
abbrev main_call1_c : Ref sig .tc := ⟨.hbm, 67, rfl⟩
abbrev main_call1_v9 : Ref sig .tc := ⟨.hbm, 68, rfl⟩
abbrev main_call1_v10 : Ref sig .tc := ⟨.hbm, 69, rfl⟩
abbrev main_call1_v11 : Ref sig .tc := ⟨.hbm, 70, rfl⟩
abbrev main_call1_c_0 : Ref sig .tc := ⟨.hbm, 71, rfl⟩
abbrev main_call1_v12 : Ref sig .tc := ⟨.hbm, 72, rfl⟩
abbrev main_call1_v13 : Ref sig .tc := ⟨.hbm, 73, rfl⟩
abbrev main_v29 : Ref sig .tc := ⟨.hbm, 74, rfl⟩
abbrev main_v30 : Ref sig .tc := ⟨.hbm, 75, rfl⟩
abbrev main_v31 : Ref sig .tc := ⟨.hbm, 76, rfl⟩
abbrev main_v32 : Ref sig .tc := ⟨.hbm, 77, rfl⟩
abbrev main_v33 : Ref sig .tc := ⟨.hbm, 78, rfl⟩
abbrev main_v34_0 : Ref sig .tc := ⟨.hbm, 79, rfl⟩
abbrev main_v34_1 : Ref sig .tc := ⟨.hbm, 80, rfl⟩
abbrev main_v34_2 : Ref sig .tc := ⟨.hbm, 81, rfl⟩
abbrev main_v34_3 : Ref sig .tc := ⟨.hbm, 82, rfl⟩
abbrev main_v34_4 : Ref sig .tc := ⟨.hbm, 83, rfl⟩
abbrev main_v34_5 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4x1024x1408 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S512x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x5632 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S8x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== FfnBwdRefIdeal.lean ====
abbrev S8192x1024 : Shape := ⟨2, ![8192, 1024]⟩
abbrev S8192x512 : Shape := ⟨2, ![8192, 512]⟩
abbrev S1024x1024 : Shape := ⟨2, ![1024, 1024]⟩
abbrev S1x1024 : Shape := ⟨2, ![1, 1024]⟩
abbrev S1024x5632 : Shape := ⟨2, ![1024, 5632]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S8192x5632 : Shape := ⟨2, ![8192, 5632]⟩
abbrev S8192x2816 : Shape := ⟨2, ![8192, 2816]⟩
abbrev S1024 : Shape := ⟨1, ![1024]⟩
abbrev S8192x8x64 : Shape := ⟨3, ![8192, 8, 64]⟩
abbrev S8192x8 : Shape := ⟨2, ![8192, 8]⟩
abbrev S8192x8x1 : Shape := ⟨3, ![8192, 8, 1]⟩
abbrev S7x1024 : Shape := ⟨2, ![7, 1024]⟩
abbrev S8x1024 : Shape := ⟨2, ![8, 1024]⟩

abbrev nBuf : Space → Nat
  | .hbm => 102
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x512, .f32⟩
  | .hbm, ⟨2, _⟩ => ⟨S8192x512, .f32⟩
  | .hbm, ⟨3, _⟩ => ⟨S8192x1024, .f32⟩
  | .hbm, ⟨4, _⟩ => ⟨S1024x1024, .f32⟩
  | .hbm, ⟨5, _⟩ => ⟨S1x1024, .f32⟩
  | .hbm, ⟨6, _⟩ => ⟨S1024x5632, .f32⟩
  | .hbm, ⟨7, _⟩ => ⟨S2816x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1, .f32⟩
  | .hbm, ⟨22, _⟩ => ⟨S8192x1, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x5632, .f32⟩
  | .hbm, ⟨31, _⟩ => ⟨S8192x2816, .f32⟩
  | .hbm, ⟨32, _⟩ => ⟨S8192x2816, .f32⟩
  | .hbm, ⟨33, _⟩ => ⟨S8192x2816, .f32⟩
  | .hbm, ⟨34, _⟩ => ⟨S8192x2816, .f32⟩
  | .hbm, ⟨35, _⟩ => ⟨S_, .f32⟩
  | .hbm, ⟨36, _⟩ => ⟨S8192x2816, .f32⟩
  | .hbm, ⟨37, _⟩ => ⟨S8192x2816, .f32⟩
  | .hbm, ⟨38, _⟩ => ⟨S_, .f32⟩
  | .hbm, ⟨39, _⟩ => ⟨S8192x2816, .f32⟩
  | .hbm, ⟨40, _⟩ => ⟨S8192x2816, .f32⟩
  | .hbm, ⟨41, _⟩ => ⟨S_, .f32⟩
  | .hbm, ⟨42, _⟩ => ⟨S8192x2816, .f32⟩
  | .hbm, ⟨43, _⟩ => ⟨S8192x2816, .f32⟩
  | .hbm, ⟨44, _⟩ => ⟨S8192x2816, .f32⟩
  | .hbm, ⟨45, _⟩ => ⟨S8192x2816, .f32⟩
  | .hbm, ⟨46, _⟩ => ⟨S8192x2816, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x2816, .f32⟩
  | .hbm, ⟨52, _⟩ => ⟨S8192x2816, .f32⟩
  | .hbm, ⟨53, _⟩ => ⟨S8192x2816, .f32⟩
  | .hbm, ⟨54, _⟩ => ⟨S8192x2816, .f32⟩
  | .hbm, ⟨55, _⟩ => ⟨S8192x2816, .f32⟩
  | .hbm, ⟨56, _⟩ => ⟨S8192x2816, .f32⟩
  | .hbm, ⟨57, _⟩ => ⟨S8192x2816, .f32⟩
  | .hbm, ⟨58, _⟩ => ⟨S_, .f32⟩
  | .hbm, ⟨59, _⟩ => ⟨S8192x5632, .f32⟩
  | .hbm, ⟨60, _⟩ => ⟨S_, .f32⟩
  | .hbm, ⟨61, _⟩ => ⟨S8192x5632, .f32⟩
  | .hbm, ⟨62, _⟩ => ⟨S8192x5632, .f32⟩
  | .hbm, ⟨63, _⟩ => ⟨S8192x1024, .f32⟩
  | .hbm, ⟨64, _⟩ => ⟨S8192x1024, .f32⟩
  | .hbm, ⟨65, _⟩ => ⟨S_, .f32⟩
  | .hbm, ⟨66, _⟩ => ⟨S1024, .f32⟩
  | .hbm, ⟨67, _⟩ => ⟨S1x1024, .f32⟩
  | .hbm, ⟨68, _⟩ => ⟨S8192x1024, .f32⟩
  | .hbm, ⟨69, _⟩ => ⟨S8192x1024, .f32⟩
  | .hbm, ⟨70, _⟩ => ⟨S8192x1024, .f32⟩
  | .hbm, ⟨71, _⟩ => ⟨S_, .f32⟩
  | .hbm, ⟨72, _⟩ => ⟨S8192, .f32⟩
  | .hbm, ⟨73, _⟩ => ⟨S8192x1, .f32⟩
  | .hbm, ⟨74, _⟩ => ⟨S8192x1024, .f32⟩
  | .hbm, ⟨75, _⟩ => ⟨S8192x1024, .f32⟩
  | .hbm, ⟨76, _⟩ => ⟨S8192x1, .f32⟩
  | .hbm, ⟨77, _⟩ => ⟨S_, .f32⟩
  | .hbm, ⟨78, _⟩ => ⟨S8192x1, .f32⟩
  | .hbm, ⟨79, _⟩ => ⟨S8192x1, .f32⟩
  | .hbm, ⟨80, _⟩ => ⟨S_, .f32⟩
  | .hbm, ⟨81, _⟩ => ⟨S8192, .f32⟩
  | .hbm, ⟨82, _⟩ => ⟨S8192x1024, .f32⟩
  | .hbm, ⟨83, _⟩ => ⟨S8192x1024, .f32⟩
  | .hbm, ⟨84, _⟩ => ⟨S8192x1024, .f32⟩
  | .hbm, ⟨85, _⟩ => ⟨S8192x1024, .f32⟩
  | .hbm, ⟨86, _⟩ => ⟨S8192x1024, .f32⟩
  | .hbm, ⟨87, _⟩ => ⟨S8192x1024, .f32⟩
  | .hbm, ⟨88, _⟩ => ⟨S8192x1024, .f32⟩
  | .hbm, ⟨89, _⟩ => ⟨S8192x512, .f32⟩
  | .hbm, ⟨90, _⟩ => ⟨S8192x512, .f32⟩
  | .hbm, ⟨91, _⟩ => ⟨S8192x512, .f32⟩
  | .hbm, ⟨92, _⟩ => ⟨S8192x8x64, .f32⟩
  | .hbm, ⟨93, _⟩ => ⟨S_, .f32⟩
  | .hbm, ⟨94, _⟩ => ⟨S8192x8, .f32⟩
  | .hbm, ⟨95, _⟩ => ⟨S8192x8x1, .f32⟩
  | .hbm, ⟨96, _⟩ => ⟨S8192x8x64, .f32⟩
  | .hbm, ⟨97, _⟩ => ⟨S8192x512, .f32⟩
  | .hbm, ⟨98, _⟩ => ⟨S_, .f32⟩
  | .hbm, ⟨99, _⟩ => ⟨S7x1024, .f32⟩
  | .hbm, ⟨100, _⟩ => ⟨S8x1024, .f32⟩
  | .hbm, ⟨101, _⟩ => ⟨S8192x5632, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_call0_v0 : Ref sig .tc := ⟨.hbm, 33, rfl⟩
abbrev main_call0_v1 : Ref sig .tc := ⟨.hbm, 34, rfl⟩
abbrev main_call0_cst : Ref sig .tc := ⟨.hbm, 35, rfl⟩
abbrev main_call0_v2 : Ref sig .tc := ⟨.hbm, 36, rfl⟩
abbrev main_call0_v3 : Ref sig .tc := ⟨.hbm, 37, rfl⟩
abbrev main_call0_cst_0 : Ref sig .tc := ⟨.hbm, 38, rfl⟩
abbrev main_call0_v4 : Ref sig .tc := ⟨.hbm, 39, rfl⟩
abbrev main_v21_2 : Ref sig .tc := ⟨.hbm, 40, rfl⟩
abbrev main_call0_cst_1 : Ref sig .tc := ⟨.hbm, 41, rfl⟩
abbrev main_call0_v6 : Ref sig .tc := ⟨.hbm, 42, rfl⟩
abbrev main_call0_v7 : Ref sig .tc := ⟨.hbm, 43, rfl⟩
abbrev main_v21_1 : Ref sig .tc := ⟨.hbm, 44, rfl⟩
abbrev main_v21_0 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_call1_v0 : Ref sig .tc := ⟨.hbm, 54, rfl⟩
abbrev main_call1_v1 : Ref sig .tc := ⟨.hbm, 55, rfl⟩
abbrev main_call1_v2 : Ref sig .tc := ⟨.hbm, 56, rfl⟩
abbrev main_v30 : Ref sig .tc := ⟨.hbm, 57, rfl⟩
abbrev main_cst_3 : Ref sig .tc := ⟨.hbm, 58, rfl⟩
abbrev main_v31 : Ref sig .tc := ⟨.hbm, 59, rfl⟩
abbrev main_cst_4 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_cst_5 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_cst_6 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_cst_7 : Ref sig .tc := ⟨.hbm, 77, rfl⟩
abbrev main_v46 : Ref sig .tc := ⟨.hbm, 78, rfl⟩
abbrev main_v47 : Ref sig .tc := ⟨.hbm, 79, rfl⟩
abbrev main_cst_8 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_cst_9 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_cst_10 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩

abbrev nD : Nat := 1
abbrev τ : Topo := Topo.v7x

variable {F : FTy → Type} [FloatOps F]
-- ==== FfnFwd.lean ====
abbrev S8192x512 : Shape := ⟨2, ![8192, 512]⟩
abbrev S8192x1024 : Shape := ⟨2, ![8192, 1024]⟩
abbrev S1024x1024 : Shape := ⟨2, ![1024, 1024]⟩
abbrev S1x1024 : Shape := ⟨2, ![1, 1024]⟩
abbrev S1024x5632 : Shape := ⟨2, ![1024, 5632]⟩
abbrev S2816x1024 : Shape := ⟨2, ![2816, 1024]⟩
abbrev S1024x4x1408 : Shape := ⟨3, ![1024, 4, 1408]⟩
abbrev S4x1024x1408 : Shape := ⟨3, ![4, 1024, 1408]⟩
abbrev S8192x2816 : Shape := ⟨2, ![8192, 2816]⟩
abbrev S8x1024 : Shape := ⟨2, ![8, 1024]⟩
abbrev S256x512 : Shape := ⟨2, ![256, 512]⟩
abbrev S256x1024 : Shape := ⟨2, ![256, 1024]⟩
abbrev S256x2816 : Shape := ⟨2, ![256, 2816]⟩
abbrev S256 : Shape := ⟨1, ![256]⟩
abbrev S256x1 : Shape := ⟨2, ![256, 1]⟩
abbrev S1x1024x1408 : Shape := ⟨3, ![1, 1024, 1408]⟩
abbrev S1024x1408 : Shape := ⟨2, ![1024, 1408]⟩
abbrev S256x1408 : Shape := ⟨2, ![256, 1408]⟩
abbrev S1024 : Shape := ⟨1, ![1024]⟩

abbrev nBuf : Space → Nat
  | .hbm => 22
  | .vmem => 28
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x1024, .f32⟩
  | .hbm, ⟨3, _⟩ => ⟨S1024x1024, .f32⟩
  | .hbm, ⟨4, _⟩ => ⟨S1x1024, .f32⟩
  | .hbm, ⟨5, _⟩ => ⟨S1024x5632, .f32⟩
  | .hbm, ⟨6, _⟩ => ⟨S2816x1024, .f32⟩
  | .hbm, ⟨7, _⟩ => ⟨S1x1024, .f32⟩
  | .hbm, ⟨8, _⟩ => ⟨S8192x1024, .f32⟩
  | .hbm, ⟨9, _⟩ => ⟨S1024x1024, .bf16⟩
  | .hbm, ⟨10, _⟩ => ⟨S1024x5632, .bf16⟩
  | .hbm, ⟨11, _⟩ => ⟨S1024x4x1408, .bf16⟩
  | .hbm, ⟨12, _⟩ => ⟨S4x1024x1408, .bf16⟩
  | .hbm, ⟨13, _⟩ => ⟨S2816x1024, .bf16⟩
  | .hbm, ⟨14, _⟩ => ⟨S8192x1024, .bf16⟩
  | .hbm, ⟨15, _⟩ => ⟨S8192x1024, .f32⟩
  | .hbm, ⟨16, _⟩ => ⟨S8192x1024, .bf16⟩
  | .hbm, ⟨17, _⟩ => ⟨S8192x2816, .bf16⟩
  | .hbm, ⟨18, _⟩ => ⟨S8192x2816, .bf16⟩
  | .hbm, ⟨19, _⟩ => ⟨S8192x2816, .bf16⟩
  | .hbm, ⟨20, _⟩ => ⟨S8192x1024, .f32⟩
  | .hbm, ⟨21, _⟩ => ⟨S8x1024, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x1024, .f32⟩
  | .local _ .vmem, ⟨5, _⟩ => ⟨S256x1024, .f32⟩
  | .local _ .vmem, ⟨6, _⟩ => ⟨S1024x1024, .bf16⟩
  | .local _ .vmem, ⟨7, _⟩ => ⟨S1x1024, .f32⟩
  | .local _ .vmem, ⟨8, _⟩ => ⟨S4x1024x1408, .bf16⟩
  | .local _ .vmem, ⟨9, _⟩ => ⟨S2816x1024, .bf16⟩
  | .local _ .vmem, ⟨10, _⟩ => ⟨S1x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .bf16⟩
  | .local _ .vmem, ⟨14, _⟩ => ⟨S256x1024, .bf16⟩
  | .local _ .vmem, ⟨15, _⟩ => ⟨S256x1024, .f32⟩
  | .local _ .vmem, ⟨16, _⟩ => ⟨S256x1024, .f32⟩
  | .local _ .vmem, ⟨17, _⟩ => ⟨S256x1024, .bf16⟩
  | .local _ .vmem, ⟨18, _⟩ => ⟨S256x1024, .bf16⟩
  | .local _ .vmem, ⟨19, _⟩ => ⟨S256x2816, .bf16⟩
  | .local _ .vmem, ⟨20, _⟩ => ⟨S256x2816, .bf16⟩
  | .local _ .vmem, ⟨21, _⟩ => ⟨S256x2816, .bf16⟩
  | .local _ .vmem, ⟨22, _⟩ => ⟨S256x2816, .bf16⟩
  | .local _ .vmem, ⟨23, _⟩ => ⟨S256x2816, .bf16⟩
  | .local _ .vmem, ⟨24, _⟩ => ⟨S256x2816, .bf16⟩
  | .local _ .vmem, ⟨25, _⟩ => ⟨S256x1024, .f32⟩
  | .local _ .vmem, ⟨26, _⟩ => ⟨S256x1024, .f32⟩
  | .local _ .vmem, ⟨27, _⟩ => ⟨S8x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5_0 : Ref sig .tc := ⟨.hbm, 14, rfl⟩
abbrev main_v5_1 : Ref sig .tc := ⟨.hbm, 15, rfl⟩
abbrev main_v5_2 : Ref sig .tc := ⟨.hbm, 16, rfl⟩
abbrev main_v5_3 : Ref sig .tc := ⟨.hbm, 17, rfl⟩
abbrev main_v5_4 : Ref sig .tc := ⟨.hbm, 18, rfl⟩
abbrev main_v5_5 : Ref sig .tc := ⟨.hbm, 19, rfl⟩
abbrev main_v5_6 : Ref sig .tc := ⟨.hbm, 20, rfl⟩
abbrev main_v5_7 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x1024x1408 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x2816 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x2816 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x2816 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S8x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]
-- ==== FfnFwdRefIdeal.lean ====
abbrev S8192x512 : Shape := ⟨2, ![8192, 512]⟩
abbrev S8192x1024 : Shape := ⟨2, ![8192, 1024]⟩
abbrev S1024x1024 : Shape := ⟨2, ![1024, 1024]⟩
abbrev S1x1024 : Shape := ⟨2, ![1, 1024]⟩
abbrev S1024x5632 : Shape := ⟨2, ![1024, 5632]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S8192x5632 : Shape := ⟨2, ![8192, 5632]⟩
abbrev S8192x2816 : Shape := ⟨2, ![8192, 2816]⟩
abbrev S1024 : Shape := ⟨1, ![1024]⟩
abbrev S6x1024 : Shape := ⟨2, ![6, 1024]⟩
abbrev S8x1024 : Shape := ⟨2, ![8, 1024]⟩

abbrev nBuf : Space → Nat
  | .hbm => 141
  | .vmem => 0
  | .smem => 0
  | _ => 0

abbrev hbmTy0_0 (i : Nat) : BufTy := match i % 128 with
  | 0 => ⟨S8192x512, .f32⟩
  | 1 => ⟨S8192x512, .f32⟩
  | 2 => ⟨S8192x1024, .f32⟩
  | 3 => ⟨S1024x1024, .f32⟩
  | 4 => ⟨S1x1024, .f32⟩
  | 5 => ⟨S1024x5632, .f32⟩
  | 6 => ⟨S2816x1024, .f32⟩
  | 7 => ⟨S1x1024, .f32⟩
  | 8 => ⟨S8192x1024, .f32⟩
  | 9 => ⟨S8192x1024, .f32⟩
  | 10 => ⟨S8192x1024, .f32⟩
  | 11 => ⟨S8192x1024, .f32⟩
  | 12 => ⟨S8192x1024, .f32⟩
  | 13 => ⟨S_, .f32⟩
  | 14 => ⟨S8192, .f32⟩
  | 15 => ⟨S8192x1, .f32⟩
  | 16 => ⟨S_, .f32⟩
  | 17 => ⟨S8192x1, .f32⟩
  | 18 => ⟨S8192x1, .f32⟩
  | 19 => ⟨S_, .f32⟩
  | 20 => ⟨S8192x1, .f32⟩
  | 21 => ⟨S8192x1, .f32⟩
  | 22 => ⟨S8192x1, .f32⟩
  | 23 => ⟨S8192x1024, .f32⟩
  | 24 => ⟨S8192x1024, .f32⟩
  | 25 => ⟨S8192x1024, .f32⟩
  | 26 => ⟨S8192x1024, .f32⟩
  | 27 => ⟨S8192x5632, .f32⟩
  | 28 => ⟨S8192x2816, .f32⟩
  | 29 => ⟨S8192x2816, .f32⟩
  | 30 => ⟨S8192x2816, .f32⟩
  | 31 => ⟨S8192x2816, .f32⟩
  | 32 => ⟨S_, .f32⟩
  | 33 => ⟨S8192x2816, .f32⟩
  | 34 => ⟨S8192x2816, .f32⟩
  | 35 => ⟨S_, .f32⟩
  | 36 => ⟨S8192x2816, .f32⟩
  | 37 => ⟨S8192x2816, .f32⟩
  | 38 => ⟨S8192x2816, .f32⟩
  | 39 => ⟨S8192x2816, .f32⟩
  | 40 => ⟨S8192x1024, .f32⟩
  | 41 => ⟨S8192x1024, .f32⟩
  | 42 => ⟨S8192x1024, .f32⟩
  | 43 => ⟨S_, .f32⟩
  | 44 => ⟨S8192, .f32⟩
  | 45 => ⟨S8192x1, .f32⟩
  | 46 => ⟨S_, .f32⟩
  | 47 => ⟨S8192x1, .f32⟩
  | 48 => ⟨S8192x1, .f32⟩
  | 49 => ⟨S_, .f32⟩
  | 50 => ⟨S8192x1, .f32⟩
  | 51 => ⟨S8192x1, .f32⟩
  | 52 => ⟨S8192x1, .f32⟩
  | 53 => ⟨S8192x1, .f32⟩
  | 54 => ⟨S_, .f32⟩
  | 55 => ⟨S8192x1, .f32⟩
  | 56 => ⟨S8192x1, .f32⟩
  | 57 => ⟨S8192x1024, .f32⟩
  | 58 => ⟨S8192x1024, .f32⟩
  | 59 => ⟨S8192x1024, .f32⟩
  | 60 => ⟨S8192x1024, .f32⟩
  | 61 => ⟨S8192x1024, .f32⟩
  | 62 => ⟨S8192x1024, .f32⟩
  | 63 => ⟨S_, .f32⟩
  | 64 => ⟨S8192x1024, .f32⟩
  | 65 => ⟨S8192x1024, .f32⟩
  | 66 => ⟨S_, .f32⟩
  | 67 => ⟨S8192, .f32⟩
  | 68 => ⟨S_, .f32⟩
  | 69 => ⟨S8192, .f32⟩
  | 70 => ⟨S8192, .f32⟩
  | 71 => ⟨S_, .f32⟩
  | 72 => ⟨S_, .f32⟩
  | 73 => ⟨S_, .f32⟩
  | 74 => ⟨S_, .f32⟩
  | 75 => ⟨S_, .f32⟩
  | 76 => ⟨S_, .f32⟩
  | 77 => ⟨S_, .f32⟩
  | 78 => ⟨S8192, .f32⟩
  | 79 => ⟨S_, .f32⟩
  | 80 => ⟨S8192, .f32⟩
  | 81 => ⟨S8192, .f32⟩
  | 82 => ⟨S8192x1024, .f32⟩
  | 83 => ⟨S8192x1024, .f32⟩
  | 84 => ⟨S8192x1024, .f32⟩
  | 85 => ⟨S_, .f32⟩
  | 86 => ⟨S1024, .f32⟩
  | 87 => ⟨S1x1024, .f32⟩
  | 88 => ⟨S8192x1024, .f32⟩
  | 89 => ⟨S8192x1024, .f32⟩
  | 90 => ⟨S8192x1024, .f32⟩
  | 91 => ⟨S_, .f32⟩
  | 92 => ⟨S8192, .f32⟩
  | 93 => ⟨S8192x1, .f32⟩
  | 94 => ⟨S8192x1024, .f32⟩
  | 95 => ⟨S8192x1024, .f32⟩
  | 96 => ⟨S8192x1, .f32⟩
  | 97 => ⟨S_, .f32⟩
  | 98 => ⟨S8192x1, .f32⟩
  | 99 => ⟨S8192x1, .f32⟩
  | 100 => ⟨S_, .f32⟩
  | 101 => ⟨S8192, .f32⟩
  | 102 => ⟨S8192x1024, .f32⟩
  | 103 => ⟨S8192x1024, .f32⟩
  | 104 => ⟨S8192x1024, .f32⟩
  | 105 => ⟨S8192x1024, .f32⟩
  | 106 => ⟨S8192x1024, .f32⟩
  | 107 => ⟨S8192x1024, .f32⟩
  | 108 => ⟨S_, .f32⟩
  | 109 => ⟨S8192, .f32⟩
  | 110 => ⟨S8192x1, .f32⟩
  | 111 => ⟨S_, .f32⟩
  | 112 => ⟨S8192x1, .f32⟩
  | 113 => ⟨S8192x1, .f32⟩
  | 114 => ⟨S_, .f32⟩
  | 115 => ⟨S8192x1, .f32⟩
  | 116 => ⟨S8192x1, .f32⟩
  | 117 => ⟨S8192x1, .f32⟩
  | 118 => ⟨S8192x1024, .f32⟩
  | 119 => ⟨S8192x1024, .f32⟩
  | 120 => ⟨S8192x1024, .f32⟩
  | 121 => ⟨S8192x1024, .f32⟩
  | 122 => ⟨S8192x1024, .f32⟩
  | 123 => ⟨S8192x1024, .f32⟩
  | 124 => ⟨S_, .f32⟩
  | 125 => ⟨S1024, .f32⟩
  | 126 => ⟨S1x1024, .f32⟩
  | 127 => ⟨S_, .f32⟩
  | _ => ⟨S8192x512, .f32⟩

abbrev hbmTy0_1 (i : Nat) : BufTy := match i % 128 with
  | 0 => ⟨S1x1024, .f32⟩
  | 1 => ⟨S1x1024, .f32⟩
  | 2 => ⟨S_, .f32⟩
  | 3 => ⟨S1x1024, .f32⟩
  | 4 => ⟨S1x1024, .f32⟩
  | 5 => ⟨S_, .f32⟩
  | 6 => ⟨S6x1024, .f32⟩
  | 7 => ⟨S8x1024, .f32⟩
  | 8 => ⟨S8192x1024, .bf16⟩
  | 9 => ⟨S8192x1024, .bf16⟩
  | 10 => ⟨S8192x2816, .bf16⟩
  | 11 => ⟨S8192x2816, .bf16⟩
  | 12 => ⟨S8192x2816, .bf16⟩
  | _ => ⟨S8192x512, .f32⟩

abbrev hbmTy (i : Nat) : BufTy := match i / 128 with
  | 0 => hbmTy0_0 i
  | 1 => hbmTy0_1 i
  | _ => ⟨S8192x512, .f32⟩

abbrev bufTy : (tb : Table) → Fin (tcTables nBuf tb) → BufTy
  | .hbm, ⟨i, _⟩ => hbmTy i
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_call0_v5 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_2 : Ref sig .tc := ⟨.hbm, 43, rfl⟩
abbrev main_v23 : Ref sig .tc := ⟨.hbm, 44, rfl⟩
abbrev main_v24 : Ref sig .tc := ⟨.hbm, 45, rfl⟩
abbrev main_cst_3 : Ref sig .tc := ⟨.hbm, 46, rfl⟩
abbrev main_v25 : Ref sig .tc := ⟨.hbm, 47, rfl⟩
abbrev main_v26 : Ref sig .tc := ⟨.hbm, 48, rfl⟩
abbrev main_cst_4 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_cst_5 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_cst_6 : Ref sig .tc := ⟨.hbm, 63, rfl⟩
abbrev main_v39 : Ref sig .tc := ⟨.hbm, 64, rfl⟩
abbrev main_v40 : Ref sig .tc := ⟨.hbm, 65, rfl⟩
abbrev main_cst_7 : Ref sig .tc := ⟨.hbm, 66, rfl⟩
abbrev main_v41 : Ref sig .tc := ⟨.hbm, 67, rfl⟩
abbrev main_cst_8 : Ref sig .tc := ⟨.hbm, 68, rfl⟩
abbrev main_v42 : Ref sig .tc := ⟨.hbm, 69, rfl⟩
abbrev main_v43 : Ref sig .tc := ⟨.hbm, 70, rfl⟩
abbrev main_cst_9 : Ref sig .tc := ⟨.hbm, 71, rfl⟩
abbrev main_v44 : Ref sig .tc := ⟨.hbm, 72, rfl⟩
abbrev main_cst_10 : Ref sig .tc := ⟨.hbm, 73, rfl⟩
abbrev main_v45 : Ref sig .tc := ⟨.hbm, 74, rfl⟩
abbrev main_cst_11 : Ref sig .tc := ⟨.hbm, 75, rfl⟩
abbrev main_cst_12 : Ref sig .tc := ⟨.hbm, 76, rfl⟩
abbrev main_v46 : Ref sig .tc := ⟨.hbm, 77, rfl⟩
abbrev main_v47 : Ref sig .tc := ⟨.hbm, 78, rfl⟩
abbrev main_cst_13 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_cst_14 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_cst_15 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_cst_16 : Ref sig .tc := ⟨.hbm, 97, rfl⟩
abbrev main_v63 : Ref sig .tc := ⟨.hbm, 98, rfl⟩
abbrev main_v64 : Ref sig .tc := ⟨.hbm, 99, rfl⟩
abbrev main_cst_17 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_cst_18 : Ref sig .tc := ⟨.hbm, 108, rfl⟩
abbrev main_v72 : Ref sig .tc := ⟨.hbm, 109, rfl⟩
abbrev main_v73 : Ref sig .tc := ⟨.hbm, 110, rfl⟩
abbrev main_cst_19 : Ref sig .tc := ⟨.hbm, 111, rfl⟩
abbrev main_v74 : Ref sig .tc := ⟨.hbm, 112, rfl⟩
abbrev main_v75 : Ref sig .tc := ⟨.hbm, 113, rfl⟩
abbrev main_cst_20 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_cst_21 : Ref sig .tc := ⟨.hbm, 124, rfl⟩
abbrev main_v85 : Ref sig .tc := ⟨.hbm, 125, rfl⟩
abbrev main_v86 : Ref sig .tc := ⟨.hbm, 126, rfl⟩
abbrev main_cst_22 : Ref sig .tc := ⟨.hbm, 127, rfl⟩
abbrev main_v87 : Ref sig .tc := ⟨.hbm, 128, rfl⟩
abbrev main_v88 : Ref sig .tc := ⟨.hbm, 129, rfl⟩
abbrev main_cst_23 : Ref sig .tc := ⟨.hbm, 130, rfl⟩
abbrev main_v89 : Ref sig .tc := ⟨.hbm, 131, rfl⟩
abbrev main_v90 : Ref sig .tc := ⟨.hbm, 132, rfl⟩
abbrev main_cst_24 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩

abbrev nD : Nat := 1
abbrev τ : Topo := Topo.v7x

variable {F : FTy → Type} [FloatOps F]
-- ==== InBwd.lean ====
abbrev S8192x512 : Shape := ⟨2, ![8192, 512]⟩
abbrev S8192x2048 : Shape := ⟨2, ![8192, 2048]⟩
abbrev S1024x3584 : Shape := ⟨2, ![1024, 3584]⟩
abbrev S8192x1024 : Shape := ⟨2, ![8192, 1024]⟩
abbrev S1x1024 : Shape := ⟨2, ![1, 1024]⟩
abbrev S32 : Shape := ⟨1, ![32]⟩
abbrev S_ : Shape := ⟨0, ![]⟩
abbrev S8192 : Shape := ⟨1, ![8192]⟩
abbrev S8192x1 : Shape := ⟨2, ![8192, 1]⟩
abbrev S1x32 : Shape := ⟨2, ![1, 32]⟩
abbrev S8192x32 : Shape := ⟨2, ![8192, 32]⟩
abbrev S1x8192x1x32 : Shape := ⟨4, ![1, 8192, 1, 32]⟩
abbrev S1x8192x4x32 : Shape := ⟨4, ![1, 8192, 4, 32]⟩
abbrev S8192x128 : Shape := ⟨2, ![8192, 128]⟩
abbrev S8192x64 : Shape := ⟨2, ![8192, 64]⟩
abbrev S1x8192x1x64 : Shape := ⟨4, ![1, 8192, 1, 64]⟩
abbrev S1x8192x2x64 : Shape := ⟨4, ![1, 8192, 2, 64]⟩
abbrev S1024x4x896 : Shape := ⟨3, ![1024, 4, 896]⟩
abbrev S4x1024x896 : Shape := ⟨3, ![4, 1024, 896]⟩
abbrev S8192x3584 : Shape := ⟨2, ![8192, 3584]⟩
abbrev S8x1024 : Shape := ⟨2, ![8, 1024]⟩
abbrev S512x512 : Shape := ⟨2, ![512, 512]⟩
abbrev S512x2048 : Shape := ⟨2, ![512, 2048]⟩
abbrev S512x128 : Shape := ⟨2, ![512, 128]⟩
abbrev S512x1024 : Shape := ⟨2, ![512, 1024]⟩
abbrev S512x3584 : Shape := ⟨2, ![512, 3584]⟩
abbrev S512x1536 : Shape := ⟨2, ![512, 1536]⟩
abbrev S512x896 : Shape := ⟨2, ![512, 896]⟩
abbrev S1x1024x896 : Shape := ⟨3, ![1, 1024, 896]⟩
abbrev S1024x896 : Shape := ⟨2, ![1024, 896]⟩
abbrev S512 : Shape := ⟨1, ![512]⟩
abbrev S512x1 : Shape := ⟨2, ![512, 1]⟩
abbrev S1024 : Shape := ⟨1, ![1024]⟩

abbrev nBuf : Space → Nat
  | .hbm => 38
  | .vmem => 23
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x512, .f32⟩
  | .hbm, ⟨3, _⟩ => ⟨S8192x2048, .bf16⟩
  | .hbm, ⟨4, _⟩ => ⟨S1024x3584, .f32⟩
  | .hbm, ⟨5, _⟩ => ⟨S8192x1024, .f32⟩
  | .hbm, ⟨6, _⟩ => ⟨S1x1024, .f32⟩
  | .hbm, ⟨7, _⟩ => ⟨S8192x1024, .f32⟩
  | .hbm, ⟨8, _⟩ => ⟨S32, .f32⟩
  | .hbm, ⟨9, _⟩ => ⟨S32, .f32⟩
  | .hbm, ⟨10, _⟩ => ⟨S_, .f32⟩
  | .hbm, ⟨11, _⟩ => ⟨S32, .f32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S8192, .f32⟩
  | .hbm, ⟨17, _⟩ => ⟨S8192x1, .f32⟩
  | .hbm, ⟨18, _⟩ => ⟨S1x32, .f32⟩
  | .hbm, ⟨19, _⟩ => ⟨S8192x32, .f32⟩
  | .hbm, ⟨20, _⟩ => ⟨S8192x32, .f32⟩
  | .hbm, ⟨21, _⟩ => ⟨S8192x32, .f32⟩
  | .hbm, ⟨22, _⟩ => ⟨S8192x32, .f32⟩
  | .hbm, ⟨23, _⟩ => ⟨S8192x32, .f32⟩
  | .hbm, ⟨24, _⟩ => ⟨S1x8192x1x32, .f32⟩
  | .hbm, ⟨25, _⟩ => ⟨S1x8192x4x32, .f32⟩
  | .hbm, ⟨26, _⟩ => ⟨S8192x128, .f32⟩
  | .hbm, ⟨27, _⟩ => ⟨S8192x32, .f32⟩
  | .hbm, ⟨28, _⟩ => ⟨S8192x64, .f32⟩
  | .hbm, ⟨29, _⟩ => ⟨S1x8192x1x64, .f32⟩
  | .hbm, ⟨30, _⟩ => ⟨S1x8192x2x64, .f32⟩
  | .hbm, ⟨31, _⟩ => ⟨S8192x128, .f32⟩
  | .hbm, ⟨32, _⟩ => ⟨S1024x3584, .bf16⟩
  | .hbm, ⟨33, _⟩ => ⟨S1024x4x896, .bf16⟩
  | .hbm, ⟨34, _⟩ => ⟨S4x1024x896, .bf16⟩
  | .hbm, ⟨35, _⟩ => ⟨S8192x3584, .bf16⟩
  | .hbm, ⟨36, _⟩ => ⟨S8192x1024, .f32⟩
  | .hbm, ⟨37, _⟩ => ⟨S8x1024, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x2048, .bf16⟩
  | .local _ .vmem, ⟨7, _⟩ => ⟨S512x2048, .bf16⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S4x1024x896, .bf16⟩
  | .local _ .vmem, ⟨13, _⟩ => ⟨S512x1024, .f32⟩
  | .local _ .vmem, ⟨14, _⟩ => ⟨S512x1024, .f32⟩
  | .local _ .vmem, ⟨15, _⟩ => ⟨S1x1024, .f32⟩
  | .local _ .vmem, ⟨16, _⟩ => ⟨S512x1024, .f32⟩
  | .local _ .vmem, ⟨17, _⟩ => ⟨S512x1024, .f32⟩
  | .local _ .vmem, ⟨18, _⟩ => ⟨S512x3584, .bf16⟩
  | .local _ .vmem, ⟨19, _⟩ => ⟨S512x3584, .bf16⟩
  | .local _ .vmem, ⟨20, _⟩ => ⟨S512x1024, .f32⟩
  | .local _ .vmem, ⟨21, _⟩ => ⟨S512x1024, .f32⟩
  | .local _ .vmem, ⟨22, _⟩ => ⟨S8x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25_0 : Ref sig .tc := ⟨.hbm, 35, rfl⟩
abbrev main_v25_1 : Ref sig .tc := ⟨.hbm, 36, rfl⟩
abbrev main_v25_2 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S4x1024x896 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x3584 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S8x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== InBwdRefIdeal.lean ====
abbrev S8192x512 : Shape := ⟨2, ![8192, 512]⟩
abbrev S8192x2048 : Shape := ⟨2, ![8192, 2048]⟩
abbrev S1024x3584 : Shape := ⟨2, ![1024, 3584]⟩
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S8192x3584 : Shape := ⟨2, ![8192, 3584]⟩
abbrev S32 : Shape := ⟨1, ![32]⟩
abbrev S1x32 : Shape := ⟨2, ![1, 32]⟩
abbrev S8192x32 : Shape := ⟨2, ![8192, 32]⟩
abbrev S8192x1x32 : Shape := ⟨3, ![8192, 1, 32]⟩
abbrev S8192x8x64 : Shape := ⟨3, ![8192, 8, 64]⟩
abbrev S8192x8x32 : Shape := ⟨3, ![8192, 8, 32]⟩
abbrev S1024 : Shape := ⟨1, ![1024]⟩
abbrev S7x1024 : Shape := ⟨2, ![7, 1024]⟩
abbrev S8x1024 : Shape := ⟨2, ![8, 1024]⟩

abbrev nBuf : Space → Nat
  | .hbm => 179
  | .vmem => 0
  | .smem => 0
  | _ => 0

abbrev hbmTy0_0 (i : Nat) : BufTy := match i % 128 with
  | 0 => ⟨S8192x512, .f32⟩
  | 1 => ⟨S8192x512, .f32⟩
  | 2 => ⟨S8192x512, .f32⟩
  | 3 => ⟨S8192x2048, .bf16⟩
  | 4 => ⟨S1024x3584, .f32⟩
  | 5 => ⟨S8192x1024, .f32⟩
  | 6 => ⟨S1x1024, .f32⟩
  | 7 => ⟨S8192x1024, .f32⟩
  | 8 => ⟨S8192x1024, .f32⟩
  | 9 => ⟨S_, .f32⟩
  | 10 => ⟨S8192, .f32⟩
  | 11 => ⟨S8192x1, .f32⟩
  | 12 => ⟨S_, .f32⟩
  | 13 => ⟨S8192x1, .f32⟩
  | 14 => ⟨S8192x1, .f32⟩
  | 15 => ⟨S_, .f32⟩
  | 16 => ⟨S8192x1, .f32⟩
  | 17 => ⟨S8192x1, .f32⟩
  | 18 => ⟨S8192x1, .f32⟩
  | 19 => ⟨S8192x1, .f32⟩
  | 20 => ⟨S_, .f32⟩
  | 21 => ⟨S8192x1, .f32⟩
  | 22 => ⟨S8192x1, .f32⟩
  | 23 => ⟨S8192x1024, .f32⟩
  | 24 => ⟨S8192x1024, .f32⟩
  | 25 => ⟨S8192x1024, .f32⟩
  | 26 => ⟨S8192x1024, .f32⟩
  | 27 => ⟨S8192x3584, .f32⟩
  | 28 => ⟨S8192x512, .f32⟩
  | 29 => ⟨S32, .f32⟩
  | 30 => ⟨S32, .f32⟩
  | 31 => ⟨S_, .f32⟩
  | 32 => ⟨S32, .f32⟩
  | 33 => ⟨S32, .f32⟩
  | 34 => ⟨S_, .f32⟩
  | 35 => ⟨S32, .f32⟩
  | 36 => ⟨S32, .f32⟩
  | 37 => ⟨S8192, .f32⟩
  | 38 => ⟨S8192x1, .f32⟩
  | 39 => ⟨S1x32, .f32⟩
  | 40 => ⟨S8192x32, .f32⟩
  | 41 => ⟨S8192x32, .f32⟩
  | 42 => ⟨S8192x32, .f32⟩
  | 43 => ⟨S8192x32, .f32⟩
  | 44 => ⟨S8192x1x32, .f32⟩
  | 45 => ⟨S8192x32, .f32⟩
  | 46 => ⟨S8192x1x32, .f32⟩
  | 47 => ⟨S8192x8x64, .f32⟩
  | 48 => ⟨S8192x8x32, .f32⟩
  | 49 => ⟨S8192x8x32, .f32⟩
  | 50 => ⟨S8192x8x32, .f32⟩
  | 51 => ⟨S8192x8x32, .f32⟩
  | 52 => ⟨S8192x8x32, .f32⟩
  | 53 => ⟨S8192x8x32, .f32⟩
  | 54 => ⟨S8192x8x32, .f32⟩
  | 55 => ⟨S8192x8x32, .f32⟩
  | 56 => ⟨S8192x8x32, .f32⟩
  | 57 => ⟨S8192x8x32, .f32⟩
  | 58 => ⟨S8192x8x32, .f32⟩
  | 59 => ⟨S8192x8x32, .f32⟩
  | 60 => ⟨S8192x8x64, .f32⟩
  | 61 => ⟨S8192x512, .f32⟩
  | 62 => ⟨S8192x512, .f32⟩
  | 63 => ⟨S32, .f32⟩
  | 64 => ⟨S32, .f32⟩
  | 65 => ⟨S_, .f32⟩
  | 66 => ⟨S32, .f32⟩
  | 67 => ⟨S32, .f32⟩
  | 68 => ⟨S_, .f32⟩
  | 69 => ⟨S32, .f32⟩
  | 70 => ⟨S32, .f32⟩
  | 71 => ⟨S8192, .f32⟩
  | 72 => ⟨S8192x1, .f32⟩
  | 73 => ⟨S1x32, .f32⟩
  | 74 => ⟨S8192x32, .f32⟩
  | 75 => ⟨S8192x32, .f32⟩
  | 76 => ⟨S8192x32, .f32⟩
  | 77 => ⟨S8192x32, .f32⟩
  | 78 => ⟨S8192x1x32, .f32⟩
  | 79 => ⟨S8192x32, .f32⟩
  | 80 => ⟨S8192x1x32, .f32⟩
  | 81 => ⟨S8192x8x64, .f32⟩
  | 82 => ⟨S8192x8x32, .f32⟩
  | 83 => ⟨S8192x8x32, .f32⟩
  | 84 => ⟨S8192x8x32, .f32⟩
  | 85 => ⟨S8192x8x32, .f32⟩
  | 86 => ⟨S8192x8x32, .f32⟩
  | 87 => ⟨S8192x8x32, .f32⟩
  | 88 => ⟨S8192x8x32, .f32⟩
  | 89 => ⟨S8192x8x32, .f32⟩
  | 90 => ⟨S8192x8x32, .f32⟩
  | 91 => ⟨S8192x8x32, .f32⟩
  | 92 => ⟨S8192x8x32, .f32⟩
  | 93 => ⟨S8192x8x32, .f32⟩
  | 94 => ⟨S8192x8x64, .f32⟩
  | 95 => ⟨S8192x512, .f32⟩
  | 96 => ⟨S8192x512, .f32⟩
  | 97 => ⟨S8192x2048, .f32⟩
  | 98 => ⟨S8192x2048, .f32⟩
  | 99 => ⟨S_, .f32⟩
  | 100 => ⟨S8192x3584, .f32⟩
  | 101 => ⟨S_, .f32⟩
  | 102 => ⟨S8192x3584, .f32⟩
  | 103 => ⟨S8192x3584, .f32⟩
  | 104 => ⟨S8192x8x64, .f32⟩
  | 105 => ⟨S8192x8x32, .f32⟩
  | 106 => ⟨S8192x8x32, .f32⟩
  | 107 => ⟨S8192x8x32, .f32⟩
  | 108 => ⟨S8192x8x32, .f32⟩
  | 109 => ⟨S8192x8x32, .f32⟩
  | 110 => ⟨S8192x8x32, .f32⟩
  | 111 => ⟨S8192x8x32, .f32⟩
  | 112 => ⟨S8192x8x32, .f32⟩
  | 113 => ⟨S8192x8x32, .f32⟩
  | 114 => ⟨S8192x8x32, .f32⟩
  | 115 => ⟨S8192x8x32, .f32⟩
  | 116 => ⟨S8192x8x32, .f32⟩
  | 117 => ⟨S8192x8x32, .f32⟩
  | 118 => ⟨S_, .f32⟩
  | 119 => ⟨S8192x8x64, .f32⟩
  | 120 => ⟨S_, .f32⟩
  | 121 => ⟨S8192x8x64, .f32⟩
  | 122 => ⟨S8192x8x64, .f32⟩
  | 123 => ⟨S8192x512, .f32⟩
  | 124 => ⟨S_, .f32⟩
  | 125 => ⟨S8192x3584, .f32⟩
  | 126 => ⟨S8192x3584, .f32⟩
  | 127 => ⟨S8192x8x64, .f32⟩
  | _ => ⟨S8192x512, .f32⟩

abbrev hbmTy0_1 (i : Nat) : BufTy := match i % 128 with
  | 0 => ⟨S8192x8x32, .f32⟩
  | 1 => ⟨S8192x8x32, .f32⟩
  | 2 => ⟨S8192x8x32, .f32⟩
  | 3 => ⟨S8192x8x32, .f32⟩
  | 4 => ⟨S8192x8x32, .f32⟩
  | 5 => ⟨S8192x8x32, .f32⟩
  | 6 => ⟨S8192x8x32, .f32⟩
  | 7 => ⟨S8192x8x32, .f32⟩
  | 8 => ⟨S8192x8x32, .f32⟩
  | 9 => ⟨S8192x8x32, .f32⟩
  | 10 => ⟨S8192x8x32, .f32⟩
  | 11 => ⟨S8192x8x32, .f32⟩
  | 12 => ⟨S8192x8x32, .f32⟩
  | 13 => ⟨S_, .f32⟩
  | 14 => ⟨S8192x8x64, .f32⟩
  | 15 => ⟨S_, .f32⟩
  | 16 => ⟨S8192x8x64, .f32⟩
  | 17 => ⟨S8192x8x64, .f32⟩
  | 18 => ⟨S8192x512, .f32⟩
  | 19 => ⟨S_, .f32⟩
  | 20 => ⟨S8192x3584, .f32⟩
  | 21 => ⟨S8192x3584, .f32⟩
  | 22 => ⟨S8192x1024, .f32⟩
  | 23 => ⟨S8192x1024, .f32⟩
  | 24 => ⟨S_, .f32⟩
  | 25 => ⟨S1024, .f32⟩
  | 26 => ⟨S1x1024, .f32⟩
  | 27 => ⟨S8192x1024, .f32⟩
  | 28 => ⟨S8192x1024, .f32⟩
  | 29 => ⟨S8192x1024, .f32⟩
  | 30 => ⟨S_, .f32⟩
  | 31 => ⟨S8192, .f32⟩
  | 32 => ⟨S8192x1, .f32⟩
  | 33 => ⟨S8192x1024, .f32⟩
  | 34 => ⟨S8192x1024, .f32⟩
  | 35 => ⟨S8192x1, .f32⟩
  | 36 => ⟨S_, .f32⟩
  | 37 => ⟨S8192x1, .f32⟩
  | 38 => ⟨S8192x1, .f32⟩
  | 39 => ⟨S_, .f32⟩
  | 40 => ⟨S8192, .f32⟩
  | 41 => ⟨S8192x1024, .f32⟩
  | 42 => ⟨S8192x1024, .f32⟩
  | 43 => ⟨S8192x1024, .f32⟩
  | 44 => ⟨S8192x1024, .f32⟩
  | 45 => ⟨S8192x1024, .f32⟩
  | 46 => ⟨S_, .f32⟩
  | 47 => ⟨S7x1024, .f32⟩
  | 48 => ⟨S8x1024, .f32⟩
  | 49 => ⟨S8192x3584, .bf16⟩
  | 50 => ⟨S8192x1024, .f32⟩
  | _ => ⟨S8192x512, .f32⟩

abbrev hbmTy (i : Nat) : BufTy := match i / 128 with
  | 0 => hbmTy0_0 i
  | 1 => hbmTy0_1 i
  | _ => ⟨S8192x512, .f32⟩

abbrev bufTy : (tb : Table) → Fin (tcTables nBuf tb) → BufTy
  | .hbm, ⟨i, _⟩ => hbmTy i
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_3 : Ref sig .tc := ⟨.hbm, 31, rfl⟩
abbrev main_v19 : Ref sig .tc := ⟨.hbm, 32, rfl⟩
abbrev main_v20 : Ref sig .tc := ⟨.hbm, 33, rfl⟩
abbrev main_cst_4 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_cst_5 : Ref sig .tc := ⟨.hbm, 65, rfl⟩
abbrev main_v51 : Ref sig .tc := ⟨.hbm, 66, rfl⟩
abbrev main_v52 : Ref sig .tc := ⟨.hbm, 67, rfl⟩
abbrev main_cst_6 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_cst_7 : Ref sig .tc := ⟨.hbm, 99, rfl⟩
abbrev main_v83 : Ref sig .tc := ⟨.hbm, 100, rfl⟩
abbrev main_cst_8 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_cst_9 : Ref sig .tc := ⟨.hbm, 118, rfl⟩
abbrev main_v100 : Ref sig .tc := ⟨.hbm, 119, rfl⟩
abbrev main_cst_10 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_cst_11 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_v107 : Ref sig .tc := ⟨.hbm, 128, rfl⟩
abbrev main_v108 : Ref sig .tc := ⟨.hbm, 129, rfl⟩
abbrev main_v109 : Ref sig .tc := ⟨.hbm, 130, rfl⟩
abbrev main_v110 : Ref sig .tc := ⟨.hbm, 131, rfl⟩
abbrev main_v111 : Ref sig .tc := ⟨.hbm, 132, rfl⟩
abbrev main_v112 : Ref sig .tc := ⟨.hbm, 133, rfl⟩
abbrev main_v113 : Ref sig .tc := ⟨.hbm, 134, rfl⟩
abbrev main_v114 : Ref sig .tc := ⟨.hbm, 135, rfl⟩
abbrev main_v115 : Ref sig .tc := ⟨.hbm, 136, rfl⟩
abbrev main_v116 : Ref sig .tc := ⟨.hbm, 137, rfl⟩
abbrev main_v117 : Ref sig .tc := ⟨.hbm, 138, rfl⟩
abbrev main_v118 : Ref sig .tc := ⟨.hbm, 139, rfl⟩
abbrev main_v119 : Ref sig .tc := ⟨.hbm, 140, rfl⟩
abbrev main_cst_12 : Ref sig .tc := ⟨.hbm, 141, rfl⟩
abbrev main_v120 : Ref sig .tc := ⟨.hbm, 142, rfl⟩
abbrev main_cst_13 : Ref sig .tc := ⟨.hbm, 143, rfl⟩
abbrev main_v121 : Ref sig .tc := ⟨.hbm, 144, rfl⟩
abbrev main_v122 : Ref sig .tc := ⟨.hbm, 145, rfl⟩
abbrev main_v123 : Ref sig .tc := ⟨.hbm, 146, rfl⟩
abbrev main_cst_14 : Ref sig .tc := ⟨.hbm, 147, rfl⟩
abbrev main_v124 : Ref sig .tc := ⟨.hbm, 148, rfl⟩
abbrev main_v125 : Ref sig .tc := ⟨.hbm, 149, rfl⟩
abbrev main_v126 : Ref sig .tc := ⟨.hbm, 150, rfl⟩
abbrev main_v127 : Ref sig .tc := ⟨.hbm, 151, rfl⟩
abbrev main_cst_15 : Ref sig .tc := ⟨.hbm, 152, rfl⟩
abbrev main_v128 : Ref sig .tc := ⟨.hbm, 153, rfl⟩
abbrev main_v129 : Ref sig .tc := ⟨.hbm, 154, rfl⟩
abbrev main_v130 : Ref sig .tc := ⟨.hbm, 155, rfl⟩
abbrev main_v131 : Ref sig .tc := ⟨.hbm, 156, rfl⟩
abbrev main_v132 : Ref sig .tc := ⟨.hbm, 157, rfl⟩
abbrev main_cst_16 : Ref sig .tc := ⟨.hbm, 158, rfl⟩
abbrev main_v133 : Ref sig .tc := ⟨.hbm, 159, rfl⟩
abbrev main_v134 : Ref sig .tc := ⟨.hbm, 160, rfl⟩
abbrev main_v135 : Ref sig .tc := ⟨.hbm, 161, rfl⟩
abbrev main_v136 : Ref sig .tc := ⟨.hbm, 162, rfl⟩
abbrev main_v137 : Ref sig .tc := ⟨.hbm, 163, rfl⟩
abbrev main_cst_17 : Ref sig .tc := ⟨.hbm, 164, rfl⟩
abbrev main_v138 : Ref sig .tc := ⟨.hbm, 165, rfl⟩
abbrev main_v139 : Ref sig .tc := ⟨.hbm, 166, rfl⟩
abbrev main_cst_18 : Ref sig .tc := ⟨.hbm, 167, rfl⟩
abbrev main_v140 : Ref sig .tc := ⟨.hbm, 168, rfl⟩
abbrev main_v141 : Ref sig .tc := ⟨.hbm, 169, rfl⟩
abbrev main_v142 : Ref sig .tc := ⟨.hbm, 170, rfl⟩
abbrev main_v143 : Ref sig .tc := ⟨.hbm, 171, rfl⟩
abbrev main_v144 : Ref sig .tc := ⟨.hbm, 172, rfl⟩
abbrev main_v145 : Ref sig .tc := ⟨.hbm, 173, rfl⟩
abbrev main_cst_19 : Ref sig .tc := ⟨.hbm, 174, rfl⟩
abbrev main_v146 : Ref sig .tc := ⟨.hbm, 175, rfl⟩
abbrev main_v147 : Ref sig .tc := ⟨.hbm, 176, rfl⟩
abbrev main_v148 : Ref sig .tc := ⟨.hbm, 177, rfl⟩
abbrev main_v149 : Ref sig .tc := ⟨.hbm, 178, rfl⟩

abbrev nD : Nat := 1
abbrev τ : Topo := Topo.v7x

variable {F : FTy → Type} [FloatOps F]
-- ==== Proof.Mirror.lean ====
/- What one sub-block of 128 rows of the backward call computes, written once as functions of the
   vectors it loads: the four heads and the eight chunks of 16 rows share their text. -/
module

public import proofs.«01_k».proof.Proof.Gen.KernelIdeal.Skeleton

@[expose] public section

set_option maxRecDepth 16384

noncomputable section

namespace Cert.Mirror

open Idealize.ShloMosaic Idealize.SL.Sem
open Cert.KernelIdeal Cert.KernelIdeal.Gen

variable {F : FTy → Type} [FloatOps F]

abbrev W (F : FTy → Type) := FVec F S128x512 .f32
abbrev M (F : FTy → Type) := FVec F S128x128 .f32
abbrev MB (F : FTy → Type) := FVec F S128x128 .bf16

abbrev one512 : W F := broadcast S128x512 (Scalar.ofBits .f32 0x3F800000#32)
abbrev zero512 : W F := broadcast S128x512 (Scalar.ofBits .f32 0x00000000#32)

/-! ### Slices -/

theorem slices_cols (h : ℕ) : S128x512.Slices ![0, 128 * (h % 4)] S128x128 :=
  ⟨rfl, by intro a; have := Nat.mod_lt h (show 0 < 4 by decide); fin_cases a <;> simp <;> omega⟩

theorem slices_part (n : ℕ) : S128x1024.Slices ![0, 128 * (n % 8)] S128x128 :=
  ⟨rfl, by intro a; have := Nat.mod_lt n (show 0 < 8 by decide); fin_cases a <;> simp <;> omega⟩

theorem slices_row (r : ℕ) (n : ℕ) : S128x512.Slices ![16 * (n % 8) + r % 16, 0] S1x512 :=
  ⟨rfl, by
    intro a
    have := Nat.mod_lt n (show 0 < 8 by decide)
    have := Nat.mod_lt r (show 0 < 16 by decide)
    fin_cases a <;> simp <;> omega⟩

theorem slices_decay (n h : ℕ) : S128x512.Slices ![16 * (n % 8), 128 * (h % 4)] S1x128 :=
  ⟨rfl, by
    intro a
    have := Nat.mod_lt n (show 0 < 8 by decide)
    have := Nat.mod_lt h (show 0 < 4 by decide)
    fin_cases a <;> simp <;> omega⟩

theorem slices_quarter (q : ℕ) : S128x2048.Slices ![0, 512 * (q % 4)] S128x512 :=
  ⟨rfl, by intro a; have := Nat.mod_lt q (show 0 < 4 by decide); fin_cases a <;> simp <;> omega⟩

/-- The columns of head `h`. -/
def cols {φ : FTy} (h : ℕ) (v : FVec F S128x512 φ) : FVec F S128x128 φ :=
  extractStridedSlice S128x128 ![0, 128 * (h % 4)] v (slices_cols h)

/-- The columns of chunk `n` in a product over the eight chunks. -/
def part (n : ℕ) (v : FVec F S128x1024 .f32) : M F :=
  extractStridedSlice S128x128 ![0, 128 * (n % 8)] v (slices_part n)

/-- Row `r` of chunk `n`. -/
def row (r n : ℕ) (v : W F) : FVec F S1x512 .f32 :=
  extractStridedSlice S1x512 ![16 * (n % 8) + r % 16, 0] v (slices_row r n)

/-- The decay of chunk `n` for head `h`. -/
def decay (n h : ℕ) (v : W F) : FVec F S1x128 .f32 :=
  extractStridedSlice S1x128 ![16 * (n % 8), 128 * (h % 4)] v (slices_decay n h)

/-- One of the four column groups of the block. -/
def quarter (q : ℕ) (x : Vec F S128x2048 .f32) : W F :=
  extractStridedSlice S128x512 ![0, 512 * (q % 4)] x (slices_quarter q)

/-! ### Masks -/

def mTril : IVec S128x128 1 :=
  k0_pay9 (iota .tc S128x128 32 [0] iota_S128x128_d0_w32) (iota .tc S128x128 32 [1] iota_S128x128_d1_w32)
    k0_pay5 16#32 k0_pay6 k0_pay7 k0_pay8

def mBlock : IVec S128x1024 1 :=
  k0_pay13 (iota .tc S128x1024 32 [1] iota_S128x1024_d1_w32) k0_pay10 128#32 k0_pay11 k0_pay12 0#32

/-- The row's place in its chunk. -/
def mRem : IVec S128x512 32 := k0_pay346

/-! ### Sums within a chunk, and one row of every chunk -/

def up (s : ℕ) (x : W F) : W F :=
  addf x (select (cmpi .sge mRem (broadcast S128x512 (BitVec.ofNat 32 s)))
    (dynamicRotate 0 (BitVec.ofNat 32 s) none x rotates_S128x512_d0) zero512)

def down (s : ℕ) (x : W F) : W F :=
  addf x (select (cmpi .slt (addi mRem (broadcast S128x512 (BitVec.ofNat 32 s))) (broadcast S128x512 16#32))
    (dynamicRotate 0 (BitVec.ofNat 32 (128 - s)) none x rotates_S128x512_d0) zero512)

/-- Running sum within a chunk. -/
def cum (x : W F) : W F := up 8 (up 4 (up 2 (up 1 x)))

/-- Running sum from the end of the chunk. -/
def cumR (x : W F) : W F := down 8 (down 4 (down 2 (down 1 x)))

def rep (v : FVec F S1x512 .f32) : FVec F S16x512 .f32 :=
  broadcastTo S16x512 (shapeCast S1x512 v shapeCasts_S1x512_S1x512) broadcasts_S1x512_S16x512

def rep128 (v : FVec F S1x128 .f32) : FVec F S16x128 .f32 :=
  broadcastTo S16x128 (shapeCast S1x128 v shapeCasts_S1x128_S1x128) broadcasts_S1x128_S16x128

/-- Row `r` of each chunk over the chunk. -/
def chunkRow (r : ℕ) (v : W F) : W F :=
  concatenate S128x512 0 [⟨S16x512, rep (row r 0 v)⟩, ⟨S16x512, rep (row r 1 v)⟩, ⟨S16x512, rep (row r 2 v)⟩,
    ⟨S16x512, rep (row r 3 v)⟩, ⟨S16x512, rep (row r 4 v)⟩, ⟨S16x512, rep (row r 5 v)⟩,
    ⟨S16x512, rep (row r 6 v)⟩, ⟨S16x512, rep (row r 7 v)⟩]
    concatenates_S16x512_S16x512_S16x512_S16x512_S16x512_S16x512_S16x512_S16x512_S128x512_d0

/-- One row per chunk, each over its chunk. -/
def chunkRows (d : ℕ → FVec F S1x128 .f32) : M F :=
  concatenate S128x128 0 [⟨S16x128, rep128 (d 0)⟩, ⟨S16x128, rep128 (d 1)⟩, ⟨S16x128, rep128 (d 2)⟩,
    ⟨S16x128, rep128 (d 3)⟩, ⟨S16x128, rep128 (d 4)⟩, ⟨S16x128, rep128 (d 5)⟩,
    ⟨S16x128, rep128 (d 6)⟩, ⟨S16x128, rep128 (d 7)⟩]
    concatenates_S16x128_S16x128_S16x128_S16x128_S16x128_S16x128_S16x128_S16x128_S128x128_d0

def cat4 (p : ℕ → M F) : W F :=
  concatenate S128x512 1 [⟨S128x128, p 0⟩, ⟨S128x128, p 1⟩, ⟨S128x128, p 2⟩, ⟨S128x128, p 3⟩]
    concatenates_S128x128_S128x128_S128x128_S128x128_S128x512_d1

/-! ### The gates -/

def lgs (x : W F) : W F := divf one512 (addf one512 (exp (subf zero512 x)))

/-- The lower bound of the forget gate. -/
def lbv (l : Vec F S2x512 .f32) : FVec F S1x512 .f32 := k0_pay14 l

def spr (v : FVec F S1x512 .f32) : W F := broadcastTo S128x512 v broadcasts_S1x512_S128x512

def omlb (l : Vec F S2x512 .f32) : FVec F S1x512 .f32 :=
  subf (broadcast S1x512 (Scalar.ofBits .f32 0x3F800000#32)) (lbv l)

def fgate (x : Vec F S128x2048 .f32) (l : Vec F S2x512 .f32) : W F :=
  addf (spr (lbv l)) (mulf (spr (omlb l)) (lgs (quarter 1 x)))

/-- Log decay summed within its chunk. -/
def bsum (x : Vec F S128x2048 .f32) (l : Vec F S2x512 .f32) : W F := cum (log (fgate x l))

def key (x : Vec F S128x2048 .f32) (l : Vec F S2x512 .f32) : W F := subf one512 (fgate x l)
def query (x : Vec F S128x2048 .f32) : W F := mulf (quarter 0 x) (lgs (quarter 0 x))
def eiq (x : Vec F S128x2048 .f32) (l : Vec F S2x512 .f32) : W F := exp (subf (bsum x l) (chunkRow 7 (bsum x l)))
def eik (x : Vec F S128x2048 .f32) (l : Vec F S2x512 .f32) : W F := exp (subf (chunkRow 7 (bsum x l)) (bsum x l))
def eb (x : Vec F S128x2048 .f32) (l : Vec F S2x512 .f32) : W F := exp (bsum x l)
def ebb (x : Vec F S128x2048 .f32) (l : Vec F S2x512 .f32) : W F := exp (subf (chunkRow 15 (bsum x l)) (bsum x l))
def etot (x : Vec F S128x2048 .f32) (l : Vec F S2x512 .f32) : W F := exp (chunkRow 15 (bsum x l))
def qi (x : Vec F S128x2048 .f32) (l : Vec F S2x512 .f32) : W F := mulf (query x) (eiq x l)
def ki (x : Vec F S128x2048 .f32) (l : Vec F S2x512 .f32) : W F := mulf (key x l) (eik x l)
def qs (x : Vec F S128x2048 .f32) (l : Vec F S2x512 .f32) : W F := mulf (query x) (eb x l)
def kb (x : Vec F S128x2048 .f32) (l : Vec F S2x512 .f32) : W F := mulf (key x l) (ebb x l)
def vals (x : Vec F S128x2048 .f32) : FVec F S128x512 .bf16 := truncf .bf16 (quarter 2 x) bitsLt_bf16_f32

/-! ### The output norm -/

def silug (x : Vec F S128x2048 .f32) : W F := mulf (quarter 3 x) (lgs (quarter 3 x))

def don (x : Vec F S128x2048 .f32) (w : Vec F S1x512 .f32) (dy : W F) : W F := mulf (mulf dy (spr w)) (silug x)

def oc (o : W F) : W F := shapeCast S128x512 o shapeCasts_S128x512_S128x512

def colsum (v : M F) : FVec F S128x1 .f32 :=
  shapeCast S128x1 (multiReduction .add [1] S128 v 0x00000000#32 reduces_S128x128_S128 (.inl rfl) rfl) shapeCasts_S128_S128x1

def mean (v : M F) : FVec F S128x1 .f32 :=
  divf (colsum v) (broadcast S128x1 (Scalar.ofBits .f32 0x43000000#32))

def rms (o : M F) : FVec F S128x1 .f32 :=
  rsqrt (addf (mean (mulf o o)) (broadcast S128x1 (Scalar.ofBits .f32 0x358637BD#32)))

def wide (v : FVec F S128x1 .f32) : M F := broadcastTo S128x128 v broadcasts_S128x1_S128x128

def on (h : ℕ) (o : W F) : M F := mulf (cols h (oc o)) (wide (rms (cols h (oc o))))

def doh (h : ℕ) (x : Vec F S128x2048 .f32) (w : Vec F S1x512 .f32) (dy o : W F) : M F :=
  mulf (wide (rms (cols h (oc o))))
    (subf (cols h (don x w dy)) (mulf (on h o) (wide (mean (mulf (cols h (don x w dy)) (on h o))))))

def onAll (o : W F) : W F := cat4 fun h => on h o

/-- The gradient of a product with its own logistic. -/
def dsilu (a : W F) (s : W F) : W F := mulf s (addf one512 (mulf a (subf one512 s)))

def dg (x : Vec F S128x2048 .f32) (w : Vec F S1x512 .f32) (dy o : W F) : W F :=
  mulf (mulf (mulf dy (onAll o)) (spr w)) (dsilu (quarter 3 x) (lgs (quarter 3 x)))

def rowsum (v : W F) : FVec F S1x512 .f32 :=
  shapeCast S1x512 (multiReduction .add [0] S512 v 0x00000000#32 reduces_S128x512_S512 (.inl rfl) rfl) shapeCasts_S512_S1x512

def acc0 (a : Vec F S1x512 .f32) (x : Vec F S128x2048 .f32) (dy o : W F) : FVec F S1x512 .f32 :=
  addf (shapeCast S1x512 a shapeCasts_S1x512_S1x512) (rowsum (mulf (mulf dy (onAll o)) (silug x)))

/-! ### One head -/

def tile (v : M F) : FVec F S128x1024 .bf16 :=
  select mBlock
    (concatenate S128x1024 1 [⟨S128x128, truncf .bf16 v bitsLt_bf16_f32⟩, ⟨S128x128, truncf .bf16 v bitsLt_bf16_f32⟩,
      ⟨S128x128, truncf .bf16 v bitsLt_bf16_f32⟩, ⟨S128x128, truncf .bf16 v bitsLt_bf16_f32⟩,
      ⟨S128x128, truncf .bf16 v bitsLt_bf16_f32⟩, ⟨S128x128, truncf .bf16 v bitsLt_bf16_f32⟩,
      ⟨S128x128, truncf .bf16 v bitsLt_bf16_f32⟩, ⟨S128x128, truncf .bf16 v bitsLt_bf16_f32⟩]
      concatenates_S128x128_S128x128_S128x128_S128x128_S128x128_S128x128_S128x128_S128x128_S128x1024_d1)
    (broadcast S128x1024 (Scalar.ofBits .bf16 0x0000#16))

def zero1024 : FVec F S128x1024 .f32 := constant S128x1024 .f32 0x00000000#32
def zero128 : M F := constant S128x128 .f32 0x00000000#32

def spreadDot (v : MB F) (t : FVec F S128x1024 .bf16) : FVec F S128x1024 .f32 :=
  matmul dot_S128x128_S128x1024_S128x1024_0_0_1_1_n_n none v t zero1024

def step (s : M F) (d : FVec F S1x128 .f32) (u : M F) : M F :=
  addf (mulf s (broadcastTo S128x128 d broadcasts_S1x128_S128x128)) u

/-- The state before chunk `n`. -/
def stAt (s : M F) (d : ℕ → FVec F S1x128 .f32) (u : FVec F S128x1024 .f32) (n : ℕ) : M F :=
  Nat.rec s (fun i t => step t (d i) (part i u)) n

/-- The state's gradient after the last `n` chunks. -/
def dstAt (s : M F) (d : ℕ → FVec F S1x128 .f32) (u : FVec F S128x1024 .f32) (n : ℕ) : M F :=
  Nat.rec s (fun i t => step t (d (7 - i)) (part (7 - i) u)) n

def cat8 (p : ℕ → M F) : FVec F S128x1024 .bf16 :=
  concatenate S128x1024 1 [⟨S128x128, truncf .bf16 (p 0) bitsLt_bf16_f32⟩, ⟨S128x128, truncf .bf16 (p 1) bitsLt_bf16_f32⟩,
    ⟨S128x128, truncf .bf16 (p 2) bitsLt_bf16_f32⟩, ⟨S128x128, truncf .bf16 (p 3) bitsLt_bf16_f32⟩,
    ⟨S128x128, truncf .bf16 (p 4) bitsLt_bf16_f32⟩, ⟨S128x128, truncf .bf16 (p 5) bitsLt_bf16_f32⟩,
    ⟨S128x128, truncf .bf16 (p 6) bitsLt_bf16_f32⟩, ⟨S128x128, truncf .bf16 (p 7) bitsLt_bf16_f32⟩]
    concatenates_S128x128_S128x128_S128x128_S128x128_S128x128_S128x128_S128x128_S128x128_S128x1024_d1

def sum8 (z : FVec F S128x1024 .f32) : M F :=
  addf (addf (addf (addf (addf (addf (addf (part 0 z) (part 1 z)) (part 2 z)) (part 3 z)) (part 4 z)) (part 5 z)) (part 6 z)) (part 7 z)

def fold (v : MB F) (t : FVec F S128x1024 .bf16) : M F :=
  sum8 (select mBlock (matmul dot_S128x128_S128x1024_S128x1024_1_0_0_1_n_n none v t zero1024)
    (broadcast S128x1024 (Scalar.ofBits .f32 0x00000000#32)))

def vsum (v : M F) : FVec F S1x128 .f32 :=
  shapeCast S1x128 (multiReduction .add [0] S128 v 0x00000000#32 reduces_S128x128_S128_2 (.inl rfl) rfl) shapeCasts_S128_S1x128

def tri (a b : MB F) : MB F :=
  truncf .bf16 (select mTril (matmul dot_S128x128_S128x128_S128x128_1_1_0_0_n_n none a b zero128)
    (broadcast S128x128 (Scalar.ofBits .f32 0x00000000#32))) bitsLt_bf16_f32

def tdot (a b : MB F) : M F := matmul dot_S128x128_S128x128_S128x128_0_0_1_1_n_n none a b zero128
def ndot (a b : MB F) : M F := matmul dot_S128x128_S128x128_S128x128_1_0_0_1_n_n none a b zero128

/-- What a head reads: the block, the bound, its part of the state and of the state's gradient, values and output gradient. -/
structure Head (F : FTy → Type) where
  v : MB F
  g : MB F
  qi : M F
  ki : M F
  qs : M F
  kb : M F
  eiq : M F
  eik : M F
  eb : M F
  ebb : M F
  d : ℕ → FVec F S1x128 .f32
  s : M F
  r : M F

namespace Head
variable (H : Head F)

def upd : FVec F S128x1024 .f32 := spreadDot H.v (tile H.kb)
def wgt : FVec F S128x1024 .f32 := spreadDot H.g (tile H.qs)
def st (n : ℕ) : M F := stAt H.s H.d H.upd n
def dst (n : ℕ) : M F := dstAt H.r H.d H.wgt n
def stCat : FVec F S128x1024 .bf16 := cat8 H.st
def dstCat : FVec F S128x1024 .bf16 := cat8 fun n => H.dst (7 - n)
def dbt : M F := chunkRows fun n => mulf (vsum (mulf (H.dst (7 - n)) (H.st n))) (H.d n)
def dqs : M F := fold H.g H.stCat
def dkb : M F := fold H.v H.dstCat
def qib : MB F := truncf .bf16 H.qi bitsLt_bf16_f32
def kib : MB F := truncf .bf16 H.ki bitsLt_bf16_f32
def dv : M F :=
  addf (tdot (tri H.qib H.kib) H.g)
    (matmul dot_S128x1024_S128x1024_S128x128_1_1_0_0_n_n none (tile H.kb) H.dstCat zero128)
def dqi : M F := ndot (tri H.g H.v) H.kib
def dki : M F := tdot (tri H.g H.v) H.qib
def dq : M F := addf (mulf H.dqi H.eiq) (mulf H.dqs H.eb)
def dk : M F := addf (mulf H.dki H.eik) (mulf H.dkb H.ebb)
def dkk : M F := mulf H.dkb H.kb
def db : M F := subf (addf (subf (mulf H.dqi H.qi) (mulf H.dki H.ki)) (mulf H.dqs H.qs)) H.dkk

end Head

/-- Head `h` of a sub-block. -/
def head (h : ℕ) (x : Vec F S128x2048 .f32) (l : Vec F S2x512 .f32) (w : Vec F S1x512 .f32) (dy o : W F) (s r : M F) : Head F where
  v := cols h (vals x)
  g := truncf .bf16 (doh h x w dy o) bitsLt_bf16_f32
  qi := cols h (qi x l)
  ki := cols h (ki x l)
  qs := cols h (qs x l)
  kb := cols h (kb x l)
  eiq := cols h (eiq x l)
  eik := cols h (eik x l)
  eb := cols h (eb x l)
  ebb := cols h (ebb x l)
  d := fun n => decay n h (etot x l)
  s := s
  r := r

/-! ### The sub-block -/

/-- What a sub-block reads. -/
structure Sub (F : FTy → Type) where
  x : Vec F S128x2048 .f32
  l : Vec F S2x512 .f32
  w : Vec F S1x512 .f32
  dy : W F
  o : W F
  s : ℕ → Vec F S1x1x128x128 .f32
  r : ℕ → Vec F S1x128x128 .f32

namespace Sub
variable (B : Sub F)

def hd (h : ℕ) : Head F :=
  head h B.x B.l B.w B.dy B.o (shapeCast S128x128 (B.s h) shapeCasts_S1x1x128x128_S128x128)
    (shapeCast S128x128 (B.r h) shapeCasts_S1x128x128_S128x128)

/-- The state's gradient it leaves. -/
def rOut (h : ℕ) : FVec F S1x128x128 .f32 := shapeCast S1x128x128 ((B.hd h).dst 8) shapeCasts_S128x128_S1x128x128

def dlogf : W F :=
  addf (addf (cumR (cat4 fun h => (B.hd h).db)) (chunkRow 15 (cum (cat4 fun h => (B.hd h).dkk)))) (cat4 fun h => (B.hd h).dbt)

def df : W F := subf (divf B.dlogf (fgate B.x B.l)) (cat4 fun h => (B.hd h).dk)

def dfb : W F := mulf (mulf (mulf B.df (spr (omlb B.l))) (lgs (quarter 1 B.x))) (subf one512 (lgs (quarter 1 B.x)))

def dqb : W F := mulf (cat4 fun h => (B.hd h).dq) (dsilu (quarter 0 B.x) (lgs (quarter 0 B.x)))

def out : FVec F S128x2048 .bf16 :=
  truncf .bf16 (concatenate S128x2048 1 [⟨S128x512, B.dqb⟩, ⟨S128x512, B.dfb⟩, ⟨S128x512, cat4 fun h => (B.hd h).dv⟩,
    ⟨S128x512, dg B.x B.w B.dy B.o⟩] concatenates_S128x512_S128x512_S128x512_S128x512_S128x2048_d1) bitsLt_bf16_f32

def a0 (a : Vec F S1x512 .f32) : FVec F S1x512 .f32 := acc0 a B.x B.dy B.o

def a1 (a : Vec F S1x512 .f32) : FVec F S1x512 .f32 :=
  addf (shapeCast S1x512 a shapeCasts_S1x512_S1x512) (rowsum (mulf B.df (subf one512 (lgs (quarter 1 B.x)))))

end Sub

end Cert.Mirror

end

end
-- ==== Proof.Masks.lean ====
/- The kernel's masks, read at an index. -/
module

public import proofs.«01_k».proof.Proof.Mirror
public import Idealize.ShloMosaic.Lib.Pointwise

@[expose] public section

set_option maxRecDepth 16384

noncomputable section

namespace Cert.Mirror

open Idealize.ShloMosaic Idealize.SL.Sem
open Cert.KernelIdeal Cert.KernelIdeal.Gen

/-- The rounded-down quotient as the kernel computes it. -/
def qt (a c : BitVec 32) : BitVec 32 :=
  Scalar.select
    (IntOp.andi
      (IntOp.cmpi CmpIPredicate.ne
        (IntOp.subi (BitVec.setWidth 32 (IntOp.cmpi CmpIPredicate.sgt a 0#32))
          (BitVec.setWidth 32 (IntOp.cmpi CmpIPredicate.slt a 0#32)))
        (Scalar.subi (Scalar.extui (Scalar.cmpi CmpIPredicate.sgt c 0#32))
          (Scalar.extui (Scalar.cmpi CmpIPredicate.slt c 0#32))))
      (IntOp.cmpi CmpIPredicate.ne (IntOp.remsi ArithUnit.vector a c) 0#32))
    (IntOp.subi (IntOp.divsi ArithUnit.vector a c) 1#32)
    (IntOp.divsi ArithUnit.vector a c)

theorem qt_16 : ∀ i : Fin 128, qt (BitVec.ofNat 32 i) 16#32 = BitVec.ofNat 32 ((i : ℕ) / 16) := by decide +kernel
theorem qt_128 : ∀ i : Fin 1024, qt (BitVec.ofNat 32 i) 128#32 = BitVec.ofNat 32 ((i : ℕ) / 128) := by decide +kernel
theorem eq_8 : ∀ i j : Fin 8, IntOp.cmpi CmpIPredicate.eq (BitVec.ofNat 32 i) (BitVec.ofNat 32 j) = if (i : ℕ) = j then 1#1 else 0#1 := by decide +kernel
theorem le_128 : ∀ i j : Fin 128, IntOp.cmpi CmpIPredicate.sle (BitVec.ofNat 32 j) (BitVec.ofNat 32 i) = if (j : ℕ) ≤ i then 1#1 else 0#1 := by decide +kernel

theorem mTril_at (i j : Fin 128) : mTril (ix2 i j) = if (i : ℕ) / 16 = (j : ℕ) / 16 ∧ (j : ℕ) ≤ i then 1#1 else 0#1 := by
  have e : mTril (ix2 i j) = IntOp.andi (IntOp.cmpi CmpIPredicate.eq (qt (BitVec.ofNat 32 i) 16#32) (qt (BitVec.ofNat 32 j) 16#32))
      (IntOp.cmpi CmpIPredicate.sle (BitVec.ofNat 32 j) (BitVec.ofNat 32 i)) := by
    pointwise [mTril, k0_pay9, k0_pay5, k0_pay6, k0_pay7, k0_pay8, qt]
  have h := eq_8 ⟨(i : ℕ) / 16, by omega⟩ ⟨(j : ℕ) / 16, by omega⟩
  simp only at h
  rw [e, qt_16, qt_16, le_128, h]
  by_cases h1 : (i : ℕ) / 16 = (j : ℕ) / 16 <;> by_cases h2 : (j : ℕ) ≤ i <;> simp only [h1, h2, if_true, if_false, and_true, and_false, and_self] <;> rfl

theorem mBlock_at (i : Fin 128) (j : Fin 1024) : mBlock (ix2 i j) = if (i : ℕ) / 16 = (j : ℕ) / 128 then 1#1 else 0#1 := by
  have e : mBlock (ix2 i j) = IntOp.cmpi CmpIPredicate.eq (qt (BitVec.ofNat 32 i) 16#32) (qt (BitVec.ofNat 32 j) 128#32) := by
    pointwise [mBlock, k0_pay10, k0_pay11, k0_pay12, k0_pay13, qt]
  have h := eq_8 ⟨(i : ℕ) / 16, by omega⟩ ⟨(j : ℕ) / 128, by omega⟩
  simp only at h
  rw [e, qt_16, qt_128, h]

/-- The remainder as the kernel computes it. -/
def rm (a : BitVec 32) : BitVec 32 :=
  Scalar.select
      (IntOp.andi
        (IntOp.xori
          (IntOp.cmpi CmpIPredicate.slt
            (IntOp.remsi ArithUnit.vector a
              (Scalar.select (Scalar.cmpi CmpIPredicate.eq 16#32 0#32) 1#32 16#32))
            0#32)
          (Scalar.cmpi CmpIPredicate.slt (Scalar.select (Scalar.cmpi CmpIPredicate.eq 16#32 0#32) 1#32 16#32) 0#32))
        (IntOp.cmpi CmpIPredicate.ne
          (IntOp.remsi ArithUnit.vector a
            (Scalar.select (Scalar.cmpi CmpIPredicate.eq 16#32 0#32) 1#32 16#32))
          0#32))
      (IntOp.addi
        (IntOp.remsi ArithUnit.vector a
          (Scalar.select (Scalar.cmpi CmpIPredicate.eq 16#32 0#32) 1#32 16#32))
        (Scalar.select (Scalar.cmpi CmpIPredicate.eq 16#32 0#32) 1#32 16#32))
      (IntOp.remsi ArithUnit.vector a
        (Scalar.select (Scalar.cmpi CmpIPredicate.eq 16#32 0#32) 1#32 16#32))

theorem rm_16 : ∀ i : Fin 128, rm (BitVec.ofNat 32 i) = BitVec.ofNat 32 ((i : ℕ) % 16) := by decide +kernel

theorem mRem_at (i : Fin 128) (j : Fin 512) : mRem (ix2 i j) = BitVec.ofNat 32 ((i : ℕ) % 16) := by
  have e : mRem (ix2 i j) = rm (BitVec.ofNat 32 i) := by pointwise [mRem, k0_pay346, rm]
  rw [e, rm_16]

/-- The condition of the forward running sum. -/
theorem ge_16 : ∀ i s : Fin 16, IntOp.cmpi CmpIPredicate.sge (BitVec.ofNat 32 i) (BitVec.ofNat 32 s) = if (s : ℕ) ≤ i then 1#1 else 0#1 := by decide +kernel
/-- The condition of the backward running sum. -/
theorem lt_16 : ∀ i s : Fin 16, IntOp.cmpi CmpIPredicate.slt (IntOp.addi (BitVec.ofNat 32 i) (BitVec.ofNat 32 s)) 16#32 = if (i : ℕ) + s < 16 then 1#1 else 0#1 := by decide +kernel

end Cert.Mirror

end

end
-- ==== Proof.Lift.lean ====
/- A vector of reals read off a function of natural indices, and how each operation of the mirror carries it along. -/
module

public import proofs.«01_k».proof.Proof.Masks
public import Mathlib.Data.EReal.Operations

@[expose] public section

set_option maxRecDepth 16384

noncomputable section

namespace Cert.Mirror

open Idealize.ShloMosaic Idealize.SL.Sem
open Cert.KernelIdeal Cert.KernelIdeal.Gen

/-- The matrix `v` has the real entries `r`. -/
def Lf {a b : ℕ} (v : (⟨2, ![a, b]⟩ : Shape).Idx → EReal) (r : ℕ → ℕ → ℝ) : Prop :=
  ∀ (i : Fin a) (j : Fin b), v (ix2 i j) = ((r i j : ℝ) : EReal)

theorem Lf.congr {a b : ℕ} {v : (⟨2, ![a, b]⟩ : Shape).Idx → EReal} {r r' : ℕ → ℕ → ℝ} (h : Lf v r)
    (e : ∀ i < a, ∀ j < b, r i j = r' i j) : Lf v r' := fun i j => by rw [h i j, e i i.2 j j.2]

theorem coe_sum {n : ℕ} (f : ℕ → ℝ) : (∑ k : Fin n, ((f k : ℝ) : EReal)) = ((∑ k ∈ Finset.range n, f k : ℝ) : EReal) := by
  rw [Finset.sum_range]
  induction (Finset.univ : Finset (Fin n)) using Finset.induction_on with
  | empty => simp
  | insert a s ha ih => rw [Finset.sum_insert ha, Finset.sum_insert ha, ih, EReal.coe_add]

theorem div_real (x y : ℝ) (h : y ≠ 0) : Ideal.div (x : EReal) (y : EReal) = ((x / y : ℝ) : EReal) := by
  rw [Ideal.div_coe h, ← EReal.coe_mul]; congr 1; ring

theorem sel_if {α : Type} (p : Prop) [Decidable p] (a b : α) : Scalar.select (if p then 1#1 else 0#1) a b = if p then a else b := by
  by_cases h : p <;> simp [h, Scalar.select]

theorem coe_ite (p : Prop) [Decidable p] (a b : ℝ) : (if p then (a : EReal) else (b : EReal)) = ((if p then a else b : ℝ) : EReal) := by
  by_cases h : p <;> simp [h]

section
variable {a b : ℕ} {φ : FTy} {x y : FVec Ideal ⟨2, ![a, b]⟩ φ} {r s : ℕ → ℕ → ℝ}

theorem Lf.add (hx : Lf x r) (hy : Lf y s) : Lf (addf x y) (fun i j => r i j + s i j) := by
  intro i j; pointwise; rw [hx i j, hy i j, EReal.coe_add]

theorem Lf.mul (hx : Lf x r) (hy : Lf y s) : Lf (mulf x y) (fun i j => r i j * s i j) := by
  intro i j; pointwise; rw [hx i j, hy i j, EReal.coe_mul]

theorem Lf.sub (hx : Lf x r) (hy : Lf y s) : Lf (subf x y) (fun i j => r i j - s i j) := by
  intro i j; pointwise; rw [hx i j, hy i j, EReal.coe_sub]

theorem Lf.div (hx : Lf x r) (hy : Lf y s) (h : ∀ i < a, ∀ j < b, s i j ≠ 0) : Lf (divf x y) (fun i j => r i j / s i j) := by
  intro i j; pointwise; rw [hx i j, hy i j, div_real _ _ (h i i.2 j j.2)]

theorem Lf.exp (hx : Lf x r) : Lf (exp x) (fun i j => Real.exp (r i j)) := by
  intro i j; pointwise; rw [hx i j, Ideal.exp_coe]

theorem Lf.log (hx : Lf x r) (h : ∀ i < a, ∀ j < b, 0 < r i j) : Lf (log x) (fun i j => Real.log (r i j)) := by
  intro i j; pointwise; rw [hx i j, Ideal.log_coe, if_neg (not_le.2 (h i i.2 j j.2))]

theorem Lf.rsqrt (hx : Lf x r) (h : ∀ i < a, ∀ j < b, 0 < r i j) : Lf (rsqrt x) (fun i j => (Real.sqrt (r i j))⁻¹) := by
  intro i j; pointwise; rw [hx i j, Ideal.rsqrt_coe, if_neg (not_lt.2 (h i i.2 j j.2).le), if_neg (h i i.2 j j.2).ne']

end

theorem Lf.trunc {a b : ℕ} {x : FVec Ideal ⟨2, ![a, b]⟩ .f32} {r : ℕ → ℕ → ℝ} (hx : Lf x r) : Lf (truncf .bf16 x bitsLt_bf16_f32) r := by
  intro i j; pointwise; exact hx i j

theorem lf_one : Lf (one512 (F := Ideal)) (fun _ _ => 1) := by
  intro i j; pointwise; rw [EReal.coe_one]
theorem lf_zero : Lf (zero512 (F := Ideal)) (fun _ _ => 0) := by
  intro i j; pointwise; rw [EReal.coe_zero]

theorem Lf.cols {φ : FTy} {v : FVec Ideal S128x512 φ} {r : ℕ → ℕ → ℝ} (hv : Lf v r) (h : ℕ) :
    Lf (cols h v) (fun i j => r i (128 * (h % 4) + j)) := by
  intro i j; pointwise [Mirror.cols]; exact hv _ _

theorem Lf.part {v : FVec Ideal S128x1024 .f32} {r : ℕ → ℕ → ℝ} (hv : Lf v r) (h : ℕ) :
    Lf (part h v) (fun i j => r i (128 * (h % 8) + j)) := by
  intro i j; pointwise [Mirror.part]; exact hv _ _

theorem Lf.quarter {v : FVec Ideal S128x2048 .f32} {r : ℕ → ℕ → ℝ} (hv : Lf v r) (h : ℕ) :
    Lf (quarter (F := Ideal) h v) (fun i j => r i (512 * (h % 4) + j)) := by
  intro i j; pointwise [Mirror.quarter]; exact hv _ _

theorem Lf.decay {v : FVec Ideal S128x512 .f32} {r : ℕ → ℕ → ℝ} (hv : Lf v r) (n h : ℕ) :
    Lf (decay n h v) (fun _ j => r (16 * (n % 8)) (128 * (h % 4) + j)) := by
  intro i j; obtain rfl : i = 0 := Subsingleton.elim _ _
  pointwise [Mirror.decay]; exact hv _ _

theorem Lf.chunkRow {v : FVec Ideal S128x512 .f32} {r : ℕ → ℕ → ℝ} (hv : Lf v r) (m : ℕ) (hm : m < 16) :
    Lf (chunkRow m v) (fun i j => r (16 * (i / 16) + m) j) := by
  intro i j
  pointwise [Mirror.chunkRow, rep, row]
  have e : m % 16 = m := Nat.mod_eq_of_lt hm
  simp only [e, Nat.zero_mod, Nat.mul_zero, Nat.reduceMod, Nat.reduceMul]
  repeat' split
  all_goals
    refine (hv _ _).trans ?_
    exact congrArg (fun n => ((r n j : ℝ) : EReal)) (by simp only; omega)

theorem Lf.chunkRows {d : ℕ → FVec Ideal S1x128 .f32} {r : ℕ → ℕ → ℝ} (hd : ∀ n < 8, Lf (d n) (fun _ j => r n j)) :
    Lf (chunkRows d) (fun i j => r (i / 16) j) := by
  intro i j
  pointwise [Mirror.chunkRows, rep128]
  repeat' split
  all_goals
    refine (hd _ (by decide) _ _).trans ?_
    exact congrArg (fun n => ((r n j : ℝ) : EReal)) (by omega)

theorem Lf.up {x : FVec Ideal S128x512 .f32} {r : ℕ → ℕ → ℝ} (hx : Lf x r) (s : Fin 16) :
    Lf (up s x) (fun i j => r i j + if (s : ℕ) ≤ i % 16 then r (i - s) j else 0) := by
  intro i j
  have h := ge_16 ⟨(i : ℕ) % 16, by omega⟩ s
  pointwise [Mirror.up, mRem_at]
  simp only at h
  rw [h, sel_if, hx i j]
  have hs := s.2
  have e1 : (BitVec.ofNat 32 (s : ℕ)).toNat = s := by rw [BitVec.toNat_ofNat]; omega
  by_cases c : (s : ℕ) ≤ (i : ℕ) % 16
  · rw [if_pos c, if_pos c, EReal.coe_add]
    refine congrArg _ ((hx _ _).trans ?_)
    exact congrArg (fun n => ((r n j : ℝ) : EReal)) (by simp only [e1]; omega)
  · rw [if_neg c, if_neg c, EReal.coe_add, EReal.coe_zero]

theorem Lf.down {x : FVec Ideal S128x512 .f32} {r : ℕ → ℕ → ℝ} (hx : Lf x r) (s : Fin 16) :
    Lf (down s x) (fun i j => r i j + if i % 16 + s < 16 then r (i + s) j else 0) := by
  intro i j
  have h := lt_16 ⟨(i : ℕ) % 16, by omega⟩ s
  pointwise [Mirror.down, mRem_at]
  simp only at h
  rw [h, sel_if, hx i j]
  have hs := s.2
  have e1 : (BitVec.ofNat 32 (128 - (s : ℕ))).toNat = 128 - s := by rw [BitVec.toNat_ofNat]; omega
  by_cases c : (i : ℕ) % 16 + s < 16
  · rw [if_pos c, if_pos c, EReal.coe_add]
    refine congrArg _ ((hx _ _).trans ?_)
    exact congrArg (fun n => ((r n j : ℝ) : EReal)) (by simp only [e1]; omega)
  · rw [if_neg c, if_neg c, EReal.coe_add, EReal.coe_zero]

theorem Lf.cum {x : FVec Ideal S128x512 .f32} {r : ℕ → ℕ → ℝ} (hx : Lf x r) :
    Lf (cum x) (fun i j => ∑ k ∈ Finset.range (i % 16 + 1), r (16 * (i / 16) + k) j) := by
  refine ((((hx.up 1).up 2).up 4).up 8).congr fun i _ j _ => ?_
  have h : i % 16 < 16 := Nat.mod_lt _ (by decide)
  have e : i = 16 * (i / 16) + i % 16 := (Nat.div_add_mod i 16).symm
  generalize i / 16 = q at *
  generalize i % 16 = m at *
  subst e
  have d : ∀ m, m < 16 → (16 * q + m) % 16 = m := fun m hm => by omega
  simp only [Fin.isValue, Fin.val_one, Fin.val_two, show ((4 : Fin 16) : ℕ) = 4 from rfl, show ((8 : Fin 16) : ℕ) = 8 from rfl]
  interval_cases m <;>
    simp +arith [Finset.sum_range_succ, Nat.add_sub_assoc, Nat.add_mod] <;> try ring

theorem Lf.cumR {x : FVec Ideal S128x512 .f32} {r : ℕ → ℕ → ℝ} (hx : Lf x r) :
    Lf (cumR x) (fun i j => ∑ k ∈ Finset.range (16 - i % 16), r (i + k) j) := by
  refine ((((hx.down 1).down 2).down 4).down 8).congr fun i _ j _ => ?_
  have h : i % 16 < 16 := Nat.mod_lt _ (by decide)
  have e : i = 16 * (i / 16) + i % 16 := (Nat.div_add_mod i 16).symm
  generalize i / 16 = q at *
  generalize i % 16 = m at *
  subst e
  have d : ∀ m, m < 16 → (16 * q + m) % 16 = m := fun m hm => by omega
  simp only [Fin.isValue, Fin.val_one, Fin.val_two, show ((4 : Fin 16) : ℕ) = 4 from rfl, show ((8 : Fin 16) : ℕ) = 8 from rfl]
  interval_cases m <;>
    simp [Finset.sum_range_succ, Nat.add_mod, Nat.add_assoc] <;> try ring

theorem Lf.cat4 {p : ℕ → M Ideal} {r : ℕ → ℕ → ℝ} (hp : ∀ h < 4, Lf (p h) (fun i j => r i (128 * h + j))) : Lf (cat4 p) r := by
  intro i j
  pointwise [Mirror.cat4]
  repeat' split
  all_goals
    refine (hp _ (by decide) _ _).trans ?_
    exact congrArg (fun n => ((r i n : ℝ) : EReal)) (by simp only; omega)

theorem Lf.cat8 {p : ℕ → M Ideal} {r : ℕ → ℕ → ℝ} (hp : ∀ h < 8, Lf (p h) (fun i j => r i (128 * h + j))) : Lf (cat8 p) r := by
  intro i j
  pointwise [Mirror.cat8]
  repeat' split
  all_goals
    refine (hp _ (by decide) _ _).trans ?_
    exact congrArg (fun n => ((r i n : ℝ) : EReal)) (by simp only; omega)

theorem Lf.tile {v : M Ideal} {r : ℕ → ℕ → ℝ} (hv : Lf v r) :
    Lf (tile v) (fun i j => if i / 16 = j / 128 then r i (j % 128) else 0) := by
  intro i j
  pointwise [Mirror.tile, mBlock_at, sel_if]
  rw [← coe_ite]
  refine if_congr Iff.rfl ?_ EReal.coe_zero.symm
  repeat' split
  all_goals
    refine (hv _ _).trans ?_
    exact congrArg (fun n => ((r i n : ℝ) : EReal)) (by simp only; omega)

theorem Lf.spread {v : FVec Ideal S1x512 .f32} {r : ℕ → ℝ} (hv : Lf v fun _ j => r j) : Lf (spr v) (fun _ j => r j) := by
  intro i j; pointwise [spr]; exact hv _ _

theorem Lf.spreadDot {v : MB Ideal} {t : FVec Ideal S128x1024 .bf16} {r s : ℕ → ℕ → ℝ} (hv : Lf v r) (ht : Lf t s) :
    Lf (spreadDot v t) (fun i j => ∑ k ∈ Finset.range 128, r k i * s k j) := by
  intro i j
  pointwise [Mirror.spreadDot, zero1024]
  rw [← coe_sum]
  exact Finset.sum_congr rfl fun k _ => by rw [hv k i, ht k j, EReal.coe_mul]

theorem Lf.fold {v : MB Ideal} {t : FVec Ideal S128x1024 .bf16} {r s : ℕ → ℕ → ℝ} (hv : Lf v r) (ht : Lf t s) :
    Lf (fold v t) (fun i j => ∑ k ∈ Finset.range 128, r i k * s k (128 * (i / 16) + j)) := by
  intro i j
  pointwise [Mirror.fold, zero1024, sum8, Mirror.part, mBlock_at, sel_if]
  have e : ∀ n : Fin 1024, ∑ x, v (ix2 i x) * t (ix2 x n) = ((∑ k ∈ Finset.range 128, r i k * s k n : ℝ) : EReal) := by
    intro n
    rw [← coe_sum]
    exact Finset.sum_congr rfl fun k _ => by rw [hv i k, ht k n, EReal.coe_mul]
  simp only [e]
  rw [← EReal.coe_zero]
  simp only [coe_ite, ← EReal.coe_add]
  refine congrArg Real.toEReal ?_
  have hj := j.2
  have hi : (i : ℕ) / 16 < 8 := by have := i.2; omega
  have c : ∀ n, (128 * n + (j : ℕ)) / 128 = n := fun n => by omega
  have c0 := c 0; have c1 := c 1; have c2 := c 2; have c3 := c 3; have c4 := c 4; have c5 := c 5; have c6 := c 6; have c7 := c 7
  simp only [Nat.reduceMul, Nat.mul_zero, Nat.zero_add] at c0 c1 c2 c3 c4 c5 c6 c7
  rw [c0, c1, c2, c3, c4, c5, c6, c7]
  generalize (i : ℕ) / 16 = m at hi
  interval_cases m <;> simp

theorem Lf.vsum {v : M Ideal} {r : ℕ → ℕ → ℝ} (hv : Lf v r) : Lf (vsum v) (fun _ j => ∑ k ∈ Finset.range 128, r k j) := by
  intro i j; obtain rfl : i = 0 := Subsingleton.elim _ _
  pointwise [Mirror.vsum]
  rw [← coe_sum]
  exact Finset.sum_congr rfl fun k _ => by rw [hv k j]

theorem Lf.rowsum {v : W Ideal} {r : ℕ → ℕ → ℝ} (hv : Lf v r) : Lf (rowsum v) (fun _ j => ∑ k ∈ Finset.range 128, r k j) := by
  intro i j; obtain rfl : i = 0 := Subsingleton.elim _ _
  pointwise [Mirror.rowsum]
  rw [← coe_sum]
  exact Finset.sum_congr rfl fun k _ => by rw [hv k j]

theorem Lf.colsum {v : M Ideal} {r : ℕ → ℕ → ℝ} (hv : Lf v r) : Lf (colsum v) (fun i _ => ∑ k ∈ Finset.range 128, r i k) := by
  intro i j; obtain rfl : j = 0 := Subsingleton.elim _ _
  pointwise [Mirror.colsum]
  rw [← coe_sum]
  exact Finset.sum_congr rfl fun k _ => by rw [hv i k]

theorem Lf.tri {x y : MB Ideal} {r s : ℕ → ℕ → ℝ} (hx : Lf x r) (hy : Lf y s) :
    Lf (tri x y) (fun i j => if i / 16 = j / 16 ∧ j ≤ i then ∑ k ∈ Finset.range 128, r i k * s j k else 0) := by
  intro i j
  pointwise [Mirror.tri, zero128, mTril_at, sel_if]
  rw [← coe_ite, ← coe_sum]
  refine if_congr Iff.rfl ?_ EReal.coe_zero.symm
  exact Finset.sum_congr rfl fun k _ => by rw [hx i k, hy j k, EReal.coe_mul]

theorem Lf.tdot {x y : MB Ideal} {r s : ℕ → ℕ → ℝ} (hx : Lf x r) (hy : Lf y s) :
    Lf (tdot x y) (fun i j => ∑ k ∈ Finset.range 128, r k i * s k j) := by
  intro i j
  pointwise [Mirror.tdot, zero128]
  rw [← coe_sum]
  exact Finset.sum_congr rfl fun k _ => by rw [hx k i, hy k j, EReal.coe_mul]

theorem Lf.ndot {x y : MB Ideal} {r s : ℕ → ℕ → ℝ} (hx : Lf x r) (hy : Lf y s) :
    Lf (ndot x y) (fun i j => ∑ k ∈ Finset.range 128, r i k * s k j) := by
  intro i j
  pointwise [Mirror.ndot, zero128]
  rw [← coe_sum]
  exact Finset.sum_congr rfl fun k _ => by rw [hx i k, hy k j, EReal.coe_mul]

theorem Lf.wdot {x y : FVec Ideal S128x1024 .bf16} {r s : ℕ → ℕ → ℝ} (hx : Lf x r) (hy : Lf y s) :
    Lf (matmul dot_S128x1024_S128x1024_S128x128_1_1_0_0_n_n none x y zero128) (fun i j => ∑ k ∈ Finset.range 1024, r i k * s j k) := by
  intro i j
  pointwise [zero128]
  rw [← coe_sum]
  exact Finset.sum_congr rfl fun k _ => by rw [hx i k, hy j k, EReal.coe_mul]

theorem Lf.wide {v : FVec Ideal S128x1 .f32} {r : ℕ → ℝ} (hv : Lf v fun i _ => r i) : Lf (wide v) (fun i _ => r i) := by
  intro i j; pointwise [Mirror.wide]; exact hv _ _

theorem Lf.step {x u : M Ideal} {d : FVec Ideal S1x128 .f32} {r s : ℕ → ℕ → ℝ} {e : ℕ → ℝ} (hx : Lf x r) (hd : Lf d fun _ j => e j) (hu : Lf u s) :
    Lf (step x d u) (fun i j => r i j * e j + s i j) := by
  intro i j; pointwise [Mirror.step]; rw [hx i j, hu i j]; erw [hd 0 j]; rw [EReal.coe_add, EReal.coe_mul]

end Cert.Mirror

end

end
-- ==== Proof.Real.lean ====
/- The backward recurrence over the reals, and how its causal sums split at the chunks. -/
module

public import proofs.«01_k».proof.Proof.Mirror
public import Mathlib.Data.EReal.Operations
public import Mathlib.Algebra.BigOperators.Intervals
public import Mathlib.Analysis.SpecialFunctions.Log.Basic
public import Mathlib.Analysis.SpecialFunctions.Exp

@[expose] public section

noncomputable section

namespace Cert.Mirror

open Finset

/-- The logistic function. -/
def sg (z : ℝ) : ℝ := 1 / (1 + Real.exp (0 - z))
/-- The derivative of a product with its own logistic. -/
def dsg (a : ℝ) : ℝ := sg a * (1 + a * (1 - sg a))

theorem sg_pos (z : ℝ) : 0 < sg z := by unfold sg; positivity
theorem sg_lt (z : ℝ) : sg z < 1 := by
  unfold sg; rw [div_lt_one (by positivity)]; have := Real.exp_pos (0 - z); linarith

/-- The arguments, as functions of natural indices. -/
structure In where
  n : ℕ
  eps : ℝ
  x : ℕ → ℕ → ℝ
  l : ℕ → ℕ → ℝ
  w : ℕ → ℝ
  dy : ℕ → ℕ → ℝ

namespace In
variable (D : In)

def lb (c : ℕ) : ℝ :=
  Real.exp (D.l 0 c - max (D.l 0 c) (D.l 1 c)) /
    (Real.exp (D.l 0 c - max (D.l 0 c) (D.l 1 c)) + Real.exp (D.l 1 c - max (D.l 0 c) (D.l 1 c)))

theorem lb_pos (c : ℕ) : 0 < D.lb c := by unfold lb; positivity
theorem lb_lt (c : ℕ) : D.lb c < 1 := by
  unfold lb; rw [div_lt_one (by positivity)]; have := Real.exp_pos (D.l 1 c - max (D.l 0 c) (D.l 1 c)); linarith

def q (t c : ℕ) : ℝ := D.x t c * sg (D.x t c)
def f (t c : ℕ) : ℝ := D.lb c + (1 - D.lb c) * sg (D.x t (512 + c))
def k (t c : ℕ) : ℝ := 1 - D.f t c
def v (t c : ℕ) : ℝ := D.x t (1024 + c)
def g (t c : ℕ) : ℝ := D.x t (1536 + c)

theorem f_pos (t c : ℕ) : 0 < D.f t c := by
  unfold f
  have := D.lb_pos c; have := D.lb_lt c; have := sg_pos (D.x t (512 + c))
  nlinarith [mul_pos (sub_pos.2 (D.lb_lt c)) (sg_pos (D.x t (512 + c)))]

/-- Log decay over the rows before `t`. -/
def C (t c : ℕ) : ℝ := ∑ s ∈ range t, Real.log (D.f s c)
/-- Decay from after row `s` to row `t`. -/
def E (t s c : ℕ) : ℝ := Real.exp (D.C (t + 1) c - D.C (s + 1) c)

def A (t s h : ℕ) : ℝ :=
  if s ≤ t then ∑ d ∈ range 128, D.q t (128 * h + d) * D.k s (128 * h + d) * D.E t s (128 * h + d) else 0
def o (t c : ℕ) : ℝ := ∑ s ∈ range D.n, D.A t s (c / 128) * D.v s c

def rs (t h : ℕ) : ℝ := (Real.sqrt ((∑ d ∈ range 128, D.o t (128 * h + d) * D.o t (128 * h + d)) / 128 + D.eps))⁻¹
def on (t c : ℕ) : ℝ := D.o t c * D.rs t (c / 128)
def don (t c : ℕ) : ℝ := D.dy t c * D.w c * (D.g t c * sg (D.g t c))
/-- The gradient of the recurrence's output. -/
def G (t c : ℕ) : ℝ :=
  D.rs t (c / 128) * (D.don t c - D.on t c *
    ((∑ d ∈ range 128, D.don t (128 * (c / 128) + d) * D.on t (128 * (c / 128) + d)) / 128))

def dA (t s h : ℕ) : ℝ := ∑ e ∈ range 128, D.G t (128 * h + e) * D.v s (128 * h + e)

def dq (t c : ℕ) : ℝ := ∑ s ∈ range D.n, if s ≤ t then D.dA t s (c / 128) * D.k s c * D.E t s c else 0
def dk (s c : ℕ) : ℝ := ∑ t ∈ range D.n, if s ≤ t then D.dA t s (c / 128) * D.q t c * D.E t s c else 0
def dv (s c : ℕ) : ℝ := ∑ t ∈ range D.n, D.A t s (c / 128) * D.G t c
def W (c t s : ℕ) : ℝ := if s ≤ t then D.dA t s (c / 128) * D.q t c * D.k s c * D.E t s c else 0
/-- The gradient of the log decay. -/
def dl (t c : ℕ) : ℝ :=
  ∑ u ∈ range D.n, if t ≤ u then (∑ s ∈ range D.n, D.W c u s) - ∑ s ∈ range D.n, D.W c s u else 0
def df (t c : ℕ) : ℝ := D.dl t c / D.f t c - D.dk t c
def dg (t c : ℕ) : ℝ := D.dy t c * D.on t c * D.w c * dsg (D.g t c)
def p0 (t c : ℕ) : ℝ := D.dy t c * D.on t c * (D.g t c * sg (D.g t c))
def p1 (t c : ℕ) : ℝ := D.df t c * (1 - sg (D.x t (512 + c)))
def dfb (t c : ℕ) : ℝ := D.df t c * (1 - D.lb c) * sg (D.x t (512 + c)) * (1 - sg (D.x t (512 + c)))
def dqb (t c : ℕ) : ℝ := D.dq t c * dsg (D.x t c)
/-- The gradient of the four column groups. -/
def out (t c : ℕ) : ℝ :=
  if c < 512 then D.dqb t c else if c < 1024 then D.dfb t (c - 512) else if c < 1536 then D.dv t (c - 1024) else D.dg t (c - 1536)

/-- The state after the rows before `R`, key column `c`, value column `e`. -/
def S (R c e : ℕ) : ℝ := ∑ s ∈ range D.n, if s < R then Real.exp (D.C R c - D.C (s + 1) c) * D.k s c * D.v s e else 0
/-- The gradient of the state after the rows before `R`. -/
def Z (R c e : ℕ) : ℝ := ∑ t ∈ range D.n, if R ≤ t then Real.exp (D.C (t + 1) c - D.C R c) * D.q t c * D.G t e else 0

end In

/-! ### Sums over a window -/

theorem win (H : ℕ → ℝ) {R m n : ℕ} (h : R + m ≤ n) :
    ∑ k ∈ range m, H (R + k) = ∑ t ∈ range n, if R ≤ t ∧ t < R + m then H t else 0 := by
  have e := sum_Ico_eq_sum_range H R (R + m)
  rw [Nat.add_sub_cancel_left] at e
  rw [← e, ← sum_filter]
  refine sum_congr ?_ fun _ _ => rfl
  ext t; simp only [mem_Ico, mem_filter, mem_range]; omega

/-- A masked sum over the 128 rows of a block is the masked sum over all rows. -/
theorem win_if (p : ℕ → Prop) [DecidablePred p] (H : ℕ → ℝ) {R n : ℕ} (h : R + 128 ≤ n) :
    (∑ k ∈ range 128, if p k then H (R + k) else 0) = ∑ t ∈ range n, if R ≤ t ∧ t < R + 128 ∧ p (t - R) then H t else 0 := by
  have e := win (fun t => if p (t - R) then H t else 0) h
  simp only [Nat.add_sub_cancel_left] at e
  rw [e]
  refine sum_congr rfl fun t _ => ?_
  by_cases h1 : R ≤ t ∧ t < R + 128 <;> by_cases h2 : p (t - R) <;> simp [h1, h2]

/-- A masked sum over the columns of one of the eight chunks. -/
theorem win_col (H : ℕ → ℝ) {q : ℕ} (hq : q < 8) :
    (∑ j ∈ range 1024, if q = j / 128 then H j else 0) = ∑ d ∈ range 128, H (128 * q + d) := by
  rw [win H (show 128 * q + 128 ≤ 1024 by omega)]
  refine sum_congr rfl fun j _ => if_congr ?_ rfl rfl
  omega

theorem late (F : ℕ → ℝ) {R i n : ℕ} (hi : i < 128) (h : R + 128 ≤ n) :
    (∑ k ∈ range 128, if k / 16 = i / 16 ∧ i ≤ k then F (R + k) else 0) +
      (∑ t ∈ range n, if R + 16 * (i / 16 + 1) ≤ t then F t else 0) = ∑ t ∈ range n, if R + i ≤ t then F t else 0 := by
  rw [win_if (fun k => k / 16 = i / 16 ∧ i ≤ k) F h, ← sum_add_distrib]
  refine sum_congr rfl fun t _ => ?_
  split_ifs <;> first | (exfalso; omega) | simp

theorem early (F : ℕ → ℝ) {R i n : ℕ} (hi : i < 128) (h : R + 128 ≤ n) :
    (∑ k ∈ range 128, if i / 16 = k / 16 ∧ k ≤ i then F (R + k) else 0) +
      (∑ s ∈ range n, if s < R + 16 * (i / 16) then F s else 0) = ∑ s ∈ range n, if s ≤ R + i then F s else 0 := by
  rw [win_if (fun k => i / 16 = k / 16 ∧ k ≤ i) F h, ← sum_add_distrib]
  refine sum_congr rfl fun t _ => ?_
  split_ifs <;> first | (exfalso; omega) | simp

/-- A masked sum over the rows of a block is the sum over the chunk. -/
theorem win_chunk (H : ℕ → ℝ) {q : ℕ} (hq : q < 8) :
    (∑ k ∈ range 128, if k / 16 = q then H k else 0) = ∑ m ∈ range 16, H (16 * q + m) := by
  rw [win H (show 16 * q + 16 ≤ 128 by omega)]
  refine sum_congr rfl fun j _ => if_congr ?_ rfl rfl
  omega

/-- The gradient of the log decay, split at the end of the chunk. -/
theorem tail (W : ℕ → ℕ → ℝ) (up : ∀ t s, t < s → W t s = 0) {R i n : ℕ} (hi : i < 128) (h : R + 128 ≤ n) :
    (∑ u ∈ range n, if R + i ≤ u then (∑ s ∈ range n, W u s) - ∑ s ∈ range n, W s u else 0) =
      (∑ k ∈ range (16 - i % 16), ((∑ s ∈ range n, W (R + (i + k)) s) - ∑ s ∈ range n, W s (R + (i + k)))) +
      (∑ k ∈ range 16, ∑ u ∈ range n, if R + 16 * (i / 16 + 1) ≤ u then W u (R + (16 * (i / 16) + k)) else 0) +
      ∑ u ∈ range n, if R + 16 * (i / 16 + 1) ≤ u then ∑ s ∈ range n, (if s < R + 16 * (i / 16) then W u s else 0) else 0 := by
  set g : ℕ → ℝ := fun u => (∑ s ∈ range n, W u s) - ∑ s ∈ range n, W s u with hg
  have e1 : ∑ k ∈ range (16 - i % 16), g (R + (i + k)) =
      ∑ u ∈ range n, if R + i ≤ u ∧ u < R + i + (16 - i % 16) then g u else 0 := by
    rw [← win g (show R + i + (16 - i % 16) ≤ n by omega)]
    exact sum_congr rfl fun k _ => by rw [Nat.add_assoc]
  have e2 : (∑ u ∈ range n, if R + i ≤ u then g u else 0) =
      (∑ k ∈ range (16 - i % 16), g (R + (i + k))) + ∑ u ∈ range n, if R + 16 * (i / 16 + 1) ≤ u then g u else 0 := by
    rw [e1, ← sum_add_distrib]
    refine sum_congr rfl fun u _ => ?_
    split_ifs <;> first | (exfalso; omega) | simp
  rw [e2, add_assoc]
  congr 1
  set c1 := R + 16 * (i / 16 + 1) with hc1
  have e3 : (∑ k ∈ range 16, ∑ u ∈ range n, if c1 ≤ u then W u (R + (16 * (i / 16) + k)) else 0) =
      ∑ u ∈ range n, if c1 ≤ u then ∑ s ∈ range n, (if R + 16 * (i / 16) ≤ s ∧ s < R + 16 * (i / 16) + 16 then W u s else 0) else 0 := by
    rw [sum_comm]
    refine sum_congr rfl fun u _ => ?_
    by_cases hu : c1 ≤ u
    · simp only [hu, if_true]
      rw [← win (W u) (show R + 16 * (i / 16) + 16 ≤ n by omega)]
      exact sum_congr rfl fun k _ => by rw [Nat.add_assoc]
    · simp only [hu, if_false, sum_const_zero]
  have e4 : (∑ u ∈ range n, if c1 ≤ u then ∑ s ∈ range n, W s u else 0) =
      ∑ u ∈ range n, if c1 ≤ u then ∑ s ∈ range n, (if c1 ≤ s then W u s else 0) else 0 := by
    have a : (∑ u ∈ range n, if c1 ≤ u then ∑ s ∈ range n, W s u else 0) =
        ∑ u ∈ range n, ∑ s ∈ range n, if c1 ≤ u then W s u else 0 :=
      sum_congr rfl fun u _ => by by_cases hu : c1 ≤ u <;> simp [hu]
    rw [a, sum_comm]
    refine sum_congr rfl fun t _ => ?_
    by_cases ht : c1 ≤ t
    · simp only [ht, if_true]
    · simp only [ht, if_false]
      refine sum_eq_zero fun u _ => ?_
      by_cases hu : c1 ≤ u
      · rw [if_pos hu, up t u (by omega)]
      · rw [if_neg hu]
  have e5 : (∑ u ∈ range n, if c1 ≤ u then g u else 0) =
      (∑ u ∈ range n, if c1 ≤ u then ∑ s ∈ range n, W u s else 0) - ∑ u ∈ range n, if c1 ≤ u then ∑ s ∈ range n, W s u else 0 := by
    rw [← sum_sub_distrib]
    exact sum_congr rfl fun u _ => by by_cases hu : c1 ≤ u <;> simp [hu, hg]
  rw [e5, e4, e3, ← sum_sub_distrib, ← sum_add_distrib]
  refine sum_congr rfl fun u _ => ?_
  by_cases hu : c1 ≤ u
  · simp only [hu, if_true]
    rw [← sum_sub_distrib, ← sum_add_distrib]
    refine sum_congr rfl fun s _ => ?_
    split_ifs <;> first | (exfalso; omega) | simp
  · simp [hu]

end Cert.Mirror

end

end
-- ==== Proof.Chunk.lean ====
/- The sums a block of 128 rows makes, put together into the causal sums over all rows. -/
module

public import proofs.«01_k».proof.Proof.Real

@[expose] public section

noncomputable section

namespace Cert.Mirror

open Finset

theorem exp_cut (a b c : ℝ) : Real.exp (a - c) = Real.exp (a - b) * Real.exp (b - c) := by
  rw [← Real.exp_add]; congr 1; ring

namespace In
variable (D : In) {R i h c e : ℕ}

theorem C_add (R m c : ℕ) : D.C (R + m) c = D.C R c + ∑ k ∈ range m, Real.log (D.f (R + k) c) := by
  unfold C; exact sum_range_add _ _ _

theorem S_step (c e : ℕ) (hR : R + 16 ≤ D.n) :
    D.S (R + 16) c e = D.S R c e * Real.exp (D.C (R + 16) c - D.C R c) +
      ∑ m ∈ range 16, D.v (R + m) e * (D.k (R + m) c * Real.exp (D.C (R + 16) c - D.C (R + m + 1) c)) := by
  unfold S
  rw [win (fun t => D.v t e * (D.k t c * Real.exp (D.C (R + 16) c - D.C (t + 1) c))) hR, sum_mul, ← sum_add_distrib]
  refine sum_congr rfl fun s _ => ?_
  split_ifs <;> first | (exfalso; omega) | skip
  · rw [exp_cut (D.C (R + 16) c) (D.C R c) (D.C (s + 1) c)]; ring
  · ring
  · ring

theorem Z_step (c e : ℕ) (hR : R + 16 ≤ D.n) :
    D.Z R c e = D.Z (R + 16) c e * Real.exp (D.C (R + 16) c - D.C R c) +
      ∑ m ∈ range 16, D.G (R + m) e * (D.q (R + m) c * Real.exp (D.C (R + m + 1) c - D.C R c)) := by
  unfold Z
  rw [win (fun t => D.G t e * (D.q t c * Real.exp (D.C (t + 1) c - D.C R c))) hR, sum_mul, ← sum_add_distrib]
  refine sum_congr rfl fun s _ => ?_
  split_ifs <;> first | (exfalso; omega) | skip
  · rw [exp_cut (D.C (s + 1) c) (D.C (R + 16) c) (D.C R c)]; ring
  · ring
  · ring

theorem W_up (c : ℕ) : ∀ t s, t < s → D.W c t s = 0 := fun t s hts => by unfold W; rw [if_neg (by omega)]

theorem rowW (t c : ℕ) : ∑ s ∈ range D.n, D.W c t s = D.dq t c * D.q t c := by
  unfold dq W; rw [sum_mul]
  exact sum_congr rfl fun s _ => by split_ifs <;> ring

theorem colW (s c : ℕ) : ∑ t ∈ range D.n, D.W c t s = D.dk s c * D.k s c := by
  unfold dk W; rw [sum_mul]
  exact sum_congr rfl fun t _ => by split_ifs <;> ring

/-- The earlier rows' part of a query's gradient, through the state. -/
theorem dq_state (t R h c : ℕ) (hc : c / 128 = h) (hR : R ≤ t) :
    (∑ e ∈ range 128, D.G t (128 * h + e) * D.S R c (128 * h + e)) * Real.exp (D.C (t + 1) c - D.C R c) =
      ∑ s ∈ range D.n, if s < R then D.dA t s (c / 128) * D.k s c * D.E t s c else 0 := by
  unfold S
  simp only [mul_sum]
  rw [sum_comm, sum_mul]
  refine sum_congr rfl fun s _ => ?_
  by_cases hs : s < R
  · simp only [hs, if_true]
    unfold dA E
    rw [hc, exp_cut (D.C (t + 1) c) (D.C R c) (D.C (s + 1) c), sum_mul, sum_mul, sum_mul]
    exact sum_congr rfl fun e _ => by ring
  · simp only [hs, if_false, mul_zero, sum_const_zero, zero_mul]

theorem dk_state (s R h c : ℕ) (hc : c / 128 = h) (hR : s < R) :
    (∑ e ∈ range 128, D.v s (128 * h + e) * D.Z R c (128 * h + e)) * Real.exp (D.C R c - D.C (s + 1) c) =
      ∑ t ∈ range D.n, if R ≤ t then D.dA t s (c / 128) * D.q t c * D.E t s c else 0 := by
  unfold Z
  simp only [mul_sum]
  rw [sum_comm, sum_mul]
  refine sum_congr rfl fun t _ => ?_
  by_cases hs : R ≤ t
  · simp only [hs, if_true]
    unfold dA E
    rw [hc, exp_cut (D.C (t + 1) c) (D.C R c) (D.C (s + 1) c), sum_mul, sum_mul, sum_mul]
    exact sum_congr rfl fun e _ => by ring
  · simp only [hs, if_false, mul_zero, sum_const_zero, zero_mul]

theorem dq_block (hi : i < 128) (hR : R + 128 ≤ D.n) (hc : c / 128 = h) :
    (∑ k ∈ range 128, (if i / 16 = k / 16 ∧ k ≤ i then D.dA (R + i) (R + k) h else 0) *
        (D.k (R + k) c * Real.exp (D.C (R + 16 * (k / 16) + 8) c - D.C (R + k + 1) c))) *
        Real.exp (D.C (R + i + 1) c - D.C (R + 16 * (i / 16) + 8) c) +
      (∑ e ∈ range 128, D.G (R + i) (128 * h + e) * D.S (R + 16 * (i / 16)) c (128 * h + e)) *
        Real.exp (D.C (R + i + 1) c - D.C (R + 16 * (i / 16)) c) = D.dq (R + i) c := by
  unfold dq
  rw [dq_state D (R + i) (R + 16 * (i / 16)) h c hc (by omega), ← early _ hi hR, sum_mul]
  congr 1
  refine sum_congr rfl fun k _ => ?_
  by_cases hk : i / 16 = k / 16 ∧ k ≤ i
  · rw [if_pos hk, if_pos hk, ← hk.1]
    unfold E
    rw [hc, exp_cut (D.C (R + i + 1) c) (D.C (R + 16 * (i / 16) + 8) c) (D.C (R + k + 1) c)]
    ring
  · simp only [hk, if_false]; ring

theorem dk_block (hi : i < 128) (hR : R + 128 ≤ D.n) (hc : c / 128 = h) :
    (∑ k ∈ range 128, (if k / 16 = i / 16 ∧ i ≤ k then D.dA (R + k) (R + i) h else 0) *
        (D.q (R + k) c * Real.exp (D.C (R + k + 1) c - D.C (R + 16 * (k / 16) + 8) c))) *
        Real.exp (D.C (R + 16 * (i / 16) + 8) c - D.C (R + i + 1) c) +
      (∑ e ∈ range 128, D.v (R + i) (128 * h + e) * D.Z (R + 16 * (i / 16 + 1)) c (128 * h + e)) *
        Real.exp (D.C (R + 16 * (i / 16 + 1)) c - D.C (R + i + 1) c) = D.dk (R + i) c := by
  unfold dk
  rw [dk_state D (R + i) (R + 16 * (i / 16 + 1)) h c hc (by omega), ← late _ hi hR, sum_mul]
  congr 1
  refine sum_congr rfl fun k _ => ?_
  by_cases hk : k / 16 = i / 16 ∧ i ≤ k
  · simp only [hk, and_self, if_true]
    unfold E
    rw [hc, exp_cut (D.C (R + k + 1) c) (D.C (R + 16 * (i / 16) + 8) c) (D.C (R + i + 1) c)]
    ring
  · simp only [hk, if_false]; ring

theorem dv_block (hi : i < 128) (hR : R + 128 ≤ D.n) (hc : c / 128 = h) :
    (∑ k ∈ range 128, (if k / 16 = i / 16 ∧ i ≤ k then
        ∑ d ∈ range 128, D.q (R + k) (128 * h + d) * Real.exp (D.C (R + k + 1) (128 * h + d) - D.C (R + 16 * (k / 16) + 8) (128 * h + d)) *
          (D.k (R + i) (128 * h + d) * Real.exp (D.C (R + 16 * (i / 16) + 8) (128 * h + d) - D.C (R + i + 1) (128 * h + d))) else 0) *
        D.G (R + k) c) +
      (∑ d ∈ range 128, D.k (R + i) (128 * h + d) * Real.exp (D.C (R + 16 * (i / 16 + 1)) (128 * h + d) - D.C (R + i + 1) (128 * h + d)) *
        D.Z (R + 16 * (i / 16 + 1)) (128 * h + d) c) = D.dv (R + i) c := by
  have e1 : D.dv (R + i) c = ∑ t ∈ range D.n, if R + i ≤ t then D.A t (R + i) h * D.G t c else 0 := by
    unfold dv
    refine sum_congr rfl fun t _ => ?_
    rw [hc]
    by_cases ht : R + i ≤ t
    · rw [if_pos ht]
    · rw [if_neg ht]; unfold A; rw [if_neg ht, zero_mul]
  rw [e1, ← late _ hi hR]
  congr 1
  · refine sum_congr rfl fun k _ => ?_
    by_cases hk : k / 16 = i / 16 ∧ i ≤ k
    · simp only [hk, and_self, if_true]
      unfold A E
      rw [if_pos (by omega)]
      congr 1
      refine sum_congr rfl fun d _ => ?_
      rw [exp_cut (D.C (R + k + 1) (128 * h + d)) (D.C (R + 16 * (i / 16) + 8) (128 * h + d)) (D.C (R + i + 1) (128 * h + d))]
      ring
    · simp only [hk, if_false]; ring
  · unfold Z
    simp only [mul_sum]
    rw [sum_comm]
    refine sum_congr rfl fun t _ => ?_
    by_cases ht : R + 16 * (i / 16 + 1) ≤ t
    · simp only [ht, if_true]
      unfold A E
      rw [if_pos (by omega), sum_mul]
      refine sum_congr rfl fun d _ => ?_
      rw [exp_cut (D.C (t + 1) (128 * h + d)) (D.C (R + 16 * (i / 16 + 1)) (128 * h + d)) (D.C (R + i + 1) (128 * h + d))]
      ring
    · simp only [ht, if_false, mul_zero, sum_const_zero]

/-- A key's part of the log decay's gradient from the later chunks. -/
theorem dkk_block (s R h c : ℕ) (hc : c / 128 = h) (hR : s < R) :
    (∑ e ∈ range 128, D.v s (128 * h + e) * D.Z R c (128 * h + e)) * (D.k s c * Real.exp (D.C R c - D.C (s + 1) c)) =
      ∑ u ∈ range D.n, if R ≤ u then D.W c u s else 0 := by
  have e := dk_state D s R h c hc hR
  rw [mul_comm (D.k s c), ← mul_assoc, e, sum_mul]
  refine sum_congr rfl fun u _ => ?_
  by_cases hu : R ≤ u
  · simp only [hu, if_true]; unfold W; rw [if_pos (by omega)]; ring
  · simp only [hu, if_false, zero_mul]

theorem dbt_block (R R' h c : ℕ) (hc : c / 128 = h) (hR : R ≤ R') :
    (∑ e ∈ range 128, D.Z R' c (128 * h + e) * D.S R c (128 * h + e)) * Real.exp (D.C R' c - D.C R c) =
      ∑ u ∈ range D.n, if R' ≤ u then ∑ s ∈ range D.n, (if s < R then D.W c u s else 0) else 0 := by
  unfold Z
  simp only [sum_mul]
  rw [sum_comm]
  refine sum_congr rfl fun u _ => ?_
  by_cases hu : R' ≤ u
  · simp only [hu, if_true]
    have e := dq_state D u R h c hc (by omega)
    have e2 : (∑ s ∈ range D.n, if s < R then D.W c u s else 0) =
        (∑ s ∈ range D.n, if s < R then D.dA u s (c / 128) * D.k s c * D.E u s c else 0) * D.q u c := by
      rw [sum_mul]
      refine sum_congr rfl fun s _ => ?_
      by_cases hs : s < R
      · simp only [hs, if_true]; unfold W; rw [if_pos (by omega)]; ring
      · simp only [hs, if_false, zero_mul]
    rw [e2, ← e, sum_mul, sum_mul]
    refine sum_congr rfl fun e _ => ?_
    rw [exp_cut (D.C (u + 1) c) (D.C R' c) (D.C R c)]
    ring
  · simp only [hu, if_false, zero_mul, sum_const_zero]

end In

end Cert.Mirror

end

end
-- ==== Proof.Block.lean ====
/- A block of 128 rows computes its part of the gradients over the reals. -/
module

public import proofs.«01_k».proof.Proof.Lift
public import proofs.«01_k».proof.Proof.Chunk

@[expose] public section

set_option maxRecDepth 16384

noncomputable section

namespace Cert.Mirror

open Idealize.ShloMosaic Idealize.SL.Sem
open Cert.KernelIdeal Cert.KernelIdeal.Gen

/-! ### The vectors of one block -/

theorem Lf.lgs {x : W Ideal} {r : ℕ → ℕ → ℝ} (hx : Lf x r) : Lf (lgs x) (fun i j => sg (r i j)) :=
  lf_one.div (lf_one.add (lf_zero.sub hx).exp) fun _ _ _ _ => by positivity

theorem Lf.silu {x : W Ideal} {r : ℕ → ℕ → ℝ} (hx : Lf x r) : Lf (mulf x (Mirror.lgs x)) (fun i j => r i j * sg (r i j)) :=
  hx.mul hx.lgs

theorem Lf.dsilu {x : W Ideal} {r : ℕ → ℕ → ℝ} (hx : Lf x r) : Lf (dsilu x (Mirror.lgs x)) (fun i j => dsg (r i j)) :=
  hx.lgs.mul (lf_one.add (hx.mul (lf_one.sub hx.lgs)))

theorem Lf.cols' {φ : FTy} {v : FVec Ideal S128x512 φ} {r : ℕ → ℕ → ℝ} (hv : Lf v r) {h : ℕ} (hh : h < 4) :
    Lf (Mirror.cols h v) (fun i j => r i (128 * h + j)) :=
  (hv.cols h).congr fun i _ j _ => by rw [Nat.mod_eq_of_lt hh]

theorem Lf.part' {v : FVec Ideal S128x1024 .f32} {r : ℕ → ℕ → ℝ} (hv : Lf v r) {n : ℕ} (hn : n < 8) :
    Lf (Mirror.part n v) (fun i j => r i (128 * n + j)) :=
  (hv.part n).congr fun i _ j _ => by rw [Nat.mod_eq_of_lt hn]

theorem Lf.decay' {v : FVec Ideal S128x512 .f32} {r : ℕ → ℕ → ℝ} (hv : Lf v r) {n h : ℕ} (hn : n < 8) (hh : h < 4) :
    Lf (Mirror.decay n h v) (fun _ j => r (16 * n) (128 * h + j)) :=
  (hv.decay n h).congr fun i _ j _ => by rw [Nat.mod_eq_of_lt hh, Nat.mod_eq_of_lt hn]

theorem Lf.oc {v : W Ideal} {r : ℕ → ℕ → ℝ} (hv : Lf v r) : Lf (oc v) r := by
  intro i j; pointwise [Mirror.oc]; exact hv i j

theorem ofBits_128 : Ideal.ofBits .f32 0x43000000#32 = ((128 : ℝ) : EReal) := by
  simp [Ideal.ofBits, Ideal.ieee, -EReal.coe_mul]; norm_num

theorem Lf.mean {v : M Ideal} {r : ℕ → ℕ → ℝ} (hv : Lf v r) : Lf (mean v) (fun i _ => (∑ k ∈ Finset.range 128, r i k) / 128) := by
  refine hv.colsum.div (s := fun _ _ => 128) ?_ fun _ _ _ _ => by norm_num
  intro i j; pointwise; exact ofBits_128

/-- What a block of 128 rows, from row `R` on, is given. -/
structure SubAt (D : In) (B : Sub Ideal) (R : ℕ) : Prop where
  hn : R + 128 ≤ D.n
  heps : Ideal.ofBits .f32 0x358637BD#32 = ((D.eps : ℝ) : EReal)
  hpos : 0 < D.eps
  x : Lf (a := 128) (b := 2048) B.x fun i c => D.x (R + i) c
  l : Lf (a := 2) (b := 512) B.l D.l
  w : Lf (a := 1) (b := 512) B.w fun _ c => D.w c
  dy : Lf B.dy fun i c => D.dy (R + i) c
  o : Lf B.o fun i c => D.o (R + i) c
  s : ∀ h < 4, Lf (shapeCast S128x128 (B.s h) shapeCasts_S1x1x128x128_S128x128) fun e d => D.S R (128 * h + d) (128 * h + e)
  r : ∀ h < 4, Lf (shapeCast S128x128 (B.r h) shapeCasts_S1x128x128_S128x128) fun e d => D.Z (R + 128) (128 * h + d) (128 * h + e)

namespace SubAt
variable {D : In} {B : Sub Ideal} {R : ℕ} (hB : SubAt D B R)
include hB

theorem q0 : Lf (quarter 0 B.x) fun i c => D.x (R + i) c :=
  (Lf.quarter hB.x 0).congr fun i _ j _ => by simp
theorem q1 : Lf (quarter 1 B.x) fun i c => D.x (R + i) (512 + c) :=
  (Lf.quarter hB.x 1).congr fun i _ j _ => by simp
theorem q2 : Lf (quarter 2 B.x) fun i c => D.v (R + i) c :=
  (Lf.quarter hB.x 2).congr fun i _ j _ => by simp [In.v]
theorem q3 : Lf (quarter 3 B.x) fun i c => D.g (R + i) c :=
  (Lf.quarter hB.x 3).congr fun i _ j _ => by simp [In.g]

theorem lbv : Lf (lbv B.l) fun _ c => D.lb c := by
  intro i j
  obtain rfl : i = 0 := Subsingleton.elim _ _
  pointwise [Mirror.lbv, k0_pay14]
  have h0 := hB.l 0 j
  have h1 := hB.l 1 j
  simp only [Fin.val_zero, Fin.val_one] at h0 h1
  erw [h0, h1]
  rw [← EReal.coe_strictMono.monotone.map_max]
  simp only [← EReal.coe_sub, Ideal.exp_coe, ← EReal.coe_add]
  rw [div_real _ _ (by positivity)]
  rfl

theorem omlb : Lf (omlb B.l) fun _ c => 1 - D.lb c := by
  refine Lf.sub (r := fun _ _ => 1) ?_ hB.lbv
  intro i j; pointwise; rw [EReal.coe_one]

theorem fgate : Lf (fgate B.x B.l) fun i c => D.f (R + i) c :=
  hB.lbv.spread.add (hB.omlb.spread.mul hB.q1.lgs)

theorem bsum : Lf (bsum B.x B.l) fun i c => D.C (R + i + 1) c - D.C (R + 16 * (i / 16)) c := by
  refine (hB.fgate.log fun _ _ _ _ => D.f_pos _ _).cum.congr fun i _ c _ => ?_
  have e := D.C_add (R + 16 * (i / 16)) (i % 16 + 1) c
  rw [show R + 16 * (i / 16) + (i % 16 + 1) = R + i + 1 by omega] at e
  rw [e, add_sub_cancel_left]
  exact Finset.sum_congr rfl fun k _ => by rw [Nat.add_assoc]

theorem bmid : Lf (chunkRow 7 (Mirror.bsum B.x B.l)) fun i c => D.C (R + 16 * (i / 16) + 8) c - D.C (R + 16 * (i / 16)) c :=
  (hB.bsum.chunkRow 7 (by decide)).congr fun i _ c _ => by
    rw [show (16 * (i / 16) + 7) / 16 = i / 16 by omega, show R + (16 * (i / 16) + 7) + 1 = R + 16 * (i / 16) + 8 by omega]

theorem btot : Lf (chunkRow 15 (Mirror.bsum B.x B.l)) fun i c => D.C (R + 16 * (i / 16 + 1)) c - D.C (R + 16 * (i / 16)) c :=
  (hB.bsum.chunkRow 15 (by decide)).congr fun i _ c _ => by
    rw [show (16 * (i / 16) + 15) / 16 = i / 16 by omega, show R + (16 * (i / 16) + 15) + 1 = R + 16 * (i / 16 + 1) by omega]

theorem key : Lf (key B.x B.l) fun i c => D.k (R + i) c := lf_one.sub hB.fgate
theorem query : Lf (query B.x) fun i c => D.q (R + i) c := hB.q0.silu

theorem eiq : Lf (eiq B.x B.l) fun i c => Real.exp (D.C (R + i + 1) c - D.C (R + 16 * (i / 16) + 8) c) :=
  (hB.bsum.sub hB.bmid).exp.congr fun i _ c _ => by congr 1; ring
theorem eik : Lf (eik B.x B.l) fun i c => Real.exp (D.C (R + 16 * (i / 16) + 8) c - D.C (R + i + 1) c) :=
  (hB.bmid.sub hB.bsum).exp.congr fun i _ c _ => by congr 1; ring
theorem eb : Lf (eb B.x B.l) fun i c => Real.exp (D.C (R + i + 1) c - D.C (R + 16 * (i / 16)) c) := hB.bsum.exp
theorem ebb : Lf (ebb B.x B.l) fun i c => Real.exp (D.C (R + 16 * (i / 16 + 1)) c - D.C (R + i + 1) c) :=
  (hB.btot.sub hB.bsum).exp.congr fun i _ c _ => by congr 1; ring
theorem etot : Lf (etot B.x B.l) fun i c => Real.exp (D.C (R + 16 * (i / 16 + 1)) c - D.C (R + 16 * (i / 16)) c) := hB.btot.exp
theorem qi : Lf (qi B.x B.l) fun i c => D.q (R + i) c * Real.exp (D.C (R + i + 1) c - D.C (R + 16 * (i / 16) + 8) c) := hB.query.mul hB.eiq
theorem ki : Lf (ki B.x B.l) fun i c => D.k (R + i) c * Real.exp (D.C (R + 16 * (i / 16) + 8) c - D.C (R + i + 1) c) := hB.key.mul hB.eik
theorem qs : Lf (qs B.x B.l) fun i c => D.q (R + i) c * Real.exp (D.C (R + i + 1) c - D.C (R + 16 * (i / 16)) c) := hB.query.mul hB.eb
theorem kb : Lf (kb B.x B.l) fun i c => D.k (R + i) c * Real.exp (D.C (R + 16 * (i / 16 + 1)) c - D.C (R + i + 1) c) := hB.key.mul hB.ebb
theorem vals : Lf (vals B.x) fun i c => D.v (R + i) c := hB.q2.trunc

/-! ### The output norm -/

theorem don : Lf (don B.x B.w B.dy) fun i c => D.don (R + i) c := (hB.dy.mul (Lf.spread hB.w)).mul hB.q3.silu

theorem rms {h : ℕ} (hh : h < 4) : Lf (rms (cols h (oc B.o))) fun i _ => D.rs (R + i) h := by
  have ho := hB.o.oc.cols' hh
  refine Lf.rsqrt (r := fun i _ => (∑ d ∈ Finset.range 128, D.o (R + i) (128 * h + d) * D.o (R + i) (128 * h + d)) / 128 + D.eps)
    ((ho.mul ho).mean.add (s := fun _ _ => D.eps) ?_) fun i _ j _ => ?_
  · intro i j; pointwise; exact hB.heps
  · have := hB.hpos
    have : 0 ≤ ∑ d ∈ Finset.range 128, D.o (R + i) (128 * h + d) * D.o (R + i) (128 * h + d) :=
      Finset.sum_nonneg fun _ _ => mul_self_nonneg _
    positivity

theorem on {h : ℕ} (hh : h < 4) : Lf (on h B.o) fun i j => D.on (R + i) (128 * h + j) :=
  ((hB.o.oc.cols' hh).mul (hB.rms hh).wide).congr fun i _ j hj => by
    unfold In.on; rw [show (128 * h + j) / 128 = h by omega]

theorem doh {h : ℕ} (hh : h < 4) : Lf (doh h B.x B.w B.dy B.o) fun i j => D.G (R + i) (128 * h + j) := by
  have hd := hB.don.cols' hh
  refine ((hB.rms hh).wide.mul (hd.sub ((hB.on hh).mul (Lf.wide (hd.mul (hB.on hh)).mean)))).congr fun i _ j hj => ?_
  unfold In.G; rw [show (128 * h + j) / 128 = h by omega]

theorem onAll : Lf (onAll B.o) fun i c => D.on (R + i) c := Lf.cat4 fun h hh => hB.on hh

theorem dg : Lf (dg B.x B.w B.dy B.o) fun i c => D.dg (R + i) c :=
  ((hB.dy.mul hB.onAll).mul (Lf.spread hB.w)).mul hB.q3.dsilu

theorem a0 {a : Vec Ideal S1x512 .f32} {r : ℕ → ℝ} (ha : Lf (a := 1) (b := 512) a fun _ c => r c) :
    Lf (B.a0 a) fun _ c => r c + ∑ k ∈ Finset.range 128, D.p0 (R + k) c := by
  refine Lf.add (r := fun _ c => r c) ?_ ((hB.dy.mul hB.onAll).mul hB.q3.silu).rowsum
  intro i j; pointwise; exact ha i j

/-! ### One head -/

section
variable {h : ℕ} (hh : h < 4)
include hh

theorem upd : Lf (B.hd h).upd fun e j => ∑ k ∈ Finset.range 128, D.v (R + k) (128 * h + e) *
    (if k / 16 = j / 128 then D.k (R + k) (128 * h + j % 128) *
      Real.exp (D.C (R + 16 * (k / 16 + 1)) (128 * h + j % 128) - D.C (R + k + 1) (128 * h + j % 128)) else 0) :=
  (hB.vals.cols' hh).spreadDot (hB.kb.cols' hh).tile

theorem wgt : Lf (B.hd h).wgt fun e j => ∑ k ∈ Finset.range 128, D.G (R + k) (128 * h + e) *
    (if k / 16 = j / 128 then D.q (R + k) (128 * h + j % 128) *
      Real.exp (D.C (R + k + 1) (128 * h + j % 128) - D.C (R + 16 * (k / 16)) (128 * h + j % 128)) else 0) :=
  (hB.doh hh).trunc.spreadDot (hB.qs.cols' hh).tile

theorem dec {n : ℕ} (hn : n < 8) : Lf ((B.hd h).d n) fun _ j =>
    Real.exp (D.C (R + 16 * (n + 1)) (128 * h + j) - D.C (R + 16 * n) (128 * h + j)) :=
  (hB.etot.decay' hn hh).congr fun i _ j _ => by rw [Nat.mul_div_cancel_left n (by decide : 0 < 16)]

theorem st : ∀ n ≤ 8, Lf ((B.hd h).st n) fun e d => D.S (R + 16 * n) (128 * h + d) (128 * h + e)
  | 0, _ => (hB.s h hh).congr fun e _ d _ => by simp
  | n + 1, hn => by
    have ih := st n (by omega)
    refine (ih.step (hB.dec hh (n := n) (by omega)) ((hB.upd hh).part' (n := n) (by omega))).congr fun e _ d hd => ?_
    have hR := hB.hn
    have e0 := D.S_step (R := R + 16 * n) (128 * h + d) (128 * h + e) (by omega)
    rw [show R + 16 * n + 16 = R + 16 * (n + 1) by omega] at e0
    rw [e0]
    congr 1
    have e1 : ∀ k, (D.v (R + k) (128 * h + e) * if k / 16 = (128 * n + d) / 128 then D.k (R + k) (128 * h + (128 * n + d) % 128) *
        Real.exp (D.C (R + 16 * (k / 16 + 1)) (128 * h + (128 * n + d) % 128) - D.C (R + k + 1) (128 * h + (128 * n + d) % 128)) else 0) =
        if k / 16 = n then D.v (R + k) (128 * h + e) * (D.k (R + k) (128 * h + d) *
          Real.exp (D.C (R + 16 * (n + 1)) (128 * h + d) - D.C (R + k + 1) (128 * h + d))) else 0 := by
      intro k
      rw [show (128 * n + d) / 128 = n by omega, show (128 * n + d) % 128 = d by omega]
      by_cases hk : k / 16 = n
      · rw [if_pos hk, if_pos hk, hk]
      · rw [if_neg hk, if_neg hk, mul_zero]
    simp only [e1]
    rw [win_chunk _ (show n < 8 by omega)]
    exact Finset.sum_congr rfl fun m _ => by rw [← Nat.add_assoc]

theorem dst : ∀ n ≤ 8, Lf ((B.hd h).dst n) fun e d => D.Z (R + 16 * (8 - n)) (128 * h + d) (128 * h + e)
  | 0, _ => (hB.r h hh).congr fun e _ d _ => by simp
  | n + 1, hn => by
    have ih := dst n (by omega)
    refine (ih.step (hB.dec hh (n := 7 - n) (by omega)) ((hB.wgt hh).part' (n := 7 - n) (by omega))).congr fun e _ d hd => ?_
    have hR := hB.hn
    obtain ⟨m, hm⟩ : ∃ m, m = 7 - n := ⟨_, rfl⟩
    rw [← hm, show 8 - n = m + 1 by omega, show 8 - (n + 1) = m by omega]
    have hm8 : m < 8 := by omega
    have e0 := D.Z_step (R := R + 16 * m) (128 * h + d) (128 * h + e) (by omega)
    rw [show R + 16 * m + 16 = R + 16 * (m + 1) by omega] at e0
    rw [e0]
    congr 1
    have e1 : ∀ k, (D.G (R + k) (128 * h + e) * if k / 16 = (128 * m + d) / 128 then D.q (R + k) (128 * h + (128 * m + d) % 128) *
        Real.exp (D.C (R + k + 1) (128 * h + (128 * m + d) % 128) - D.C (R + 16 * (k / 16)) (128 * h + (128 * m + d) % 128)) else 0) =
        if k / 16 = m then D.G (R + k) (128 * h + e) * (D.q (R + k) (128 * h + d) *
          Real.exp (D.C (R + k + 1) (128 * h + d) - D.C (R + 16 * m) (128 * h + d))) else 0 := by
      intro k
      rw [show (128 * m + d) / 128 = m by omega, show (128 * m + d) % 128 = d by omega]
      by_cases hk : k / 16 = m
      · rw [if_pos hk, if_pos hk, hk]
      · rw [if_neg hk, if_neg hk, mul_zero]
    simp only [e1]
    rw [win_chunk _ hm8]
    exact Finset.sum_congr rfl fun m _ => by rw [← Nat.add_assoc]

theorem stCat : Lf (B.hd h).stCat fun e j => D.S (R + 16 * (j / 128)) (128 * h + j % 128) (128 * h + e) :=
  Lf.cat8 fun n hn => (hB.st hh n (by omega)).congr fun e _ d hd => by
    rw [show (128 * n + d) / 128 = n by omega, show (128 * n + d) % 128 = d by omega]

theorem dstCat : Lf (B.hd h).dstCat fun e j => D.Z (R + 16 * (j / 128 + 1)) (128 * h + j % 128) (128 * h + e) :=
  Lf.cat8 fun n hn => (hB.dst hh (7 - n) (by omega)).congr fun e _ d hd => by
    rw [show (128 * n + d) / 128 = n by omega, show (128 * n + d) % 128 = d by omega, show 8 - (7 - n) = n + 1 by omega]

theorem dqs : Lf (B.hd h).dqs fun i d =>
    ∑ e ∈ Finset.range 128, D.G (R + i) (128 * h + e) * D.S (R + 16 * (i / 16)) (128 * h + d) (128 * h + e) :=
  ((hB.doh hh).trunc.fold (hB.stCat hh)).congr fun i _ d hd => by
    rw [show (128 * (i / 16) + d) / 128 = i / 16 by omega, show (128 * (i / 16) + d) % 128 = d by omega]

theorem dkb : Lf (B.hd h).dkb fun i d =>
    ∑ e ∈ Finset.range 128, D.v (R + i) (128 * h + e) * D.Z (R + 16 * (i / 16 + 1)) (128 * h + d) (128 * h + e) :=
  ((hB.vals.cols' hh).fold (hB.dstCat hh)).congr fun i _ d hd => by
    rw [show (128 * (i / 16) + d) / 128 = i / 16 by omega, show (128 * (i / 16) + d) % 128 = d by omega]

theorem dqi : Lf (B.hd h).dqi fun i d => ∑ k ∈ Finset.range 128,
    (if i / 16 = k / 16 ∧ k ≤ i then D.dA (R + i) (R + k) h else 0) *
      (D.k (R + k) (128 * h + d) * Real.exp (D.C (R + 16 * (k / 16) + 8) (128 * h + d) - D.C (R + k + 1) (128 * h + d))) :=
  ((hB.doh hh).trunc.tri (hB.vals.cols' hh)).ndot (hB.ki.cols' hh).trunc

theorem dki : Lf (B.hd h).dki fun i d => ∑ k ∈ Finset.range 128,
    (if k / 16 = i / 16 ∧ i ≤ k then D.dA (R + k) (R + i) h else 0) *
      (D.q (R + k) (128 * h + d) * Real.exp (D.C (R + k + 1) (128 * h + d) - D.C (R + 16 * (k / 16) + 8) (128 * h + d))) :=
  ((hB.doh hh).trunc.tri (hB.vals.cols' hh)).tdot (hB.qi.cols' hh).trunc

theorem dv : Lf (B.hd h).dv fun i e => D.dv (R + i) (128 * h + e) := by
  refine (Lf.add (((hB.qi.cols' hh).trunc.tri (hB.ki.cols' hh).trunc).tdot (hB.doh hh).trunc)
    ((hB.kb.cols' hh).tile.wdot (hB.dstCat hh))).congr fun i hi e he => ?_
  rw [← D.dv_block hi hB.hn (show (128 * h + e) / 128 = h by omega)]
  congr 1
  simp only [ite_mul, zero_mul]
  rw [win_col (fun j => D.k (R + i) (128 * h + j % 128) * Real.exp (D.C (R + 16 * (i / 16 + 1)) (128 * h + j % 128) - D.C (R + i + 1) (128 * h + j % 128)) *
    D.Z (R + 16 * (j / 128 + 1)) (128 * h + j % 128) (128 * h + e)) (show i / 16 < 8 by omega)]
  refine Finset.sum_congr rfl fun d hd => ?_
  have hd := Finset.mem_range.1 hd
  rw [show (128 * (i / 16) + d) / 128 = i / 16 by omega, show (128 * (i / 16) + d) % 128 = d by omega]

theorem dq : Lf (B.hd h).dq fun i d => D.dq (R + i) (128 * h + d) :=
  (((hB.dqi hh).mul (hB.eiq.cols' hh)).add ((hB.dqs hh).mul (hB.eb.cols' hh))).congr fun i hi d hd =>
    D.dq_block hi hB.hn (show (128 * h + d) / 128 = h by omega)

theorem dk : Lf (B.hd h).dk fun i d => D.dk (R + i) (128 * h + d) :=
  (((hB.dki hh).mul (hB.eik.cols' hh)).add ((hB.dkb hh).mul (hB.ebb.cols' hh))).congr fun i hi d hd =>
    D.dk_block hi hB.hn (show (128 * h + d) / 128 = h by omega)

theorem dkk : Lf (B.hd h).dkk fun i d =>
    ∑ u ∈ Finset.range D.n, if R + 16 * (i / 16 + 1) ≤ u then D.W (128 * h + d) u (R + i) else 0 :=
  ((hB.dkb hh).mul (hB.kb.cols' hh)).congr fun i hi d hd =>
    D.dkk_block (R + i) (R + 16 * (i / 16 + 1)) h (128 * h + d) (by omega) (by omega)

theorem db : Lf (B.hd h).db fun i d =>
    (∑ s ∈ Finset.range D.n, D.W (128 * h + d) (R + i) s) - ∑ s ∈ Finset.range D.n, D.W (128 * h + d) s (R + i) := by
  refine ((((hB.dqi hh).mul (hB.qi.cols' hh)).sub ((hB.dki hh).mul (hB.ki.cols' hh))).add ((hB.dqs hh).mul (hB.qs.cols' hh))
    |>.sub ((hB.dkb hh).mul (hB.kb.cols' hh))).congr fun i hi d hd => ?_
  rw [D.rowW, D.colW, ← D.dq_block hi hB.hn (show (128 * h + d) / 128 = h by omega),
    ← D.dk_block hi hB.hn (show (128 * h + d) / 128 = h by omega)]
  ring

theorem dbt : Lf (B.hd h).dbt fun i d => ∑ u ∈ Finset.range D.n, if R + 16 * (i / 16 + 1) ≤ u then
    ∑ s ∈ Finset.range D.n, (if s < R + 16 * (i / 16) then D.W (128 * h + d) u s else 0) else 0 := by
  refine Lf.chunkRows (r := fun n d => ∑ u ∈ Finset.range D.n, if R + 16 * (n + 1) ≤ u then
    ∑ s ∈ Finset.range D.n, (if s < R + 16 * n then D.W (128 * h + d) u s else 0) else 0) fun n hn => ?_
  refine ((((hB.dst hh (7 - n) (by omega)).mul (hB.st hh n (by omega))).vsum).mul (hB.dec hh hn)).congr fun _ _ d hd => ?_
  rw [show 8 - (7 - n) = n + 1 by omega]
  exact D.dbt_block (R + 16 * n) (R + 16 * (n + 1)) h (128 * h + d) (by omega) (by omega)

end

/-! ### The block's results -/

theorem dlogf : Lf B.dlogf fun i c => D.dl (R + i) c := by
  have h1 : Lf (cat4 fun h => (B.hd h).db) fun i c => (∑ s ∈ Finset.range D.n, D.W c (R + i) s) - ∑ s ∈ Finset.range D.n, D.W c s (R + i) :=
    Lf.cat4 fun h hh => hB.db hh
  have h2 : Lf (cat4 fun h => (B.hd h).dkk) fun i c => ∑ u ∈ Finset.range D.n, if R + 16 * (i / 16 + 1) ≤ u then D.W c u (R + i) else 0 :=
    Lf.cat4 fun h hh => hB.dkk hh
  have h3 : Lf (cat4 fun h => (B.hd h).dbt) fun i c => ∑ u ∈ Finset.range D.n, if R + 16 * (i / 16 + 1) ≤ u then
      ∑ s ∈ Finset.range D.n, (if s < R + 16 * (i / 16) then D.W c u s else 0) else 0 :=
    Lf.cat4 fun h hh => hB.dbt hh
  refine ((h1.cumR.add (h2.cum.chunkRow 15 (by decide))).add h3).congr fun i hi c _ => ?_
  unfold In.dl
  rw [tail (D.W c) (D.W_up c) hi hB.hn]
  congr 2
  rw [show (16 * (i / 16) + 15) % 16 + 1 = 16 by omega, show (16 * (i / 16) + 15) / 16 = i / 16 by omega]
  refine Finset.sum_congr rfl fun k hk => ?_
  have hk := Finset.mem_range.1 hk
  rw [show (16 * (i / 16) + k) / 16 = i / 16 by omega]

theorem df : Lf B.df fun i c => D.df (R + i) c :=
  (hB.dlogf.div hB.fgate fun _ _ _ _ => (D.f_pos _ _).ne').sub (Lf.cat4 fun h hh => hB.dk hh)

theorem dfb : Lf B.dfb fun i c => D.dfb (R + i) c :=
  ((hB.df.mul hB.omlb.spread).mul hB.q1.lgs).mul (lf_one.sub hB.q1.lgs)

theorem dqb : Lf B.dqb fun i c => D.dqb (R + i) c :=
  (Lf.cat4 (r := fun i c => D.dq (R + i) c) fun h hh => hB.dq hh).mul hB.q0.dsilu

theorem a1 {a : Vec Ideal S1x512 .f32} {r : ℕ → ℝ} (ha : Lf (a := 1) (b := 512) a fun _ c => r c) :
    Lf (B.a1 a) fun _ c => r c + ∑ k ∈ Finset.range 128, D.p1 (R + k) c := by
  refine Lf.add (r := fun _ c => r c) ?_ (hB.df.mul (lf_one.sub hB.q1.lgs)).rowsum
  intro i j; pointwise; exact ha i j

theorem out : Lf B.out fun i c => D.out (R + i) c := by
  intro i j
  have h2 : Lf (cat4 fun h => (B.hd h).dv) fun i c => D.dv (R + i) c := Lf.cat4 fun h hh => hB.dv hh
  pointwise [Sub.out]
  unfold In.out
  have hj := j.2
  by_cases c0 : (j : ℕ) < 512
  · rw [dif_pos c0, if_pos c0]; exact hB.dqb _ _
  rw [dif_neg c0, if_neg c0]
  by_cases c1 : (j : ℕ) < 1024
  · rw [dif_pos (by omega), if_pos c1]; exact hB.dfb _ _
  rw [dif_neg (by omega), if_neg c1]
  by_cases c2 : (j : ℕ) < 1536
  · rw [dif_pos (by omega), if_pos c2]
    refine (h2 _ _).trans ?_
    exact congrArg (fun n => ((D.dv (R + i) n : ℝ) : EReal)) (by simp only; omega)
  rw [dif_neg (by omega), if_neg c2]
  refine (hB.dg _ _).trans ?_
  exact congrArg (fun n => ((D.dg (R + i) n : ℝ) : EReal)) (by simp only; omega)

theorem rOut {h : ℕ} (hh : h < 4) (e d : Fin 128) :
    B.rOut h (ix3 0 e d) = ((D.Z R (128 * h + d) (128 * h + e) : ℝ) : EReal) := by
  pointwise [Sub.rOut]
  refine (hB.dst hh 8 le_rfl e d).trans ?_
  simp

end SubAt

end Cert.Mirror

end

end
-- ==== Proof.Points.lean ====
/- What the body leaves in each of its buffers at one grid point, as functions of the sub-block's results. -/
module

public import proofs.«01_k».proof.Proof.Mirror
public import proofs.«01_k».proof.Proof.Gen.KernelIdeal.Frame.RunB
public import Idealize.ShloMosaic.Lib.Pipeline.ValueKit

@[expose] public section

set_option maxRecDepth 16384

noncomputable section

namespace Cert.Mirror

open Idealize.ShloMosaic Idealize.ShloMosaic.Tactic Idealize.SL.Sem
open Cert.KernelIdeal Cert.KernelIdeal.Gen

variable {F : FTy → Type} [FloatOps F]

theorem inb_x (b : ℕ) : ∀ a, (![128 * (b % 2), 0] : Fin 2 → ℕ) a + S128x2048.size a ≤ S256x2048.size a := by
  intro a; have := Nat.mod_lt b (show 0 < 2 by decide); fin_cases a <;> simp <;> omega

theorem inb_y (b : ℕ) : ∀ a, (![128 * (b % 2), 0] : Fin 2 → ℕ) a + S128x512.size a ≤ S256x512.size a := by
  intro a; have := Nat.mod_lt b (show 0 < 2 by decide); fin_cases a <;> simp <;> omega

theorem inb_s (b h : ℕ) : ∀ a, (![b % 2, h % 4, 0, 0] : Fin 4 → ℕ) a + S1x1x128x128.size a ≤ S2x4x128x128.size a := by
  intro a
  have := Nat.mod_lt h (show 0 < 4 by decide)
  have := Nat.mod_lt b (show 0 < 2 by decide)
  fin_cases a <;> simp <;> omega

theorem inb_r (h : ℕ) : ∀ a, (![h % 4, 0, 0] : Fin 3 → ℕ) a + S1x128x128.size a ≤ S4x128x128.size a := by
  intro a; have := Nat.mod_lt h (show 0 < 4 by decide); fin_cases a <;> simp <;> omega

theorem inb_a (k : ℕ) : ∀ a, (![k % 2, 0] : Fin 2 → ℕ) a + S1x512.size a ≤ S8x512.size a := by
  intro a; have := Nat.mod_lt k (show 0 < 2 by decide); fin_cases a <;> simp <;> omega

/-- The rows of half `b` of a block. -/
abbrev rX (b : ℕ) : Rect S256x2048 := Rect.unit (s := S256x2048) ![128 * (b % 2), 0] S128x2048.size (inb_x b)
abbrev rY (b : ℕ) : Rect S256x512 := Rect.unit (s := S256x512) ![128 * (b % 2), 0] S128x512.size (inb_y b)
/-- The state before half `b` of head `h`. -/
abbrev rS (b h : ℕ) : Rect S2x4x128x128 := Rect.unit (s := S2x4x128x128) ![b % 2, h % 4, 0, 0] S1x1x128x128.size (inb_s b h)
/-- The carried gradient of head `h`. -/
abbrev rR (h : ℕ) : Rect S4x128x128 := Rect.unit (s := S4x128x128) ![h % 4, 0, 0] S1x128x128.size (inb_r h)
/-- Row `k` of the summed outputs. -/
abbrev rA (k : ℕ) : Rect S8x512 := Rect.unit (s := S8x512) ![k % 2, 0] S1x512.size (inb_a k)

/-- Half `b` of a block. -/
def half (b : ℕ) (x0 : Vec F S256x2048 .f32) (x1 : Vec F S2x512 .f32) (x2 : Vec F S1x512 .f32) (x3 : Vec F S256x512 .f32) (x4 : Vec F S2x4x128x128 .f32) (x5 : Vec F S256x512 .f32) (r : ℕ → Vec F S1x128x128 .f32) : Sub F where
  x := View.ld (Val := Elt F) (e' := .f32) x0 (rX b)
  l := x1
  w := x2
  o := View.ld (Val := Elt F) (e' := .f32) x3 (rY b)
  dy := View.ld (Val := Elt F) (e' := .f32) x5 (rY b)
  s := fun h => View.ld (Val := Elt F) (e' := .f32) x4 (rS b h)
  r := r

/-- Half `b` of a block as the body loads it. -/
def loaded (b : ℕ) (arg1 : Memref sig .tc .vmem S256x2048 .f32) (harg1 : arg1.IsWhole) (arg2 : Memref sig .tc .vmem S2x512 .f32) (harg2 : arg2.IsWhole) (arg3 : Memref sig .tc .vmem S1x512 .f32) (harg3 : arg3.IsWhole) (arg4 : Memref sig .tc .vmem S256x512 .f32) (harg4 : arg4.IsWhole) (arg5 : Memref sig .tc .vmem S2x4x128x128 .f32) (harg5 : arg5.IsWhole) (arg6 : Memref sig .tc .vmem S256x512 .f32) (harg6 : arg6.IsWhole) (x0 : Vec F S256x2048 .f32) (x1 : Vec F S2x512 .f32) (x2 : Vec F S1x512 .f32) (x3 : Vec F S256x512 .f32) (x4 : Vec F S2x4x128x128 .f32) (x5 : Vec F S256x512 .f32) (r : ℕ → Vec F S1x128x128 .f32) : Sub F where
  x := View.readAt (Elt F) arg1.view (rX b).toLoadRect (harg1.unread x0)
  l := View.readAt (Elt F) arg2.view (Rect.unit (s := S2x512) ![0, 0] S2x512.size inb_S2x512_S2x512_0_0).toLoadRect (harg2.unread x1)
  w := View.readAt (Elt F) arg3.view (Rect.unit (s := S1x512) ![0, 0] S1x512.size inb_S1x512_S1x512_0_0).toLoadRect (harg3.unread x2)
  o := View.readAt (Elt F) arg4.view (rY b).toLoadRect (harg4.unread x3)
  dy := View.readAt (Elt F) arg6.view (rY b).toLoadRect (harg6.unread x5)
  s := fun h => View.readAt (Elt F) arg5.view (rS b h).toLoadRect (harg5.unread x4)
  r := r

theorem loaded_eq (b : ℕ) (arg1 : Memref sig .tc .vmem S256x2048 .f32) (harg1 : arg1.IsWhole) (arg2 : Memref sig .tc .vmem S2x512 .f32) (harg2 : arg2.IsWhole) (arg3 : Memref sig .tc .vmem S1x512 .f32) (harg3 : arg3.IsWhole) (arg4 : Memref sig .tc .vmem S256x512 .f32) (harg4 : arg4.IsWhole) (arg5 : Memref sig .tc .vmem S2x4x128x128 .f32) (harg5 : arg5.IsWhole) (arg6 : Memref sig .tc .vmem S256x512 .f32) (harg6 : arg6.IsWhole) (x0 : Vec F S256x2048 .f32) (x1 : Vec F S2x512 .f32) (x2 : Vec F S1x512 .f32) (x3 : Vec F S256x512 .f32) (x4 : Vec F S2x4x128x128 .f32) (x5 : Vec F S256x512 .f32) (r : ℕ → Vec F S1x128x128 .f32) :
    loaded b arg1 harg1 arg2 harg2 arg3 harg3 arg4 harg4 arg5 harg5 arg6 harg6 x0 x1 x2 x3 x4 x5 r = half b x0 x1 x2 x3 x4 x5 r := by
  simp only [loaded, half, View.readAt_eq_ld, Memref.IsWhole.read_unread]
  rw [View.ld_unit_lit _ _ (by intro a; fin_cases a <;> rfl), View.ld_unit_lit _ _ (by intro a; fin_cases a <;> rfl)]

abbrev anyR : ℕ → Vec F S1x128x128 .f32 := fun _ => View.ld (Val := Elt F) (e' := .f32) k0_pay3 (rR 0)

abbrev Pc (F : FTy → Type) := List (View.Piece (Elt F) S4x128x128 .f32)

/-- The carried gradient's stores after `h` heads, each head reading what the stores so far left. -/
def chain (v : View sig .tc .vmem S4x128x128 .f32) (f : ℕ → Vec F S1x128x128 .f32 → FVec F S1x128x128 .f32) (L : Pc F) (h : ℕ) : Pc F :=
  Nat.rec L (fun h L => ⟨rR h, f h (v.readCov L (rR h).toLoadRect)⟩ :: L) h

/-- What head `h` reads of them. -/
def seen (v : View sig .tc .vmem S4x128x128 .f32) (f : ℕ → Vec F S1x128x128 .f32 → FVec F S1x128x128 .f32) (L : Pc F) (h : ℕ) : Vec F S1x128x128 .f32 :=
  v.readCov (chain v f L (h % 4)) (rR (h % 4)).toLoadRect

/-- A half's new carried gradient of head `h`, from the old. -/
def upd (B : Sub F) (h : ℕ) (r : Vec F S1x128x128 .f32) : FVec F S1x128x128 .f32 := Sub.rOut { B with r := fun _ => r } h

def zeroR : View.Piece (Elt F) S4x128x128 .f32 := ⟨Rect.unit (s := S4x128x128) ![0, 0, 0] S4x128x128.size inb_S4x128x128_S4x128x128_0_0_0, k0_pay3⟩
def zeroA : View.Piece (Elt F) S8x512 .f32 := ⟨Rect.unit (s := S8x512) ![0, 0] S8x512.size inb_S8x512_S8x512_0_0, k0_pay4⟩

/-! ### Every point but the first -/

def oldB (arg9 : Memref sig .tc .vmem S4x128x128 .f32) (harg9 : arg9.IsWhole) (xs0 : Vec F S4x128x128 .f32) (h : ℕ) : Vec F S1x128x128 .f32 :=
  View.readAt (Elt F) arg9.view (rR h).toLoadRect (harg9.unread xs0)

def hiB (arg1 : Memref sig .tc .vmem S256x2048 .f32) (harg1 : arg1.IsWhole) (arg2 : Memref sig .tc .vmem S2x512 .f32) (harg2 : arg2.IsWhole) (arg3 : Memref sig .tc .vmem S1x512 .f32) (harg3 : arg3.IsWhole) (arg4 : Memref sig .tc .vmem S256x512 .f32) (harg4 : arg4.IsWhole) (arg5 : Memref sig .tc .vmem S2x4x128x128 .f32) (harg5 : arg5.IsWhole) (arg6 : Memref sig .tc .vmem S256x512 .f32) (harg6 : arg6.IsWhole) (arg9 : Memref sig .tc .vmem S4x128x128 .f32) (harg9 : arg9.IsWhole) (x0 : Vec F S256x2048 .f32) (x1 : Vec F S2x512 .f32) (x2 : Vec F S1x512 .f32) (x3 : Vec F S256x512 .f32) (x4 : Vec F S2x4x128x128 .f32) (x5 : Vec F S256x512 .f32) (xs0 : Vec F S4x128x128 .f32) : Sub F :=
  loaded 1 arg1 harg1 arg2 harg2 arg3 harg3 arg4 harg4 arg5 harg5 arg6 harg6 x0 x1 x2 x3 x4 x5 (oldB arg9 harg9 xs0)

def listB (arg1 : Memref sig .tc .vmem S256x2048 .f32) (harg1 : arg1.IsWhole) (arg2 : Memref sig .tc .vmem S2x512 .f32) (harg2 : arg2.IsWhole) (arg3 : Memref sig .tc .vmem S1x512 .f32) (harg3 : arg3.IsWhole) (arg4 : Memref sig .tc .vmem S256x512 .f32) (harg4 : arg4.IsWhole) (arg5 : Memref sig .tc .vmem S2x4x128x128 .f32) (harg5 : arg5.IsWhole) (arg6 : Memref sig .tc .vmem S256x512 .f32) (harg6 : arg6.IsWhole) (arg9 : Memref sig .tc .vmem S4x128x128 .f32) (harg9 : arg9.IsWhole) (x0 : Vec F S256x2048 .f32) (x1 : Vec F S2x512 .f32) (x2 : Vec F S1x512 .f32) (x3 : Vec F S256x512 .f32) (x4 : Vec F S2x4x128x128 .f32) (x5 : Vec F S256x512 .f32) (xs0 : Vec F S4x128x128 .f32) : Pc F :=
  let B := hiB arg1 harg1 arg2 harg2 arg3 harg3 arg4 harg4 arg5 harg5 arg6 harg6 arg9 harg9 x0 x1 x2 x3 x4 x5 xs0
  [⟨rR 3, B.rOut 3⟩, ⟨rR 2, B.rOut 2⟩, ⟨rR 1, B.rOut 1⟩, ⟨rR 0, B.rOut 0⟩]

def loB (arg1 : Memref sig .tc .vmem S256x2048 .f32) (harg1 : arg1.IsWhole) (arg2 : Memref sig .tc .vmem S2x512 .f32) (harg2 : arg2.IsWhole) (arg3 : Memref sig .tc .vmem S1x512 .f32) (harg3 : arg3.IsWhole) (arg4 : Memref sig .tc .vmem S256x512 .f32) (harg4 : arg4.IsWhole) (arg5 : Memref sig .tc .vmem S2x4x128x128 .f32) (harg5 : arg5.IsWhole) (arg6 : Memref sig .tc .vmem S256x512 .f32) (harg6 : arg6.IsWhole) (arg9 : Memref sig .tc .vmem S4x128x128 .f32) (harg9 : arg9.IsWhole) (x0 : Vec F S256x2048 .f32) (x1 : Vec F S2x512 .f32) (x2 : Vec F S1x512 .f32) (x3 : Vec F S256x512 .f32) (x4 : Vec F S2x4x128x128 .f32) (x5 : Vec F S256x512 .f32) (xs0 : Vec F S4x128x128 .f32) : Sub F :=
  loaded 0 arg1 harg1 arg2 harg2 arg3 harg3 arg4 harg4 arg5 harg5 arg6 harg6 x0 x1 x2 x3 x4 x5 (seen arg9.view (upd (loaded 0 arg1 harg1 arg2 harg2 arg3 harg3 arg4 harg4 arg5 harg5 arg6 harg6 x0 x1 x2 x3 x4 x5 anyR)) (listB arg1 harg1 arg2 harg2 arg3 harg3 arg4 harg4 arg5 harg5 arg6 harg6 arg9 harg9 x0 x1 x2 x3 x4 x5 xs0))

section
variable (c : Dev nD) (i : grid0.Coords) (arg1 : Memref sig .tc .vmem S256x2048 .f32) (harg1 : arg1.IsWhole) (arg2 : Memref sig .tc .vmem S2x512 .f32) (harg2 : arg2.IsWhole) (arg3 : Memref sig .tc .vmem S1x512 .f32) (harg3 : arg3.IsWhole) (arg4 : Memref sig .tc .vmem S256x512 .f32) (harg4 : arg4.IsWhole) (arg5 : Memref sig .tc .vmem S2x4x128x128 .f32) (harg5 : arg5.IsWhole) (arg6 : Memref sig .tc .vmem S256x512 .f32) (harg6 : arg6.IsWhole) (arg7 : Memref sig .tc .vmem S256x2048 .bf16) (harg7 : arg7.IsWhole) (arg8 : Memref sig .tc .vmem S8x512 .f32) (harg8 : arg8.IsWhole) (arg9 : Memref sig .tc .vmem S4x128x128 .f32) (harg9 : arg9.IsWhole) (x0 : Vec F S256x2048 .f32) (x1 : Vec F S2x512 .f32) (x2 : Vec F S1x512 .f32) (x3 : Vec F S256x512 .f32) (x4 : Vec F S2x4x128x128 .f32) (x5 : Vec F S256x512 .f32)

theorem outB (hc0 : ¬cond0_0 i) (xo7 : Vec F S8x512 .f32) (xs0 : Vec F S4x128x128 .f32) :
    (kernelRun0_B c i arg1 harg1 arg2 harg2 arg3 harg3 arg4 harg4 arg5 harg5 arg6 harg6 arg7 harg7 arg8 harg8 arg9 harg9 hc0 x0 x1 x2 x3 x4 x5 xo7 xs0).1
      = [⟨rX 0, (loB arg1 harg1 arg2 harg2 arg3 harg3 arg4 harg4 arg5 harg5 arg6 harg6 arg9 harg9 x0 x1 x2 x3 x4 x5 xs0).out⟩, ⟨rX 1, (hiB arg1 harg1 arg2 harg2 arg3 harg3 arg4 harg4 arg5 harg5 arg6 harg6 arg9 harg9 x0 x1 x2 x3 x4 x5 xs0).out⟩] := by
  sl_kernel_rfl

theorem scrB (hc0 : ¬cond0_0 i) (xo7 : Vec F S8x512 .f32) (xs0 : Vec F S4x128x128 .f32) :
    (kernelRun0_B c i arg1 harg1 arg2 harg2 arg3 harg3 arg4 harg4 arg5 harg5 arg6 harg6 arg7 harg7 arg8 harg8 arg9 harg9 hc0 x0 x1 x2 x3 x4 x5 xo7 xs0).2.2.1
      = chain arg9.view (upd (loaded 0 arg1 harg1 arg2 harg2 arg3 harg3 arg4 harg4 arg5 harg5 arg6 harg6 x0 x1 x2 x3 x4 x5 anyR)) (listB arg1 harg1 arg2 harg2 arg3 harg3 arg4 harg4 arg5 harg5 arg6 harg6 arg9 harg9 x0 x1 x2 x3 x4 x5 xs0) 4 := by
  sl_kernel_rfl

def accListB (xo7 : Vec F S8x512 .f32) (xs0 : Vec F S4x128x128 .f32) : List (View.Piece (Elt F) S8x512 .f32) :=
  [⟨rA 1, (hiB arg1 harg1 arg2 harg2 arg3 harg3 arg4 harg4 arg5 harg5 arg6 harg6 arg9 harg9 x0 x1 x2 x3 x4 x5 xs0).a1 (View.readAt (Elt F) arg8.view (rA 1).toLoadRect (harg8.unread xo7))⟩,
   ⟨rA 0, (hiB arg1 harg1 arg2 harg2 arg3 harg3 arg4 harg4 arg5 harg5 arg6 harg6 arg9 harg9 x0 x1 x2 x3 x4 x5 xs0).a0 (View.readAt (Elt F) arg8.view (rA 0).toLoadRect (harg8.unread xo7))⟩]

def accListB' (xo7 : Vec F S8x512 .f32) (xs0 : Vec F S4x128x128 .f32) : List (View.Piece (Elt F) S8x512 .f32) :=
  ⟨rA 0, (loB arg1 harg1 arg2 harg2 arg3 harg3 arg4 harg4 arg5 harg5 arg6 harg6 arg9 harg9 x0 x1 x2 x3 x4 x5 xs0).a0 (arg8.view.readCov (accListB arg1 harg1 arg2 harg2 arg3 harg3 arg4 harg4 arg5 harg5 arg6 harg6 arg8 harg8 arg9 harg9 x0 x1 x2 x3 x4 x5 xo7 xs0) (rA 0).toLoadRect)⟩
    :: accListB arg1 harg1 arg2 harg2 arg3 harg3 arg4 harg4 arg5 harg5 arg6 harg6 arg8 harg8 arg9 harg9 x0 x1 x2 x3 x4 x5 xo7 xs0

theorem accB (hc0 : ¬cond0_0 i) (xo7 : Vec F S8x512 .f32) (xs0 : Vec F S4x128x128 .f32) :
    (kernelRun0_B c i arg1 harg1 arg2 harg2 arg3 harg3 arg4 harg4 arg5 harg5 arg6 harg6 arg7 harg7 arg8 harg8 arg9 harg9 hc0 x0 x1 x2 x3 x4 x5 xo7 xs0).2.1
      = ⟨rA 1, (loB arg1 harg1 arg2 harg2 arg3 harg3 arg4 harg4 arg5 harg5 arg6 harg6 arg9 harg9 x0 x1 x2 x3 x4 x5 xs0).a1 (arg8.view.readCov (accListB' arg1 harg1 arg2 harg2 arg3 harg3 arg4 harg4 arg5 harg5 arg6 harg6 arg8 harg8 arg9 harg9 x0 x1 x2 x3 x4 x5 xo7 xs0) (rA 1).toLoadRect)⟩
        :: accListB' arg1 harg1 arg2 harg2 arg3 harg3 arg4 harg4 arg5 harg5 arg6 harg6 arg8 harg8 arg9 harg9 x0 x1 x2 x3 x4 x5 xo7 xs0 := by
  sl_kernel_rfl

end

/-! ### The first point -/

def hiA (arg1 : Memref sig .tc .vmem S256x2048 .f32) (harg1 : arg1.IsWhole) (arg2 : Memref sig .tc .vmem S2x512 .f32) (harg2 : arg2.IsWhole) (arg3 : Memref sig .tc .vmem S1x512 .f32) (harg3 : arg3.IsWhole) (arg4 : Memref sig .tc .vmem S256x512 .f32) (harg4 : arg4.IsWhole) (arg5 : Memref sig .tc .vmem S2x4x128x128 .f32) (harg5 : arg5.IsWhole) (arg6 : Memref sig .tc .vmem S256x512 .f32) (harg6 : arg6.IsWhole) (arg9 : Memref sig .tc .vmem S4x128x128 .f32) (x0 : Vec F S256x2048 .f32) (x1 : Vec F S2x512 .f32) (x2 : Vec F S1x512 .f32) (x3 : Vec F S256x512 .f32) (x4 : Vec F S2x4x128x128 .f32) (x5 : Vec F S256x512 .f32) : Sub F :=
  loaded 1 arg1 harg1 arg2 harg2 arg3 harg3 arg4 harg4 arg5 harg5 arg6 harg6 x0 x1 x2 x3 x4 x5 (seen arg9.view (upd (loaded 1 arg1 harg1 arg2 harg2 arg3 harg3 arg4 harg4 arg5 harg5 arg6 harg6 x0 x1 x2 x3 x4 x5 anyR)) [zeroR])

def listA (arg1 : Memref sig .tc .vmem S256x2048 .f32) (harg1 : arg1.IsWhole) (arg2 : Memref sig .tc .vmem S2x512 .f32) (harg2 : arg2.IsWhole) (arg3 : Memref sig .tc .vmem S1x512 .f32) (harg3 : arg3.IsWhole) (arg4 : Memref sig .tc .vmem S256x512 .f32) (harg4 : arg4.IsWhole) (arg5 : Memref sig .tc .vmem S2x4x128x128 .f32) (harg5 : arg5.IsWhole) (arg6 : Memref sig .tc .vmem S256x512 .f32) (harg6 : arg6.IsWhole) (arg9 : Memref sig .tc .vmem S4x128x128 .f32) (x0 : Vec F S256x2048 .f32) (x1 : Vec F S2x512 .f32) (x2 : Vec F S1x512 .f32) (x3 : Vec F S256x512 .f32) (x4 : Vec F S2x4x128x128 .f32) (x5 : Vec F S256x512 .f32) : Pc F :=
  chain arg9.view (upd (loaded 1 arg1 harg1 arg2 harg2 arg3 harg3 arg4 harg4 arg5 harg5 arg6 harg6 x0 x1 x2 x3 x4 x5 anyR)) [zeroR] 4

def loA (arg1 : Memref sig .tc .vmem S256x2048 .f32) (harg1 : arg1.IsWhole) (arg2 : Memref sig .tc .vmem S2x512 .f32) (harg2 : arg2.IsWhole) (arg3 : Memref sig .tc .vmem S1x512 .f32) (harg3 : arg3.IsWhole) (arg4 : Memref sig .tc .vmem S256x512 .f32) (harg4 : arg4.IsWhole) (arg5 : Memref sig .tc .vmem S2x4x128x128 .f32) (harg5 : arg5.IsWhole) (arg6 : Memref sig .tc .vmem S256x512 .f32) (harg6 : arg6.IsWhole) (arg9 : Memref sig .tc .vmem S4x128x128 .f32) (x0 : Vec F S256x2048 .f32) (x1 : Vec F S2x512 .f32) (x2 : Vec F S1x512 .f32) (x3 : Vec F S256x512 .f32) (x4 : Vec F S2x4x128x128 .f32) (x5 : Vec F S256x512 .f32) : Sub F :=
  loaded 0 arg1 harg1 arg2 harg2 arg3 harg3 arg4 harg4 arg5 harg5 arg6 harg6 x0 x1 x2 x3 x4 x5 (seen arg9.view (upd (loaded 0 arg1 harg1 arg2 harg2 arg3 harg3 arg4 harg4 arg5 harg5 arg6 harg6 x0 x1 x2 x3 x4 x5 anyR)) (listA arg1 harg1 arg2 harg2 arg3 harg3 arg4 harg4 arg5 harg5 arg6 harg6 arg9 x0 x1 x2 x3 x4 x5))

section
variable (c : Dev nD) (i : grid0.Coords) (arg1 : Memref sig .tc .vmem S256x2048 .f32) (harg1 : arg1.IsWhole) (arg2 : Memref sig .tc .vmem S2x512 .f32) (harg2 : arg2.IsWhole) (arg3 : Memref sig .tc .vmem S1x512 .f32) (harg3 : arg3.IsWhole) (arg4 : Memref sig .tc .vmem S256x512 .f32) (harg4 : arg4.IsWhole) (arg5 : Memref sig .tc .vmem S2x4x128x128 .f32) (harg5 : arg5.IsWhole) (arg6 : Memref sig .tc .vmem S256x512 .f32) (harg6 : arg6.IsWhole) (arg7 : Memref sig .tc .vmem S256x2048 .bf16) (harg7 : arg7.IsWhole) (arg8 : Memref sig .tc .vmem S8x512 .f32) (harg8 : arg8.IsWhole) (arg9 : Memref sig .tc .vmem S4x128x128 .f32) (harg9 : arg9.IsWhole) (x0 : Vec F S256x2048 .f32) (x1 : Vec F S2x512 .f32) (x2 : Vec F S1x512 .f32) (x3 : Vec F S256x512 .f32) (x4 : Vec F S2x4x128x128 .f32) (x5 : Vec F S256x512 .f32)

theorem outA (hc0 : cond0_0 i) :
    (kernelRun0_A c i arg1 harg1 arg2 harg2 arg3 harg3 arg4 harg4 arg5 harg5 arg6 harg6 arg7 harg7 arg8 harg8 arg9 harg9 hc0 x0 x1 x2 x3 x4 x5).1 = [⟨rX 0, (loA arg1 harg1 arg2 harg2 arg3 harg3 arg4 harg4 arg5 harg5 arg6 harg6 arg9 x0 x1 x2 x3 x4 x5).out⟩, ⟨rX 1, (hiA arg1 harg1 arg2 harg2 arg3 harg3 arg4 harg4 arg5 harg5 arg6 harg6 arg9 x0 x1 x2 x3 x4 x5).out⟩] := by
  sl_kernel_rfl

theorem scrA (hc0 : cond0_0 i) :
    (kernelRun0_A c i arg1 harg1 arg2 harg2 arg3 harg3 arg4 harg4 arg5 harg5 arg6 harg6 arg7 harg7 arg8 harg8 arg9 harg9 hc0 x0 x1 x2 x3 x4 x5).2.2.1
      = chain arg9.view (upd (loaded 0 arg1 harg1 arg2 harg2 arg3 harg3 arg4 harg4 arg5 harg5 arg6 harg6 x0 x1 x2 x3 x4 x5 anyR)) (listA arg1 harg1 arg2 harg2 arg3 harg3 arg4 harg4 arg5 harg5 arg6 harg6 arg9 x0 x1 x2 x3 x4 x5) 4 := by
  sl_kernel_rfl

def accA1 : List (View.Piece (Elt F) S8x512 .f32) :=
  [⟨rA 0, (hiA arg1 harg1 arg2 harg2 arg3 harg3 arg4 harg4 arg5 harg5 arg6 harg6 arg9 x0 x1 x2 x3 x4 x5).a0 (arg8.view.readCov [zeroA] (rA 0).toLoadRect)⟩, zeroA]

def accA2 : List (View.Piece (Elt F) S8x512 .f32) :=
  ⟨rA 1, (hiA arg1 harg1 arg2 harg2 arg3 harg3 arg4 harg4 arg5 harg5 arg6 harg6 arg9 x0 x1 x2 x3 x4 x5).a1 (arg8.view.readCov (accA1 arg1 harg1 arg2 harg2 arg3 harg3 arg4 harg4 arg5 harg5 arg6 harg6 arg8 arg9 x0 x1 x2 x3 x4 x5) (rA 1).toLoadRect)⟩ :: accA1 arg1 harg1 arg2 harg2 arg3 harg3 arg4 harg4 arg5 harg5 arg6 harg6 arg8 arg9 x0 x1 x2 x3 x4 x5

def accA3 : List (View.Piece (Elt F) S8x512 .f32) :=
  ⟨rA 0, (loA arg1 harg1 arg2 harg2 arg3 harg3 arg4 harg4 arg5 harg5 arg6 harg6 arg9 x0 x1 x2 x3 x4 x5).a0 (arg8.view.readCov (accA2 arg1 harg1 arg2 harg2 arg3 harg3 arg4 harg4 arg5 harg5 arg6 harg6 arg8 arg9 x0 x1 x2 x3 x4 x5) (rA 0).toLoadRect)⟩ :: accA2 arg1 harg1 arg2 harg2 arg3 harg3 arg4 harg4 arg5 harg5 arg6 harg6 arg8 arg9 x0 x1 x2 x3 x4 x5

theorem accA (hc0 : cond0_0 i) :
    (kernelRun0_A c i arg1 harg1 arg2 harg2 arg3 harg3 arg4 harg4 arg5 harg5 arg6 harg6 arg7 harg7 arg8 harg8 arg9 harg9 hc0 x0 x1 x2 x3 x4 x5).2.1 = ⟨rA 1, (loA arg1 harg1 arg2 harg2 arg3 harg3 arg4 harg4 arg5 harg5 arg6 harg6 arg9 x0 x1 x2 x3 x4 x5).a1 (arg8.view.readCov (accA3 arg1 harg1 arg2 harg2 arg3 harg3 arg4 harg4 arg5 harg5 arg6 harg6 arg8 arg9 x0 x1 x2 x3 x4 x5) (rA 1).toLoadRect)⟩ :: accA3 arg1 harg1 arg2 harg2 arg3 harg3 arg4 harg4 arg5 harg5 arg6 harg6 arg8 arg9 x0 x1 x2 x3 x4 x5 := by
  sl_kernel_rfl

end

end Cert.Mirror

end

end
-- ==== Proof.Step.lean ====
/- One grid point's stores read back: the block, the carried gradient and the two summed rows. -/
module

public import proofs.«01_k».proof.Proof.Points
public import proofs.«01_k».proof.Proof.Gen.KernelIdeal.Frame

@[expose] public section

set_option maxRecDepth 16384

noncomputable section

namespace Cert.Mirror

open Idealize.ShloMosaic Idealize.ShloMosaic.Tactic Idealize.SL.Sem
open Cert.KernelIdeal Cert.KernelIdeal.Gen

variable {F : FTy → Type} [FloatOps F]

/-! ### Rectangles that do not meet -/

theorem rR_off {h k : ℕ} (hne : h % 4 ≠ k % 4) (j : S1x128x128.Idx) : (rR h).emb j ∉ (rR k).set := by
  intro hm
  obtain ⟨z, hz⟩ := (rR k).exists_idx_of_mem hm
  have h0 := congrArg (fun y : S4x128x128.Idx => (y 0 : ℕ)) hz
  have e1 : (((rR k).idx z) 0 : ℕ) = k % 4 + (z 0 : ℕ) := Rect.idx_unit_val _ _ _ _ _
  have e2 : (((rR h).idx j) 0 : ℕ) = h % 4 + (j 0 : ℕ) := Rect.idx_unit_val _ _ _ _ _
  have hz0 : (z 0 : ℕ) < 1 := (z 0).isLt
  have hj0 : (j 0 : ℕ) < 1 := (j 0).isLt
  have h1 : (((rR k).idx z) 0 : ℕ) = (((rR h).idx j) 0 : ℕ) := h0
  omega

theorem rA_off {h k : ℕ} (hne : h % 2 ≠ k % 2) (j : S1x512.Idx) : (rA h).emb j ∉ (rA k).set := by
  intro hm
  obtain ⟨z, hz⟩ := (rA k).exists_idx_of_mem hm
  have h0 := congrArg (fun y : S8x512.Idx => (y 0 : ℕ)) hz
  have e1 : (((rA k).idx z) 0 : ℕ) = k % 2 + (z 0 : ℕ) := Rect.idx_unit_val _ _ _ _ _
  have e2 : (((rA h).idx j) 0 : ℕ) = h % 2 + (j 0 : ℕ) := Rect.idx_unit_val _ _ _ _ _
  have hz0 : (z 0 : ℕ) < 1 := (z 0).isLt
  have hj0 : (j 0 : ℕ) < 1 := (j 0).isLt
  have h1 : (((rA k).idx z) 0 : ℕ) = (((rA h).idx j) 0 : ℕ) := h0
  omega

theorem rA_rest {k : ℕ} (y : S8x512.Idx) (hy : 2 ≤ (y 0 : ℕ)) : y ∉ (rA k).set := by
  intro hm
  obtain ⟨z, hz⟩ := (rA k).exists_idx_of_mem hm
  have h0 : (((rA k).idx z) 0 : ℕ) = (y 0 : ℕ) := congrArg (fun y : S8x512.Idx => (y 0 : ℕ)) hz
  have e1 : (((rA k).idx z) 0 : ℕ) = k % 2 + (z 0 : ℕ) := Rect.idx_unit_val _ _ _ _ _
  have hz0 : (z 0 : ℕ) < 1 := (z 0).isLt
  omega

theorem rX_off (j : S128x2048.Idx) : (rX 1).emb j ∉ (rX 0).set := by
  intro hm
  obtain ⟨z, hz⟩ := (rX 0).exists_idx_of_mem hm
  have h0 := congrArg (fun y : S256x2048.Idx => (y 0 : ℕ)) hz
  have e1 : (((rX 0).idx z) 0 : ℕ) = 0 + (z 0 : ℕ) := Rect.idx_unit_val _ _ _ _ _
  have e2 : (((rX 1).idx j) 0 : ℕ) = 128 + (j 0 : ℕ) := Rect.idx_unit_val _ _ _ _ _
  have hz0 : (z 0 : ℕ) < 128 := (z 0).isLt
  have h1 : (((rX 0).idx z) 0 : ℕ) = (((rX 1).idx j) 0 : ℕ) := h0
  omega

theorem emb_mem {s : Shape} (r : Rect s) (j : r.shape.Idx) : r.emb j ∈ r.set := by
  rw [← Rect.map_emb_univ]; exact Finset.mem_map_of_mem _ (Finset.mem_univ _)

theorem canRest (k : ℕ) (w : S1x512.Idx → Elt F .f32) (L : List (View.Piece (Elt F) S8x512 .f32)) (y : S8x512.Idx) (hy : 2 ≤ (y 0 : ℕ)) :
    View.canon ((⟨rA k, w⟩ : View.Piece (Elt F) S8x512 .f32) :: L) y = View.canon L y :=
  View.canon_cons_of_not_mem _ _ (rA_rest y hy)

theorem canR (h k : ℕ) (hne : h % 4 ≠ k % 4) (w : S1x128x128.Idx → Elt F .f32) (L : Pc F) (j : S1x128x128.Idx) :
    View.canon ((⟨rR k, w⟩ : View.Piece (Elt F) S4x128x128 .f32) :: L) ((rR h).emb j) = View.canon L ((rR h).emb j) :=
  View.canon_cons_of_not_mem _ _ (rR_off hne j)

theorem canA (h k : ℕ) (hne : h % 2 ≠ k % 2) (w : S1x512.Idx → Elt F .f32) (L : List (View.Piece (Elt F) S8x512 .f32)) (j : S1x512.Idx) :
    View.canon ((⟨rA k, w⟩ : View.Piece (Elt F) S8x512 .f32) :: L) ((rA h).emb j) = View.canon L ((rA h).emb j) :=
  View.canon_cons_of_not_mem _ _ (rA_off hne j)

theorem canX (w : S128x2048.Idx → Elt F .bf16) (L : List (View.Piece (Elt F) S256x2048 .bf16)) (j : S128x2048.Idx) :
    View.canon ((⟨rX 0, w⟩ : View.Piece (Elt F) S256x2048 .bf16) :: L) ((rX 1).emb j) = View.canon L ((rX 1).emb j) :=
  View.canon_cons_of_not_mem _ _ (rX_off j)

theorem rR_mod (h : ℕ) (j : S1x128x128.Idx) : (rR (h % 4)).emb j = (rR h).emb j := by
  funext a
  apply Fin.ext
  have e1 : (((rR (h % 4)).idx j) a : ℕ) = (![h % 4 % 4, 0, 0] : Fin 3 → ℕ) a + (j a : ℕ) := Rect.idx_unit_val _ _ _ _ _
  have e2 : (((rR h).idx j) a : ℕ) = (![h % 4, 0, 0] : Fin 3 → ℕ) a + (j a : ℕ) := Rect.idx_unit_val _ _ _ _ _
  refine e1.trans (Eq.trans ?_ e2.symm)
  rw [Nat.mod_mod]

/-! ### A chain of stores -/

theorem chain_succ (v : View sig .tc .vmem S4x128x128 .f32) (f : ℕ → Vec F S1x128x128 .f32 → FVec F S1x128x128 .f32) (L : Pc F) (h : ℕ) :
    chain v f L (h + 1) = ⟨rR h, f h (v.readCov (chain v f L h) (rR h).toLoadRect)⟩ :: chain v f L h := rfl

theorem canon_chain_off (v : View sig .tc .vmem S4x128x128 .f32) (f : ℕ → Vec F S1x128x128 .f32 → FVec F S1x128x128 .f32) (L : Pc F)
    (k : ℕ) (hk : k < 4) (n : ℕ) (hn : n ≤ k) (j : S1x128x128.Idx) :
    View.canon (chain v f L n) ((rR k).emb j) = View.canon L ((rR k).emb j) := by
  induction n with
  | zero => rfl
  | succ n ih =>
    rw [chain_succ, canR k n (by omega), ih (by omega)]

theorem seen_eq (v : View sig .tc .vmem S4x128x128 .f32) (f : ℕ → Vec F S1x128x128 .f32 → FVec F S1x128x128 .f32) (L : Pc F)
    (k : ℕ) : seen v f L k = fun j => View.canon L ((rR (k % 4)).emb j) := by
  unfold seen
  rw [View.readCov_eq_canon']
  funext j
  exact canon_chain_off v f L (k % 4) (Nat.mod_lt _ (by decide)) (k % 4) le_rfl j

theorem canon_chain (v : View sig .tc .vmem S4x128x128 .f32) (f : ℕ → Vec F S1x128x128 .f32 → FVec F S1x128x128 .f32) (L : Pc F)
    (k : ℕ) (hk : k < 4) (n : ℕ) (hn : k < n) (hn4 : n ≤ 4) (j : S1x128x128.Idx) :
    View.canon (chain v f L n) ((rR k).emb j) = f k (seen v f L k) j := by
  induction n with
  | zero => omega
  | succ n ih =>
    rw [chain_succ]
    by_cases e : n = k
    · subst e
      rw [View.canon_cons_emb]
      unfold seen
      rw [Nat.mod_eq_of_lt hk]
    · rw [canR k n (by omega), ih (by omega) (by omega)]

/-! ### The point's two halves -/

section
variable (x0 : Vec F S256x2048 .f32) (x1 : Vec F S2x512 .f32) (x2 : Vec F S1x512 .f32) (x3 : Vec F S256x512 .f32) (x4 : Vec F S2x4x128x128 .f32) (x5 : Vec F S256x512 .f32)

/-- The upper half: what it carries in is what the point before left. -/
def hi (sc : Vec F S4x128x128 .f32) : Sub F := half 1 x0 x1 x2 x3 x4 x5 fun h => View.ld (Val := Elt F) (e' := .f32) sc (rR h)

/-- The lower half: what it carries in is what the upper half left. -/
def lo (sc : Vec F S4x128x128 .f32) : Sub F := half 0 x0 x1 x2 x3 x4 x5 fun h => (hi x0 x1 x2 x3 x4 x5 sc).rOut (h % 4)

/-- What a point leaves: `o` the block, `a` the summed rows, `s` the carried gradient, over the summed rows and carried gradient before. -/
structure Left (acc : Vec F S8x512 .f32) (sc : Vec F S4x128x128 .f32) (o : Vec F S256x2048 .bf16) (a : Vec F S8x512 .f32) (s : Vec F S4x128x128 .f32) : Prop where
  out0 : ∀ j : S128x2048.Idx, o ((rX 0).emb j) = (lo x0 x1 x2 x3 x4 x5 sc).out j
  out1 : ∀ j : S128x2048.Idx, o ((rX 1).emb j) = (hi x0 x1 x2 x3 x4 x5 sc).out j
  scr : ∀ h < 4, ∀ j : S1x128x128.Idx, s ((rR h).emb j) = (lo x0 x1 x2 x3 x4 x5 sc).rOut h j
  acc0 : ∀ j : S1x512.Idx, a ((rA 0).emb j) = (lo x0 x1 x2 x3 x4 x5 sc).a0 ((hi x0 x1 x2 x3 x4 x5 sc).a0 (View.ld (Val := Elt F) (e' := .f32) acc (rA 0))) j
  acc1 : ∀ j : S1x512.Idx, a ((rA 1).emb j) = (lo x0 x1 x2 x3 x4 x5 sc).a1 ((hi x0 x1 x2 x3 x4 x5 sc).a1 (View.ld (Val := Elt F) (e' := .f32) acc (rA 1))) j
  rest : ∀ y : S8x512.Idx, 2 ≤ (y 0 : ℕ) → a y = acc y

end

section
variable (c : Dev nD) (i : grid0.Coords) (arg1 : Memref sig .tc .vmem S256x2048 .f32) (harg1 : arg1.IsWhole) (arg2 : Memref sig .tc .vmem S2x512 .f32) (harg2 : arg2.IsWhole) (arg3 : Memref sig .tc .vmem S1x512 .f32) (harg3 : arg3.IsWhole) (arg4 : Memref sig .tc .vmem S256x512 .f32) (harg4 : arg4.IsWhole) (arg5 : Memref sig .tc .vmem S2x4x128x128 .f32) (harg5 : arg5.IsWhole) (arg6 : Memref sig .tc .vmem S256x512 .f32) (harg6 : arg6.IsWhole) (arg7 : Memref sig .tc .vmem S256x2048 .bf16) (harg7 : arg7.IsWhole) (arg8 : Memref sig .tc .vmem S8x512 .f32) (harg8 : arg8.IsWhole) (arg9 : Memref sig .tc .vmem S4x128x128 .f32) (harg9 : arg9.IsWhole) (x0 : Vec F S256x2048 .f32) (x1 : Vec F S2x512 .f32) (x2 : Vec F S1x512 .f32) (x3 : Vec F S256x512 .f32) (x4 : Vec F S2x4x128x128 .f32) (x5 : Vec F S256x512 .f32)

theorem upd_rOut (b : ℕ) (r : ℕ → Vec F S1x128x128 .f32) (r' : ℕ → Vec F S1x128x128 .f32) (h : ℕ) :
    upd (half b x0 x1 x2 x3 x4 x5 r') h (r h) = (half b x0 x1 x2 x3 x4 x5 r).rOut h := rfl

theorem hiB_eq (xs0 : Vec F S4x128x128 .f32) : hiB arg1 harg1 arg2 harg2 arg3 harg3 arg4 harg4 arg5 harg5 arg6 harg6 arg9 harg9 x0 x1 x2 x3 x4 x5 xs0 = hi x0 x1 x2 x3 x4 x5 xs0 := by
  unfold hiB hi
  rw [loaded_eq]
  congr 1
  funext h
  unfold oldB
  rw [View.readAt_eq_ld, harg9.read_unread]

theorem canon_listB (xs0 : Vec F S4x128x128 .f32) (h : ℕ) (hh : h < 4) (j : S1x128x128.Idx) :
    View.canon (listB arg1 harg1 arg2 harg2 arg3 harg3 arg4 harg4 arg5 harg5 arg6 harg6 arg9 harg9 x0 x1 x2 x3 x4 x5 xs0) ((rR h).emb j) = (hi x0 x1 x2 x3 x4 x5 xs0).rOut h j := by
  unfold listB
  simp only [hiB_eq]
  have hd : h = 0 ∨ h = 1 ∨ h = 2 ∨ h = 3 := by omega
  rcases hd with rfl | rfl | rfl | rfl
  · rw [canR 0 3 (by decide), canR 0 2 (by decide), canR 0 1 (by decide), View.canon_cons_emb]
  · rw [canR 1 3 (by decide), canR 1 2 (by decide), View.canon_cons_emb]
  · rw [canR 2 3 (by decide), View.canon_cons_emb]
  · rw [View.canon_cons_emb]

theorem seenB_eq (xs0 : Vec F S4x128x128 .f32) (f : ℕ → Vec F S1x128x128 .f32 → FVec F S1x128x128 .f32) :
    seen arg9.view f (listB arg1 harg1 arg2 harg2 arg3 harg3 arg4 harg4 arg5 harg5 arg6 harg6 arg9 harg9 x0 x1 x2 x3 x4 x5 xs0) = fun h => (hi x0 x1 x2 x3 x4 x5 xs0).rOut (h % 4) := by
  funext h
  rw [seen_eq]
  funext j
  exact canon_listB arg1 harg1 arg2 harg2 arg3 harg3 arg4 harg4 arg5 harg5 arg6 harg6 arg9 harg9 x0 x1 x2 x3 x4 x5 xs0 (h % 4) (Nat.mod_lt _ (by decide)) j

theorem loB_eq (xs0 : Vec F S4x128x128 .f32) : loB arg1 harg1 arg2 harg2 arg3 harg3 arg4 harg4 arg5 harg5 arg6 harg6 arg9 harg9 x0 x1 x2 x3 x4 x5 xs0 = lo x0 x1 x2 x3 x4 x5 xs0 := by
  unfold loB lo
  rw [loaded_eq, seenB_eq]

set_option maxHeartbeats 1600000 in
theorem left_B (hc0 : ¬cond0_0 i) (xo7 : Vec F S8x512 .f32) (xs0 : Vec F S4x128x128 .f32) :
    Left x0 x1 x2 x3 x4 x5 xo7 xs0 (out0_B_6 c i arg1 harg1 arg2 harg2 arg3 harg3 arg4 harg4 arg5 harg5 arg6 harg6 arg7 harg7 arg8 harg8 arg9 harg9 hc0 x0 x1 x2 x3 x4 x5 xo7 xs0) (out0_B_7 c i arg1 harg1 arg2 harg2 arg3 harg3 arg4 harg4 arg5 harg5 arg6 harg6 arg7 harg7 arg8 harg8 arg9 harg9 hc0 x0 x1 x2 x3 x4 x5 xo7 xs0) (sout0_B_0 c i arg1 harg1 arg2 harg2 arg3 harg3 arg4 harg4 arg5 harg5 arg6 harg6 arg7 harg7 arg8 harg8 arg9 harg9 hc0 x0 x1 x2 x3 x4 x5 xo7 xs0) where
  out0 j := by
    unfold out0_B_6
    rw [View.read_writes_junk_eq_canon, outB, View.canon_cons_emb, loB_eq]
  out1 j := by
    unfold out0_B_6
    rw [View.read_writes_junk_eq_canon, outB, canX, View.canon_cons_emb, hiB_eq]
  scr h hh j := by
    unfold sout0_B_0
    rw [View.read_writes_junk_eq_canon, scrB, canon_chain _ _ _ h hh 4 hh le_rfl, seenB_eq, loaded_eq]
    have e := upd_rOut x0 x1 x2 x3 x4 x5 0 (fun h => (hi x0 x1 x2 x3 x4 x5 xs0).rOut (h % 4)) anyR h
    exact congrFun e j
  acc0 j := by
    unfold out0_B_7
    rw [accB]
    unfold accListB'
    refine (View.read_writes_apply_eq_canon _ _ _ _ ⟨_, List.mem_cons_of_mem _ List.mem_cons_self, emb_mem (rA 0) j⟩).trans ?_
    rw [canA 0 1 (by decide)]
    rw [View.canon_cons_emb, loB_eq]
    unfold accListB
    rw [View.readCov_eq_canon']
    simp only [hiB_eq]
    congr 1
    funext j
    refine (canA 0 1 (by decide) _ _ j).trans ?_
    refine (View.canon_cons_emb _ _ _ j).trans ?_
    rw [View.readAt_eq_ld, harg8.read_unread]
  acc1 j := by
    unfold out0_B_7
    rw [accB, View.read_writes_apply_eq_canon _ _ _ _ ⟨_, List.mem_cons_self, emb_mem _ _⟩, View.canon_cons_emb, loB_eq]
    unfold accListB' accListB
    rw [View.readCov_eq_canon']
    simp only [hiB_eq]
    congr 1
    funext j
    refine (canA 1 0 (by decide) _ _ j).trans ?_
    refine (View.canon_cons_emb _ _ _ j).trans ?_
    rw [View.readAt_eq_ld, harg8.read_unread]
  rest y hy := by
    unfold out0_B_7
    rw [accB]
    unfold accListB' accListB
    have hn : ∀ k, y ∉ Finset.univ.map (rA k).emb := fun k => by rw [Rect.map_emb_univ]; exact rA_rest y hy
    rw [View.writes_cons, View.read_slice_write_of_not_mem _ _ _ _ (hn 1), View.writes_cons, View.read_slice_write_of_not_mem _ _ _ _ (hn 0),
      View.writes_cons, View.read_slice_write_of_not_mem _ _ _ _ (hn 1), View.writes_cons, View.read_slice_write_of_not_mem _ _ _ _ (hn 0),
      View.writes_nil, harg8.read_unread]

theorem canon_zeroR : View.canon [zeroR (F := F)] = k0_pay3 := by
  unfold zeroR
  exact View.canon_cons_unit_lit _ _ _ (by intro a; fin_cases a <;> rfl)

theorem canon_zeroA : View.canon [zeroA (F := F)] = k0_pay4 := by
  unfold zeroA
  exact View.canon_cons_unit_lit _ _ _ (by intro a; fin_cases a <;> rfl)

theorem hiA_eq : hiA arg1 harg1 arg2 harg2 arg3 harg3 arg4 harg4 arg5 harg5 arg6 harg6 arg9 x0 x1 x2 x3 x4 x5 = hi x0 x1 x2 x3 x4 x5 k0_pay3 := by
  unfold hiA hi
  rw [loaded_eq]
  congr 1
  funext h
  rw [seen_eq, canon_zeroR]
  funext j
  exact congrArg k0_pay3 (rR_mod h j)

theorem seenA_eq (f : ℕ → Vec F S1x128x128 .f32 → FVec F S1x128x128 .f32) :
    seen arg9.view f (listA arg1 harg1 arg2 harg2 arg3 harg3 arg4 harg4 arg5 harg5 arg6 harg6 arg9 x0 x1 x2 x3 x4 x5) = fun h => (hi x0 x1 x2 x3 x4 x5 k0_pay3).rOut (h % 4) := by
  funext h
  rw [seen_eq]
  funext j
  unfold listA
  have hh := Nat.mod_lt h (show 4 > 0 by decide)
  rw [canon_chain _ _ _ (h % 4) hh 4 hh le_rfl, loaded_eq]
  have e := upd_rOut x0 x1 x2 x3 x4 x5 1 (seen arg9.view (upd (loaded 1 arg1 harg1 arg2 harg2 arg3 harg3 arg4 harg4 arg5 harg5 arg6 harg6 x0 x1 x2 x3 x4 x5 anyR)) [zeroR]) anyR (h % 4)
  rw [loaded_eq] at e
  refine (congrFun e j).trans ?_
  rw [← hiA_eq arg1 harg1 arg2 harg2 arg3 harg3 arg4 harg4 arg5 harg5 arg6 harg6 arg9 x0 x1 x2 x3 x4 x5]
  unfold hiA
  rw [loaded_eq, loaded_eq]

theorem loA_eq : loA arg1 harg1 arg2 harg2 arg3 harg3 arg4 harg4 arg5 harg5 arg6 harg6 arg9 x0 x1 x2 x3 x4 x5 = lo x0 x1 x2 x3 x4 x5 k0_pay3 := by
  unfold loA lo
  rw [loaded_eq, seenA_eq]

set_option maxHeartbeats 1600000 in
theorem left_A (hc0 : cond0_0 i) :
    Left x0 x1 x2 x3 x4 x5 k0_pay4 k0_pay3 (out0_A_6 c i arg1 harg1 arg2 harg2 arg3 harg3 arg4 harg4 arg5 harg5 arg6 harg6 arg7 harg7 arg8 harg8 arg9 harg9 hc0 x0 x1 x2 x3 x4 x5) (out0_A_7 c i arg1 harg1 arg2 harg2 arg3 harg3 arg4 harg4 arg5 harg5 arg6 harg6 arg7 harg7 arg8 harg8 arg9 harg9 hc0 x0 x1 x2 x3 x4 x5) (sout0_A_0 c i arg1 harg1 arg2 harg2 arg3 harg3 arg4 harg4 arg5 harg5 arg6 harg6 arg7 harg7 arg8 harg8 arg9 harg9 hc0 x0 x1 x2 x3 x4 x5) where
  out0 j := by
    unfold out0_A_6
    rw [View.read_writes_junk_eq_canon, outA, View.canon_cons_emb, loA_eq]
  out1 j := by
    unfold out0_A_6
    rw [View.read_writes_junk_eq_canon, outA, canX, View.canon_cons_emb, hiA_eq]
  scr h hh j := by
    unfold sout0_A_0
    rw [View.read_writes_junk_eq_canon, scrA, canon_chain _ _ _ h hh 4 hh le_rfl, seenA_eq, loaded_eq]
    have e := upd_rOut x0 x1 x2 x3 x4 x5 0 (fun h => (hi x0 x1 x2 x3 x4 x5 k0_pay3).rOut (h % 4)) anyR h
    exact congrFun e j
  acc0 j := by
    unfold out0_A_7
    rw [View.read_writes_junk_eq_canon, accA, canA 0 1 (by decide)]
    unfold accA3
    rw [View.canon_cons_emb, loA_eq, View.readCov_eq_canon']
    congr 1
    funext j
    unfold accA2
    refine (canA 0 1 (by decide) _ _ j).trans ?_
    unfold accA1
    refine (View.canon_cons_emb _ _ _ j).trans ?_
    rw [hiA_eq, View.readCov_eq_canon', canon_zeroA]
  acc1 j := by
    unfold out0_A_7
    rw [View.read_writes_junk_eq_canon, accA, View.canon_cons_emb, loA_eq, View.readCov_eq_canon']
    congr 1
    funext j
    unfold accA3
    refine (canA 1 0 (by decide) _ _ j).trans ?_
    unfold accA2
    refine (View.canon_cons_emb _ _ _ j).trans ?_
    rw [hiA_eq, View.readCov_eq_canon']
    congr 1
    funext j
    unfold accA1
    refine (canA 1 0 (by decide) _ _ j).trans ?_
    rw [canon_zeroA]
    rfl
  rest y hy := by
    unfold out0_A_7
    rw [View.read_writes_junk_eq_canon, accA, canRest _ _ _ y hy]
    unfold accA3
    rw [canRest _ _ _ y hy]
    unfold accA2
    rw [canRest _ _ _ y hy]
    unfold accA1
    rw [canRest _ _ _ y hy, canon_zeroA]

end

end Cert.Mirror

end

end
-- ==== Proof.Pair.lean ====
/- One grid point over the reals: two blocks of 128 rows, the later one first. -/
module

public import proofs.«01_k».proof.Proof.Block
public import proofs.«01_k».proof.Proof.Step

@[expose] public section

set_option maxRecDepth 16384

noncomputable section

namespace Cert.Mirror

open Idealize.ShloMosaic Idealize.SL.Sem
open Cert.KernelIdeal Cert.KernelIdeal.Gen

/-- What a grid point, whose rows start at `T`, is given: its blocks of the arrays. -/
structure PairAt (D : In) (x0 : Vec Ideal S256x2048 .f32) (x1 : Vec Ideal S2x512 .f32) (x2 : Vec Ideal S1x512 .f32)
    (x3 : Vec Ideal S256x512 .f32) (x4 : Vec Ideal S2x4x128x128 .f32) (x5 : Vec Ideal S256x512 .f32) (T : ℕ) : Prop where
  hn : T + 256 ≤ D.n
  heps : Ideal.ofBits .f32 0x358637BD#32 = ((D.eps : ℝ) : EReal)
  hpos : 0 < D.eps
  x : Lf (a := 256) (b := 2048) x0 fun i c => D.x (T + i) c
  l : Lf (a := 2) (b := 512) x1 D.l
  w : Lf (a := 1) (b := 512) x2 fun _ c => D.w c
  o : Lf (a := 256) (b := 512) x3 fun i c => D.o (T + i) c
  s : ∀ (b : Fin 2) (h : Fin 4) (e d : Fin 128), x4 (ix4 b h e d) = ((D.S (T + 128 * b) (128 * h + d) (128 * h + e) : ℝ) : EReal)
  dy : Lf (a := 256) (b := 512) x5 fun i c => D.dy (T + i) c

/-- The carried gradient between the rows before `R` and the rows from `R` on. -/
def Carry (D : In) (s : Vec Ideal S4x128x128 .f32) (R : ℕ) : Prop :=
  ∀ (h : Fin 4) (e d : Fin 128), s (ix3 h e d) = ((D.Z R (128 * h + d) (128 * h + e) : ℝ) : EReal)

/-- The two summed rows over `M` rows from `T` on. -/
structure Acc (D : In) (a : Vec Ideal S8x512 .f32) (T M : ℕ) : Prop where
  r0 : ∀ c : Fin 512, a (ix2 0 c) = ((∑ k ∈ Finset.range M, D.p0 (T + k) c : ℝ) : EReal)
  r1 : ∀ c : Fin 512, a (ix2 1 c) = ((∑ k ∈ Finset.range M, D.p1 (T + k) c : ℝ) : EReal)
  rest : ∀ (i : Fin 8) (c : Fin 512), 2 ≤ (i : ℕ) → a (ix2 i c) = 0

variable {D : In} {x0 : Vec Ideal S256x2048 .f32} {x1 : Vec Ideal S2x512 .f32} {x2 : Vec Ideal S1x512 .f32}
    {x3 : Vec Ideal S256x512 .f32} {x4 : Vec Ideal S2x4x128x128 .f32} {x5 : Vec Ideal S256x512 .f32} {T : ℕ}

theorem half_at (hP : PairAt D x0 x1 x2 x3 x4 x5 T) {b : ℕ} (hb : b < 2) {r : ℕ → Vec Ideal S1x128x128 .f32}
    (hr : ∀ h < 4, ∀ e d : Fin 128, r h (ix3 0 e d) = ((D.Z (T + 128 * b + 128) (128 * h + d) (128 * h + e) : ℝ) : EReal)) :
    SubAt D (half b x0 x1 x2 x3 x4 x5 r) (T + 128 * b) where
  hn := by have := hP.hn; omega
  heps := hP.heps
  hpos := hP.hpos
  x := by
    intro i c
    pointwise [half]
    refine (hP.x _ c).trans ?_
    simp [Nat.mod_eq_of_lt hb, Nat.add_assoc]
  l := hP.l
  w := hP.w
  dy := by
    intro i c
    pointwise [half]
    refine (hP.dy _ c).trans ?_
    simp [Nat.mod_eq_of_lt hb, Nat.add_assoc]
  o := by
    intro i c
    pointwise [half]
    refine (hP.o _ c).trans ?_
    simp [Nat.mod_eq_of_lt hb, Nat.add_assoc]
  s := by
    intro h hh e d
    pointwise [half]
    refine (hP.s _ _ e d).trans ?_
    simp [Nat.mod_eq_of_lt hb, Nat.mod_eq_of_lt hh]
  r := by
    intro h hh e d
    pointwise [half]
    exact hr h hh e d

theorem hi_at (hP : PairAt D x0 x1 x2 x3 x4 x5 T) {sc : Vec Ideal S4x128x128 .f32} (hs : Carry D sc (T + 256)) :
    SubAt D (hi x0 x1 x2 x3 x4 x5 sc) (T + 128) := by
  refine half_at hP (b := 1) (by decide) fun h hh e d => ?_
  pointwise
  refine (hs _ e d).trans ?_
  simp [Nat.mod_eq_of_lt hh]

theorem lo_at (hP : PairAt D x0 x1 x2 x3 x4 x5 T) {sc : Vec Ideal S4x128x128 .f32} (hs : Carry D sc (T + 256)) :
    SubAt D (lo x0 x1 x2 x3 x4 x5 sc) T := by
  refine half_at hP (b := 0) (by decide) fun h hh e d => ?_
  show (hi x0 x1 x2 x3 x4 x5 sc).rOut (h % 4) (ix3 0 e d) = _
  rw [Nat.mod_eq_of_lt hh, (hi_at hP hs).rOut hh]

variable {acc : Vec Ideal S8x512 .f32} {sc : Vec Ideal S4x128x128 .f32} {o : Vec Ideal S256x2048 .bf16} {a : Vec Ideal S8x512 .f32}
    {s : Vec Ideal S4x128x128 .f32}

theorem emb_x (b : ℕ) (hb : b < 2) (i : Fin 128) (c : Fin 2048) : (rX b).emb (ix2 i c) = ix2 (⟨128 * b + i, by omega⟩ : Fin 256) c := by
  funext k
  apply Fin.ext
  refine (Rect.idx_unit_val _ _ _ _ k).trans ?_
  fin_cases k <;> simp [Nat.mod_eq_of_lt hb]

theorem emb_r (h : Fin 4) (e d : Fin 128) : (rR h).emb (ix3 0 e d) = ix3 h e d := by
  funext k
  apply Fin.ext
  refine (Rect.idx_unit_val _ _ _ _ k).trans ?_
  fin_cases k <;> simp [Nat.mod_eq_of_lt h.2]

theorem emb_a (b : ℕ) (hb : b < 2) (c : Fin 512) : (rA b).emb (ix2 0 c) = ix2 (⟨b, by omega⟩ : Fin 8) c := by
  funext k
  apply Fin.ext
  refine (Rect.idx_unit_val _ _ _ _ k).trans ?_
  fin_cases k <;> simp [Nat.mod_eq_of_lt hb]

theorem pair_out (hP : PairAt D x0 x1 x2 x3 x4 x5 T) (hs : Carry D sc (T + 256)) (hL : Left x0 x1 x2 x3 x4 x5 acc sc o a s) :
    Lf (a := 256) (b := 2048) o fun i c => D.out (T + i) c := by
  intro i c
  by_cases hi : (i : ℕ) < 128
  · have e := hL.out0 (ix2 ⟨i, hi⟩ c)
    rw [emb_x 0 (by decide)] at e
    simp only [Nat.mul_zero, Nat.zero_add] at e
    exact e.trans ((lo_at hP hs).out _ _)
  · have e := hL.out1 (ix2 ⟨i - 128, by omega⟩ c)
    rw [emb_x 1 (by decide)] at e
    simp only [Nat.mul_one, show 128 + ((i : ℕ) - 128) = i by omega] at e
    refine e.trans (((hi_at hP hs).out _ _).trans ?_)
    simp only [show T + 128 + ((i : ℕ) - 128) = T + i by omega]

theorem pair_carry (hP : PairAt D x0 x1 x2 x3 x4 x5 T) (hs : Carry D sc (T + 256)) (hL : Left x0 x1 x2 x3 x4 x5 acc sc o a s) :
    Carry D s T := by
  intro h e d
  have e1 := hL.scr h h.2 (ix3 0 e d)
  rw [emb_r] at e1
  exact e1.trans ((lo_at hP hs).rOut h.2 e d)

theorem sum_two (f : ℕ → ℝ) (T M : ℕ) :
    ((∑ k ∈ Finset.range M, f (T + 256 + k)) + ∑ k ∈ Finset.range 128, f (T + 128 + k)) + ∑ k ∈ Finset.range 128, f (T + k)
      = ∑ k ∈ Finset.range (M + 256), f (T + k) := by
  rw [Nat.add_comm M 256, show 256 + M = 128 + (128 + M) by omega, Finset.sum_range_add, Finset.sum_range_add]
  simp only [← Nat.add_assoc]
  ring

theorem pair_acc {M : ℕ} (hP : PairAt D x0 x1 x2 x3 x4 x5 T) (hs : Carry D sc (T + 256)) (ha : Acc D acc (T + 256) M)
    (hL : Left x0 x1 x2 x3 x4 x5 acc sc o a s) : Acc D a T (M + 256) where
  r0 := by
    intro c
    have h0 : Lf (a := 1) (b := 512) (View.ld (Val := Elt Ideal) (e' := .f32) acc (rA 0)) fun _ c => ∑ k ∈ Finset.range M, D.p0 (T + 256 + k) c := by
      intro i c
      obtain rfl : i = 0 := Subsingleton.elim _ _
      exact (congrArg acc (emb_a 0 (by decide) c)).trans (ha.r0 c)
    have e := hL.acc0 (ix2 0 c)
    rw [emb_a 0 (by decide)] at e
    refine e.trans (((lo_at hP hs).a0 ((hi_at hP hs).a0 h0) 0 c).trans ?_)
    exact congrArg _ (sum_two (fun k => D.p0 k c) T M)
  r1 := by
    intro c
    have h0 : Lf (a := 1) (b := 512) (View.ld (Val := Elt Ideal) (e' := .f32) acc (rA 1)) fun _ c => ∑ k ∈ Finset.range M, D.p1 (T + 256 + k) c := by
      intro i c
      obtain rfl : i = 0 := Subsingleton.elim _ _
      exact (congrArg acc (emb_a 1 (by decide) c)).trans (ha.r1 c)
    have e := hL.acc1 (ix2 0 c)
    rw [emb_a 1 (by decide)] at e
    refine e.trans (((lo_at hP hs).a1 ((hi_at hP hs).a1 h0) 0 c).trans ?_)
    exact congrArg _ (sum_two (fun k => D.p1 k c) T M)
  rest := fun i c hi => (hL.rest _ hi).trans (ha.rest i c hi)

/-- Nothing is carried into the last rows. -/
theorem carry_zero (D : In) {R : ℕ} (hR : D.n ≤ R) : Carry D (k0_pay3 (F := Ideal)) R := by
  intro h e d
  pointwise [k0_pay3]
  rw [In.Z, Finset.sum_eq_zero, EReal.coe_zero]
  intro t ht
  rw [if_neg (by have := Finset.mem_range.1 ht; omega)]

theorem acc_zero (D : In) (T : ℕ) : Acc D (k0_pay4 (F := Ideal)) T 0 where
  r0 := by intro c; pointwise [k0_pay4]; simp
  r1 := by intro c; pointwise [k0_pay4]; simp
  rest := by intro i c _; pointwise [k0_pay4]

end Cert.Mirror
-- ==== Proof.Grid.lean ====
/- The whole grid over the reals: what the two outputs hold after the last point. -/
module

public import proofs.«01_k».proof.Proof.Pair
public import proofs.«01_k».proof.Proof.Gen.KernelIdeal.Value

@[expose] public section

set_option maxRecDepth 16384

noncomputable section

namespace Cert.Mirror

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ) (c : Dev nD)

/-- What the arrays hold when the call starts. -/
structure Entry (D : In) : Prop where
  hn : D.n = 8192
  heps : Ideal.ofBits .f32 0x358637BD#32 = ((D.eps : ℝ) : EReal)
  hpos : 0 < D.eps
  x : Lf (a := 8192) (b := 2048) (V m c main_arg0) D.x
  l : Lf (a := 2) (b := 512) (V m c main_arg1) D.l
  w : Lf (a := 1) (b := 512) (V m c main_arg2) fun _ c => D.w c
  o : Lf (a := 8192) (b := 512) (V m c main_v61) D.o
  s : ∀ (b : Fin 64) (h : Fin 4) (e d : Fin 128), V m c main_v88 (ix4 b h e d) = ((D.S (128 * b) (128 * h + d) (128 * h + e) : ℝ) : EReal)
  dy : Lf (a := 8192) (b := 512) (V m c main_arg3) D.dy

/-- The blocks of every window at a point. -/
theorem idx : ∀ t : Fin cfg0.N,
    win0_0.index t = ![31 - t.val, 0] ∧ win0_1.index t = ![0, 0] ∧ win0_2.index t = ![0, 0] ∧ win0_3.index t = ![31 - t.val, 0]
    ∧ win0_4.index t = ![31 - t.val, 0, 0, 0] ∧ win0_5.index t = ![31 - t.val, 0] ∧ win0_6.index t = ![31 - t.val, 0] ∧ win0_7.index t = ![0, 0] :=
  (by decide +kernel : ∀ t : Fin grid0.N,
    win0_0.index t = ![31 - t.val, 0] ∧ win0_1.index t = ![0, 0] ∧ win0_2.index t = ![0, 0] ∧ win0_3.index t = ![31 - t.val, 0]
    ∧ win0_4.index t = ![31 - t.val, 0, 0, 0] ∧ win0_5.index t = ![31 - t.val, 0] ∧ win0_6.index t = ![31 - t.val, 0] ∧ win0_7.index t = ![0, 0])

theorem lt32 (t : Fin cfg0.N) : t.val < 32 := Nat.lt_of_lt_of_eq t.isLt N_0

theorem read0 (t : Fin cfg0.N) (i : Fin 256) (j : Fin 2048) (h : 256 * (31 - t.val) + i < 8192) :
    iblk m c 0 t (ix2 i j) = V m c main_arg0 (ix2 (⟨256 * (31 - t.val) + i, h⟩ : Fin 8192) j) := by
  blk_ext [iblk, idx t]

theorem read1 (t : Fin cfg0.N) (i : Fin 2) (j : Fin 512) : iblk m c 1 t (ix2 i j) = V m c main_arg1 (ix2 i j) := by
  blk_ext [iblk, idx t]

theorem read2 (t : Fin cfg0.N) (i : Fin 1) (j : Fin 512) : iblk m c 2 t (ix2 i j) = V m c main_arg2 (ix2 i j) := by
  blk_ext [iblk, idx t]

theorem read3 (t : Fin cfg0.N) (i : Fin 256) (j : Fin 512) (h : 256 * (31 - t.val) + i < 8192) :
    iblk m c 3 t (ix2 i j) = V m c main_v61 (ix2 (⟨256 * (31 - t.val) + i, h⟩ : Fin 8192) j) := by
  blk_ext [iblk, idx t]

set_option maxHeartbeats 2000000 in
theorem read4 (t : Fin cfg0.N) (b : Fin 2) (k : Fin 4) (e d : Fin 128) (h : 2 * (31 - t.val) + b < 64) :
    iblk m c 4 t (ix4 b k e d) = V m c main_v88 (ix4 (⟨2 * (31 - t.val) + b, h⟩ : Fin 64) k e d) := by
  blk_ext [iblk, idx t]

theorem read5 (t : Fin cfg0.N) (i : Fin 256) (j : Fin 512) (h : 256 * (31 - t.val) + i < 8192) :
    iblk m c 5 t (ix2 i j) = V m c main_arg3 (ix2 (⟨256 * (31 - t.val) + i, h⟩ : Fin 8192) j) := by
  blk_ext [iblk, idx t]

variable {m c} {D : In}

theorem pair_at (hE : Entry m c D) (t : Fin cfg0.N) :
    PairAt D (iblk m c 0 t) (iblk m c 1 t) (iblk m c 2 t) (iblk m c 3 t) (iblk m c 4 t) (iblk m c 5 t) (256 * (31 - t.val)) where
  hn := by rw [hE.hn]; omega
  heps := hE.heps
  hpos := hE.hpos
  x := fun i j => (read0 m c t i j (by omega)).trans (hE.x _ j)
  l := fun i j => (read1 m c t i j).trans (hE.l i j)
  w := fun i j => (read2 m c t i j).trans (hE.w i j)
  o := fun i j => (read3 m c t i j (by omega)).trans (hE.o _ j)
  s := fun b h e d => (read4 m c t b h e d (by omega)).trans ((hE.s _ h e d).trans (by
    simp only [show 128 * (2 * (31 - t.val) + (b : ℕ)) = 256 * (31 - t.val) + 128 * b by omega]))
  dy := fun i j => (read5 m c t i j (by omega)).trans (hE.dy _ j)

/-- What the buffers hold after point `n`. -/
structure After (D : In) (n : ℕ) (p : Vec Ideal S256x2048 .bf16 × Vec Ideal S8x512 .f32 × Vec Ideal S4x128x128 .f32) : Prop where
  out : Lf (a := 256) (b := 2048) p.1 fun i c => D.out (256 * (31 - n) + i) c
  acc : Acc D p.2.1 (256 * (31 - n)) (256 * (n + 1))
  carry : Carry D p.2.2 (256 * (31 - n))

theorem after_step (hE : Entry m c D) (t : Fin cfg0.N) {acc : Vec Ideal S8x512 .f32} {sc : Vec Ideal S4x128x128 .f32}
    {o : Vec Ideal S256x2048 .bf16} {a : Vec Ideal S8x512 .f32} {s : Vec Ideal S4x128x128 .f32}
    (hs : Carry D sc (256 * (31 - t.val) + 256)) (ha : Acc D acc (256 * (31 - t.val) + 256) (256 * t.val))
    (hL : Left (iblk m c 0 t) (iblk m c 1 t) (iblk m c 2 t) (iblk m c 3 t) (iblk m c 4 t) (iblk m c 5 t) acc sc o a s) :
    After D t.val (o, a, s) where
  out := pair_out (pair_at hE t) hs hL
  acc := pair_acc (pair_at hE t) hs ha hL
  carry := pair_carry (pair_at hE t) hs hL

theorem after_all (hE : Entry m c D) : ∀ (n : ℕ) (hn : n < cfg0.N), After D n (outsAt0 m c n hn)
  | 0, hn => by
    have e := outsAt0_A m c ⟨0, hn⟩ rfl
    refine e ▸ after_step hE ⟨0, hn⟩ (carry_zero D (by rw [hE.hn]; simp)) (acc_zero D _) (left_A ..)
  | n + 1, hn => by
    have ih := after_all hE n (Nat.lt_of_succ_lt hn)
    have ht := lt32 ⟨n + 1, hn⟩
    have ht : n + 1 < 32 := ht
    have h0 : ¬(⟨n + 1, hn⟩ : Fin cfg0.N).val % 32 = 0 := by show ¬(n + 1) % 32 = 0; omega
    have e := outsAt0_B m c ⟨n + 1, hn⟩ h0
    have hT : 256 * (31 - (n + 1)) + 256 = 256 * (31 - n) := by omega
    refine e ▸ after_step hE ⟨n + 1, hn⟩ (hT ▸ ih.carry) (hT ▸ ih.acc) (left_B ..)

/-- The rows' gradients, in the whole array. -/
theorem final6 (hE : Entry m c D) : Lf (a := 8192) (b := 2048) ((dats m 0 c).arrAt 6 cfg0.N) D.out := by
  intro i j
  have ht : 31 - (i : ℕ) / 256 < cfg0.N := Nat.lt_of_lt_of_eq (by omega : _ < 32) N_0.symm
  have e := Value.blocks6 m c ⟨_, ht⟩ (flush0_6 _)
  rw [Value.flushed6] at e
  have e1 := congrFun e (ix2 (⟨(i : ℕ) % 256, Nat.mod_lt _ (by decide)⟩ : Fin 256) j)
  have e2 := (after_all hE _ ht).out ⟨(i : ℕ) % 256, Nat.mod_lt _ (by decide)⟩ j
  simp only [show 256 * (31 - (31 - (i : ℕ) / 256)) + (i : ℕ) % 256 = i by omega] at e2
  refine Eq.trans (b := ((cfg0.win 6).blk ⟨_, ht⟩).view.read (Elt Ideal) ((dats m 0 c).arrAt 6 cfg0.N) (ix2 (⟨(i : ℕ) % 256, Nat.mod_lt _ (by decide)⟩ : Fin 256) j)) ?_
    (e1.trans (Eq.trans ?_ e2))
  · have h6 := (idx ⟨_, ht⟩).2.2.2.2.2.2.1
    blk_ext [h6]
  · blk_ext []

theorem arr7 (t : Fin cfg0.N) (hw : (cfg0.win 7).WholeAt t) :
    (dats m 0 c).arrAt 7 cfg0.N = (outsAt0 m c t.val t.isLt).2.1 := by
  refine (dats m 0 c).arrAt_eq_of_after_last 7 t hw _ fun j => ?_
  rw [after0_7]
  generalize (outsAt0 m c t.val t.isLt).2.1 = g
  refine (cast_eq _ _).trans (congrArg g ?_)
  blk_ext []

theorem whole7 : ∀ t : Fin cfg0.N, t.val = 31 → (cfg0.win 7).WholeAt t :=
  (by decide +kernel : ∀ t : Fin grid0.N, t.val = 31 → win0_7.WholeAt t)

/-- The two summed rows, in the whole array. -/
theorem final7 (hE : Entry m c D) : Acc D ((dats m 0 c).arrAt 7 cfg0.N) 0 8192 := by
  obtain ⟨t, ht⟩ : ∃ t : Fin cfg0.N, t.val = 31 := ⟨⟨31, Nat.lt_of_lt_of_eq (by decide : 31 < 32) N_0.symm⟩, rfl⟩
  have h := (after_all hE t.val t.isLt).acc
  rw [← arr7 t (whole7 t ht), ht] at h
  exact h

end Cert.Mirror
-- ==== Proof.Cum.lean ====
/- The running sums over the rows of a matrix, forwards and backwards, as the host writes them. -/
module

public import proofs.«01_k».proof.Proof.Lift
public import Idealize.ShloMosaic.Lib.Routing.OpsOne

@[expose] public section

set_option maxRecDepth 16384

noncomputable section

namespace Cert.Mirror

open Idealize.ShloMosaic Idealize.SL.Sem

theorem foldl_add_sum {N : ℕ} (g : Fin N → EReal) (v : EReal) :
    (List.finRange N).foldl (fun r n => r + g n) v = v + ∑ n, g n := by
  rw [Fin.sum_univ_def]
  generalize List.finRange N = l
  induction l generalizing v with
  | nil => simp
  | cons a l ih => rw [List.foldl_cons, ih, List.map_cons, List.sum_cons, add_assoc]

/-- A sum over all rows, of those in a window whose place `n` stands for row `j + n - lo`. -/
theorem window_rows {R C lo hi : ℕ} {φ : FTy} (x : FVec Ideal ⟨2, ![R, C]⟩ φ) (r : ℕ → ℕ → ℝ) (hx : Lf x r)
    {u : Shape} (init : u.Idx → Ideal φ) (hinit : ∀ i, init i = 0)
    (h : (⟨2, ![R, C]⟩ : Shape).ReduceWindows (![R, 1] : Fin 2 → Nat) ![1, 1] ![lo, 0] ![hi, 0] ⟨2, ![R, C]⟩) (hu : 0 < u.numel)
    (j : Fin R) (c : Fin C) :
    Host.reduceWindowAdd ![R, 1] ![1, 1] ![lo, 0] ![hi, 0] x init h hu (ix2 j c) =
      ((∑ n ∈ Finset.range R, (if lo ≤ j + n ∧ j + n - lo < R then r (j + n - lo) c else 0) : ℝ) : EReal) := by
  have hc := c.isLt
  unfold Host.reduceWindowAdd
  rw [Ideal.hostReduceWindowAdd_def]
  unfold Ideal.hostReduceWindowAdd Host.reduceWindow
  simp only [hinit]
  refine (foldl_add_sum _ _).trans ?_
  rw [zero_add, ← coe_sum]
  refine Fintype.sum_equiv (finCongr (Routing.numel_col R)) _ _ fun n => ?_
  have hw0 : ((⟨2, ![R, 1]⟩ : Shape).rowMajor.symm n 0).val = n.val := by
    have := Routing.symm_col (R := R) n
    exact (congrArg (fun i : (⟨2, ![R, 1]⟩ : Shape).Idx => (i 0).val) this).trans rfl
  have hw1 : ((⟨2, ![R, 1]⟩ : Shape).rowMajor.symm n 1).val = 0 := by
    have := Routing.symm_col (R := R) n
    exact (congrArg (fun i : (⟨2, ![R, 1]⟩ : Shape).Idx => (i 1).val) this).trans rfl
  have hn : n.val < R := lt_of_lt_of_eq n.isLt (Routing.numel_col R)
  have en : ((finCongr (Routing.numel_col R) n : Fin R) : ℕ) = n.val := rfl
  rw [en]
  split
  · next hin =>
    have h0 := hin 0
    change lo ≤ j.val * 1 + ((⟨2, ![R, 1]⟩ : Shape).rowMajor.symm n 0).val
      ∧ j.val * 1 + ((⟨2, ![R, 1]⟩ : Shape).rowMajor.symm n 0).val - lo < R at h0
    rw [hw0, Nat.mul_one] at h0
    rw [if_pos h0]
    refine (congrArg x (funext fun a => Fin.ext ?_)).trans (hx ⟨j.val + n.val - lo, h0.2⟩ c)
    match a with
    | ⟨0, _⟩ =>
      show j.val * 1 + ((⟨2, ![R, 1]⟩ : Shape).rowMajor.symm n 0).val - lo = j.val + n.val - lo
      rw [hw0, Nat.mul_one]
    | ⟨1, _⟩ =>
      show c.val * 1 + ((⟨2, ![R, 1]⟩ : Shape).rowMajor.symm n 1).val - 0 = c.val
      rw [hw1]
      omega
  · next hin =>
    rw [if_neg, EReal.coe_zero]
    intro h0
    refine hin fun a => ?_
    match a with
    | ⟨0, _⟩ =>
      show lo ≤ j.val * 1 + ((⟨2, ![R, 1]⟩ : Shape).rowMajor.symm n 0).val
        ∧ j.val * 1 + ((⟨2, ![R, 1]⟩ : Shape).rowMajor.symm n 0).val - lo < R
      rw [hw0, Nat.mul_one]
      exact h0
    | ⟨1, _⟩ =>
      show 0 ≤ c.val * 1 + ((⟨2, ![R, 1]⟩ : Shape).rowMajor.symm n 1).val ∧ c.val * 1 + ((⟨2, ![R, 1]⟩ : Shape).rowMajor.symm n 1).val - 0 < C
      rw [hw1]
      omega

/-- Padded below: the sum of the rows up to this one. -/
theorem cum_rows {R C lo : ℕ} {φ : FTy} (hR : lo + 1 = R) (x : FVec Ideal ⟨2, ![R, C]⟩ φ) (r : ℕ → ℕ → ℝ) (hx : Lf x r)
    {u : Shape} (init : u.Idx → Ideal φ) (hinit : ∀ i, init i = 0)
    (h : (⟨2, ![R, C]⟩ : Shape).ReduceWindows (![R, 1] : Fin 2 → Nat) ![1, 1] ![lo, 0] ![0, 0] ⟨2, ![R, C]⟩) (hu : 0 < u.numel) :
    Lf (Host.reduceWindowAdd ![R, 1] ![1, 1] ![lo, 0] ![0, 0] x init h hu) (fun i j => ∑ s ∈ Finset.range (i + 1), r s j) := by
  intro j c
  rw [window_rows x r hx init hinit h hu j c]
  refine congrArg Real.toEReal ?_
  have hj := j.isLt
  have e : ∀ n ∈ Finset.range R, (if lo ≤ (j : ℕ) + n ∧ (j : ℕ) + n - lo < R then r (j + n - lo) c else 0) =
      if lo - (j : ℕ) ≤ n then r (n - (lo - j)) c else 0 := fun n hn => by
    rw [Finset.mem_range] at hn
    by_cases q : lo ≤ (j : ℕ) + n
    · rw [if_pos (by omega), if_pos (by omega)]; congr 1; omega
    · rw [if_neg (by omega), if_neg (by omega)]
  rw [Finset.sum_congr rfl e, ← Finset.sum_filter]
  refine Finset.sum_bij' (fun n _ => n - (lo - j)) (fun s _ => s + (lo - j)) ?_ ?_ ?_ ?_ ?_ <;>
    intro a ha <;> simp only [Finset.mem_filter, Finset.mem_range] at * <;> omega

/-- Padded above: the sum of the rows from this one on. -/
theorem cum_rows_back {R C hi : ℕ} {φ : FTy} (x : FVec Ideal ⟨2, ![R, C]⟩ φ) (r : ℕ → ℕ → ℝ) (hx : Lf x r)
    {u : Shape} (init : u.Idx → Ideal φ) (hinit : ∀ i, init i = 0)
    (h : (⟨2, ![R, C]⟩ : Shape).ReduceWindows (![R, 1] : Fin 2 → Nat) ![1, 1] ![0, 0] ![hi, 0] ⟨2, ![R, C]⟩) (hu : 0 < u.numel) :
    Lf (Host.reduceWindowAdd ![R, 1] ![1, 1] ![0, 0] ![hi, 0] x init h hu) (fun i j => ∑ s ∈ Finset.range R, if i ≤ s then r s j else 0) := by
  intro j c
  rw [window_rows x r hx init hinit h hu j c]
  refine congrArg Real.toEReal ?_
  have hj := j.isLt
  show _ = ∑ s ∈ Finset.range R, if (j : ℕ) ≤ s then r s c else 0
  rw [← Finset.sum_filter, ← Finset.sum_filter]
  refine Finset.sum_bij' (fun n _ => n + j) (fun s _ => s - j) ?_ ?_ ?_ ?_ ?_ <;>
    intro a ha <;> simp only [Finset.mem_filter, Finset.mem_range] at * <;> first | omega | (congr 1; omega)

end Cert.Mirror

end

end
-- ==== Proof.RefA.lean ====
/- The reference's forward values over the reals: the gates, the query, key and value. -/
module

public import proofs.«01_k».proof.Proof.Cum
public import proofs.«01_k».proof.Proof.Real
public import proofs.«01_k».proof.Proof.Gen.ReferenceIdeal.Read

@[expose] public section

set_option maxRecDepth 16384

noncomputable section

namespace Cert.Mirror

open Idealize.ShloMosaic Idealize.SL.Sem
open Cert.ReferenceIdeal Cert.ReferenceIdeal.Gen Cert.ReferenceIdeal.Read

/-- The four arguments hold the reals of `D`. -/
structure Args (x0 : FVec Ideal S8192x2048 .f32) (x1 : FVec Ideal S2x512 .f32) (x2 : FVec Ideal S1x512 .f32) (x3 : FVec Ideal S8192x512 .f32)
    (D : In) : Prop where
  hn : D.n = 8192
  heps : Ideal.ofBits .f32 0x358637BD#32 = ((D.eps : ℝ) : EReal)
  hpos : 0 < D.eps
  x : Lf (a := 8192) (b := 2048) x0 D.x
  l : Lf (a := 2) (b := 512) x1 D.l
  w : Lf (a := 1) (b := 512) x2 fun _ c => D.w c
  dy : Lf (a := 8192) (b := 512) x3 D.dy

variable {x0 : FVec Ideal S8192x2048 .f32} {x1 : FVec Ideal S2x512 .f32} {x2 : FVec Ideal S1x512 .f32} {x3 : FVec Ideal S8192x512 .f32}
  {D : In} (H : Args x0 x1 x2 x3 D)

theorem ofBits_ninf : Ideal.ofBits .f32 0xFF800000#32 = (⊥ : EReal) := by
  simp [Ideal.ofBits, Ideal.ieee]

include H

theorem r_v4 (c : Fin 512) : val_main_v4 (F := Ideal) x1 (ix1 c) = ((max (D.l 0 c) (D.l 1 c) : ℝ) : EReal) := by
  pointwise [val_main_v4, val_main_cst]
  simp only [ofBits_ninf, Fin.univ_succ]
  simp [H.l 0 c, H.l 1 c]
  exact (EReal.coe_strictMono.monotone.map_max).symm

theorem r_v10 (i : Fin 2) (c : Fin 512) : val_main_v10 (F := Ideal) x1 (ix2 i c) = ((Real.exp (D.l i c - max (D.l 0 c) (D.l 1 c)) : ℝ) : EReal) := by
  pointwise [val_main_v10, val_main_v9, val_main_v8, val_main_v7, val_main_v6, val_main_v5, val_main_cst_0, ofBits_ninf]
  rw [r_v4 H c, H.l i c]
  simp [← EReal.coe_sub]

theorem r_v14 : Lf (val_main_v14 (F := Ideal) x1) fun i c => Real.exp (D.l i c - max (D.l 0 c) (D.l 1 c)) /
    (Real.exp (D.l 0 c - max (D.l 0 c) (D.l 1 c)) + Real.exp (D.l 1 c - max (D.l 0 c) (D.l 1 c))) := by
  intro i c
  pointwise [val_main_v14, val_main_v13, val_main_v12, val_main_v11, val_main_cst_1]
  simp only [Fin.sum_univ_two, r_v10 H, ← EReal.coe_add]
  rw [div_real _ _ (by positivity)]
  rfl

theorem r_v17 (c : Fin 512) : val_main_v17 (F := Ideal) x1 (ix1 c) = ((D.lb c : ℝ) : EReal) := by
  have h := cum_rows (φ := .f32) (lo := 1) rfl _ _ (r_v14 H) (val_main_call0_call0_v0 (F := Ideal)) (fun i => by pointwise [val_main_call0_call0_v0, val_main_call0_call0_cst])
    reduceWindows_S2x512_S2x512_w2s1p1_0_w1s1p0_0 h_S_ 0 c
  pointwise [val_main_v17, val_main_v16]
  refine h.trans ?_
  simp [In.lb]

theorem r_v18 (c : Fin 512) : val_main_v18 (F := Ideal) x2 (ix1 c) = ((D.w c : ℝ) : EReal) := by
  pointwise [val_main_v18]; exact H.w _ _

theorem r_v0 : Lf (val_main_v0 (F := Ideal) x0) fun t c => D.x t c := by
  intro i j; pointwise [val_main_v0]; exact H.x _ _
theorem r_v1 : Lf (val_main_v1 (F := Ideal) x0) fun t c => D.x t (512 + c) := by
  intro i j; pointwise [val_main_v1]; exact H.x _ _
theorem r_v2 : Lf (val_main_v2 (F := Ideal) x0) D.v := by
  intro i j; pointwise [val_main_v2]; exact H.x _ _
theorem r_v3 : Lf (val_main_v3 (F := Ideal) x0) D.g := by
  intro i j; pointwise [val_main_v3]; exact H.x _ _

omit H in
theorem sg_real (a : ℝ) : Ideal.div (1 : EReal) (1 + Ideal.exp (-(a : EReal))) = ((sg a : ℝ) : EReal) := by
  rw [← EReal.coe_neg, Ideal.exp_coe, ← EReal.coe_one, ← EReal.coe_add, div_real _ _ (by positivity)]
  unfold sg; rw [zero_sub]

theorem r_v26 : Lf (val_main_v26 (F := Ideal) x0) fun t c => sg (D.x t (512 + c)) := by
  intro i j
  pointwise [val_main_v26, val_main_v25, val_main_v24, val_main_v23, val_main_v22, val_main_v21, val_main_cst_3, val_main_cst_4]
  rw [r_v1 H i j, sg_real]
theorem r_v36_2 : Lf (val_main_v36_2 (F := Ideal) x0) fun t c => sg (D.x t c) := by
  intro i j
  pointwise [val_main_v36_2, val_main_call1_v4, val_main_call1_v3, val_main_call1_v2, val_main_call1_v1, val_main_call1_v0, val_main_call1_cst, val_main_call1_cst_0]
  rw [r_v0 H i j, sg_real]
theorem r_v82_2 : Lf (val_main_v82_2 (F := Ideal) x0) fun t c => sg (D.g t c) := by
  intro i j
  pointwise [val_main_v82_2, val_main_call4_v4, val_main_call4_v3, val_main_call4_v2, val_main_call4_v1, val_main_call4_v0, val_main_call4_cst, val_main_call4_cst_0]
  rw [r_v3 H i j, sg_real]
theorem r_v36_1 : Lf (val_main_v36_1 (F := Ideal) x0) fun t c => sg (D.x t c) * (1 - sg (D.x t c)) := by
  intro i j
  pointwise [val_main_v36_1, val_main_call1_v7, val_main_call1_v6, val_main_call1_cst_1]
  rw [r_v36_2 H i j, EReal.coe_mul, EReal.coe_sub, EReal.coe_one]
theorem r_v82_1 : Lf (val_main_v82_1 (F := Ideal) x0) fun t c => sg (D.g t c) * (1 - sg (D.g t c)) := by
  intro i j
  pointwise [val_main_v82_1, val_main_call4_v7, val_main_call4_v6, val_main_call4_cst_1]
  rw [r_v82_2 H i j, EReal.coe_mul, EReal.coe_sub, EReal.coe_one]
theorem r_v36_0 : Lf (val_main_v36_0 (F := Ideal) x0) D.q := by
  intro i j
  pointwise [val_main_v36_0]
  rw [r_v36_2 H i j, r_v0 H i j, ← EReal.coe_mul]; rfl
theorem r_v82_0 : Lf (val_main_v82_0 (F := Ideal) x0) fun t c => D.g t c * sg (D.g t c) := by
  intro i j
  pointwise [val_main_v82_0]
  rw [r_v82_2 H i j, r_v3 H i j, ← EReal.coe_mul]
theorem r_v29 : Lf (val_main_v29 (F := Ideal) x0) fun t c => sg (D.x t (512 + c)) * (1 - sg (D.x t (512 + c))) := by
  intro i j
  pointwise [val_main_v29, val_main_v28, val_main_v27, val_main_cst_5]
  rw [r_v26 H i j, EReal.coe_mul, EReal.coe_sub, EReal.coe_one]
theorem r_v20 (c : Fin 512) : val_main_v20 (F := Ideal) x1 (ix1 c) = ((1 - D.lb c : ℝ) : EReal) := by
  pointwise [val_main_v20, val_main_v19, val_main_cst_2]
  rw [r_v17 H, EReal.coe_sub, EReal.coe_one]
theorem r_v35 : Lf (val_main_v35 (F := Ideal) x0 x1) D.f := by
  intro i j
  pointwise [val_main_v35, val_main_v34, val_main_v33, val_main_v32, val_main_v31, val_main_v30]
  rw [r_v17 H, r_v20 H, r_v26 H i j, ← EReal.coe_mul, ← EReal.coe_add]; rfl
theorem r_v38 : Lf (val_main_v38 (F := Ideal) x0 x1) D.k := by
  intro i j
  pointwise [val_main_v38, val_main_v37, val_main_cst_6]
  rw [r_v35 H i j, ← EReal.coe_one, ← EReal.coe_sub]; rfl
theorem r_v39 : Lf (val_main_v39 (F := Ideal) x0 x1) fun t c => Real.log (D.f t c) := by
  intro i j
  pointwise [val_main_v39]
  rw [r_v35 H i j, Ideal.log_coe, if_neg (not_le.2 (D.f_pos _ _))]
theorem r_v40 : Lf (val_main_v40 (F := Ideal) x0 x1) fun t c => D.C (t + 1) c :=
  cum_rows (φ := .f32) (lo := 8191) rfl _ _ (r_v39 H) (val_main_call2_call0_v0 (F := Ideal)) (fun i => by pointwise [val_main_call2_call0_v0, val_main_call2_call0_cst])
    reduceWindows_S8192x512_S8192x512_w8192s1p8191_0_w1s1p0_0 h_S_
theorem r_v81w (i : Fin 8192) (c : Fin 512) : val_main_v80 (F := Ideal) x2 (ix2 i c) = ((D.w c : ℝ) : EReal) := by
  pointwise [val_main_v80, val_main_v79]; exact r_v18 H c

end Cert.Mirror

end

end
-- ==== Proof.RefB.lean ====
/- The reference's decay, attention weights and output over the reals. -/
module

public import proofs.«01_k».proof.Proof.RefA
public import Idealize.ShloMosaic.Lib.WordCmp

@[expose] public section

set_option maxRecDepth 16384

noncomputable section

namespace Cert.Mirror

open Idealize.ShloMosaic Idealize.SL.Sem
open Cert.ReferenceIdeal Cert.ReferenceIdeal.Gen Cert.ReferenceIdeal.Read

/-- The rank-three vector `v` has the real entries `r`, heads side by side in the columns. -/
def L3 {a : ℕ} (v : (⟨3, ![a, 4, 128]⟩ : Shape).Idx → EReal) (r : ℕ → ℕ → ℝ) : Prop :=
  ∀ (t : Fin a) (h : Fin 4) (d : Fin 128), v (ix3 t h d) = ((r t (128 * h + d) : ℝ) : EReal)

/-- The rank-four vector `v` has the real entries `r`, column by column. -/
def L4 {a b : ℕ} (v : (⟨4, ![a, b, 4, 128]⟩ : Shape).Idx → EReal) (r : ℕ → ℕ → ℕ → ℝ) : Prop :=
  ∀ (t : Fin a) (s : Fin b) (h : Fin 4) (d : Fin 128), v (ix4 t s h d) = ((r t s (128 * h + d) : ℝ) : EReal)

theorem heads {v : FVec Ideal S8192x512 .f32} {r : ℕ → ℕ → ℝ} (hv : Lf (a := 8192) (b := 512) v r) :
    L3 (shapeCast S8192x4x128 v shapeCasts_S8192x512_S8192x4x128) r := by
  intro t h d; pointwise; refine (hv _ _).trans ?_
  exact congrArg (fun n => ((r t n : ℝ) : EReal)) (by simp only; omega)

theorem flat {v : FVec Ideal S8192x4x128 .f32} {r : ℕ → ℕ → ℝ} (hv : L3 v r) :
    Lf (a := 8192) (b := 512) (shapeCast S8192x512 v shapeCasts_S8192x4x128_S8192x512) r := by
  intro t c; pointwise
  refine (hv _ _ _).trans ?_
  exact congrArg (fun n => ((r t n : ℝ) : EReal)) (Nat.div_add_mod _ _)

variable {x0 : FVec Ideal S8192x2048 .f32} {x1 : FVec Ideal S2x512 .f32} {x2 : FVec Ideal S1x512 .f32} {x3 : FVec Ideal S8192x512 .f32}
  {D : In}

theorem r_v44 (t s : Fin 8192) : val_main_v44 (F := Ideal) (ix2 t s) = if (s : ℕ) ≤ t then 1#1 else 0#1 := by
  have ht := t.isLt
  have hs := s.isLt
  pointwise [val_main_v44, val_main_v43, val_main_v42]
  rw [WordCmp.cmpi_sle_ofNat (by omega) (by omega)]
  by_cases h : (s : ℕ) ≤ t <;> simp [h]

theorem r_v51_1 (t s : Fin 8192) (h : Fin 4) (d : Fin 128) : val_main_v51_1 (F := Ideal) (ix4 t s h d) = if (s : ℕ) ≤ t then 1#1 else 0#1 := by
  pointwise [val_main_v51_1, val_main_v50]; exact r_v44 t s

theorem col_head (h : Fin 4) (d : ℕ) (hd : d < 128) : (128 * (h : ℕ) + d) / 128 = h := by omega

theorem exp_bot : Ideal.exp (⊥ : EReal) = 0 := rfl

variable (H : Args x0 x1 x2 x3 D)
include H

theorem r_v41 : L3 (val_main_v41 (F := Ideal) x0 x1) fun t c => D.C (t + 1) c := heads (r_v40 H)
theorem r_v53 : L3 (val_main_v53 (F := Ideal) x0) D.q := heads (r_v36_0 H)
theorem r_v55 : L3 (val_main_v55 (F := Ideal) x0 x1) D.k := heads (r_v38 H)
theorem r_v62 : L3 (val_main_v62 (F := Ideal) x0) D.v := heads (r_v2 H)

theorem r_v52 : L4 (val_main_v52 (F := Ideal) x0 x1) fun t s c => if s ≤ t then D.E t s c else 0 := by
  intro t s h d
  pointwise [val_main_v52, val_main_v51_0, val_main_v49, val_main_v48, val_main_v47, val_main_v46, val_main_v45, val_main_call3_v2, val_main_call3_v0, val_main_cst_7, id, ofBits_ninf]
  rw [r_v51_1, sel_if]
  rw [r_v41 H t h d, r_v41 H s h d, ← EReal.coe_sub]
  by_cases c : (s : ℕ) ≤ t
  · rw [if_pos c, if_pos c, Ideal.exp_coe]; rfl
  · rw [if_neg c, if_neg c, exp_bot, EReal.coe_zero]

theorem r_v59 : L4 (val_main_v59 (F := Ideal) x0 x1) fun t s c => D.q t c * D.k s c := by
  intro t s h d
  pointwise [val_main_v59, val_main_v58, val_main_v57, val_main_v56, val_main_v54]
  rw [r_v53 H t h d, r_v55 H s h d, ← EReal.coe_mul]

theorem r_v61 (t s : Fin 8192) (h : Fin 4) : val_main_v61 (F := Ideal) x0 x1 (ix3 t s h) = ((D.A t s h : ℝ) : EReal) := by
  pointwise [val_main_v61, val_main_v60, val_main_cst_8]
  simp only [r_v59 H t s h _, r_v52 H t s h _, ← EReal.coe_mul]
  refine (coe_sum fun d => D.q t (128 * h + d) * D.k s (128 * h + d) * if (s : ℕ) ≤ t then D.E t s (128 * h + d) else 0).trans ?_
  refine congrArg Real.toEReal ?_
  unfold In.A
  split_ifs
  · rfl
  · simp

theorem r_v64 : L3 (val_main_v64 (F := Ideal) x0 x1) D.o := by
  intro t h d
  pointwise [val_main_v64, val_main_v63]
  simp only [r_v61 H, r_v62 H _ h d, ← EReal.coe_mul]
  refine (coe_sum fun s => D.v s (128 * h + d) * D.A t s h).trans ?_
  refine congrArg Real.toEReal ?_
  unfold In.o
  rw [H.hn, col_head h d d.2]
  exact Finset.sum_congr rfl fun s _ => mul_comm _ _

end Cert.Mirror

end

end
-- ==== Proof.State.lean ====
/- The states the host hands to the call: the operations, and what they hold. -/
module

public import proofs.«01_k».proof.Proof.Cum
public import proofs.«01_k».proof.Proof.RefB
public import proofs.«01_k».proof.Proof.Gen.KernelIdeal.Value
public import Idealize.ShloMosaic.Lib.Pipeline.ValueKit

@[expose] public section

set_option maxRecDepth 16384

noncomputable section

namespace Cert.Mirror

open Idealize.ShloMosaic Idealize.ShloMosaic.TcCoe Idealize.SL.Sem
open Cert.KernelIdeal Cert.KernelIdeal.Gen

variable (lf k v : FVec Ideal S8192x512 .f32)

def stSum : FVec Ideal S8192x4x128 .f32 :=
  shapeCast S8192x4x128 (Host.reduceWindowAdd ![8192, 1] ![1, 1] ![8191, 0] ![0, 0] lf (broadcastInDim S_ ![] bcast_S_S_ (constant S_ .f32 0x00000000#32)) reduceWindows_S8192x512_S8192x512_w8192s1p8191_0_w1s1p0_0 h_S_) shapeCasts_S8192x512_S8192x4x128

def stStart : FVec Ideal S64x4x128 .f32 :=
  shapeCast S64x4x128 (extractStridedSlice S64x1x4x128 ![0, 0, 0, 0]
    (shapeCast S64x128x4x128 (subf (stSum lf)
      (shapeCast S8192x4x128 lf shapeCasts_S8192x512_S8192x4x128)) shapeCasts_S8192x4x128_S64x128x4x128)
    slices_S64x128x4x128_S64x1x4x128_0_0_0_0) shapeCasts_S64x1x4x128_S64x4x128

def stMask : IVec S64x8192 1 :=
  cmpi .slt (iotaInDim S64x8192 32 1) (muli (iotaInDim S64x8192 32 0) (broadcastInDim S64x8192 ![] bcast_S_S64x8192 (constantI S_ 32 128#32)))

def stDecay : FVec Ideal S64x8192x4x128 .f32 :=
  Host.exp (select (broadcastInDim S64x8192x4x128 ![0, 1, 2, 3] bcast_S64x8192x1x1_S64x8192x4x128_0_1_2_3 (broadcastInDim S64x8192x1x1 ![0, 1] bcast_S64x8192_S64x8192x1x1_0_1 stMask))
    (subf (broadcastInDim S64x8192x4x128 ![0, 1, 2, 3] bcast_S64x1x4x128_S64x8192x4x128_0_1_2_3 (broadcastInDim S64x1x4x128 ![0, 2, 3] bcast_S64x4x128_S64x1x4x128_0_2_3 (stStart lf)))
      (broadcastInDim S64x8192x4x128 ![0, 1, 2, 3] bcast_S1x8192x4x128_S64x8192x4x128_0_1_2_3 (broadcastInDim S1x8192x4x128 ![1, 2, 3] bcast_S8192x4x128_S1x8192x4x128_1_2_3
        (stSum lf))))
    (broadcastInDim S64x8192x4x128 ![] bcast_S_S64x8192x4x128 (constant S_ .f32 0xFF800000#32)))

def stKey : FVec Ideal S64x8192x4x128 .f32 :=
  mulf (broadcastInDim S64x8192x4x128 ![0, 1, 2, 3] bcast_S1x8192x4x128_S64x8192x4x128_0_1_2_3 (broadcastInDim S1x8192x4x128 ![1, 2, 3] bcast_S8192x4x128_S1x8192x4x128_1_2_3
        (shapeCast S8192x4x128 k shapeCasts_S8192x512_S8192x4x128))) (stDecay lf)

/-- The states before each block of rows, as the host computes them. -/
def stAll : FVec Ideal S64x4x128x128 .f32 :=
  transpose S64x4x128x128 [2, 0, 1, 3] (Host.dotGeneral dot_S8192x4x128_S64x8192x4x128_S4x128x64x128_0_1_2_03_1_2 none
    (shapeCast S8192x4x128 v shapeCasts_S8192x512_S8192x4x128) (stKey lf k)) transposes_S4x128x64x128_S64x4x128x128_2_0_1_3

set_option maxHeartbeats 4000000 in
theorem tail88 (W : Valuation τ sig (Elt Ideal)) :
    StableHlo.after (hostOps0_9 ++ hostOps0_10 ++ hostOps0_11 ++ hostOps0_12) W (Proc.devRef .tc main_v88) = stAll (W (Proc.devRef .tc main_v35)) (W (Proc.devRef .tc main_v32)) (W (Proc.devRef .tc main_v33)) := by
  simp only [hostOps0_9, hostOps0_10, hostOps0_11, hostOps0_12, List.cons_append,
      List.nil_append, Idealize.ShloMosaic.StableHlo.after_cons, Idealize.ShloMosaic.StableHlo.after_nil]
  after_results_simp
  after_results_loop
  rfl

variable {lf k v} {D : In}

theorem stSum_eq (hn : D.n = 8192) (hf : Lf (a := 8192) (b := 512) lf fun t c => Real.log (D.f t c)) : L3 (stSum lf) fun t c => D.C (t + 1) c :=
  heads (cum_rows (φ := .f32) (lo := 8191) rfl _ _ hf _ (fun i => by pointwise) reduceWindows_S8192x512_S8192x512_w8192s1p8191_0_w1s1p0_0 h_S_)

theorem stStart_eq (hn : D.n = 8192) (hf : Lf (a := 8192) (b := 512) lf fun t c => Real.log (D.f t c)) :
    L3 (stStart lf) fun b c => D.C (128 * b) c := by
  intro b h d
  have hb := b.isLt
  pointwise [stStart]
  rw [stSum_eq hn hf ⟨b * 128, by omega⟩ h d, hf ⟨b * 128, by omega⟩ ⟨h * 128 + d, by omega⟩, ← EReal.coe_sub]
  refine congrArg Real.toEReal ?_
  simp only [Nat.mul_comm _ 128]
  unfold In.C
  rw [Finset.sum_range_succ, add_sub_cancel_right]

theorem stMask_eq (b : Fin 64) (s : Fin 8192) : stMask (ix2 b s) = if (s : ℕ) < 128 * b then 1#1 else 0#1 := by
  have hb := b.isLt
  have hs := s.isLt
  pointwise [stMask]
  have e : IntOp.muli (BitVec.ofNat 32 (b : ℕ)) 128#32 = BitVec.ofNat 32 (128 * b) := by
    apply BitVec.eq_of_toNat_eq
    simp only [IntOp.muli, BitVec.toNat_mul, BitVec.toNat_ofNat]
    omega
  rw [e, WordCmp.cmpi_slt_ofNat (by omega) (by omega)]
  by_cases h : (s : ℕ) < 128 * b <;> simp [h]

theorem stDecay_eq (hn : D.n = 8192) (hf : Lf (a := 8192) (b := 512) lf fun t c => Real.log (D.f t c)) :
    L4 (stDecay lf) fun b s c => if s < 128 * b then Real.exp (D.C (128 * b) c - D.C (s + 1) c) else 0 := by
  intro b s h d
  pointwise [stDecay, ofBits_ninf]
  rw [stMask_eq, sel_if, stStart_eq hn hf b h d, stSum_eq hn hf s h d, ← EReal.coe_sub]
  by_cases c : (s : ℕ) < 128 * b
  · rw [if_pos c, if_pos c, Ideal.exp_coe]
  · rw [if_neg c, if_neg c, exp_bot, EReal.coe_zero]

theorem stAll_eq (hn : D.n = 8192) (hf : Lf (a := 8192) (b := 512) lf fun t c => Real.log (D.f t c))
    (hk : Lf (a := 8192) (b := 512) k D.k) (hv : Lf (a := 8192) (b := 512) v D.v) (b : Fin 64) (h : Fin 4) (e d : Fin 128) :
    stAll lf k v (ix4 b h e d) = ((D.S (128 * b) (128 * h + d) (128 * h + e) : ℝ) : EReal) := by
  have ed := fun s => stDecay_eq hn hf b s h d
  pointwise [stAll, stKey]
  simp only [ed, hv _ ⟨128 * h + e, by omega⟩, hk _ ⟨128 * h + d, by omega⟩, ← EReal.coe_mul, Nat.mul_comm _ 128]
  refine (coe_sum fun s => D.v s (128 * h + e) * (D.k s (128 * h + d) *
    if s < 128 * b then Real.exp (D.C (128 * b) (128 * h + d) - D.C (s + 1) (128 * h + d)) else 0)).trans ?_
  refine congrArg Real.toEReal ?_
  unfold In.S
  rw [hn]
  exact Finset.sum_congr rfl fun s _ => by split_ifs <;> ring

end Cert.Mirror

end

end
-- ==== Proof.HostK.lean ====
/- The gates, keys and values the host computes before the call: the operations of the reference. -/
module

public import proofs.«01_k».proof.Proof.State

@[expose] public section

set_option maxRecDepth 16384

noncomputable section

namespace Cert.Mirror

open Idealize.ShloMosaic Idealize.ShloMosaic.TcCoe Idealize.SL.Sem
open Cert.KernelIdeal Cert.KernelIdeal.Gen Cert.KernelIdeal.Value

variable (m : (ℓ : Loc nD τ sig) → Buf (Elt Ideal) ℓ) (c : Dev nD)

/-- The buffers after the first operations of the host. -/
abbrev V8 : Valuation τ sig (Elt Ideal) :=
  StableHlo.after (List.flatten [hostOps0, hostOps0_1, hostOps0_2, hostOps0_3, hostOps0_4, hostOps0_5, hostOps0_6, hostOps0_7, hostOps0_8]) (fun b => m (c, b))

theorem after_join (l₁ l₂ : List (HloOp τ sig (Elt Ideal))) (W : Valuation τ sig (Elt Ideal)) :
    StableHlo.after (l₁ ++ l₂) W = StableHlo.after l₂ (StableHlo.after l₁ W) := by
  induction l₁ generalizing W with
  | nil => rfl
  | cons a l ih => exact ih _

theorem V_split (b : Ref sig .tc) : V m c b = StableHlo.after (hostOps0_9 ++ hostOps0_10 ++ hostOps0_11 ++ hostOps0_12) (V8 m c) (Proc.devRef .tc b) := by
  unfold V V8
  rw [← after_join]
  simp only [List.flatten_cons, List.flatten_nil, List.append_nil, List.append_assoc]

set_option maxHeartbeats 4000000 in
theorem host_f : V8 m c (Proc.devRef .tc main_v35) = Cert.ReferenceIdeal.Read.val_main_v39 (F := Ideal) (m ((c : Thread nD τ).loc main_arg0)) (m ((c : Thread nD τ).loc main_arg1)) := by
  unfold V8
  simp only [hostOps0, hostOps0_1, hostOps0_2, hostOps0_3, hostOps0_4, hostOps0_5, hostOps0_6, hostOps0_7, hostOps0_8, List.flatten_cons, List.flatten_nil, List.append_nil, List.cons_append, List.nil_append, Idealize.ShloMosaic.StableHlo.after_cons, Idealize.ShloMosaic.StableHlo.after_nil]
  after_results_simp
  after_results_loop
  rfl

set_option maxHeartbeats 4000000 in
theorem host_k : V8 m c (Proc.devRef .tc main_v32) = Cert.ReferenceIdeal.Read.val_main_v38 (F := Ideal) (m ((c : Thread nD τ).loc main_arg0)) (m ((c : Thread nD τ).loc main_arg1)) := by
  unfold V8
  simp only [hostOps0, hostOps0_1, hostOps0_2, hostOps0_3, hostOps0_4, hostOps0_5, hostOps0_6, hostOps0_7, hostOps0_8, List.flatten_cons, List.flatten_nil, List.append_nil, List.cons_append, List.nil_append, Idealize.ShloMosaic.StableHlo.after_cons, Idealize.ShloMosaic.StableHlo.after_nil]
  after_results_simp
  after_results_loop
  rfl

set_option maxHeartbeats 4000000 in
theorem host_v : V8 m c (Proc.devRef .tc main_v33) = Cert.ReferenceIdeal.Read.val_main_v2 (F := Ideal) (m ((c : Thread nD τ).loc main_arg0)) := by
  unfold V8
  simp only [hostOps0, hostOps0_1, hostOps0_2, hostOps0_3, hostOps0_4, hostOps0_5, hostOps0_6, hostOps0_7, hostOps0_8, List.flatten_cons, List.flatten_nil, List.append_nil, List.cons_append, List.nil_append, Idealize.ShloMosaic.StableHlo.after_cons, Idealize.ShloMosaic.StableHlo.after_nil]
  after_results_simp
  after_results_loop
  rfl

theorem host_s : V m c main_v88 = stAll (V8 m c (Proc.devRef .tc main_v35)) (V8 m c (Proc.devRef .tc main_v32)) (V8 m c (Proc.devRef .tc main_v33)) :=
  (V_split m c _).trans (tail88 _)

end Cert.Mirror

end

end
-- ==== Proof.HostO.lean ====
/- The output of the recurrence, as the host computes it before the call: the operations of the reference. -/
module

public import proofs.«01_k».proof.Proof.Gen.KernelIdeal.Value
public import proofs.«01_k».proof.Proof.Gen.ReferenceIdeal.Read
public import Idealize.ShloMosaic.Lib.Pipeline.ValueKit

@[expose] public section

set_option maxRecDepth 16384

noncomputable section

namespace Cert.Mirror

open Idealize.ShloMosaic Idealize.ShloMosaic.TcCoe Idealize.SL.Sem
open Cert.KernelIdeal Cert.KernelIdeal.Gen Cert.KernelIdeal.Value

variable (m : (ℓ : Loc nD τ sig) → Buf (Elt Ideal) ℓ) (c : Dev nD)

set_option maxHeartbeats 4000000 in
theorem host_o : V m c main_v61 = shapeCast S8192x512 (Cert.ReferenceIdeal.Read.val_main_v64 (F := Ideal) (m ((c : Thread nD τ).loc main_arg0)) (m ((c : Thread nD τ).loc main_arg1))) shapeCasts_S8192x4x128_S8192x512 := by
  unfold V
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append, Idealize.ShloMosaic.StableHlo.after_cons, Idealize.ShloMosaic.StableHlo.after_nil]
  after_results_simp
  after_results_loop
  rfl

end Cert.Mirror

end

end
-- ==== Proof.RefC.lean ====
/- The reference's gradients over the reals. -/
module

public import proofs.«01_k».proof.Proof.RefB

@[expose] public section

set_option maxRecDepth 16384

noncomputable section

namespace Cert.Mirror

open Idealize.ShloMosaic Idealize.SL.Sem
open Cert.ReferenceIdeal Cert.ReferenceIdeal.Gen Cert.ReferenceIdeal.Read

variable {x0 : FVec Ideal S8192x2048 .f32} {x1 : FVec Ideal S2x512 .f32} {x2 : FVec Ideal S1x512 .f32} {x3 : FVec Ideal S8192x512 .f32}
  {D : In}

/-- The mean square of a head's output, and the small constant. -/
def In.vr (D : In) (t h : ℕ) : ℝ := (∑ d ∈ Finset.range 128, D.o t (128 * h + d) * D.o t (128 * h + d)) / 128 + D.eps

theorem In.rs_eq (D : In) (t h : ℕ) : D.rs t h = (Real.sqrt (D.vr t h))⁻¹ := rfl

theorem ofBits_c128 : Ideal.ofBits .f32 0x43000000#32 = ((128 : ℝ) : EReal) := by
  simp [Ideal.ofBits, Ideal.ieee, -EReal.coe_mul]; norm_num

theorem ofBits_mhalf : Ideal.ofBits .f32 0xBF000000#32 = ((-1 / 2 : ℝ) : EReal) := by
  simp [Ideal.ofBits, Ideal.ieee, -EReal.coe_mul]; norm_num

variable (H : Args x0 x1 x2 x3 D)
include H

theorem vr_pos (t h : ℕ) : 0 < D.vr t h := by
  unfold In.vr
  have := H.hpos
  have h2 : 0 ≤ ∑ d ∈ Finset.range 128, D.o t (128 * h + d) * D.o t (128 * h + d) := Finset.sum_nonneg fun d _ => mul_self_nonneg _
  positivity

theorem rs_sq (t h : ℕ) : D.rs t h * D.rs t h = 1 / D.vr t h := by
  have hp := vr_pos H t h
  rw [In.rs_eq, ← mul_inv, Real.mul_self_sqrt hp.le, one_div]

theorem r_v71 (t : Fin 8192) (h : Fin 4) : val_main_v71 (F := Ideal) x0 x1 (ix3 t h 0) = ((D.vr t h : ℝ) : EReal) := by
  pointwise [val_main_v71, val_main_v70, val_main_v69, val_main_v68, val_main_v67, val_main_v66, val_main_v65, val_main_cst_9, val_main_cst_10, val_main_cst_11, ofBits_c128]
  simp only [r_v64 H t h _, ← EReal.coe_mul, H.heps]
  rw [coe_sum fun d => D.o t (128 * h + d) * D.o t (128 * h + d), div_real _ _ (by norm_num), ← EReal.coe_add]
  rfl

theorem r_v72 (t : Fin 8192) (h : Fin 4) : val_main_v72 (F := Ideal) x0 x1 (ix3 t h 0) = ((D.rs t h : ℝ) : EReal) := by
  pointwise [val_main_v72]
  have hp := vr_pos H t h
  rw [r_v71 H, Ideal.rsqrt_coe, if_neg (not_lt.2 hp.le), if_neg hp.ne', In.rs_eq]

theorem r_v75 (t : Fin 8192) (h : Fin 4) : val_main_v75 (F := Ideal) x0 x1 (ix3 t h 0) = ((-1 / 2 * (D.rs t h / D.vr t h) : ℝ) : EReal) := by
  pointwise [val_main_v75, val_main_v74, val_main_v73, val_main_cst_12, ofBits_mhalf]
  rw [r_v71 H, r_v72 H, div_real _ _ (vr_pos H t h).ne', ← EReal.coe_mul]

theorem r_v77 : L3 (val_main_v77 (F := Ideal) x0 x1) D.on := by
  intro t h d
  pointwise [val_main_v77, val_main_v76]
  rw [r_v64 H t h d, r_v72 H, ← EReal.coe_mul]
  unfold In.on
  rw [col_head h d d.2]

theorem r_v78 : Lf (val_main_v78 (F := Ideal) x0 x1) D.on := flat (r_v77 H)

theorem r_v85 : Lf (val_main_v85 (F := Ideal) x0 x3) fun t c => D.dy t c * (D.g t c * sg (D.g t c)) := by
  intro i j
  pointwise [val_main_v85]
  rw [r_v82_0 H i j, H.dy i j, ← EReal.coe_mul]

theorem r_v84 : Lf (val_main_v84 (F := Ideal) x0 x1 x2 x3) fun t c => D.on t c * D.w c * D.dy t c := by
  intro i j
  pointwise [val_main_v84, val_main_v81]
  rw [r_v78 H i j, r_v81w H i j, H.dy i j, ← EReal.coe_mul, ← EReal.coe_mul]

theorem r_v86 : Lf (val_main_v86 (F := Ideal) x0 x1 x2 x3) D.dg := by
  intro i j
  pointwise [val_main_v86, val_main_call5_v0, val_main_call5_v1, val_main_call5_v2]
  rw [r_v84 H i j, r_v82_1 H i j, r_v82_2 H i j, r_v3 H i j]
  simp only [← EReal.coe_mul, ← EReal.coe_add]
  refine congrArg Real.toEReal ?_
  unfold In.dg dsg
  ring

theorem r_v91 : Lf (val_main_v91 (F := Ideal) x0 x2 x3) D.don := by
  intro i j
  pointwise [val_main_v91, val_main_v90, val_main_v79]
  rw [r_v18 H, r_v85 H i j, ← EReal.coe_mul]
  refine congrArg Real.toEReal ?_
  unfold In.don
  ring

theorem r_v93 : L3 (val_main_v93 (F := Ideal) x0 x2 x3) D.don := heads (r_v91 H)

/-- Half of what the normalisation takes off, per unit of output. -/
def In.cc (D : In) (t h : ℕ) : ℝ := (∑ d ∈ Finset.range 128, D.o t (128 * h + d) * D.don t (128 * h + d)) * (-1 / 2 * (D.rs t h / D.vr t h)) / 128

theorem r_v103 : L3 (val_main_v103 (F := Ideal) x0 x1 x2 x3) fun t c => D.cc t (c / 128) := by
  intro t h d
  pointwise [val_main_v103, val_main_v102, val_main_v101, val_main_v100, val_main_v99, val_main_v96, val_main_v95, val_main_v94, val_main_cst_15, val_main_cst_16, val_main_cst_17, ofBits_c128]
  simp only [Finset.univ_unique, Fin.default_eq_zero, Finset.sum_singleton, r_v64 H t h _, r_v93 H t h _, r_v75 H, ← EReal.coe_mul]
  rw [coe_sum fun d => D.o t (128 * h + d) * D.don t (128 * h + d), ← EReal.coe_mul, div_real _ _ (by norm_num), col_head h d d.2]
  rfl

theorem r_v107 : L3 (val_main_v107 (F := Ideal) x0 x1 x2 x3) D.G := by
  intro t h d
  pointwise [val_main_v107, val_main_v106, val_main_v105, val_main_v104, val_main_v98, val_main_v97]
  rw [r_v64 H t h d, r_v103 H t h d, r_v93 H t h d, r_v72 H]
  simp only [← EReal.coe_mul, ← EReal.coe_add]
  refine congrArg Real.toEReal ?_
  have hsq := rs_sq H t h
  unfold In.G In.cc In.on
  simp only [col_head h d d.2]
  have e : ∀ x ∈ Finset.range 128, D.don t (128 * h + x) * (D.o t (128 * h + x) * D.rs t ((128 * h + x) / 128)) =
      (D.o t (128 * h + x) * D.don t (128 * h + x)) * D.rs t h := fun x hx => by
    rw [col_head h x (Finset.mem_range.1 hx)]; ring
  rw [Finset.sum_congr rfl e, ← Finset.sum_mul]
  generalize ∑ d ∈ Finset.range 128, D.o t (128 * h + d) * D.don t (128 * h + d) = q
  have e2 : D.rs t h / D.vr t h = D.rs t h * (D.rs t h * D.rs t h) := by rw [hsq]; ring
  rw [e2]
  ring

theorem r_v110 (t s : Fin 8192) (h : Fin 4) : val_main_v110 (F := Ideal) x0 x1 x2 x3 (ix3 t s h) = ((D.dA t s h : ℝ) : EReal) := by
  pointwise [val_main_v110, val_main_v109, val_main_v108]
  simp only [r_v107 H t h _, r_v62 H s h _, ← EReal.coe_mul]
  exact coe_sum fun d => D.G t (128 * h + d) * D.v s (128 * h + d)

theorem r_v113 : Lf (val_main_v113 (F := Ideal) x0 x1 x2 x3) D.dv := by
  refine flat (fun s h d => ?_)
  pointwise [val_main_v112, val_main_v111, val_main_v108]
  simp only [r_v107 H _ h d, r_v61 H, ← EReal.coe_mul]
  refine (coe_sum fun t => D.G t (128 * h + d) * D.A t s h).trans ?_
  refine congrArg Real.toEReal ?_
  unfold In.dv
  rw [H.hn, col_head h d d.2]
  exact Finset.sum_congr rfl fun s _ => mul_comm _ _

theorem r_v116 : L4 (val_main_v116 (F := Ideal) x0 x1 x2 x3) fun t s c => if s ≤ t then D.dA t s (c / 128) * D.E t s c else 0 := by
  intro t s h d
  pointwise [val_main_v116, val_main_v114]
  rw [r_v110 H, r_v52 H t s h d, ← EReal.coe_mul, mul_ite, mul_zero, col_head h d d.2]

theorem r_v126 : Lf (val_main_v126 (F := Ideal) x0 x1 x2 x3) D.dk := by
  refine flat (fun s h d => ?_)
  pointwise [val_main_v125, val_main_v120, val_main_v119, val_main_v118, val_main_v117, val_main_v54, val_main_cst_18, val_main_cst_20]
  simp only [Finset.univ_unique, Fin.default_eq_zero, Finset.sum_singleton, r_v116 H _ s h d, r_v53 H _ h d, ← EReal.coe_mul]
  refine (coe_sum fun t => D.q t (128 * h + d) * if (s : ℕ) ≤ t then D.dA t s ((128 * h + d) / 128) * D.E t s (128 * h + d) else 0).trans ?_
  refine congrArg Real.toEReal ?_
  unfold In.dk
  rw [H.hn]
  exact Finset.sum_congr rfl fun t _ => by split_ifs <;> ring

theorem r_v128 : Lf (val_main_v128 (F := Ideal) x0 x1 x2 x3) D.dq := by
  refine flat (fun t h d => ?_)
  pointwise [val_main_v127, val_main_v124, val_main_v123, val_main_v122, val_main_v121, val_main_v56, val_main_cst_19, val_main_cst_21]
  simp only [Finset.univ_unique, Fin.default_eq_zero, Finset.sum_singleton, r_v116 H t _ h d, r_v55 H _ h d, ← EReal.coe_mul]
  refine (coe_sum fun s => (if (s : ℕ) ≤ t then D.dA t s ((128 * h + d) / 128) * D.E t s (128 * h + d) else 0) * D.k s (128 * h + d)).trans ?_
  refine congrArg Real.toEReal ?_
  unfold In.dq
  rw [H.hn]
  exact Finset.sum_congr rfl fun t _ => by split_ifs <;> ring

theorem r_v130 : L4 (val_main_v130 (F := Ideal) x0 x1 x2 x3) fun t s c => D.W c t s := by
  intro t s h d
  pointwise [val_main_v130, val_main_v129, val_main_v115, val_main_v114, val_main_call6_v0, val_main_call6_cst]
  rw [r_v51_1, sel_if, r_v110 H, r_v52 H t s h d, r_v59 H t s h d]
  unfold In.W
  by_cases c : (s : ℕ) ≤ t
  · simp only [if_pos c, ← EReal.coe_mul, col_head h d d.2]
    refine congrArg Real.toEReal ?_
    ring
  · rw [if_neg c, if_neg c, EReal.coe_zero]

theorem r_v139 : Lf (val_main_v139 (F := Ideal) x0 x1 x2 x3) fun t c => (∑ s ∈ Finset.range D.n, D.W c t s) - ∑ s ∈ Finset.range D.n, D.W c s t := by
  refine flat (fun t h d => ?_)
  pointwise [val_main_v138, val_main_v137, val_main_v136, val_main_v135, val_main_v134, val_main_v133, val_main_v132, val_main_v131, val_main_cst_22, val_main_cst_23, val_main_cst_24, val_main_cst_25]
  simp only [Finset.univ_unique, Fin.default_eq_zero, Finset.sum_singleton, r_v130 H _ _ h d, ← EReal.coe_neg]
  rw [coe_sum fun s => -D.W (128 * h + d) s t, coe_sum fun s => D.W (128 * h + d) t s, ← EReal.coe_add]
  refine congrArg Real.toEReal ?_
  rw [H.hn, Finset.sum_neg_distrib]
  ring

theorem r_v140 : Lf (val_main_v140 (F := Ideal) x0 x1 x2 x3) D.dl := by
  refine Lf.congr (cum_rows_back (φ := .f32) (hi := 8191) _ _ (r_v139 H) (val_main_call7_call0_v0 (F := Ideal)) (fun i => by pointwise [val_main_call7_call0_v0, val_main_call7_call0_cst])
    reduceWindows_S8192x512_S8192x512_w8192s1p0_8191_w1s1p0_0 h_S_) fun t _ c _ => ?_
  unfold In.dl
  rw [H.hn]

theorem r_v143 : Lf (val_main_v143 (F := Ideal) x0 x1 x2 x3) D.df := by
  intro i j
  pointwise [val_main_v143, val_main_v142, val_main_v141]
  rw [r_v140 H i j, r_v35 H i j, r_v126 H i j, div_real _ _ (D.f_pos _ _).ne', ← EReal.coe_neg, ← EReal.coe_add]
  rfl

theorem r_v144 : Lf (val_main_v144 (F := Ideal) x0 x1 x2 x3) D.dqb := by
  intro i j
  pointwise [val_main_v144, val_main_call8_v0, val_main_call8_v1, val_main_call8_v2]
  rw [r_v128 H i j, r_v36_1 H i j, r_v36_2 H i j, r_v0 H i j]
  simp only [← EReal.coe_mul, ← EReal.coe_add]
  refine congrArg Real.toEReal ?_
  unfold In.dqb dsg
  ring

theorem r_v154 : Lf (val_main_v154 (F := Ideal) x0 x1 x2 x3) D.dfb := by
  intro i j
  pointwise [val_main_v154, val_main_v149, val_main_v148, val_main_v30]
  rw [r_v143 H i j, r_v29 H i j, r_v20 H]
  simp only [← EReal.coe_mul]
  refine congrArg Real.toEReal ?_
  unfold In.dfb
  ring

theorem r_v158 : Lf (a := 8192) (b := 2048) (val_main_v158 (F := Ideal) x0 x1 x2 x3) D.out := by
  intro i j
  pointwise [val_main_v158, val_main_v157]
  unfold In.out
  have hj := j.isLt
  repeat' split
  all_goals first | (exfalso; omega) | skip
  · exact r_v144 H _ _
  · exact r_v154 H _ _
  · exact (r_v113 H _ _).trans (congrArg (fun n => ((D.dv i n : ℝ) : EReal)) (by simp only; omega))
  · exact (r_v86 H _ _).trans (congrArg (fun n => ((D.dg i n : ℝ) : EReal)) (by simp only; omega))

theorem r_v92 (c : Fin 512) : val_main_v92 (F := Ideal) x0 x1 x3 (ix1 c) = ((∑ t ∈ Finset.range 8192, D.p0 t c : ℝ) : EReal) := by
  pointwise [val_main_v92, val_main_v89, val_main_v88, val_main_v87, val_main_cst_13, val_main_cst_14]
  simp only [Finset.univ_unique, Fin.default_eq_zero, Finset.sum_singleton, r_v78 H _ c, r_v85 H _ c, ← EReal.coe_mul]
  refine (coe_sum fun t => D.on t c * (D.dy t c * (D.g t c * sg (D.g t c)))).trans ?_
  refine congrArg Real.toEReal ?_
  exact Finset.sum_congr rfl fun t _ => by unfold In.p0; ring

theorem r_v156 (c : Fin 512) : val_main_v156 (F := Ideal) x0 x1 x2 x3 (ix1 c) = ((∑ t ∈ Finset.range 8192, D.p1 t c : ℝ) : EReal) := by
  pointwise [val_main_v156, val_main_v155, val_main_v153, val_main_v152, val_main_v151, val_main_v150, val_main_v147, val_main_v146, val_main_v145, val_main_cst_26, val_main_cst_27, val_main_cst_28, val_main_cst_29]
  simp only [Finset.univ_unique, Fin.default_eq_zero, Finset.sum_singleton, r_v143 H _ c, r_v26 H _ c, ← EReal.coe_mul]
  rw [coe_sum fun t => D.df t c, coe_sum fun t => D.df t c * sg (D.x t (512 + c)), ← EReal.coe_neg, ← EReal.coe_add]
  refine congrArg Real.toEReal ?_
  rw [← sub_eq_add_neg, ← Finset.sum_sub_distrib]
  exact Finset.sum_congr rfl fun t _ => by unfold In.p1; ring

theorem r_v162 (i : Fin 8) (c : Fin 512) : val_main_v162 (F := Ideal) x0 x1 x2 x3 (ix2 i c) =
    (((if (i : ℕ) = 0 then ∑ t ∈ Finset.range 8192, D.p0 t c else if (i : ℕ) = 1 then ∑ t ∈ Finset.range 8192, D.p1 t c else 0) : ℝ) : EReal) := by
  pointwise [val_main_v162, val_main_v161, val_main_v160, val_main_v159, val_main_cst_30]
  have hi := i.isLt
  repeat' split
  all_goals first | (exfalso; omega) | skip
  · exact r_v92 H c
  · exact r_v156 H c
  · exact EReal.coe_zero.symm

end Cert.Mirror

end

end
-- ==== Proof.Finite.lean ====
/- The precondition: every argument is real. -/
module

public import proofs.«01_k».proof.Proof.RefC
public import proofs.«01_k».proof.Proof.Gen.Pre_finite

@[expose] public section

set_option maxRecDepth 16384

noncomputable section

namespace Cert.Mirror

open Idealize.ShloMosaic Idealize.SL.Sem

theorem ofBits_inf : Ideal.ofBits .f32 0x7F800000#32 = (⊤ : EReal) := by
  simp [Ideal.ofBits, Ideal.ieee]

/-- A value whose magnitude compares below infinity is real. -/
theorem real_of_lt {x : Ideal .f32} (h : BitVec.ofBool (decide ((FloatOps.absf x : Ideal .f32) < (⊤ : EReal))) = 1#1) :
    x = ((EReal.toReal x : ℝ) : EReal) := by
  have h1 : (FloatOps.absf x : Ideal .f32) < (⊤ : EReal) := by
    by_contra hn
    rw [decide_eq_false hn] at h
    exact absurd h (by decide)
  have h2 : max (x : EReal) (-x) < ⊤ := h1
  refine (EReal.coe_toReal ?_ ?_).symm
  · rintro rfl
    simp at h2
  · rintro rfl
    simp at h2

variable {x0 : FVec Ideal Pre_finite.S8192x2048 .f32} {x1 : FVec Ideal Pre_finite.S2x512 .f32} {x2 : FVec Ideal Pre_finite.S1x512 .f32}
  {x3 : FVec Ideal Pre_finite.S8192x512 .f32}

theorem finite0 (h : (Pre_finite.fn (F := Ideal) x0 x1 x2 x3).1 = fun _ => 1#1) (i : Fin 8192) (j : Fin 2048) :
    x0 (ix2 i j) = ((EReal.toReal (x0 (ix2 i j)) : ℝ) : EReal) := by
  have e := congrFun h (ix2 i j)
  pointwise [Pre_finite.fn, ofBits_inf] at e
  exact real_of_lt e
theorem finite1 (h : (Pre_finite.fn (F := Ideal) x0 x1 x2 x3).2.1 = fun _ => 1#1) (i : Fin 2) (j : Fin 512) :
    x1 (ix2 i j) = ((EReal.toReal (x1 (ix2 i j)) : ℝ) : EReal) := by
  have e := congrFun h (ix2 i j)
  pointwise [Pre_finite.fn, ofBits_inf] at e
  exact real_of_lt e
theorem finite2 (h : (Pre_finite.fn (F := Ideal) x0 x1 x2 x3).2.2.1 = fun _ => 1#1) (i : Fin 1) (j : Fin 512) :
    x2 (ix2 i j) = ((EReal.toReal (x2 (ix2 i j)) : ℝ) : EReal) := by
  have e := congrFun h (ix2 i j)
  pointwise [Pre_finite.fn, ofBits_inf] at e
  exact real_of_lt e
theorem finite3 (h : (Pre_finite.fn (F := Ideal) x0 x1 x2 x3).2.2.2 = fun _ => 1#1) (i : Fin 8192) (j : Fin 512) :
    x3 (ix2 i j) = ((EReal.toReal (x3 (ix2 i j)) : ℝ) : EReal) := by
  have e := congrFun h (ix2 i j)
  pointwise [Pre_finite.fn, ofBits_inf] at e
  exact real_of_lt e

/-- The reals a matrix holds. -/
def rd {a b : ℕ} (v : (⟨2, ![a, b]⟩ : Shape).Idx → EReal) (i j : ℕ) : ℝ :=
  if h : i < a ∧ j < b then EReal.toReal (v (ix2 ⟨i, h.1⟩ ⟨j, h.2⟩)) else 0

theorem lf_rd {a b : ℕ} {v : (⟨2, ![a, b]⟩ : Shape).Idx → EReal} (h : ∀ (i : Fin a) (j : Fin b), v (ix2 i j) = ((EReal.toReal (v (ix2 i j)) : ℝ) : EReal)) :
    Lf v (rd v) := fun i j => by
  unfold rd
  rw [dif_pos ⟨i.2, j.2⟩]
  exact h i j

/-- The reals the arguments hold. -/
def argIn (x0 : FVec Ideal Pre_finite.S8192x2048 .f32) (x1 : FVec Ideal Pre_finite.S2x512 .f32) (x2 : FVec Ideal Pre_finite.S1x512 .f32)
    (x3 : FVec Ideal Pre_finite.S8192x512 .f32) : In where
  n := 8192
  eps := EReal.toReal (Ideal.ofBits .f32 0x358637BD#32)
  x := rd (a := 8192) (b := 2048) x0
  l := rd (a := 2) (b := 512) x1
  w := rd (a := 1) (b := 512) x2 0
  dy := rd (a := 8192) (b := 512) x3

theorem ofBits_eps : Ideal.ofBits .f32 0x358637BD#32 = (((8796093 : ℝ) / 8796093022208 : ℝ) : EReal) := by
  simp [Ideal.ofBits, Ideal.ieee, -EReal.coe_mul]; norm_num

theorem args_of_finite (h0 : (Pre_finite.fn (F := Ideal) x0 x1 x2 x3).1 = fun _ => 1#1) (h1 : (Pre_finite.fn (F := Ideal) x0 x1 x2 x3).2.1 = fun _ => 1#1)
    (h2 : (Pre_finite.fn (F := Ideal) x0 x1 x2 x3).2.2.1 = fun _ => 1#1) (h3 : (Pre_finite.fn (F := Ideal) x0 x1 x2 x3).2.2.2 = fun _ => 1#1) :
    Args x0 x1 x2 x3 (argIn x0 x1 x2 x3) where
  hn := rfl
  heps := by
    show _ = ((EReal.toReal (Ideal.ofBits .f32 0x358637BD#32) : ℝ) : EReal)
    rw [ofBits_eps, EReal.toReal_coe]
  hpos := by
    show 0 < EReal.toReal (Ideal.ofBits .f32 0x358637BD#32)
    rw [ofBits_eps, EReal.toReal_coe]
    norm_num
  x := lf_rd (finite0 h0)
  l := lf_rd (finite1 h1)
  w := fun i j => by
    obtain rfl : i = 0 := Subsingleton.elim _ _
    exact lf_rd (finite2 h2) 0 j
  dy := lf_rd (finite3 h3)

end Cert.Mirror

end

end
-- ==== Proof.Entry.lean ====
/- The kernel's results over the reals, from arguments that are real. -/
module

public import proofs.«01_k».proof.Proof.Grid
public import proofs.«01_k».proof.Proof.HostK
public import proofs.«01_k».proof.Proof.HostO
public import proofs.«01_k».proof.Proof.Finite

@[expose] public section

set_option maxRecDepth 16384

noncomputable section

namespace Cert.Mirror

open Idealize.ShloMosaic Idealize.ShloMosaic.TcCoe Idealize.SL.Sem
open Cert.KernelIdeal Cert.KernelIdeal.Gen Cert.KernelIdeal.Value

variable {m : (ℓ : Loc nD τ sig) → Buf (Elt Ideal) ℓ} {c : Dev nD} {D : In}

theorem entry_of_args (H : Args (m ((c : Thread nD τ).loc main_arg0)) (m ((c : Thread nD τ).loc main_arg1)) (m ((c : Thread nD τ).loc main_arg2))
    (m ((c : Thread nD τ).loc main_arg3)) D) : Entry m c D where
  hn := H.hn
  heps := H.heps
  hpos := H.hpos
  x := by rw [V_main_arg0]; exact H.x
  l := by rw [V_main_arg1]; exact H.l
  w := by rw [V_main_arg2]; exact H.w
  o := by rw [host_o]; exact flat (r_v64 H)
  s := fun b h e d => by
    rw [host_s]
    refine stAll_eq H.hn ?_ ?_ ?_ b h e d
    · rw [host_f]; exact r_v39 H
    · rw [host_k]; exact r_v38 H
    · rw [host_v]; exact r_v2 H
  dy := by rw [V_main_arg3]; exact H.dy

/-- The first result is the reference's. -/
theorem result0 (H : Args (m ((c : Thread nD τ).loc main_arg0)) (m ((c : Thread nD τ).loc main_arg1)) (m ((c : Thread nD τ).loc main_arg2))
    (m ((c : Thread nD τ).loc main_arg3)) D) :
    Cert.ReferenceIdeal.Read.val_main_v158 (F := Ideal) (m ((c : Thread nD τ).loc main_arg0)) (m ((c : Thread nD τ).loc main_arg1))
      (m ((c : Thread nD τ).loc main_arg2)) (m ((c : Thread nD τ).loc main_arg3)) = (dats m 0 c).arrAt 6 cfg0.N := by
  funext i
  obtain ⟨t, d, rfl⟩ : ∃ (t : Fin 8192) (d : Fin 2048), i = ix2 t d := ⟨i 0, i 1, eq_ix2 i⟩
  exact (r_v158 H t d).trans (final6 (entry_of_args H) t d).symm

/-- The second result is the reference's. -/
theorem result1 (H : Args (m ((c : Thread nD τ).loc main_arg0)) (m ((c : Thread nD τ).loc main_arg1)) (m ((c : Thread nD τ).loc main_arg2))
    (m ((c : Thread nD τ).loc main_arg3)) D) :
    Cert.ReferenceIdeal.Read.val_main_v162 (F := Ideal) (m ((c : Thread nD τ).loc main_arg0)) (m ((c : Thread nD τ).loc main_arg1))
      (m ((c : Thread nD τ).loc main_arg2)) (m ((c : Thread nD τ).loc main_arg3)) = (dats m 0 c).arrAt 7 cfg0.N := by
  funext i
  obtain ⟨t, d, rfl⟩ : ∃ (t : Fin 8) (d : Fin 512), i = ix2 t d := ⟨i 0, i 1, eq_ix2 i⟩
  refine (r_v162 H t d).trans ?_
  have hA := final7 (entry_of_args H)
  by_cases h0 : (t : ℕ) = 0
  · obtain rfl : t = 0 := Fin.ext h0
    rw [if_pos h0]
    refine Eq.trans ?_ (hA.r0 d).symm
    simp only [Nat.zero_add]
  · by_cases h1 : (t : ℕ) = 1
    · obtain rfl : t = 1 := Fin.ext h1
      rw [if_neg h0, if_pos h1]
      refine Eq.trans ?_ (hA.r1 d).symm
      simp only [Nat.zero_add]
    · rw [if_neg h0, if_neg h1]
      exact EReal.coe_zero.trans (hA.rest t d (by omega)).symm

end Cert.Mirror

end

end
-- ==== Proof.SumGate.lean ====
/- The gradient of the gate and up projections's weight: the blocks of rows add up to the one product. -/
module

public import proofs.«01_k».proof.Proof.Gen.GradGateUpIdeal.Value
public import proofs.«01_k».proof.Proof.Gen.GradGateUpRefIdeal.Read
public import Idealize.ShloMosaic.Lib.Pointwise
public import Idealize.ShloMosaic.Lib.Pipeline.ValueKit
public import Idealize.ShloMosaic.Lib.Pipeline.ReadBack

@[expose] public section

set_option maxRecDepth 16384

noncomputable section

namespace Cert.GradGateUpIdeal.Sums

open Idealize.ShloMosaic Idealize.ShloMosaic.TcCoe Idealize.SL.Sem
open Cert.GradGateUpIdeal Cert.GradGateUpIdeal.Gen

variable (m : (ℓ : Loc nD τ sig) → Buf (Elt Ideal) ℓ)

abbrev REF (x0 : FVec Ideal S8192x1024 .bf16) (x1 : FVec Ideal S8192x5632 .bf16) : FVec Ideal S4x1024x1408 .f32 :=
  Cert.GradGateUpRefIdeal.Read.val_main_v7 (F := Ideal) x0 x1

theorem hzero (j) : k0_pay1 (F := Ideal) j = 0 := by pointwise [k0_pay1]

theorem hpay3 (x0 : Vec Ideal S1024x1024 .bf16) (x1 : Vec Ideal S1024x2816 .bf16) (acc : Vec Ideal S1x1024x1408 .f32) (j) :
    k0_pay3 x0 x1 acc j = acc j + ∑ k : Fin 1024, x0 (ix2 k (j 1)) * x1 (ix2 k ⟨(j 2).val, by have := (j 2).isLt; simp at this; omega⟩) := by
  pointwise [k0_pay3, k0_pay2]

theorem hpay4 (x0 : Vec Ideal S1024x1024 .bf16) (x1 : Vec Ideal S1024x2816 .bf16) (acc : Vec Ideal S1x1024x1408 .f32) (j) :
    k0_pay4 x0 x1 acc j = acc j + ∑ k : Fin 1024, x0 (ix2 k (j 1)) * x1 (ix2 k ⟨1408 + (j 2).val, by have := (j 2).isLt; simp at this; omega⟩) := by
  pointwise [k0_pay4, k0_pay2]

/-- What one block of rows adds to the sum at an index of the output block. -/
def part (x0 : Vec Ideal S1024x1024 .bf16) (x1 : Vec Ideal S1024x2816 .bf16) (j : S2x1024x1408.Idx) : Ideal .f32 :=
  ∑ k : Fin 1024, x0 (ix2 k (j 1)) * x1 (ix2 k ⟨(j 0).val * 1408 + (j 2).val, by have := (j 2).isLt; have := (j 0).isLt; simp at *; omega⟩)

theorem core3 (x0 : Vec Ideal S1024x1024 .bf16) (x1 : Vec Ideal S1024x2816 .bf16) (acc : Vec Ideal S1x1024x1408 .f32)
    (x : S1x1024x1408.Idx) (j : S2x1024x1408.Idx) (a : Ideal .f32) (h0 : (j 0).val = (x 0).val) (h1 : (j 1).val = (x 1).val)
    (h2 : (j 2).val = (x 2).val) (ha : acc x = a) : k0_pay3 x0 x1 acc x = a + part x0 x1 j := by
  have hx : (x 0).val < 1 := (x 0).isLt
  rw [hpay3, ha, part, show x 1 = j 1 from Fin.ext h1.symm]
  refine congrArg (fun z : EReal => a + z) (Finset.sum_congr rfl fun k _ => ?_)
  refine congrArg (fun n => x0 (ix2 k (j 1)) * x1 (ix2 k n)) (Fin.ext ?_)
  simp only; omega

theorem core4 (x0 : Vec Ideal S1024x1024 .bf16) (x1 : Vec Ideal S1024x2816 .bf16) (acc : Vec Ideal S1x1024x1408 .f32)
    (x : S1x1024x1408.Idx) (j : S2x1024x1408.Idx) (a : Ideal .f32) (h0 : (j 0).val = 1 + (x 0).val) (h1 : (j 1).val = (x 1).val)
    (h2 : (j 2).val = (x 2).val) (ha : acc x = a) : k0_pay4 x0 x1 acc x = a + part x0 x1 j := by
  have hx : (x 0).val < 1 := (x 0).isLt
  rw [hpay4, ha, part, show x 1 = j 1 from Fin.ext h1.symm]
  refine congrArg (fun z : EReal => a + z) (Finset.sum_congr rfl fun k _ => ?_)
  refine congrArg (fun n => x0 (ix2 k (j 1)) * x1 (ix2 k n)) (Fin.ext ?_)
  simp only; omega

theorem stepA (c : Dev nD) (t : Fin cfg0.N) (h : t.val % 8 = 0) (j) :
    outsAt0 m c t.val t.isLt j = 0 + part (iblk m c 0 t) (iblk m c 1 t) j := by
  rw [outsAt0_A m c t h]; frame_out
  rw [View.readCov_skip _ _ _ _ _ (by decide), View.readCov_fill _ _ _ _ _ (by decide), View.readCov_fill _ _ _ _ _ (by decide)]
  refine View.canon_append_of_piecesOf (Val := Elt Ideal) (e := .f32) (fun j => 0 + part (iblk m c 0 t) (iblk m c 1 t) j) [_] [_, _] ⟨fun x => ?_, fun x => ?_, trivial⟩ j ?_
  · refine core4 _ _ _ x _ 0 ?_ ?_ ?_ (hzero _)
    · exact Rect.idx_unit_val _ _ inb_S2x1024x1408_S1x1024x1408_1_0_0 x 0
    · exact (Rect.idx_unit_val _ _ inb_S2x1024x1408_S1x1024x1408_1_0_0 x 1).trans (Nat.zero_add (x 1).val)
    · exact (Rect.idx_unit_val _ _ inb_S2x1024x1408_S1x1024x1408_1_0_0 x 2).trans (Nat.zero_add (x 2).val)
  · refine core3 _ _ _ x _ 0 ?_ ?_ ?_ (hzero _)
    · exact (Rect.idx_unit_val _ _ inb_S2x1024x1408_S1x1024x1408_0_0_0 x 0).trans (Nat.zero_add (x 0).val)
    · exact (Rect.idx_unit_val _ _ inb_S2x1024x1408_S1x1024x1408_0_0_0 x 1).trans (Nat.zero_add (x 1).val)
    · exact (Rect.idx_unit_val _ _ inb_S2x1024x1408_S1x1024x1408_0_0_0 x 2).trans (Nat.zero_add (x 2).val)
  · exact View.cover_of_tiledL (s := S2x1024x1408) _ S1x1024x1408.size (by sl_kernel_rfl) j

theorem stepB (c : Dev nD) (t : Fin cfg0.N) (h : ¬ t.val % 8 = 0) (j) : outsAt0 m c t.val t.isLt j =
    outsAt0 m c (t.val - 1) (Nat.lt_of_le_of_lt (Nat.sub_le _ _) t.isLt) j + part (iblk m c 0 t) (iblk m c 1 t) j := by
  rw [outsAt0_B m c t h]; frame_out
  canon_tiles x h
  · refine core4 _ _ _ x j _ h0 h1 h2 ?_
    refine View.ld_unit_apply_of _ _ _ _ x j fun a => ?_
    fin_cases a
    exacts [h0, h1.trans (Nat.zero_add _).symm, h2.trans (Nat.zero_add _).symm]
  · refine core3 _ _ _ x j _ h0 h1 h2 ?_
    refine View.ld_unit_apply_of _ _ _ _ x j fun a => ?_
    fin_cases a
    exacts [h0.trans (Nat.zero_add _).symm, h1.trans (Nat.zero_add _).symm, h2.trans (Nat.zero_add _).symm]

theorem href (X0 X1 j) : REF X0 X1 j = ∑ k : Fin (8 * 1024), X0 (ix2 (n0 := 8192) k (j 1)) *
    X1 (ix2 (n0 := 8192) k ⟨(j 0).val * 1408 + (j 2).val, by have := (j 2).isLt; have := (j 0).isLt; simp at *; omega⟩) := by
  refine (?_ : REF X0 X1 j = ∑ k : Fin 8192, X1 (ix2 k ⟨(j 0).val * 1408 + (j 2).val, by have := (j 2).isLt; have := (j 0).isLt; simp at *; omega⟩)
    * X0 (ix2 k (j 1))).trans (Finset.sum_congr rfl fun k _ => mul_comm _ _)
  pointwise [REF, Cert.GradGateUpRefIdeal.Read.val_main_v7, Cert.GradGateUpRefIdeal.Read.val_main_v6, Cert.GradGateUpRefIdeal.Read.val_main_v5,
    Cert.GradGateUpRefIdeal.Read.val_main_v4, Cert.GradGateUpRefIdeal.Read.val_main_v3, Cert.GradGateUpRefIdeal.Read.val_main_v1,
    Cert.GradGateUpRefIdeal.Read.val_main_v0]

theorem idx : ∀ t : Fin cfg0.N, win0_0.index t = ![t.val % 8, 0] ∧ win0_1.index t = ![t.val % 8, t.val / 8]
    ∧ win0_2.index t = ![t.val / 8, 0, 0] := (by decide +kernel : ∀ t : Fin grid0.N, _)

theorem final (c : Dev nD) : (dats m 0 c).arrAt 2 cfg0.N = REF (V m c main_arg0) (V m c main_arg1) := by
  refine (dats m 0 c).arrAt_eq_of_covers 2 _ (by decide +kernel) fun t hf y => ?_
  blk_simp
  rw [after0_2, Pipeline.eq_sum_fin_of_reset_step_apply_of_flush (fun n h => outsAt0 m c n h) 8 (fun _ => 0) _
    (fun t h j => stepA m c t h j) (fun t h j => stepB m c t h j) t ((flush0_2 t).mp hf) _, zero_add]
  rw [href]
  refine Fin.sum_mul_add_congr fun s k hl => ?_
  refine congrArg₂ (fun a b : EReal => a * b) ?_ ?_ <;>
    blk_ext [iblk, V, idx t, idx ⟨_, Pipeline.run_point_lt_of_flush t ((flush0_2 t).mp hf) s⟩]

end Cert.GradGateUpIdeal.Sums

end
-- ==== Proof.SumDown.lean ====
/- The gradient of the down projection's weight: the blocks of rows add up to the one product. -/
module

public import proofs.«01_k».proof.Proof.Gen.GradDownIdeal.Value
public import proofs.«01_k».proof.Proof.Gen.GradDownRefIdeal.Read
public import Idealize.ShloMosaic.Lib.Pointwise
public import Idealize.ShloMosaic.Lib.Pipeline.ValueKit

@[expose] public section

set_option maxRecDepth 16384

noncomputable section

namespace Cert.GradDownIdeal.Sums

open Idealize.ShloMosaic Idealize.ShloMosaic.TcCoe Idealize.SL.Sem
open Cert.GradDownIdeal Cert.GradDownIdeal.Gen

variable (m : (ℓ : Loc nD τ sig) → Buf (Elt Ideal) ℓ)

abbrev REF (x0 : FVec Ideal S8192x2816 .bf16) (x1 : FVec Ideal S8192x1024 .f32) : FVec Ideal S1x2816x1024 .f32 :=
  Cert.GradDownRefIdeal.Read.val_main_v6 (F := Ideal) x0 x1

theorem hzero (j) : k0_pay1 (F := Ideal) j = 0 := by pointwise [k0_pay1]

theorem hpay (x0 : Vec Ideal S1024x2816 .bf16) (x1 : Vec Ideal S1024x1024 .f32) (acc : Vec Ideal S1x2816x1024 .f32) (j) :
    k0_pay2 x0 x1 acc j = acc j + ∑ k : Fin 1024, x0 (ix2 k (j 1)) * x1 (ix2 k (j 2)) := by
  pointwise [k0_pay2]

theorem href (X0 X1 j) : REF X0 X1 j = ∑ k : Fin (8 * 1024), X0 (ix2 (n0 := 8192) k (j 1)) * X1 (ix2 (n0 := 8192) k (j 2)) := by
  refine (?_ : REF X0 X1 j = ∑ k : Fin 8192, X1 (ix2 k (j 2)) * X0 (ix2 k (j 1))).trans (Finset.sum_congr rfl fun k _ => mul_comm _ _)
  pointwise [REF, Cert.GradDownRefIdeal.Read.val_main_v6, Cert.GradDownRefIdeal.Read.val_main_v5, Cert.GradDownRefIdeal.Read.val_main_v4,
    Cert.GradDownRefIdeal.Read.val_main_v3, Cert.GradDownRefIdeal.Read.val_main_v0]

theorem idx : ∀ t : Fin cfg0.N, win0_0.index t = ![t.val % 8, 0] ∧ win0_1.index t = ![t.val % 8, 0]
    ∧ win0_2.index t = ![0, 0, 0] := (by decide +kernel : ∀ t : Fin grid0.N, _)

theorem final (c : Dev nD) : (dats m 0 c).arrAt 2 cfg0.N = REF (V m c main_arg0) (V m c main_arg1) := by
  refine (dats m 0 c).arrAt_eq_of_covers 2 _ (by decide +kernel) fun t hf y => ?_
  blk_simp
  rw [after0_2, Pipeline.eq_sum_fin_of_reset_step_apply_of_flush (fun n h => outsAt0 m c n h) 8 (fun _ => 0) _
    (fun t h j => by rw [outsAt0_A m c t h]; frame_out; rw [hpay, hzero])
    (fun t h j => by rw [outsAt0_B m c t h]; frame_out; rw [hpay])
    t ((flush0_2 t).mp hf) _, zero_add]
  rw [href]
  refine Fin.sum_mul_add_congr fun s k hl => ?_
  refine congrArg₂ (fun a b : EReal => a * b) ?_ ?_ <;>
    blk_ext [iblk, V, idx t, idx ⟨_, Pipeline.run_point_lt_of_flush t ((flush0_2 t).mp hf) s⟩]

end Cert.GradDownIdeal.Sums

end
-- ==== Proof.SumIn.lean ====
/- The gradient of the input projection's weight: the blocks of rows add up to the one product. -/
module

public import proofs.«01_k».proof.Proof.Gen.GradInIdeal.Value
public import proofs.«01_k».proof.Proof.Gen.GradInRefIdeal.Read
public import Idealize.ShloMosaic.Lib.Pointwise
public import Idealize.ShloMosaic.Lib.Pipeline.ValueKit
public import Idealize.ShloMosaic.Lib.Pipeline.ReadBack

@[expose] public section

set_option maxRecDepth 16384

noncomputable section

namespace Cert.GradInIdeal.Sums

open Idealize.ShloMosaic Idealize.ShloMosaic.TcCoe Idealize.SL.Sem
open Cert.GradInIdeal Cert.GradInIdeal.Gen

variable (m : (ℓ : Loc nD τ sig) → Buf (Elt Ideal) ℓ)

abbrev REF (x0 : FVec Ideal S8192x1024 .bf16) (x1 : FVec Ideal S8192x3584 .bf16) : FVec Ideal S4x1024x896 .f32 :=
  Cert.GradInRefIdeal.Read.val_main_v7 (F := Ideal) x0 x1

theorem hzero (j) : k0_pay1 (F := Ideal) j = 0 := by pointwise [k0_pay1]

theorem hpay3 (x0 : Vec Ideal S2048x1024 .bf16) (x1 : Vec Ideal S2048x1792 .bf16) (acc : Vec Ideal S1x1024x896 .f32) (j) :
    k0_pay3 x0 x1 acc j = acc j + ∑ k : Fin 2048, x0 (ix2 k (j 1)) * x1 (ix2 k ⟨(j 2).val, by have := (j 2).isLt; simp at this; omega⟩) := by
  pointwise [k0_pay3, k0_pay2]

theorem hpay4 (x0 : Vec Ideal S2048x1024 .bf16) (x1 : Vec Ideal S2048x1792 .bf16) (acc : Vec Ideal S1x1024x896 .f32) (j) :
    k0_pay4 x0 x1 acc j = acc j + ∑ k : Fin 2048, x0 (ix2 k (j 1)) * x1 (ix2 k ⟨896 + (j 2).val, by have := (j 2).isLt; simp at this; omega⟩) := by
  pointwise [k0_pay4, k0_pay2]

/-- What one block of rows adds to the sum at an index of the output block. -/
def part (x0 : Vec Ideal S2048x1024 .bf16) (x1 : Vec Ideal S2048x1792 .bf16) (j : S2x1024x896.Idx) : Ideal .f32 :=
  ∑ k : Fin 2048, x0 (ix2 k (j 1)) * x1 (ix2 k ⟨(j 0).val * 896 + (j 2).val, by have := (j 2).isLt; have := (j 0).isLt; simp at *; omega⟩)

theorem core3 (x0 : Vec Ideal S2048x1024 .bf16) (x1 : Vec Ideal S2048x1792 .bf16) (acc : Vec Ideal S1x1024x896 .f32)
    (x : S1x1024x896.Idx) (j : S2x1024x896.Idx) (a : Ideal .f32) (h0 : (j 0).val = (x 0).val) (h1 : (j 1).val = (x 1).val)
    (h2 : (j 2).val = (x 2).val) (ha : acc x = a) : k0_pay3 x0 x1 acc x = a + part x0 x1 j := by
  have hx : (x 0).val < 1 := (x 0).isLt
  rw [hpay3, ha, part, show x 1 = j 1 from Fin.ext h1.symm]
  refine congrArg (fun z : EReal => a + z) (Finset.sum_congr rfl fun k _ => ?_)
  refine congrArg (fun n => x0 (ix2 k (j 1)) * x1 (ix2 k n)) (Fin.ext ?_)
  simp only; omega

theorem core4 (x0 : Vec Ideal S2048x1024 .bf16) (x1 : Vec Ideal S2048x1792 .bf16) (acc : Vec Ideal S1x1024x896 .f32)
    (x : S1x1024x896.Idx) (j : S2x1024x896.Idx) (a : Ideal .f32) (h0 : (j 0).val = 1 + (x 0).val) (h1 : (j 1).val = (x 1).val)
    (h2 : (j 2).val = (x 2).val) (ha : acc x = a) : k0_pay4 x0 x1 acc x = a + part x0 x1 j := by
  have hx : (x 0).val < 1 := (x 0).isLt
  rw [hpay4, ha, part, show x 1 = j 1 from Fin.ext h1.symm]
  refine congrArg (fun z : EReal => a + z) (Finset.sum_congr rfl fun k _ => ?_)
  refine congrArg (fun n => x0 (ix2 k (j 1)) * x1 (ix2 k n)) (Fin.ext ?_)
  simp only; omega

theorem stepA (c : Dev nD) (t : Fin cfg0.N) (h : t.val % 4 = 0) (j) :
    outsAt0 m c t.val t.isLt j = 0 + part (iblk m c 0 t) (iblk m c 1 t) j := by
  rw [outsAt0_A m c t h]; frame_out
  rw [View.readCov_skip _ _ _ _ _ (by decide), View.readCov_fill _ _ _ _ _ (by decide), View.readCov_fill _ _ _ _ _ (by decide)]
  refine View.canon_append_of_piecesOf (Val := Elt Ideal) (e := .f32) (fun j => 0 + part (iblk m c 0 t) (iblk m c 1 t) j) [_] [_, _] ⟨fun x => ?_, fun x => ?_, trivial⟩ j ?_
  · refine core4 _ _ _ x _ 0 ?_ ?_ ?_ (hzero _)
    · exact Rect.idx_unit_val _ _ inb_S2x1024x896_S1x1024x896_1_0_0 x 0
    · exact (Rect.idx_unit_val _ _ inb_S2x1024x896_S1x1024x896_1_0_0 x 1).trans (Nat.zero_add (x 1).val)
    · exact (Rect.idx_unit_val _ _ inb_S2x1024x896_S1x1024x896_1_0_0 x 2).trans (Nat.zero_add (x 2).val)
  · refine core3 _ _ _ x _ 0 ?_ ?_ ?_ (hzero _)
    · exact (Rect.idx_unit_val _ _ inb_S2x1024x896_S1x1024x896_0_0_0 x 0).trans (Nat.zero_add (x 0).val)
    · exact (Rect.idx_unit_val _ _ inb_S2x1024x896_S1x1024x896_0_0_0 x 1).trans (Nat.zero_add (x 1).val)
    · exact (Rect.idx_unit_val _ _ inb_S2x1024x896_S1x1024x896_0_0_0 x 2).trans (Nat.zero_add (x 2).val)
  · exact View.cover_of_tiledL (s := S2x1024x896) _ S1x1024x896.size (by sl_kernel_rfl) j

theorem stepB (c : Dev nD) (t : Fin cfg0.N) (h : ¬ t.val % 4 = 0) (j) : outsAt0 m c t.val t.isLt j =
    outsAt0 m c (t.val - 1) (Nat.lt_of_le_of_lt (Nat.sub_le _ _) t.isLt) j + part (iblk m c 0 t) (iblk m c 1 t) j := by
  rw [outsAt0_B m c t h]; frame_out
  canon_tiles x h
  · refine core4 _ _ _ x j _ h0 h1 h2 ?_
    refine View.ld_unit_apply_of _ _ _ _ x j fun a => ?_
    fin_cases a
    exacts [h0, h1.trans (Nat.zero_add _).symm, h2.trans (Nat.zero_add _).symm]
  · refine core3 _ _ _ x j _ h0 h1 h2 ?_
    refine View.ld_unit_apply_of _ _ _ _ x j fun a => ?_
    fin_cases a
    exacts [h0.trans (Nat.zero_add _).symm, h1.trans (Nat.zero_add _).symm, h2.trans (Nat.zero_add _).symm]

theorem href (X0 X1 j) : REF X0 X1 j = ∑ k : Fin (4 * 2048), X0 (ix2 (n0 := 8192) k (j 1)) *
    X1 (ix2 (n0 := 8192) k ⟨(j 0).val * 896 + (j 2).val, by have := (j 2).isLt; have := (j 0).isLt; simp at *; omega⟩) := by
  refine (?_ : REF X0 X1 j = ∑ k : Fin 8192, X1 (ix2 k ⟨(j 0).val * 896 + (j 2).val, by have := (j 2).isLt; have := (j 0).isLt; simp at *; omega⟩)
    * X0 (ix2 k (j 1))).trans (Finset.sum_congr rfl fun k _ => mul_comm _ _)
  pointwise [REF, Cert.GradInRefIdeal.Read.val_main_v7, Cert.GradInRefIdeal.Read.val_main_v6, Cert.GradInRefIdeal.Read.val_main_v5,
    Cert.GradInRefIdeal.Read.val_main_v4, Cert.GradInRefIdeal.Read.val_main_v3, Cert.GradInRefIdeal.Read.val_main_v1,
    Cert.GradInRefIdeal.Read.val_main_v0]

theorem idx : ∀ t : Fin cfg0.N, win0_0.index t = ![t.val % 4, 0] ∧ win0_1.index t = ![t.val % 4, t.val / 4]
    ∧ win0_2.index t = ![t.val / 4, 0, 0] := (by decide +kernel : ∀ t : Fin grid0.N, _)

theorem final (c : Dev nD) : (dats m 0 c).arrAt 2 cfg0.N = REF (V m c main_arg0) (V m c main_arg1) := by
  refine (dats m 0 c).arrAt_eq_of_covers 2 _ (by decide +kernel) fun t hf y => ?_
  blk_simp
  rw [after0_2, Pipeline.eq_sum_fin_of_reset_step_apply_of_flush (fun n h => outsAt0 m c n h) 4 (fun _ => 0) _
    (fun t h j => stepA m c t h j) (fun t h j => stepB m c t h j) t ((flush0_2 t).mp hf) _, zero_add]
  rw [href]
  refine Fin.sum_mul_add_congr fun s k hl => ?_
  refine congrArg₂ (fun a b : EReal => a * b) ?_ ?_ <;>
    blk_ext [iblk, V, idx t, idx ⟨_, Pipeline.run_point_lt_of_flush t ((flush0_2 t).mp hf) s⟩]

end Cert.GradInIdeal.Sums

end
-- ==== Proof.SumOut.lean ====
/- The gradient of the output projection's weight: the blocks of rows add up to the one product. -/
module

public import proofs.«01_k».proof.Proof.Gen.GradOutIdeal.Value
public import proofs.«01_k».proof.Proof.Gen.GradOutRefIdeal.Read
public import Idealize.ShloMosaic.Lib.Pointwise
public import Idealize.ShloMosaic.Lib.Pipeline.ValueKit

@[expose] public section

set_option maxRecDepth 16384

noncomputable section

namespace Cert.GradOutIdeal.Sums

open Idealize.ShloMosaic Idealize.ShloMosaic.TcCoe Idealize.SL.Sem
open Cert.GradOutIdeal Cert.GradOutIdeal.Gen

variable (m : (ℓ : Loc nD τ sig) → Buf (Elt Ideal) ℓ)

abbrev REF (x0 : FVec Ideal S8192x1024 .bf16) (x1 : FVec Ideal S8192x1024 .f32) : FVec Ideal S1x1024x1024 .f32 :=
  Cert.GradOutRefIdeal.Read.val_main_v6 (F := Ideal) x0 x1

theorem hzero (j) : k0_pay1 (F := Ideal) j = 0 := by pointwise [k0_pay1]

theorem hpay (x0 : Vec Ideal S2048x1024 .bf16) (x1 : Vec Ideal S2048x1024 .f32) (acc : Vec Ideal S1x1024x1024 .f32) (j) :
    k0_pay2 x0 x1 acc j = acc j + ∑ k : Fin 2048, x0 (ix2 k (j 1)) * x1 (ix2 k (j 2)) := by
  pointwise [k0_pay2]

theorem href (X0 X1 j) : REF X0 X1 j = ∑ k : Fin (4 * 2048), X0 (ix2 (n0 := 8192) k (j 1)) * X1 (ix2 (n0 := 8192) k (j 2)) := by
  refine (?_ : REF X0 X1 j = ∑ k : Fin 8192, X1 (ix2 k (j 2)) * X0 (ix2 k (j 1))).trans (Finset.sum_congr rfl fun k _ => mul_comm _ _)
  pointwise [REF, Cert.GradOutRefIdeal.Read.val_main_v6, Cert.GradOutRefIdeal.Read.val_main_v5, Cert.GradOutRefIdeal.Read.val_main_v4,
    Cert.GradOutRefIdeal.Read.val_main_v3, Cert.GradOutRefIdeal.Read.val_main_v0]

theorem idx : ∀ t : Fin cfg0.N, win0_0.index t = ![t.val % 4, 0] ∧ win0_1.index t = ![t.val % 4, 0]
    ∧ win0_2.index t = ![0, 0, 0] := (by decide +kernel : ∀ t : Fin grid0.N, _)

theorem final (c : Dev nD) : (dats m 0 c).arrAt 2 cfg0.N = REF (V m c main_arg0) (V m c main_arg1) := by
  refine (dats m 0 c).arrAt_eq_of_covers 2 _ (by decide +kernel) fun t hf y => ?_
  blk_simp
  rw [after0_2, Pipeline.eq_sum_fin_of_reset_step_apply_of_flush (fun n h => outsAt0 m c n h) 4 (fun _ => 0) _
    (fun t h j => by rw [outsAt0_A m c t h]; frame_out; rw [hpay, hzero])
    (fun t h j => by rw [outsAt0_B m c t h]; frame_out; rw [hpay])
    t ((flush0_2 t).mp hf) _, zero_add]
  rw [href]
  refine Fin.sum_mul_add_congr fun s k hl => ?_
  refine congrArg₂ (fun a b : EReal => a * b) ?_ ?_ <;>
    blk_ext [iblk, V, idx t, idx ⟨_, Pipeline.run_point_lt_of_flush t ((flush0_2 t).mp hf) s⟩]

end Cert.GradOutIdeal.Sums

end
-- ==== Proof.FfnReal.lean ====
/- The gradient of the feed-forward half of the block as functions of real entries. -/
module

public import proofs.«01_k».proof.Proof.Lift
public import Mathlib.Algebra.BigOperators.Intervals

@[expose] public section

set_option maxRecDepth 16384

noncomputable section

namespace Cert.Ffn

open Idealize.ShloMosaic Idealize.SL.Sem
open Cert.Mirror

/-- The constant under the square root. -/
def eps : ℝ := 8796093 / 8796093022208

theorem eps_pos : 0 < eps := by unfold eps; norm_num

theorem bits_eps : Ideal.ofBits .f32 0x358637BD#32 = ((eps : ℝ) : EReal) := by
  unfold eps; simp [Ideal.ofBits, Ideal.ieee, -EReal.coe_mul]; norm_num

theorem bits_width : Ideal.ofBits .f32 0x44800000#32 = ((1024 : ℝ) : EReal) := by
  simp [Ideal.ofBits, Ideal.ieee, -EReal.coe_mul]; norm_num

/-- The logistic function. -/
def sg (x : ℝ) : ℝ := 1 / (1 + Real.exp (-x))

theorem sg_coe (x : ℝ) : Ideal.div 1 (1 + Ideal.exp (0 - (x : EReal))) = ((sg x : ℝ) : EReal) := by
  have h : (1 : ℝ) + Real.exp (-x) ≠ 0 := by have := Real.exp_pos (-x); positivity
  rw [← EReal.coe_zero, ← EReal.coe_sub, Ideal.exp_coe, ← EReal.coe_one, ← EReal.coe_add, zero_sub, div_real _ _ h]
  rfl

theorem dot_real {n : ℕ} {f g : Fin n → EReal} {F G : ℕ → ℝ} (hf : ∀ k, f k = ((F k : ℝ) : EReal)) (hg : ∀ k, g k = ((G k : ℝ) : EReal)) :
    (∑ k, f k * g k) = ((∑ k ∈ Finset.range n, F k * G k : ℝ) : EReal) := by
  rw [← coe_sum fun k => F k * G k]
  exact Finset.sum_congr rfl fun k _ => by rw [hf, hg, EReal.coe_mul]

theorem sum_real {n : ℕ} {f : Fin n → EReal} {F : ℕ → ℝ} (hf : ∀ k, f k = ((F k : ℝ) : EReal)) :
    (∑ k, f k) = ((∑ k ∈ Finset.range n, F k : ℝ) : EReal) := by
  rw [← coe_sum F]
  exact Finset.sum_congr rfl fun k _ => hf k

/-- The sum over one head of 64 columns, as a product with the matrix of ones on each head's block. -/
theorem sum_head (f : ℕ → ℝ) (j : ℕ) (hj : j < 512) :
    ∑ k ∈ Finset.range 512, f k * (if k / 64 = j / 64 then 1 else 0) = ∑ m ∈ Finset.range 64, f (64 * (j / 64) + m) := by
  have e : (Finset.range 512).filter (fun k => k / 64 = j / 64) = Finset.Ico (64 * (j / 64)) (64 * (j / 64) + 64) := by
    ext k
    simp only [Finset.mem_filter, Finset.mem_range, Finset.mem_Ico]
    omega
  simp only [mul_ite, mul_one, mul_zero]
  rw [← Finset.sum_filter, e, Finset.sum_Ico_eq_sum_range]
  simp

/-- A sum over 5632 columns, in four parts. -/
theorem sum_four (f : ℕ → ℝ) : ∑ c ∈ Finset.range 5632, f c
    = ∑ c ∈ Finset.range 1408, f c + ∑ c ∈ Finset.range 1408, f (2816 + c) + ∑ c ∈ Finset.range 1408, f (1408 + c)
      + ∑ c ∈ Finset.range 1408, f (4224 + c) := by
  rw [show 5632 = 1408 + 1408 + 1408 + 1408 from rfl, Finset.sum_range_add, Finset.sum_range_add, Finset.sum_range_add]
  ring

/-- What the call is given, as real entries: the incoming gradient, the two halves of the hidden layer, the residual stream, the
    attention's output, and the weights. -/
structure Dat where
  D : ℕ → ℕ → ℝ
  G : ℕ → ℕ → ℝ
  U : ℕ → ℕ → ℝ
  H : ℕ → ℕ → ℝ
  A : ℕ → ℕ → ℝ
  WD : ℕ → ℕ → ℝ
  WG : ℕ → ℕ → ℝ
  WO : ℕ → ℕ → ℝ
  nw : ℕ → ℝ

namespace Dat

variable (S : Dat)

/-- The rows from `o` on. -/
def rows (o : ℕ) : Dat where
  D i := S.D (o + i)
  G i := S.G (o + i)
  U i := S.U (o + i)
  H i := S.H (o + i)
  A i := S.A (o + i)
  WD := S.WD
  WG := S.WG
  WO := S.WO
  nw := S.nw

def DA (i c : ℕ) : ℝ := ∑ k ∈ Finset.range 1024, S.D i k * S.WD c k
def DG (i c : ℕ) : ℝ := S.DA i c * S.U i c * (sg (S.G i c) * (1 + S.G i c * (1 - sg (S.G i c))))
def DU (i c : ℕ) : ℝ := S.DA i c * (S.G i c * sg (S.G i c))
def DGU (i c : ℕ) : ℝ := if c < 2816 then S.DG i c else S.DU i (c - 2816)
def DU2 (i k : ℕ) : ℝ := ∑ c ∈ Finset.range 5632, S.DGU i c * S.WG k c
def MS (i : ℕ) : ℝ := (∑ k ∈ Finset.range 1024, S.H i k * S.H i k) / 1024 + eps
def R (i : ℕ) : ℝ := (Real.sqrt (S.MS i))⁻¹
def NH (i k : ℕ) : ℝ := S.H i k * S.R i
def DN (i k : ℕ) : ℝ := S.DU2 i k * S.nw k
def DOT (i : ℕ) : ℝ := ∑ k ∈ Finset.range 1024, S.DN i k * S.NH i k
def DH (i k : ℕ) : ℝ := S.D i k + S.R i * (S.DN i k - S.NH i k * (S.DOT i / 1024))
def DM (i k : ℕ) : ℝ := ∑ l ∈ Finset.range 1024, S.DH i l * S.WO k l
def DL (i c : ℕ) : ℝ := ∑ e ∈ Finset.range 64, S.DM i (64 * (c / 64) + e) * S.A i (64 * (c / 64) + e)
def NW (n k : ℕ) : ℝ := ∑ i ∈ Finset.range n, S.DU2 i k * S.NH i k

theorem MS_pos (i : ℕ) : 0 < S.MS i := by
  have h := eps_pos
  have h2 : 0 ≤ ∑ k ∈ Finset.range 1024, S.H i k * S.H i k := Finset.sum_nonneg fun k _ => mul_self_nonneg _
  unfold MS
  positivity

theorem DU2_four (i k : ℕ) : S.DU2 i k = ∑ c ∈ Finset.range 1408, S.DG i c * S.WG k c + ∑ c ∈ Finset.range 1408, S.DU i c * S.WG k (2816 + c)
    + ∑ c ∈ Finset.range 1408, S.DG i (1408 + c) * S.WG k (1408 + c) + ∑ c ∈ Finset.range 1408, S.DU i (1408 + c) * S.WG k (4224 + c) := by
  unfold DU2
  rw [sum_four]
  refine congrArg₂ (· + ·) (congrArg₂ (· + ·) (congrArg₂ (· + ·) ?_ ?_) ?_) ?_ <;>
    refine Finset.sum_congr rfl fun c hc => ?_ <;> rw [Finset.mem_range] at hc <;> unfold DGU
  · rw [if_pos (by omega)]
  · rw [if_neg (by omega), show 2816 + c - 2816 = c by omega]
  · rw [if_pos (by omega)]
  · rw [if_neg (by omega), show 4224 + c - 2816 = 1408 + c by omega]

end Dat

end Cert.Ffn

end

end
-- ==== Proof.FfnBlock.lean ====
/- One step of the grid of the feed-forward gradient, over the reals. -/
module

public import proofs.«01_k».proof.Proof.FfnReal
public import proofs.«01_k».proof.Proof.Gen.FfnBwdIdeal.Skeleton

@[expose] public section

set_option maxRecDepth 16384

noncomputable section

namespace Cert.Ffn

open Idealize.ShloMosaic Idealize.SL.Sem
open Cert.Mirror
open Cert.FfnBwdIdeal Cert.FfnBwdIdeal.Gen

variable {S : Dat} {o : ℕ}

theorem lf_pay4 {v3 : Vec Ideal S256x1024 .f32} {v6 : Vec Ideal S1408x1024 .bf16} (h3 : Lf (a := 256) (b := 1024) v3 S.D)
    (h6 : Lf (a := 1408) (b := 1024) v6 fun c k => S.WD (o + c) k) : Lf (a := 256) (b := 1408) (k0_pay4 v3 v6) fun i c => S.DA i (o + c) := by
  intro i c
  pointwise [k0_pay4, k0_pay2]
  exact dot_real (fun k => h3 i k) (fun k => h6 c k)

theorem lf_pay10 {v3 : Vec Ideal S256x1024 .f32} {v6 : Vec Ideal S1408x1024 .bf16} (h3 : Lf (a := 256) (b := 1024) v3 S.D)
    (h6 : Lf (a := 1408) (b := 1024) v6 fun c k => S.WD (o + c) k) : Lf (a := 256) (b := 1408) (k0_pay10 (k0_pay2 v3) v6) fun i c => S.DA i (o + c) := by
  intro i c
  pointwise [k0_pay10, k0_pay2]
  exact dot_real (fun k => h3 i k) (fun k => h6 c k)

theorem gate_real (d u g : ℝ) : (d : EReal) * (u : EReal) * (Ideal.div 1 (1 + Ideal.exp (0 - (g : EReal)))
    * (1 + (g : EReal) * (1 - Ideal.div 1 (1 + Ideal.exp (0 - (g : EReal)))))) = ((d * u * (sg g * (1 + g * (1 - sg g))) : ℝ) : EReal) := by
  rw [sg_coe, ← EReal.coe_one]
  simp only [← EReal.coe_mul, ← EReal.coe_add, ← EReal.coe_sub]

theorem up_real (d g : ℝ) : (d : EReal) * ((g : EReal) * Ideal.div 1 (1 + Ideal.exp (0 - (g : EReal)))) = ((d * (g * sg g) : ℝ) : EReal) := by
  rw [sg_coe]
  simp only [← EReal.coe_mul]

theorem lf_pay7 {v3 : Vec Ideal S256x1024 .f32} {v6 : Vec Ideal S1408x1024 .bf16} {v9 v19 : Vec Ideal S256x1408 .bf16}
    (h3 : Lf (a := 256) (b := 1024) v3 S.D) (h6 : Lf (a := 1408) (b := 1024) v6 fun c k => S.WD (o + c) k)
    (h9 : Lf (a := 256) (b := 1408) v9 fun i c => S.G i (o + c)) (h19 : Lf (a := 256) (b := 1408) v19 fun i c => S.U i (o + c)) :
    Lf (a := 256) (b := 1408) (k0_pay7 v3 v6 v9 v19) fun i c => S.DG i (o + c) := by
  intro i c
  pointwise [k0_pay7, k0_pay6, k0_pay5]
  rw [lf_pay4 h3 h6 i c, h9 i c, h19 i c]
  exact gate_real _ _ _

theorem lf_pay13 {v3 : Vec Ideal S256x1024 .f32} {v6 : Vec Ideal S1408x1024 .bf16} {v9 v19 : Vec Ideal S256x1408 .bf16}
    (h3 : Lf (a := 256) (b := 1024) v3 S.D) (h6 : Lf (a := 1408) (b := 1024) v6 fun c k => S.WD (o + c) k)
    (h9 : Lf (a := 256) (b := 1408) v9 fun i c => S.G i (o + c)) (h19 : Lf (a := 256) (b := 1408) v19 fun i c => S.U i (o + c)) :
    Lf (a := 256) (b := 1408) (k0_pay13 (k0_pay2 v3) v6 v9 v19) fun i c => S.DG i (o + c) := by
  intro i c
  pointwise [k0_pay13, k0_pay12, k0_pay11]
  rw [lf_pay10 h3 h6 i c, h9 i c, h19 i c]
  exact gate_real _ _ _

theorem lf_pay8 {v3 : Vec Ideal S256x1024 .f32} {v6 : Vec Ideal S1408x1024 .bf16} {v9 : Vec Ideal S256x1408 .bf16}
    (h3 : Lf (a := 256) (b := 1024) v3 S.D) (h6 : Lf (a := 1408) (b := 1024) v6 fun c k => S.WD (o + c) k)
    (h9 : Lf (a := 256) (b := 1408) v9 fun i c => S.G i (o + c)) :
    Lf (a := 256) (b := 1408) (k0_pay8 v3 v6 v9) fun i c => S.DU i (o + c) := by
  intro i c
  pointwise [k0_pay8, k0_pay6, k0_pay5]
  rw [lf_pay4 h3 h6 i c, h9 i c]
  exact up_real _ _

theorem lf_pay14 {v3 : Vec Ideal S256x1024 .f32} {v6 : Vec Ideal S1408x1024 .bf16} {v9 : Vec Ideal S256x1408 .bf16}
    (h3 : Lf (a := 256) (b := 1024) v3 S.D) (h6 : Lf (a := 1408) (b := 1024) v6 fun c k => S.WD (o + c) k)
    (h9 : Lf (a := 256) (b := 1408) v9 fun i c => S.G i (o + c)) :
    Lf (a := 256) (b := 1408) (k0_pay14 (k0_pay2 v3) v6 v9) fun i c => S.DU i (o + c) := by
  intro i c
  pointwise [k0_pay14, k0_pay12, k0_pay11]
  rw [lf_pay10 h3 h6 i c, h9 i c]
  exact up_real _ _

theorem lf_pay15 {v30 v33 v68 v71 : FVec Ideal S256x1408 .bf16} {v36 v40 v74 v78 : Vec Ideal S1x1024x1408 .bf16}
    (h30 : Lf (a := 256) (b := 1408) v30 S.DG) (h33 : Lf (a := 256) (b := 1408) v33 S.DU)
    (h68 : Lf (a := 256) (b := 1408) v68 fun i c => S.DG i (1408 + c)) (h71 : Lf (a := 256) (b := 1408) v71 fun i c => S.DU i (1408 + c))
    (h36 : ∀ (k : Fin 1024) (c : Fin 1408), v36 (ix3 0 k c) = ((S.WG k c : ℝ) : EReal))
    (h40 : ∀ (k : Fin 1024) (c : Fin 1408), v40 (ix3 0 k c) = ((S.WG k (2816 + c) : ℝ) : EReal))
    (h74 : ∀ (k : Fin 1024) (c : Fin 1408), v74 (ix3 0 k c) = ((S.WG k (1408 + c) : ℝ) : EReal))
    (h78 : ∀ (k : Fin 1024) (c : Fin 1408), v78 (ix3 0 k c) = ((S.WG k (4224 + c) : ℝ) : EReal)) :
    Lf (a := 256) (b := 1024) (k0_pay15 (k0_pay9 k0_pay3 v30 v33 v36 v40) v68 v71 v74 v78) S.DU2 := by
  intro i k
  pointwise [k0_pay15, k0_pay9, k0_pay3]
  rw [S.DU2_four, EReal.coe_add, EReal.coe_add, EReal.coe_add]
  refine congrArg₂ (fun a b : EReal => a + b) (congrArg₂ (fun a b : EReal => a + b) (congrArg₂ (fun a b : EReal => a + b) ?_ ?_) ?_) ?_
  · exact dot_real (fun c => h30 i c) (fun c => h36 k c)
  · exact dot_real (fun c => h33 i c) (fun c => h40 k c)
  · exact dot_real (F := fun c => S.DG i (1408 + c)) (G := fun c => S.WG k (1408 + c)) (fun c => h68 i c) (fun c => h74 k c)
  · exact dot_real (F := fun c => S.DU i (1408 + c)) (G := fun c => S.WG k (4224 + c)) (fun c => h71 i c) (fun c => h78 k c)

theorem lf_pay17 {v82 : Vec Ideal S256x1024 .f32} (h : Lf (a := 256) (b := 1024) v82 S.H) : Lf (a := 256) (b := 1) (k0_pay17 v82) fun i _ => S.R i := by
  intro i j
  pointwise [k0_pay17, k0_pay16]
  rw [bits_width, bits_eps, dot_real (fun k => h i k) (fun k => h i k), div_real _ _ (by norm_num), ← EReal.coe_add, Ideal.rsqrt_coe]
  have hp := S.MS_pos i
  unfold Dat.MS at hp
  rw [if_neg (not_lt.2 hp.le), if_neg hp.ne']
  rfl

theorem lf_pay18 {v82 : Vec Ideal S256x1024 .f32} (h : Lf (a := 256) (b := 1024) v82 S.H) : Lf (a := 256) (b := 1024) (k0_pay18 v82) S.NH := by
  intro i j
  pointwise [k0_pay18, k0_pay16]
  rw [lf_pay17 h i 0, h i j, ← EReal.coe_mul]
  rfl

section
variable {v43 : FVec Ideal S256x1024 .f32} {v68 v71 : FVec Ideal S256x1408 .bf16} {v74 v78 : Vec Ideal S1x1024x1408 .bf16} {v82 : Vec Ideal S256x1024 .f32}

theorem lf_pay19 {v94 : Vec Ideal S1x1024 .f32} {a : ℕ → ℝ} (hd : Lf (a := 256) (b := 1024) (k0_pay15 v43 v68 v71 v74 v78) S.DU2)
    (h : Lf (a := 256) (b := 1024) v82 S.H) (ha : Lf (a := 1) (b := 1024) v94 fun _ k => a k) :
    Lf (a := 1) (b := 1024) (k0_pay19 v43 v68 v71 v74 v78 v82 v94) fun _ k => a k + S.NW 256 k := by
  intro i k
  pointwise [k0_pay19]
  rw [ha i k, EReal.coe_add]
  exact congrArg _ (dot_real (fun r => hd r k) (fun r => lf_pay18 h r k))

theorem lf_pay20 {v101 : Vec Ideal S1x1024 .f32} (hd : Lf (a := 256) (b := 1024) (k0_pay15 v43 v68 v71 v74 v78) S.DU2)
    (hw : Lf (a := 1) (b := 1024) v101 fun _ k => S.nw k) :
    Lf (a := 256) (b := 1024) (k0_pay20 v43 v68 v71 v74 v78 v101) S.DN := by
  intro i k
  pointwise [k0_pay20]
  rw [hd i k, hw 0 k, ← EReal.coe_mul]
  rfl

theorem lf_pay21 {v101 : Vec Ideal S1x1024 .f32} (hd : Lf (a := 256) (b := 1024) (k0_pay15 v43 v68 v71 v74 v78) S.DU2)
    (h : Lf (a := 256) (b := 1024) v82 S.H) (hw : Lf (a := 1) (b := 1024) v101 fun _ k => S.nw k) :
    Lf (a := 256) (b := 1024) (k0_pay21 v43 v68 v71 v74 v78 v82 v101) fun i k => S.DN i k * S.NH i k := by
  intro i k
  pointwise [k0_pay21]
  rw [lf_pay20 hd hw i k, lf_pay18 h i k, ← EReal.coe_mul]

end

section
variable {v91 : FVec Ideal S256x1 .f32} {v93 v103 v105 : FVec Ideal S256x1024 .f32} {v104 : Vec Ideal S256x1024 .f32} {v118 : Vec Ideal S1024x1024 .bf16}
  (h91 : Lf (a := 256) (b := 1) v91 fun i _ => S.R i) (h93 : Lf (a := 256) (b := 1024) v93 S.NH) (h103 : Lf (a := 256) (b := 1024) v103 S.DN)
  (h104 : Lf (a := 256) (b := 1024) v104 S.D) (h105 : Lf (a := 256) (b := 1024) v105 fun i k => S.DN i k * S.NH i k)

include h91 h93 h103 h104 h105

theorem lf_pay22 : Lf (a := 256) (b := 1024) (k0_pay22 v91 v93 v103 v104 v105) S.DH := by
  intro i k
  pointwise [k0_pay22]
  rw [h91 i 0, h93 i k, h103 i k, h104 i k, bits_width, sum_real (F := fun k => S.DN i k * S.NH i k) (fun k => h105 i k), div_real _ _ (by norm_num)]
  simp only [← EReal.coe_mul, ← EReal.coe_add, ← EReal.coe_sub]
  rfl

variable (h118 : Lf (a := 1024) (b := 1024) v118 S.WO)
include h118

theorem lf_pay23 : Lf (a := 256) (b := 1024) (k0_pay23 v91 v93 v103 v104 v105 v118) S.DM := by
  intro i k
  pointwise [k0_pay23]
  exact dot_real (fun l => lf_pay22 h91 h93 h103 h104 h105 i l) (fun l => h118 k l)

theorem lf_pay24 : Lf (a := 256) (b := 512) (k0_pay24 v91 v93 v103 v104 v105 v118) S.DM := by
  intro i k
  pointwise [k0_pay24]
  exact lf_pay23 h91 h93 h103 h104 h105 h118 i ⟨k, by omega⟩

theorem lf_pay25 : Lf (a := 256) (b := 512) (k0_pay25 v91 v93 v103 v104 v105 v118) fun i k => S.DM i (512 + k) := by
  intro i k
  pointwise [k0_pay25]
  exact lf_pay23 h91 h93 h103 h104 h105 h118 i ⟨512 + k, by omega⟩

theorem lf_pay26 {v125 : Vec Ideal S256x512 .f32} {v131 : Vec Ideal S512x512 .bf16} (h125 : Lf (a := 256) (b := 512) v125 S.A)
    (h131 : Lf (a := 512) (b := 512) v131 fun k j => if k / 64 = j / 64 then 1 else 0) :
    Lf (a := 256) (b := 512) (k0_pay26 v91 v93 v103 v104 v105 v118 v125 v131 v131) S.DL := by
  intro i j
  pointwise [k0_pay26]
  refine (congrArg₂ (fun a b : EReal => a + b) (dot_real (F := fun k => S.DM i k * S.A i k) (G := fun k => if k / 64 = (j : ℕ) / 64 then 1 else 0) (fun k => ?_) (fun k => h131 k j))
    (dot_real (F := fun _ => 0) (G := fun k => if k / 64 = (j : ℕ) / 64 then 1 else 0) (fun k => ?_) (fun k => h131 k j))).trans ?_
  · rw [lf_pay24 h91 h93 h103 h104 h105 h118 i k, h125 i k, EReal.coe_mul]
  · rw [lf_pay24 h91 h93 h103 h104 h105 h118 i k, h125 i k, ← EReal.coe_mul, ← EReal.coe_sub, sub_self]
  · rw [← EReal.coe_add]
    simp only [zero_mul, Finset.sum_const_zero, add_zero]
    rw [sum_head (fun k => S.DM i k * S.A i k) j j.2]
    rfl

end

end Cert.Ffn

end

end
-- ==== Proof.FfnGrid.lean ====
/- The whole grid of the feed-forward gradient over the reals: what its outputs hold after the last point. -/
module

public import proofs.«01_k».proof.Proof.FfnBlock
public import proofs.«01_k».proof.Proof.Gen.FfnBwdIdeal.Value
public import Idealize.ShloMosaic.Lib.Pipeline.ValueKit
public import Idealize.ShloMosaic.Lib.Pipeline.ReadBack

@[expose] public section

set_option maxRecDepth 16384

noncomputable section

namespace Cert.Ffn

open Idealize.ShloMosaic Idealize.ShloMosaic.TcCoe Idealize.SL.Sem
open Cert.Mirror
open Cert.FfnBwdIdeal Cert.FfnBwdIdeal.Gen

theorem lf_ld {A B a b : ℕ} (o0 o1 : ℕ) (v : (⟨2, ![A, B]⟩ : Shape).Idx → Elt Ideal .f32) {r : ℕ → ℕ → ℝ} (h : Lf v r)
    (inb : ∀ d, (![o0, o1] : Fin 2 → ℕ) d + (![a, b] : Fin 2 → ℕ) d ≤ (⟨2, ![A, B]⟩ : Shape).size d) :
    Lf (a := a) (b := b) (View.ld (Val := Elt Ideal) (e' := .f32) v (Rect.unit (s := ⟨2, ![A, B]⟩) ![o0, o1] ![a, b] inb)) fun i j => r (o0 + i) (o1 + j) := by
  intro i j
  have h0 := inb 0
  have h1 := inb 1
  simp at h0 h1
  refine (View.ld_unit_apply_of (Val := Elt Ideal) v ![o0, o1] _ inb (ix2 i j) (ix2 (n0 := A) (n1 := B) ⟨o0 + i, by omega⟩ ⟨o1 + j, by omega⟩) fun d => ?_).trans (h _ _)
  fin_cases d <;> rfl

theorem lf_ld0 {A B a b : ℕ} (o0 : ℕ) (v : (⟨2, ![A, B]⟩ : Shape).Idx → Elt Ideal .f32) {r : ℕ → ℕ → ℝ} (h : Lf v r)
    (inb : ∀ d, (![o0, 0] : Fin 2 → ℕ) d + (![a, b] : Fin 2 → ℕ) d ≤ (⟨2, ![A, B]⟩ : Shape).size d) :
    Lf (a := a) (b := b) (View.ld (Val := Elt Ideal) (e' := .f32) v (Rect.unit (s := ⟨2, ![A, B]⟩) ![o0, 0] ![a, b] inb)) fun i j => r (o0 + i) j :=
  (lf_ld o0 0 v h inb).congr fun i _ j _ => by rw [Nat.zero_add]

theorem lf_ld1 {A B a b : ℕ} (o1 : ℕ) (v : (⟨2, ![A, B]⟩ : Shape).Idx → Elt Ideal .f32) {r : ℕ → ℕ → ℝ} (h : Lf v r)
    (inb : ∀ d, (![0, o1] : Fin 2 → ℕ) d + (![a, b] : Fin 2 → ℕ) d ≤ (⟨2, ![A, B]⟩ : Shape).size d) :
    Lf (a := a) (b := b) (View.ld (Val := Elt Ideal) (e' := .f32) v (Rect.unit (s := ⟨2, ![A, B]⟩) ![0, o1] ![a, b] inb)) fun i j => r i (o1 + j) :=
  (lf_ld 0 o1 v h inb).congr fun i _ j _ => by rw [Nat.zero_add]

/-- The blocks of one point hold the rows `S`. -/
structure Blk (S : Dat) (x0 : Vec Ideal S256x1024 .f32) (x1 : Vec Ideal S2816x1024 .bf16) (x2 x3 : Vec Ideal S256x2816 .bf16)
    (x4 : Vec Ideal S4x1024x1408 .bf16) (x5 : Vec Ideal S256x1024 .f32) (x6 : Vec Ideal S1x1024 .f32) (x7 : Vec Ideal S1024x1024 .bf16)
    (x8 : Vec Ideal S256x512 .f32) (x9 : Vec Ideal S512x512 .bf16) : Prop where
  d : Lf (a := 256) (b := 1024) x0 S.D
  wd : Lf (a := 2816) (b := 1024) x1 S.WD
  g : Lf (a := 256) (b := 2816) x2 S.G
  u : Lf (a := 256) (b := 2816) x3 S.U
  wg : ∀ (q : Fin 4) (k : Fin 1024) (l : Fin 1408), x4 (ix3 q k l) = ((S.WG k (1408 * q + l) : ℝ) : EReal)
  h : Lf (a := 256) (b := 1024) x5 S.H
  nw : Lf (a := 1) (b := 1024) x6 fun _ k => S.nw k
  wo : Lf (a := 1024) (b := 1024) x7 S.WO
  a : Lf (a := 256) (b := 512) x8 S.A
  hm : Lf (a := 512) (b := 512) x9 fun i j => if i / 64 = j / 64 then 1 else 0

section
variable {S : Dat} {x0 : Vec Ideal S256x1024 .f32} {x1 : Vec Ideal S2816x1024 .bf16} {x2 x3 : Vec Ideal S256x2816 .bf16}
    {x4 : Vec Ideal S4x1024x1408 .bf16} {x5 : Vec Ideal S256x1024 .f32} {x6 : Vec Ideal S1x1024 .f32} {x7 : Vec Ideal S1024x1024 .bf16}
    {x8 : Vec Ideal S256x512 .f32} {x9 : Vec Ideal S512x512 .bf16} (Hb : Blk S x0 x1 x2 x3 x4 x5 x6 x7 x8 x9)

variable (x0 x1 x2 x3 x4) in
abbrev g0 : FVec Ideal S256x1408 .bf16 := k0_pay7 x0 (View.ld x1 (Rect.unit ![0, 0] ![1408, 1024] inb_S2816x1024_S1408x1024_0_0))
  (View.ld x2 (Rect.unit ![0, 0] ![256, 1408] inb_S256x2816_S256x1408_0_0)) (View.ld x3 (Rect.unit ![0, 0] ![256, 1408] inb_S256x2816_S256x1408_0_0))

variable (x0 x1 x2) in
abbrev u0 : FVec Ideal S256x1408 .bf16 := k0_pay8 x0 (View.ld x1 (Rect.unit ![0, 0] ![1408, 1024] inb_S2816x1024_S1408x1024_0_0))
  (View.ld x2 (Rect.unit ![0, 0] ![256, 1408] inb_S256x2816_S256x1408_0_0))

variable (x0 x1 x2 x3) in
abbrev g1 : FVec Ideal S256x1408 .bf16 := k0_pay13 (k0_pay2 x0) (View.ld x1 (Rect.unit ![1408, 0] ![1408, 1024] inb_S2816x1024_S1408x1024_1408_0))
  (View.ld x2 (Rect.unit ![0, 1408] ![256, 1408] inb_S256x2816_S256x1408_0_1408)) (View.ld x3 (Rect.unit ![0, 1408] ![256, 1408] inb_S256x2816_S256x1408_0_1408))

variable (x0 x1 x2) in
abbrev u1 : FVec Ideal S256x1408 .bf16 := k0_pay14 (k0_pay2 x0) (View.ld x1 (Rect.unit ![1408, 0] ![1408, 1024] inb_S2816x1024_S1408x1024_1408_0))
  (View.ld x2 (Rect.unit ![0, 1408] ![256, 1408] inb_S256x2816_S256x1408_0_1408))

variable (x4) in
abbrev w0 : Vec Ideal S1x1024x1408 .bf16 := View.ld x4 (Rect.unit ![0, 0, 0] ![1, 1024, 1408] inb_S4x1024x1408_S1x1024x1408_0_0_0)
variable (x4) in
abbrev w1 : Vec Ideal S1x1024x1408 .bf16 := View.ld x4 (Rect.unit ![1, 0, 0] ![1, 1024, 1408] inb_S4x1024x1408_S1x1024x1408_1_0_0)
variable (x4) in
abbrev w2 : Vec Ideal S1x1024x1408 .bf16 := View.ld x4 (Rect.unit ![2, 0, 0] ![1, 1024, 1408] inb_S4x1024x1408_S1x1024x1408_2_0_0)
variable (x4) in
abbrev w3 : Vec Ideal S1x1024x1408 .bf16 := View.ld x4 (Rect.unit ![3, 0, 0] ![1, 1024, 1408] inb_S4x1024x1408_S1x1024x1408_3_0_0)

variable (x0 x1 x2 x3 x4) in
abbrev s0 : FVec Ideal S256x1024 .f32 := k0_pay9 k0_pay3 (g0 x0 x1 x2 x3) (u0 x0 x1 x2) (w0 x4) (w2 x4)

include Hb

theorem lf_g0 : Lf (a := 256) (b := 1408) (g0 x0 x1 x2 x3) S.DG :=
  (lf_pay7 (S := S) (o := 0) Hb.d (lf_ld0 0 x1 Hb.wd inb_S2816x1024_S1408x1024_0_0) (lf_ld1 0 x2 Hb.g inb_S256x2816_S256x1408_0_0) (lf_ld1 0 x3 Hb.u inb_S256x2816_S256x1408_0_0)).congr (r := fun i l => S.DG i (0 + l)) fun i _ j _ => by rw [Nat.zero_add]

theorem lf_u0 : Lf (a := 256) (b := 1408) (u0 x0 x1 x2) S.DU :=
  (lf_pay8 (S := S) (o := 0) Hb.d (lf_ld0 0 x1 Hb.wd inb_S2816x1024_S1408x1024_0_0) (lf_ld1 0 x2 Hb.g inb_S256x2816_S256x1408_0_0)).congr (r := fun i l => S.DU i (0 + l)) fun i _ j _ => by rw [Nat.zero_add]

theorem lf_g1 : Lf (a := 256) (b := 1408) (g1 x0 x1 x2 x3) fun i l => S.DG i (1408 + l) :=
  lf_pay13 (S := S) (o := 1408) Hb.d (lf_ld0 1408 x1 Hb.wd inb_S2816x1024_S1408x1024_1408_0) (lf_ld1 1408 x2 Hb.g inb_S256x2816_S256x1408_0_1408) (lf_ld1 1408 x3 Hb.u inb_S256x2816_S256x1408_0_1408)

theorem lf_u1 : Lf (a := 256) (b := 1408) (u1 x0 x1 x2) fun i l => S.DU i (1408 + l) :=
  lf_pay14 (S := S) (o := 1408) Hb.d (lf_ld0 1408 x1 Hb.wd inb_S2816x1024_S1408x1024_1408_0) (lf_ld1 1408 x2 Hb.g inb_S256x2816_S256x1408_0_1408)

theorem w0_at (k : Fin 1024) (l : Fin 1408) : w0 x4 (ix3 0 k l) = ((S.WG k l : ℝ) : EReal) := by
  refine ((View.ld_unit_apply_of _ _ _ _ _ (ix3 (n0 := 4) 0 k l) fun d => ?_).trans (Hb.wg 0 k l)).trans ?_
  · fin_cases d <;> simp
  · simp
theorem w1_at (k : Fin 1024) (l : Fin 1408) : w1 x4 (ix3 0 k l) = ((S.WG k (1408 + l) : ℝ) : EReal) := by
  refine ((View.ld_unit_apply_of _ _ _ _ _ (ix3 (n0 := 4) 1 k l) fun d => ?_).trans (Hb.wg 1 k l)).trans ?_
  · fin_cases d <;> simp
  · simp
theorem w2_at (k : Fin 1024) (l : Fin 1408) : w2 x4 (ix3 0 k l) = ((S.WG k (2816 + l) : ℝ) : EReal) := by
  refine ((View.ld_unit_apply_of _ _ _ _ _ (ix3 (n0 := 4) 2 k l) fun d => ?_).trans (Hb.wg 2 k l)).trans ?_
  · fin_cases d <;> simp
  · simp
theorem w3_at (k : Fin 1024) (l : Fin 1408) : w3 x4 (ix3 0 k l) = ((S.WG k (4224 + l) : ℝ) : EReal) := by
  refine ((View.ld_unit_apply_of _ _ _ _ _ (ix3 (n0 := 4) 3 k l) fun d => ?_).trans (Hb.wg 3 k l)).trans ?_
  · fin_cases d <;> simp
  · simp

theorem lf_du2 : Lf (a := 256) (b := 1024) (k0_pay15 (s0 x0 x1 x2 x3 x4) (g1 x0 x1 x2 x3) (u1 x0 x1 x2) (w1 x4) (w3 x4)) S.DU2 :=
  lf_pay15 (lf_g0 Hb) (lf_u0 Hb) (lf_g1 Hb) (lf_u1 Hb) (w0_at Hb) (w2_at Hb) (w1_at Hb) (w3_at Hb)

theorem lf_dh : Lf (a := 256) (b := 1024) (k0_pay22 (k0_pay17 x5) (k0_pay18 x5)
    (k0_pay20 (s0 x0 x1 x2 x3 x4) (g1 x0 x1 x2 x3) (u1 x0 x1 x2) (w1 x4) (w3 x4) x6) x0
    (k0_pay21 (s0 x0 x1 x2 x3 x4) (g1 x0 x1 x2 x3) (u1 x0 x1 x2) (w1 x4) (w3 x4) x5 x6)) S.DH :=
  lf_pay22 (lf_pay17 Hb.h) (lf_pay18 Hb.h) (lf_pay20 (lf_du2 Hb) Hb.nw) Hb.d (lf_pay21 (lf_du2 Hb) Hb.h Hb.nw)

theorem lf_da : Lf (a := 256) (b := 512) (k0_pay24 (k0_pay17 x5) (k0_pay18 x5)
    (k0_pay20 (s0 x0 x1 x2 x3 x4) (g1 x0 x1 x2 x3) (u1 x0 x1 x2) (w1 x4) (w3 x4) x6) x0
    (k0_pay21 (s0 x0 x1 x2 x3 x4) (g1 x0 x1 x2 x3) (u1 x0 x1 x2) (w1 x4) (w3 x4) x5 x6) x7) S.DM :=
  lf_pay24 (lf_pay17 Hb.h) (lf_pay18 Hb.h) (lf_pay20 (lf_du2 Hb) Hb.nw) Hb.d (lf_pay21 (lf_du2 Hb) Hb.h Hb.nw) Hb.wo

theorem lf_db : Lf (a := 256) (b := 512) (k0_pay25 (k0_pay17 x5) (k0_pay18 x5)
    (k0_pay20 (s0 x0 x1 x2 x3 x4) (g1 x0 x1 x2 x3) (u1 x0 x1 x2) (w1 x4) (w3 x4) x6) x0
    (k0_pay21 (s0 x0 x1 x2 x3 x4) (g1 x0 x1 x2 x3) (u1 x0 x1 x2) (w1 x4) (w3 x4) x5 x6) x7) fun i k => S.DM i (512 + k) :=
  lf_pay25 (lf_pay17 Hb.h) (lf_pay18 Hb.h) (lf_pay20 (lf_du2 Hb) Hb.nw) Hb.d (lf_pay21 (lf_du2 Hb) Hb.h Hb.nw) Hb.wo

theorem lf_dl : Lf (a := 256) (b := 512) (k0_pay26 (k0_pay17 x5) (k0_pay18 x5)
    (k0_pay20 (s0 x0 x1 x2 x3 x4) (g1 x0 x1 x2 x3) (u1 x0 x1 x2) (w1 x4) (w3 x4) x6) x0
    (k0_pay21 (s0 x0 x1 x2 x3 x4) (g1 x0 x1 x2 x3) (u1 x0 x1 x2) (w1 x4) (w3 x4) x5 x6) x7 x8 x9 x9) S.DL :=
  lf_pay26 (lf_pay17 Hb.h) (lf_pay18 Hb.h) (lf_pay20 (lf_du2 Hb) Hb.nw) Hb.d (lf_pay21 (lf_du2 Hb) Hb.h Hb.nw) Hb.wo Hb.a Hb.hm

theorem lf_nw {v : Vec Ideal S1x1024 .f32} {a : ℕ → ℝ} (hv : Lf (a := 1) (b := 1024) v fun _ k => a k) : Lf (a := 1) (b := 1024)
    (k0_pay19 (s0 x0 x1 x2 x3 x4) (g1 x0 x1 x2 x3) (u1 x0 x1 x2) (w1 x4) (w3 x4) x5 v) fun _ k => a k + S.NW 256 k :=
  lf_pay19 (lf_du2 Hb) Hb.h hv

end

variable (m : (ℓ : Loc nD τ sig) → Buf (Elt Ideal) ℓ) (c : Dev nD)

/-- The six outputs of one point. -/
structure Out (S : Dat) (a : ℕ → ℝ) (p : Vec Ideal S256x5632 .bf16 × Vec Ideal S256x1024 .f32 × Vec Ideal S256x512 .f32 × Vec Ideal S256x512 .f32
    × Vec Ideal S256x512 .f32 × Vec Ideal S8x1024 .f32) : Prop where
  gu : Lf (a := 256) (b := 5632) p.1 S.DGU
  dh : Lf (a := 256) (b := 1024) p.2.1 S.DH
  da : Lf (a := 256) (b := 512) p.2.2.1 S.DM
  db : Lf (a := 256) (b := 512) p.2.2.2.1 fun i k => S.DM i (512 + k)
  dl : Lf (a := 256) (b := 512) p.2.2.2.2.1 S.DL
  nw : Lf (a := 8) (b := 1024) p.2.2.2.2.2 fun i k => if i = 0 then a k else 0

abbrev Blk_at (S : Dat) (t : Fin cfg0.N) : Prop := Blk S (iblk m c 0 t) (iblk m c 1 t) (iblk m c 2 t) (iblk m c 3 t) (iblk m c 4 t) (iblk m c 5 t)
  (iblk m c 6 t) (iblk m c 7 t) (iblk m c 8 t) (iblk m c 9 t)

/-- Row 0 of the summed rows. -/
abbrev r0 : Rect S8x1024 := Rect.unit ![0, 0] ![1, 1024] inb_S8x1024_S1x1024_0_0

theorem r0_emb (k : Fin 1024) : r0.emb (ix2 (n0 := 1) 0 k) = ix2 (n0 := 8) 0 k := by
  funext a
  apply Fin.ext
  have e : ((r0.idx (ix2 (n0 := 1) 0 k)) a : ℕ) = (![0, 0] : Fin 2 → ℕ) a + ((ix2 (n0 := 1) 0 k : S1x1024.Idx) a : ℕ) := Rect.idx_unit_val _ _ _ _ _
  refine e.trans ?_
  fin_cases a <;> simp

theorem r0_rest (i : Fin 8) (k : Fin 1024) (h : (i : ℕ) ≠ 0) : (ix2 i k : S8x1024.Idx) ∉ r0.set := by
  intro hm
  obtain ⟨z, hz⟩ := r0.exists_idx_of_mem hm
  have h0 : ((r0.idx z) 0 : ℕ) = (i : ℕ) := congrArg (fun y : S8x1024.Idx => (y 0 : ℕ)) hz
  have e1 : ((r0.idx z) 0 : ℕ) = 0 + (z 0 : ℕ) := Rect.idx_unit_val _ _ _ _ _
  have hz0 : (z 0 : ℕ) < 1 := (z 0).isLt
  omega

theorem r0_mem (k : Fin 1024) : (ix2 (n0 := 8) 0 k : S8x1024.Idx) ∈ r0.set := by
  rw [← r0_emb, ← Rect.map_emb_univ]; exact Finset.mem_map_of_mem _ (Finset.mem_univ _)

theorem pay1_at (j : S8x1024.Idx) : k0_pay1 (F := Ideal) j = 0 := by pointwise [k0_pay1]

/-- The fill the first point starts from. -/
abbrev fill {F : FTy → Type} [FloatOps F] : View.Piece (Elt F) S8x1024 .f32 := ⟨Rect.unit (s := S8x1024) ![0, 0] S8x1024.size inb_S8x1024_S8x1024_0_0, k0_pay1⟩

theorem canon_fill : View.canon [fill (F := Ideal)] = k0_pay1 (F := Ideal) :=
  View.canon_cons_unit_lit (S := S8x1024) (off := ![0, 0]) _ _ _ (by intro a; fin_cases a <;> rfl)

abbrev P0 (w : S1x1024.Idx → Elt Ideal .f32) : View.Piece (Elt Ideal) S8x1024 .f32 := ⟨r0, w⟩

theorem can_row (w : S1x1024.Idx → Elt Ideal .f32) (L : List (View.Piece (Elt Ideal) S8x1024 .f32)) (k : Fin 1024) :
    View.canon (P0 w :: L) (ix2 (n0 := 8) 0 k) = w (ix2 (n0 := 1) 0 k) := by
  rw [← r0_emb]; exact View.canon_cons_emb r0 w L _

theorem can_rest (w : S1x1024.Idx → Elt Ideal .f32) (L : List (View.Piece (Elt Ideal) S8x1024 .f32)) (i : Fin 8) (k : Fin 1024) (h : (i : ℕ) ≠ 0) :
    View.canon (P0 w :: L) (ix2 i k) = View.canon L (ix2 i k) :=
  View.canon_cons_of_not_mem (P0 w) L (r0_rest i k h)

theorem wr_row {sg : RefSig} {κ : Kind} {sp : Space} (v : View sg κ sp S8x1024 .f32) (z) (w : S1x1024.Idx → Elt Ideal .f32)
    (L : List (View.Piece (Elt Ideal) S8x1024 .f32)) (k : Fin 1024) :
    v.read (Elt Ideal) (v.writes (Elt Ideal) z (P0 w :: L)) (ix2 (n0 := 8) 0 k) = w (ix2 (n0 := 1) 0 k) := by
  rw [View.read_writes_apply_eq_canon _ _ _ _ ⟨P0 w, List.mem_cons_self, r0_mem k⟩]
  exact can_row w L k

theorem wr_rest {sg : RefSig} {κ : Kind} {sp : Space} (v : View sg κ sp S8x1024 .f32) (z) (w : S1x1024.Idx → Elt Ideal .f32)
    (L : List (View.Piece (Elt Ideal) S8x1024 .f32)) (i : Fin 8) (k : Fin 1024) (h : (i : ℕ) ≠ 0) :
    v.read (Elt Ideal) (v.writes (Elt Ideal) z (P0 w :: L)) (ix2 i k) = v.read (Elt Ideal) (v.writes (Elt Ideal) z L) (ix2 i k) := by
  have hn := r0_rest i k h
  rw [← Rect.map_emb_univ] at hn
  rw [View.writes_cons]
  exact View.read_slice_write_of_not_mem _ _ _ _ hn

variable {m c} {S : Dat} {a : ℕ → ℝ}

theorem tile_at {p : Vec Ideal S256x1408 .bf16} {r : ℕ → ℕ → ℝ} (hp : Lf (a := 256) (b := 1408) p r) (x : S256x1408.Idx) {v : ℝ}
    (e : r (x 0) (x 1) = v) : p x = (v : EReal) := by
  rw [← e]
  obtain ⟨i, j, rfl⟩ : ∃ (i : Fin 256) (j : Fin 1408), x = ix2 i j := ⟨x 0, x 1, eq_ix2 x⟩
  exact hp i j

theorem gu_lo {i j : ℕ} (x : S256x1408.Idx) (o : ℕ) (h0 : i = x 0) (h1 : j = o + x 1) (ho : o ≤ 1408) : S.DG (x 0) (o + x 1) = S.DGU i j := by
  have hx : (x 1).val < 1408 := (x 1).isLt
  unfold Dat.DGU
  rw [if_pos (by omega), h0, h1]

theorem gu_hi {i j : ℕ} (x : S256x1408.Idx) (o : ℕ) (h0 : i = x 0) (h1 : j = 2816 + o + x 1) : S.DU (x 0) (o + x 1) = S.DGU i j := by
  have hx : (x 1).val < 1408 := (x 1).isLt
  unfold Dat.DGU
  rw [if_neg (by omega), h0, h1]
  congr 1
  omega

theorem out_A (t : Fin cfg0.N) (h : t.val % 32 = 0) (Hb : Blk_at m c S t) : Out S (S.NW 256) (outsAt0 m c t.val t.isLt) where
  gu := by
    intro i j
    show _ = ((S.DGU (((ix2 i j : S256x5632.Idx) 0 : Fin 256) : ℕ) (((ix2 i j : S256x5632.Idx) 1 : Fin 5632) : ℕ) : ℝ) : EReal)
    generalize (ix2 i j : S256x5632.Idx) = y
    rw [outsAt0_A m c t h]; frame_out
    canon_tiles x h
    · exact tile_at (lf_u1 Hb) x (gu_hi x 1408 h0 h1)
    · exact tile_at (lf_g1 Hb) x (gu_lo x 1408 h0 h1 le_rfl)
    · exact tile_at (lf_u0 Hb) x ((congrArg (S.DU (x 0)) (Nat.zero_add _).symm).trans (gu_hi x 0 h0 h1))
    · exact tile_at (lf_g0 Hb) x ((congrArg (S.DG (x 0)) (Nat.zero_add _).symm).trans (gu_lo x 0 h0 (h1.trans (Nat.zero_add _).symm) (by decide)))
  dh := by
    rw [outsAt0_A m c t h]; frame_out
    exact lf_dh Hb
  da := by
    rw [outsAt0_A m c t h]; frame_out
    exact lf_da Hb
  db := by
    rw [outsAt0_A m c t h]; frame_out
    exact lf_db Hb
  dl := by
    rw [outsAt0_A m c t h]; frame_out
    exact lf_dl Hb
  nw := by
    rw [outsAt0_A m c t h]; frame_out
    intro i k
    by_cases h : (i : ℕ) = 0
    · obtain rfl : i = 0 := Fin.ext h
      refine Eq.trans ?_ (congrArg _ (if_pos h)).symm
      refine (can_row _ _ k).trans ((lf_nw Hb (a := fun _ => 0) (fun i k => ?_) 0 k).trans (congrArg _ (zero_add _)))
      rw [View.readCov_eq_canon']
      exact (congrFun canon_fill _).trans ((pay1_at _).trans EReal.coe_zero.symm)
    · refine Eq.trans ?_ (congrArg _ (if_neg h)).symm
      refine (can_rest _ _ i k h).trans ?_
      exact (congrFun canon_fill _).trans ((pay1_at _).trans EReal.coe_zero.symm)

theorem out_B (t : Fin cfg0.N) (h : ¬t.val % 32 = 0) (Hb : Blk_at m c S t)
    (ha : Lf (a := 8) (b := 1024) (outsAt0 m c (t.val - 1) (Nat.lt_of_le_of_lt (Nat.sub_le _ _) t.isLt)).2.2.2.2.2 fun i k => if i = 0 then a k else 0) :
    Out S (fun k => a k + S.NW 256 k) (outsAt0 m c t.val t.isLt) where
  gu := by
    intro i j
    show _ = ((S.DGU (((ix2 i j : S256x5632.Idx) 0 : Fin 256) : ℕ) (((ix2 i j : S256x5632.Idx) 1 : Fin 5632) : ℕ) : ℝ) : EReal)
    generalize (ix2 i j : S256x5632.Idx) = y
    rw [outsAt0_B m c t h]; frame_out
    canon_tiles x h
    · exact tile_at (lf_u1 Hb) x (gu_hi x 1408 h0 h1)
    · exact tile_at (lf_g1 Hb) x (gu_lo x 1408 h0 h1 le_rfl)
    · exact tile_at (lf_u0 Hb) x ((congrArg (S.DU (x 0)) (Nat.zero_add _).symm).trans (gu_hi x 0 h0 h1))
    · exact tile_at (lf_g0 Hb) x ((congrArg (S.DG (x 0)) (Nat.zero_add _).symm).trans (gu_lo x 0 h0 (h1.trans (Nat.zero_add _).symm) (by decide)))
  dh := by
    rw [outsAt0_B m c t h]; frame_out
    exact lf_dh Hb
  da := by
    rw [outsAt0_B m c t h]; frame_out
    exact lf_da Hb
  db := by
    rw [outsAt0_B m c t h]; frame_out
    exact lf_db Hb
  dl := by
    rw [outsAt0_B m c t h]; frame_out
    exact lf_dl Hb
  nw := by
    rw [outsAt0_B m c t h]; frame_out
    generalize (outsAt0 m c (t.val - 1) (Nat.lt_of_le_of_lt (Nat.sub_le _ _) t.isLt)).2.2.2.2.2 = A at ha ⊢
    intro i k
    by_cases h : (i : ℕ) = 0
    · obtain rfl : i = 0 := Fin.ext h
      refine Eq.trans ?_ (congrArg _ (if_pos h)).symm
      refine (wr_row _ _ _ _ k).trans ?_
      refine lf_nw Hb (fun i k => ?_) 0 k
      refine ((lf_ld0 0 A ha inb_S8x1024_S1x1024_0_0) i k).trans (congrArg _ (if_pos ?_))
      omega
    · refine Eq.trans ?_ (congrArg _ (if_neg h)).symm
      refine (wr_rest _ _ _ _ i k h).trans ?_
      rw [View.writes_nil, Memref.IsWhole.read_unread]
      exact (ha i k).trans (congrArg _ (if_neg h))

/-- The blocks of every window at a point. -/
theorem idx : ∀ t : Fin cfg0.N, win0_0.index t = ![t.val, 0] ∧ win0_1.index t = ![0, 0] ∧ win0_2.index t = ![t.val, 0] ∧ win0_3.index t = ![t.val, 0] ∧ win0_4.index t = ![0, 0, 0] ∧ win0_5.index t = ![t.val, 0] ∧ win0_6.index t = ![0, 0] ∧ win0_7.index t = ![0, 0] ∧ win0_8.index t = ![t.val, 0] ∧ win0_9.index t = ![0, 0] ∧ win0_10.index t = ![t.val, 0] ∧ win0_11.index t = ![t.val, 0] ∧ win0_12.index t = ![t.val, 0] ∧ win0_13.index t = ![t.val, 0] ∧ win0_14.index t = ![t.val, 0] ∧ win0_15.index t = ![0, 0] :=
  (by decide +kernel : ∀ t : Fin grid0.N, win0_0.index t = ![t.val, 0] ∧ win0_1.index t = ![0, 0] ∧ win0_2.index t = ![t.val, 0] ∧ win0_3.index t = ![t.val, 0] ∧ win0_4.index t = ![0, 0, 0] ∧ win0_5.index t = ![t.val, 0] ∧ win0_6.index t = ![0, 0] ∧ win0_7.index t = ![0, 0] ∧ win0_8.index t = ![t.val, 0] ∧ win0_9.index t = ![0, 0] ∧ win0_10.index t = ![t.val, 0] ∧ win0_11.index t = ![t.val, 0] ∧ win0_12.index t = ![t.val, 0] ∧ win0_13.index t = ![t.val, 0] ∧ win0_14.index t = ![t.val, 0] ∧ win0_15.index t = ![0, 0])

theorem lt32 (t : Fin cfg0.N) : t.val < 32 := Nat.lt_of_lt_of_eq t.isLt N_0

section
variable (m c)

theorem read0 (t : Fin cfg0.N) (i : Fin 256) (j : Fin 1024) (h : 256 * t.val + i < 8192) :
    iblk m c 0 t (ix2 i j) = V m c main_arg0 (ix2 (⟨256 * t.val + i, h⟩ : Fin 8192) j) := by
  blk_ext [iblk, idx t]

theorem read1 (t : Fin cfg0.N) (i : Fin 2816) (j : Fin 1024) : iblk m c 1 t (ix2 i j) = V m c main_v20 (ix2 i j) := by
  blk_ext [iblk, idx t]

theorem read2 (t : Fin cfg0.N) (i : Fin 256) (j : Fin 2816) (h : 256 * t.val + i < 8192) :
    iblk m c 2 t (ix2 i j) = V m c main_v17 (ix2 (⟨256 * t.val + i, h⟩ : Fin 8192) j) := by
  blk_ext [iblk, idx t]

theorem read3 (t : Fin cfg0.N) (i : Fin 256) (j : Fin 2816) (h : 256 * t.val + i < 8192) :
    iblk m c 3 t (ix2 i j) = V m c main_v19 (ix2 (⟨256 * t.val + i, h⟩ : Fin 8192) j) := by
  blk_ext [iblk, idx t]

theorem read5 (t : Fin cfg0.N) (i : Fin 256) (j : Fin 1024) (h : 256 * t.val + i < 8192) :
    iblk m c 5 t (ix2 i j) = V m c main_v2 (ix2 (⟨256 * t.val + i, h⟩ : Fin 8192) j) := by
  blk_ext [iblk, idx t]

theorem read6 (t : Fin cfg0.N) (i : Fin 1) (j : Fin 1024) : iblk m c 6 t (ix2 i j) = V m c main_arg5 (ix2 i j) := by
  blk_ext [iblk, idx t]

theorem read7 (t : Fin cfg0.N) (i : Fin 1024) (j : Fin 1024) : iblk m c 7 t (ix2 i j) = V m c main_v24 (ix2 i j) := by
  blk_ext [iblk, idx t]

theorem read8 (t : Fin cfg0.N) (i : Fin 256) (j : Fin 512) (h : 256 * t.val + i < 8192) :
    iblk m c 8 t (ix2 i j) = V m c main_arg1 (ix2 (⟨256 * t.val + i, h⟩ : Fin 8192) j) := by
  blk_ext [iblk, idx t]

theorem read9 (t : Fin cfg0.N) (i : Fin 512) (j : Fin 512) : iblk m c 9 t (ix2 i j) = V m c main_v33 (ix2 i j) := by
  blk_ext [iblk, idx t]

theorem read4 (t : Fin cfg0.N) (q : Fin 4) (k : Fin 1024) (l : Fin 1408) : iblk m c 4 t (ix3 q k l) = V m c main_v23 (ix3 q k l) := by
  blk_ext [iblk, idx t]

/-- What the arrays hold when the call starts. -/
structure Entry (S : Dat) : Prop where
  d : Lf (a := 8192) (b := 1024) (V m c main_arg0) S.D
  wd : Lf (a := 2816) (b := 1024) (V m c main_v20) S.WD
  g : Lf (a := 8192) (b := 2816) (V m c main_v17) S.G
  u : Lf (a := 8192) (b := 2816) (V m c main_v19) S.U
  wg : ∀ (q : Fin 4) (k : Fin 1024) (l : Fin 1408), V m c main_v23 (ix3 q k l) = ((S.WG k (1408 * q + l) : ℝ) : EReal)
  h : Lf (a := 8192) (b := 1024) (V m c main_v2) S.H
  nw : Lf (a := 1) (b := 1024) (V m c main_arg5) fun _ k => S.nw k
  wo : Lf (a := 1024) (b := 1024) (V m c main_v24) S.WO
  a : Lf (a := 8192) (b := 512) (V m c main_arg1) S.A
  hm : Lf (a := 512) (b := 512) (V m c main_v33) fun i j => if i / 64 = j / 64 then 1 else 0

end

theorem blk_of_entry (hE : Entry m c S) (t : Fin cfg0.N) : Blk_at m c (S.rows (256 * t.val)) t where
  d := fun i j => (read0 m c t i j (by have := lt32 t; omega)).trans (hE.d _ j)
  wd := fun i j => (read1 m c t i j).trans (hE.wd i j)
  g := fun i j => (read2 m c t i j (by have := lt32 t; omega)).trans (hE.g _ j)
  u := fun i j => (read3 m c t i j (by have := lt32 t; omega)).trans (hE.u _ j)
  wg := fun q k l => (read4 m c t q k l).trans (hE.wg q k l)
  h := fun i j => (read5 m c t i j (by have := lt32 t; omega)).trans (hE.h _ j)
  nw := fun i j => (read6 m c t i j).trans (hE.nw i j)
  wo := fun i j => (read7 m c t i j).trans (hE.wo i j)
  a := fun i j => (read8 m c t i j (by have := lt32 t; omega)).trans (hE.a _ j)
  hm := fun i j => (read9 m c t i j).trans (hE.hm i j)

theorem nw_step (n k : ℕ) : S.NW n k + (S.rows n).NW 256 k = S.NW (n + 256) k := by
  unfold Dat.NW
  rw [Finset.sum_range_add]
  rfl

theorem after_all (hE : Entry m c S) : ∀ (n : ℕ) (hn : n < cfg0.N), Out (S.rows (256 * n)) (S.NW (256 * (n + 1))) (outsAt0 m c n hn)
  | 0, hn => by
    have o := out_A ⟨0, hn⟩ rfl (blk_of_entry hE ⟨0, hn⟩)
    have e : (S.rows (256 * 0)).NW 256 = S.NW (256 * (0 + 1)) := funext fun k => by
      have := nw_step (S := S) 0 k
      rw [show S.NW 0 k = 0 from rfl, zero_add] at this
      exact this
    rw [← e]
    exact o
  | n + 1, hn => by
    have ih := after_all hE n (Nat.lt_of_succ_lt hn)
    have ht : n + 1 < 32 := lt32 ⟨n + 1, hn⟩
    have h0 : ¬(⟨n + 1, hn⟩ : Fin cfg0.N).val % 32 = 0 := by show ¬(n + 1) % 32 = 0; omega
    have o := out_B ⟨n + 1, hn⟩ h0 (blk_of_entry hE ⟨n + 1, hn⟩) ih.nw
    have e : (fun k => S.NW (256 * (n + 1)) k + (S.rows (256 * (n + 1))).NW 256 k) = S.NW (256 * (n + 1 + 1)) := funext fun k => nw_step _ k
    rw [← e]
    exact o

theorem final10 (hE : Entry m c S) : Lf (a := 8192) (b := 5632) ((dats m 0 c).arrAt 10 cfg0.N) S.DGU := by
  intro i j
  have ht : (i : ℕ) / 256 < cfg0.N := Nat.lt_of_lt_of_eq (by omega : _ < 32) N_0.symm
  have e := Value.blocks10 m c ⟨_, ht⟩ (flush0_10 _)
  rw [Value.flushed10] at e
  have e1 := congrFun e (ix2 (⟨(i : ℕ) % 256, Nat.mod_lt _ (by decide)⟩ : Fin 256) j)
  have e2 := (after_all hE _ ht).gu ⟨(i : ℕ) % 256, Nat.mod_lt _ (by decide)⟩ j
  have e3 : 256 * ((i : ℕ) / 256) + (i : ℕ) % 256 = i := by omega
  refine Eq.trans (b := ((cfg0.win 10).blk ⟨_, ht⟩).view.read (Elt Ideal) ((dats m 0 c).arrAt 10 cfg0.N) (ix2 (⟨(i : ℕ) % 256, Nat.mod_lt _ (by decide)⟩ : Fin 256) j)) ?_
    (e1.trans (Eq.trans ?_ (e2.trans (congrArg (fun n => ((S.DGU n j : ℝ) : EReal)) e3))))
  · have hx := idx ⟨_, ht⟩
    blk_ext [hx]
  · blk_ext []

theorem final11 (hE : Entry m c S) : Lf (a := 8192) (b := 1024) ((dats m 0 c).arrAt 11 cfg0.N) S.DH := by
  intro i j
  have ht : (i : ℕ) / 256 < cfg0.N := Nat.lt_of_lt_of_eq (by omega : _ < 32) N_0.symm
  have e := Value.blocks11 m c ⟨_, ht⟩ (flush0_11 _)
  rw [Value.flushed11] at e
  have e1 := congrFun e (ix2 (⟨(i : ℕ) % 256, Nat.mod_lt _ (by decide)⟩ : Fin 256) j)
  have e2 := (after_all hE _ ht).dh ⟨(i : ℕ) % 256, Nat.mod_lt _ (by decide)⟩ j
  have e3 : 256 * ((i : ℕ) / 256) + (i : ℕ) % 256 = i := by omega
  refine Eq.trans (b := ((cfg0.win 11).blk ⟨_, ht⟩).view.read (Elt Ideal) ((dats m 0 c).arrAt 11 cfg0.N) (ix2 (⟨(i : ℕ) % 256, Nat.mod_lt _ (by decide)⟩ : Fin 256) j)) ?_
    (e1.trans (Eq.trans ?_ (e2.trans (congrArg (fun n => ((S.DH n j : ℝ) : EReal)) e3))))
  · have hx := idx ⟨_, ht⟩
    blk_ext [hx]
  · blk_ext []

theorem final12 (hE : Entry m c S) : Lf (a := 8192) (b := 512) ((dats m 0 c).arrAt 12 cfg0.N) S.DM := by
  intro i j
  have ht : (i : ℕ) / 256 < cfg0.N := Nat.lt_of_lt_of_eq (by omega : _ < 32) N_0.symm
  have e := Value.blocks12 m c ⟨_, ht⟩ (flush0_12 _)
  rw [Value.flushed12] at e
  have e1 := congrFun e (ix2 (⟨(i : ℕ) % 256, Nat.mod_lt _ (by decide)⟩ : Fin 256) j)
  have e2 := (after_all hE _ ht).da ⟨(i : ℕ) % 256, Nat.mod_lt _ (by decide)⟩ j
  have e3 : 256 * ((i : ℕ) / 256) + (i : ℕ) % 256 = i := by omega
  refine Eq.trans (b := ((cfg0.win 12).blk ⟨_, ht⟩).view.read (Elt Ideal) ((dats m 0 c).arrAt 12 cfg0.N) (ix2 (⟨(i : ℕ) % 256, Nat.mod_lt _ (by decide)⟩ : Fin 256) j)) ?_
    (e1.trans (Eq.trans ?_ (e2.trans (congrArg (fun n => ((S.DM n j : ℝ) : EReal)) e3))))
  · have hx := idx ⟨_, ht⟩
    blk_ext [hx]
  · blk_ext []

theorem final13 (hE : Entry m c S) : Lf (a := 8192) (b := 512) ((dats m 0 c).arrAt 13 cfg0.N) (fun i k => S.DM i (512 + k)) := by
  intro i j
  have ht : (i : ℕ) / 256 < cfg0.N := Nat.lt_of_lt_of_eq (by omega : _ < 32) N_0.symm
  have e := Value.blocks13 m c ⟨_, ht⟩ (flush0_13 _)
  rw [Value.flushed13] at e
  have e1 := congrFun e (ix2 (⟨(i : ℕ) % 256, Nat.mod_lt _ (by decide)⟩ : Fin 256) j)
  have e2 := (after_all hE _ ht).db ⟨(i : ℕ) % 256, Nat.mod_lt _ (by decide)⟩ j
  have e3 : 256 * ((i : ℕ) / 256) + (i : ℕ) % 256 = i := by omega
  refine Eq.trans (b := ((cfg0.win 13).blk ⟨_, ht⟩).view.read (Elt Ideal) ((dats m 0 c).arrAt 13 cfg0.N) (ix2 (⟨(i : ℕ) % 256, Nat.mod_lt _ (by decide)⟩ : Fin 256) j)) ?_
    (e1.trans (Eq.trans ?_ (e2.trans (congrArg (fun n => (((fun i k => S.DM i (512 + k)) n j : ℝ) : EReal)) e3))))
  · have hx := idx ⟨_, ht⟩
    blk_ext [hx]
  · blk_ext []

theorem final14 (hE : Entry m c S) : Lf (a := 8192) (b := 512) ((dats m 0 c).arrAt 14 cfg0.N) S.DL := by
  intro i j
  have ht : (i : ℕ) / 256 < cfg0.N := Nat.lt_of_lt_of_eq (by omega : _ < 32) N_0.symm
  have e := Value.blocks14 m c ⟨_, ht⟩ (flush0_14 _)
  rw [Value.flushed14] at e
  have e1 := congrFun e (ix2 (⟨(i : ℕ) % 256, Nat.mod_lt _ (by decide)⟩ : Fin 256) j)
  have e2 := (after_all hE _ ht).dl ⟨(i : ℕ) % 256, Nat.mod_lt _ (by decide)⟩ j
  have e3 : 256 * ((i : ℕ) / 256) + (i : ℕ) % 256 = i := by omega
  refine Eq.trans (b := ((cfg0.win 14).blk ⟨_, ht⟩).view.read (Elt Ideal) ((dats m 0 c).arrAt 14 cfg0.N) (ix2 (⟨(i : ℕ) % 256, Nat.mod_lt _ (by decide)⟩ : Fin 256) j)) ?_
    (e1.trans (Eq.trans ?_ (e2.trans (congrArg (fun n => ((S.DL n j : ℝ) : EReal)) e3))))
  · have hx := idx ⟨_, ht⟩
    blk_ext [hx]
  · blk_ext []

theorem arr15 (t : Fin cfg0.N) (hw : (cfg0.win 15).WholeAt t) : (dats m 0 c).arrAt 15 cfg0.N = (outsAt0 m c t.val t.isLt).2.2.2.2.2 := by
  refine (dats m 0 c).arrAt_eq_of_after_last 15 t hw _ fun j => ?_
  rw [after0_15]
  generalize (outsAt0 m c t.val t.isLt).2.2.2.2.2 = g
  refine (cast_eq _ _).trans (congrArg g ?_)
  blk_ext []

theorem whole15 : ∀ t : Fin cfg0.N, t.val = 31 → (cfg0.win 15).WholeAt t :=
  (by decide +kernel : ∀ t : Fin grid0.N, t.val = 31 → win0_15.WholeAt t)

theorem final15 (hE : Entry m c S) : Lf (a := 8) (b := 1024) ((dats m 0 c).arrAt 15 cfg0.N) fun i k => if i = 0 then S.NW 8192 k else 0 := by
  obtain ⟨t, ht⟩ : ∃ t : Fin cfg0.N, t.val = 31 := ⟨⟨31, Nat.lt_of_lt_of_eq (by decide : 31 < 32) N_0.symm⟩, rfl⟩
  have h := (after_all hE t.val t.isLt).nw
  rw [← arr15 t (whole15 t ht), ht] at h
  exact h

end Cert.Ffn

end

end
-- ==== Proof.FfnHost.lean ====
/- What the host hands the call: the forward lines of the step, the weights, and the matrix which sums heads. -/
module

public import proofs.«01_k».proof.Proof.FfnBlock
public import proofs.«01_k».proof.Proof.Gen.FfnBwdIdeal.Value
public import proofs.«01_k».proof.Proof.Gen.FfnBwdRefIdeal.Read

@[expose] public section

set_option maxRecDepth 16384

noncomputable section

namespace Cert.Ffn

open Idealize.ShloMosaic Idealize.ShloMosaic.TcCoe Idealize.SL.Sem
open Cert.Mirror
open Cert.FfnBwdIdeal Cert.FfnBwdIdeal.Gen Cert.FfnBwdIdeal.Value

variable (m : (ℓ : Loc nD τ sig) → Buf (Elt Ideal) ℓ) (c : Dev nD)

set_option maxHeartbeats 4000000 in
theorem host_h : V m c main_v2 = Cert.FfnBwdRefIdeal.Read.val_main_v2 (F := Ideal) (m ((c : Thread nD τ).loc main_arg1)) (m ((c : Thread nD τ).loc main_arg2)) (m ((c : Thread nD τ).loc main_arg3)) (m ((c : Thread nD τ).loc main_arg4)) := by
  unfold V
  simp only [hostOps0, hostOps0_1, hostOps0_2, hostOps0_3, hostOps0_4, List.flatten_cons, List.flatten_nil, List.append_nil, List.cons_append, List.nil_append, Idealize.ShloMosaic.StableHlo.after_cons, Idealize.ShloMosaic.StableHlo.after_nil]
  after_results_simp
  after_results_loop
  rfl

set_option maxHeartbeats 4000000 in
theorem host_g : V m c main_v17 = Cert.FfnBwdRefIdeal.Read.val_main_v19 (F := Ideal) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  unfold V
  simp only [hostOps0, hostOps0_1, hostOps0_2, hostOps0_3, hostOps0_4, List.flatten_cons, List.flatten_nil, List.append_nil, List.cons_append, List.nil_append, Idealize.ShloMosaic.StableHlo.after_cons, Idealize.ShloMosaic.StableHlo.after_nil]
  after_results_simp
  after_results_loop
  rfl

set_option maxHeartbeats 4000000 in
theorem host_u : V m c main_v19 = Cert.FfnBwdRefIdeal.Read.val_main_v20 (F := Ideal) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  unfold V
  simp only [hostOps0, hostOps0_1, hostOps0_2, hostOps0_3, hostOps0_4, List.flatten_cons, List.flatten_nil, List.append_nil, List.cons_append, List.nil_append, Idealize.ShloMosaic.StableHlo.after_cons, Idealize.ShloMosaic.StableHlo.after_nil]
  after_results_simp
  after_results_loop
  rfl

set_option maxHeartbeats 4000000 in
theorem host_wd : V m c main_v20 = (m ((c : Thread nD τ).loc main_arg7)) := by
  unfold V
  simp only [hostOps0, hostOps0_1, hostOps0_2, hostOps0_3, hostOps0_4, List.flatten_cons, List.flatten_nil, List.append_nil, List.cons_append, List.nil_append, Idealize.ShloMosaic.StableHlo.after_cons, Idealize.ShloMosaic.StableHlo.after_nil]
  after_results_simp
  after_results_loop
  rfl

set_option maxHeartbeats 4000000 in
theorem host_wo : V m c main_v24 = (m ((c : Thread nD τ).loc main_arg4)) := by
  unfold V
  simp only [hostOps0, hostOps0_1, hostOps0_2, hostOps0_3, hostOps0_4, List.flatten_cons, List.flatten_nil, List.append_nil, List.cons_append, List.nil_append, Idealize.ShloMosaic.StableHlo.after_cons, Idealize.ShloMosaic.StableHlo.after_nil]
  after_results_simp
  after_results_loop
  rfl

set_option maxHeartbeats 4000000 in
theorem host_wg : V m c main_v23 = transpose S4x1024x1408 [1, 0, 2] (shapeCast S1024x4x1408 (m ((c : Thread nD τ).loc main_arg6)) shapeCasts_S1024x5632_S1024x4x1408) transposes_S1024x4x1408_S4x1024x1408_1_0_2 := by
  unfold V
  simp only [hostOps0, hostOps0_1, hostOps0_2, hostOps0_3, hostOps0_4, List.flatten_cons, List.flatten_nil, List.append_nil, List.cons_append, List.nil_append, Idealize.ShloMosaic.StableHlo.after_cons, Idealize.ShloMosaic.StableHlo.after_nil]
  after_results_simp
  after_results_loop
  rfl

/-- The number of the head each entry belongs to: the quotient by 64 rounded down. -/
def heads {s : Shape} (hb : S_.BroadcastsInDim s (![] : Fin 0 → Fin s.rank)) (v : IVec s 32) : IVec s 32 :=
  select (andi (cmpi .ne (signi v) (broadcastInDim s ![] hb (signi (constantI S_ 32 64#32))))
      (cmpi .ne (Host.remsi v (broadcastInDim s ![] hb (constantI S_ 32 64#32))) (broadcastInDim s ![] hb (constantI S_ 32 0#32))))
    (subi (Host.divsi v (broadcastInDim s ![] hb (constantI S_ 32 64#32))) (broadcastInDim s ![] hb (constantI S_ 32 1#32)))
    (Host.divsi v (broadcastInDim s ![] hb (constantI S_ 32 64#32)))

/-- The matrix of ones where row and column belong to the same head. -/
def headMat : FVec Ideal S512x512 .bf16 := uitofp .bf16 (cmpi .eq
    (broadcastInDim S512x512 ![0, 1] bcast_S512x1_S512x512_0_1 (heads bcast_S_S512x1 (broadcastInDim S512x1 ![0] bcast_S512_S512x1_0 (iotaInDim S512 32 0))))
    (broadcastInDim S512x512 ![0, 1] bcast_S1x512_S512x512_0_1 (heads bcast_S_S1x512 (broadcastInDim S1x512 ![1] bcast_S512_S1x512_1 (iotaInDim S512 32 0)))))

set_option maxHeartbeats 4000000 in
theorem host_m : V m c main_v33 = headMat := by
  unfold V
  simp only [hostOps0, hostOps0_1, hostOps0_2, hostOps0_3, hostOps0_4, List.flatten_cons, List.flatten_nil, List.append_nil, List.cons_append, List.nil_append, Idealize.ShloMosaic.StableHlo.after_cons, Idealize.ShloMosaic.StableHlo.after_nil]
  after_results_simp
  after_results_loop
  rfl

theorem head_eq : ∀ i : Fin 512, Scalar.select
          (IntOp.andi
            (IntOp.cmpi CmpIPredicate.ne
              (if BitVec.ofNat 32 (i : ℕ) = 0 then (0 : BitVec 32) else if (BitVec.ofNat 32 (i : ℕ)).msb = true then -1 else 1)
              (if 64#32 = 0 then (0 : BitVec 32) else if (64#32).msb = true then -1 else 1))
            (IntOp.cmpi CmpIPredicate.ne (IntOp.remsi ArithUnit.host (BitVec.ofNat 32 (i : ℕ)) 64#32) 0#32))
          (IntOp.subi (IntOp.divsi ArithUnit.host (BitVec.ofNat 32 (i : ℕ)) 64#32) 1#32)
          (IntOp.divsi ArithUnit.host (BitVec.ofNat 32 (i : ℕ)) 64#32) = BitVec.ofNat 32 ((i : ℕ) / 64) := by
  decide +kernel

theorem same_head : ∀ a b : Fin 8, IntOp.cmpi CmpIPredicate.eq (BitVec.ofNat 32 (a : ℕ)) (BitVec.ofNat 32 (b : ℕ)) = if (a : ℕ) = b then 1#1 else 0#1 := by
  decide +kernel

theorem headMat_lf : Lf (a := 512) (b := 512) headMat fun i j => if i / 64 = j / 64 then 1 else 0 := by
  intro i j
  pointwise [headMat, heads]
  refine (congrArg₂ (fun a b => FloatOps.uitofp (F := Ideal) .bf16 (IntOp.cmpi CmpIPredicate.eq a b)) (head_eq i) (head_eq j)).trans ?_
  have h := same_head ⟨(i : ℕ) / 64, by omega⟩ ⟨(j : ℕ) / 64, by omega⟩
  rw [h]
  simp only
  split
  · refine Eq.trans (b := (((1#1 : BitVec 1).toNat : ℕ) : EReal)) ?_ (by simp)
    first | rfl | simp [FloatOps.uitofp]
  · refine Eq.trans (b := (((0#1 : BitVec 1).toNat : ℕ) : EReal)) ?_ (by simp)
    first | rfl | simp [FloatOps.uitofp]

end Cert.Ffn

end

end
-- ==== Proof.FfnRef.lean ====
/- The reference of the feed-forward gradient over the reals. -/
module

public import proofs.«01_k».proof.Proof.FfnReal
public import proofs.«01_k».proof.Proof.Gen.FfnBwdRefIdeal.Read

@[expose] public section

set_option maxRecDepth 16384

noncomputable section

namespace Cert.Ffn

open Idealize.ShloMosaic Idealize.SL.Sem
open Cert.Mirror
open Cert.FfnBwdRefIdeal Cert.FfnBwdRefIdeal.Gen Cert.FfnBwdRefIdeal.Read

theorem bits_half : Ideal.ofBits .f32 0xBF000000#32 = ((-(1 / 2) : ℝ) : EReal) := by
  simp [Ideal.ofBits, Ideal.ieee, -EReal.coe_mul]; norm_num

theorem bits_one : Ideal.ofBits .f32 0x3F800000#32 = 1 := by
  rw [← EReal.coe_one]; simp [Ideal.ofBits, Ideal.ieee, -EReal.coe_mul]; norm_num

/-- The two halves of the attention's output side by side. -/
def side (a b : ℕ → ℕ → ℝ) (i k : ℕ) : ℝ := if k < 512 then a i k else b i (k - 512)

/-- The eight arguments hold reals, and `S` holds what the forward lines make of them. -/
structure Args (x0 : FVec Ideal S8192x1024 .f32) (x1 x2 : FVec Ideal S8192x512 .f32) (x3 : FVec Ideal S8192x1024 .f32)
    (x4 : FVec Ideal S1024x1024 .f32) (x5 : FVec Ideal S1x1024 .f32) (x6 : FVec Ideal S1024x5632 .f32) (x7 : FVec Ideal S2816x1024 .f32)
    (S : Dat) (B X : ℕ → ℕ → ℝ) : Prop where
  d : Lf (a := 8192) (b := 1024) x0 S.D
  a : Lf (a := 8192) (b := 512) x1 S.A
  b : Lf (a := 8192) (b := 512) x2 B
  x : Lf (a := 8192) (b := 1024) x3 X
  wo : Lf (a := 1024) (b := 1024) x4 S.WO
  nw : Lf (a := 1) (b := 1024) x5 fun _ k => S.nw k
  wg : Lf (a := 1024) (b := 5632) x6 S.WG
  wd : Lf (a := 2816) (b := 1024) x7 S.WD
  hH : S.H = fun i l => X i l + ∑ k ∈ Finset.range 1024, side S.A B i k * S.WO k l
  hG : S.G = fun i c => ∑ k ∈ Finset.range 1024, S.NH i k * S.nw k * S.WG k c
  hU : S.U = fun i c => ∑ k ∈ Finset.range 1024, S.NH i k * S.nw k * S.WG k (2816 + c)

variable {x0 : FVec Ideal S8192x1024 .f32} {x1 x2 : FVec Ideal S8192x512 .f32} {x3 : FVec Ideal S8192x1024 .f32}
    {x4 : FVec Ideal S1024x1024 .f32} {x5 : FVec Ideal S1x1024 .f32} {x6 : FVec Ideal S1024x5632 .f32} {x7 : FVec Ideal S2816x1024 .f32}
    {S : Dat} {B X : ℕ → ℕ → ℝ} (Hy : Args x0 x1 x2 x3 x4 x5 x6 x7 S B X)

include Hy

theorem r_v0 : Lf (a := 8192) (b := 1024) (val_main_v0 (F := Ideal) x1 x2) (side S.A B) := by
  intro i j
  pointwise [val_main_v0]
  unfold side
  split
  · exact Hy.a _ _
  · exact Hy.b _ _

theorem r_v2 : Lf (a := 8192) (b := 1024) (val_main_v2 (F := Ideal) x1 x2 x3 x4) S.H := by
  intro i j
  pointwise [val_main_v2, val_main_v1]
  rw [Hy.x i j, dot_real (F := fun k => side S.A B i k) (G := fun k => S.WO k j) (fun k => r_v0 Hy i k) (fun k => Hy.wo k j), ← EReal.coe_add, Hy.hH]

theorem r_v9 : Lf (a := 8192) (b := 1) (val_main_v9 (F := Ideal) x1 x2 x3 x4) fun i _ => S.MS i := by
  intro i j
  pointwise [val_main_v9, val_main_v8, val_main_v7, val_main_v6, val_main_v5, val_main_v4, val_main_v3, val_main_cst, val_main_cst_0, val_main_cst_1]
  rw [dot_real (F := fun k => S.H i k) (G := fun k => S.H i k) (fun k => r_v2 Hy i k) (fun k => r_v2 Hy i k), bits_eps, bits_width, div_real _ _ (by norm_num), ← EReal.coe_add]
  rfl

theorem r_v10 : Lf (a := 8192) (b := 1) (val_main_v10 (F := Ideal) x1 x2 x3 x4) fun i _ => S.R i := by
  intro i j
  pointwise [val_main_v10]
  have h := S.MS_pos i
  rw [r_v9 Hy i j, Ideal.rsqrt_coe, if_neg (not_lt.2 h.le), if_neg h.ne']
  rfl

theorem r_v13 : Lf (a := 8192) (b := 1) (val_main_v13 (F := Ideal) x1 x2 x3 x4) fun i _ => -(1 / 2) * (S.R i / S.MS i) := by
  intro i j
  pointwise [val_main_v13, val_main_v12, val_main_v11, val_main_cst_2]
  rw [r_v9 Hy i j, r_v10 Hy i j, bits_half, div_real _ _ (S.MS_pos i).ne', ← EReal.coe_mul]

theorem r_v15 : Lf (a := 8192) (b := 1024) (val_main_v15 (F := Ideal) x1 x2 x3 x4) S.NH := by
  intro i j
  pointwise [val_main_v15, val_main_v14]
  rw [r_v2 Hy i j, r_v10 Hy i _, ← EReal.coe_mul]
  rfl

theorem r_v17 : Lf (a := 8192) (b := 1024) (val_main_v17 (F := Ideal) x1 x2 x3 x4 x5) fun i k => S.NH i k * S.nw k := by
  intro i j
  pointwise [val_main_v17, val_main_v16]
  rw [r_v15 Hy i j, Hy.nw _ j, ← EReal.coe_mul]

theorem r_v19 : Lf (a := 8192) (b := 2816) (val_main_v19 (F := Ideal) x1 x2 x3 x4 x5 x6) S.G := by
  intro i j
  pointwise [val_main_v19, val_main_v18]
  rw [Hy.hG]
  exact dot_real (F := fun k => S.NH i k * S.nw k) (G := fun k => S.WG k j) (fun k => r_v17 Hy i k) (fun k => Hy.wg k _)

theorem r_v20 : Lf (a := 8192) (b := 2816) (val_main_v20 (F := Ideal) x1 x2 x3 x4 x5 x6) S.U := by
  intro i j
  pointwise [val_main_v20, val_main_v18]
  rw [Hy.hU]
  exact dot_real (F := fun k => S.NH i k * S.nw k) (G := fun k => S.WG k (2816 + j)) (fun k => r_v17 Hy i k) (fun k => Hy.wg k _)

theorem r_sg : Lf (a := 8192) (b := 2816) (val_main_v21_2 (F := Ideal) x1 x2 x3 x4 x5 x6) fun i c => sg (S.G i c) := by
  intro i j
  pointwise [val_main_v21_2, val_main_call0_v4, val_main_call0_v3, val_main_call0_v2, val_main_call0_v1, val_main_call0_v0, val_main_call0_cst, val_main_call0_cst_0]
  rw [r_v19 Hy i j]
  first
  | exact sg_coe _
  | rw [show -((S.G i j : ℝ) : EReal) = 0 - ((S.G i j : ℝ) : EReal) by rw [zero_sub]]; exact sg_coe _

theorem r_v27 : Lf (a := 8192) (b := 2816) (val_main_v27 (F := Ideal) x0 x7) S.DA := by
  intro i c
  pointwise [val_main_v27, val_main_v26]
  exact dot_real (F := fun k => S.D i k) (G := fun k => S.WD c k) (fun k => Hy.d i k) (fun k => Hy.wd c k)

theorem r_v28 : Lf (a := 8192) (b := 2816) (val_main_v28 (F := Ideal) x0 x1 x2 x3 x4 x5 x6 x7) S.DU := by
  intro i c
  pointwise [val_main_v28, val_main_v21_0]
  rw [r_v27 Hy i c, r_v19 Hy i c, r_sg Hy i c, ← EReal.coe_mul, ← EReal.coe_mul]
  exact congrArg _ (by unfold Dat.DU; ring)

theorem r_v30 : Lf (a := 8192) (b := 2816) (val_main_v30 (F := Ideal) x0 x1 x2 x3 x4 x5 x6 x7) S.DG := by
  intro i c
  pointwise [val_main_v30, val_main_call1_v2, val_main_call1_v1, val_main_call1_v0, val_main_v29, val_main_v21_1, val_main_call0_v7, val_main_call0_v6, val_main_call0_cst_1]
  rw [r_v27 Hy i c, r_v19 Hy i c, r_v20 Hy i c, r_sg Hy i c, ← EReal.coe_one]
  simp only [← EReal.coe_mul, ← EReal.coe_add, ← EReal.coe_sub]
  exact congrArg _ (by unfold Dat.DG; ring)

theorem r_v33 : Lf (a := 8192) (b := 5632) (val_main_v33 (F := Ideal) x0 x1 x2 x3 x4 x5 x6 x7) S.DGU := by
  intro i c
  pointwise [val_main_v33, val_main_v32, val_main_v31, val_main_cst_3, val_main_cst_4]
  unfold Dat.DGU
  by_cases h : (c : ℕ) < 2816
  · rw [dif_neg (by omega), dif_pos h, if_pos h, zero_add]
    exact r_v30 Hy i _
  · rw [dif_pos (by omega), dif_neg h, if_neg h, add_zero]
    exact r_v28 Hy i _

theorem r_v34 : Lf (a := 8192) (b := 1024) (val_main_v34 (F := Ideal) x0 x1 x2 x3 x4 x5 x6 x7) S.DU2 := by
  intro i k
  pointwise [val_main_v34]
  exact dot_real (F := fun c => S.DGU i c) (G := fun c => S.WG k c) (fun c => r_v33 Hy i c) (fun c => Hy.wg k c)

theorem r_v65 : Lf (a := 8) (b := 1024) (val_main_v65 (F := Ideal) x0 x1 x2 x3 x4 x5 x6 x7) fun i k => if i = 0 then S.NW 8192 k else 0 := by
  intro i k
  pointwise [val_main_v65, val_main_v64, val_main_v37, val_main_v36, val_main_v35, val_main_cst_5, val_main_cst_10]
  by_cases h : (i : ℕ) = 0
  · rw [dif_pos (by omega), if_pos h]
    refine (dot_real (F := fun x => S.NH x k) (G := fun x => S.DU2 x k) (fun x => r_v15 Hy x k) (fun x => r_v34 Hy x k)).trans (congrArg _ ?_)
    unfold Dat.NW
    exact Finset.sum_congr rfl fun x _ => mul_comm _ _
  · rw [dif_neg (by omega), if_neg h, EReal.coe_zero]

theorem r_v39 : Lf (a := 8192) (b := 1024) (val_main_v39 (F := Ideal) x0 x1 x2 x3 x4 x5 x6 x7) S.DN := by
  intro i k
  pointwise [val_main_v39, val_main_v38]
  rw [r_v34 Hy i k, Hy.nw _ k, ← EReal.coe_mul]
  rfl

theorem r_v49 : Lf (a := 8192) (b := 1024) (val_main_v49 (F := Ideal) x0 x1 x2 x3 x4 x5 x6 x7) fun i _ =>
    (∑ k ∈ Finset.range 1024, S.H i k * S.DN i k) * (-(1 / 2) * (S.R i / S.MS i)) / 1024 := by
  intro i k
  pointwise [val_main_v49, val_main_v48, val_main_v47, val_main_v46, val_main_v45, val_main_v42, val_main_v41, val_main_v40, val_main_cst_6, val_main_cst_7, val_main_cst_8]
  simp only [Finset.univ_unique, Fin.default_eq_zero, Finset.sum_singleton]
  rw [dot_real (F := fun k => S.H i k) (G := fun k => S.DN i k) (fun k => r_v2 Hy i k) (fun k => r_v39 Hy i k), r_v13 Hy i _, bits_width,
    ← EReal.coe_mul, div_real _ _ (by norm_num)]

omit Hy in
theorem dh_real (i k : ℕ) : S.D i k + (S.DN i k * S.R i + S.H i k * ((∑ k ∈ Finset.range 1024, S.H i k * S.DN i k) * (-(1 / 2) * (S.R i / S.MS i)) / 1024)
    + ((∑ k ∈ Finset.range 1024, S.H i k * S.DN i k) * (-(1 / 2) * (S.R i / S.MS i)) / 1024) * S.H i k) = S.DH i k := by
  have h := S.MS_pos i
  have e : S.R i / S.MS i = S.R i * (S.R i * S.R i) := by
    rw [div_eq_mul_inv]
    congr 1
    unfold Dat.R
    rw [← mul_inv, Real.mul_self_sqrt h.le]
  have e2 : S.DOT i = (∑ k ∈ Finset.range 1024, S.H i k * S.DN i k) * S.R i := by
    unfold Dat.DOT Dat.NH
    rw [Finset.sum_mul]
    exact Finset.sum_congr rfl fun k _ => by ring
  unfold Dat.DH
  rw [e, e2]
  unfold Dat.NH
  ring

theorem r_v54 : Lf (a := 8192) (b := 1024) (val_main_v54 (F := Ideal) x0 x1 x2 x3 x4 x5 x6 x7) S.DH := by
  intro i k
  pointwise [val_main_v54, val_main_v53, val_main_v52, val_main_v51, val_main_v50, val_main_v44, val_main_v43, val_main_v25]
  rw [r_v39 Hy i k, r_v49 Hy i k, r_v2 Hy i k, r_v10 Hy i _, Hy.d i k]
  simp only [← EReal.coe_mul, ← EReal.coe_add]
  exact congrArg _ (dh_real i k)

theorem r_v55 : Lf (a := 8192) (b := 1024) (val_main_v55 (F := Ideal) x0 x1 x2 x3 x4 x5 x6 x7) S.DM := by
  intro i k
  pointwise [val_main_v55]
  exact dot_real (F := fun l => S.DH i l) (G := fun l => S.WO k l) (fun l => r_v54 Hy i l) (fun l => Hy.wo k l)

theorem r_v56 : Lf (a := 8192) (b := 512) (val_main_v56 (F := Ideal) x0 x1 x2 x3 x4 x5 x6 x7) S.DM := by
  intro i k
  pointwise [val_main_v56]
  exact r_v55 Hy i _

theorem r_v57 : Lf (a := 8192) (b := 512) (val_main_v57 (F := Ideal) x0 x1 x2 x3 x4 x5 x6 x7) fun i k => S.DM i (512 + k) := by
  intro i k
  pointwise [val_main_v57]
  exact r_v55 Hy i _

theorem r_v63 : Lf (a := 8192) (b := 512) (val_main_v63 (F := Ideal) x0 x1 x2 x3 x4 x5 x6 x7) S.DL := by
  intro i k
  pointwise [val_main_v63, val_main_v62, val_main_v61, val_main_v60, val_main_v59, val_main_v58, val_main_cst_9]
  refine (dot_real (F := fun e => S.DM i (k / 64 * 64 + e)) (G := fun e => S.A i (k / 64 * 64 + e)) (fun e => r_v56 Hy i _) (fun e => Hy.a i _)).trans ?_
  unfold Dat.DL
  rw [Nat.mul_comm 64]

end Cert.Ffn

end

end
-- ==== Proof.FfnBwd.lean ====
/- The six results of the feed-forward gradient are the reference's, where every argument is real. -/
module

public import proofs.«01_k».proof.Proof.FfnGrid
public import proofs.«01_k».proof.Proof.FfnHost
public import proofs.«01_k».proof.Proof.FfnRef
public import proofs.«01_k».proof.Proof.Finite
public import proofs.«01_k».proof.Proof.Gen.Pre_finite_ffn

@[expose] public section

set_option maxRecDepth 16384

noncomputable section

namespace Cert.Ffn

open Idealize.ShloMosaic Idealize.ShloMosaic.TcCoe Idealize.SL.Sem
open Cert.Mirror

section
variable {x0 : FVec Ideal Pre_finite_ffn.S8192x1024 .f32} {x1 : FVec Ideal Pre_finite_ffn.S8192x512 .f32} {x2 : FVec Ideal Pre_finite_ffn.S8192x512 .f32} {x3 : FVec Ideal Pre_finite_ffn.S8192x1024 .f32} {x4 : FVec Ideal Pre_finite_ffn.S1024x1024 .f32} {x5 : FVec Ideal Pre_finite_ffn.S1x1024 .f32} {x6 : FVec Ideal Pre_finite_ffn.S1024x5632 .f32} {x7 : FVec Ideal Pre_finite_ffn.S2816x1024 .f32}

theorem finite0 (h : (Pre_finite_ffn.fn (F := Ideal) x0 x1 x2 x3 x4 x5 x6 x7).1 = fun _ => 1#1) (i : Fin 8192) (j : Fin 1024) :
    x0 (ix2 i j) = ((EReal.toReal (x0 (ix2 i j)) : ℝ) : EReal) := by
  have e := congrFun h (ix2 i j)
  pointwise [Pre_finite_ffn.fn, Pre_finite_ffn.fn_part1, ofBits_inf] at e
  exact real_of_lt e
theorem finite1 (h : (Pre_finite_ffn.fn (F := Ideal) x0 x1 x2 x3 x4 x5 x6 x7).2.1 = fun _ => 1#1) (i : Fin 8192) (j : Fin 512) :
    x1 (ix2 i j) = ((EReal.toReal (x1 (ix2 i j)) : ℝ) : EReal) := by
  have e := congrFun h (ix2 i j)
  pointwise [Pre_finite_ffn.fn, Pre_finite_ffn.fn_part1, ofBits_inf] at e
  exact real_of_lt e
theorem finite2 (h : (Pre_finite_ffn.fn (F := Ideal) x0 x1 x2 x3 x4 x5 x6 x7).2.2.1 = fun _ => 1#1) (i : Fin 8192) (j : Fin 512) :
    x2 (ix2 i j) = ((EReal.toReal (x2 (ix2 i j)) : ℝ) : EReal) := by
  have e := congrFun h (ix2 i j)
  pointwise [Pre_finite_ffn.fn, Pre_finite_ffn.fn_part1, ofBits_inf] at e
  exact real_of_lt e
theorem finite3 (h : (Pre_finite_ffn.fn (F := Ideal) x0 x1 x2 x3 x4 x5 x6 x7).2.2.2.1 = fun _ => 1#1) (i : Fin 8192) (j : Fin 1024) :
    x3 (ix2 i j) = ((EReal.toReal (x3 (ix2 i j)) : ℝ) : EReal) := by
  have e := congrFun h (ix2 i j)
  pointwise [Pre_finite_ffn.fn, Pre_finite_ffn.fn_part1, ofBits_inf] at e
  exact real_of_lt e
theorem finite4 (h : (Pre_finite_ffn.fn (F := Ideal) x0 x1 x2 x3 x4 x5 x6 x7).2.2.2.2.1 = fun _ => 1#1) (i : Fin 1024) (j : Fin 1024) :
    x4 (ix2 i j) = ((EReal.toReal (x4 (ix2 i j)) : ℝ) : EReal) := by
  have e := congrFun h (ix2 i j)
  pointwise [Pre_finite_ffn.fn, Pre_finite_ffn.fn_part1, ofBits_inf] at e
  exact real_of_lt e
theorem finite5 (h : (Pre_finite_ffn.fn (F := Ideal) x0 x1 x2 x3 x4 x5 x6 x7).2.2.2.2.2.1 = fun _ => 1#1) (i : Fin 1) (j : Fin 1024) :
    x5 (ix2 i j) = ((EReal.toReal (x5 (ix2 i j)) : ℝ) : EReal) := by
  have e := congrFun h (ix2 i j)
  pointwise [Pre_finite_ffn.fn, Pre_finite_ffn.fn_part1, ofBits_inf] at e
  exact real_of_lt e
theorem finite6 (h : (Pre_finite_ffn.fn (F := Ideal) x0 x1 x2 x3 x4 x5 x6 x7).2.2.2.2.2.2.1 = fun _ => 1#1) (i : Fin 1024) (j : Fin 5632) :
    x6 (ix2 i j) = ((EReal.toReal (x6 (ix2 i j)) : ℝ) : EReal) := by
  have e := congrFun h (ix2 i j)
  pointwise [Pre_finite_ffn.fn, Pre_finite_ffn.fn_part1, ofBits_inf] at e
  exact real_of_lt e
theorem finite7 (h : (Pre_finite_ffn.fn (F := Ideal) x0 x1 x2 x3 x4 x5 x6 x7).2.2.2.2.2.2.2 = fun _ => 1#1) (i : Fin 2816) (j : Fin 1024) :
    x7 (ix2 i j) = ((EReal.toReal (x7 (ix2 i j)) : ℝ) : EReal) := by
  have e := congrFun h (ix2 i j)
  pointwise [Pre_finite_ffn.fn, Pre_finite_ffn.fn_part1, ofBits_inf] at e
  exact real_of_lt e

/-- The reals behind the residual stream after the attention. -/
def resid (A B X WO : ℕ → ℕ → ℝ) (i l : ℕ) : ℝ := X i l + ∑ k ∈ Finset.range 1024, side A B i k * WO k l

/-- The call's data before the hidden layer is filled in. -/
def dat0 (D A B X WO : ℕ → ℕ → ℝ) (nw : ℕ → ℝ) (WG WD : ℕ → ℕ → ℝ) : Dat where
  D := D
  G _ _ := 0
  U _ _ := 0
  H := resid A B X WO
  A := A
  WD := WD
  WG := WG
  WO := WO
  nw := nw

/-- The call's data, from the arguments. -/
def dat (D A B X WO : ℕ → ℕ → ℝ) (nw : ℕ → ℝ) (WG WD : ℕ → ℕ → ℝ) : Dat where
  D := D
  G i c := ∑ k ∈ Finset.range 1024, (dat0 D A B X WO nw WG WD).NH i k * nw k * WG k c
  U i c := ∑ k ∈ Finset.range 1024, (dat0 D A B X WO nw WG WD).NH i k * nw k * WG k (2816 + c)
  H := resid A B X WO
  A := A
  WD := WD
  WG := WG
  WO := WO
  nw := nw

variable (x0) (x1) (x2) (x3) (x4) (x5) (x6) (x7) in
def argDat : Dat := dat (rd (a := 8192) (b := 1024) x0) (rd (a := 8192) (b := 512) x1) (rd (a := 8192) (b := 512) x2) (rd (a := 8192) (b := 1024) x3) (rd (a := 1024) (b := 1024) x4) ((rd (a := 1) (b := 1024) x5) 0) (rd (a := 1024) (b := 5632) x6) (rd (a := 2816) (b := 1024) x7)

theorem args_of_finite (h0 : (Pre_finite_ffn.fn (F := Ideal) x0 x1 x2 x3 x4 x5 x6 x7).1 = fun _ => 1#1) (h1 : (Pre_finite_ffn.fn (F := Ideal) x0 x1 x2 x3 x4 x5 x6 x7).2.1 = fun _ => 1#1) (h2 : (Pre_finite_ffn.fn (F := Ideal) x0 x1 x2 x3 x4 x5 x6 x7).2.2.1 = fun _ => 1#1) (h3 : (Pre_finite_ffn.fn (F := Ideal) x0 x1 x2 x3 x4 x5 x6 x7).2.2.2.1 = fun _ => 1#1) (h4 : (Pre_finite_ffn.fn (F := Ideal) x0 x1 x2 x3 x4 x5 x6 x7).2.2.2.2.1 = fun _ => 1#1) (h5 : (Pre_finite_ffn.fn (F := Ideal) x0 x1 x2 x3 x4 x5 x6 x7).2.2.2.2.2.1 = fun _ => 1#1) (h6 : (Pre_finite_ffn.fn (F := Ideal) x0 x1 x2 x3 x4 x5 x6 x7).2.2.2.2.2.2.1 = fun _ => 1#1) (h7 : (Pre_finite_ffn.fn (F := Ideal) x0 x1 x2 x3 x4 x5 x6 x7).2.2.2.2.2.2.2 = fun _ => 1#1) :
    Args x0 x1 x2 x3 x4 x5 x6 x7 (argDat x0 x1 x2 x3 x4 x5 x6 x7) (rd (a := 8192) (b := 512) x2) (rd (a := 8192) (b := 1024) x3) where
  d := lf_rd (finite0 h0)
  a := lf_rd (finite1 h1)
  b := lf_rd (finite2 h2)
  x := lf_rd (finite3 h3)
  wo := lf_rd (finite4 h4)
  nw := fun i j => by
    obtain rfl : i = 0 := Subsingleton.elim _ _
    exact lf_rd (finite5 h5) 0 j
  wg := lf_rd (finite6 h6)
  wd := lf_rd (finite7 h7)
  hH := rfl
  hG := rfl
  hU := rfl

end

open Cert.FfnBwdIdeal Cert.FfnBwdIdeal.Gen Cert.FfnBwdIdeal.Value

variable {m : (ℓ : Loc nD τ sig) → Buf (Elt Ideal) ℓ} {c : Dev nD} {S : Dat} {B X : ℕ → ℕ → ℝ}

theorem entry_of_args (H : Args (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) S B X) : Entry m c S where
  d := by rw [V_main_arg0]; exact H.d
  wd := by rw [host_wd]; exact H.wd
  g := by rw [host_g]; exact r_v19 H
  u := by rw [host_u]; exact r_v20 H
  wg := fun q k l => by
    rw [host_wg]
    pointwise []
    refine (H.wg _ _).trans ?_
    exact congrArg (fun n => ((S.WG k n : ℝ) : EReal)) (congrArg (· + (l : ℕ)) (Nat.mul_comm _ _))
  h := by rw [host_h]; exact r_v2 H
  nw := by rw [V_main_arg5]; exact H.nw
  wo := by rw [host_wo]; exact H.wo
  a := by rw [V_main_arg1]; exact H.a
  hm := by rw [host_m]; exact headMat_lf

/-- Two matrices with the same real entries are equal. -/
theorem eq_of_lf {a b : ℕ} {v w : (⟨2, ![a, b]⟩ : Shape).Idx → EReal} {r : ℕ → ℕ → ℝ} (hv : Lf v r) (hw : Lf w r) : v = w := by
  funext i
  obtain ⟨p, q, rfl⟩ : ∃ (p : Fin a) (q : Fin b), i = ix2 p q := ⟨i 0, i 1, eq_ix2 i⟩
  exact (hv p q).trans (hw p q).symm

theorem r_v66 {x0 : FVec Ideal S8192x1024 .f32} {x1 x2 : FVec Ideal S8192x512 .f32} {x3 : FVec Ideal S8192x1024 .f32}
    {x4 : FVec Ideal S1024x1024 .f32} {x5 : FVec Ideal S1x1024 .f32} {x6 : FVec Ideal S1024x5632 .f32} {x7 : FVec Ideal S2816x1024 .f32}
    (Hy : Args x0 x1 x2 x3 x4 x5 x6 x7 S B X) : Lf (a := 8192) (b := 5632) (Cert.FfnBwdRefIdeal.Read.val_main_v66 (F := Ideal) x0 x1 x2 x3 x4 x5 x6 x7) S.DGU := by
  intro i j
  pointwise [Cert.FfnBwdRefIdeal.Read.val_main_v66]
  exact r_v33 Hy i j

theorem result10 (H : Args (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) S B X) :
    Cert.FfnBwdRefIdeal.Read.val_main_v66 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) = (dats m 0 c).arrAt 10 cfg0.N :=
  eq_of_lf (r_v66 H) (final10 (entry_of_args H))

theorem result11 (H : Args (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) S B X) :
    Cert.FfnBwdRefIdeal.Read.val_main_v54 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) = (dats m 0 c).arrAt 11 cfg0.N :=
  eq_of_lf (r_v54 H) (final11 (entry_of_args H))

theorem result12 (H : Args (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) S B X) :
    Cert.FfnBwdRefIdeal.Read.val_main_v56 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) = (dats m 0 c).arrAt 12 cfg0.N :=
  eq_of_lf (r_v56 H) (final12 (entry_of_args H))

theorem result13 (H : Args (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) S B X) :
    Cert.FfnBwdRefIdeal.Read.val_main_v57 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) = (dats m 0 c).arrAt 13 cfg0.N :=
  eq_of_lf (r_v57 H) (final13 (entry_of_args H))

theorem result14 (H : Args (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) S B X) :
    Cert.FfnBwdRefIdeal.Read.val_main_v63 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) = (dats m 0 c).arrAt 14 cfg0.N :=
  eq_of_lf (r_v63 H) (final14 (entry_of_args H))

theorem result15 (H : Args (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) S B X) :
    Cert.FfnBwdRefIdeal.Read.val_main_v65 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) = (dats m 0 c).arrAt 15 cfg0.N :=
  eq_of_lf (r_v65 H) (final15 (entry_of_args H))

end Cert.Ffn

end

end
-- ==== Proof.FwdReal.lean ====
/- The feed-forward half of the block with the loss after it, as functions of the entries. -/
module

public import proofs.«01_k».proof.Proof.FfnReal

@[expose] public section

set_option maxRecDepth 16384

noncomputable section

namespace Cert.Fwd

open Idealize.ShloMosaic Idealize.SL.Sem
open Cert.Mirror
open Cert.Ffn (eps eps_pos bits_eps bits_width)

theorem bits_half : Ideal.ofBits .f32 0x3F000000#32 = ((1 / 2 : ℝ) : EReal) := by
  simp [Ideal.ofBits, Ideal.ieee, -EReal.coe_mul]; norm_num

theorem bits_neg_half : Ideal.ofBits .f32 0xBF000000#32 = ((-(1 / 2) : ℝ) : EReal) := by
  simp [Ideal.ofBits, Ideal.ieee, -EReal.coe_mul]; norm_num

theorem bits_two : Ideal.ofBits .f32 0x40000000#32 = ((2 : ℝ) : EReal) := by
  simp [Ideal.ofBits, Ideal.ieee, -EReal.coe_mul]; norm_num

theorem bits_inv : Ideal.ofBits .f32 0x3A800000#32 = ((1 / 1024 : ℝ) : EReal) := by
  simp [Ideal.ofBits, Ideal.ieee, -EReal.coe_mul]; norm_num

theorem bits_half_inv : Ideal.ofBits .f32 0x3A000000#32 = ((1 / 2048 : ℝ) : EReal) := by
  simp [Ideal.ofBits, Ideal.ieee, -EReal.coe_mul]; norm_num

/-- The matrix `v` has the entries `r`. -/
def Ef {a b : ℕ} (v : (⟨2, ![a, b]⟩ : Shape).Idx → EReal) (r : ℕ → ℕ → EReal) : Prop :=
  ∀ (i : Fin a) (j : Fin b), v (ix2 i j) = r i j

theorem Ef.congr {a b : ℕ} {v : (⟨2, ![a, b]⟩ : Shape).Idx → EReal} {r r' : ℕ → ℕ → EReal} (h : Ef v r)
    (e : ∀ i < a, ∀ j < b, r i j = r' i j) : Ef v r' := fun i j => by rw [h i j, e i i.2 j j.2]

theorem dot_ef {n : ℕ} {f g : Fin n → EReal} {F G : ℕ → EReal} (hf : ∀ k, f k = F k) (hg : ∀ k, g k = G k) :
    (∑ k, f k * g k) = ∑ k ∈ Finset.range n, F k * G k := by
  rw [Finset.sum_range]
  exact Finset.sum_congr rfl fun k _ => by rw [hf, hg]

/-- The logistic function. -/
def sg (x : EReal) : EReal := Ideal.div 1 (1 + Ideal.exp (0 - x))

theorem half_tanh (x : ℝ) : 1 / 2 * Real.tanh (1 / 2 * x) + 1 / 2 = Cert.Ffn.sg x := by
  have h : Real.exp (-x) = Real.exp (-(1 / 2 * x)) * Real.exp (-(1 / 2 * x)) := by rw [← Real.exp_add]; congr 1; ring
  have e : Real.exp (1 / 2 * x) * Real.exp (-(1 / 2 * x)) = 1 := by rw [← Real.exp_add, add_neg_cancel, Real.exp_zero]
  have p := Real.exp_pos (1 / 2 * x)
  have q := Real.exp_pos (-(1 / 2 * x))
  unfold Cert.Ffn.sg
  rw [Real.tanh_eq_sinh_div_cosh, Real.sinh_eq, Real.cosh_eq, h]
  generalize Real.exp (1 / 2 * x) = a at *
  generalize Real.exp (-(1 / 2 * x)) = b at *
  have s : a + b ≠ 0 := by positivity
  have t : 1 + b * b ≠ 0 := by positivity
  field_simp
  linear_combination (2 * b) * e

theorem half_pos : (0 : ℝ) < 1 / 2 := by norm_num

/-- The logistic function by the hyperbolic tangent, at the infinities too. -/
theorem sg_tanh (x : EReal) : ((1 / 2 : ℝ) : EReal) * Ideal.tanh (((1 / 2 : ℝ) : EReal) * x) + ((1 / 2 : ℝ) : EReal) = sg x := by
  induction x with
  | bot =>
    rw [EReal.coe_mul_bot_of_pos half_pos, Ideal.tanh_bot]
    have e : sg ⊥ = 0 := by
      unfold sg
      rw [zero_sub, EReal.neg_bot, Ideal.exp_top, EReal.add_top_of_ne_bot (by decide)]
      simp [Ideal.div]
    rw [e, ← EReal.coe_one, ← EReal.coe_neg, ← EReal.coe_mul, ← EReal.coe_add, ← EReal.coe_zero]
    exact congrArg _ (by norm_num)
  | top =>
    rw [EReal.coe_mul_top_of_pos half_pos, Ideal.tanh_top]
    have e : sg ⊤ = 1 := by
      unfold sg
      rw [zero_sub, EReal.neg_top, Ideal.exp_bot, add_zero]
      simp [Ideal.div]
    rw [e, mul_one, ← EReal.coe_add, ← EReal.coe_one]
    exact congrArg _ (by norm_num)
  | coe x =>
    rw [← EReal.coe_mul, Ideal.tanh_coe, ← EReal.coe_mul, ← EReal.coe_add, half_tanh]
    exact (Cert.Ffn.sg_coe x).symm

/-- What the call is given: the two halves of the mixers' output, the residual stream, the weights, and the
    target. -/
structure Dat where
  A : ℕ → ℕ → EReal
  B : ℕ → ℕ → EReal
  X : ℕ → ℕ → EReal
  WO : ℕ → ℕ → EReal
  nw : ℕ → EReal
  WG : ℕ → ℕ → EReal
  WD : ℕ → ℕ → EReal
  fw : ℕ → EReal
  T : ℕ → ℕ → EReal

/-- The mean of a row's squares, above zero. -/
def ms (h : ℕ → ℕ → EReal) (i : ℕ) : EReal := (∑ k ∈ Finset.range 1024, h i k * h i k) * ((1 / 1024 : ℝ) : EReal) + ((eps : ℝ) : EReal)
/-- What a row is scaled by. -/
def rs (h : ℕ → ℕ → EReal) (i : ℕ) : EReal := Ideal.rsqrt (ms h i)

theorem sq_nonneg (x : EReal) : 0 ≤ x * x := by
  rcases le_total 0 x with h | h
  · exact mul_nonneg h h
  · rw [← neg_mul_neg]
    have h' : 0 ≤ -x := EReal.neg_nonneg.2 h
    exact mul_nonneg h' h'

theorem ms_pos (h : ℕ → ℕ → EReal) (i : ℕ) : 0 < ms h i := by
  have h1 : (0 : EReal) < ((eps : ℝ) : EReal) := EReal.coe_pos.2 eps_pos
  have h2 : 0 ≤ ∑ k ∈ Finset.range 1024, h i k * h i k := Finset.sum_nonneg fun k _ => sq_nonneg _
  have h3 : (0 : EReal) ≤ ((1 / 1024 : ℝ) : EReal) := EReal.coe_nonneg.2 (by norm_num)
  exact lt_of_lt_of_le h1 (le_add_of_nonneg_left (mul_nonneg h2 h3))

theorem coe_mul_add {r : ℝ} (hr : 0 ≤ r) (x y : EReal) : (r : EReal) * (x + y) = (r : EReal) * x + (r : EReal) * y :=
  EReal.left_distrib_of_nonneg_of_ne_top (EReal.coe_nonneg.2 hr) (EReal.coe_ne_top r) x y

theorem mul_sum {r : ℝ} (hr : 0 ≤ r) (f : ℕ → EReal) (n : ℕ) : (r : EReal) * ∑ k ∈ Finset.range n, f k = ∑ k ∈ Finset.range n, (r : EReal) * f k := by
  induction n with
  | zero => simp
  | succ n ih => rw [Finset.sum_range_succ, Finset.sum_range_succ, coe_mul_add hr, ih]

theorem add_self (y : EReal) : y + y = ((2 : ℝ) : EReal) * y := by
  induction y with
  | bot => rw [EReal.coe_mul_bot_of_pos (by norm_num)]; rfl
  | top => rw [EReal.coe_mul_top_of_pos (by norm_num)]; rfl
  | coe y => rw [← EReal.coe_add, ← EReal.coe_mul, two_mul]

/-- The gradient through the normalisation: the two ways of writing it agree, at the infinities too. -/
theorem norm_grad (h d : ℕ → EReal) (k : ℕ) {M : EReal} (hM : 0 < M) :
    d k * Ideal.rsqrt M + h k * ((∑ k ∈ Finset.range 1024, h k * d k) * (((-(1 / 2) : ℝ) : EReal) * Ideal.div (Ideal.rsqrt M) M) * ((1 / 1024 : ℝ) : EReal))
      + ((∑ k ∈ Finset.range 1024, h k * d k) * (((-(1 / 2) : ℝ) : EReal) * Ideal.div (Ideal.rsqrt M) M) * ((1 / 1024 : ℝ) : EReal)) * h k
    = Ideal.rsqrt M * (d k - h k * Ideal.rsqrt M * ((∑ k ∈ Finset.range 1024, d k * (h k * Ideal.rsqrt M)) * ((1 / 1024 : ℝ) : EReal))) := by
  induction M with
  | bot => simp at hM
  | top => simp [Ideal.div]
  | coe μ =>
    have p : 0 < μ := EReal.coe_pos.1 hM
    rw [Ideal.rsqrt_coe, if_neg (not_lt.2 p.le), if_neg p.ne', div_real _ _ p.ne']
    have hr : 0 ≤ (Real.sqrt μ)⁻¹ := inv_nonneg.2 (Real.sqrt_nonneg _)
    have e : (Real.sqrt μ)⁻¹ / μ = (Real.sqrt μ)⁻¹ * ((Real.sqrt μ)⁻¹ * (Real.sqrt μ)⁻¹) := by
      rw [div_eq_mul_inv]; congr 1; rw [← mul_inv, Real.mul_self_sqrt p.le]
    rw [e]
    generalize (Real.sqrt μ)⁻¹ = r at *
    have e1 : ∑ k ∈ Finset.range 1024, d k * (h k * (r : EReal)) = (r : EReal) * ∑ k ∈ Finset.range 1024, h k * d k := by
      rw [mul_sum hr]
      exact Finset.sum_congr rfl fun k _ => by ac_rfl
    rw [e1]
    generalize ∑ k ∈ Finset.range 1024, h k * d k = q
    have e2 : h k * (q * (((-(1 / 2) : ℝ) : EReal) * ((r * (r * r) : ℝ) : EReal)) * ((1 / 1024 : ℝ) : EReal)) = h k * q * ((-(1 / 2) * (r * (r * r)) * (1 / 1024) : ℝ) : EReal) := by
      rw [EReal.coe_mul, EReal.coe_mul]; ac_rfl
    have e3 : (q * (((-(1 / 2) : ℝ) : EReal) * ((r * (r * r) : ℝ) : EReal)) * ((1 / 1024 : ℝ) : EReal)) * h k = h k * q * ((-(1 / 2) * (r * (r * r)) * (1 / 1024) : ℝ) : EReal) := by
      rw [EReal.coe_mul, EReal.coe_mul]; ac_rfl
    have e4 : h k * (r : EReal) * ((r : EReal) * q * ((1 / 1024 : ℝ) : EReal)) = h k * q * ((r * r * (1 / 1024) : ℝ) : EReal) := by
      rw [EReal.coe_mul, EReal.coe_mul]; ac_rfl
    rw [e2, e3, e4, add_assoc, add_self, sub_eq_add_neg, coe_mul_add hr, mul_comm (d k)]
    congr 1
    rw [← mul_neg, ← EReal.coe_neg, mul_left_comm, mul_left_comm (r : EReal), ← EReal.coe_mul, ← EReal.coe_mul]
    congr 2
    ring

namespace Dat

variable (S : Dat)

/-- The rows from `o` on. -/
def rows (o : ℕ) : Dat where
  A i := S.A (o + i)
  B i := S.B (o + i)
  X i := S.X (o + i)
  WO := S.WO
  nw := S.nw
  WG := S.WG
  WD := S.WD
  fw := S.fw
  T i := S.T (o + i)

def M (i k : ℕ) : EReal := if k < 512 then S.A i k else S.B i (k - 512)
def H (i l : ℕ) : EReal := S.X i l + ∑ k ∈ Finset.range 1024, S.M i k * S.WO k l
def U2 (i k : ℕ) : EReal := S.H i k * rs S.H i * S.nw k
def G (i c : ℕ) : EReal := ∑ k ∈ Finset.range 1024, S.U2 i k * S.WG k c
def U (i c : ℕ) : EReal := ∑ k ∈ Finset.range 1024, S.U2 i k * S.WG k (2816 + c)
def ACT (i c : ℕ) : EReal := S.G i c * sg (S.G i c) * S.U i c
def H2 (i k : ℕ) : EReal := S.H i k + ∑ c ∈ Finset.range 2816, S.ACT i c * S.WD c k
def N (i k : ℕ) : EReal := S.H2 i k * rs S.H2 i
def E (i k : ℕ) : EReal := S.N i k * S.fw k - S.T i k
def DY (i k : ℕ) : EReal := S.E i k * ((1 / 1024 : ℝ) : EReal)
def DN (i k : ℕ) : EReal := S.DY i k * S.fw k
def DOT (i : ℕ) : EReal := ∑ k ∈ Finset.range 1024, S.DN i k * S.N i k
def D2 (i k : ℕ) : EReal := rs S.H2 i * (S.DN i k - S.N i k * (S.DOT i * ((1 / 1024 : ℝ) : EReal)))
def FW (n k : ℕ) : EReal := ∑ i ∈ Finset.range n, S.DY i k * S.N i k
def LS (n k : ℕ) : EReal := ((1 / 2048 : ℝ) : EReal) * ∑ i ∈ Finset.range n, S.E i k * S.E i k

theorem fw_step (n k : ℕ) : S.FW n k + (S.rows n).FW 256 k = S.FW (n + 256) k := by
  unfold FW
  rw [Finset.sum_range_add]
  rfl

theorem ls_step (n k : ℕ) : S.LS n k + (S.rows n).LS 256 k = S.LS (n + 256) k := by
  unfold LS
  rw [Finset.sum_range_add, coe_mul_add (by norm_num)]
  rfl

end Dat

end Cert.Fwd

end

end
-- ==== Proof.FwdBlock.lean ====
/- One step of the grid of the feed-forward half with the loss, as a function of the entries. -/
module

public import proofs.«01_k».proof.Proof.FwdReal
public import proofs.«01_k».proof.Proof.Gen.FfnFwdIdeal.Skeleton

@[expose] public section

set_option maxRecDepth 16384

noncomputable section

namespace Cert.Fwd

open Idealize.ShloMosaic Idealize.SL.Sem
open Cert.Mirror
open Cert.Ffn (eps eps_pos bits_eps bits_width)
open Cert.FfnFwdIdeal Cert.FfnFwdIdeal.Gen

variable {S : Dat}

section
variable {v3 v4 : Vec Ideal S256x512 .f32} {v8 : Vec Ideal S256x1024 .f32} {v9 : Vec Ideal S1024x1024 .bf16} {v24 : Vec Ideal S1x1024 .f32}
  (h3 : Ef (a := 256) (b := 512) v3 S.A) (h4 : Ef (a := 256) (b := 512) v4 S.B)

include h3 h4

theorem lf_pay3 : Ef (a := 256) (b := 1024) (k0_pay3 v3 v4) S.M := by
  intro i j
  pointwise [k0_pay3]
  unfold Dat.M
  split
  · exact h3 _ _
  · exact h4 _ _

variable (h8 : Ef (a := 256) (b := 1024) v8 S.X) (h9 : Ef (a := 1024) (b := 1024) v9 S.WO)
include h8 h9

theorem lf_pay4 : Ef (a := 256) (b := 1024) (k0_pay4 v3 v4 v8 v9) S.H := by
  intro i j
  pointwise [k0_pay4]
  rw [h8 i j, dot_ef (F := fun k => S.M i k) (G := fun k => S.WO k j) (fun k => lf_pay3 h3 h4 i k) (fun k => h9 k j)]
  rfl

theorem lf_pay5 (h24 : Ef (a := 1) (b := 1024) v24 fun _ k => S.nw k) : Ef (a := 256) (b := 1024) (k0_pay5 v3 v4 v8 v9 v24) S.U2 := by
  intro i j
  pointwise [k0_pay5]
  rw [bits_width, bits_eps, dot_ef (F := fun k => S.H i k) (G := fun k => S.H i k) (fun k => lf_pay4 h3 h4 h8 h9 i k) (fun k => lf_pay4 h3 h4 h8 h9 i k),
    Ideal.div_coe (by norm_num)]
  refine (congrArg₂ (fun a b : EReal => a * b) (congrArg₂ (fun a b : EReal => a * b) (lf_pay4 h3 h4 h8 h9 i j) (rfl : _ = rs S.H i)) (h24 0 j)).trans ?_
  rfl

end

section
variable {v27 : FVec Ideal S256x1024 .bf16} {v29 v32 v36 v39 : Vec Ideal S1x1024x1408 .bf16} {v12 : FVec Ideal S256x1024 .f32} {v58 : Vec Ideal S2816x1024 .bf16}
  (h27 : Ef (a := 256) (b := 1024) v27 S.U2)
  (h29 : ∀ (k : Fin 1024) (c : Fin 1408), v29 (ix3 0 k c) = S.WG k c)
  (h32 : ∀ (k : Fin 1024) (c : Fin 1408), v32 (ix3 0 k c) = S.WG k (1408 + c))
  (h36 : ∀ (k : Fin 1024) (c : Fin 1408), v36 (ix3 0 k c) = S.WG k (2816 + c))
  (h39 : ∀ (k : Fin 1024) (c : Fin 1408), v39 (ix3 0 k c) = S.WG k (4224 + c))

include h27

theorem lf_pay6 (h29 : ∀ (k : Fin 1024) (c : Fin 1408), v29 (ix3 0 k c) = S.WG k c)
    (h32 : ∀ (k : Fin 1024) (c : Fin 1408), v32 (ix3 0 k c) = S.WG k (1408 + c)) :
    Ef (a := 256) (b := 2816) (k0_pay6 v27 v29 v32) S.G := by
  intro i j
  pointwise [k0_pay6]
  split
  · exact dot_ef (F := fun k => S.U2 i k) (G := fun k => S.WG k j) (fun k => h27 i k) (fun k => h29 k _)
  · refine dot_ef (F := fun k => S.U2 i k) (G := fun k => S.WG k j) (fun k => h27 i k) (fun k => (h32 k _).trans (congrArg (fun n => S.WG k n) ?_))
    simp only
    omega

theorem lf_pay7 (h36 : ∀ (k : Fin 1024) (c : Fin 1408), v36 (ix3 0 k c) = S.WG k (2816 + c))
    (h39 : ∀ (k : Fin 1024) (c : Fin 1408), v39 (ix3 0 k c) = S.WG k (4224 + c)) :
    Ef (a := 256) (b := 2816) (k0_pay7 v27 v36 v39) S.U := by
  intro i j
  pointwise [k0_pay7]
  split
  · exact dot_ef (F := fun k => S.U2 i k) (G := fun k => S.WG k (2816 + j)) (fun k => h27 i k) (fun k => h36 k _)
  · refine dot_ef (F := fun k => S.U2 i k) (G := fun k => S.WG k (2816 + j)) (fun k => h27 i k) (fun k => (h39 k _).trans (congrArg (fun n => S.WG k n) ?_))
    simp only
    omega

theorem lf_pay8 (h29 : ∀ (k : Fin 1024) (c : Fin 1408), v29 (ix3 0 k c) = S.WG k c)
    (h32 : ∀ (k : Fin 1024) (c : Fin 1408), v32 (ix3 0 k c) = S.WG k (1408 + c)) :
    Ef (a := 256) (b := 2816) (k0_pay8 v27 v29 v32) S.G := by
  intro i j
  pointwise [k0_pay8]
  exact lf_pay6 h27 h29 h32 i j

theorem lf_pay9 (h36 : ∀ (k : Fin 1024) (c : Fin 1408), v36 (ix3 0 k c) = S.WG k (2816 + c))
    (h39 : ∀ (k : Fin 1024) (c : Fin 1408), v39 (ix3 0 k c) = S.WG k (4224 + c)) :
    Ef (a := 256) (b := 2816) (k0_pay9 v27 v36 v39) S.U := by
  intro i j
  pointwise [k0_pay9]
  exact lf_pay7 h27 h36 h39 i j

include h29 h32 h36 h39

theorem lf_pay10 : Ef (a := 256) (b := 2816) (k0_pay10 v27 v29 v32 v36 v39) S.ACT := by
  intro i j
  pointwise [k0_pay10]
  rw [lf_pay6 h27 h29 h32 i j, lf_pay7 h27 h36 h39 i j, bits_half, sg_tanh]
  rfl

theorem lf_pay11 (h12 : Ef (a := 256) (b := 1024) v12 S.H) (h58 : Ef (a := 2816) (b := 1024) v58 S.WD) :
    Ef (a := 256) (b := 1024) (k0_pay11 v12 v27 v29 v32 v36 v39 v58) S.H2 := by
  intro i k
  pointwise [k0_pay11]
  rw [h12 i k, dot_ef (F := fun c => S.ACT i c) (G := fun c => S.WD c k) (fun c => lf_pay10 h27 h29 h32 h36 h39 i c) (fun c => h58 c k)]
  rfl

end

section
variable {v61 : FVec Ideal S256x1024 .f32} {v72 : Vec Ideal S1x1024 .f32} {v75 : Vec Ideal S256x1024 .f32} {v79 v86 : Vec Ideal S1x1024 .f32} {a : ℕ → EReal}
  (h61 : Ef (a := 256) (b := 1024) v61 S.H2)

include h61

theorem lf_pay12 : Ef (a := 256) (b := 1) (k0_pay12 v61) fun i _ => rs S.H2 i := by
  intro i j
  pointwise [k0_pay12]
  rw [bits_width, bits_eps, dot_ef (F := fun k => S.H2 i k) (G := fun k => S.H2 i k) (fun k => h61 i k) (fun k => h61 i k), Ideal.div_coe (by norm_num)]
  rfl

theorem lf_pay13 : Ef (a := 256) (b := 1024) (k0_pay13 v61) S.N := by
  intro i j
  pointwise [k0_pay13]
  rw [lf_pay12 h61 i 0, h61 i j]
  rfl

variable (h72 : Ef (a := 1) (b := 1024) v72 fun _ k => S.fw k) (h75 : Ef (a := 256) (b := 1024) v75 S.T)
include h72 h75

theorem lf_pay14 : Ef (a := 256) (b := 1024) (k0_pay14 v61 v72 v75) S.E := by
  intro i j
  pointwise [k0_pay14]
  rw [lf_pay13 h61 i j, h72 0 j, h75 i j]
  rfl

theorem lf_pay15 : Ef (a := 256) (b := 1024) (k0_pay15 v61 v72 v75) S.DY := by
  intro i j
  pointwise [k0_pay15]
  rw [lf_pay14 h61 h72 h75 i j, bits_inv]
  rfl

theorem lf_pay16 (h79 : Ef (a := 1) (b := 1024) v79 fun _ k => a k) : Ef (a := 1) (b := 1024) (k0_pay16 v61 v72 v75 v79) fun _ k => a k + S.FW 256 k := by
  intro i k
  pointwise [k0_pay16]
  rw [h79 i k]
  exact congrArg (fun y => a k + y) (dot_ef (F := fun r => S.DY r k) (G := fun r => S.N r k) (fun r => lf_pay15 h61 h72 h75 r k) (fun r => lf_pay13 h61 r k))

theorem lf_pay17 (h86 : Ef (a := 1) (b := 1024) v86 fun _ k => a k) : Ef (a := 1) (b := 1024) (k0_pay17 v61 v72 v75 v86) fun _ k => a k + S.LS 256 k := by
  intro i k
  pointwise [k0_pay17]
  rw [h86 i k, bits_half_inv, dot_ef (F := fun r => S.E r k) (G := fun r => S.E r k) (fun r => lf_pay14 h61 h72 h75 r k) (fun r => lf_pay14 h61 h72 h75 r k)]
  rfl

theorem lf_pay18 : Ef (a := 256) (b := 1024) (k0_pay18 v61 v72 v75) S.DN := by
  intro i k
  pointwise [k0_pay18]
  rw [lf_pay15 h61 h72 h75 i k, h72 0 k]
  rfl

theorem lf_pay19 : Ef (a := 256) (b := 1) (k0_pay19 v61 v72 v75) fun i _ => S.DOT i := by
  intro i j
  pointwise [k0_pay19]
  exact dot_ef (F := fun k => S.DN i k) (G := fun k => S.N i k) (fun k => lf_pay18 h61 h72 h75 i k) (fun k => lf_pay13 h61 i k)

theorem lf_pay1 : Ef (a := 256) (b := 1024) (k0_pay1 (k0_pay12 v61) (k0_pay13 v61) (k0_pay18 v61 v72 v75) (k0_pay19 v61 v72 v75)) S.D2 := by
  intro i k
  pointwise [k0_pay1]
  rw [lf_pay12 h61 i 0, lf_pay13 h61 i k, lf_pay18 h61 h72 h75 i k, lf_pay19 h61 h72 h75 i 0, bits_width, Ideal.div_coe (by norm_num)]
  rfl

end

end Cert.Fwd

end

end
-- ==== Proof.FwdGrid.lean ====
/- The whole grid of the feed-forward half with the loss: what its outputs hold after the last point. -/
module

public import proofs.«01_k».proof.Proof.FwdBlock
public import proofs.«01_k».proof.Proof.Gen.FfnFwdIdeal.Value
public import Idealize.ShloMosaic.Lib.Pipeline.ValueKit
public import Idealize.ShloMosaic.Lib.Pipeline.ReadBack

@[expose] public section

set_option maxRecDepth 16384

noncomputable section

namespace Cert.Fwd

open Idealize.ShloMosaic Idealize.ShloMosaic.TcCoe Idealize.SL.Sem
open Cert.Mirror
open Cert.FfnFwdIdeal Cert.FfnFwdIdeal.Gen

/-- The blocks of one point hold the rows `S`. -/
structure Blk (S : Dat) (x0 x1 : Vec Ideal S256x512 .f32) (x2 : Vec Ideal S256x1024 .f32) (x3 : Vec Ideal S1024x1024 .bf16)
    (x4 : Vec Ideal S1x1024 .f32) (x5 : Vec Ideal S4x1024x1408 .bf16) (x6 : Vec Ideal S2816x1024 .bf16) (x7 : Vec Ideal S1x1024 .f32)
    (x8 : Vec Ideal S256x1024 .f32) : Prop where
  a : Ef (a := 256) (b := 512) x0 S.A
  b : Ef (a := 256) (b := 512) x1 S.B
  x : Ef (a := 256) (b := 1024) x2 S.X
  wo : Ef (a := 1024) (b := 1024) x3 S.WO
  nw : Ef (a := 1) (b := 1024) x4 fun _ k => S.nw k
  wg : ∀ (q : Fin 4) (k : Fin 1024) (l : Fin 1408), x5 (ix3 q k l) = S.WG k (1408 * q + l)
  wd : Ef (a := 2816) (b := 1024) x6 S.WD
  fw : Ef (a := 1) (b := 1024) x7 fun _ k => S.fw k
  t : Ef (a := 256) (b := 1024) x8 S.T

section
variable {S : Dat} {x0 x1 : Vec Ideal S256x512 .f32} {x2 : Vec Ideal S256x1024 .f32} {x3 : Vec Ideal S1024x1024 .bf16}
    {x4 : Vec Ideal S1x1024 .f32} {x5 : Vec Ideal S4x1024x1408 .bf16} {x6 : Vec Ideal S2816x1024 .bf16} {x7 : Vec Ideal S1x1024 .f32}
    {x8 : Vec Ideal S256x1024 .f32} (Hb : Blk S x0 x1 x2 x3 x4 x5 x6 x7 x8)

variable (x5) in
abbrev w0 : Vec Ideal S1x1024x1408 .bf16 := View.ld x5 (Rect.unit ![0, 0, 0] ![1, 1024, 1408] inb_S4x1024x1408_S1x1024x1408_0_0_0)
variable (x5) in
abbrev w1 : Vec Ideal S1x1024x1408 .bf16 := View.ld x5 (Rect.unit ![1, 0, 0] ![1, 1024, 1408] inb_S4x1024x1408_S1x1024x1408_1_0_0)
variable (x5) in
abbrev w2 : Vec Ideal S1x1024x1408 .bf16 := View.ld x5 (Rect.unit ![2, 0, 0] ![1, 1024, 1408] inb_S4x1024x1408_S1x1024x1408_2_0_0)
variable (x5) in
abbrev w3 : Vec Ideal S1x1024x1408 .bf16 := View.ld x5 (Rect.unit ![3, 0, 0] ![1, 1024, 1408] inb_S4x1024x1408_S1x1024x1408_3_0_0)

variable (x0 x1 x2 x3 x4) in
abbrev u2 : FVec Ideal S256x1024 .bf16 := k0_pay5 x0 x1 x2 x3 x4

variable (x0 x1 x2 x3 x4 x5 x6) in
abbrev h2 : FVec Ideal S256x1024 .f32 := k0_pay11 (k0_pay4 x0 x1 x2 x3) (u2 x0 x1 x2 x3 x4) (w0 x5) (w1 x5) (w2 x5) (w3 x5) x6

include Hb

theorem w0_at (k : Fin 1024) (l : Fin 1408) : w0 x5 (ix3 0 k l) = S.WG k l := by
  refine ((View.ld_unit_apply_of _ _ _ _ _ (ix3 (n0 := 4) 0 k l) fun d => ?_).trans (Hb.wg 0 k l)).trans ?_
  · fin_cases d <;> simp
  · simp
theorem w1_at (k : Fin 1024) (l : Fin 1408) : w1 x5 (ix3 0 k l) = S.WG k (1408 + l) := by
  refine ((View.ld_unit_apply_of _ _ _ _ _ (ix3 (n0 := 4) 1 k l) fun d => ?_).trans (Hb.wg 1 k l)).trans ?_
  · fin_cases d <;> simp
  · simp
theorem w2_at (k : Fin 1024) (l : Fin 1408) : w2 x5 (ix3 0 k l) = S.WG k (2816 + l) := by
  refine ((View.ld_unit_apply_of _ _ _ _ _ (ix3 (n0 := 4) 2 k l) fun d => ?_).trans (Hb.wg 2 k l)).trans ?_
  · fin_cases d <;> simp
  · simp
theorem w3_at (k : Fin 1024) (l : Fin 1408) : w3 x5 (ix3 0 k l) = S.WG k (4224 + l) := by
  refine ((View.ld_unit_apply_of _ _ _ _ _ (ix3 (n0 := 4) 3 k l) fun d => ?_).trans (Hb.wg 3 k l)).trans ?_
  · fin_cases d <;> simp
  · simp

theorem lf_h : Ef (a := 256) (b := 1024) (k0_pay4 x0 x1 x2 x3) S.H := lf_pay4 Hb.a Hb.b Hb.x Hb.wo

theorem lf_u2 : Ef (a := 256) (b := 1024) (u2 x0 x1 x2 x3 x4) S.U2 := lf_pay5 Hb.a Hb.b Hb.x Hb.wo Hb.nw

theorem lf_g : Ef (a := 256) (b := 2816) (k0_pay8 (u2 x0 x1 x2 x3 x4) (w0 x5) (w1 x5)) S.G := lf_pay8 (lf_u2 Hb) (w0_at Hb) (w1_at Hb)

theorem lf_up : Ef (a := 256) (b := 2816) (k0_pay9 (u2 x0 x1 x2 x3 x4) (w2 x5) (w3 x5)) S.U := lf_pay9 (lf_u2 Hb) (w2_at Hb) (w3_at Hb)

theorem lf_act : Ef (a := 256) (b := 2816) (k0_pay10 (u2 x0 x1 x2 x3 x4) (w0 x5) (w1 x5) (w2 x5) (w3 x5)) S.ACT :=
  lf_pay10 (lf_u2 Hb) (w0_at Hb) (w1_at Hb) (w2_at Hb) (w3_at Hb)

theorem lf_h2 : Ef (a := 256) (b := 1024) (h2 x0 x1 x2 x3 x4 x5 x6) S.H2 :=
  lf_pay11 (lf_u2 Hb) (w0_at Hb) (w1_at Hb) (w2_at Hb) (w3_at Hb) (lf_h Hb) Hb.wd

theorem lf_d2 : Ef (a := 256) (b := 1024) (k0_pay1 (k0_pay12 (h2 x0 x1 x2 x3 x4 x5 x6)) (k0_pay13 (h2 x0 x1 x2 x3 x4 x5 x6)) (k0_pay18 (h2 x0 x1 x2 x3 x4 x5 x6) x7 x8) (k0_pay19 (h2 x0 x1 x2 x3 x4 x5 x6) x7 x8)) S.D2 :=
  lf_pay1 (lf_h2 Hb) Hb.fw Hb.t

theorem lf_fw {v : Vec Ideal S1x1024 .f32} {a : ℕ → EReal} (hv : Ef (a := 1) (b := 1024) v fun _ k => a k) : Ef (a := 1) (b := 1024)
    (k0_pay16 (h2 x0 x1 x2 x3 x4 x5 x6) x7 x8 v) fun _ k => a k + S.FW 256 k :=
  lf_pay16 (lf_h2 Hb) Hb.fw Hb.t hv

theorem lf_ls {v : Vec Ideal S1x1024 .f32} {a : ℕ → EReal} (hv : Ef (a := 1) (b := 1024) v fun _ k => a k) : Ef (a := 1) (b := 1024)
    (k0_pay17 (h2 x0 x1 x2 x3 x4 x5 x6) x7 x8 v) fun _ k => a k + S.LS 256 k :=
  lf_pay17 (lf_h2 Hb) Hb.fw Hb.t hv

end

variable (m : (ℓ : Loc nD τ sig) → Buf (Elt Ideal) ℓ) (c : Dev nD)

/-- The summed rows: one row of weight gradient, one of loss, zeros. -/
abbrev sums (a b : ℕ → EReal) (i k : ℕ) : EReal := if i = 0 then a k else if i = 1 then b k else 0

/-- The eight outputs of one point. -/
structure Out (S : Dat) (a b : ℕ → EReal) (p : Vec Ideal S256x1024 .bf16 × Vec Ideal S256x1024 .f32 × Vec Ideal S256x1024 .bf16 × Vec Ideal S256x2816 .bf16
    × Vec Ideal S256x2816 .bf16 × Vec Ideal S256x2816 .bf16 × Vec Ideal S256x1024 .f32 × Vec Ideal S8x1024 .f32) : Prop where
  mx : Ef (a := 256) (b := 1024) p.1 S.M
  h : Ef (a := 256) (b := 1024) p.2.1 S.H
  u2 : Ef (a := 256) (b := 1024) p.2.2.1 S.U2
  g : Ef (a := 256) (b := 2816) p.2.2.2.1 S.G
  up : Ef (a := 256) (b := 2816) p.2.2.2.2.1 S.U
  act : Ef (a := 256) (b := 2816) p.2.2.2.2.2.1 S.ACT
  d2 : Ef (a := 256) (b := 1024) p.2.2.2.2.2.2.1 S.D2
  acc : Ef (a := 8) (b := 1024) p.2.2.2.2.2.2.2 (sums a b)

abbrev Blk_at (S : Dat) (t : Fin cfg0.N) : Prop := Blk S (iblk m c 0 t) (iblk m c 1 t) (iblk m c 2 t) (iblk m c 3 t) (iblk m c 4 t) (iblk m c 5 t)
  (iblk m c 6 t) (iblk m c 7 t) (iblk m c 8 t)

/-- One row of the summed rows. -/
abbrev row (q : ℕ) (inb : ∀ d, (![q, 0] : Fin 2 → ℕ) d + (![1, 1024] : Fin 2 → ℕ) d ≤ S8x1024.size d) : Rect S8x1024 := Rect.unit ![q, 0] ![1, 1024] inb

section
variable {q : ℕ} {inb : ∀ d, (![q, 0] : Fin 2 → ℕ) d + (![1, 1024] : Fin 2 → ℕ) d ≤ S8x1024.size d}

theorem row_emb (i : Fin 8) (h : (i : ℕ) = q) (z : Fin 1) (k : Fin 1024) : (row q inb).emb (ix2 (n0 := 1) z k) = ix2 i k := by
  funext a
  apply Fin.ext
  have e : (((row q inb).idx (ix2 (n0 := 1) z k)) a : ℕ) = (![q, 0] : Fin 2 → ℕ) a + ((ix2 (n0 := 1) z k : S1x1024.Idx) a : ℕ) := Rect.idx_unit_val _ _ _ _ _
  refine e.trans ?_
  have hz : (z : ℕ) = 0 := by omega
  fin_cases a
  · simp [hz, h]
  · simp

theorem row_rest (i : Fin 8) (k : Fin 1024) (h : (i : ℕ) ≠ q) : (ix2 i k : S8x1024.Idx) ∉ (row q inb).set := by
  intro hm
  obtain ⟨z, hz⟩ := (row q inb).exists_idx_of_mem hm
  have h0 : (((row q inb).idx z) 0 : ℕ) = (i : ℕ) := congrArg (fun y : S8x1024.Idx => (y 0 : ℕ)) hz
  have e1 : (((row q inb).idx z) 0 : ℕ) = q + (z 0 : ℕ) := Rect.idx_unit_val _ _ _ _ _
  have hz0 : (z 0 : ℕ) < 1 := (z 0).isLt
  omega

theorem row_mem (i : Fin 8) (h : (i : ℕ) = q) (k : Fin 1024) : (ix2 i k : S8x1024.Idx) ∈ (row q inb).set := by
  rw [← row_emb i h 0 k, ← Rect.map_emb_univ]; exact Finset.mem_map_of_mem _ (Finset.mem_univ _)

abbrev P (q : ℕ) (inb : ∀ d, (![q, 0] : Fin 2 → ℕ) d + (![1, 1024] : Fin 2 → ℕ) d ≤ S8x1024.size d) (w : S1x1024.Idx → Elt Ideal .f32) :
    View.Piece (Elt Ideal) S8x1024 .f32 := ⟨row q inb, w⟩

theorem can_row (w : S1x1024.Idx → Elt Ideal .f32) (L : List (View.Piece (Elt Ideal) S8x1024 .f32)) (i : Fin 8) (h : (i : ℕ) = q) (k : Fin 1024) :
    View.canon (P q inb w :: L) (ix2 i k) = w (ix2 (n0 := 1) 0 k) := by
  rw [← row_emb (inb := inb) i h 0 k]; exact View.canon_cons_emb (row q inb) w L _

theorem can_rest (w : S1x1024.Idx → Elt Ideal .f32) (L : List (View.Piece (Elt Ideal) S8x1024 .f32)) (i : Fin 8) (k : Fin 1024) (h : (i : ℕ) ≠ q) :
    View.canon (P q inb w :: L) (ix2 i k) = View.canon L (ix2 i k) :=
  View.canon_cons_of_not_mem (P q inb w) L (row_rest (inb := inb) i k h)

theorem wr_row {sg : RefSig} {κ : Kind} {sp : Space} (v : View sg κ sp S8x1024 .f32) (z) (w : S1x1024.Idx → Elt Ideal .f32)
    (L : List (View.Piece (Elt Ideal) S8x1024 .f32)) (i : Fin 8) (h : (i : ℕ) = q) (k : Fin 1024) :
    v.read (Elt Ideal) (v.writes (Elt Ideal) z (P q inb w :: L)) (ix2 i k) = w (ix2 (n0 := 1) 0 k) := by
  rw [View.read_writes_apply_eq_canon _ _ _ _ ⟨P q inb w, List.mem_cons_self, row_mem (inb := inb) i h k⟩]
  exact can_row w L i h k

theorem wr_rest {sg : RefSig} {κ : Kind} {sp : Space} (v : View sg κ sp S8x1024 .f32) (z) (w : S1x1024.Idx → Elt Ideal .f32)
    (L : List (View.Piece (Elt Ideal) S8x1024 .f32)) (i : Fin 8) (k : Fin 1024) (h : (i : ℕ) ≠ q) :
    v.read (Elt Ideal) (v.writes (Elt Ideal) z (P q inb w :: L)) (ix2 i k) = v.read (Elt Ideal) (v.writes (Elt Ideal) z L) (ix2 i k) := by
  have hn := row_rest (inb := inb) i k h
  rw [← Rect.map_emb_univ] at hn
  rw [View.writes_cons]
  exact View.read_slice_write_of_not_mem _ _ _ _ hn

theorem ld_row (A : S8x1024.Idx → Elt Ideal .f32) (i : Fin 8) (h : (i : ℕ) = q) (z : Fin 1) (k : Fin 1024) :
    View.ld (Val := Elt Ideal) (e' := .f32) A (row q inb) (ix2 z k) = A (ix2 i k) :=
  congrArg A (row_emb i h z k)

end

theorem pay2_at (j : S8x1024.Idx) : k0_pay2 (F := Ideal) j = 0 := by pointwise [k0_pay2]

/-- The fill the first point starts from. -/
abbrev fill {F : FTy → Type} [FloatOps F] : View.Piece (Elt F) S8x1024 .f32 := ⟨Rect.unit (s := S8x1024) ![0, 0] S8x1024.size inb_S8x1024_S8x1024_0_0, k0_pay2⟩

theorem canon_fill (j : S8x1024.Idx) : View.canon [fill (F := Ideal)] j = 0 :=
  (congrFun (View.canon_cons_unit_lit (S := S8x1024) (off := ![0, 0]) _ _ _ (by intro a; fin_cases a <;> rfl)) j).trans (pay2_at j)

variable {m c} {S : Dat} {a b : ℕ → EReal}

theorem out_A (t : Fin cfg0.N) (h : t.val % 32 = 0) (Hb : Blk_at m c S t) : Out S (S.FW 256) (S.LS 256) (outsAt0 m c t.val t.isLt) where
  mx := by
    rw [outsAt0_A m c t h]; frame_out
    exact lf_pay3 Hb.a Hb.b
  h := by
    rw [outsAt0_A m c t h]; frame_out
    exact lf_h Hb
  u2 := by
    rw [outsAt0_A m c t h]; frame_out
    exact lf_u2 Hb
  g := by
    rw [outsAt0_A m c t h]; frame_out
    exact lf_g Hb
  up := by
    rw [outsAt0_A m c t h]; frame_out
    exact lf_up Hb
  act := by
    rw [outsAt0_A m c t h]; frame_out
    exact lf_act Hb
  d2 := by
    rw [outsAt0_A m c t h]; frame_out
    exact lf_d2 Hb
  acc := by
    rw [outsAt0_A m c t h]; frame_out
    intro i k
    by_cases h1 : (i : ℕ) = 1
    · refine Eq.trans ?_ ((if_neg (by omega)).trans (if_pos h1)).symm
      refine (can_row _ _ i h1 k).trans ((lf_ls Hb (a := fun _ => 0) (fun i k => ?_) 0 k).trans (zero_add _))
      rw [View.readCov_eq_canon']
      refine (congrArg _ (row_emb (q := 1) 1 rfl _ _)).trans ((can_rest (q := 0) _ _ 1 _ (by decide)).trans (canon_fill _))
    · refine (can_rest _ _ i k h1).trans ?_
      by_cases h : (i : ℕ) = 0
      · refine Eq.trans ?_ (if_pos h).symm
        refine (can_row _ _ i h k).trans ((lf_fw Hb (a := fun _ => 0) (fun i k => ?_) 0 k).trans (zero_add _))
        rw [View.readCov_eq_canon']
        exact canon_fill _
      · refine Eq.trans ?_ ((if_neg h).trans (if_neg h1)).symm
        exact (can_rest _ _ i k h).trans (canon_fill _)

theorem out_B (t : Fin cfg0.N) (h : ¬t.val % 32 = 0) (Hb : Blk_at m c S t)
    (ha : Ef (a := 8) (b := 1024) (outsAt0 m c (t.val - 1) (Nat.lt_of_le_of_lt (Nat.sub_le _ _) t.isLt)).2.2.2.2.2.2.2 (sums a b)) :
    Out S (fun k => a k + S.FW 256 k) (fun k => b k + S.LS 256 k) (outsAt0 m c t.val t.isLt) where
  mx := by
    rw [outsAt0_B m c t h]; frame_out
    exact lf_pay3 Hb.a Hb.b
  h := by
    rw [outsAt0_B m c t h]; frame_out
    exact lf_h Hb
  u2 := by
    rw [outsAt0_B m c t h]; frame_out
    exact lf_u2 Hb
  g := by
    rw [outsAt0_B m c t h]; frame_out
    exact lf_g Hb
  up := by
    rw [outsAt0_B m c t h]; frame_out
    exact lf_up Hb
  act := by
    rw [outsAt0_B m c t h]; frame_out
    exact lf_act Hb
  d2 := by
    rw [outsAt0_B m c t h]; frame_out
    exact lf_d2 Hb
  acc := by
    rw [outsAt0_B m c t h]; frame_out
    generalize (outsAt0 m c (t.val - 1) (Nat.lt_of_le_of_lt (Nat.sub_le _ _) t.isLt)).2.2.2.2.2.2.2 = A at ha ⊢
    intro i k
    by_cases h1 : (i : ℕ) = 1
    · refine Eq.trans ?_ ((if_neg (by omega)).trans (if_pos h1)).symm
      refine (wr_row _ _ _ _ i h1 k).trans (lf_ls Hb (fun i k => ?_) 0 k)
      refine (ld_row _ 1 rfl i k).trans ?_
      exact (ha 1 k).trans ((if_neg (by decide)).trans (if_pos rfl))
    · refine (wr_rest _ _ _ _ i k h1).trans ?_
      by_cases h : (i : ℕ) = 0
      · refine Eq.trans ?_ (if_pos h).symm
        refine (wr_row _ _ _ _ i h k).trans (lf_fw Hb (fun i k => ?_) 0 k)
        exact (ld_row A 0 rfl i k).trans ((ha 0 k).trans (if_pos rfl))
      · refine Eq.trans ?_ ((if_neg h).trans (if_neg h1)).symm
        refine (wr_rest _ _ _ _ i k h).trans ?_
        rw [View.writes_nil, Memref.IsWhole.read_unread]
        exact (ha i k).trans ((if_neg h).trans (if_neg h1))

/-- The blocks of every window at a point. -/
theorem idx : ∀ t : Fin cfg0.N, win0_0.index t = ![t.val, 0] ∧ win0_1.index t = ![t.val, 0] ∧ win0_2.index t = ![t.val, 0] ∧ win0_3.index t = ![0, 0] ∧ win0_4.index t = ![0, 0] ∧ win0_5.index t = ![0, 0, 0] ∧ win0_6.index t = ![0, 0] ∧ win0_7.index t = ![0, 0] ∧ win0_8.index t = ![t.val, 0] ∧ win0_9.index t = ![t.val, 0] ∧ win0_10.index t = ![t.val, 0] ∧ win0_11.index t = ![t.val, 0] ∧ win0_12.index t = ![t.val, 0] ∧ win0_13.index t = ![t.val, 0] ∧ win0_14.index t = ![t.val, 0] ∧ win0_15.index t = ![t.val, 0] ∧ win0_16.index t = ![0, 0] :=
  (by decide +kernel : ∀ t : Fin grid0.N, win0_0.index t = ![t.val, 0] ∧ win0_1.index t = ![t.val, 0] ∧ win0_2.index t = ![t.val, 0] ∧ win0_3.index t = ![0, 0] ∧ win0_4.index t = ![0, 0] ∧ win0_5.index t = ![0, 0, 0] ∧ win0_6.index t = ![0, 0] ∧ win0_7.index t = ![0, 0] ∧ win0_8.index t = ![t.val, 0] ∧ win0_9.index t = ![t.val, 0] ∧ win0_10.index t = ![t.val, 0] ∧ win0_11.index t = ![t.val, 0] ∧ win0_12.index t = ![t.val, 0] ∧ win0_13.index t = ![t.val, 0] ∧ win0_14.index t = ![t.val, 0] ∧ win0_15.index t = ![t.val, 0] ∧ win0_16.index t = ![0, 0])

theorem lt32 (t : Fin cfg0.N) : t.val < 32 := Nat.lt_of_lt_of_eq t.isLt N_0

section
variable (m c)

theorem read0 (t : Fin cfg0.N) (i : Fin 256) (j : Fin 512) (h : 256 * t.val + i < 8192) :
    iblk m c 0 t (ix2 i j) = V m c main_arg0 (ix2 (⟨256 * t.val + i, h⟩ : Fin 8192) j) := by
  blk_ext [iblk, idx t]

theorem read1 (t : Fin cfg0.N) (i : Fin 256) (j : Fin 512) (h : 256 * t.val + i < 8192) :
    iblk m c 1 t (ix2 i j) = V m c main_arg1 (ix2 (⟨256 * t.val + i, h⟩ : Fin 8192) j) := by
  blk_ext [iblk, idx t]

theorem read2 (t : Fin cfg0.N) (i : Fin 256) (j : Fin 1024) (h : 256 * t.val + i < 8192) :
    iblk m c 2 t (ix2 i j) = V m c main_arg2 (ix2 (⟨256 * t.val + i, h⟩ : Fin 8192) j) := by
  blk_ext [iblk, idx t]

theorem read3 (t : Fin cfg0.N) (i : Fin 1024) (j : Fin 1024) : iblk m c 3 t (ix2 i j) = V m c main_v0 (ix2 i j) := by
  blk_ext [iblk, idx t]

theorem read4 (t : Fin cfg0.N) (i : Fin 1) (j : Fin 1024) : iblk m c 4 t (ix2 i j) = V m c main_arg4 (ix2 i j) := by
  blk_ext [iblk, idx t]

theorem read6 (t : Fin cfg0.N) (i : Fin 2816) (j : Fin 1024) : iblk m c 6 t (ix2 i j) = V m c main_v4 (ix2 i j) := by
  blk_ext [iblk, idx t]

theorem read7 (t : Fin cfg0.N) (i : Fin 1) (j : Fin 1024) : iblk m c 7 t (ix2 i j) = V m c main_arg7 (ix2 i j) := by
  blk_ext [iblk, idx t]

theorem read8 (t : Fin cfg0.N) (i : Fin 256) (j : Fin 1024) (h : 256 * t.val + i < 8192) :
    iblk m c 8 t (ix2 i j) = V m c main_arg8 (ix2 (⟨256 * t.val + i, h⟩ : Fin 8192) j) := by
  blk_ext [iblk, idx t]

theorem read5 (t : Fin cfg0.N) (q : Fin 4) (k : Fin 1024) (l : Fin 1408) : iblk m c 5 t (ix3 q k l) = V m c main_v3 (ix3 q k l) := by
  blk_ext [iblk, idx t]

/-- What the arrays hold when the call starts. -/
structure Entry (S : Dat) : Prop where
  a : Ef (a := 8192) (b := 512) (V m c main_arg0) S.A
  b : Ef (a := 8192) (b := 512) (V m c main_arg1) S.B
  x : Ef (a := 8192) (b := 1024) (V m c main_arg2) S.X
  wo : Ef (a := 1024) (b := 1024) (V m c main_v0) S.WO
  nw : Ef (a := 1) (b := 1024) (V m c main_arg4) fun _ k => S.nw k
  wg : ∀ (q : Fin 4) (k : Fin 1024) (l : Fin 1408), V m c main_v3 (ix3 q k l) = S.WG k (1408 * q + l)
  wd : Ef (a := 2816) (b := 1024) (V m c main_v4) S.WD
  fw : Ef (a := 1) (b := 1024) (V m c main_arg7) fun _ k => S.fw k
  t : Ef (a := 8192) (b := 1024) (V m c main_arg8) S.T

end

theorem blk_of_entry (hE : Entry m c S) (t : Fin cfg0.N) : Blk_at m c (S.rows (256 * t.val)) t where
  a := fun i j => (read0 m c t i j (by have := lt32 t; omega)).trans (hE.a _ j)
  b := fun i j => (read1 m c t i j (by have := lt32 t; omega)).trans (hE.b _ j)
  x := fun i j => (read2 m c t i j (by have := lt32 t; omega)).trans (hE.x _ j)
  wo := fun i j => (read3 m c t i j).trans (hE.wo i j)
  nw := fun i j => (read4 m c t i j).trans (hE.nw i j)
  wd := fun i j => (read6 m c t i j).trans (hE.wd i j)
  fw := fun i j => (read7 m c t i j).trans (hE.fw i j)
  t := fun i j => (read8 m c t i j (by have := lt32 t; omega)).trans (hE.t _ j)
  wg := fun q k l => (read5 m c t q k l).trans (hE.wg q k l)

theorem after_all (hE : Entry m c S) : ∀ (n : ℕ) (hn : n < cfg0.N), Out (S.rows (256 * n)) (S.FW (256 * (n + 1))) (S.LS (256 * (n + 1))) (outsAt0 m c n hn)
  | 0, hn => by
    have o := out_A ⟨0, hn⟩ rfl (blk_of_entry hE ⟨0, hn⟩)
    have e : (S.rows (256 * 0)).FW 256 = S.FW (256 * (0 + 1)) := funext fun k => by
      have := S.fw_step 0 k
      rw [show S.FW 0 k = 0 from rfl, zero_add] at this
      exact this
    have e' : (S.rows (256 * 0)).LS 256 = S.LS (256 * (0 + 1)) := funext fun k => by
      have := S.ls_step 0 k
      rw [show S.LS 0 k = 0 from mul_zero _, zero_add] at this
      exact this
    rw [← e, ← e']
    exact o
  | n + 1, hn => by
    have ih := after_all hE n (Nat.lt_of_succ_lt hn)
    have ht : n + 1 < 32 := lt32 ⟨n + 1, hn⟩
    have h0 : ¬(⟨n + 1, hn⟩ : Fin cfg0.N).val % 32 = 0 := by show ¬(n + 1) % 32 = 0; omega
    have o := out_B ⟨n + 1, hn⟩ h0 (blk_of_entry hE ⟨n + 1, hn⟩) ih.acc
    have e : (fun k => S.FW (256 * (n + 1)) k + (S.rows (256 * (n + 1))).FW 256 k) = S.FW (256 * (n + 1 + 1)) := funext fun k => S.fw_step _ k
    have e' : (fun k => S.LS (256 * (n + 1)) k + (S.rows (256 * (n + 1))).LS 256 k) = S.LS (256 * (n + 1 + 1)) := funext fun k => S.ls_step _ k
    rw [← e, ← e']
    exact o

theorem final9 (hE : Entry m c S) : Ef (a := 8192) (b := 1024) ((dats m 0 c).arrAt 9 cfg0.N) S.M := by
  intro i j
  have ht : (i : ℕ) / 256 < cfg0.N := Nat.lt_of_lt_of_eq (by omega : _ < 32) N_0.symm
  have e := Value.blocks9 m c ⟨_, ht⟩ (flush0_9 _)
  rw [Value.flushed9] at e
  have e1 := congrFun e (ix2 (⟨(i : ℕ) % 256, Nat.mod_lt _ (by decide)⟩ : Fin 256) j)
  have e2 := (after_all hE _ ht).mx ⟨(i : ℕ) % 256, Nat.mod_lt _ (by decide)⟩ j
  have e3 : 256 * ((i : ℕ) / 256) + (i : ℕ) % 256 = i := by omega
  refine Eq.trans (b := ((cfg0.win 9).blk ⟨_, ht⟩).view.read (Elt Ideal) ((dats m 0 c).arrAt 9 cfg0.N) (ix2 (⟨(i : ℕ) % 256, Nat.mod_lt _ (by decide)⟩ : Fin 256) j)) ?_
    (e1.trans (Eq.trans ?_ (e2.trans (congrArg (fun n => S.M n j) e3))))
  · have hx := idx ⟨_, ht⟩
    blk_ext [hx]
  · blk_ext []

theorem final10 (hE : Entry m c S) : Ef (a := 8192) (b := 1024) ((dats m 0 c).arrAt 10 cfg0.N) S.H := by
  intro i j
  have ht : (i : ℕ) / 256 < cfg0.N := Nat.lt_of_lt_of_eq (by omega : _ < 32) N_0.symm
  have e := Value.blocks10 m c ⟨_, ht⟩ (flush0_10 _)
  rw [Value.flushed10] at e
  have e1 := congrFun e (ix2 (⟨(i : ℕ) % 256, Nat.mod_lt _ (by decide)⟩ : Fin 256) j)
  have e2 := (after_all hE _ ht).h ⟨(i : ℕ) % 256, Nat.mod_lt _ (by decide)⟩ j
  have e3 : 256 * ((i : ℕ) / 256) + (i : ℕ) % 256 = i := by omega
  refine Eq.trans (b := ((cfg0.win 10).blk ⟨_, ht⟩).view.read (Elt Ideal) ((dats m 0 c).arrAt 10 cfg0.N) (ix2 (⟨(i : ℕ) % 256, Nat.mod_lt _ (by decide)⟩ : Fin 256) j)) ?_
    (e1.trans (Eq.trans ?_ (e2.trans (congrArg (fun n => S.H n j) e3))))
  · have hx := idx ⟨_, ht⟩
    blk_ext [hx]
  · blk_ext []

theorem final11 (hE : Entry m c S) : Ef (a := 8192) (b := 1024) ((dats m 0 c).arrAt 11 cfg0.N) S.U2 := by
  intro i j
  have ht : (i : ℕ) / 256 < cfg0.N := Nat.lt_of_lt_of_eq (by omega : _ < 32) N_0.symm
  have e := Value.blocks11 m c ⟨_, ht⟩ (flush0_11 _)
  rw [Value.flushed11] at e
  have e1 := congrFun e (ix2 (⟨(i : ℕ) % 256, Nat.mod_lt _ (by decide)⟩ : Fin 256) j)
  have e2 := (after_all hE _ ht).u2 ⟨(i : ℕ) % 256, Nat.mod_lt _ (by decide)⟩ j
  have e3 : 256 * ((i : ℕ) / 256) + (i : ℕ) % 256 = i := by omega
  refine Eq.trans (b := ((cfg0.win 11).blk ⟨_, ht⟩).view.read (Elt Ideal) ((dats m 0 c).arrAt 11 cfg0.N) (ix2 (⟨(i : ℕ) % 256, Nat.mod_lt _ (by decide)⟩ : Fin 256) j)) ?_
    (e1.trans (Eq.trans ?_ (e2.trans (congrArg (fun n => S.U2 n j) e3))))
  · have hx := idx ⟨_, ht⟩
    blk_ext [hx]
  · blk_ext []

theorem final12 (hE : Entry m c S) : Ef (a := 8192) (b := 2816) ((dats m 0 c).arrAt 12 cfg0.N) S.G := by
  intro i j
  have ht : (i : ℕ) / 256 < cfg0.N := Nat.lt_of_lt_of_eq (by omega : _ < 32) N_0.symm
  have e := Value.blocks12 m c ⟨_, ht⟩ (flush0_12 _)
  rw [Value.flushed12] at e
  have e1 := congrFun e (ix2 (⟨(i : ℕ) % 256, Nat.mod_lt _ (by decide)⟩ : Fin 256) j)
  have e2 := (after_all hE _ ht).g ⟨(i : ℕ) % 256, Nat.mod_lt _ (by decide)⟩ j
  have e3 : 256 * ((i : ℕ) / 256) + (i : ℕ) % 256 = i := by omega
  refine Eq.trans (b := ((cfg0.win 12).blk ⟨_, ht⟩).view.read (Elt Ideal) ((dats m 0 c).arrAt 12 cfg0.N) (ix2 (⟨(i : ℕ) % 256, Nat.mod_lt _ (by decide)⟩ : Fin 256) j)) ?_
    (e1.trans (Eq.trans ?_ (e2.trans (congrArg (fun n => S.G n j) e3))))
  · have hx := idx ⟨_, ht⟩
    blk_ext [hx]
  · blk_ext []

theorem final13 (hE : Entry m c S) : Ef (a := 8192) (b := 2816) ((dats m 0 c).arrAt 13 cfg0.N) S.U := by
  intro i j
  have ht : (i : ℕ) / 256 < cfg0.N := Nat.lt_of_lt_of_eq (by omega : _ < 32) N_0.symm
  have e := Value.blocks13 m c ⟨_, ht⟩ (flush0_13 _)
  rw [Value.flushed13] at e
  have e1 := congrFun e (ix2 (⟨(i : ℕ) % 256, Nat.mod_lt _ (by decide)⟩ : Fin 256) j)
  have e2 := (after_all hE _ ht).up ⟨(i : ℕ) % 256, Nat.mod_lt _ (by decide)⟩ j
  have e3 : 256 * ((i : ℕ) / 256) + (i : ℕ) % 256 = i := by omega
  refine Eq.trans (b := ((cfg0.win 13).blk ⟨_, ht⟩).view.read (Elt Ideal) ((dats m 0 c).arrAt 13 cfg0.N) (ix2 (⟨(i : ℕ) % 256, Nat.mod_lt _ (by decide)⟩ : Fin 256) j)) ?_
    (e1.trans (Eq.trans ?_ (e2.trans (congrArg (fun n => S.U n j) e3))))
  · have hx := idx ⟨_, ht⟩
    blk_ext [hx]
  · blk_ext []

theorem final14 (hE : Entry m c S) : Ef (a := 8192) (b := 2816) ((dats m 0 c).arrAt 14 cfg0.N) S.ACT := by
  intro i j
  have ht : (i : ℕ) / 256 < cfg0.N := Nat.lt_of_lt_of_eq (by omega : _ < 32) N_0.symm
  have e := Value.blocks14 m c ⟨_, ht⟩ (flush0_14 _)
  rw [Value.flushed14] at e
  have e1 := congrFun e (ix2 (⟨(i : ℕ) % 256, Nat.mod_lt _ (by decide)⟩ : Fin 256) j)
  have e2 := (after_all hE _ ht).act ⟨(i : ℕ) % 256, Nat.mod_lt _ (by decide)⟩ j
  have e3 : 256 * ((i : ℕ) / 256) + (i : ℕ) % 256 = i := by omega
  refine Eq.trans (b := ((cfg0.win 14).blk ⟨_, ht⟩).view.read (Elt Ideal) ((dats m 0 c).arrAt 14 cfg0.N) (ix2 (⟨(i : ℕ) % 256, Nat.mod_lt _ (by decide)⟩ : Fin 256) j)) ?_
    (e1.trans (Eq.trans ?_ (e2.trans (congrArg (fun n => S.ACT n j) e3))))
  · have hx := idx ⟨_, ht⟩
    blk_ext [hx]
  · blk_ext []

theorem final15 (hE : Entry m c S) : Ef (a := 8192) (b := 1024) ((dats m 0 c).arrAt 15 cfg0.N) S.D2 := by
  intro i j
  have ht : (i : ℕ) / 256 < cfg0.N := Nat.lt_of_lt_of_eq (by omega : _ < 32) N_0.symm
  have e := Value.blocks15 m c ⟨_, ht⟩ (flush0_15 _)
  rw [Value.flushed15] at e
  have e1 := congrFun e (ix2 (⟨(i : ℕ) % 256, Nat.mod_lt _ (by decide)⟩ : Fin 256) j)
  have e2 := (after_all hE _ ht).d2 ⟨(i : ℕ) % 256, Nat.mod_lt _ (by decide)⟩ j
  have e3 : 256 * ((i : ℕ) / 256) + (i : ℕ) % 256 = i := by omega
  refine Eq.trans (b := ((cfg0.win 15).blk ⟨_, ht⟩).view.read (Elt Ideal) ((dats m 0 c).arrAt 15 cfg0.N) (ix2 (⟨(i : ℕ) % 256, Nat.mod_lt _ (by decide)⟩ : Fin 256) j)) ?_
    (e1.trans (Eq.trans ?_ (e2.trans (congrArg (fun n => S.D2 n j) e3))))
  · have hx := idx ⟨_, ht⟩
    blk_ext [hx]
  · blk_ext []

theorem arr16 (t : Fin cfg0.N) (hw : (cfg0.win 16).WholeAt t) : (dats m 0 c).arrAt 16 cfg0.N = (outsAt0 m c t.val t.isLt).2.2.2.2.2.2.2 := by
  refine (dats m 0 c).arrAt_eq_of_after_last 16 t hw _ fun j => ?_
  rw [after0_16]
  generalize (outsAt0 m c t.val t.isLt).2.2.2.2.2.2.2 = g
  refine (cast_eq _ _).trans (congrArg g ?_)
  blk_ext []

theorem whole16 : ∀ t : Fin cfg0.N, t.val = 31 → (cfg0.win 16).WholeAt t :=
  (by decide +kernel : ∀ t : Fin grid0.N, t.val = 31 → win0_16.WholeAt t)

theorem final16 (hE : Entry m c S) : Ef (a := 8) (b := 1024) ((dats m 0 c).arrAt 16 cfg0.N) (sums (S.FW 8192) (S.LS 8192)) := by
  obtain ⟨t, ht⟩ : ∃ t : Fin cfg0.N, t.val = 31 := ⟨⟨31, Nat.lt_of_lt_of_eq (by decide : 31 < 32) N_0.symm⟩, rfl⟩
  have h := (after_all hE t.val t.isLt).acc
  rw [← arr16 t (whole16 t ht), ht] at h
  exact h

end Cert.Fwd

end

end
-- ==== Proof.FwdRef.lean ====
/- The reference of the feed-forward half with the loss as a function of the entries. -/
module

public import proofs.«01_k».proof.Proof.FwdReal
public import proofs.«01_k».proof.Proof.Gen.FfnFwdRefIdeal.Read

@[expose] public section

set_option maxRecDepth 16384

noncomputable section

namespace Cert.Fwd

open Idealize.ShloMosaic Idealize.SL.Sem
open Cert.Mirror
open Cert.Ffn (eps eps_pos bits_eps bits_width)
open Cert.FfnFwdRefIdeal Cert.FfnFwdRefIdeal.Gen Cert.FfnFwdRefIdeal.Read

/-- The nine arguments hold the entries of `S`. -/
structure Args (x0 x1 : FVec Ideal S8192x512 .f32) (x2 : FVec Ideal S8192x1024 .f32) (x3 : FVec Ideal S1024x1024 .f32)
    (x4 : FVec Ideal S1x1024 .f32) (x5 : FVec Ideal S1024x5632 .f32) (x6 : FVec Ideal S2816x1024 .f32) (x7 : FVec Ideal S1x1024 .f32)
    (x8 : FVec Ideal S8192x1024 .f32) (S : Dat) : Prop where
  a : Ef (a := 8192) (b := 512) x0 S.A
  b : Ef (a := 8192) (b := 512) x1 S.B
  x : Ef (a := 8192) (b := 1024) x2 S.X
  wo : Ef (a := 1024) (b := 1024) x3 S.WO
  nw : Ef (a := 1) (b := 1024) x4 fun _ k => S.nw k
  wg : Ef (a := 1024) (b := 5632) x5 S.WG
  wd : Ef (a := 2816) (b := 1024) x6 S.WD
  fw : Ef (a := 1) (b := 1024) x7 fun _ k => S.fw k
  t : Ef (a := 8192) (b := 1024) x8 S.T

variable {x0 x1 : FVec Ideal S8192x512 .f32} {x2 : FVec Ideal S8192x1024 .f32} {x3 : FVec Ideal S1024x1024 .f32}
    {x4 : FVec Ideal S1x1024 .f32} {x5 : FVec Ideal S1024x5632 .f32} {x6 : FVec Ideal S2816x1024 .f32} {x7 : FVec Ideal S1x1024 .f32}
    {x8 : FVec Ideal S8192x1024 .f32} {S : Dat} (Hy : Args x0 x1 x2 x3 x4 x5 x6 x7 x8 S)

include Hy

theorem r_v0 : Ef (a := 8192) (b := 1024) (val_main_v0 (F := Ideal) x0 x1) S.M := by
  intro i j
  pointwise [val_main_v0]
  unfold Dat.M
  split
  · exact Hy.a _ _
  · exact Hy.b _ _

theorem r_v2 : Ef (a := 8192) (b := 1024) (val_main_v2 (F := Ideal) x0 x1 x2 x3) S.H := by
  intro i j
  pointwise [val_main_v2, val_main_v1]
  rw [Hy.x i j, dot_ef (F := fun k => S.M i k) (G := fun k => S.WO k j) (fun k => r_v0 Hy i k) (fun k => Hy.wo k j)]
  rfl

theorem r_v9 : Ef (a := 8192) (b := 1) (val_main_v9 (F := Ideal) x0 x1 x2 x3) fun i _ => ms S.H i := by
  intro i j
  pointwise [val_main_v9, val_main_v8, val_main_v7, val_main_v6, val_main_v5, val_main_v4, val_main_v3, val_main_cst, val_main_cst_0, val_main_cst_1]
  rw [dot_ef (F := fun k => S.H i k) (G := fun k => S.H i k) (fun k => r_v2 Hy i k) (fun k => r_v2 Hy i k), bits_eps, bits_width, Ideal.div_coe (by norm_num)]
  rfl

theorem r_v14 : Ef (a := 8192) (b := 1024) (val_main_v14 (F := Ideal) x0 x1 x2 x3 x4) S.U2 := by
  intro i j
  pointwise [val_main_v14, val_main_v13, val_main_v12, val_main_v11, val_main_v10]
  rw [r_v9 Hy i _, r_v2 Hy i j, Hy.nw _ j]
  rfl

theorem r_v16 : Ef (a := 8192) (b := 2816) (val_main_v16 (F := Ideal) x0 x1 x2 x3 x4 x5) S.G := by
  intro i j
  pointwise [val_main_v16, val_main_v15]
  exact dot_ef (F := fun k => S.U2 i k) (G := fun k => S.WG k j) (fun k => r_v14 Hy i k) (fun k => Hy.wg k _)

theorem r_v17 : Ef (a := 8192) (b := 2816) (val_main_v17 (F := Ideal) x0 x1 x2 x3 x4 x5) S.U := by
  intro i j
  pointwise [val_main_v17, val_main_v15]
  exact dot_ef (F := fun k => S.U2 i k) (G := fun k => S.WG k (2816 + j)) (fun k => r_v14 Hy i k) (fun k => Hy.wg k _)

theorem r_sg : Ef (a := 8192) (b := 2816) (val_main_call0_v5 (F := Ideal) x0 x1 x2 x3 x4 x5) fun i c => sg (S.G i c) := by
  intro i j
  pointwise [val_main_call0_v5, val_main_call0_v4, val_main_call0_v3, val_main_call0_v2, val_main_call0_v1, val_main_call0_v0, val_main_call0_cst, val_main_call0_cst_0]
  rw [r_v16 Hy i j]
  first
  | rfl
  | rw [show -(S.G i j) = 0 - S.G i j by rw [zero_sub]]; rfl

theorem r_v19 : Ef (a := 8192) (b := 2816) (val_main_v19 (F := Ideal) x0 x1 x2 x3 x4 x5) S.ACT := by
  intro i c
  pointwise [val_main_v19, val_main_v18]
  rw [r_v16 Hy i c, r_sg Hy i c, r_v17 Hy i c]
  rfl

theorem r_v21 : Ef (a := 8192) (b := 1024) (val_main_v21 (F := Ideal) x0 x1 x2 x3 x4 x5 x6) S.H2 := by
  intro i k
  pointwise [val_main_v21, val_main_v20]
  rw [r_v2 Hy i k, dot_ef (F := fun c => S.ACT i c) (G := fun c => S.WD c k) (fun c => r_v19 Hy i c) (fun c => Hy.wd c k)]
  rfl

theorem r_v28 : Ef (a := 8192) (b := 1) (val_main_v28 (F := Ideal) x0 x1 x2 x3 x4 x5 x6) fun i _ => ms S.H2 i := by
  intro i j
  pointwise [val_main_v28, val_main_v27, val_main_v26, val_main_v25, val_main_v24, val_main_v23, val_main_v22, val_main_cst_2, val_main_cst_3, val_main_cst_4]
  rw [dot_ef (F := fun k => S.H2 i k) (G := fun k => S.H2 i k) (fun k => r_v21 Hy i k) (fun k => r_v21 Hy i k), bits_eps, bits_width, Ideal.div_coe (by norm_num)]
  rfl

theorem r_v29 : Ef (a := 8192) (b := 1) (val_main_v29 (F := Ideal) x0 x1 x2 x3 x4 x5 x6) fun i _ => rs S.H2 i := by
  intro i j
  pointwise [val_main_v29]
  rw [r_v28 Hy i j]
  rfl

theorem r_v32 : Ef (a := 8192) (b := 1) (val_main_v32 (F := Ideal) x0 x1 x2 x3 x4 x5 x6) fun i _ => ((-(1 / 2) : ℝ) : EReal) * Ideal.div (rs S.H2 i) (ms S.H2 i) := by
  intro i j
  pointwise [val_main_v32, val_main_v31, val_main_v30, val_main_cst_5]
  rw [r_v28 Hy i j, r_v29 Hy i j, bits_neg_half]

theorem r_v34 : Ef (a := 8192) (b := 1024) (val_main_v34 (F := Ideal) x0 x1 x2 x3 x4 x5 x6) S.N := by
  intro i k
  pointwise [val_main_v34, val_main_v33]
  rw [r_v21 Hy i k, r_v29 Hy i _]
  rfl

theorem r_v37 : Ef (a := 8192) (b := 1024) (val_main_v37 (F := Ideal) x0 x1 x2 x3 x4 x5 x6 x7 x8) S.E := by
  intro i k
  pointwise [val_main_v37, val_main_v36, val_main_v35]
  rw [r_v34 Hy i k, Hy.fw _ k, Hy.t i k]
  rfl

theorem r_v51 : Ef (a := 8192) (b := 1024) (val_main_v51 (F := Ideal) x0 x1 x2 x3 x4 x5 x6 x7 x8) S.DY := by
  intro i k
  pointwise [val_main_v51, val_main_v50, val_main_v49, val_main_v48, val_main_v47, val_main_v46, val_main_v40, val_main_v39, val_main_cst_6, val_main_cst_11, val_main_cst_12, val_main_cst_13]
  rw [r_v37 Hy i k, bits_half, bits_width, bits_two]
  rw [div_real _ _ (by norm_num), ← mul_assoc, ← EReal.coe_mul, mul_comm]
  unfold Dat.DY
  congr 2
  norm_num

theorem r_v56 : Ef (a := 8192) (b := 1024) (val_main_v56 (F := Ideal) x0 x1 x2 x3 x4 x5 x6 x7 x8) S.DN := by
  intro i k
  pointwise [val_main_v56, val_main_v55]
  rw [r_v51 Hy i k, Hy.fw _ k]
  rfl

theorem r_v66 : Ef (a := 8192) (b := 1024) (val_main_v66 (F := Ideal) x0 x1 x2 x3 x4 x5 x6 x7 x8) fun i _ =>
    (∑ k ∈ Finset.range 1024, S.H2 i k * S.DN i k) * (((-(1 / 2) : ℝ) : EReal) * Ideal.div (rs S.H2 i) (ms S.H2 i)) * ((1 / 1024 : ℝ) : EReal) := by
  intro i k
  pointwise [val_main_v66, val_main_v65, val_main_v64, val_main_v63, val_main_v62, val_main_v59, val_main_v58, val_main_v57, val_main_cst_15, val_main_cst_16, val_main_cst_17]
  simp only [Finset.univ_unique, Fin.default_eq_zero, Finset.sum_singleton]
  rw [dot_ef (F := fun k => S.H2 i k) (G := fun k => S.DN i k) (fun k => r_v21 Hy i k) (fun k => r_v56 Hy i k), r_v32 Hy i _, bits_width, Ideal.div_coe (by norm_num)]

theorem r_v70 : Ef (a := 8192) (b := 1024) (val_main_v70 (F := Ideal) x0 x1 x2 x3 x4 x5 x6 x7 x8) S.D2 := by
  intro i k
  pointwise [val_main_v70, val_main_v69, val_main_v68, val_main_v67, val_main_v61, val_main_v60]
  rw [r_v56 Hy i k, r_v66 Hy i k, r_v21 Hy i k, r_v29 Hy i _]
  exact norm_grad (fun k => S.H2 i k) (fun k => S.DN i k) k (ms_pos S.H2 i)

theorem r_v77 : Ef (a := 8192) (b := 1) (val_main_v77 (F := Ideal) x0 x1 x2 x3 x4 x5 x6) fun i _ => ms S.H2 i := by
  intro i j
  pointwise [val_main_v77, val_main_v76, val_main_v75, val_main_v74, val_main_v73, val_main_v72, val_main_v71, val_main_cst_18, val_main_cst_19, val_main_cst_20]
  rw [dot_ef (F := fun k => S.H2 i k) (G := fun k => S.H2 i k) (fun k => r_v21 Hy i k) (fun k => r_v21 Hy i k), bits_eps, bits_width, Ideal.div_coe (by norm_num)]
  rfl

theorem r_v83 : Ef (a := 8192) (b := 1024) (val_main_v83 (F := Ideal) x0 x1 x2 x3 x4 x5 x6 x7 x8) S.E := by
  intro i k
  pointwise [val_main_v83, val_main_v82, val_main_v81, val_main_v80, val_main_v79, val_main_v78]
  rw [r_v77 Hy i _, r_v21 Hy i k, Hy.fw _ k, Hy.t i k]
  rfl

theorem r_v92 : Ef (a := 8) (b := 1024) (val_main_v92 (F := Ideal) x0 x1 x2 x3 x4 x5 x6 x7 x8) fun i k =>
    if i = 0 then S.FW 8192 k else if i = 1 then S.LS 8192 k else 0 := by
  intro i k
  pointwise [val_main_v92, val_main_v91, val_main_v90, val_main_v89, val_main_v88, val_main_v87, val_main_v86, val_main_v85, val_main_v84, val_main_v54, val_main_v53, val_main_v52,
    val_main_cst_14, val_main_cst_21, val_main_cst_22, val_main_cst_23, val_main_cst_24]
  by_cases h : (i : ℕ) = 0
  · rw [dif_pos (by omega), if_pos h]
    refine (dot_ef (F := fun x => S.N x k) (G := fun x => S.DY x k) (fun x => r_v34 Hy x k) (fun x => r_v51 Hy x k)).trans ?_
    unfold Dat.FW
    exact Finset.sum_congr rfl fun x _ => mul_comm _ _
  · rw [dif_neg (by omega), if_neg h]
    by_cases h1 : (i : ℕ) = 1
    · rw [dif_pos (by omega), if_pos h1, dot_ef (F := fun x => S.E x k) (G := fun x => S.E x k) (fun x => r_v83 Hy x k) (fun x => r_v83 Hy x k), bits_half, bits_width, Ideal.div_coe (by norm_num)]
      unfold Dat.LS
      rw [mul_right_comm, ← EReal.coe_mul]
      congr 2
      norm_num
    · rw [dif_neg (by omega), if_neg h1]

theorem r_v93 : Ef (a := 8192) (b := 1024) (val_main_v93 (F := Ideal) x0 x1) S.M := by
  intro i j; pointwise [val_main_v93]; exact r_v0 Hy i j
theorem r_v94 : Ef (a := 8192) (b := 1024) (val_main_v94 (F := Ideal) x0 x1 x2 x3 x4) S.U2 := by
  intro i j; pointwise [val_main_v94]; exact r_v14 Hy i j
theorem r_v95 : Ef (a := 8192) (b := 2816) (val_main_v95 (F := Ideal) x0 x1 x2 x3 x4 x5) S.G := by
  intro i j; pointwise [val_main_v95]; exact r_v16 Hy i j
theorem r_v96 : Ef (a := 8192) (b := 2816) (val_main_v96 (F := Ideal) x0 x1 x2 x3 x4 x5) S.U := by
  intro i j; pointwise [val_main_v96]; exact r_v17 Hy i j
theorem r_v97 : Ef (a := 8192) (b := 2816) (val_main_v97 (F := Ideal) x0 x1 x2 x3 x4 x5) S.ACT := by
  intro i j; pointwise [val_main_v97]; exact r_v19 Hy i j

end Cert.Fwd

end

end
-- ==== Proof.FfnFwd.lean ====
/- The eight results of the feed-forward half with the loss are the reference's. -/
module

public import proofs.«01_k».proof.Proof.FwdGrid
public import proofs.«01_k».proof.Proof.FwdRef

@[expose] public section

set_option maxRecDepth 16384

noncomputable section

namespace Cert.Fwd

open Idealize.ShloMosaic Idealize.ShloMosaic.TcCoe Idealize.SL.Sem
open Cert.Mirror

/-- The entries of a matrix, zero outside. -/
def re {a b : ℕ} (v : (⟨2, ![a, b]⟩ : Shape).Idx → EReal) (i j : ℕ) : EReal :=
  if h : i < a ∧ j < b then v (ix2 ⟨i, h.1⟩ ⟨j, h.2⟩) else 0

theorem ef_re {a b : ℕ} (v : (⟨2, ![a, b]⟩ : Shape).Idx → EReal) : Ef v (re v) := fun i j => by
  unfold re
  rw [dif_pos ⟨i.2, j.2⟩]

section
variable {x0 : FVec Ideal Cert.FfnFwdRefIdeal.S8192x512 .f32} {x1 : FVec Ideal Cert.FfnFwdRefIdeal.S8192x512 .f32} {x2 : FVec Ideal Cert.FfnFwdRefIdeal.S8192x1024 .f32} {x3 : FVec Ideal Cert.FfnFwdRefIdeal.S1024x1024 .f32} {x4 : FVec Ideal Cert.FfnFwdRefIdeal.S1x1024 .f32} {x5 : FVec Ideal Cert.FfnFwdRefIdeal.S1024x5632 .f32} {x6 : FVec Ideal Cert.FfnFwdRefIdeal.S2816x1024 .f32} {x7 : FVec Ideal Cert.FfnFwdRefIdeal.S1x1024 .f32} {x8 : FVec Ideal Cert.FfnFwdRefIdeal.S8192x1024 .f32}

variable (x0) (x1) (x2) (x3) (x4) (x5) (x6) (x7) (x8) in
/-- The entries of the arguments. -/
def argDat : Dat where
  A := (re (a := 8192) (b := 512) x0)
  B := (re (a := 8192) (b := 512) x1)
  X := (re (a := 8192) (b := 1024) x2)
  WO := (re (a := 1024) (b := 1024) x3)
  nw := (re (a := 1) (b := 1024) x4) 0
  WG := (re (a := 1024) (b := 5632) x5)
  WD := (re (a := 2816) (b := 1024) x6)
  fw := (re (a := 1) (b := 1024) x7) 0
  T := (re (a := 8192) (b := 1024) x8)

theorem args_eq :
    Args x0 x1 x2 x3 x4 x5 x6 x7 x8 (argDat x0 x1 x2 x3 x4 x5 x6 x7 x8) where
  a := ef_re x0
  b := ef_re x1
  x := ef_re x2
  wo := ef_re x3
  nw := fun i j => by
    obtain rfl : i = 0 := Subsingleton.elim _ _
    exact ef_re x4 0 j
  wg := ef_re x5
  wd := ef_re x6
  fw := fun i j => by
    obtain rfl : i = 0 := Subsingleton.elim _ _
    exact ef_re x7 0 j
  t := ef_re x8

end

open Cert.FfnFwdIdeal Cert.FfnFwdIdeal.Gen Cert.FfnFwdIdeal.Value

variable {m : (ℓ : Loc nD τ sig) → Buf (Elt Ideal) ℓ} {c : Dev nD} {S : Dat}

set_option maxHeartbeats 4000000 in
theorem host_wo : V m c main_v0 = (m ((c : Thread nD τ).loc main_arg3)) := by
  unfold V
  simp only [hostOps0, List.flatten_cons, List.flatten_nil, List.append_nil, List.cons_append, List.nil_append, Idealize.ShloMosaic.StableHlo.after_cons, Idealize.ShloMosaic.StableHlo.after_nil]
  after_results_simp
  after_results_loop
  rfl

set_option maxHeartbeats 4000000 in
theorem host_wg : V m c main_v3 = transpose S4x1024x1408 [1, 0, 2] (shapeCast S1024x4x1408 (m ((c : Thread nD τ).loc main_arg5)) shapeCasts_S1024x5632_S1024x4x1408) transposes_S1024x4x1408_S4x1024x1408_1_0_2 := by
  unfold V
  simp only [hostOps0, List.flatten_cons, List.flatten_nil, List.append_nil, List.cons_append, List.nil_append, Idealize.ShloMosaic.StableHlo.after_cons, Idealize.ShloMosaic.StableHlo.after_nil]
  after_results_simp
  after_results_loop
  rfl

set_option maxHeartbeats 4000000 in
theorem host_wd : V m c main_v4 = (m ((c : Thread nD τ).loc main_arg6)) := by
  unfold V
  simp only [hostOps0, List.flatten_cons, List.flatten_nil, List.append_nil, List.cons_append, List.nil_append, Idealize.ShloMosaic.StableHlo.after_cons, Idealize.ShloMosaic.StableHlo.after_nil]
  after_results_simp
  after_results_loop
  rfl

theorem entry_of_args (H : Args (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) S) : Entry m c S where
  a := by rw [V_main_arg0]; exact H.a
  b := by rw [V_main_arg1]; exact H.b
  x := by rw [V_main_arg2]; exact H.x
  wo := by rw [host_wo]; exact H.wo
  nw := by rw [V_main_arg4]; exact H.nw
  wg := fun q k l => by
    rw [host_wg]
    pointwise []
    refine (H.wg _ _).trans ?_
    exact congrArg (fun n => S.WG k n) (congrArg (· + (l : ℕ)) (Nat.mul_comm _ _))
  wd := by rw [host_wd]; exact H.wd
  fw := by rw [V_main_arg7]; exact H.fw
  t := by rw [V_main_arg8]; exact H.t

/-- Two matrices with the same real entries are equal. -/
theorem eq_of_ef {a b : ℕ} {v w : (⟨2, ![a, b]⟩ : Shape).Idx → EReal} {r : ℕ → ℕ → EReal} (hv : Ef v r) (hw : Ef w r) : v = w := by
  funext i
  obtain ⟨p, q, rfl⟩ : ∃ (p : Fin a) (q : Fin b), i = ix2 p q := ⟨i 0, i 1, eq_ix2 i⟩
  exact (hv p q).trans (hw p q).symm

theorem result9 (H : Args (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) S) :
    Cert.FfnFwdRefIdeal.Read.val_main_v93 (F := Ideal) (m ((c : Thread nD τ).loc main_arg0)) (m ((c : Thread nD τ).loc main_arg1)) = (dats m 0 c).arrAt 9 cfg0.N :=
  eq_of_ef (r_v93 H) (final9 (entry_of_args H))

theorem result10 (H : Args (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) S) :
    Cert.FfnFwdRefIdeal.Read.val_main_v2 (F := Ideal) (m ((c : Thread nD τ).loc main_arg0)) (m ((c : Thread nD τ).loc main_arg1)) (m ((c : Thread nD τ).loc main_arg2)) (m ((c : Thread nD τ).loc main_arg3)) = (dats m 0 c).arrAt 10 cfg0.N :=
  eq_of_ef (r_v2 H) (final10 (entry_of_args H))

theorem result11 (H : Args (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) S) :
    Cert.FfnFwdRefIdeal.Read.val_main_v94 (F := Ideal) (m ((c : Thread nD τ).loc main_arg0)) (m ((c : Thread nD τ).loc main_arg1)) (m ((c : Thread nD τ).loc main_arg2)) (m ((c : Thread nD τ).loc main_arg3)) (m ((c : Thread nD τ).loc main_arg4)) = (dats m 0 c).arrAt 11 cfg0.N :=
  eq_of_ef (r_v94 H) (final11 (entry_of_args H))

theorem result12 (H : Args (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) S) :
    Cert.FfnFwdRefIdeal.Read.val_main_v95 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) = (dats m 0 c).arrAt 12 cfg0.N :=
  eq_of_ef (r_v95 H) (final12 (entry_of_args H))

theorem result13 (H : Args (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) S) :
    Cert.FfnFwdRefIdeal.Read.val_main_v96 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) = (dats m 0 c).arrAt 13 cfg0.N :=
  eq_of_ef (r_v96 H) (final13 (entry_of_args H))

theorem result14 (H : Args (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) S) :
    Cert.FfnFwdRefIdeal.Read.val_main_v97 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) = (dats m 0 c).arrAt 14 cfg0.N :=
  eq_of_ef (r_v97 H) (final14 (entry_of_args H))

theorem result15 (H : Args (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) S) :
    Cert.FfnFwdRefIdeal.Read.val_main_v70 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) = (dats m 0 c).arrAt 15 cfg0.N :=
  eq_of_ef (r_v70 H) (final15 (entry_of_args H))

theorem result16 (H : Args (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) S) :
    Cert.FfnFwdRefIdeal.Read.val_main_v92 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) = (dats m 0 c).arrAt 16 cfg0.N :=
  eq_of_ef (r_v92 H) (final16 (entry_of_args H))

end Cert.Fwd

end

end
-- ==== Proof.InReal.lean ====
/- The gradient of the input projection, as functions of the entries. -/
module

public import proofs.«01_k».proof.Proof.FwdReal

@[expose] public section

set_option maxRecDepth 16384

noncomputable section

namespace Cert.Inb

open Idealize.ShloMosaic Idealize.SL.Sem
open Cert.Mirror
open Cert.Fwd (Ef ms rs coe_mul_add)

/-- What the call is given: the gradients of the query, key, value and gate columns, the cosines and sines of the
    rotation, the weight, the residual stream, the norm weight, and the gradient that arrives beside. -/
structure Dat where
  Q : ℕ → ℕ → EReal
  K : ℕ → ℕ → EReal
  V : ℕ → ℕ → EReal
  HG : ℕ → ℕ → EReal
  C : ℕ → ℕ → EReal
  Z : ℕ → ℕ → EReal
  W : ℕ → ℕ → EReal
  X : ℕ → ℕ → EReal
  nw : ℕ → EReal
  D : ℕ → ℕ → EReal

namespace Dat

variable (S : Dat)

/-- The rows from `o` on. -/
def rows (o : ℕ) : Dat where
  Q i := S.Q (o + i)
  K i := S.K (o + i)
  V i := S.V (o + i)
  HG i := S.HG (o + i)
  C i := S.C (o + i)
  Z i := S.Z (o + i)
  W := S.W
  X i := S.X (o + i)
  nw := S.nw
  D i := S.D (o + i)

/-- A row turned back by its rotation, in heads of 64 columns. -/
def R (f : ℕ → ℕ → EReal) (i c : ℕ) : EReal :=
  if c % 64 < 32 then f i c * S.C i (c % 32) + f i (c + 32) * S.Z i (c % 32)
  else f i c * S.C i (c % 32) + f i (c - 32) * -S.Z i (c % 32)
def P (i c : ℕ) : EReal :=
  if c < 512 then S.R S.Q i c else if c < 1024 then S.R S.K i (c - 512) else if c < 1536 then S.V i (c - 1024) else S.HG i (c - 1536)
def DU (i k : ℕ) : EReal := ∑ c ∈ Finset.range 3584, S.P i c * S.W k c
def N (i k : ℕ) : EReal := S.X i k * rs S.X i
def DN (i k : ℕ) : EReal := S.DU i k * S.nw k
def DOT (i : ℕ) : EReal := ∑ k ∈ Finset.range 1024, S.DN i k * S.N i k
def DX (i k : ℕ) : EReal := S.D i k + rs S.X i * (S.DN i k - S.N i k * (S.DOT i * ((1 / 1024 : ℝ) : EReal)))
def NW (n k : ℕ) : EReal := ∑ i ∈ Finset.range n, S.DU i k * S.N i k

theorem nw_step (n k : ℕ) : S.NW n k + (S.rows n).NW 512 k = S.NW (n + 512) k := by
  unfold NW
  rw [Finset.sum_range_add]
  rfl

/-- The sines with the sign they have in the call's table. -/
def sn (i c : ℕ) : EReal := if c % 64 < 32 then -S.Z i (c % 32) else S.Z i (c % 32)

/-- The sum over the columns, in the four blocks of the weight. -/
theorem du_blocks (f g : ℕ → EReal) :
    (∑ c ∈ Finset.range 896, f c * g c) + (∑ c ∈ Finset.range 896, f (896 + c) * g (896 + c)) + (∑ c ∈ Finset.range 896, f (1792 + c) * g (1792 + c))
      + (∑ c ∈ Finset.range 896, f (2688 + c) * g (2688 + c)) = ∑ c ∈ Finset.range 3584, f c * g c := by
  rw [show 3584 = 2688 + 896 from rfl, Finset.sum_range_add, show 2688 = 1792 + 896 from rfl, Finset.sum_range_add, show 1792 = 896 + 896 from rfl,
    Finset.sum_range_add]

end Dat

end Cert.Inb

end

end
-- ==== Proof.InBlock.lean ====
/- One step of the grid of the gradient of the input projection, as a function of the entries. -/
module

public import proofs.«01_k».proof.Proof.InReal
public import proofs.«01_k».proof.Proof.Gen.InBwdIdeal.Skeleton

@[expose] public section

set_option maxRecDepth 16384

noncomputable section

namespace Cert.Inb

open Idealize.ShloMosaic Idealize.SL.Sem
open Cert.Mirror
open Cert.Fwd (Ef ms rs dot_ef)
open Cert.Ffn (eps eps_pos bits_eps bits_width)
open Cert.InBwdIdeal Cert.InBwdIdeal.Gen

/-- Whether a column is in the first half of its head, as the call computes it. -/
def sel (a : BitVec 32) : BitVec 1 :=
  IntOp.cmpi CmpIPredicate.slt
    (Scalar.select
      (IntOp.andi
        (IntOp.xori
          (IntOp.cmpi CmpIPredicate.slt
            (IntOp.remsi ArithUnit.vector a (Scalar.select (Scalar.cmpi CmpIPredicate.eq 64#32 0#32) 1#32 64#32)) 0#32)
          (Scalar.cmpi CmpIPredicate.slt (Scalar.select (Scalar.cmpi CmpIPredicate.eq 64#32 0#32) 1#32 64#32) 0#32))
        (IntOp.cmpi CmpIPredicate.ne
          (IntOp.remsi ArithUnit.vector a (Scalar.select (Scalar.cmpi CmpIPredicate.eq 64#32 0#32) 1#32 64#32)) 0#32))
      (IntOp.addi
        (IntOp.remsi ArithUnit.vector a (Scalar.select (Scalar.cmpi CmpIPredicate.eq 64#32 0#32) 1#32 64#32))
        (Scalar.select (Scalar.cmpi CmpIPredicate.eq 64#32 0#32) 1#32 64#32))
      (IntOp.remsi ArithUnit.vector a (Scalar.select (Scalar.cmpi CmpIPredicate.eq 64#32 0#32) 1#32 64#32)))
    32#32

theorem sel_at : ∀ j : Fin 128, sel (BitVec.ofNat 32 j) = if (j : ℕ) % 64 < 32 then 1#1 else 0#1 := by decide +kernel

variable {S : Dat}

/-- One column of a rotated row, in the block of 128 columns from `o` on. -/
theorem rot (f : ℕ → ℕ → EReal) (i o : ℕ) (ho : o % 128 = 0) {j : ℕ} (hj : j < 128) :
    f i (o + j) * S.C i (j % 32) + Scalar.select (sel (BitVec.ofNat 32 j)) (f i (o + (j + 128 - 96) % 128) * S.sn i ((j + 128 - 96) % 128))
      (f i (o + (j + 128 - 32) % 128) * S.sn i ((j + 128 - 32) % 128)) = S.R f i (o + j) := by
  have e := sel_at ⟨j, hj⟩
  simp only at e
  rw [e]
  unfold Dat.R Dat.sn
  by_cases h : j % 64 < 32
  · rw [if_pos h, if_pos (by omega : (o + j) % 64 < 32), if_neg (by omega : ¬(j + 128 - 96) % 128 % 64 < 32),
      show (o + j) % 32 = j % 32 by omega, show (j + 128 - 96) % 128 % 32 = j % 32 by omega, show o + (j + 128 - 96) % 128 = o + j + 32 by omega]
    rfl
  · rw [if_neg h, if_neg (by omega : ¬(o + j) % 64 < 32), if_pos (by omega : (j + 128 - 32) % 128 % 64 < 32),
      show (o + j) % 32 = j % 32 by omega, show (j + 128 - 32) % 128 % 32 = j % 32 by omega, show o + (j + 128 - 32) % 128 = o + j - 32 by omega]
    rfl

theorem rot0 (f : ℕ → ℕ → EReal) (i : ℕ) {j : ℕ} (hj : j < 128) :
    f i j * S.C i (j % 32) + Scalar.select (sel (BitVec.ofNat 32 j)) (f i ((j + 128 - 96) % 128) * S.sn i ((j + 128 - 96) % 128))
      (f i ((j + 128 - 32) % 128) * S.sn i ((j + 128 - 32) % 128)) = S.R f i j := by
  have h := rot (S := S) f i 0 rfl hj
  simp only [zero_add] at h
  exact h

section
variable {x0 : Vec Ideal S512x512 .f32} {x4 x5 : Vec Ideal S512x128 .f32} {f : ℕ → ℕ → EReal}
  (h0 : ∀ (i : Fin 512) (j : Fin 512), x0 (ix2 i j) = f i j)
  (h4 : ∀ (i : Fin 512) (j : Fin 128), x4 (ix2 i j) = S.C i (j % 32)) (h5 : ∀ (i : Fin 512) (j : Fin 128), x5 (ix2 i j) = S.sn i j)

variable (x0 x4 x5) in
/-- The query columns turned back. -/
abbrev qr : FVec Ideal S512x512 .f32 :=
  k0_pay18 (k0_pay6 x4) (k0_pay7 x5) x0 (k0_pay8 x4 x5 x0)
    (k0_pay12 (k0_pay10 x4 x0) (k0_pay11 x5 x0) (iota Kind.tc S512x128 32 [1] iota_S512x128_d1_w32) 64#32 0#1)
    (k0_pay14 (k0_pay6 x4) x0) (k0_pay15 (k0_pay7 x5) x0) k0_pay16 (k0_pay17 (k0_pay7 x5) x0) 32#32

include h0 h4 h5

theorem lf_q0 (i : Fin 512) (j : Fin 128) : k0_pay8 x4 x5 x0 (ix2 i j) = S.R f i j := by
  pointwise [k0_pay8, k0_pay7, k0_pay6]
  simp only [h0, h4, h5]
  exact rot0 f i j.2

theorem lf_q1 (i : Fin 512) (j : Fin 128) :
    k0_pay12 (k0_pay10 x4 x0) (k0_pay11 x5 x0) (iota Kind.tc S512x128 32 [1] iota_S512x128_d1_w32) 64#32 0#1 (ix2 i j) = S.R f i (128 + j) := by
  pointwise [k0_pay12, k0_pay11, k0_pay10, k0_pay9, k0_pay7, k0_pay6]
  simp only [h0, h4, h5]
  exact rot f i 128 rfl j.2

theorem lf_q2 (i : Fin 512) (j : Fin 128) : k0_pay14 (k0_pay6 x4) x0 (ix2 i j) + Scalar.select ((k0_pay16 : IVec S512x128 1) (ix2 i j)) (k0_pay17 (k0_pay7 x5) x0 (ix2 i j))
    (dynamicRotate 1 32#32 none (k0_pay15 (k0_pay7 x5) x0) rotates_S512x128_d1 (ix2 i j)) = S.R f i (256 + j) := by
  pointwise [k0_pay17, k0_pay16, k0_pay15, k0_pay14, k0_pay13, k0_pay7, k0_pay6]
  simp only [h0, h4, h5]
  exact rot f i 256 rfl j.2

theorem lf_qr : Ef (a := 512) (b := 512) (qr x0 x4 x5) (S.R f) := by
  intro i j
  pointwise [k0_pay18]
  split
  · exact lf_q0 h0 h4 h5 i _
  · split
    · refine (lf_q1 h0 h4 h5 i _).trans (congrArg (S.R f i) ?_)
      simp only
      omega
    · split
      · refine Eq.trans ?_ ((lf_q2 h0 h4 h5 i ⟨(j : ℕ) - 128 - 128, by omega⟩).trans (congrArg (S.R f i) ?_))
        · pointwise []
        · simp only
          omega
      · pointwise [k0_pay7, k0_pay6]
        simp only [h0, h4, h5]
        refine (rot f i 384 rfl (j := (j : ℕ) - 128 - 128 - 128) (by omega)).trans (congrArg (S.R f i) ?_)
        omega

theorem lf_k0 (i : Fin 512) (j : Fin 128) :
    k0_pay25 (k0_pay20 (k0_pay6 x4) x0) (k0_pay21 (k0_pay7 x5) x0) (64#32) k0_pay22 k0_pay23 k0_pay24 0#32 (ix2 i j) = S.R f i j := by
  pointwise [k0_pay25, k0_pay24, k0_pay23, k0_pay22, k0_pay21, k0_pay20, k0_pay19, k0_pay7, k0_pay6]
  simp only [h0, h4, h5]
  exact rot0 f i j.2

theorem lf_k1 (i : Fin 512) (j : Fin 128) : k0_pay26 (k0_pay6 x4) (k0_pay7 x5) x0 (ix2 i j) = S.R f i (128 + j) := by
  pointwise [k0_pay26, k0_pay7, k0_pay6]
  simp only [h0, h4, h5]
  exact rot f i 128 rfl j.2

theorem lf_k2 (i : Fin 512) (j : Fin 128) :
    k0_pay30 (k0_pay28 (k0_pay6 x4) x0) (k0_pay29 (k0_pay7 x5) x0) (iota Kind.tc S512x128 32 [1] iota_S512x128_d1_w32) 64#32 0#1 1#32 (ix2 i j) = S.R f i (256 + j) := by
  pointwise [k0_pay30, k0_pay29, k0_pay28, k0_pay27, k0_pay7, k0_pay6]
  simp only [h0, h4, h5]
  exact rot f i 256 rfl j.2

theorem lf_k3 (i : Fin 512) (j : Fin 128) : k0_pay32 (k0_pay6 x4) x0 (ix2 i j) + Scalar.select ((k0_pay34 : IVec S512x128 1) (ix2 i j)) (k0_pay35 (k0_pay7 x5) x0 (ix2 i j))
    (k0_pay36 (k0_pay7 x5) x0 (ix2 i j)) = S.R f i (384 + j) := by
  pointwise [k0_pay36, k0_pay35, k0_pay34, k0_pay33, k0_pay32, k0_pay31, k0_pay7, k0_pay6]
  simp only [h0, h4, h5]
  exact rot f i 384 rfl j.2

end

section
variable {x0 x1 x2 : Vec Ideal S512x512 .f32} {x3 : Vec Ideal S512x2048 .bf16} {x4 x5 : Vec Ideal S512x128 .f32}
  (h0 : Ef (a := 512) (b := 512) x0 S.Q) (h1 : Ef (a := 512) (b := 512) x1 S.K) (h2 : Ef (a := 512) (b := 512) x2 S.V)
  (h3 : Ef (a := 512) (b := 2048) x3 S.HG)
  (h4 : Ef (a := 512) (b := 128) x4 fun i j => S.C i (j % 32)) (h5 : Ef (a := 512) (b := 128) x5 S.sn)
  {w0 w1 w2 w3 : Vec Ideal S1x1024x896 .bf16}

variable (x0 x1 x2 x3 x4 x5) in
/-- The gradient of the projected columns. -/
abbrev dp : FVec Ideal S512x3584 .bf16 :=
  k0_pay37 (qr x0 x4 x5)
    (k0_pay25 (k0_pay20 (k0_pay6 x4) x1) (k0_pay21 (k0_pay7 x5) x1) (64#32) k0_pay22 k0_pay23 k0_pay24 0#32)
    (k0_pay26 (k0_pay6 x4) (k0_pay7 x5) x1)
    (k0_pay30 (k0_pay28 (k0_pay6 x4) x1) (k0_pay29 (k0_pay7 x5) x1) (iota Kind.tc S512x128 32 [1] iota_S512x128_d1_w32) 64#32 0#1 1#32)
    (k0_pay32 (k0_pay6 x4) x1) k0_pay34 (k0_pay35 (k0_pay7 x5) x1) (k0_pay36 (k0_pay7 x5) x1) x2 x3

variable (x0 x1 x2 x3 x4 x5 w0 w1 w2 w3) in
/-- The gradient of the normed rows. -/
abbrev du : FVec Ideal S512x1024 .f32 :=
  k0_pay38 (qr x0 x4 x5)
    (k0_pay25 (k0_pay20 (k0_pay6 x4) x1) (k0_pay21 (k0_pay7 x5) x1) (64#32) k0_pay22 k0_pay23 k0_pay24 0#32)
    (k0_pay26 (k0_pay6 x4) (k0_pay7 x5) x1)
    (k0_pay30 (k0_pay28 (k0_pay6 x4) x1) (k0_pay29 (k0_pay7 x5) x1) (iota Kind.tc S512x128 32 [1] iota_S512x128_d1_w32) 64#32 0#1 1#32)
    (k0_pay32 (k0_pay6 x4) x1) k0_pay34 (k0_pay35 (k0_pay7 x5) x1) (k0_pay36 (k0_pay7 x5) x1) x2 x3 w0 w1 w2 w3

include h0 h1 h2 h3 h4 h5

theorem lf_dp : Ef (a := 512) (b := 3584) (dp x0 x1 x2 x3 x4 x5) S.P := by
  intro i j
  pointwise [k0_pay37]
  unfold Dat.P
  by_cases a0 : (j : ℕ) < 1536
  · rw [dif_pos a0]
    by_cases a1 : (j : ℕ) < 512
    · rw [dif_pos a1, if_pos a1]
      exact lf_qr h0 h4 h5 i _
    · rw [dif_neg a1, if_neg a1]
      by_cases a2 : (j : ℕ) < 1024
      · rw [dif_pos (by omega), if_pos a2]
        split
        · exact lf_k0 h1 h4 h5 i _
        · split
          · refine (lf_k1 h1 h4 h5 i _).trans (congrArg (S.R S.K i) ?_)
            simp only
            omega
          · split
            · refine (lf_k2 h1 h4 h5 i _).trans (congrArg (S.R S.K i) ?_)
              simp only
              omega
            · refine (lf_k3 h1 h4 h5 i _).trans (congrArg (S.R S.K i) ?_)
              simp only
              omega
      · rw [dif_neg (by omega), if_neg a2, if_pos a0]
        refine (h2 i _).trans (congrArg (S.V i) ?_)
        simp only
        omega
  · rw [dif_neg a0]
    exact (h3 i _).trans ((if_neg (by omega)).trans ((if_neg (by omega)).trans (if_neg a0))).symm

theorem lf_du (g0 : ∀ (k : Fin 1024) (l : Fin 896), w0 (ix3 0 k l) = S.W k l) (g1 : ∀ (k : Fin 1024) (l : Fin 896), w1 (ix3 0 k l) = S.W k (896 + l))
    (g2 : ∀ (k : Fin 1024) (l : Fin 896), w2 (ix3 0 k l) = S.W k (1792 + l)) (g3 : ∀ (k : Fin 1024) (l : Fin 896), w3 (ix3 0 k l) = S.W k (2688 + l)) :
    Ef (a := 512) (b := 1024) (du x0 x1 x2 x3 x4 x5 w0 w1 w2 w3) S.DU := by
  have hp := lf_dp h0 h1 h2 h3 h4 h5
  intro i k
  pointwise [k0_pay38]
  refine Eq.trans (congrArg₂ (fun a b : EReal => a + b) (congrArg₂ (fun a b : EReal => a + b) (congrArg₂ (fun a b : EReal => a + b)
    (dot_ef (F := fun c => S.P i c) (G := fun c => S.W k c) (fun c => hp i _) (fun c => g0 k c))
    (dot_ef (F := fun c => S.P i (896 + c)) (G := fun c => S.W k (896 + c)) (fun c => hp i _) (fun c => g1 k c)))
    (dot_ef (F := fun c => S.P i (1792 + c)) (G := fun c => S.W k (1792 + c)) (fun c => hp i _) (fun c => g2 k c)))
    (dot_ef (F := fun c => S.P i (2688 + c)) (G := fun c => S.W k (2688 + c)) (fun c => hp i _) (fun c => g3 k c))) ?_
  exact Dat.du_blocks (fun c => S.P i c) (fun c => S.W k c)

end

section
variable {u : FVec Ideal S512x1024 .f32} {x7 x9 : Vec Ideal S512x1024 .f32} {x8 v : Vec Ideal S1x1024 .f32} {a : ℕ → EReal}
  (hu : Ef (a := 512) (b := 1024) u S.DU) (h7 : Ef (a := 512) (b := 1024) x7 S.X)

include h7

theorem lf_pay1 : Ef (a := 512) (b := 1) (k0_pay1 (k0_pay39 x7) k0_pay40) fun i _ => rs S.X i := by
  intro i j
  pointwise [k0_pay1, k0_pay39, k0_pay40]
  rw [bits_width, bits_eps, dot_ef (F := fun k => S.X i k) (G := fun k => S.X i k) (fun k => h7 i k) (fun k => h7 i k), Ideal.div_coe (by norm_num)]
  rfl

theorem lf_pay2 : Ef (a := 512) (b := 1024) (k0_pay2 x7 (k0_pay39 x7) k0_pay40) S.N := by
  intro i j
  pointwise [k0_pay2]
  rw [lf_pay1 h7 i 0, h7 i j]
  rfl

include hu

theorem lf_pay3 (hv : Ef (a := 1) (b := 1024) v fun _ k => a k) : Ef (a := 1) (b := 1024) (k0_pay3 u x7 (k0_pay39 x7) k0_pay40 v) fun _ k => a k + S.NW 512 k := by
  intro i k
  pointwise [k0_pay3]
  rw [hv i k]
  exact congrArg (fun y => a k + y) (dot_ef (F := fun r => S.DU r k) (G := fun r => S.N r k) (fun r => hu r k) (fun r => lf_pay2 h7 r k))

theorem lf_pay4 (h8 : Ef (a := 1) (b := 1024) x8 fun _ k => S.nw k) (h9 : Ef (a := 512) (b := 1024) x9 S.D) :
    Ef (a := 512) (b := 1024) (k0_pay4 u x7 (k0_pay39 x7) k0_pay40 x8 x9) S.DX := by
  have e : ∀ (i : Fin 512) (k : Fin 1024), u (ix2 i k) * x8 (ix2 0 k) = S.DN i k := fun i k => by rw [hu i k, h8 0 k]; rfl
  intro i k
  pointwise [k0_pay4]
  rw [lf_pay1 h7 i 0, lf_pay2 h7 i k, h9 i k, bits_width, Ideal.div_coe (by norm_num), e i k,
    dot_ef (F := fun k => S.DN i k) (G := fun k => S.N i k) (fun k => e i k) (fun k => lf_pay2 h7 i k)]
  rfl

end

end Cert.Inb

end

end
-- ==== Proof.InGrid.lean ====
/- The whole grid of the gradient of the input projection: what its outputs hold after the last point. -/
module

public import proofs.«01_k».proof.Proof.InBlock
public import proofs.«01_k».proof.Proof.FwdGrid
public import proofs.«01_k».proof.Proof.Gen.InBwdIdeal.Value
public import Idealize.ShloMosaic.Lib.Pipeline.ValueKit
public import Idealize.ShloMosaic.Lib.Pipeline.ReadBack

@[expose] public section

set_option maxRecDepth 16384

noncomputable section

namespace Cert.Inb

open Idealize.ShloMosaic Idealize.ShloMosaic.TcCoe Idealize.SL.Sem
open Cert.Mirror
open Cert.Fwd (Ef ms rs can_row can_rest wr_row wr_rest ld_row row_emb)
open Cert.InBwdIdeal Cert.InBwdIdeal.Gen

/-- The blocks of one point hold the rows `S`. -/
structure Blk (S : Dat) (x0 x1 x2 : Vec Ideal S512x512 .f32) (x3 : Vec Ideal S512x2048 .bf16) (x4 x5 : Vec Ideal S512x128 .f32)
    (x6 : Vec Ideal S4x1024x896 .bf16) (x7 : Vec Ideal S512x1024 .f32) (x8 : Vec Ideal S1x1024 .f32) (x9 : Vec Ideal S512x1024 .f32) : Prop where
  q : Ef (a := 512) (b := 512) x0 S.Q
  k : Ef (a := 512) (b := 512) x1 S.K
  v : Ef (a := 512) (b := 512) x2 S.V
  hg : Ef (a := 512) (b := 2048) x3 S.HG
  cs : Ef (a := 512) (b := 128) x4 fun i j => S.C i (j % 32)
  z : Ef (a := 512) (b := 128) x5 S.sn
  w : ∀ (q : Fin 4) (k : Fin 1024) (l : Fin 896), x6 (ix3 q k l) = S.W k (896 * q + l)
  x : Ef (a := 512) (b := 1024) x7 S.X
  nw : Ef (a := 1) (b := 1024) x8 fun _ k => S.nw k
  d : Ef (a := 512) (b := 1024) x9 S.D

section
variable {S : Dat} {x0 x1 x2 : Vec Ideal S512x512 .f32} {x3 : Vec Ideal S512x2048 .bf16} {x4 x5 : Vec Ideal S512x128 .f32}
    {x6 : Vec Ideal S4x1024x896 .bf16} {x7 : Vec Ideal S512x1024 .f32} {x8 : Vec Ideal S1x1024 .f32} {x9 : Vec Ideal S512x1024 .f32}
    (Hb : Blk S x0 x1 x2 x3 x4 x5 x6 x7 x8 x9)

variable (x6) in
abbrev w0 : Vec Ideal S1x1024x896 .bf16 := View.ld x6 (Rect.unit ![0, 0, 0] ![1, 1024, 896] inb_S4x1024x896_S1x1024x896_0_0_0)
variable (x6) in
abbrev w1 : Vec Ideal S1x1024x896 .bf16 := View.ld x6 (Rect.unit ![1, 0, 0] ![1, 1024, 896] inb_S4x1024x896_S1x1024x896_1_0_0)
variable (x6) in
abbrev w2 : Vec Ideal S1x1024x896 .bf16 := View.ld x6 (Rect.unit ![2, 0, 0] ![1, 1024, 896] inb_S4x1024x896_S1x1024x896_2_0_0)
variable (x6) in
abbrev w3 : Vec Ideal S1x1024x896 .bf16 := View.ld x6 (Rect.unit ![3, 0, 0] ![1, 1024, 896] inb_S4x1024x896_S1x1024x896_3_0_0)

include Hb

theorem w0_at (k : Fin 1024) (l : Fin 896) : w0 x6 (ix3 0 k l) = S.W k l := by
  refine ((View.ld_unit_apply_of _ _ _ _ _ (ix3 (n0 := 4) 0 k l) fun d => ?_).trans (Hb.w 0 k l)).trans ?_
  · fin_cases d <;> simp
  · simp
theorem w1_at (k : Fin 1024) (l : Fin 896) : w1 x6 (ix3 0 k l) = S.W k (896 + l) := by
  refine ((View.ld_unit_apply_of _ _ _ _ _ (ix3 (n0 := 4) 1 k l) fun d => ?_).trans (Hb.w 1 k l)).trans ?_
  · fin_cases d <;> simp
  · simp
theorem w2_at (k : Fin 1024) (l : Fin 896) : w2 x6 (ix3 0 k l) = S.W k (1792 + l) := by
  refine ((View.ld_unit_apply_of _ _ _ _ _ (ix3 (n0 := 4) 2 k l) fun d => ?_).trans (Hb.w 2 k l)).trans ?_
  · fin_cases d <;> simp
  · simp
theorem w3_at (k : Fin 1024) (l : Fin 896) : w3 x6 (ix3 0 k l) = S.W k (2688 + l) := by
  refine ((View.ld_unit_apply_of _ _ _ _ _ (ix3 (n0 := 4) 3 k l) fun d => ?_).trans (Hb.w 3 k l)).trans ?_
  · fin_cases d <;> simp
  · simp

theorem b_dp : Ef (a := 512) (b := 3584) (dp x0 x1 x2 x3 x4 x5) S.P := lf_dp Hb.q Hb.k Hb.v Hb.hg Hb.cs Hb.z

theorem b_du : Ef (a := 512) (b := 1024) (du x0 x1 x2 x3 x4 x5 (w0 x6) (w1 x6) (w2 x6) (w3 x6)) S.DU :=
  lf_du Hb.q Hb.k Hb.v Hb.hg Hb.cs Hb.z (w0_at Hb) (w1_at Hb) (w2_at Hb) (w3_at Hb)

theorem b_dx : Ef (a := 512) (b := 1024) (k0_pay4 (du x0 x1 x2 x3 x4 x5 (w0 x6) (w1 x6) (w2 x6) (w3 x6)) x7 (k0_pay39 x7) k0_pay40 x8 x9) S.DX := lf_pay4 (b_du Hb) Hb.x Hb.nw Hb.d

theorem b_nw {v : Vec Ideal S1x1024 .f32} {a : ℕ → EReal} (hv : Ef (a := 1) (b := 1024) v fun _ k => a k) : Ef (a := 1) (b := 1024)
    (k0_pay3 (du x0 x1 x2 x3 x4 x5 (w0 x6) (w1 x6) (w2 x6) (w3 x6)) x7 (k0_pay39 x7) k0_pay40 v) fun _ k => a k + S.NW 512 k := lf_pay3 (b_du Hb) Hb.x hv

end

variable (m : (ℓ : Loc nD τ sig) → Buf (Elt Ideal) ℓ) (c : Dev nD)

/-- The summed rows: one row of weight gradient, zeros. -/
abbrev sums (a : ℕ → EReal) (i k : ℕ) : EReal := if i = 0 then a k else 0

/-- The three outputs of one point. -/
structure Out (S : Dat) (a : ℕ → EReal) (p : Vec Ideal S512x3584 .bf16 × Vec Ideal S512x1024 .f32 × Vec Ideal S8x1024 .f32) : Prop where
  dp : Ef (a := 512) (b := 3584) p.1 S.P
  dx : Ef (a := 512) (b := 1024) p.2.1 S.DX
  acc : Ef (a := 8) (b := 1024) p.2.2 (sums a)

abbrev Blk_at (S : Dat) (t : Fin cfg0.N) : Prop := Blk S (iblk m c 0 t) (iblk m c 1 t) (iblk m c 2 t) (iblk m c 3 t) (iblk m c 4 t) (iblk m c 5 t)
  (iblk m c 6 t) (iblk m c 7 t) (iblk m c 8 t) (iblk m c 9 t)

theorem pay5_at (j : S8x1024.Idx) : k0_pay5 (F := Ideal) j = 0 := by pointwise [k0_pay5]

/-- The fill the first point starts from. -/
abbrev fill {F : FTy → Type} [FloatOps F] : View.Piece (Elt F) S8x1024 .f32 := ⟨Rect.unit (s := S8x1024) ![0, 0] S8x1024.size inb_S8x1024_S8x1024_0_0, k0_pay5⟩

theorem canon_fill (j : S8x1024.Idx) : View.canon [fill (F := Ideal)] j = 0 :=
  (congrFun (View.canon_cons_unit_lit (S := S8x1024) (off := ![0, 0]) _ _ _ (by intro a; fin_cases a <;> rfl)) j).trans (pay5_at j)

variable {m c} {S : Dat} {a : ℕ → EReal}

theorem out_A (t : Fin cfg0.N) (h : t.val % 16 = 0) (Hb : Blk_at m c S t) : Out S (S.NW 512) (outsAt0 m c t.val t.isLt) where
  dp := by
    rw [outsAt0_A m c t h]; frame_out
    exact b_dp Hb
  dx := by
    rw [outsAt0_A m c t h]; frame_out
    exact b_dx Hb
  acc := by
    rw [outsAt0_A m c t h]; frame_out
    intro i k
    by_cases h : (i : ℕ) = 0
    · refine Eq.trans ?_ (if_pos h).symm
      refine (can_row _ _ i h k).trans ((b_nw Hb (a := fun _ => 0) (fun i k => ?_) 0 k).trans (zero_add _))
      rw [View.readCov_eq_canon']
      exact canon_fill _
    · refine Eq.trans ?_ (if_neg h).symm
      exact (can_rest _ _ i k h).trans (canon_fill _)

theorem out_B (t : Fin cfg0.N) (h : ¬t.val % 16 = 0) (Hb : Blk_at m c S t)
    (ha : Ef (a := 8) (b := 1024) (outsAt0 m c (t.val - 1) (Nat.lt_of_le_of_lt (Nat.sub_le _ _) t.isLt)).2.2 (sums a)) :
    Out S (fun k => a k + S.NW 512 k) (outsAt0 m c t.val t.isLt) where
  dp := by
    rw [outsAt0_B m c t h]; frame_out
    exact b_dp Hb
  dx := by
    rw [outsAt0_B m c t h]; frame_out
    exact b_dx Hb
  acc := by
    rw [outsAt0_B m c t h]; frame_out
    generalize (outsAt0 m c (t.val - 1) (Nat.lt_of_le_of_lt (Nat.sub_le _ _) t.isLt)).2.2 = A at ha ⊢
    intro i k
    by_cases h : (i : ℕ) = 0
    · refine Eq.trans ?_ (if_pos h).symm
      refine (wr_row _ _ _ _ i h k).trans (b_nw Hb (fun i k => ?_) 0 k)
      exact (ld_row A 0 rfl i k).trans ((ha 0 k).trans (if_pos rfl))
    · refine Eq.trans ?_ (if_neg h).symm
      refine (wr_rest _ _ _ _ i k h).trans ?_
      rw [View.writes_nil, Memref.IsWhole.read_unread]
      exact (ha i k).trans (if_neg h)

/-- The blocks of every window at a point. -/
theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![0, 0, 0] ∧ win0_7.index t = ![t.val, 0] ∧ win0_8.index t = ![0, 0] ∧ win0_9.index t = ![t.val, 0] ∧ win0_10.index t = ![t.val, 0] ∧ win0_11.index t = ![t.val, 0] ∧ win0_12.index t = ![0, 0] :=
  (by decide +kernel : ∀ t : Fin grid0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![0, 0, 0] ∧ win0_7.index t = ![t.val, 0] ∧ win0_8.index t = ![0, 0] ∧ win0_9.index t = ![t.val, 0] ∧ win0_10.index t = ![t.val, 0] ∧ win0_11.index t = ![t.val, 0] ∧ win0_12.index t = ![0, 0])

theorem lt16 (t : Fin cfg0.N) : t.val < 16 := Nat.lt_of_lt_of_eq t.isLt N_0

section
variable (m c)

theorem read0 (t : Fin cfg0.N) (i : Fin 512) (j : Fin 512) (h : 512 * t.val + i < 8192) :
    iblk m c 0 t (ix2 i j) = V m c main_arg0 (ix2 (⟨512 * t.val + i, h⟩ : Fin 8192) j) := by
  blk_ext [iblk, idx t]

theorem read1 (t : Fin cfg0.N) (i : Fin 512) (j : Fin 512) (h : 512 * t.val + i < 8192) :
    iblk m c 1 t (ix2 i j) = V m c main_arg1 (ix2 (⟨512 * t.val + i, h⟩ : Fin 8192) j) := by
  blk_ext [iblk, idx t]

theorem read2 (t : Fin cfg0.N) (i : Fin 512) (j : Fin 512) (h : 512 * t.val + i < 8192) :
    iblk m c 2 t (ix2 i j) = V m c main_arg2 (ix2 (⟨512 * t.val + i, h⟩ : Fin 8192) j) := by
  blk_ext [iblk, idx t]

theorem read3 (t : Fin cfg0.N) (i : Fin 512) (j : Fin 2048) (h : 512 * t.val + i < 8192) :
    iblk m c 3 t (ix2 i j) = V m c main_arg3 (ix2 (⟨512 * t.val + i, h⟩ : Fin 8192) j) := by
  blk_ext [iblk, idx t]

theorem read4 (t : Fin cfg0.N) (i : Fin 512) (j : Fin 128) (h : 512 * t.val + i < 8192) :
    iblk m c 4 t (ix2 i j) = V m c main_v16 (ix2 (⟨512 * t.val + i, h⟩ : Fin 8192) j) := by
  blk_ext [iblk, idx t]

theorem read5 (t : Fin cfg0.N) (i : Fin 512) (j : Fin 128) (h : 512 * t.val + i < 8192) :
    iblk m c 5 t (ix2 i j) = V m c main_v21 (ix2 (⟨512 * t.val + i, h⟩ : Fin 8192) j) := by
  blk_ext [iblk, idx t]

theorem read7 (t : Fin cfg0.N) (i : Fin 512) (j : Fin 1024) (h : 512 * t.val + i < 8192) :
    iblk m c 7 t (ix2 i j) = V m c main_arg5 (ix2 (⟨512 * t.val + i, h⟩ : Fin 8192) j) := by
  blk_ext [iblk, idx t]

theorem read8 (t : Fin cfg0.N) (i : Fin 1) (j : Fin 1024) : iblk m c 8 t (ix2 i j) = V m c main_arg6 (ix2 i j) := by
  blk_ext [iblk, idx t]

theorem read9 (t : Fin cfg0.N) (i : Fin 512) (j : Fin 1024) (h : 512 * t.val + i < 8192) :
    iblk m c 9 t (ix2 i j) = V m c main_arg7 (ix2 (⟨512 * t.val + i, h⟩ : Fin 8192) j) := by
  blk_ext [iblk, idx t]

theorem read6 (t : Fin cfg0.N) (q : Fin 4) (k : Fin 1024) (l : Fin 896) : iblk m c 6 t (ix3 q k l) = V m c main_v24 (ix3 q k l) := by
  blk_ext [iblk, idx t]

/-- What the arrays hold when the call starts. -/
structure Entry (S : Dat) : Prop where
  q : Ef (a := 8192) (b := 512) (V m c main_arg0) S.Q
  k : Ef (a := 8192) (b := 512) (V m c main_arg1) S.K
  v : Ef (a := 8192) (b := 512) (V m c main_arg2) S.V
  hg : Ef (a := 8192) (b := 2048) (V m c main_arg3) S.HG
  cs : Ef (a := 8192) (b := 128) (V m c main_v16) fun i j => S.C i (j % 32)
  z : Ef (a := 8192) (b := 128) (V m c main_v21) S.sn
  w : ∀ (q : Fin 4) (k : Fin 1024) (l : Fin 896), V m c main_v24 (ix3 q k l) = S.W k (896 * q + l)
  x : Ef (a := 8192) (b := 1024) (V m c main_arg5) S.X
  nw : Ef (a := 1) (b := 1024) (V m c main_arg6) fun _ k => S.nw k
  d : Ef (a := 8192) (b := 1024) (V m c main_arg7) S.D

end

set_option maxHeartbeats 2000000 in
theorem blk_of_entry (hE : Entry m c S) (t : Fin cfg0.N) : Blk_at m c (S.rows (512 * t.val)) t where
  q := fun i j => (read0 m c t i j (by have := lt16 t; omega)).trans (hE.q _ j)
  k := fun i j => (read1 m c t i j (by have := lt16 t; omega)).trans (hE.k _ j)
  v := fun i j => (read2 m c t i j (by have := lt16 t; omega)).trans (hE.v _ j)
  hg := fun i j => (read3 m c t i j (by have := lt16 t; omega)).trans (hE.hg _ j)
  cs := fun i j => (read4 m c t i j (by have := lt16 t; omega)).trans (hE.cs _ j)
  z := fun i j => (read5 m c t i j (by have := lt16 t; omega)).trans (hE.z _ j)
  x := fun i j => (read7 m c t i j (by have := lt16 t; omega)).trans (hE.x _ j)
  nw := fun i j => (read8 m c t i j).trans (hE.nw i j)
  d := fun i j => (read9 m c t i j (by have := lt16 t; omega)).trans (hE.d _ j)
  w := fun q k l => (read6 m c t q k l).trans (hE.w q k l)

theorem after_all (hE : Entry m c S) : ∀ (n : ℕ) (hn : n < cfg0.N), Out (S.rows (512 * n)) (S.NW (512 * (n + 1))) (outsAt0 m c n hn)
  | 0, hn => by
    have o := out_A ⟨0, hn⟩ rfl (blk_of_entry hE ⟨0, hn⟩)
    have e : (S.rows (512 * 0)).NW 512 = S.NW (512 * (0 + 1)) := funext fun k => by
      have := S.nw_step 0 k
      rw [show S.NW 0 k = 0 from rfl, zero_add] at this
      exact this
    rw [← e]
    exact o
  | n + 1, hn => by
    have ih := after_all hE n (Nat.lt_of_succ_lt hn)
    have ht : n + 1 < 16 := lt16 ⟨n + 1, hn⟩
    have h0 : ¬(⟨n + 1, hn⟩ : Fin cfg0.N).val % 16 = 0 := by show ¬(n + 1) % 16 = 0; omega
    have o := out_B ⟨n + 1, hn⟩ h0 (blk_of_entry hE ⟨n + 1, hn⟩) ih.acc
    have e : (fun k => S.NW (512 * (n + 1)) k + (S.rows (512 * (n + 1))).NW 512 k) = S.NW (512 * (n + 1 + 1)) := funext fun k => S.nw_step _ k
    rw [← e]
    exact o

theorem final10 (hE : Entry m c S) : Ef (a := 8192) (b := 3584) ((dats m 0 c).arrAt 10 cfg0.N) S.P := by
  intro i j
  have ht : (i : ℕ) / 512 < cfg0.N := Nat.lt_of_lt_of_eq (by omega : _ < 16) N_0.symm
  have e := Value.blocks10 m c ⟨_, ht⟩ (flush0_10 _)
  rw [Value.flushed10] at e
  have e1 := congrFun e (ix2 (⟨(i : ℕ) % 512, Nat.mod_lt _ (by decide)⟩ : Fin 512) j)
  have e2 := (after_all hE _ ht).dp ⟨(i : ℕ) % 512, Nat.mod_lt _ (by decide)⟩ j
  have e3 : 512 * ((i : ℕ) / 512) + (i : ℕ) % 512 = i := by omega
  refine Eq.trans (b := ((cfg0.win 10).blk ⟨_, ht⟩).view.read (Elt Ideal) ((dats m 0 c).arrAt 10 cfg0.N) (ix2 (⟨(i : ℕ) % 512, Nat.mod_lt _ (by decide)⟩ : Fin 512) j)) ?_
    (e1.trans (Eq.trans ?_ (e2.trans (congrArg (fun n => S.P n j) e3))))
  · have hx := idx ⟨_, ht⟩
    blk_ext [hx]
  · blk_ext []

theorem final11 (hE : Entry m c S) : Ef (a := 8192) (b := 1024) ((dats m 0 c).arrAt 11 cfg0.N) S.DX := by
  intro i j
  have ht : (i : ℕ) / 512 < cfg0.N := Nat.lt_of_lt_of_eq (by omega : _ < 16) N_0.symm
  have e := Value.blocks11 m c ⟨_, ht⟩ (flush0_11 _)
  rw [Value.flushed11] at e
  have e1 := congrFun e (ix2 (⟨(i : ℕ) % 512, Nat.mod_lt _ (by decide)⟩ : Fin 512) j)
  have e2 := (after_all hE _ ht).dx ⟨(i : ℕ) % 512, Nat.mod_lt _ (by decide)⟩ j
  have e3 : 512 * ((i : ℕ) / 512) + (i : ℕ) % 512 = i := by omega
  refine Eq.trans (b := ((cfg0.win 11).blk ⟨_, ht⟩).view.read (Elt Ideal) ((dats m 0 c).arrAt 11 cfg0.N) (ix2 (⟨(i : ℕ) % 512, Nat.mod_lt _ (by decide)⟩ : Fin 512) j)) ?_
    (e1.trans (Eq.trans ?_ (e2.trans (congrArg (fun n => S.DX n j) e3))))
  · have hx := idx ⟨_, ht⟩
    blk_ext [hx]
  · blk_ext []

theorem arr12 (t : Fin cfg0.N) (hw : (cfg0.win 12).WholeAt t) : (dats m 0 c).arrAt 12 cfg0.N = (outsAt0 m c t.val t.isLt).2.2 := by
  refine (dats m 0 c).arrAt_eq_of_after_last 12 t hw _ fun j => ?_
  rw [after0_12]
  generalize (outsAt0 m c t.val t.isLt).2.2 = g
  refine (cast_eq _ _).trans (congrArg g ?_)
  blk_ext []

theorem whole12 : ∀ t : Fin cfg0.N, t.val = 15 → (cfg0.win 12).WholeAt t :=
  (by decide +kernel : ∀ t : Fin grid0.N, t.val = 15 → win0_12.WholeAt t)

theorem final12 (hE : Entry m c S) : Ef (a := 8) (b := 1024) ((dats m 0 c).arrAt 12 cfg0.N) (sums (S.NW 8192)) := by
  obtain ⟨t, ht⟩ : ∃ t : Fin cfg0.N, t.val = 15 := ⟨⟨15, Nat.lt_of_lt_of_eq (by decide : 15 < 16) N_0.symm⟩, rfl⟩
  have h := (after_all hE t.val t.isLt).acc
  rw [← arr12 t (whole12 t ht), ht] at h
  exact h

end Cert.Inb

end

end
-- ==== Proof.InRef.lean ====
/- The reference of the gradient of the input projection as a function of the entries. -/
module

public import proofs.«01_k».proof.Proof.InReal
public import proofs.«01_k».proof.Proof.Gen.InBwdRefIdeal.Read

@[expose] public section

set_option maxRecDepth 16384

noncomputable section

namespace Cert.Inb

open Idealize.ShloMosaic Idealize.SL.Sem
open Cert.Mirror
open Cert.Fwd (Ef ms rs dot_ef ms_pos bits_neg_half norm_grad)
open Cert.Ffn (eps eps_pos bits_eps bits_width)
open Cert.InBwdRefIdeal Cert.InBwdRefIdeal.Gen Cert.InBwdRefIdeal.Read

/-- The eight arguments and the cosines and sines hold the entries of `S`. -/
structure Args (x0 x1 x2 : FVec Ideal S8192x512 .f32) (x3 : FVec Ideal S8192x2048 .bf16) (x4 : FVec Ideal S1024x3584 .f32)
    (x5 : FVec Ideal S8192x1024 .f32) (x6 : FVec Ideal S1x1024 .f32) (x7 : FVec Ideal S8192x1024 .f32) (S : Dat) : Prop where
  q : Ef (a := 8192) (b := 512) x0 S.Q
  k : Ef (a := 8192) (b := 512) x1 S.K
  v : Ef (a := 8192) (b := 512) x2 S.V
  hg : Ef (a := 8192) (b := 2048) x3 S.HG
  w : Ef (a := 1024) (b := 3584) x4 S.W
  x : Ef (a := 8192) (b := 1024) x5 S.X
  nw : Ef (a := 1) (b := 1024) x6 fun _ k => S.nw k
  d : Ef (a := 8192) (b := 1024) x7 S.D
  cs : Ef (a := 8192) (b := 32) (val_main_v29 (F := Ideal)) S.C
  sn : Ef (a := 8192) (b := 32) (val_main_v31 (F := Ideal)) S.Z

/-- The tables of the key columns are those of the query columns. -/
theorem cos_k : val_main_v61 (F := Ideal) = val_main_v29 (F := Ideal) := rfl
theorem sin_k : val_main_v63 (F := Ideal) = val_main_v31 (F := Ideal) := rfl

variable {x0 x1 x2 : FVec Ideal S8192x512 .f32} {x3 : FVec Ideal S8192x2048 .bf16} {x4 : FVec Ideal S1024x3584 .f32}
    {x5 : FVec Ideal S8192x1024 .f32} {x6 : FVec Ideal S1x1024 .f32} {x7 : FVec Ideal S8192x1024 .f32} {S : Dat}
    (Hy : Args x0 x1 x2 x3 x4 x5 x6 x7 S)

/-- A rotated row turned back, as the reference writes it. -/
theorem turn {x : FVec Ideal S8192x512 .f32} {C Z : FVec Ideal S8192x32 .f32} {f : ℕ → ℕ → EReal} (hx : Ef (a := 8192) (b := 512) x f)
    (hc : Ef (a := 8192) (b := 32) C S.C) (hs : Ef (a := 8192) (b := 32) Z S.Z) (i : Fin 8192) (j : Fin 512) :
    ((if h : (j : ℕ) / 64 < 8 ∧ 32 ≤ (j : ℕ) % 64 ∧ (j : ℕ) % 64 - 32 < 32 then
        x (ix2 i ⟨(j : ℕ) / 64 * 64 + (32 + ((j : ℕ) % 64 - 32)), by omega⟩) * C (ix2 i ⟨(j : ℕ) % 64 - 32, by omega⟩) +
          -x (ix2 i ⟨(j : ℕ) / 64 * 64 + ((j : ℕ) % 64 - 32), by omega⟩) * Z (ix2 i ⟨(j : ℕ) % 64 - 32, by omega⟩)
      else 0) +
      if h : (j : ℕ) / 64 < 8 ∧ (j : ℕ) % 64 < 32 then
        x (ix2 i ⟨(j : ℕ) / 64 * 64 + (32 + (j : ℕ) % 64), by omega⟩) * Z (ix2 i ⟨(j : ℕ) % 64, by omega⟩) +
          x (ix2 i j) * C (ix2 i ⟨(j : ℕ) % 64, by omega⟩)
      else 0) = S.R f i j := by
  have hj := j.2
  by_cases h : (j : ℕ) % 64 < 32
  · have p : ¬((j : ℕ) / 64 < 8 ∧ 32 ≤ (j : ℕ) % 64 ∧ (j : ℕ) % 64 - 32 < 32) := by omega
    have p' : (j : ℕ) / 64 < 8 ∧ (j : ℕ) % 64 < 32 := by omega
    refine (congrArg₂ (· + ·) (dif_neg p) (dif_pos p')).trans ((zero_add _).trans ((add_comm _ _).trans ?_))
    refine Eq.trans ?_ (if_pos h).symm
    refine congrArg₂ (· + ·) (congrArg₂ (· * ·) (hx i j) ((hc i _).trans (congrArg (S.C i) ?_)))
      (congrArg₂ (· * ·) ((hx i _).trans (congrArg (f i) ?_)) ((hs i _).trans (congrArg (S.Z i) ?_)))
    all_goals
      simp only
      omega
  · have p : (j : ℕ) / 64 < 8 ∧ 32 ≤ (j : ℕ) % 64 ∧ (j : ℕ) % 64 - 32 < 32 := by omega
    have p' : ¬((j : ℕ) / 64 < 8 ∧ (j : ℕ) % 64 < 32) := by omega
    refine (congrArg₂ (· + ·) (dif_pos p) (dif_neg p')).trans ((add_zero _).trans ?_)
    refine Eq.trans ?_ (if_neg h).symm
    refine congrArg₂ (· + ·) (congrArg₂ (· * ·) ((hx i _).trans (congrArg (f i) ?_)) ((hc i _).trans (congrArg (S.C i) ?_)))
      ((neg_mul _ _).trans ((mul_neg _ _).symm.trans (congrArg₂ (· * ·) ((hx i _).trans (congrArg (f i) ?_)) (congrArg (- ·) ((hs i _).trans (congrArg (S.Z i) ?_))))))
    all_goals
      simp only
      omega

include Hy

theorem r_v6 : Ef (a := 8192) (b := 1) (val_main_v6 (F := Ideal) x5) fun i _ => ms S.X i := by
  intro i j
  pointwise [val_main_v6, val_main_v5, val_main_v4, val_main_v3, val_main_v2, val_main_v1, val_main_v0, val_main_cst, val_main_cst_0, val_main_cst_1]
  rw [dot_ef (F := fun k => S.X i k) (G := fun k => S.X i k) (fun k => Hy.x i k) (fun k => Hy.x i k), bits_eps, bits_width, Ideal.div_coe (by norm_num)]
  rfl

theorem r_v7 : Ef (a := 8192) (b := 1) (val_main_v7 (F := Ideal) x5) fun i _ => rs S.X i := by
  intro i j
  pointwise [val_main_v7]
  rw [r_v6 Hy i j]
  rfl

theorem r_v10 : Ef (a := 8192) (b := 1) (val_main_v10 (F := Ideal) x5) fun i _ => ((-(1 / 2) : ℝ) : EReal) * Ideal.div (rs S.X i) (ms S.X i) := by
  intro i j
  pointwise [val_main_v10, val_main_v9, val_main_v8, val_main_cst_2]
  rw [r_v6 Hy i j, r_v7 Hy i j, bits_neg_half]

theorem r_v12 : Ef (a := 8192) (b := 1024) (val_main_v12 (F := Ideal) x5) S.N := by
  intro i k
  pointwise [val_main_v12, val_main_v11]
  rw [Hy.x i k, r_v7 Hy i _]
  rfl

theorem r_v103 : Ef (a := 8192) (b := 512) (val_main_v103 (F := Ideal) x1) (S.R S.K) := by
  intro i j
  pointwise [val_main_v103, val_main_v102, val_main_v101, val_main_v100, val_main_cst_10, val_main_cst_9, val_main_v99, val_main_v98, val_main_v97, val_main_v96, val_main_v95,
    val_main_v94, val_main_v93, val_main_v92, val_main_v91, val_main_v90, val_main_v89, val_main_v88, val_main_v87, val_main_v86, val_main_v62, val_main_v64, cos_k, sin_k]
  exact turn Hy.k Hy.cs Hy.sn i j

theorem r_v123 : Ef (a := 8192) (b := 512) (val_main_v123 (F := Ideal) x0) (S.R S.Q) := by
  intro i j
  pointwise [val_main_v123, val_main_v122, val_main_v121, val_main_v120, val_main_cst_13, val_main_cst_12, val_main_v119, val_main_v118, val_main_v117, val_main_v116, val_main_v115,
    val_main_v114, val_main_v113, val_main_v112, val_main_v111, val_main_v110, val_main_v109, val_main_v108, val_main_v107, val_main_v106, val_main_v30, val_main_v32]
  exact turn Hy.q Hy.cs Hy.sn i j

theorem r_v125 : Ef (a := 8192) (b := 3584) (val_main_v125 (F := Ideal) x0 x1 x2 x3) S.P := by
  intro i j
  pointwise [val_main_v125, val_main_v124, val_main_v105, val_main_v104, val_main_v85, val_main_v84, val_main_v83, val_main_v82, val_main_cst_7, val_main_cst_8, val_main_cst_11, val_main_cst_14]
  unfold Dat.P
  by_cases h0 : (j : ℕ) < 512
  · rw [dif_neg (by omega), dif_neg (by omega), dif_neg (by omega), dif_pos h0, if_pos h0, add_zero, add_zero, zero_add]
    exact r_v123 Hy i _
  rw [dif_neg h0, if_neg h0, add_zero]
  by_cases h1 : (j : ℕ) < 1024
  · rw [dif_neg (by omega), dif_neg (by omega), dif_pos (by omega), if_pos h1, add_zero, zero_add]
    exact r_v103 Hy i _
  rw [dif_neg (show ¬(512 ≤ (j : ℕ) ∧ (j : ℕ) - 512 < 512) by omega), if_neg h1, add_zero]
  by_cases h2 : (j : ℕ) < 1536
  · rw [dif_neg (by omega), dif_pos (by omega), if_pos h2, zero_add]
    exact Hy.v i _
  rw [dif_neg (show ¬(1024 ≤ (j : ℕ) ∧ (j : ℕ) - 1024 < 512) by omega), dif_pos (by omega), if_neg h2, add_zero]
  exact Hy.hg i _

theorem r_v126 : Ef (a := 8192) (b := 1024) (val_main_v126 (F := Ideal) x0 x1 x2 x3 x4) S.DU := by
  intro i k
  pointwise [val_main_v126]
  exact dot_ef (F := fun c => S.P i c) (G := fun c => S.W k c) (fun c => r_v125 Hy i c) (fun c => Hy.w k c)

theorem r_v131 : Ef (a := 8192) (b := 1024) (val_main_v131 (F := Ideal) x0 x1 x2 x3 x4 x6) S.DN := by
  intro i k
  pointwise [val_main_v131, val_main_v130]
  rw [r_v126 Hy i k, Hy.nw _ k]
  rfl

theorem r_v141 : Ef (a := 8192) (b := 1024) (val_main_v141 (F := Ideal) x0 x1 x2 x3 x4 x5 x6) fun i _ =>
    (∑ k ∈ Finset.range 1024, S.X i k * S.DN i k) * (((-(1 / 2) : ℝ) : EReal) * Ideal.div (rs S.X i) (ms S.X i)) * ((1 / 1024 : ℝ) : EReal) := by
  intro i k
  pointwise [val_main_v141, val_main_v140, val_main_v139, val_main_v138, val_main_v137, val_main_v134, val_main_v133, val_main_v132, val_main_cst_16, val_main_cst_17, val_main_cst_18]
  simp only [Finset.univ_unique, Fin.default_eq_zero, Finset.sum_singleton]
  rw [dot_ef (F := fun k => S.X i k) (G := fun k => S.DN i k) (fun k => Hy.x i k) (fun k => r_v131 Hy i k), r_v10 Hy i _, bits_width, Ideal.div_coe (by norm_num)]

theorem r_v149 : Ef (a := 8192) (b := 1024) (val_main_v149 (F := Ideal) x0 x1 x2 x3 x4 x5 x6 x7) S.DX := by
  intro i k
  pointwise [val_main_v149, val_main_v145, val_main_v144, val_main_v143, val_main_v142, val_main_v136, val_main_v135]
  rw [Hy.d i k, r_v131 Hy i k, r_v141 Hy i k, Hy.x i k, r_v7 Hy i _]
  exact congrArg (S.D i k + ·) (norm_grad (fun k => S.X i k) (fun k => S.DN i k) k (ms_pos S.X i))

theorem r_v147 : Ef (a := 8) (b := 1024) (val_main_v147 (F := Ideal) x0 x1 x2 x3 x4 x5) fun i k => if i = 0 then S.NW 8192 k else 0 := by
  intro i k
  pointwise [val_main_v147, val_main_v146, val_main_v129, val_main_v128, val_main_v127, val_main_cst_15, val_main_cst_19]
  by_cases h : (i : ℕ) = 0
  · rw [dif_pos (by omega), if_pos h]
    refine (dot_ef (F := fun x => S.N x k) (G := fun x => S.DU x k) (fun x => r_v12 Hy x k) (fun x => r_v126 Hy x k)).trans ?_
    unfold Dat.NW
    exact Finset.sum_congr rfl fun x _ => mul_comm _ _
  · rw [dif_neg (by omega), if_neg h]

theorem r_v148 : Ef (a := 8192) (b := 3584) (val_main_v148 (F := Ideal) x0 x1 x2 x3) S.P := by
  intro i j; pointwise [val_main_v148]; exact r_v125 Hy i j

end Cert.Inb

end

end
-- ==== Proof.InBwd.lean ====
/- The three results of the gradient of the input projection are the reference's. -/
module

public import proofs.«01_k».proof.Proof.InGrid
public import proofs.«01_k».proof.Proof.InRef
public import proofs.«01_k».proof.Proof.FfnFwd

@[expose] public section

set_option maxRecDepth 16384

noncomputable section

namespace Cert.Inb

open Idealize.ShloMosaic Idealize.ShloMosaic.TcCoe Idealize.SL.Sem
open Cert.Mirror
open Cert.Fwd (Ef re ef_re eq_of_ef)

section
variable {x0 x1 x2 : FVec Ideal Cert.InBwdRefIdeal.S8192x512 .f32} {x3 : FVec Ideal Cert.InBwdRefIdeal.S8192x2048 .bf16} {x4 : FVec Ideal Cert.InBwdRefIdeal.S1024x3584 .f32}
    {x5 : FVec Ideal Cert.InBwdRefIdeal.S8192x1024 .f32} {x6 : FVec Ideal Cert.InBwdRefIdeal.S1x1024 .f32} {x7 : FVec Ideal Cert.InBwdRefIdeal.S8192x1024 .f32}

variable (x0) (x1) (x2) (x3) (x4) (x5) (x6) (x7) in
/-- The entries of the arguments, and of the cosines and sines. -/
def argDat : Dat where
  Q := re (a := 8192) (b := 512) x0
  K := re (a := 8192) (b := 512) x1
  V := re (a := 8192) (b := 512) x2
  HG := re (a := 8192) (b := 2048) x3
  C := re (a := 8192) (b := 32) (Cert.InBwdRefIdeal.Read.val_main_v29 (F := Ideal))
  Z := re (a := 8192) (b := 32) (Cert.InBwdRefIdeal.Read.val_main_v31 (F := Ideal))
  W := re (a := 1024) (b := 3584) x4
  X := re (a := 8192) (b := 1024) x5
  nw := re (a := 1) (b := 1024) x6 0
  D := re (a := 8192) (b := 1024) x7

theorem args_eq : Args x0 x1 x2 x3 x4 x5 x6 x7 (argDat x0 x1 x2 x3 x4 x5 x6 x7) where
  q := ef_re x0
  k := ef_re x1
  v := ef_re x2
  hg := ef_re x3
  w := ef_re x4
  x := ef_re x5
  nw := fun i j => by
    obtain rfl : i = 0 := Subsingleton.elim _ _
    exact ef_re x6 0 j
  d := ef_re x7
  cs := ef_re _
  sn := ef_re _

end

open Cert.InBwdIdeal Cert.InBwdIdeal.Gen Cert.InBwdIdeal.Value

variable {m : (ℓ : Loc nD τ sig) → Buf (Elt Ideal) ℓ} {c : Dev nD} {S : Dat}

set_option maxHeartbeats 4000000 in
theorem host_cos : V m c main_v16 = (shapeCast S8192x128 (broadcastInDim S1x8192x4x32 ![0, 1, 2, 3] bcast_S1x8192x1x32_S1x8192x4x32_0_1_2_3 (shapeCast S1x8192x1x32 (Cert.InBwdRefIdeal.Read.val_main_v29 (F := Ideal)) shapeCasts_S8192x32_S1x8192x1x32)) shapeCasts_S1x8192x4x32_S8192x128 : FVec Ideal S8192x128 .f32) := by
  unfold V
  simp only [hostOps0, List.flatten_cons, List.flatten_nil, List.append_nil, List.cons_append, List.nil_append, Idealize.ShloMosaic.StableHlo.after_cons, Idealize.ShloMosaic.StableHlo.after_nil]
  after_results_simp
  after_results_loop
  rfl

set_option maxHeartbeats 4000000 in
theorem host_sin : V m c main_v21 = (shapeCast S8192x128 (broadcastInDim S1x8192x2x64 ![0, 1, 2, 3] bcast_S1x8192x1x64_S1x8192x2x64_0_1_2_3 (shapeCast S1x8192x1x64 (concatenate S8192x64 1 [⟨S8192x32, (Host.negf (Cert.InBwdRefIdeal.Read.val_main_v31 (F := Ideal)) : FVec Ideal S8192x32 .f32)⟩, ⟨S8192x32, (Cert.InBwdRefIdeal.Read.val_main_v31 (F := Ideal))⟩] concatenates_S8192x32_S8192x32_S8192x64_d1) shapeCasts_S8192x64_S1x8192x1x64)) shapeCasts_S1x8192x2x64_S8192x128 : FVec Ideal S8192x128 .f32) := by
  unfold V
  simp only [hostOps0, List.flatten_cons, List.flatten_nil, List.append_nil, List.cons_append, List.nil_append, Idealize.ShloMosaic.StableHlo.after_cons, Idealize.ShloMosaic.StableHlo.after_nil]
  after_results_simp
  after_results_loop
  rfl

set_option maxHeartbeats 4000000 in
theorem host_w : V m c main_v24 = transpose S4x1024x896 [1, 0, 2] (shapeCast S1024x4x896 (truncf (F := Ideal) .bf16 (m ((c : Thread nD τ).loc main_arg4) : FVec Ideal S1024x3584 .f32) bitsLt_bf16_f32) shapeCasts_S1024x3584_S1024x4x896) transposes_S1024x4x896_S4x1024x896_1_0_2 := by
  unfold V
  simp only [hostOps0, List.flatten_cons, List.flatten_nil, List.append_nil, List.cons_append, List.nil_append, Idealize.ShloMosaic.StableHlo.after_cons, Idealize.ShloMosaic.StableHlo.after_nil]
  after_results_simp
  after_results_loop
  rfl

theorem entry_of_args (H : Args (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) S) : Entry m c S where
  q := by rw [V_main_arg0]; exact H.q
  k := by rw [V_main_arg1]; exact H.k
  v := by rw [V_main_arg2]; exact H.v
  hg := by rw [V_main_arg3]; exact H.hg
  cs := fun i j => by
    rw [host_cos]
    pointwise []
    refine (H.cs _ _).trans (congrArg (S.C i) ?_)
    simp only
  z := fun i j => by
    rw [host_sin]
    pointwise []
    unfold Dat.sn
    by_cases h : (j : ℕ) % 64 < 32
    · rw [dif_pos h, if_pos h]
      exact congrArg (- ·) ((H.sn i _).trans (congrArg (S.Z i) (by simp only; omega)))
    · rw [dif_neg h, if_neg h]
      exact (H.sn i _).trans (congrArg (S.Z i) (by simp only; omega))
  w := fun q k l => by
    rw [host_w]
    pointwise []
    refine (H.w _ _).trans ?_
    exact congrArg (fun n => S.W k n) (congrArg (· + (l : ℕ)) (Nat.mul_comm _ _))
  x := by rw [V_main_arg5]; exact H.x
  nw := by rw [V_main_arg6]; exact H.nw
  d := by rw [V_main_arg7]; exact H.d

theorem result10 (H : Args (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) S) :
    Cert.InBwdRefIdeal.Read.val_main_v148 (F := Ideal) (m ((c : Thread nD τ).loc main_arg0)) (m ((c : Thread nD τ).loc main_arg1)) (m ((c : Thread nD τ).loc main_arg2)) (m ((c : Thread nD τ).loc main_arg3)) = (dats m 0 c).arrAt 10 cfg0.N :=
  eq_of_ef (r_v148 H) (final10 (entry_of_args H))

theorem result11 (H : Args (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) S) :
    Cert.InBwdRefIdeal.Read.val_main_v149 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) = (dats m 0 c).arrAt 11 cfg0.N :=
  eq_of_ef (r_v149 H) (final11 (entry_of_args H))

theorem result12 (H : Args (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) S) :
    Cert.InBwdRefIdeal.Read.val_main_v147 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) = (dats m 0 c).arrAt 12 cfg0.N :=
  eq_of_ef (r_v147 H) (final12 (entry_of_args H))

end Cert.Inb

end

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite
public import proofs.«01_k».proof.Proof.Entry
public import proofs.«01_k».proof.Proof.Gen.GradGateUp
public import proofs.«01_k».proof.Proof.Gen.GradGateUp.Skeleton
public import proofs.«01_k».proof.Proof.Gen.GradGateUp.Launch
public import proofs.«01_k».proof.Proof.Gen.GradGateUp.Points
public import proofs.«01_k».proof.Proof.Gen.GradGateUp.Frame
public import proofs.«01_k».proof.Proof.Gen.GradGateUpIdeal
public import proofs.«01_k».proof.Proof.Gen.GradGateUpIdeal.Skeleton
public import proofs.«01_k».proof.Proof.Gen.GradGateUpIdeal.Launch
public import proofs.«01_k».proof.Proof.Gen.GradGateUpIdeal.Points
public import proofs.«01_k».proof.Proof.Gen.GradGateUpIdeal.Frame
public import proofs.«01_k».proof.Proof.Gen.GradGateUpIdeal.Value
public import proofs.«01_k».proof.Proof.Gen.GradGateUpRefIdeal
public import proofs.«01_k».proof.Proof.Gen.GradGateUpRefIdeal.Run
public import proofs.«01_k».proof.Proof.Gen.GradGateUpRefIdeal.Read
public import proofs.«01_k».proof.Proof.SumGate
public import proofs.«01_k».proof.Proof.Gen.GradDown
public import proofs.«01_k».proof.Proof.Gen.GradDown.Skeleton
public import proofs.«01_k».proof.Proof.Gen.GradDown.Launch
public import proofs.«01_k».proof.Proof.Gen.GradDown.Points
public import proofs.«01_k».proof.Proof.Gen.GradDown.Frame
public import proofs.«01_k».proof.Proof.Gen.GradDownIdeal
public import proofs.«01_k».proof.Proof.Gen.GradDownIdeal.Skeleton
public import proofs.«01_k».proof.Proof.Gen.GradDownIdeal.Launch
public import proofs.«01_k».proof.Proof.Gen.GradDownIdeal.Points
public import proofs.«01_k».proof.Proof.Gen.GradDownIdeal.Frame
public import proofs.«01_k».proof.Proof.Gen.GradDownIdeal.Value
public import proofs.«01_k».proof.Proof.Gen.GradDownRefIdeal
public import proofs.«01_k».proof.Proof.Gen.GradDownRefIdeal.Run
public import proofs.«01_k».proof.Proof.Gen.GradDownRefIdeal.Read
public import proofs.«01_k».proof.Proof.SumDown
public import proofs.«01_k».proof.Proof.Gen.GradIn
public import proofs.«01_k».proof.Proof.Gen.GradIn.Skeleton
public import proofs.«01_k».proof.Proof.Gen.GradIn.Launch
public import proofs.«01_k».proof.Proof.Gen.GradIn.Points
public import proofs.«01_k».proof.Proof.Gen.GradIn.Frame
public import proofs.«01_k».proof.Proof.Gen.GradInIdeal
public import proofs.«01_k».proof.Proof.Gen.GradInIdeal.Skeleton
public import proofs.«01_k».proof.Proof.Gen.GradInIdeal.Launch
public import proofs.«01_k».proof.Proof.Gen.GradInIdeal.Points
public import proofs.«01_k».proof.Proof.Gen.GradInIdeal.Frame
public import proofs.«01_k».proof.Proof.Gen.GradInIdeal.Value
public import proofs.«01_k».proof.Proof.Gen.GradInRefIdeal
public import proofs.«01_k».proof.Proof.Gen.GradInRefIdeal.Run
public import proofs.«01_k».proof.Proof.Gen.GradInRefIdeal.Read
public import proofs.«01_k».proof.Proof.SumIn
public import proofs.«01_k».proof.Proof.Gen.GradOut
public import proofs.«01_k».proof.Proof.Gen.GradOut.Skeleton
public import proofs.«01_k».proof.Proof.Gen.GradOut.Launch
public import proofs.«01_k».proof.Proof.Gen.GradOut.Points
public import proofs.«01_k».proof.Proof.Gen.GradOut.Frame
public import proofs.«01_k».proof.Proof.Gen.GradOutIdeal
public import proofs.«01_k».proof.Proof.Gen.GradOutIdeal.Skeleton
public import proofs.«01_k».proof.Proof.Gen.GradOutIdeal.Launch
public import proofs.«01_k».proof.Proof.Gen.GradOutIdeal.Points
public import proofs.«01_k».proof.Proof.Gen.GradOutIdeal.Frame
public import proofs.«01_k».proof.Proof.Gen.GradOutIdeal.Value
public import proofs.«01_k».proof.Proof.Gen.GradOutRefIdeal
public import proofs.«01_k».proof.Proof.Gen.GradOutRefIdeal.Run
public import proofs.«01_k».proof.Proof.Gen.GradOutRefIdeal.Read
public import proofs.«01_k».proof.Proof.SumOut
public import proofs.«01_k».proof.Proof.Gen.FfnBwd
public import proofs.«01_k».proof.Proof.Gen.FfnBwd.Skeleton
public import proofs.«01_k».proof.Proof.Gen.FfnBwd.Launch
public import proofs.«01_k».proof.Proof.Gen.FfnBwd.Points
public import proofs.«01_k».proof.Proof.Gen.FfnBwd.Frame
public import proofs.«01_k».proof.Proof.Gen.FfnBwdIdeal
public import proofs.«01_k».proof.Proof.Gen.FfnBwdIdeal.Skeleton
public import proofs.«01_k».proof.Proof.Gen.FfnBwdIdeal.Launch
public import proofs.«01_k».proof.Proof.Gen.FfnBwdIdeal.Points
public import proofs.«01_k».proof.Proof.Gen.FfnBwdIdeal.Frame
public import proofs.«01_k».proof.Proof.Gen.FfnBwdIdeal.Value
public import proofs.«01_k».proof.Proof.Gen.FfnBwdRefIdeal
public import proofs.«01_k».proof.Proof.Gen.FfnBwdRefIdeal.Run
public import proofs.«01_k».proof.Proof.Gen.FfnBwdRefIdeal.Read
public import proofs.«01_k».proof.Proof.Gen.Pre_finite_ffn
public import proofs.«01_k».proof.Proof.FfnBwd
public import proofs.«01_k».proof.Proof.Gen.FfnFwd
public import proofs.«01_k».proof.Proof.Gen.FfnFwd.Skeleton
public import proofs.«01_k».proof.Proof.Gen.FfnFwd.Launch
public import proofs.«01_k».proof.Proof.Gen.FfnFwd.Points
public import proofs.«01_k».proof.Proof.Gen.FfnFwd.Frame
public import proofs.«01_k».proof.Proof.Gen.FfnFwdIdeal
public import proofs.«01_k».proof.Proof.Gen.FfnFwdIdeal.Skeleton
public import proofs.«01_k».proof.Proof.Gen.FfnFwdIdeal.Launch
public import proofs.«01_k».proof.Proof.Gen.FfnFwdIdeal.Points
public import proofs.«01_k».proof.Proof.Gen.FfnFwdIdeal.Frame
public import proofs.«01_k».proof.Proof.Gen.FfnFwdIdeal.Value
public import proofs.«01_k».proof.Proof.Gen.FfnFwdRefIdeal
public import proofs.«01_k».proof.Proof.Gen.FfnFwdRefIdeal.Run
public import proofs.«01_k».proof.Proof.Gen.FfnFwdRefIdeal.Read
public import proofs.«01_k».proof.Proof.FfnFwd
public import proofs.«01_k».proof.Proof.Gen.InBwd
public import proofs.«01_k».proof.Proof.Gen.InBwd.Skeleton
public import proofs.«01_k».proof.Proof.Gen.InBwd.Launch
public import proofs.«01_k».proof.Proof.Gen.InBwd.Points
public import proofs.«01_k».proof.Proof.Gen.InBwd.Frame
public import proofs.«01_k».proof.Proof.Gen.InBwdIdeal
public import proofs.«01_k».proof.Proof.Gen.InBwdIdeal.Skeleton
public import proofs.«01_k».proof.Proof.Gen.InBwdIdeal.Launch
public import proofs.«01_k».proof.Proof.Gen.InBwdIdeal.Points
public import proofs.«01_k».proof.Proof.Gen.InBwdIdeal.Frame
public import proofs.«01_k».proof.Proof.Gen.InBwdIdeal.Value
public import proofs.«01_k».proof.Proof.Gen.InBwdRefIdeal
public import proofs.«01_k».proof.Proof.Gen.InBwdRefIdeal.Run
public import proofs.«01_k».proof.Proof.Gen.InBwdRefIdeal.Read
public import proofs.«01_k».proof.Proof.InBwd
public import Idealize.ShloMosaic.Lib.Claim
public import Idealize.ShloMosaic.Adequacy
public import Idealize.ShloMosaic.Init

@[expose] public section

noncomputable section

namespace Cert.Proof

open Idealize.ShloMosaic Idealize.SL.Sem

theorem frame_kernel : Cert.quiescent_Kernel := fun m ρ _ => Cert.Kernel.Gen.frame m ρ

theorem frame_ideal : Cert.quiescent_KernelIdeal := fun m ρ _ => Cert.KernelIdeal.Gen.frame m ρ

theorem frame_ideal_finite : Cert.quiescent_KernelIdeal_pre_finite := fun m ρ _ => Cert.KernelIdeal.Gen.frame m ρ

theorem frame_reference : Cert.quiescent_ReferenceIdeal := by
  intro m ρ _
  refine (θ_run _ _ _).mono (fun r h => ⟨fun c => (h c).2.2, sem_eq_zero_of_no_sems rfl r.2⟩) (Cert.ReferenceIdeal.Value.run m ρ)

theorem frame_reference_finite : Cert.quiescent_ReferenceIdeal_pre_finite := fun m ρ _ => frame_reference m ρ trivial

theorem values : Cert.algebraic_KernelIdeal_ReferenceIdeal_pre_finite := by
  pair_intro
  · run_from Cert.KernelIdeal.Value.run_blocks m g
  · have H := fun c => Cert.Mirror.args_of_finite (hpre c).1 (hpre c).2.1 (hpre c).2.2.1 (hpre c).2.2.2
    run_from Cert.ReferenceIdeal.Value.run m' g'
    · refine (Cert.ReferenceIdeal.Read.val_main_v158_eq _).trans ?_
      repeat rw [StableHlo.launchContents_devRef]
      rw [(hagree c).1, (hagree c).2.1, (hagree c).2.2.1, (hagree c).2.2.2]
      exact Cert.Mirror.result0 (H c)
    · refine (Cert.ReferenceIdeal.Read.val_main_v162_eq _).trans ?_
      repeat rw [StableHlo.launchContents_devRef]
      rw [(hagree c).1, (hagree c).2.1, (hagree c).2.2.1, (hagree c).2.2.2]
      exact Cert.Mirror.result1 (H c)

theorem frame_gate_up : Cert.quiescent_GradGateUp := fun m ρ _ => Cert.GradGateUp.Gen.frame m ρ

theorem frame_gate_up_ideal : Cert.quiescent_GradGateUpIdeal := fun m ρ _ => Cert.GradGateUpIdeal.Gen.frame m ρ

theorem frame_gate_up_reference : Cert.quiescent_GradGateUpRefIdeal := by
  intro m ρ _
  refine (θ_run _ _ _).mono (fun r h => ⟨fun c => (h c).2, sem_eq_zero_of_no_sems rfl r.2⟩) (Cert.GradGateUpRefIdeal.Value.run m ρ)

theorem values_gate_up : Cert.algebraic_GradGateUpIdeal_GradGateUpRefIdeal := by
  pair_intro
  · run_from Cert.GradGateUpIdeal.Value.run_blocks m g
  · refine (θ_run _ _ _).mono (fun r h c => ⟨(h c).1.trans ?_, (h c).2.1, (h c).2.2⟩) (Cert.GradGateUpRefIdeal.Value.run m' g')
    refine (Cert.GradGateUpRefIdeal.Read.val_main_v7_eq _ _).trans ?_
    rw [(hagree c).1, (hagree c).2]
    refine Eq.trans ?_ (Cert.GradGateUpIdeal.Sums.final m c).symm
    rw [Cert.GradGateUpIdeal.Gen.V_main_arg0, Cert.GradGateUpIdeal.Gen.V_main_arg1]

theorem frame_down : Cert.quiescent_GradDown := fun m ρ _ => Cert.GradDown.Gen.frame m ρ

theorem frame_down_ideal : Cert.quiescent_GradDownIdeal := fun m ρ _ => Cert.GradDownIdeal.Gen.frame m ρ

theorem frame_down_reference : Cert.quiescent_GradDownRefIdeal := by
  intro m ρ _
  refine (θ_run _ _ _).mono (fun r h => ⟨fun c => (h c).2, sem_eq_zero_of_no_sems rfl r.2⟩) (Cert.GradDownRefIdeal.Value.run m ρ)

theorem values_down : Cert.algebraic_GradDownIdeal_GradDownRefIdeal := by
  pair_intro
  · run_from Cert.GradDownIdeal.Value.run_blocks m g
  · refine (θ_run _ _ _).mono (fun r h c => ⟨(h c).1.trans ?_, (h c).2.1, (h c).2.2⟩) (Cert.GradDownRefIdeal.Value.run m' g')
    refine (Cert.GradDownRefIdeal.Read.val_main_v6_eq _ _).trans ?_
    rw [(hagree c).1, (hagree c).2]
    refine Eq.trans ?_ (Cert.GradDownIdeal.Sums.final m c).symm
    rw [Cert.GradDownIdeal.Gen.V_main_arg0, Cert.GradDownIdeal.Gen.V_main_arg1]

theorem frame_in : Cert.quiescent_GradIn := fun m ρ _ => Cert.GradIn.Gen.frame m ρ

theorem frame_in_ideal : Cert.quiescent_GradInIdeal := fun m ρ _ => Cert.GradInIdeal.Gen.frame m ρ

theorem frame_in_reference : Cert.quiescent_GradInRefIdeal := by
  intro m ρ _
  refine (θ_run _ _ _).mono (fun r h => ⟨fun c => (h c).2, sem_eq_zero_of_no_sems rfl r.2⟩) (Cert.GradInRefIdeal.Value.run m ρ)

theorem values_in : Cert.algebraic_GradInIdeal_GradInRefIdeal := by
  pair_intro
  · run_from Cert.GradInIdeal.Value.run_blocks m g
  · refine (θ_run _ _ _).mono (fun r h c => ⟨(h c).1.trans ?_, (h c).2.1, (h c).2.2⟩) (Cert.GradInRefIdeal.Value.run m' g')
    refine (Cert.GradInRefIdeal.Read.val_main_v7_eq _ _).trans ?_
    rw [(hagree c).1, (hagree c).2]
    refine Eq.trans ?_ (Cert.GradInIdeal.Sums.final m c).symm
    rw [Cert.GradInIdeal.Gen.V_main_arg0, Cert.GradInIdeal.Gen.V_main_arg1]

theorem frame_out : Cert.quiescent_GradOut := fun m ρ _ => Cert.GradOut.Gen.frame m ρ

theorem frame_out_ideal : Cert.quiescent_GradOutIdeal := fun m ρ _ => Cert.GradOutIdeal.Gen.frame m ρ

theorem frame_out_reference : Cert.quiescent_GradOutRefIdeal := by
  intro m ρ _
  refine (θ_run _ _ _).mono (fun r h => ⟨fun c => (h c).2, sem_eq_zero_of_no_sems rfl r.2⟩) (Cert.GradOutRefIdeal.Value.run m ρ)

theorem values_out : Cert.algebraic_GradOutIdeal_GradOutRefIdeal := by
  pair_intro
  · run_from Cert.GradOutIdeal.Value.run_blocks m g
  · refine (θ_run _ _ _).mono (fun r h c => ⟨(h c).1.trans ?_, (h c).2.1, (h c).2.2⟩) (Cert.GradOutRefIdeal.Value.run m' g')
    refine (Cert.GradOutRefIdeal.Read.val_main_v6_eq _ _).trans ?_
    rw [(hagree c).1, (hagree c).2]
    refine Eq.trans ?_ (Cert.GradOutIdeal.Sums.final m c).symm
    rw [Cert.GradOutIdeal.Gen.V_main_arg0, Cert.GradOutIdeal.Gen.V_main_arg1]

theorem frame_ffn : Cert.quiescent_FfnBwd := fun m ρ _ => Cert.FfnBwd.Gen.frame m ρ

theorem frame_ffn_ideal : Cert.quiescent_FfnBwdIdeal := fun m ρ _ => Cert.FfnBwdIdeal.Gen.frame m ρ

theorem frame_ffn_ideal_finite : Cert.quiescent_FfnBwdIdeal_pre_finite_ffn := fun m ρ _ => Cert.FfnBwdIdeal.Gen.frame m ρ

theorem frame_ffn_reference : Cert.quiescent_FfnBwdRefIdeal := by
  intro m ρ _
  refine (θ_run _ _ _).mono (fun r h => ⟨fun c => (h c).2.2.2.2.2.2, sem_eq_zero_of_no_sems rfl r.2⟩) (Cert.FfnBwdRefIdeal.Value.run m ρ)

theorem frame_ffn_reference_finite : Cert.quiescent_FfnBwdRefIdeal_pre_finite_ffn := fun m ρ _ => frame_ffn_reference m ρ trivial

set_option maxRecDepth 16384 in
set_option maxHeartbeats 4000000 in
theorem values_ffn : Cert.algebraic_FfnBwdIdeal_FfnBwdRefIdeal_pre_finite_ffn := by
  pair_intro
  · run_from Cert.FfnBwdIdeal.Value.run_blocks m g
  · have H := fun c => Cert.Ffn.args_of_finite (hpre c).1 (hpre c).2.1 (hpre c).2.2.1 (hpre c).2.2.2.1 (hpre c).2.2.2.2.1 (hpre c).2.2.2.2.2.1 (hpre c).2.2.2.2.2.2.1 (hpre c).2.2.2.2.2.2.2
    refine (θ_run _ _ _).mono (fun r h c => ⟨(h c).1.trans ?_, (h c).2.1.trans ?_, (h c).2.2.1.trans ?_, (h c).2.2.2.1.trans ?_, (h c).2.2.2.2.1.trans ?_, (h c).2.2.2.2.2.1.trans ?_, (h c).2.2.2.2.2.2⟩) (Cert.FfnBwdRefIdeal.Value.run m' g')
    · refine (Cert.FfnBwdRefIdeal.Read.val_main_v66_eq _ _).trans ?_
      repeat rw [StableHlo.launchContents_devRef]
      rw [(hagree c).1, (hagree c).2.1, (hagree c).2.2.1, (hagree c).2.2.2.1, (hagree c).2.2.2.2.1, (hagree c).2.2.2.2.2.1, (hagree c).2.2.2.2.2.2.1, (hagree c).2.2.2.2.2.2.2]
      exact Cert.Ffn.result10 (H c)
    · refine (Cert.FfnBwdRefIdeal.Read.val_main_v54_eq _ _).trans ?_
      repeat rw [StableHlo.launchContents_devRef]
      rw [(hagree c).1, (hagree c).2.1, (hagree c).2.2.1, (hagree c).2.2.2.1, (hagree c).2.2.2.2.1, (hagree c).2.2.2.2.2.1, (hagree c).2.2.2.2.2.2.1, (hagree c).2.2.2.2.2.2.2]
      exact Cert.Ffn.result11 (H c)
    · refine (Cert.FfnBwdRefIdeal.Read.val_main_v56_eq _ _).trans ?_
      repeat rw [StableHlo.launchContents_devRef]
      rw [(hagree c).1, (hagree c).2.1, (hagree c).2.2.1, (hagree c).2.2.2.1, (hagree c).2.2.2.2.1, (hagree c).2.2.2.2.2.1, (hagree c).2.2.2.2.2.2.1, (hagree c).2.2.2.2.2.2.2]
      exact Cert.Ffn.result12 (H c)
    · refine (Cert.FfnBwdRefIdeal.Read.val_main_v57_eq _ _).trans ?_
      repeat rw [StableHlo.launchContents_devRef]
      rw [(hagree c).1, (hagree c).2.1, (hagree c).2.2.1, (hagree c).2.2.2.1, (hagree c).2.2.2.2.1, (hagree c).2.2.2.2.2.1, (hagree c).2.2.2.2.2.2.1, (hagree c).2.2.2.2.2.2.2]
      exact Cert.Ffn.result13 (H c)
    · refine (Cert.FfnBwdRefIdeal.Read.val_main_v63_eq _ _).trans ?_
      repeat rw [StableHlo.launchContents_devRef]
      rw [(hagree c).1, (hagree c).2.1, (hagree c).2.2.1, (hagree c).2.2.2.1, (hagree c).2.2.2.2.1, (hagree c).2.2.2.2.2.1, (hagree c).2.2.2.2.2.2.1, (hagree c).2.2.2.2.2.2.2]
      exact Cert.Ffn.result14 (H c)
    · refine (Cert.FfnBwdRefIdeal.Read.val_main_v65_eq _ _).trans ?_
      repeat rw [StableHlo.launchContents_devRef]
      rw [(hagree c).1, (hagree c).2.1, (hagree c).2.2.1, (hagree c).2.2.2.1, (hagree c).2.2.2.2.1, (hagree c).2.2.2.2.2.1, (hagree c).2.2.2.2.2.2.1, (hagree c).2.2.2.2.2.2.2]
      exact Cert.Ffn.result15 (H c)

theorem frame_ffn_fwd : Cert.quiescent_FfnFwd := fun m ρ _ => Cert.FfnFwd.Gen.frame m ρ

theorem frame_ffn_fwd_ideal : Cert.quiescent_FfnFwdIdeal := fun m ρ _ => Cert.FfnFwdIdeal.Gen.frame m ρ

theorem frame_ffn_fwd_reference : Cert.quiescent_FfnFwdRefIdeal := by
  intro m ρ _
  refine (θ_run _ _ _).mono (fun r h => ⟨fun c => (h c).2.2.2.2.2.2.2.2, sem_eq_zero_of_no_sems rfl r.2⟩) (Cert.FfnFwdRefIdeal.Value.run m ρ)

set_option maxRecDepth 16384 in
set_option maxHeartbeats 4000000 in
theorem values_ffn_fwd : Cert.algebraic_FfnFwdIdeal_FfnFwdRefIdeal := by
  pair_intro
  · run_from Cert.FfnFwdIdeal.Value.run_blocks m g
  · refine (θ_run _ _ _).mono (fun r h c => ⟨(h c).1.trans ?_, (h c).2.1.trans ?_, (h c).2.2.1.trans ?_, (h c).2.2.2.1.trans ?_, (h c).2.2.2.2.1.trans ?_, (h c).2.2.2.2.2.1.trans ?_, (h c).2.2.2.2.2.2.1.trans ?_, (h c).2.2.2.2.2.2.2.1.trans ?_, (h c).2.2.2.2.2.2.2.2⟩) (Cert.FfnFwdRefIdeal.Value.run m' g')
    · refine (Cert.FfnFwdRefIdeal.Read.val_main_v93_eq _).trans ?_
      repeat rw [StableHlo.launchContents_devRef]
      rw [(hagree c).1, (hagree c).2.1]
      exact Cert.Fwd.result9 Cert.Fwd.args_eq
    · refine (Cert.FfnFwdRefIdeal.Read.val_main_v2_eq _).trans ?_
      repeat rw [StableHlo.launchContents_devRef]
      rw [(hagree c).1, (hagree c).2.1, (hagree c).2.2.1, (hagree c).2.2.2.1]
      exact Cert.Fwd.result10 Cert.Fwd.args_eq
    · refine (Cert.FfnFwdRefIdeal.Read.val_main_v94_eq _).trans ?_
      repeat rw [StableHlo.launchContents_devRef]
      rw [(hagree c).1, (hagree c).2.1, (hagree c).2.2.1, (hagree c).2.2.2.1, (hagree c).2.2.2.2.1]
      exact Cert.Fwd.result11 Cert.Fwd.args_eq
    · refine (Cert.FfnFwdRefIdeal.Read.val_main_v95_eq _).trans ?_
      repeat rw [StableHlo.launchContents_devRef]
      rw [(hagree c).1, (hagree c).2.1, (hagree c).2.2.1, (hagree c).2.2.2.1, (hagree c).2.2.2.2.1, (hagree c).2.2.2.2.2.1]
      exact Cert.Fwd.result12 Cert.Fwd.args_eq
    · refine (Cert.FfnFwdRefIdeal.Read.val_main_v96_eq _).trans ?_
      repeat rw [StableHlo.launchContents_devRef]
      rw [(hagree c).1, (hagree c).2.1, (hagree c).2.2.1, (hagree c).2.2.2.1, (hagree c).2.2.2.2.1, (hagree c).2.2.2.2.2.1]
      exact Cert.Fwd.result13 Cert.Fwd.args_eq
    · refine (Cert.FfnFwdRefIdeal.Read.val_main_v97_eq _).trans ?_
      repeat rw [StableHlo.launchContents_devRef]
      rw [(hagree c).1, (hagree c).2.1, (hagree c).2.2.1, (hagree c).2.2.2.1, (hagree c).2.2.2.2.1, (hagree c).2.2.2.2.2.1]
      exact Cert.Fwd.result14 Cert.Fwd.args_eq
    · refine (Cert.FfnFwdRefIdeal.Read.val_main_v70_eq _).trans ?_
      repeat rw [StableHlo.launchContents_devRef]
      rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2]
      exact Cert.Fwd.result15 Cert.Fwd.args_eq
    · refine (Cert.FfnFwdRefIdeal.Read.val_main_v92_eq _).trans ?_
      repeat rw [StableHlo.launchContents_devRef]
      rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2]
      exact Cert.Fwd.result16 Cert.Fwd.args_eq

theorem frame_in_bwd : Cert.quiescent_InBwd := fun m ρ _ => Cert.InBwd.Gen.frame m ρ

theorem frame_in_bwd_ideal : Cert.quiescent_InBwdIdeal := fun m ρ _ => Cert.InBwdIdeal.Gen.frame m ρ

theorem frame_in_bwd_reference : Cert.quiescent_InBwdRefIdeal := by
  intro m ρ _
  refine (θ_run _ _ _).mono (fun r h => ⟨fun c => (h c).2.2.2, sem_eq_zero_of_no_sems rfl r.2⟩) (Cert.InBwdRefIdeal.Value.run m ρ)

set_option maxRecDepth 16384 in
set_option maxHeartbeats 4000000 in
theorem values_in_bwd : Cert.algebraic_InBwdIdeal_InBwdRefIdeal := by
  pair_intro
  · run_from Cert.InBwdIdeal.Value.run_blocks m g
  · refine (θ_run _ _ _).mono (fun r h c => ⟨(h c).1.trans ?_, (h c).2.1.trans ?_, (h c).2.2.1.trans ?_, (h c).2.2.2⟩) (Cert.InBwdRefIdeal.Value.run m' g')
    · refine (Cert.InBwdRefIdeal.Read.val_main_v148_eq _ c).trans ?_
      repeat rw [StableHlo.launchContents_devRef]
      rw [(hagree c).1, (hagree c).2.1, (hagree c).2.2.1, (hagree c).2.2.2.1]
      exact Cert.Inb.result10 Cert.Inb.args_eq
    · refine (Cert.InBwdRefIdeal.Read.val_main_v149_eq _ c).trans ?_
      repeat rw [StableHlo.launchContents_devRef]
      rw [(hagree c).1, (hagree c).2.1, (hagree c).2.2.1, (hagree c).2.2.2.1, (hagree c).2.2.2.2.1, (hagree c).2.2.2.2.2.1, (hagree c).2.2.2.2.2.2.1, (hagree c).2.2.2.2.2.2.2]
      exact Cert.Inb.result11 Cert.Inb.args_eq
    · refine (Cert.InBwdRefIdeal.Read.val_main_v147_eq _ c).trans ?_
      repeat rw [StableHlo.launchContents_devRef]
      rw [(hagree c).1, (hagree c).2.1, (hagree c).2.2.1, (hagree c).2.2.2.1, (hagree c).2.2.2.2.1, (hagree c).2.2.2.2.2.1]
      exact Cert.Inb.result12 Cert.Inb.args_eq
theorem claim : Cert.Claim :=
  ⟨inferInstance, inferInstance, inferInstance, inferInstance, inferInstance, inferInstance, inferInstance, inferInstance,
    inferInstance, inferInstance, inferInstance, inferInstance, inferInstance, inferInstance, inferInstance, inferInstance,
    inferInstance, inferInstance, inferInstance, inferInstance, inferInstance, inferInstance, inferInstance, inferInstance,
    inferInstance, inferInstance, frame_kernel, frame_ideal, frame_ideal_finite, frame_reference, frame_reference_finite,
    frame_gate_up, frame_gate_up_ideal, frame_gate_up_reference, frame_down, frame_down_ideal, frame_down_reference, frame_in,
    frame_in_ideal, frame_in_reference, frame_out, frame_out_ideal, frame_out_reference, frame_ffn, frame_ffn_ideal,
    frame_ffn_ideal_finite, frame_ffn_reference, frame_ffn_reference_finite, frame_ffn_fwd, frame_ffn_fwd_ideal,
    frame_ffn_fwd_reference, frame_in_bwd, frame_in_bwd_ideal, frame_in_bwd_reference, trivial, values, trivial, values_gate_up,
    trivial, values_down, trivial, values_in, trivial, values_out, trivial, values_ffn, trivial, values_ffn_fwd, trivial,
    values_in_bwd⟩

end Cert.Proof

end
